-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpReferenceIdeal (m : (ℓ : Loc Cert.DwUpReferenceIdeal.nD Cert.DwUpReferenceIdeal.τ Cert.DwUpReferenceIdeal.sig) → Buf (Elt Ideal) ℓ) : Prop :=
  True

def Pre_DUp (m : (ℓ : Loc Cert.DUp.nD Cert.DUp.τ Cert.DUp.sig) → Buf (Elt Bits) ℓ) : Prop :=
  True

def Pre_DUpIdeal (m : (ℓ : Loc Cert.DUpIdeal.nD Cert.DUpIdeal.τ Cert.DUpIdeal.sig) → Buf (Elt Ideal) ℓ) : Prop :=
  True

def Pre_DUpReferenceIdeal (m : (ℓ : Loc Cert.DUpReferenceIdeal.nD Cert.DUpReferenceIdeal.τ Cert.DUpReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownReferenceIdeal (m : (ℓ : Loc Cert.DwDownReferenceIdeal.nD Cert.DwDownReferenceIdeal.τ Cert.DwDownReferenceIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActReferenceIdeal (m : (ℓ : Loc Cert.DActReferenceIdeal.nD Cert.DActReferenceIdeal.τ Cert.DActReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DwHgIn (m : (ℓ : Loc Cert.DwHgIn.nD Cert.DwHgIn.τ Cert.DwHgIn.sig) → Buf (Elt Bits) ℓ) : Prop :=
  True

def Pre_DwHgInIdeal (m : (ℓ : Loc Cert.DwHgInIdeal.nD Cert.DwHgInIdeal.τ Cert.DwHgInIdeal.sig) → Buf (Elt Ideal) ℓ) : Prop :=
  True

def Pre_DwHgInReferenceIdeal (m : (ℓ : Loc Cert.DwHgInReferenceIdeal.nD Cert.DwHgInReferenceIdeal.τ Cert.DwHgInReferenceIdeal.sig) → Buf (Elt Ideal) ℓ) : Prop :=
  True

def Pre_DHgIn (m : (ℓ : Loc Cert.DHgIn.nD Cert.DHgIn.τ Cert.DHgIn.sig) → Buf (Elt Bits) ℓ) : Prop :=
  True

def Pre_DHgInIdeal (m : (ℓ : Loc Cert.DHgInIdeal.nD Cert.DHgInIdeal.τ Cert.DHgInIdeal.sig) → Buf (Elt Ideal) ℓ) : Prop :=
  True

def Pre_DHgInReferenceIdeal (m : (ℓ : Loc Cert.DHgInReferenceIdeal.nD Cert.DHgInReferenceIdeal.τ Cert.DHgInReferenceIdeal.sig) → Buf (Elt Ideal) ℓ) : Prop :=
  True

def Pre_HgIn (m : (ℓ : Loc Cert.HgIn.nD Cert.HgIn.τ Cert.HgIn.sig) → Buf (Elt Bits) ℓ) : Prop :=
  True

def Pre_HgInIdeal (m : (ℓ : Loc Cert.HgInIdeal.nD Cert.HgInIdeal.τ Cert.HgInIdeal.sig) → Buf (Elt Ideal) ℓ) : Prop :=
  True

def Pre_HgInReferenceIdeal (m : (ℓ : Loc Cert.HgInReferenceIdeal.nD Cert.HgInReferenceIdeal.τ Cert.HgInReferenceIdeal.sig) → Buf (Elt Ideal) ℓ) : Prop :=
  True

def Pre_NbIn (m : (ℓ : Loc Cert.NbIn.nD Cert.NbIn.τ Cert.NbIn.sig) → Buf (Elt Bits) ℓ) : Prop :=
  True

def Pre_NbInIdeal (m : (ℓ : Loc Cert.NbInIdeal.nD Cert.NbInIdeal.τ Cert.NbInIdeal.sig) → Buf (Elt Ideal) ℓ) : Prop :=
  True

def Pre_NbInReferenceIdeal (m : (ℓ : Loc Cert.NbInReferenceIdeal.nD Cert.NbInReferenceIdeal.τ Cert.NbInReferenceIdeal.sig) → Buf (Elt Ideal) ℓ) : Prop :=
  True

def Pre_AdamQkv (m : (ℓ : Loc Cert.AdamQkv.nD Cert.AdamQkv.τ Cert.AdamQkv.sig) → Buf (Elt Bits) ℓ) : Prop :=
  True

def Pre_AdamQkvIdeal (m : (ℓ : Loc Cert.AdamQkvIdeal.nD Cert.AdamQkvIdeal.τ Cert.AdamQkvIdeal.sig) → Buf (Elt Ideal) ℓ) : Prop :=
  True

def Pre_AdamQkvReferenceIdeal (m : (ℓ : Loc Cert.AdamQkvReferenceIdeal.nD Cert.AdamQkvReferenceIdeal.τ Cert.AdamQkvReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_AdamSbOut (m : (ℓ : Loc Cert.AdamSbOut.nD Cert.AdamSbOut.τ Cert.AdamSbOut.sig) → Buf (Elt Bits) ℓ) : Prop :=
  True

def Pre_AdamSbOutIdeal (m : (ℓ : Loc Cert.AdamSbOutIdeal.nD Cert.AdamSbOutIdeal.τ Cert.AdamSbOutIdeal.sig) → Buf (Elt Ideal) ℓ) : Prop :=
  True

def Pre_AdamSbOutReferenceIdeal (m : (ℓ : Loc Cert.AdamSbOutReferenceIdeal.nD Cert.AdamSbOutReferenceIdeal.τ Cert.AdamSbOutReferenceIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolReferenceIdeal (m : (ℓ : Loc Cert.AdamPoolReferenceIdeal.nD Cert.AdamPoolReferenceIdeal.τ Cert.AdamPoolReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_Bounds (m : (ℓ : Loc Cert.Bounds.nD Cert.Bounds.τ Cert.Bounds.sig) → Buf (Elt Bits) ℓ) : Prop :=
  True

def Pre_BoundsIdeal (m : (ℓ : Loc Cert.BoundsIdeal.nD Cert.BoundsIdeal.τ Cert.BoundsIdeal.sig) → Buf (Elt Ideal) ℓ) : Prop :=
  True

def Pre_BoundsIdeal_finite_logits [hPre_finite_logits : Cert.Pre_finite_logits.Facts] (m : (ℓ : Loc Cert.BoundsIdeal.nD Cert.BoundsIdeal.τ Cert.BoundsIdeal.sig) → Buf (Elt Ideal) ℓ) : Prop :=
  ∀ c : Dev Cert.BoundsIdeal.nD,
    (Cert.Pre_finite_logits.fn (F := Ideal) (m ((c.tc : Thread Cert.BoundsIdeal.nD Cert.BoundsIdeal.τ).loc Cert.BoundsIdeal.main_arg0)) (m ((c.tc : Thread Cert.BoundsIdeal.nD Cert.BoundsIdeal.τ).loc Cert.BoundsIdeal.main_arg1))) = (fun _ => 1#1)

def Pre_BoundsReferenceIdeal (m : (ℓ : Loc Cert.BoundsReferenceIdeal.nD Cert.BoundsReferenceIdeal.τ Cert.BoundsReferenceIdeal.sig) → Buf (Elt Ideal) ℓ) : Prop :=
  True

def Pre_BoundsReferenceIdeal_finite_logits [hPre_finite_logits : Cert.Pre_finite_logits.Facts] (m : (ℓ : Loc Cert.BoundsReferenceIdeal.nD Cert.BoundsReferenceIdeal.τ Cert.BoundsReferenceIdeal.sig) → Buf (Elt Ideal) ℓ) : Prop :=
  ∀ c : Dev Cert.BoundsReferenceIdeal.nD,
    (Cert.Pre_finite_logits.fn (F := Ideal) (m ((c.tc : Thread Cert.BoundsReferenceIdeal.nD Cert.BoundsReferenceIdeal.τ).loc Cert.BoundsReferenceIdeal.main_arg0)) (m ((c.tc : Thread Cert.BoundsReferenceIdeal.nD Cert.BoundsReferenceIdeal.τ).loc Cert.BoundsReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpReferenceIdeal [hDwUpReferenceIdeal : Cert.DwUpReferenceIdeal.Facts] : Prop :=
  ∀ (m : (ℓ : Loc Cert.DwUpReferenceIdeal.nD Cert.DwUpReferenceIdeal.τ Cert.DwUpReferenceIdeal.sig) → Buf (Elt Ideal) ℓ) (g : Dev Cert.DwUpReferenceIdeal.nD → PrngReg), Pre_DwUpReferenceIdeal m →
    θ_run (Cert.DwUpReferenceIdeal.defs (F := Ideal)) (onTc (τ := Cert.DwUpReferenceIdeal.τ) (Cert.DwUpReferenceIdeal.main (F := Ideal))) ⟨m, fun _ => 0, g⟩ (fun r => (∀ c : Dev Cert.DwUpReferenceIdeal.nD,
      r.2.mem ((c.tc : Thread Cert.DwUpReferenceIdeal.nD Cert.DwUpReferenceIdeal.τ).loc Cert.DwUpReferenceIdeal.main_arg0) = m ((c.tc : Thread Cert.DwUpReferenceIdeal.nD Cert.DwUpReferenceIdeal.τ).loc Cert.DwUpReferenceIdeal.main_arg0)
      ∧ r.2.mem ((c.tc : Thread Cert.DwUpReferenceIdeal.nD Cert.DwUpReferenceIdeal.τ).loc Cert.DwUpReferenceIdeal.main_arg1) = m ((c.tc : Thread Cert.DwUpReferenceIdeal.nD Cert.DwUpReferenceIdeal.τ).loc Cert.DwUpReferenceIdeal.main_arg1))
      ∧ r.2.sem = fun _ => 0)

def quiescent_DUp [hDUp : Cert.DUp.Facts] : Prop :=
  ∀ (m : (ℓ : Loc Cert.DUp.nD Cert.DUp.τ Cert.DUp.sig) → Buf (Elt Bits) ℓ) (g : Dev Cert.DUp.nD → PrngReg), Pre_DUp m →
    θ_run (Cert.DUp.defs (F := Bits)) (onTc (τ := Cert.DUp.τ) (Cert.DUp.main (F := Bits))) ⟨m, fun _ => 0, g⟩ (fun r => (∀ c : Dev Cert.DUp.nD,
      r.2.mem ((c.tc : Thread Cert.DUp.nD Cert.DUp.τ).loc Cert.DUp.main_arg0) = m ((c.tc : Thread Cert.DUp.nD Cert.DUp.τ).loc Cert.DUp.main_arg0)
      ∧ r.2.mem ((c.tc : Thread Cert.DUp.nD Cert.DUp.τ).loc Cert.DUp.main_arg1) = m ((c.tc : Thread Cert.DUp.nD Cert.DUp.τ).loc Cert.DUp.main_arg1))
      ∧ r.2.sem = fun _ => 0)

def quiescent_DUpIdeal [hDUpIdeal : Cert.DUpIdeal.Facts] : Prop :=
  ∀ (m : (ℓ : Loc Cert.DUpIdeal.nD Cert.DUpIdeal.τ Cert.DUpIdeal.sig) → Buf (Elt Ideal) ℓ) (g : Dev Cert.DUpIdeal.nD → PrngReg), Pre_DUpIdeal m →
    θ_run (Cert.DUpIdeal.defs (F := Ideal)) (onTc (τ := Cert.DUpIdeal.τ) (Cert.DUpIdeal.main (F := Ideal))) ⟨m, fun _ => 0, g⟩ (fun r => (∀ c : Dev Cert.DUpIdeal.nD,
      r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
      ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1))
      ∧ r.2.sem = fun _ => 0)

def quiescent_DUpReferenceIdeal [hDUpReferenceIdeal : Cert.DUpReferenceIdeal.Facts] : Prop :=
  ∀ (m : (ℓ : Loc Cert.DUpReferenceIdeal.nD Cert.DUpReferenceIdeal.τ Cert.DUpReferenceIdeal.sig) → Buf (Elt Ideal) ℓ) (g : Dev Cert.DUpReferenceIdeal.nD → PrngReg), Pre_DUpReferenceIdeal m →
    θ_run (Cert.DUpReferenceIdeal.defs (F := Ideal)) (onTc (τ := Cert.DUpReferenceIdeal.τ) (Cert.DUpReferenceIdeal.main (F := Ideal))) ⟨m, fun _ => 0, g⟩ (fun r => (∀ c : Dev Cert.DUpReferenceIdeal.nD,
      r.2.mem ((c.tc : Thread Cert.DUpReferenceIdeal.nD Cert.DUpReferenceIdeal.τ).loc Cert.DUpReferenceIdeal.main_arg0) = m ((c.tc : Thread Cert.DUpReferenceIdeal.nD Cert.DUpReferenceIdeal.τ).loc Cert.DUpReferenceIdeal.main_arg0)
      ∧ r.2.mem ((c.tc : Thread Cert.DUpReferenceIdeal.nD Cert.DUpReferenceIdeal.τ).loc Cert.DUpReferenceIdeal.main_arg1) = m ((c.tc : Thread Cert.DUpReferenceIdeal.nD Cert.DUpReferenceIdeal.τ).loc Cert.DUpReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActReferenceIdeal [hDActReferenceIdeal : Cert.DActReferenceIdeal.Facts] : Prop :=
  ∀ (m : (ℓ : Loc Cert.DActReferenceIdeal.nD Cert.DActReferenceIdeal.τ Cert.DActReferenceIdeal.sig) → Buf (Elt Ideal) ℓ) (g : Dev Cert.DActReferenceIdeal.nD → PrngReg), Pre_DActReferenceIdeal m →
    θ_run (Cert.DActReferenceIdeal.defs (F := Ideal)) (onTc (τ := Cert.DActReferenceIdeal.τ) (Cert.DActReferenceIdeal.main (F := Ideal))) ⟨m, fun _ => 0, g⟩ (fun r => (∀ c : Dev Cert.DActReferenceIdeal.nD,
      r.2.mem ((c.tc : Thread Cert.DActReferenceIdeal.nD Cert.DActReferenceIdeal.τ).loc Cert.DActReferenceIdeal.main_arg0) = m ((c.tc : Thread Cert.DActReferenceIdeal.nD Cert.DActReferenceIdeal.τ).loc Cert.DActReferenceIdeal.main_arg0)
      ∧ r.2.mem ((c.tc : Thread Cert.DActReferenceIdeal.nD Cert.DActReferenceIdeal.τ).loc Cert.DActReferenceIdeal.main_arg1) = m ((c.tc : Thread Cert.DActReferenceIdeal.nD Cert.DActReferenceIdeal.τ).loc Cert.DActReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_DwHgIn [hDwHgIn : Cert.DwHgIn.Facts] : Prop :=
  ∀ (m : (ℓ : Loc Cert.DwHgIn.nD Cert.DwHgIn.τ Cert.DwHgIn.sig) → Buf (Elt Bits) ℓ) (g : Dev Cert.DwHgIn.nD → PrngReg), Pre_DwHgIn m →
    θ_run (Cert.DwHgIn.defs (F := Bits)) (onTc (τ := Cert.DwHgIn.τ) (Cert.DwHgIn.main (F := Bits))) ⟨m, fun _ => 0, g⟩ (fun r => (∀ c : Dev Cert.DwHgIn.nD,
      r.2.mem ((c.tc : Thread Cert.DwHgIn.nD Cert.DwHgIn.τ).loc Cert.DwHgIn.main_arg0) = m ((c.tc : Thread Cert.DwHgIn.nD Cert.DwHgIn.τ).loc Cert.DwHgIn.main_arg0)
      ∧ r.2.mem ((c.tc : Thread Cert.DwHgIn.nD Cert.DwHgIn.τ).loc Cert.DwHgIn.main_arg1) = m ((c.tc : Thread Cert.DwHgIn.nD Cert.DwHgIn.τ).loc Cert.DwHgIn.main_arg1))
      ∧ r.2.sem = fun _ => 0)

def quiescent_DwHgInIdeal [hDwHgInIdeal : Cert.DwHgInIdeal.Facts] : Prop :=
  ∀ (m : (ℓ : Loc Cert.DwHgInIdeal.nD Cert.DwHgInIdeal.τ Cert.DwHgInIdeal.sig) → Buf (Elt Ideal) ℓ) (g : Dev Cert.DwHgInIdeal.nD → PrngReg), Pre_DwHgInIdeal m →
    θ_run (Cert.DwHgInIdeal.defs (F := Ideal)) (onTc (τ := Cert.DwHgInIdeal.τ) (Cert.DwHgInIdeal.main (F := Ideal))) ⟨m, fun _ => 0, g⟩ (fun r => (∀ c : Dev Cert.DwHgInIdeal.nD,
      r.2.mem ((c.tc : Thread Cert.DwHgInIdeal.nD Cert.DwHgInIdeal.τ).loc Cert.DwHgInIdeal.main_arg0) = m ((c.tc : Thread Cert.DwHgInIdeal.nD Cert.DwHgInIdeal.τ).loc Cert.DwHgInIdeal.main_arg0)
      ∧ r.2.mem ((c.tc : Thread Cert.DwHgInIdeal.nD Cert.DwHgInIdeal.τ).loc Cert.DwHgInIdeal.main_arg1) = m ((c.tc : Thread Cert.DwHgInIdeal.nD Cert.DwHgInIdeal.τ).loc Cert.DwHgInIdeal.main_arg1))
      ∧ r.2.sem = fun _ => 0)

def quiescent_DwHgInReferenceIdeal [hDwHgInReferenceIdeal : Cert.DwHgInReferenceIdeal.Facts] : Prop :=
  ∀ (m : (ℓ : Loc Cert.DwHgInReferenceIdeal.nD Cert.DwHgInReferenceIdeal.τ Cert.DwHgInReferenceIdeal.sig) → Buf (Elt Ideal) ℓ) (g : Dev Cert.DwHgInReferenceIdeal.nD → PrngReg), Pre_DwHgInReferenceIdeal m →
    θ_run (Cert.DwHgInReferenceIdeal.defs (F := Ideal)) (onTc (τ := Cert.DwHgInReferenceIdeal.τ) (Cert.DwHgInReferenceIdeal.main (F := Ideal))) ⟨m, fun _ => 0, g⟩ (fun r => (∀ c : Dev Cert.DwHgInReferenceIdeal.nD,
      r.2.mem ((c.tc : Thread Cert.DwHgInReferenceIdeal.nD Cert.DwHgInReferenceIdeal.τ).loc Cert.DwHgInReferenceIdeal.main_arg0) = m ((c.tc : Thread Cert.DwHgInReferenceIdeal.nD Cert.DwHgInReferenceIdeal.τ).loc Cert.DwHgInReferenceIdeal.main_arg0)
      ∧ r.2.mem ((c.tc : Thread Cert.DwHgInReferenceIdeal.nD Cert.DwHgInReferenceIdeal.τ).loc Cert.DwHgInReferenceIdeal.main_arg1) = m ((c.tc : Thread Cert.DwHgInReferenceIdeal.nD Cert.DwHgInReferenceIdeal.τ).loc Cert.DwHgInReferenceIdeal.main_arg1))
      ∧ r.2.sem = fun _ => 0)

def quiescent_DHgIn [hDHgIn : Cert.DHgIn.Facts] : Prop :=
  ∀ (m : (ℓ : Loc Cert.DHgIn.nD Cert.DHgIn.τ Cert.DHgIn.sig) → Buf (Elt Bits) ℓ) (g : Dev Cert.DHgIn.nD → PrngReg), Pre_DHgIn m →
    θ_run (Cert.DHgIn.defs (F := Bits)) (onTc (τ := Cert.DHgIn.τ) (Cert.DHgIn.main (F := Bits))) ⟨m, fun _ => 0, g⟩ (fun r => (∀ c : Dev Cert.DHgIn.nD,
      r.2.mem ((c.tc : Thread Cert.DHgIn.nD Cert.DHgIn.τ).loc Cert.DHgIn.main_arg0) = m ((c.tc : Thread Cert.DHgIn.nD Cert.DHgIn.τ).loc Cert.DHgIn.main_arg0)
      ∧ r.2.mem ((c.tc : Thread Cert.DHgIn.nD Cert.DHgIn.τ).loc Cert.DHgIn.main_arg1) = m ((c.tc : Thread Cert.DHgIn.nD Cert.DHgIn.τ).loc Cert.DHgIn.main_arg1))
      ∧ r.2.sem = fun _ => 0)

def quiescent_DHgInIdeal [hDHgInIdeal : Cert.DHgInIdeal.Facts] : Prop :=
  ∀ (m : (ℓ : Loc Cert.DHgInIdeal.nD Cert.DHgInIdeal.τ Cert.DHgInIdeal.sig) → Buf (Elt Ideal) ℓ) (g : Dev Cert.DHgInIdeal.nD → PrngReg), Pre_DHgInIdeal m →
    θ_run (Cert.DHgInIdeal.defs (F := Ideal)) (onTc (τ := Cert.DHgInIdeal.τ) (Cert.DHgInIdeal.main (F := Ideal))) ⟨m, fun _ => 0, g⟩ (fun r => (∀ c : Dev Cert.DHgInIdeal.nD,
      r.2.mem ((c.tc : Thread Cert.DHgInIdeal.nD Cert.DHgInIdeal.τ).loc Cert.DHgInIdeal.main_arg0) = m ((c.tc : Thread Cert.DHgInIdeal.nD Cert.DHgInIdeal.τ).loc Cert.DHgInIdeal.main_arg0)
      ∧ r.2.mem ((c.tc : Thread Cert.DHgInIdeal.nD Cert.DHgInIdeal.τ).loc Cert.DHgInIdeal.main_arg1) = m ((c.tc : Thread Cert.DHgInIdeal.nD Cert.DHgInIdeal.τ).loc Cert.DHgInIdeal.main_arg1))
      ∧ r.2.sem = fun _ => 0)

def quiescent_DHgInReferenceIdeal [hDHgInReferenceIdeal : Cert.DHgInReferenceIdeal.Facts] : Prop :=
  ∀ (m : (ℓ : Loc Cert.DHgInReferenceIdeal.nD Cert.DHgInReferenceIdeal.τ Cert.DHgInReferenceIdeal.sig) → Buf (Elt Ideal) ℓ) (g : Dev Cert.DHgInReferenceIdeal.nD → PrngReg), Pre_DHgInReferenceIdeal m →
    θ_run (Cert.DHgInReferenceIdeal.defs (F := Ideal)) (onTc (τ := Cert.DHgInReferenceIdeal.τ) (Cert.DHgInReferenceIdeal.main (F := Ideal))) ⟨m, fun _ => 0, g⟩ (fun r => (∀ c : Dev Cert.DHgInReferenceIdeal.nD,
      r.2.mem ((c.tc : Thread Cert.DHgInReferenceIdeal.nD Cert.DHgInReferenceIdeal.τ).loc Cert.DHgInReferenceIdeal.main_arg0) = m ((c.tc : Thread Cert.DHgInReferenceIdeal.nD Cert.DHgInReferenceIdeal.τ).loc Cert.DHgInReferenceIdeal.main_arg0)
      ∧ r.2.mem ((c.tc : Thread Cert.DHgInReferenceIdeal.nD Cert.DHgInReferenceIdeal.τ).loc Cert.DHgInReferenceIdeal.main_arg1) = m ((c.tc : Thread Cert.DHgInReferenceIdeal.nD Cert.DHgInReferenceIdeal.τ).loc Cert.DHgInReferenceIdeal.main_arg1))
      ∧ r.2.sem = fun _ => 0)

def quiescent_HgIn [hHgIn : Cert.HgIn.Facts] : Prop :=
  ∀ (m : (ℓ : Loc Cert.HgIn.nD Cert.HgIn.τ Cert.HgIn.sig) → Buf (Elt Bits) ℓ) (g : Dev Cert.HgIn.nD → PrngReg), Pre_HgIn m →
    θ_run (Cert.HgIn.defs (F := Bits)) (onTc (τ := Cert.HgIn.τ) (Cert.HgIn.main (F := Bits))) ⟨m, fun _ => 0, g⟩ (fun r => (∀ c : Dev Cert.HgIn.nD,
      r.2.mem ((c.tc : Thread Cert.HgIn.nD Cert.HgIn.τ).loc Cert.HgIn.main_arg0) = m ((c.tc : Thread Cert.HgIn.nD Cert.HgIn.τ).loc Cert.HgIn.main_arg0)
      ∧ r.2.mem ((c.tc : Thread Cert.HgIn.nD Cert.HgIn.τ).loc Cert.HgIn.main_arg1) = m ((c.tc : Thread Cert.HgIn.nD Cert.HgIn.τ).loc Cert.HgIn.main_arg1))
      ∧ r.2.sem = fun _ => 0)

def quiescent_HgInIdeal [hHgInIdeal : Cert.HgInIdeal.Facts] : Prop :=
  ∀ (m : (ℓ : Loc Cert.HgInIdeal.nD Cert.HgInIdeal.τ Cert.HgInIdeal.sig) → Buf (Elt Ideal) ℓ) (g : Dev Cert.HgInIdeal.nD → PrngReg), Pre_HgInIdeal m →
    θ_run (Cert.HgInIdeal.defs (F := Ideal)) (onTc (τ := Cert.HgInIdeal.τ) (Cert.HgInIdeal.main (F := Ideal))) ⟨m, fun _ => 0, g⟩ (fun r => (∀ c : Dev Cert.HgInIdeal.nD,
      r.2.mem ((c.tc : Thread Cert.HgInIdeal.nD Cert.HgInIdeal.τ).loc Cert.HgInIdeal.main_arg0) = m ((c.tc : Thread Cert.HgInIdeal.nD Cert.HgInIdeal.τ).loc Cert.HgInIdeal.main_arg0)
      ∧ r.2.mem ((c.tc : Thread Cert.HgInIdeal.nD Cert.HgInIdeal.τ).loc Cert.HgInIdeal.main_arg1) = m ((c.tc : Thread Cert.HgInIdeal.nD Cert.HgInIdeal.τ).loc Cert.HgInIdeal.main_arg1))
      ∧ r.2.sem = fun _ => 0)

def quiescent_HgInReferenceIdeal [hHgInReferenceIdeal : Cert.HgInReferenceIdeal.Facts] : Prop :=
  ∀ (m : (ℓ : Loc Cert.HgInReferenceIdeal.nD Cert.HgInReferenceIdeal.τ Cert.HgInReferenceIdeal.sig) → Buf (Elt Ideal) ℓ) (g : Dev Cert.HgInReferenceIdeal.nD → PrngReg), Pre_HgInReferenceIdeal m →
    θ_run (Cert.HgInReferenceIdeal.defs (F := Ideal)) (onTc (τ := Cert.HgInReferenceIdeal.τ) (Cert.HgInReferenceIdeal.main (F := Ideal))) ⟨m, fun _ => 0, g⟩ (fun r => (∀ c : Dev Cert.HgInReferenceIdeal.nD,
      r.2.mem ((c.tc : Thread Cert.HgInReferenceIdeal.nD Cert.HgInReferenceIdeal.τ).loc Cert.HgInReferenceIdeal.main_arg0) = m ((c.tc : Thread Cert.HgInReferenceIdeal.nD Cert.HgInReferenceIdeal.τ).loc Cert.HgInReferenceIdeal.main_arg0)
      ∧ r.2.mem ((c.tc : Thread Cert.HgInReferenceIdeal.nD Cert.HgInReferenceIdeal.τ).loc Cert.HgInReferenceIdeal.main_arg1) = m ((c.tc : Thread Cert.HgInReferenceIdeal.nD Cert.HgInReferenceIdeal.τ).loc Cert.HgInReferenceIdeal.main_arg1))
      ∧ r.2.sem = fun _ => 0)

def quiescent_NbIn [hNbIn : Cert.NbIn.Facts] : Prop :=
  ∀ (m : (ℓ : Loc Cert.NbIn.nD Cert.NbIn.τ Cert.NbIn.sig) → Buf (Elt Bits) ℓ) (g : Dev Cert.NbIn.nD → PrngReg), Pre_NbIn m →
    θ_run (Cert.NbIn.defs (F := Bits)) (onTc (τ := Cert.NbIn.τ) (Cert.NbIn.main (F := Bits))) ⟨m, fun _ => 0, g⟩ (fun r => (∀ c : Dev Cert.NbIn.nD,
      r.2.mem ((c.tc : Thread Cert.NbIn.nD Cert.NbIn.τ).loc Cert.NbIn.main_arg0) = m ((c.tc : Thread Cert.NbIn.nD Cert.NbIn.τ).loc Cert.NbIn.main_arg0)
      ∧ r.2.mem ((c.tc : Thread Cert.NbIn.nD Cert.NbIn.τ).loc Cert.NbIn.main_arg1) = m ((c.tc : Thread Cert.NbIn.nD Cert.NbIn.τ).loc Cert.NbIn.main_arg1)
      ∧ r.2.mem ((c.tc : Thread Cert.NbIn.nD Cert.NbIn.τ).loc Cert.NbIn.main_arg2) = m ((c.tc : Thread Cert.NbIn.nD Cert.NbIn.τ).loc Cert.NbIn.main_arg2)
      ∧ r.2.mem ((c.tc : Thread Cert.NbIn.nD Cert.NbIn.τ).loc Cert.NbIn.main_arg3) = m ((c.tc : Thread Cert.NbIn.nD Cert.NbIn.τ).loc Cert.NbIn.main_arg3))
      ∧ r.2.sem = fun _ => 0)

def quiescent_NbInIdeal [hNbInIdeal : Cert.NbInIdeal.Facts] : Prop :=
  ∀ (m : (ℓ : Loc Cert.NbInIdeal.nD Cert.NbInIdeal.τ Cert.NbInIdeal.sig) → Buf (Elt Ideal) ℓ) (g : Dev Cert.NbInIdeal.nD → PrngReg), Pre_NbInIdeal m →
    θ_run (Cert.NbInIdeal.defs (F := Ideal)) (onTc (τ := Cert.NbInIdeal.τ) (Cert.NbInIdeal.main (F := Ideal))) ⟨m, fun _ => 0, g⟩ (fun r => (∀ c : Dev Cert.NbInIdeal.nD,
      r.2.mem ((c.tc : Thread Cert.NbInIdeal.nD Cert.NbInIdeal.τ).loc Cert.NbInIdeal.main_arg0) = m ((c.tc : Thread Cert.NbInIdeal.nD Cert.NbInIdeal.τ).loc Cert.NbInIdeal.main_arg0)
      ∧ r.2.mem ((c.tc : Thread Cert.NbInIdeal.nD Cert.NbInIdeal.τ).loc Cert.NbInIdeal.main_arg1) = m ((c.tc : Thread Cert.NbInIdeal.nD Cert.NbInIdeal.τ).loc Cert.NbInIdeal.main_arg1)
      ∧ r.2.mem ((c.tc : Thread Cert.NbInIdeal.nD Cert.NbInIdeal.τ).loc Cert.NbInIdeal.main_arg2) = m ((c.tc : Thread Cert.NbInIdeal.nD Cert.NbInIdeal.τ).loc Cert.NbInIdeal.main_arg2)
      ∧ r.2.mem ((c.tc : Thread Cert.NbInIdeal.nD Cert.NbInIdeal.τ).loc Cert.NbInIdeal.main_arg3) = m ((c.tc : Thread Cert.NbInIdeal.nD Cert.NbInIdeal.τ).loc Cert.NbInIdeal.main_arg3))
      ∧ r.2.sem = fun _ => 0)

def quiescent_NbInReferenceIdeal [hNbInReferenceIdeal : Cert.NbInReferenceIdeal.Facts] : Prop :=
  ∀ (m : (ℓ : Loc Cert.NbInReferenceIdeal.nD Cert.NbInReferenceIdeal.τ Cert.NbInReferenceIdeal.sig) → Buf (Elt Ideal) ℓ) (g : Dev Cert.NbInReferenceIdeal.nD → PrngReg), Pre_NbInReferenceIdeal m →
    θ_run (Cert.NbInReferenceIdeal.defs (F := Ideal)) (onTc (τ := Cert.NbInReferenceIdeal.τ) (Cert.NbInReferenceIdeal.main (F := Ideal))) ⟨m, fun _ => 0, g⟩ (fun r => (∀ c : Dev Cert.NbInReferenceIdeal.nD,
      r.2.mem ((c.tc : Thread Cert.NbInReferenceIdeal.nD Cert.NbInReferenceIdeal.τ).loc Cert.NbInReferenceIdeal.main_arg0) = m ((c.tc : Thread Cert.NbInReferenceIdeal.nD Cert.NbInReferenceIdeal.τ).loc Cert.NbInReferenceIdeal.main_arg0)
      ∧ r.2.mem ((c.tc : Thread Cert.NbInReferenceIdeal.nD Cert.NbInReferenceIdeal.τ).loc Cert.NbInReferenceIdeal.main_arg1) = m ((c.tc : Thread Cert.NbInReferenceIdeal.nD Cert.NbInReferenceIdeal.τ).loc Cert.NbInReferenceIdeal.main_arg1)
      ∧ r.2.mem ((c.tc : Thread Cert.NbInReferenceIdeal.nD Cert.NbInReferenceIdeal.τ).loc Cert.NbInReferenceIdeal.main_arg2) = m ((c.tc : Thread Cert.NbInReferenceIdeal.nD Cert.NbInReferenceIdeal.τ).loc Cert.NbInReferenceIdeal.main_arg2)
      ∧ r.2.mem ((c.tc : Thread Cert.NbInReferenceIdeal.nD Cert.NbInReferenceIdeal.τ).loc Cert.NbInReferenceIdeal.main_arg3) = m ((c.tc : Thread Cert.NbInReferenceIdeal.nD Cert.NbInReferenceIdeal.τ).loc Cert.NbInReferenceIdeal.main_arg3))
      ∧ r.2.sem = fun _ => 0)

def quiescent_AdamQkv [hAdamQkv : Cert.AdamQkv.Facts] : Prop :=
  ∀ (m : (ℓ : Loc Cert.AdamQkv.nD Cert.AdamQkv.τ Cert.AdamQkv.sig) → Buf (Elt Bits) ℓ) (g : Dev Cert.AdamQkv.nD → PrngReg), Pre_AdamQkv m →
    θ_run (Cert.AdamQkv.defs (F := Bits)) (onTc (τ := Cert.AdamQkv.τ) (Cert.AdamQkv.main (F := Bits))) ⟨m, fun _ => 0, g⟩ (fun r => (∀ c : Dev Cert.AdamQkv.nD,
      r.2.mem ((c.tc : Thread Cert.AdamQkv.nD Cert.AdamQkv.τ).loc Cert.AdamQkv.main_arg0) = m ((c.tc : Thread Cert.AdamQkv.nD Cert.AdamQkv.τ).loc Cert.AdamQkv.main_arg0)
      ∧ r.2.mem ((c.tc : Thread Cert.AdamQkv.nD Cert.AdamQkv.τ).loc Cert.AdamQkv.main_arg1) = m ((c.tc : Thread Cert.AdamQkv.nD Cert.AdamQkv.τ).loc Cert.AdamQkv.main_arg1)
      ∧ r.2.mem ((c.tc : Thread Cert.AdamQkv.nD Cert.AdamQkv.τ).loc Cert.AdamQkv.main_arg2) = m ((c.tc : Thread Cert.AdamQkv.nD Cert.AdamQkv.τ).loc Cert.AdamQkv.main_arg2)
      ∧ r.2.mem ((c.tc : Thread Cert.AdamQkv.nD Cert.AdamQkv.τ).loc Cert.AdamQkv.main_arg3) = m ((c.tc : Thread Cert.AdamQkv.nD Cert.AdamQkv.τ).loc Cert.AdamQkv.main_arg3)
      ∧ r.2.mem ((c.tc : Thread Cert.AdamQkv.nD Cert.AdamQkv.τ).loc Cert.AdamQkv.main_arg4) = m ((c.tc : Thread Cert.AdamQkv.nD Cert.AdamQkv.τ).loc Cert.AdamQkv.main_arg4)
      ∧ r.2.mem ((c.tc : Thread Cert.AdamQkv.nD Cert.AdamQkv.τ).loc Cert.AdamQkv.main_arg5) = m ((c.tc : Thread Cert.AdamQkv.nD Cert.AdamQkv.τ).loc Cert.AdamQkv.main_arg5)
      ∧ r.2.mem ((c.tc : Thread Cert.AdamQkv.nD Cert.AdamQkv.τ).loc Cert.AdamQkv.main_arg6) = m ((c.tc : Thread Cert.AdamQkv.nD Cert.AdamQkv.τ).loc Cert.AdamQkv.main_arg6)
      ∧ r.2.mem ((c.tc : Thread Cert.AdamQkv.nD Cert.AdamQkv.τ).loc Cert.AdamQkv.main_arg7) = m ((c.tc : Thread Cert.AdamQkv.nD Cert.AdamQkv.τ).loc Cert.AdamQkv.main_arg7))
      ∧ r.2.sem = fun _ => 0)

def quiescent_AdamQkvIdeal [hAdamQkvIdeal : Cert.AdamQkvIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg), Pre_AdamQkvIdeal m →
    θ_run (Cert.AdamQkvIdeal.defs (F := Ideal)) (onTc (τ := Cert.AdamQkvIdeal.τ) (Cert.AdamQkvIdeal.main (F := Ideal))) ⟨m, fun _ => 0, g⟩ (fun r => (∀ c : Dev Cert.AdamQkvIdeal.nD,
      r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
      ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
      ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
      ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3)
      ∧ r.2.mem ((c.tc : Thread Cert.AdamQkvIdeal.nD Cert.AdamQkvIdeal.τ).loc Cert.AdamQkvIdeal.main_arg4) = m ((c.tc : Thread Cert.AdamQkvIdeal.nD Cert.AdamQkvIdeal.τ).loc Cert.AdamQkvIdeal.main_arg4)
      ∧ r.2.mem ((c.tc : Thread Cert.AdamQkvIdeal.nD Cert.AdamQkvIdeal.τ).loc Cert.AdamQkvIdeal.main_arg5) = m ((c.tc : Thread Cert.AdamQkvIdeal.nD Cert.AdamQkvIdeal.τ).loc Cert.AdamQkvIdeal.main_arg5)
      ∧ r.2.mem ((c.tc : Thread Cert.AdamQkvIdeal.nD Cert.AdamQkvIdeal.τ).loc Cert.AdamQkvIdeal.main_arg6) = m ((c.tc : Thread Cert.AdamQkvIdeal.nD Cert.AdamQkvIdeal.τ).loc Cert.AdamQkvIdeal.main_arg6)
      ∧ r.2.mem ((c.tc : Thread Cert.AdamQkvIdeal.nD Cert.AdamQkvIdeal.τ).loc Cert.AdamQkvIdeal.main_arg7) = m ((c.tc : Thread Cert.AdamQkvIdeal.nD Cert.AdamQkvIdeal.τ).loc Cert.AdamQkvIdeal.main_arg7))
      ∧ r.2.sem = fun _ => 0)

def quiescent_AdamQkvReferenceIdeal [hAdamQkvReferenceIdeal : Cert.AdamQkvReferenceIdeal.Facts] : Prop :=
  ∀ (m : (ℓ : Loc Cert.AdamQkvReferenceIdeal.nD Cert.AdamQkvReferenceIdeal.τ Cert.AdamQkvReferenceIdeal.sig) → Buf (Elt Ideal) ℓ) (g : Dev Cert.AdamQkvReferenceIdeal.nD → PrngReg), Pre_AdamQkvReferenceIdeal m →
    θ_run (Cert.AdamQkvReferenceIdeal.defs (F := Ideal)) (onTc (τ := Cert.AdamQkvReferenceIdeal.τ) (Cert.AdamQkvReferenceIdeal.main (F := Ideal))) ⟨m, fun _ => 0, g⟩ (fun r => (∀ c : Dev Cert.AdamQkvReferenceIdeal.nD,
      r.2.mem ((c.tc : Thread Cert.AdamQkvReferenceIdeal.nD Cert.AdamQkvReferenceIdeal.τ).loc Cert.AdamQkvReferenceIdeal.main_arg0) = m ((c.tc : Thread Cert.AdamQkvReferenceIdeal.nD Cert.AdamQkvReferenceIdeal.τ).loc Cert.AdamQkvReferenceIdeal.main_arg0)
      ∧ r.2.mem ((c.tc : Thread Cert.AdamQkvReferenceIdeal.nD Cert.AdamQkvReferenceIdeal.τ).loc Cert.AdamQkvReferenceIdeal.main_arg1) = m ((c.tc : Thread Cert.AdamQkvReferenceIdeal.nD Cert.AdamQkvReferenceIdeal.τ).loc Cert.AdamQkvReferenceIdeal.main_arg1)
      ∧ r.2.mem ((c.tc : Thread Cert.AdamQkvReferenceIdeal.nD Cert.AdamQkvReferenceIdeal.τ).loc Cert.AdamQkvReferenceIdeal.main_arg2) = m ((c.tc : Thread Cert.AdamQkvReferenceIdeal.nD Cert.AdamQkvReferenceIdeal.τ).loc Cert.AdamQkvReferenceIdeal.main_arg2)
      ∧ r.2.mem ((c.tc : Thread Cert.AdamQkvReferenceIdeal.nD Cert.AdamQkvReferenceIdeal.τ).loc Cert.AdamQkvReferenceIdeal.main_arg3) = m ((c.tc : Thread Cert.AdamQkvReferenceIdeal.nD Cert.AdamQkvReferenceIdeal.τ).loc Cert.AdamQkvReferenceIdeal.main_arg3)
      ∧ r.2.mem ((c.tc : Thread Cert.AdamQkvReferenceIdeal.nD Cert.AdamQkvReferenceIdeal.τ).loc Cert.AdamQkvReferenceIdeal.main_arg4) = m ((c.tc : Thread Cert.AdamQkvReferenceIdeal.nD Cert.AdamQkvReferenceIdeal.τ).loc Cert.AdamQkvReferenceIdeal.main_arg4)
      ∧ r.2.mem ((c.tc : Thread Cert.AdamQkvReferenceIdeal.nD Cert.AdamQkvReferenceIdeal.τ).loc Cert.AdamQkvReferenceIdeal.main_arg5) = m ((c.tc : Thread Cert.AdamQkvReferenceIdeal.nD Cert.AdamQkvReferenceIdeal.τ).loc Cert.AdamQkvReferenceIdeal.main_arg5)
      ∧ r.2.mem ((c.tc : Thread Cert.AdamQkvReferenceIdeal.nD Cert.AdamQkvReferenceIdeal.τ).loc Cert.AdamQkvReferenceIdeal.main_arg6) = m ((c.tc : Thread Cert.AdamQkvReferenceIdeal.nD Cert.AdamQkvReferenceIdeal.τ).loc Cert.AdamQkvReferenceIdeal.main_arg6)
      ∧ r.2.mem ((c.tc : Thread Cert.AdamQkvReferenceIdeal.nD Cert.AdamQkvReferenceIdeal.τ).loc Cert.AdamQkvReferenceIdeal.main_arg7) = m ((c.tc : Thread Cert.AdamQkvReferenceIdeal.nD Cert.AdamQkvReferenceIdeal.τ).loc Cert.AdamQkvReferenceIdeal.main_arg7))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_AdamSbOut [hAdamSbOut : Cert.AdamSbOut.Facts] : Prop :=
  ∀ (m : (ℓ : Loc Cert.AdamSbOut.nD Cert.AdamSbOut.τ Cert.AdamSbOut.sig) → Buf (Elt Bits) ℓ) (g : Dev Cert.AdamSbOut.nD → PrngReg), Pre_AdamSbOut m →
    θ_run (Cert.AdamSbOut.defs (F := Bits)) (onTc (τ := Cert.AdamSbOut.τ) (Cert.AdamSbOut.main (F := Bits))) ⟨m, fun _ => 0, g⟩ (fun r => (∀ c : Dev Cert.AdamSbOut.nD,
      r.2.mem ((c.tc : Thread Cert.AdamSbOut.nD Cert.AdamSbOut.τ).loc Cert.AdamSbOut.main_arg0) = m ((c.tc : Thread Cert.AdamSbOut.nD Cert.AdamSbOut.τ).loc Cert.AdamSbOut.main_arg0)
      ∧ r.2.mem ((c.tc : Thread Cert.AdamSbOut.nD Cert.AdamSbOut.τ).loc Cert.AdamSbOut.main_arg1) = m ((c.tc : Thread Cert.AdamSbOut.nD Cert.AdamSbOut.τ).loc Cert.AdamSbOut.main_arg1)
      ∧ r.2.mem ((c.tc : Thread Cert.AdamSbOut.nD Cert.AdamSbOut.τ).loc Cert.AdamSbOut.main_arg2) = m ((c.tc : Thread Cert.AdamSbOut.nD Cert.AdamSbOut.τ).loc Cert.AdamSbOut.main_arg2)
      ∧ r.2.mem ((c.tc : Thread Cert.AdamSbOut.nD Cert.AdamSbOut.τ).loc Cert.AdamSbOut.main_arg3) = m ((c.tc : Thread Cert.AdamSbOut.nD Cert.AdamSbOut.τ).loc Cert.AdamSbOut.main_arg3)
      ∧ r.2.mem ((c.tc : Thread Cert.AdamSbOut.nD Cert.AdamSbOut.τ).loc Cert.AdamSbOut.main_arg4) = m ((c.tc : Thread Cert.AdamSbOut.nD Cert.AdamSbOut.τ).loc Cert.AdamSbOut.main_arg4)
      ∧ r.2.mem ((c.tc : Thread Cert.AdamSbOut.nD Cert.AdamSbOut.τ).loc Cert.AdamSbOut.main_arg5) = m ((c.tc : Thread Cert.AdamSbOut.nD Cert.AdamSbOut.τ).loc Cert.AdamSbOut.main_arg5)
      ∧ r.2.mem ((c.tc : Thread Cert.AdamSbOut.nD Cert.AdamSbOut.τ).loc Cert.AdamSbOut.main_arg6) = m ((c.tc : Thread Cert.AdamSbOut.nD Cert.AdamSbOut.τ).loc Cert.AdamSbOut.main_arg6)
      ∧ r.2.mem ((c.tc : Thread Cert.AdamSbOut.nD Cert.AdamSbOut.τ).loc Cert.AdamSbOut.main_arg7) = m ((c.tc : Thread Cert.AdamSbOut.nD Cert.AdamSbOut.τ).loc Cert.AdamSbOut.main_arg7))
      ∧ r.2.sem = fun _ => 0)

def quiescent_AdamSbOutIdeal [hAdamSbOutIdeal : Cert.AdamSbOutIdeal.Facts] : Prop :=
  ∀ (m : (ℓ : Loc Cert.AdamSbOutIdeal.nD Cert.AdamSbOutIdeal.τ Cert.AdamSbOutIdeal.sig) → Buf (Elt Ideal) ℓ) (g : Dev Cert.AdamSbOutIdeal.nD → PrngReg), Pre_AdamSbOutIdeal m →
    θ_run (Cert.AdamSbOutIdeal.defs (F := Ideal)) (onTc (τ := Cert.AdamSbOutIdeal.τ) (Cert.AdamSbOutIdeal.main (F := Ideal))) ⟨m, fun _ => 0, g⟩ (fun r => (∀ c : Dev Cert.AdamSbOutIdeal.nD,
      r.2.mem ((c.tc : Thread Cert.AdamSbOutIdeal.nD Cert.AdamSbOutIdeal.τ).loc Cert.AdamSbOutIdeal.main_arg0) = m ((c.tc : Thread Cert.AdamSbOutIdeal.nD Cert.AdamSbOutIdeal.τ).loc Cert.AdamSbOutIdeal.main_arg0)
      ∧ r.2.mem ((c.tc : Thread Cert.AdamSbOutIdeal.nD Cert.AdamSbOutIdeal.τ).loc Cert.AdamSbOutIdeal.main_arg1) = m ((c.tc : Thread Cert.AdamSbOutIdeal.nD Cert.AdamSbOutIdeal.τ).loc Cert.AdamSbOutIdeal.main_arg1)
      ∧ r.2.mem ((c.tc : Thread Cert.AdamSbOutIdeal.nD Cert.AdamSbOutIdeal.τ).loc Cert.AdamSbOutIdeal.main_arg2) = m ((c.tc : Thread Cert.AdamSbOutIdeal.nD Cert.AdamSbOutIdeal.τ).loc Cert.AdamSbOutIdeal.main_arg2)
      ∧ r.2.mem ((c.tc : Thread Cert.AdamSbOutIdeal.nD Cert.AdamSbOutIdeal.τ).loc Cert.AdamSbOutIdeal.main_arg3) = m ((c.tc : Thread Cert.AdamSbOutIdeal.nD Cert.AdamSbOutIdeal.τ).loc Cert.AdamSbOutIdeal.main_arg3)
      ∧ r.2.mem ((c.tc : Thread Cert.AdamSbOutIdeal.nD Cert.AdamSbOutIdeal.τ).loc Cert.AdamSbOutIdeal.main_arg4) = m ((c.tc : Thread Cert.AdamSbOutIdeal.nD Cert.AdamSbOutIdeal.τ).loc Cert.AdamSbOutIdeal.main_arg4)
      ∧ r.2.mem ((c.tc : Thread Cert.AdamSbOutIdeal.nD Cert.AdamSbOutIdeal.τ).loc Cert.AdamSbOutIdeal.main_arg5) = m ((c.tc : Thread Cert.AdamSbOutIdeal.nD Cert.AdamSbOutIdeal.τ).loc Cert.AdamSbOutIdeal.main_arg5)
      ∧ r.2.mem ((c.tc : Thread Cert.AdamSbOutIdeal.nD Cert.AdamSbOutIdeal.τ).loc Cert.AdamSbOutIdeal.main_arg6) = m ((c.tc : Thread Cert.AdamSbOutIdeal.nD Cert.AdamSbOutIdeal.τ).loc Cert.AdamSbOutIdeal.main_arg6)
      ∧ r.2.mem ((c.tc : Thread Cert.AdamSbOutIdeal.nD Cert.AdamSbOutIdeal.τ).loc Cert.AdamSbOutIdeal.main_arg7) = m ((c.tc : Thread Cert.AdamSbOutIdeal.nD Cert.AdamSbOutIdeal.τ).loc Cert.AdamSbOutIdeal.main_arg7))
      ∧ r.2.sem = fun _ => 0)

def quiescent_AdamSbOutReferenceIdeal [hAdamSbOutReferenceIdeal : Cert.AdamSbOutReferenceIdeal.Facts] : Prop :=
  ∀ (m : (ℓ : Loc Cert.AdamSbOutReferenceIdeal.nD Cert.AdamSbOutReferenceIdeal.τ Cert.AdamSbOutReferenceIdeal.sig) → Buf (Elt Ideal) ℓ) (g : Dev Cert.AdamSbOutReferenceIdeal.nD → PrngReg), Pre_AdamSbOutReferenceIdeal m →
    θ_run (Cert.AdamSbOutReferenceIdeal.defs (F := Ideal)) (onTc (τ := Cert.AdamSbOutReferenceIdeal.τ) (Cert.AdamSbOutReferenceIdeal.main (F := Ideal))) ⟨m, fun _ => 0, g⟩ (fun r => (∀ c : Dev Cert.AdamSbOutReferenceIdeal.nD,
      r.2.mem ((c.tc : Thread Cert.AdamSbOutReferenceIdeal.nD Cert.AdamSbOutReferenceIdeal.τ).loc Cert.AdamSbOutReferenceIdeal.main_arg0) = m ((c.tc : Thread Cert.AdamSbOutReferenceIdeal.nD Cert.AdamSbOutReferenceIdeal.τ).loc Cert.AdamSbOutReferenceIdeal.main_arg0)
      ∧ r.2.mem ((c.tc : Thread Cert.AdamSbOutReferenceIdeal.nD Cert.AdamSbOutReferenceIdeal.τ).loc Cert.AdamSbOutReferenceIdeal.main_arg1) = m ((c.tc : Thread Cert.AdamSbOutReferenceIdeal.nD Cert.AdamSbOutReferenceIdeal.τ).loc Cert.AdamSbOutReferenceIdeal.main_arg1)
      ∧ r.2.mem ((c.tc : Thread Cert.AdamSbOutReferenceIdeal.nD Cert.AdamSbOutReferenceIdeal.τ).loc Cert.AdamSbOutReferenceIdeal.main_arg2) = m ((c.tc : Thread Cert.AdamSbOutReferenceIdeal.nD Cert.AdamSbOutReferenceIdeal.τ).loc Cert.AdamSbOutReferenceIdeal.main_arg2)
      ∧ r.2.mem ((c.tc : Thread Cert.AdamSbOutReferenceIdeal.nD Cert.AdamSbOutReferenceIdeal.τ).loc Cert.AdamSbOutReferenceIdeal.main_arg3) = m ((c.tc : Thread Cert.AdamSbOutReferenceIdeal.nD Cert.AdamSbOutReferenceIdeal.τ).loc Cert.AdamSbOutReferenceIdeal.main_arg3)
      ∧ r.2.mem ((c.tc : Thread Cert.AdamSbOutReferenceIdeal.nD Cert.AdamSbOutReferenceIdeal.τ).loc Cert.AdamSbOutReferenceIdeal.main_arg4) = m ((c.tc : Thread Cert.AdamSbOutReferenceIdeal.nD Cert.AdamSbOutReferenceIdeal.τ).loc Cert.AdamSbOutReferenceIdeal.main_arg4)
      ∧ r.2.mem ((c.tc : Thread Cert.AdamSbOutReferenceIdeal.nD Cert.AdamSbOutReferenceIdeal.τ).loc Cert.AdamSbOutReferenceIdeal.main_arg5) = m ((c.tc : Thread Cert.AdamSbOutReferenceIdeal.nD Cert.AdamSbOutReferenceIdeal.τ).loc Cert.AdamSbOutReferenceIdeal.main_arg5)
      ∧ r.2.mem ((c.tc : Thread Cert.AdamSbOutReferenceIdeal.nD Cert.AdamSbOutReferenceIdeal.τ).loc Cert.AdamSbOutReferenceIdeal.main_arg6) = m ((c.tc : Thread Cert.AdamSbOutReferenceIdeal.nD Cert.AdamSbOutReferenceIdeal.τ).loc Cert.AdamSbOutReferenceIdeal.main_arg6)
      ∧ r.2.mem ((c.tc : Thread Cert.AdamSbOutReferenceIdeal.nD Cert.AdamSbOutReferenceIdeal.τ).loc Cert.AdamSbOutReferenceIdeal.main_arg7) = m ((c.tc : Thread Cert.AdamSbOutReferenceIdeal.nD Cert.AdamSbOutReferenceIdeal.τ).loc Cert.AdamSbOutReferenceIdeal.main_arg7))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3)
      ∧ r.2.mem ((c.tc : Thread Cert.AdamPool.nD Cert.AdamPool.τ).loc Cert.AdamPool.main_arg4) = m ((c.tc : Thread Cert.AdamPool.nD Cert.AdamPool.τ).loc Cert.AdamPool.main_arg4)
      ∧ r.2.mem ((c.tc : Thread Cert.AdamPool.nD Cert.AdamPool.τ).loc Cert.AdamPool.main_arg5) = m ((c.tc : Thread Cert.AdamPool.nD Cert.AdamPool.τ).loc Cert.AdamPool.main_arg5)
      ∧ r.2.mem ((c.tc : Thread Cert.AdamPool.nD Cert.AdamPool.τ).loc Cert.AdamPool.main_arg6) = m ((c.tc : Thread Cert.AdamPool.nD Cert.AdamPool.τ).loc Cert.AdamPool.main_arg6)
      ∧ r.2.mem ((c.tc : Thread Cert.AdamPool.nD Cert.AdamPool.τ).loc Cert.AdamPool.main_arg7) = m ((c.tc : Thread Cert.AdamPool.nD Cert.AdamPool.τ).loc Cert.AdamPool.main_arg7))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
      ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4)
      ∧ r.2.mem ((c.tc : Thread Cert.AdamPoolIdeal.nD Cert.AdamPoolIdeal.τ).loc Cert.AdamPoolIdeal.main_arg5) = m ((c.tc : Thread Cert.AdamPoolIdeal.nD Cert.AdamPoolIdeal.τ).loc Cert.AdamPoolIdeal.main_arg5)
      ∧ r.2.mem ((c.tc : Thread Cert.AdamPoolIdeal.nD Cert.AdamPoolIdeal.τ).loc Cert.AdamPoolIdeal.main_arg6) = m ((c.tc : Thread Cert.AdamPoolIdeal.nD Cert.AdamPoolIdeal.τ).loc Cert.AdamPoolIdeal.main_arg6)
      ∧ r.2.mem ((c.tc : Thread Cert.AdamPoolIdeal.nD Cert.AdamPoolIdeal.τ).loc Cert.AdamPoolIdeal.main_arg7) = m ((c.tc : Thread Cert.AdamPoolIdeal.nD Cert.AdamPoolIdeal.τ).loc Cert.AdamPoolIdeal.main_arg7))
      ∧ r.2.sem = fun _ => 0)

def quiescent_AdamPoolReferenceIdeal [hAdamPoolReferenceIdeal : Cert.AdamPoolReferenceIdeal.Facts] : Prop :=
  ∀ (m : (ℓ : Loc Cert.AdamPoolReferenceIdeal.nD Cert.AdamPoolReferenceIdeal.τ Cert.AdamPoolReferenceIdeal.sig) → Buf (Elt Ideal) ℓ) (g : Dev Cert.AdamPoolReferenceIdeal.nD → PrngReg), Pre_AdamPoolReferenceIdeal m →
    θ_run (Cert.AdamPoolReferenceIdeal.defs (F := Ideal)) (onTc (τ := Cert.AdamPoolReferenceIdeal.τ) (Cert.AdamPoolReferenceIdeal.main (F := Ideal))) ⟨m, fun _ => 0, g⟩ (fun r => (∀ c : Dev Cert.AdamPoolReferenceIdeal.nD,
      r.2.mem ((c.tc : Thread Cert.AdamPoolReferenceIdeal.nD Cert.AdamPoolReferenceIdeal.τ).loc Cert.AdamPoolReferenceIdeal.main_arg0) = m ((c.tc : Thread Cert.AdamPoolReferenceIdeal.nD Cert.AdamPoolReferenceIdeal.τ).loc Cert.AdamPoolReferenceIdeal.main_arg0)
      ∧ r.2.mem ((c.tc : Thread Cert.AdamPoolReferenceIdeal.nD Cert.AdamPoolReferenceIdeal.τ).loc Cert.AdamPoolReferenceIdeal.main_arg1) = m ((c.tc : Thread Cert.AdamPoolReferenceIdeal.nD Cert.AdamPoolReferenceIdeal.τ).loc Cert.AdamPoolReferenceIdeal.main_arg1)
      ∧ r.2.mem ((c.tc : Thread Cert.AdamPoolReferenceIdeal.nD Cert.AdamPoolReferenceIdeal.τ).loc Cert.AdamPoolReferenceIdeal.main_arg2) = m ((c.tc : Thread Cert.AdamPoolReferenceIdeal.nD Cert.AdamPoolReferenceIdeal.τ).loc Cert.AdamPoolReferenceIdeal.main_arg2)
      ∧ r.2.mem ((c.tc : Thread Cert.AdamPoolReferenceIdeal.nD Cert.AdamPoolReferenceIdeal.τ).loc Cert.AdamPoolReferenceIdeal.main_arg3) = m ((c.tc : Thread Cert.AdamPoolReferenceIdeal.nD Cert.AdamPoolReferenceIdeal.τ).loc Cert.AdamPoolReferenceIdeal.main_arg3)
      ∧ r.2.mem ((c.tc : Thread Cert.AdamPoolReferenceIdeal.nD Cert.AdamPoolReferenceIdeal.τ).loc Cert.AdamPoolReferenceIdeal.main_arg4) = m ((c.tc : Thread Cert.AdamPoolReferenceIdeal.nD Cert.AdamPoolReferenceIdeal.τ).loc Cert.AdamPoolReferenceIdeal.main_arg4)
      ∧ r.2.mem ((c.tc : Thread Cert.AdamPoolReferenceIdeal.nD Cert.AdamPoolReferenceIdeal.τ).loc Cert.AdamPoolReferenceIdeal.main_arg5) = m ((c.tc : Thread Cert.AdamPoolReferenceIdeal.nD Cert.AdamPoolReferenceIdeal.τ).loc Cert.AdamPoolReferenceIdeal.main_arg5)
      ∧ r.2.mem ((c.tc : Thread Cert.AdamPoolReferenceIdeal.nD Cert.AdamPoolReferenceIdeal.τ).loc Cert.AdamPoolReferenceIdeal.main_arg6) = m ((c.tc : Thread Cert.AdamPoolReferenceIdeal.nD Cert.AdamPoolReferenceIdeal.τ).loc Cert.AdamPoolReferenceIdeal.main_arg6)
      ∧ r.2.mem ((c.tc : Thread Cert.AdamPoolReferenceIdeal.nD Cert.AdamPoolReferenceIdeal.τ).loc Cert.AdamPoolReferenceIdeal.main_arg7) = m ((c.tc : Thread Cert.AdamPoolReferenceIdeal.nD Cert.AdamPoolReferenceIdeal.τ).loc Cert.AdamPoolReferenceIdeal.main_arg7))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6)
      ∧ r.2.mem ((c.tc : Thread Cert.AdamIn.nD Cert.AdamIn.τ).loc Cert.AdamIn.main_arg7) = m ((c.tc : Thread Cert.AdamIn.nD Cert.AdamIn.τ).loc Cert.AdamIn.main_arg7))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
      ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4)
      ∧ r.2.mem ((c.tc : Thread Cert.AdamInReferenceIdeal.nD Cert.AdamInReferenceIdeal.τ).loc Cert.AdamInReferenceIdeal.main_arg5) = m ((c.tc : Thread Cert.AdamInReferenceIdeal.nD Cert.AdamInReferenceIdeal.τ).loc Cert.AdamInReferenceIdeal.main_arg5)
      ∧ r.2.mem ((c.tc : Thread Cert.AdamInReferenceIdeal.nD Cert.AdamInReferenceIdeal.τ).loc Cert.AdamInReferenceIdeal.main_arg6) = m ((c.tc : Thread Cert.AdamInReferenceIdeal.nD Cert.AdamInReferenceIdeal.τ).loc Cert.AdamInReferenceIdeal.main_arg6)
      ∧ r.2.mem ((c.tc : Thread Cert.AdamInReferenceIdeal.nD Cert.AdamInReferenceIdeal.τ).loc Cert.AdamInReferenceIdeal.main_arg7) = m ((c.tc : Thread Cert.AdamInReferenceIdeal.nD Cert.AdamInReferenceIdeal.τ).loc Cert.AdamInReferenceIdeal.main_arg7))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5)
      ∧ r.2.mem ((c.tc : Thread Cert.AdamOut.nD Cert.AdamOut.τ).loc Cert.AdamOut.main_arg6) = m ((c.tc : Thread Cert.AdamOut.nD Cert.AdamOut.τ).loc Cert.AdamOut.main_arg6)
      ∧ r.2.mem ((c.tc : Thread Cert.AdamOut.nD Cert.AdamOut.τ).loc Cert.AdamOut.main_arg7) = m ((c.tc : Thread Cert.AdamOut.nD Cert.AdamOut.τ).loc Cert.AdamOut.main_arg7))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
      ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6)
      ∧ r.2.mem ((c.tc : Thread Cert.AdamOutIdeal.nD Cert.AdamOutIdeal.τ).loc Cert.AdamOutIdeal.main_arg7) = m ((c.tc : Thread Cert.AdamOutIdeal.nD Cert.AdamOutIdeal.τ).loc Cert.AdamOutIdeal.main_arg7))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4)
      ∧ r.2.mem ((c.tc : Thread Cert.AdamOutReferenceIdeal.nD Cert.AdamOutReferenceIdeal.τ).loc Cert.AdamOutReferenceIdeal.main_arg5) = m ((c.tc : Thread Cert.AdamOutReferenceIdeal.nD Cert.AdamOutReferenceIdeal.τ).loc Cert.AdamOutReferenceIdeal.main_arg5)
      ∧ r.2.mem ((c.tc : Thread Cert.AdamOutReferenceIdeal.nD Cert.AdamOutReferenceIdeal.τ).loc Cert.AdamOutReferenceIdeal.main_arg6) = m ((c.tc : Thread Cert.AdamOutReferenceIdeal.nD Cert.AdamOutReferenceIdeal.τ).loc Cert.AdamOutReferenceIdeal.main_arg6)
      ∧ r.2.mem ((c.tc : Thread Cert.AdamOutReferenceIdeal.nD Cert.AdamOutReferenceIdeal.τ).loc Cert.AdamOutReferenceIdeal.main_arg7) = m ((c.tc : Thread Cert.AdamOutReferenceIdeal.nD Cert.AdamOutReferenceIdeal.τ).loc Cert.AdamOutReferenceIdeal.main_arg7))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5)
      ∧ r.2.mem ((c.tc : Thread Cert.AdamUp.nD Cert.AdamUp.τ).loc Cert.AdamUp.main_arg6) = m ((c.tc : Thread Cert.AdamUp.nD Cert.AdamUp.τ).loc Cert.AdamUp.main_arg6)
      ∧ r.2.mem ((c.tc : Thread Cert.AdamUp.nD Cert.AdamUp.τ).loc Cert.AdamUp.main_arg7) = m ((c.tc : Thread Cert.AdamUp.nD Cert.AdamUp.τ).loc Cert.AdamUp.main_arg7))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
      ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6)
      ∧ r.2.mem ((c.tc : Thread Cert.AdamUpIdeal.nD Cert.AdamUpIdeal.τ).loc Cert.AdamUpIdeal.main_arg7) = m ((c.tc : Thread Cert.AdamUpIdeal.nD Cert.AdamUpIdeal.τ).loc Cert.AdamUpIdeal.main_arg7))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3)
      ∧ r.2.mem ((c.tc : Thread Cert.AdamUpReferenceIdeal.nD Cert.AdamUpReferenceIdeal.τ).loc Cert.AdamUpReferenceIdeal.main_arg4) = m ((c.tc : Thread Cert.AdamUpReferenceIdeal.nD Cert.AdamUpReferenceIdeal.τ).loc Cert.AdamUpReferenceIdeal.main_arg4)
      ∧ r.2.mem ((c.tc : Thread Cert.AdamUpReferenceIdeal.nD Cert.AdamUpReferenceIdeal.τ).loc Cert.AdamUpReferenceIdeal.main_arg5) = m ((c.tc : Thread Cert.AdamUpReferenceIdeal.nD Cert.AdamUpReferenceIdeal.τ).loc Cert.AdamUpReferenceIdeal.main_arg5)
      ∧ r.2.mem ((c.tc : Thread Cert.AdamUpReferenceIdeal.nD Cert.AdamUpReferenceIdeal.τ).loc Cert.AdamUpReferenceIdeal.main_arg6) = m ((c.tc : Thread Cert.AdamUpReferenceIdeal.nD Cert.AdamUpReferenceIdeal.τ).loc Cert.AdamUpReferenceIdeal.main_arg6)
      ∧ r.2.mem ((c.tc : Thread Cert.AdamUpReferenceIdeal.nD Cert.AdamUpReferenceIdeal.τ).loc Cert.AdamUpReferenceIdeal.main_arg7) = m ((c.tc : Thread Cert.AdamUpReferenceIdeal.nD Cert.AdamUpReferenceIdeal.τ).loc Cert.AdamUpReferenceIdeal.main_arg7))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5)
      ∧ r.2.mem ((c.tc : Thread Cert.AdamDown.nD Cert.AdamDown.τ).loc Cert.AdamDown.main_arg6) = m ((c.tc : Thread Cert.AdamDown.nD Cert.AdamDown.τ).loc Cert.AdamDown.main_arg6)
      ∧ r.2.mem ((c.tc : Thread Cert.AdamDown.nD Cert.AdamDown.τ).loc Cert.AdamDown.main_arg7) = m ((c.tc : Thread Cert.AdamDown.nD Cert.AdamDown.τ).loc Cert.AdamDown.main_arg7))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
      ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6)
      ∧ r.2.mem ((c.tc : Thread Cert.AdamDownIdeal.nD Cert.AdamDownIdeal.τ).loc Cert.AdamDownIdeal.main_arg7) = m ((c.tc : Thread Cert.AdamDownIdeal.nD Cert.AdamDownIdeal.τ).loc Cert.AdamDownIdeal.main_arg7))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3)
      ∧ r.2.mem ((c.tc : Thread Cert.AdamDownReferenceIdeal.nD Cert.AdamDownReferenceIdeal.τ).loc Cert.AdamDownReferenceIdeal.main_arg4) = m ((c.tc : Thread Cert.AdamDownReferenceIdeal.nD Cert.AdamDownReferenceIdeal.τ).loc Cert.AdamDownReferenceIdeal.main_arg4)
      ∧ r.2.mem ((c.tc : Thread Cert.AdamDownReferenceIdeal.nD Cert.AdamDownReferenceIdeal.τ).loc Cert.AdamDownReferenceIdeal.main_arg5) = m ((c.tc : Thread Cert.AdamDownReferenceIdeal.nD Cert.AdamDownReferenceIdeal.τ).loc Cert.AdamDownReferenceIdeal.main_arg5)
      ∧ r.2.mem ((c.tc : Thread Cert.AdamDownReferenceIdeal.nD Cert.AdamDownReferenceIdeal.τ).loc Cert.AdamDownReferenceIdeal.main_arg6) = m ((c.tc : Thread Cert.AdamDownReferenceIdeal.nD Cert.AdamDownReferenceIdeal.τ).loc Cert.AdamDownReferenceIdeal.main_arg6)
      ∧ r.2.mem ((c.tc : Thread Cert.AdamDownReferenceIdeal.nD Cert.AdamDownReferenceIdeal.τ).loc Cert.AdamDownReferenceIdeal.main_arg7) = m ((c.tc : Thread Cert.AdamDownReferenceIdeal.nD Cert.AdamDownReferenceIdeal.τ).loc Cert.AdamDownReferenceIdeal.main_arg7))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1))
      ∧ r.2.sem = fun _ => 0)

def quiescent_Bounds [hBounds : Cert.Bounds.Facts] : Prop :=
  ∀ (m : (ℓ : Loc Cert.Bounds.nD Cert.Bounds.τ Cert.Bounds.sig) → Buf (Elt Bits) ℓ) (g : Dev Cert.Bounds.nD → PrngReg), Pre_Bounds m →
    θ_run (Cert.Bounds.defs (F := Bits)) (onTc (τ := Cert.Bounds.τ) (Cert.Bounds.main (F := Bits))) ⟨m, fun _ => 0, g⟩ (fun r => (∀ c : Dev Cert.Bounds.nD,
      r.2.mem ((c.tc : Thread Cert.Bounds.nD Cert.Bounds.τ).loc Cert.Bounds.main_arg0) = m ((c.tc : Thread Cert.Bounds.nD Cert.Bounds.τ).loc Cert.Bounds.main_arg0)
      ∧ r.2.mem ((c.tc : Thread Cert.Bounds.nD Cert.Bounds.τ).loc Cert.Bounds.main_arg1) = m ((c.tc : Thread Cert.Bounds.nD Cert.Bounds.τ).loc Cert.Bounds.main_arg1))
      ∧ r.2.sem = fun _ => 0)

def quiescent_BoundsIdeal [hBoundsIdeal : Cert.BoundsIdeal.Facts] : Prop :=
  ∀ (m : (ℓ : Loc Cert.BoundsIdeal.nD Cert.BoundsIdeal.τ Cert.BoundsIdeal.sig) → Buf (Elt Ideal) ℓ) (g : Dev Cert.BoundsIdeal.nD → PrngReg), Pre_BoundsIdeal m →
    θ_run (Cert.BoundsIdeal.defs (F := Ideal)) (onTc (τ := Cert.BoundsIdeal.τ) (Cert.BoundsIdeal.main (F := Ideal))) ⟨m, fun _ => 0, g⟩ (fun r => (∀ c : Dev Cert.BoundsIdeal.nD,
      r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0)
      ∧ r.2.mem ((c.tc : Thread Cert.BoundsIdeal.nD Cert.BoundsIdeal.τ).loc Cert.BoundsIdeal.main_arg1) = m ((c.tc : Thread Cert.BoundsIdeal.nD Cert.BoundsIdeal.τ).loc Cert.BoundsIdeal.main_arg1))
      ∧ r.2.sem = fun _ => 0)

def quiescent_BoundsIdeal_pre_finite_logits [hBoundsIdeal : Cert.BoundsIdeal.Facts] [hPre_finite_logits : Cert.Pre_finite_logits.Facts] : Prop :=
  ∀ (m : (ℓ : Loc Cert.BoundsIdeal.nD Cert.BoundsIdeal.τ Cert.BoundsIdeal.sig) → Buf (Elt Ideal) ℓ) (g : Dev Cert.BoundsIdeal.nD → PrngReg), Pre_BoundsIdeal_finite_logits m →
    θ_run (Cert.BoundsIdeal.defs (F := Ideal)) (onTc (τ := Cert.BoundsIdeal.τ) (Cert.BoundsIdeal.main (F := Ideal))) ⟨m, fun _ => 0, g⟩ (fun r => (∀ c : Dev Cert.BoundsIdeal.nD,
      r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0)
      ∧ r.2.mem ((c.tc : Thread Cert.BoundsIdeal.nD Cert.BoundsIdeal.τ).loc Cert.BoundsIdeal.main_arg1) = m ((c.tc : Thread Cert.BoundsIdeal.nD Cert.BoundsIdeal.τ).loc Cert.BoundsIdeal.main_arg1))
      ∧ r.2.sem = fun _ => 0)

def quiescent_BoundsReferenceIdeal [hBoundsReferenceIdeal : Cert.BoundsReferenceIdeal.Facts] : Prop :=
  ∀ (m : (ℓ : Loc Cert.BoundsReferenceIdeal.nD Cert.BoundsReferenceIdeal.τ Cert.BoundsReferenceIdeal.sig) → Buf (Elt Ideal) ℓ) (g : Dev Cert.BoundsReferenceIdeal.nD → PrngReg), Pre_BoundsReferenceIdeal m →
    θ_run (Cert.BoundsReferenceIdeal.defs (F := Ideal)) (onTc (τ := Cert.BoundsReferenceIdeal.τ) (Cert.BoundsReferenceIdeal.main (F := Ideal))) ⟨m, fun _ => 0, g⟩ (fun r => (∀ c : Dev Cert.BoundsReferenceIdeal.nD,
      r.2.mem ((c.tc : Thread Cert.BoundsReferenceIdeal.nD Cert.BoundsReferenceIdeal.τ).loc Cert.BoundsReferenceIdeal.main_arg0) = m ((c.tc : Thread Cert.BoundsReferenceIdeal.nD Cert.BoundsReferenceIdeal.τ).loc Cert.BoundsReferenceIdeal.main_arg0)
      ∧ r.2.mem ((c.tc : Thread Cert.BoundsReferenceIdeal.nD Cert.BoundsReferenceIdeal.τ).loc Cert.BoundsReferenceIdeal.main_arg1) = m ((c.tc : Thread Cert.BoundsReferenceIdeal.nD Cert.BoundsReferenceIdeal.τ).loc Cert.BoundsReferenceIdeal.main_arg1))
      ∧ r.2.sem = fun _ => 0)

def quiescent_BoundsReferenceIdeal_pre_finite_logits [hBoundsReferenceIdeal : Cert.BoundsReferenceIdeal.Facts] [hPre_finite_logits : Cert.Pre_finite_logits.Facts] : Prop :=
  ∀ (m : (ℓ : Loc Cert.BoundsReferenceIdeal.nD Cert.BoundsReferenceIdeal.τ Cert.BoundsReferenceIdeal.sig) → Buf (Elt Ideal) ℓ) (g : Dev Cert.BoundsReferenceIdeal.nD → PrngReg), Pre_BoundsReferenceIdeal_finite_logits m →
    θ_run (Cert.BoundsReferenceIdeal.defs (F := Ideal)) (onTc (τ := Cert.BoundsReferenceIdeal.τ) (Cert.BoundsReferenceIdeal.main (F := Ideal))) ⟨m, fun _ => 0, g⟩ (fun r => (∀ c : Dev Cert.BoundsReferenceIdeal.nD,
      r.2.mem ((c.tc : Thread Cert.BoundsReferenceIdeal.nD Cert.BoundsReferenceIdeal.τ).loc Cert.BoundsReferenceIdeal.main_arg0) = m ((c.tc : Thread Cert.BoundsReferenceIdeal.nD Cert.BoundsReferenceIdeal.τ).loc Cert.BoundsReferenceIdeal.main_arg0)
      ∧ r.2.mem ((c.tc : Thread Cert.BoundsReferenceIdeal.nD Cert.BoundsReferenceIdeal.τ).loc Cert.BoundsReferenceIdeal.main_arg1) = m ((c.tc : Thread Cert.BoundsReferenceIdeal.nD Cert.BoundsReferenceIdeal.τ).loc Cert.BoundsReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_DwUp_DwUpIdeal : Prop :=
  True

def algebraic_DwUpIdeal_DwUpReferenceIdeal [hDwUpIdeal : Cert.DwUpIdeal.Facts] [hDwUpReferenceIdeal : Cert.DwUpReferenceIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpReferenceIdeal.nD Cert.DwUpReferenceIdeal.τ Cert.DwUpReferenceIdeal.sig) → Buf (Elt Ideal) ℓ) (g' : Dev Cert.DwUpReferenceIdeal.nD → PrngReg), Pre_DwUpIdeal m →
    (∀ c : Dev Cert.DwUpIdeal.nD,
      m' ((c.tc : Thread Cert.DwUpReferenceIdeal.nD Cert.DwUpReferenceIdeal.τ).loc Cert.DwUpReferenceIdeal.main_arg0) = m ((c.tc : Thread Cert.DwUpIdeal.nD Cert.DwUpIdeal.τ).loc Cert.DwUpIdeal.main_arg0)
      ∧ m' ((c.tc : Thread Cert.DwUpReferenceIdeal.nD Cert.DwUpReferenceIdeal.τ).loc Cert.DwUpReferenceIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpReferenceIdeal.defs (F := Ideal)) (onTc (τ := Cert.DwUpReferenceIdeal.τ) (Cert.DwUpReferenceIdeal.main (F := Ideal))) ⟨m', fun _ => 0, g'⟩ (fun r => ∀ c : Dev Cert.DwUpReferenceIdeal.nD,
          r.2.mem ((c.tc : Thread Cert.DwUpReferenceIdeal.nD Cert.DwUpReferenceIdeal.τ).loc Cert.DwUpReferenceIdeal.main_v9) = v0 c
          ∧ r.2.mem ((c.tc : Thread Cert.DwUpReferenceIdeal.nD Cert.DwUpReferenceIdeal.τ).loc Cert.DwUpReferenceIdeal.main_arg0) = m' ((c.tc : Thread Cert.DwUpReferenceIdeal.nD Cert.DwUpReferenceIdeal.τ).loc Cert.DwUpReferenceIdeal.main_arg0)
          ∧ r.2.mem ((c.tc : Thread Cert.DwUpReferenceIdeal.nD Cert.DwUpReferenceIdeal.τ).loc Cert.DwUpReferenceIdeal.main_arg1) = m' ((c.tc : Thread Cert.DwUpReferenceIdeal.nD Cert.DwUpReferenceIdeal.τ).loc Cert.DwUpReferenceIdeal.main_arg1))

def preserves_DUp_DUpIdeal : Prop :=
  True

def algebraic_DUpIdeal_DUpReferenceIdeal [hDUpIdeal : Cert.DUpIdeal.Facts] [hDUpReferenceIdeal : Cert.DUpReferenceIdeal.Facts] : Prop :=
  ∀ (m : (ℓ : Loc Cert.DUpIdeal.nD Cert.DUpIdeal.τ Cert.DUpIdeal.sig) → Buf (Elt Ideal) ℓ) (g : Dev Cert.DUpIdeal.nD → PrngReg)
    (m' : (ℓ : Loc Cert.DUpReferenceIdeal.nD Cert.DUpReferenceIdeal.τ Cert.DUpReferenceIdeal.sig) → Buf (Elt Ideal) ℓ) (g' : Dev Cert.DUpReferenceIdeal.nD → PrngReg), Pre_DUpIdeal m →
    (∀ c : Dev Cert.DUpIdeal.nD,
      m' ((c.tc : Thread Cert.DUpReferenceIdeal.nD Cert.DUpReferenceIdeal.τ).loc Cert.DUpReferenceIdeal.main_arg0) = m ((c.tc : Thread Cert.DUpIdeal.nD Cert.DUpIdeal.τ).loc Cert.DUpIdeal.main_arg0)
      ∧ m' ((c.tc : Thread Cert.DUpReferenceIdeal.nD Cert.DUpReferenceIdeal.τ).loc Cert.DUpReferenceIdeal.main_arg1) = m ((c.tc : Thread Cert.DUpIdeal.nD Cert.DUpIdeal.τ).loc Cert.DUpIdeal.main_arg1)) →
    ∃ (v0 : (c : Dev Cert.DUpIdeal.nD) → Buf (Elt Ideal) ((c.tc : Thread Cert.DUpIdeal.nD Cert.DUpIdeal.τ).loc Cert.DUpIdeal.main_v0)),
      θ_run (Cert.DUpIdeal.defs (F := Ideal)) (onTc (τ := Cert.DUpIdeal.τ) (Cert.DUpIdeal.main (F := Ideal))) ⟨m, fun _ => 0, g⟩ (fun r => ∀ c : Dev Cert.DUpIdeal.nD,
          r.2.mem ((c.tc : Thread Cert.DUpIdeal.nD Cert.DUpIdeal.τ).loc Cert.DUpIdeal.main_v0) = v0 c
          ∧ r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
          ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1))
      ∧ θ_run (Cert.DUpReferenceIdeal.defs (F := Ideal)) (onTc (τ := Cert.DUpReferenceIdeal.τ) (Cert.DUpReferenceIdeal.main (F := Ideal))) ⟨m', fun _ => 0, g'⟩ (fun r => ∀ c : Dev Cert.DUpReferenceIdeal.nD,
          r.2.mem ((c.tc : Thread Cert.DUpReferenceIdeal.nD Cert.DUpReferenceIdeal.τ).loc Cert.DUpReferenceIdeal.main_v6) = v0 c
          ∧ r.2.mem ((c.tc : Thread Cert.DUpReferenceIdeal.nD Cert.DUpReferenceIdeal.τ).loc Cert.DUpReferenceIdeal.main_arg0) = m' ((c.tc : Thread Cert.DUpReferenceIdeal.nD Cert.DUpReferenceIdeal.τ).loc Cert.DUpReferenceIdeal.main_arg0)
          ∧ r.2.mem ((c.tc : Thread Cert.DUpReferenceIdeal.nD Cert.DUpReferenceIdeal.τ).loc Cert.DUpReferenceIdeal.main_arg1) = m' ((c.tc : Thread Cert.DUpReferenceIdeal.nD Cert.DUpReferenceIdeal.τ).loc Cert.DUpReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v2) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_DwDown_DwDownIdeal : Prop :=
  True

def algebraic_DwDownIdeal_DwDownReferenceIdeal [hDwDownIdeal : Cert.DwDownIdeal.Facts] [hDwDownReferenceIdeal : Cert.DwDownReferenceIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownIdeal m →
    (∀ c : Dev Cert.DwDownIdeal.nD,
      m' ((c.tc : Thread Cert.DwDownReferenceIdeal.nD Cert.DwDownReferenceIdeal.τ).loc Cert.DwDownReferenceIdeal.main_arg0) = m ((c.tc : Thread Cert.DwDownIdeal.nD Cert.DwDownIdeal.τ).loc Cert.DwDownIdeal.main_arg0)
      ∧ m' ((c.tc : Thread Cert.DwDownReferenceIdeal.nD Cert.DwDownReferenceIdeal.τ).loc Cert.DwDownReferenceIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v7) = v0 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1))

def preserves_DAct_DActIdeal : Prop :=
  True

def algebraic_DActIdeal_DActReferenceIdeal [hDActIdeal : Cert.DActIdeal.Facts] [hDActReferenceIdeal : Cert.DActReferenceIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActReferenceIdeal.nD Cert.DActReferenceIdeal.τ Cert.DActReferenceIdeal.sig) → Buf (Elt Ideal) ℓ) (g' : Dev Cert.DActReferenceIdeal.nD → PrngReg), Pre_DActIdeal m →
    (∀ c : Dev Cert.DActIdeal.nD,
      m' ((c.tc : Thread Cert.DActReferenceIdeal.nD Cert.DActReferenceIdeal.τ).loc Cert.DActReferenceIdeal.main_arg0) = m ((c.tc : Thread Cert.DActIdeal.nD Cert.DActIdeal.τ).loc Cert.DActIdeal.main_arg0)
      ∧ m' ((c.tc : Thread Cert.DActReferenceIdeal.nD Cert.DActReferenceIdeal.τ).loc Cert.DActReferenceIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActReferenceIdeal.defs (F := Ideal)) (onTc (τ := Cert.DActReferenceIdeal.τ) (Cert.DActReferenceIdeal.main (F := Ideal))) ⟨m', fun _ => 0, g'⟩ (fun r => ∀ c : Dev Cert.DActReferenceIdeal.nD,
          r.2.mem ((c.tc : Thread Cert.DActReferenceIdeal.nD Cert.DActReferenceIdeal.τ).loc Cert.DActReferenceIdeal.main_v4) = v0 c
          ∧ r.2.mem ((c.tc : Thread Cert.DActReferenceIdeal.nD Cert.DActReferenceIdeal.τ).loc Cert.DActReferenceIdeal.main_arg0) = m' ((c.tc : Thread Cert.DActReferenceIdeal.nD Cert.DActReferenceIdeal.τ).loc Cert.DActReferenceIdeal.main_arg0)
          ∧ r.2.mem ((c.tc : Thread Cert.DActReferenceIdeal.nD Cert.DActReferenceIdeal.τ).loc Cert.DActReferenceIdeal.main_arg1) = m' ((c.tc : Thread Cert.DActReferenceIdeal.nD Cert.DActReferenceIdeal.τ).loc Cert.DActReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_DwHgIn_DwHgInIdeal : Prop :=
  True

def algebraic_DwHgInIdeal_DwHgInReferenceIdeal [hDwHgInIdeal : Cert.DwHgInIdeal.Facts] [hDwHgInReferenceIdeal : Cert.DwHgInReferenceIdeal.Facts] : Prop :=
  ∀ (m : (ℓ : Loc Cert.DwHgInIdeal.nD Cert.DwHgInIdeal.τ Cert.DwHgInIdeal.sig) → Buf (Elt Ideal) ℓ) (g : Dev Cert.DwHgInIdeal.nD → PrngReg)
    (m' : (ℓ : Loc Cert.DwHgInReferenceIdeal.nD Cert.DwHgInReferenceIdeal.τ Cert.DwHgInReferenceIdeal.sig) → Buf (Elt Ideal) ℓ) (g' : Dev Cert.DwHgInReferenceIdeal.nD → PrngReg), Pre_DwHgInIdeal m →
    (∀ c : Dev Cert.DwHgInIdeal.nD,
      m' ((c.tc : Thread Cert.DwHgInReferenceIdeal.nD Cert.DwHgInReferenceIdeal.τ).loc Cert.DwHgInReferenceIdeal.main_arg0) = m ((c.tc : Thread Cert.DwHgInIdeal.nD Cert.DwHgInIdeal.τ).loc Cert.DwHgInIdeal.main_arg0)
      ∧ m' ((c.tc : Thread Cert.DwHgInReferenceIdeal.nD Cert.DwHgInReferenceIdeal.τ).loc Cert.DwHgInReferenceIdeal.main_arg1) = m ((c.tc : Thread Cert.DwHgInIdeal.nD Cert.DwHgInIdeal.τ).loc Cert.DwHgInIdeal.main_arg1)) →
    ∃ (v0 : (c : Dev Cert.DwHgInIdeal.nD) → Buf (Elt Ideal) ((c.tc : Thread Cert.DwHgInIdeal.nD Cert.DwHgInIdeal.τ).loc Cert.DwHgInIdeal.main_v0)),
      θ_run (Cert.DwHgInIdeal.defs (F := Ideal)) (onTc (τ := Cert.DwHgInIdeal.τ) (Cert.DwHgInIdeal.main (F := Ideal))) ⟨m, fun _ => 0, g⟩ (fun r => ∀ c : Dev Cert.DwHgInIdeal.nD,
          r.2.mem ((c.tc : Thread Cert.DwHgInIdeal.nD Cert.DwHgInIdeal.τ).loc Cert.DwHgInIdeal.main_v0) = v0 c
          ∧ r.2.mem ((c.tc : Thread Cert.DwHgInIdeal.nD Cert.DwHgInIdeal.τ).loc Cert.DwHgInIdeal.main_arg0) = m ((c.tc : Thread Cert.DwHgInIdeal.nD Cert.DwHgInIdeal.τ).loc Cert.DwHgInIdeal.main_arg0)
          ∧ r.2.mem ((c.tc : Thread Cert.DwHgInIdeal.nD Cert.DwHgInIdeal.τ).loc Cert.DwHgInIdeal.main_arg1) = m ((c.tc : Thread Cert.DwHgInIdeal.nD Cert.DwHgInIdeal.τ).loc Cert.DwHgInIdeal.main_arg1))
      ∧ θ_run (Cert.DwHgInReferenceIdeal.defs (F := Ideal)) (onTc (τ := Cert.DwHgInReferenceIdeal.τ) (Cert.DwHgInReferenceIdeal.main (F := Ideal))) ⟨m', fun _ => 0, g'⟩ (fun r => ∀ c : Dev Cert.DwHgInReferenceIdeal.nD,
          r.2.mem ((c.tc : Thread Cert.DwHgInReferenceIdeal.nD Cert.DwHgInReferenceIdeal.τ).loc Cert.DwHgInReferenceIdeal.main_v9) = v0 c
          ∧ r.2.mem ((c.tc : Thread Cert.DwHgInReferenceIdeal.nD Cert.DwHgInReferenceIdeal.τ).loc Cert.DwHgInReferenceIdeal.main_arg0) = m' ((c.tc : Thread Cert.DwHgInReferenceIdeal.nD Cert.DwHgInReferenceIdeal.τ).loc Cert.DwHgInReferenceIdeal.main_arg0)
          ∧ r.2.mem ((c.tc : Thread Cert.DwHgInReferenceIdeal.nD Cert.DwHgInReferenceIdeal.τ).loc Cert.DwHgInReferenceIdeal.main_arg1) = m' ((c.tc : Thread Cert.DwHgInReferenceIdeal.nD Cert.DwHgInReferenceIdeal.τ).loc Cert.DwHgInReferenceIdeal.main_arg1))

def preserves_DHgIn_DHgInIdeal : Prop :=
  True

def algebraic_DHgInIdeal_DHgInReferenceIdeal [hDHgInIdeal : Cert.DHgInIdeal.Facts] [hDHgInReferenceIdeal : Cert.DHgInReferenceIdeal.Facts] : Prop :=
  ∀ (m : (ℓ : Loc Cert.DHgInIdeal.nD Cert.DHgInIdeal.τ Cert.DHgInIdeal.sig) → Buf (Elt Ideal) ℓ) (g : Dev Cert.DHgInIdeal.nD → PrngReg)
    (m' : (ℓ : Loc Cert.DHgInReferenceIdeal.nD Cert.DHgInReferenceIdeal.τ Cert.DHgInReferenceIdeal.sig) → Buf (Elt Ideal) ℓ) (g' : Dev Cert.DHgInReferenceIdeal.nD → PrngReg), Pre_DHgInIdeal m →
    (∀ c : Dev Cert.DHgInIdeal.nD,
      m' ((c.tc : Thread Cert.DHgInReferenceIdeal.nD Cert.DHgInReferenceIdeal.τ).loc Cert.DHgInReferenceIdeal.main_arg0) = m ((c.tc : Thread Cert.DHgInIdeal.nD Cert.DHgInIdeal.τ).loc Cert.DHgInIdeal.main_arg0)
      ∧ m' ((c.tc : Thread Cert.DHgInReferenceIdeal.nD Cert.DHgInReferenceIdeal.τ).loc Cert.DHgInReferenceIdeal.main_arg1) = m ((c.tc : Thread Cert.DHgInIdeal.nD Cert.DHgInIdeal.τ).loc Cert.DHgInIdeal.main_arg1)) →
    ∃ (v0 : (c : Dev Cert.DHgInIdeal.nD) → Buf (Elt Ideal) ((c.tc : Thread Cert.DHgInIdeal.nD Cert.DHgInIdeal.τ).loc Cert.DHgInIdeal.main_v0)),
      θ_run (Cert.DHgInIdeal.defs (F := Ideal)) (onTc (τ := Cert.DHgInIdeal.τ) (Cert.DHgInIdeal.main (F := Ideal))) ⟨m, fun _ => 0, g⟩ (fun r => ∀ c : Dev Cert.DHgInIdeal.nD,
          r.2.mem ((c.tc : Thread Cert.DHgInIdeal.nD Cert.DHgInIdeal.τ).loc Cert.DHgInIdeal.main_v0) = v0 c
          ∧ r.2.mem ((c.tc : Thread Cert.DHgInIdeal.nD Cert.DHgInIdeal.τ).loc Cert.DHgInIdeal.main_arg0) = m ((c.tc : Thread Cert.DHgInIdeal.nD Cert.DHgInIdeal.τ).loc Cert.DHgInIdeal.main_arg0)
          ∧ r.2.mem ((c.tc : Thread Cert.DHgInIdeal.nD Cert.DHgInIdeal.τ).loc Cert.DHgInIdeal.main_arg1) = m ((c.tc : Thread Cert.DHgInIdeal.nD Cert.DHgInIdeal.τ).loc Cert.DHgInIdeal.main_arg1))
      ∧ θ_run (Cert.DHgInReferenceIdeal.defs (F := Ideal)) (onTc (τ := Cert.DHgInReferenceIdeal.τ) (Cert.DHgInReferenceIdeal.main (F := Ideal))) ⟨m', fun _ => 0, g'⟩ (fun r => ∀ c : Dev Cert.DHgInReferenceIdeal.nD,
          r.2.mem ((c.tc : Thread Cert.DHgInReferenceIdeal.nD Cert.DHgInReferenceIdeal.τ).loc Cert.DHgInReferenceIdeal.main_v6) = v0 c
          ∧ r.2.mem ((c.tc : Thread Cert.DHgInReferenceIdeal.nD Cert.DHgInReferenceIdeal.τ).loc Cert.DHgInReferenceIdeal.main_arg0) = m' ((c.tc : Thread Cert.DHgInReferenceIdeal.nD Cert.DHgInReferenceIdeal.τ).loc Cert.DHgInReferenceIdeal.main_arg0)
          ∧ r.2.mem ((c.tc : Thread Cert.DHgInReferenceIdeal.nD Cert.DHgInReferenceIdeal.τ).loc Cert.DHgInReferenceIdeal.main_arg1) = m' ((c.tc : Thread Cert.DHgInReferenceIdeal.nD Cert.DHgInReferenceIdeal.τ).loc Cert.DHgInReferenceIdeal.main_arg1))

def preserves_HgIn_HgInIdeal : Prop :=
  True

def algebraic_HgInIdeal_HgInReferenceIdeal [hHgInIdeal : Cert.HgInIdeal.Facts] [hHgInReferenceIdeal : Cert.HgInReferenceIdeal.Facts] : Prop :=
  ∀ (m : (ℓ : Loc Cert.HgInIdeal.nD Cert.HgInIdeal.τ Cert.HgInIdeal.sig) → Buf (Elt Ideal) ℓ) (g : Dev Cert.HgInIdeal.nD → PrngReg)
    (m' : (ℓ : Loc Cert.HgInReferenceIdeal.nD Cert.HgInReferenceIdeal.τ Cert.HgInReferenceIdeal.sig) → Buf (Elt Ideal) ℓ) (g' : Dev Cert.HgInReferenceIdeal.nD → PrngReg), Pre_HgInIdeal m →
    (∀ c : Dev Cert.HgInIdeal.nD,
      m' ((c.tc : Thread Cert.HgInReferenceIdeal.nD Cert.HgInReferenceIdeal.τ).loc Cert.HgInReferenceIdeal.main_arg0) = m ((c.tc : Thread Cert.HgInIdeal.nD Cert.HgInIdeal.τ).loc Cert.HgInIdeal.main_arg0)
      ∧ m' ((c.tc : Thread Cert.HgInReferenceIdeal.nD Cert.HgInReferenceIdeal.τ).loc Cert.HgInReferenceIdeal.main_arg1) = m ((c.tc : Thread Cert.HgInIdeal.nD Cert.HgInIdeal.τ).loc Cert.HgInIdeal.main_arg1)) →
    ∃ (v0 : (c : Dev Cert.HgInIdeal.nD) → Buf (Elt Ideal) ((c.tc : Thread Cert.HgInIdeal.nD Cert.HgInIdeal.τ).loc Cert.HgInIdeal.main_v0)),
      θ_run (Cert.HgInIdeal.defs (F := Ideal)) (onTc (τ := Cert.HgInIdeal.τ) (Cert.HgInIdeal.main (F := Ideal))) ⟨m, fun _ => 0, g⟩ (fun r => ∀ c : Dev Cert.HgInIdeal.nD,
          r.2.mem ((c.tc : Thread Cert.HgInIdeal.nD Cert.HgInIdeal.τ).loc Cert.HgInIdeal.main_v0) = v0 c
          ∧ r.2.mem ((c.tc : Thread Cert.HgInIdeal.nD Cert.HgInIdeal.τ).loc Cert.HgInIdeal.main_arg0) = m ((c.tc : Thread Cert.HgInIdeal.nD Cert.HgInIdeal.τ).loc Cert.HgInIdeal.main_arg0)
          ∧ r.2.mem ((c.tc : Thread Cert.HgInIdeal.nD Cert.HgInIdeal.τ).loc Cert.HgInIdeal.main_arg1) = m ((c.tc : Thread Cert.HgInIdeal.nD Cert.HgInIdeal.τ).loc Cert.HgInIdeal.main_arg1))
      ∧ θ_run (Cert.HgInReferenceIdeal.defs (F := Ideal)) (onTc (τ := Cert.HgInReferenceIdeal.τ) (Cert.HgInReferenceIdeal.main (F := Ideal))) ⟨m', fun _ => 0, g'⟩ (fun r => ∀ c : Dev Cert.HgInReferenceIdeal.nD,
          r.2.mem ((c.tc : Thread Cert.HgInReferenceIdeal.nD Cert.HgInReferenceIdeal.τ).loc Cert.HgInReferenceIdeal.main_v2) = v0 c
          ∧ r.2.mem ((c.tc : Thread Cert.HgInReferenceIdeal.nD Cert.HgInReferenceIdeal.τ).loc Cert.HgInReferenceIdeal.main_arg0) = m' ((c.tc : Thread Cert.HgInReferenceIdeal.nD Cert.HgInReferenceIdeal.τ).loc Cert.HgInReferenceIdeal.main_arg0)
          ∧ r.2.mem ((c.tc : Thread Cert.HgInReferenceIdeal.nD Cert.HgInReferenceIdeal.τ).loc Cert.HgInReferenceIdeal.main_arg1) = m' ((c.tc : Thread Cert.HgInReferenceIdeal.nD Cert.HgInReferenceIdeal.τ).loc Cert.HgInReferenceIdeal.main_arg1))

def preserves_NbIn_NbInIdeal : Prop :=
  True

def algebraic_NbInIdeal_NbInReferenceIdeal [hNbInIdeal : Cert.NbInIdeal.Facts] [hNbInReferenceIdeal : Cert.NbInReferenceIdeal.Facts] : Prop :=
  ∀ (m : (ℓ : Loc Cert.NbInIdeal.nD Cert.NbInIdeal.τ Cert.NbInIdeal.sig) → Buf (Elt Ideal) ℓ) (g : Dev Cert.NbInIdeal.nD → PrngReg)
    (m' : (ℓ : Loc Cert.NbInReferenceIdeal.nD Cert.NbInReferenceIdeal.τ Cert.NbInReferenceIdeal.sig) → Buf (Elt Ideal) ℓ) (g' : Dev Cert.NbInReferenceIdeal.nD → PrngReg), Pre_NbInIdeal m →
    (∀ c : Dev Cert.NbInIdeal.nD,
      m' ((c.tc : Thread Cert.NbInReferenceIdeal.nD Cert.NbInReferenceIdeal.τ).loc Cert.NbInReferenceIdeal.main_arg0) = m ((c.tc : Thread Cert.NbInIdeal.nD Cert.NbInIdeal.τ).loc Cert.NbInIdeal.main_arg0)
      ∧ m' ((c.tc : Thread Cert.NbInReferenceIdeal.nD Cert.NbInReferenceIdeal.τ).loc Cert.NbInReferenceIdeal.main_arg1) = m ((c.tc : Thread Cert.NbInIdeal.nD Cert.NbInIdeal.τ).loc Cert.NbInIdeal.main_arg1)
      ∧ m' ((c.tc : Thread Cert.NbInReferenceIdeal.nD Cert.NbInReferenceIdeal.τ).loc Cert.NbInReferenceIdeal.main_arg2) = m ((c.tc : Thread Cert.NbInIdeal.nD Cert.NbInIdeal.τ).loc Cert.NbInIdeal.main_arg2)
      ∧ m' ((c.tc : Thread Cert.NbInReferenceIdeal.nD Cert.NbInReferenceIdeal.τ).loc Cert.NbInReferenceIdeal.main_arg3) = m ((c.tc : Thread Cert.NbInIdeal.nD Cert.NbInIdeal.τ).loc Cert.NbInIdeal.main_arg3)) →
    ∃ (v0 : (c : Dev Cert.NbInIdeal.nD) → Buf (Elt Ideal) ((c.tc : Thread Cert.NbInIdeal.nD Cert.NbInIdeal.τ).loc Cert.NbInIdeal.main_v0_0)) (v1 : (c : Dev Cert.NbInIdeal.nD) → Buf (Elt Ideal) ((c.tc : Thread Cert.NbInIdeal.nD Cert.NbInIdeal.τ).loc Cert.NbInIdeal.main_v0_1)),
      θ_run (Cert.NbInIdeal.defs (F := Ideal)) (onTc (τ := Cert.NbInIdeal.τ) (Cert.NbInIdeal.main (F := Ideal))) ⟨m, fun _ => 0, g⟩ (fun r => ∀ c : Dev Cert.NbInIdeal.nD,
          r.2.mem ((c.tc : Thread Cert.NbInIdeal.nD Cert.NbInIdeal.τ).loc Cert.NbInIdeal.main_v0_0) = v0 c
          ∧ r.2.mem ((c.tc : Thread Cert.NbInIdeal.nD Cert.NbInIdeal.τ).loc Cert.NbInIdeal.main_v0_1) = v1 c
          ∧ r.2.mem ((c.tc : Thread Cert.NbInIdeal.nD Cert.NbInIdeal.τ).loc Cert.NbInIdeal.main_arg0) = m ((c.tc : Thread Cert.NbInIdeal.nD Cert.NbInIdeal.τ).loc Cert.NbInIdeal.main_arg0)
          ∧ r.2.mem ((c.tc : Thread Cert.NbInIdeal.nD Cert.NbInIdeal.τ).loc Cert.NbInIdeal.main_arg1) = m ((c.tc : Thread Cert.NbInIdeal.nD Cert.NbInIdeal.τ).loc Cert.NbInIdeal.main_arg1)
          ∧ r.2.mem ((c.tc : Thread Cert.NbInIdeal.nD Cert.NbInIdeal.τ).loc Cert.NbInIdeal.main_arg2) = m ((c.tc : Thread Cert.NbInIdeal.nD Cert.NbInIdeal.τ).loc Cert.NbInIdeal.main_arg2)
          ∧ r.2.mem ((c.tc : Thread Cert.NbInIdeal.nD Cert.NbInIdeal.τ).loc Cert.NbInIdeal.main_arg3) = m ((c.tc : Thread Cert.NbInIdeal.nD Cert.NbInIdeal.τ).loc Cert.NbInIdeal.main_arg3))
      ∧ θ_run (Cert.NbInReferenceIdeal.defs (F := Ideal)) (onTc (τ := Cert.NbInReferenceIdeal.τ) (Cert.NbInReferenceIdeal.main (F := Ideal))) ⟨m', fun _ => 0, g'⟩ (fun r => ∀ c : Dev Cert.NbInReferenceIdeal.nD,
          r.2.mem ((c.tc : Thread Cert.NbInReferenceIdeal.nD Cert.NbInReferenceIdeal.τ).loc Cert.NbInReferenceIdeal.main_v34) = v0 c
          ∧ r.2.mem ((c.tc : Thread Cert.NbInReferenceIdeal.nD Cert.NbInReferenceIdeal.τ).loc Cert.NbInReferenceIdeal.main_v17) = v1 c
          ∧ r.2.mem ((c.tc : Thread Cert.NbInReferenceIdeal.nD Cert.NbInReferenceIdeal.τ).loc Cert.NbInReferenceIdeal.main_arg0) = m' ((c.tc : Thread Cert.NbInReferenceIdeal.nD Cert.NbInReferenceIdeal.τ).loc Cert.NbInReferenceIdeal.main_arg0)
          ∧ r.2.mem ((c.tc : Thread Cert.NbInReferenceIdeal.nD Cert.NbInReferenceIdeal.τ).loc Cert.NbInReferenceIdeal.main_arg1) = m' ((c.tc : Thread Cert.NbInReferenceIdeal.nD Cert.NbInReferenceIdeal.τ).loc Cert.NbInReferenceIdeal.main_arg1)
          ∧ r.2.mem ((c.tc : Thread Cert.NbInReferenceIdeal.nD Cert.NbInReferenceIdeal.τ).loc Cert.NbInReferenceIdeal.main_arg2) = m' ((c.tc : Thread Cert.NbInReferenceIdeal.nD Cert.NbInReferenceIdeal.τ).loc Cert.NbInReferenceIdeal.main_arg2)
          ∧ r.2.mem ((c.tc : Thread Cert.NbInReferenceIdeal.nD Cert.NbInReferenceIdeal.τ).loc Cert.NbInReferenceIdeal.main_arg3) = m' ((c.tc : Thread Cert.NbInReferenceIdeal.nD Cert.NbInReferenceIdeal.τ).loc Cert.NbInReferenceIdeal.main_arg3))

def preserves_AdamQkv_AdamQkvIdeal : Prop :=
  True

def algebraic_AdamQkvIdeal_AdamQkvReferenceIdeal [hAdamQkvIdeal : Cert.AdamQkvIdeal.Facts] [hAdamQkvReferenceIdeal : Cert.AdamQkvReferenceIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg)
    (m' : (ℓ : Loc Cert.AdamQkvReferenceIdeal.nD Cert.AdamQkvReferenceIdeal.τ Cert.AdamQkvReferenceIdeal.sig) → Buf (Elt Ideal) ℓ) (g' : Dev Cert.AdamQkvReferenceIdeal.nD → PrngReg), Pre_AdamQkvIdeal m →
    (∀ c : Dev Cert.AdamQkvIdeal.nD,
      m' ((c.tc : Thread Cert.AdamQkvReferenceIdeal.nD Cert.AdamQkvReferenceIdeal.τ).loc Cert.AdamQkvReferenceIdeal.main_arg0) = m ((c.tc : Thread Cert.AdamQkvIdeal.nD Cert.AdamQkvIdeal.τ).loc Cert.AdamQkvIdeal.main_arg0)
      ∧ m' ((c.tc : Thread Cert.AdamQkvReferenceIdeal.nD Cert.AdamQkvReferenceIdeal.τ).loc Cert.AdamQkvReferenceIdeal.main_arg1) = m ((c.tc : Thread Cert.AdamQkvIdeal.nD Cert.AdamQkvIdeal.τ).loc Cert.AdamQkvIdeal.main_arg1)
      ∧ m' ((c.tc : Thread Cert.AdamQkvReferenceIdeal.nD Cert.AdamQkvReferenceIdeal.τ).loc Cert.AdamQkvReferenceIdeal.main_arg2) = m ((c.tc : Thread Cert.AdamQkvIdeal.nD Cert.AdamQkvIdeal.τ).loc Cert.AdamQkvIdeal.main_arg2)
      ∧ m' ((c.tc : Thread Cert.AdamQkvReferenceIdeal.nD Cert.AdamQkvReferenceIdeal.τ).loc Cert.AdamQkvReferenceIdeal.main_arg3) = m ((c.tc : Thread Cert.AdamQkvIdeal.nD Cert.AdamQkvIdeal.τ).loc Cert.AdamQkvIdeal.main_arg3)
      ∧ m' ((c.tc : Thread Cert.AdamQkvReferenceIdeal.nD Cert.AdamQkvReferenceIdeal.τ).loc Cert.AdamQkvReferenceIdeal.main_arg4) = m ((c.tc : Thread Cert.AdamQkvIdeal.nD Cert.AdamQkvIdeal.τ).loc Cert.AdamQkvIdeal.main_arg4)
      ∧ m' ((c.tc : Thread Cert.AdamQkvReferenceIdeal.nD Cert.AdamQkvReferenceIdeal.τ).loc Cert.AdamQkvReferenceIdeal.main_arg5) = m ((c.tc : Thread Cert.AdamQkvIdeal.nD Cert.AdamQkvIdeal.τ).loc Cert.AdamQkvIdeal.main_arg5)
      ∧ m' ((c.tc : Thread Cert.AdamQkvReferenceIdeal.nD Cert.AdamQkvReferenceIdeal.τ).loc Cert.AdamQkvReferenceIdeal.main_arg6) = m ((c.tc : Thread Cert.AdamQkvIdeal.nD Cert.AdamQkvIdeal.τ).loc Cert.AdamQkvIdeal.main_arg6)
      ∧ m' ((c.tc : Thread Cert.AdamQkvReferenceIdeal.nD Cert.AdamQkvReferenceIdeal.τ).loc Cert.AdamQkvReferenceIdeal.main_arg7) = m ((c.tc : Thread Cert.AdamQkvIdeal.nD Cert.AdamQkvIdeal.τ).loc Cert.AdamQkvIdeal.main_arg7)) →
    ∃ (v0 : (c : Dev Cert.AdamQkvIdeal.nD) → Buf (Elt Ideal) ((c.tc : Thread Cert.AdamQkvIdeal.nD Cert.AdamQkvIdeal.τ).loc Cert.AdamQkvIdeal.main_v0_0)) (v1 : (c : Dev Cert.AdamQkvIdeal.nD) → Buf (Elt Ideal) ((c.tc : Thread Cert.AdamQkvIdeal.nD Cert.AdamQkvIdeal.τ).loc Cert.AdamQkvIdeal.main_v0_1)) (v2 : (c : Dev Cert.AdamQkvIdeal.nD) → Buf (Elt Ideal) ((c.tc : Thread Cert.AdamQkvIdeal.nD Cert.AdamQkvIdeal.τ).loc Cert.AdamQkvIdeal.main_v0_2)) (v3 : (c : Dev Cert.AdamQkvIdeal.nD) → Buf (Elt Ideal) ((c.tc : Thread Cert.AdamQkvIdeal.nD Cert.AdamQkvIdeal.τ).loc Cert.AdamQkvIdeal.main_v0_3)),
      θ_run (Cert.AdamQkvIdeal.defs (F := Ideal)) (onTc (τ := Cert.AdamQkvIdeal.τ) (Cert.AdamQkvIdeal.main (F := Ideal))) ⟨m, fun _ => 0, g⟩ (fun r => ∀ c : Dev Cert.AdamQkvIdeal.nD,
          r.2.mem ((c.tc : Thread Cert.AdamQkvIdeal.nD Cert.AdamQkvIdeal.τ).loc Cert.AdamQkvIdeal.main_v0_0) = v0 c
          ∧ r.2.mem ((c.tc : Thread Cert.AdamQkvIdeal.nD Cert.AdamQkvIdeal.τ).loc Cert.AdamQkvIdeal.main_v0_1) = v1 c
          ∧ r.2.mem ((c.tc : Thread Cert.AdamQkvIdeal.nD Cert.AdamQkvIdeal.τ).loc Cert.AdamQkvIdeal.main_v0_2) = v2 c
          ∧ r.2.mem ((c.tc : Thread Cert.AdamQkvIdeal.nD Cert.AdamQkvIdeal.τ).loc Cert.AdamQkvIdeal.main_v0_3) = v3 c
          ∧ r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
          ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
          ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
          ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3)
          ∧ r.2.mem ((c.tc : Thread Cert.AdamQkvIdeal.nD Cert.AdamQkvIdeal.τ).loc Cert.AdamQkvIdeal.main_arg4) = m ((c.tc : Thread Cert.AdamQkvIdeal.nD Cert.AdamQkvIdeal.τ).loc Cert.AdamQkvIdeal.main_arg4)
          ∧ r.2.mem ((c.tc : Thread Cert.AdamQkvIdeal.nD Cert.AdamQkvIdeal.τ).loc Cert.AdamQkvIdeal.main_arg5) = m ((c.tc : Thread Cert.AdamQkvIdeal.nD Cert.AdamQkvIdeal.τ).loc Cert.AdamQkvIdeal.main_arg5)
          ∧ r.2.mem ((c.tc : Thread Cert.AdamQkvIdeal.nD Cert.AdamQkvIdeal.τ).loc Cert.AdamQkvIdeal.main_arg6) = m ((c.tc : Thread Cert.AdamQkvIdeal.nD Cert.AdamQkvIdeal.τ).loc Cert.AdamQkvIdeal.main_arg6)
          ∧ r.2.mem ((c.tc : Thread Cert.AdamQkvIdeal.nD Cert.AdamQkvIdeal.τ).loc Cert.AdamQkvIdeal.main_arg7) = m ((c.tc : Thread Cert.AdamQkvIdeal.nD Cert.AdamQkvIdeal.τ).loc Cert.AdamQkvIdeal.main_arg7))
      ∧ θ_run (Cert.AdamQkvReferenceIdeal.defs (F := Ideal)) (onTc (τ := Cert.AdamQkvReferenceIdeal.τ) (Cert.AdamQkvReferenceIdeal.main (F := Ideal))) ⟨m', fun _ => 0, g'⟩ (fun r => ∀ c : Dev Cert.AdamQkvReferenceIdeal.nD,
          r.2.mem ((c.tc : Thread Cert.AdamQkvReferenceIdeal.nD Cert.AdamQkvReferenceIdeal.τ).loc Cert.AdamQkvReferenceIdeal.main_v1) = v0 c
          ∧ r.2.mem ((c.tc : Thread Cert.AdamQkvReferenceIdeal.nD Cert.AdamQkvReferenceIdeal.τ).loc Cert.AdamQkvReferenceIdeal.main_v25) = v1 c
          ∧ r.2.mem ((c.tc : Thread Cert.AdamQkvReferenceIdeal.nD Cert.AdamQkvReferenceIdeal.τ).loc Cert.AdamQkvReferenceIdeal.main_v6) = v2 c
          ∧ r.2.mem ((c.tc : Thread Cert.AdamQkvReferenceIdeal.nD Cert.AdamQkvReferenceIdeal.τ).loc Cert.AdamQkvReferenceIdeal.main_v12) = v3 c
          ∧ r.2.mem ((c.tc : Thread Cert.AdamQkvReferenceIdeal.nD Cert.AdamQkvReferenceIdeal.τ).loc Cert.AdamQkvReferenceIdeal.main_arg0) = m' ((c.tc : Thread Cert.AdamQkvReferenceIdeal.nD Cert.AdamQkvReferenceIdeal.τ).loc Cert.AdamQkvReferenceIdeal.main_arg0)
          ∧ r.2.mem ((c.tc : Thread Cert.AdamQkvReferenceIdeal.nD Cert.AdamQkvReferenceIdeal.τ).loc Cert.AdamQkvReferenceIdeal.main_arg1) = m' ((c.tc : Thread Cert.AdamQkvReferenceIdeal.nD Cert.AdamQkvReferenceIdeal.τ).loc Cert.AdamQkvReferenceIdeal.main_arg1)
          ∧ r.2.mem ((c.tc : Thread Cert.AdamQkvReferenceIdeal.nD Cert.AdamQkvReferenceIdeal.τ).loc Cert.AdamQkvReferenceIdeal.main_arg2) = m' ((c.tc : Thread Cert.AdamQkvReferenceIdeal.nD Cert.AdamQkvReferenceIdeal.τ).loc Cert.AdamQkvReferenceIdeal.main_arg2)
          ∧ r.2.mem ((c.tc : Thread Cert.AdamQkvReferenceIdeal.nD Cert.AdamQkvReferenceIdeal.τ).loc Cert.AdamQkvReferenceIdeal.main_arg3) = m' ((c.tc : Thread Cert.AdamQkvReferenceIdeal.nD Cert.AdamQkvReferenceIdeal.τ).loc Cert.AdamQkvReferenceIdeal.main_arg3)
          ∧ r.2.mem ((c.tc : Thread Cert.AdamQkvReferenceIdeal.nD Cert.AdamQkvReferenceIdeal.τ).loc Cert.AdamQkvReferenceIdeal.main_arg4) = m' ((c.tc : Thread Cert.AdamQkvReferenceIdeal.nD Cert.AdamQkvReferenceIdeal.τ).loc Cert.AdamQkvReferenceIdeal.main_arg4)
          ∧ r.2.mem ((c.tc : Thread Cert.AdamQkvReferenceIdeal.nD Cert.AdamQkvReferenceIdeal.τ).loc Cert.AdamQkvReferenceIdeal.main_arg5) = m' ((c.tc : Thread Cert.AdamQkvReferenceIdeal.nD Cert.AdamQkvReferenceIdeal.τ).loc Cert.AdamQkvReferenceIdeal.main_arg5)
          ∧ r.2.mem ((c.tc : Thread Cert.AdamQkvReferenceIdeal.nD Cert.AdamQkvReferenceIdeal.τ).loc Cert.AdamQkvReferenceIdeal.main_arg6) = m' ((c.tc : Thread Cert.AdamQkvReferenceIdeal.nD Cert.AdamQkvReferenceIdeal.τ).loc Cert.AdamQkvReferenceIdeal.main_arg6)
          ∧ r.2.mem ((c.tc : Thread Cert.AdamQkvReferenceIdeal.nD Cert.AdamQkvReferenceIdeal.τ).loc Cert.AdamQkvReferenceIdeal.main_arg7) = m' ((c.tc : Thread Cert.AdamQkvReferenceIdeal.nD Cert.AdamQkvReferenceIdeal.τ).loc Cert.AdamQkvReferenceIdeal.main_arg7))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v4) = v1 c
          ∧ r.2.mem ((c.tc : Thread Cert.AdamSmallReferenceIdeal.nD Cert.AdamSmallReferenceIdeal.τ).loc Cert.AdamSmallReferenceIdeal.main_v10) = v2 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_AdamSbOut_AdamSbOutIdeal : Prop :=
  True

def algebraic_AdamSbOutIdeal_AdamSbOutReferenceIdeal [hAdamSbOutIdeal : Cert.AdamSbOutIdeal.Facts] [hAdamSbOutReferenceIdeal : Cert.AdamSbOutReferenceIdeal.Facts] : Prop :=
  ∀ (m : (ℓ : Loc Cert.AdamSbOutIdeal.nD Cert.AdamSbOutIdeal.τ Cert.AdamSbOutIdeal.sig) → Buf (Elt Ideal) ℓ) (g : Dev Cert.AdamSbOutIdeal.nD → PrngReg)
    (m' : (ℓ : Loc Cert.AdamSbOutReferenceIdeal.nD Cert.AdamSbOutReferenceIdeal.τ Cert.AdamSbOutReferenceIdeal.sig) → Buf (Elt Ideal) ℓ) (g' : Dev Cert.AdamSbOutReferenceIdeal.nD → PrngReg), Pre_AdamSbOutIdeal m →
    (∀ c : Dev Cert.AdamSbOutIdeal.nD,
      m' ((c.tc : Thread Cert.AdamSbOutReferenceIdeal.nD Cert.AdamSbOutReferenceIdeal.τ).loc Cert.AdamSbOutReferenceIdeal.main_arg0) = m ((c.tc : Thread Cert.AdamSbOutIdeal.nD Cert.AdamSbOutIdeal.τ).loc Cert.AdamSbOutIdeal.main_arg0)
      ∧ m' ((c.tc : Thread Cert.AdamSbOutReferenceIdeal.nD Cert.AdamSbOutReferenceIdeal.τ).loc Cert.AdamSbOutReferenceIdeal.main_arg1) = m ((c.tc : Thread Cert.AdamSbOutIdeal.nD Cert.AdamSbOutIdeal.τ).loc Cert.AdamSbOutIdeal.main_arg1)
      ∧ m' ((c.tc : Thread Cert.AdamSbOutReferenceIdeal.nD Cert.AdamSbOutReferenceIdeal.τ).loc Cert.AdamSbOutReferenceIdeal.main_arg2) = m ((c.tc : Thread Cert.AdamSbOutIdeal.nD Cert.AdamSbOutIdeal.τ).loc Cert.AdamSbOutIdeal.main_arg2)
      ∧ m' ((c.tc : Thread Cert.AdamSbOutReferenceIdeal.nD Cert.AdamSbOutReferenceIdeal.τ).loc Cert.AdamSbOutReferenceIdeal.main_arg3) = m ((c.tc : Thread Cert.AdamSbOutIdeal.nD Cert.AdamSbOutIdeal.τ).loc Cert.AdamSbOutIdeal.main_arg3)
      ∧ m' ((c.tc : Thread Cert.AdamSbOutReferenceIdeal.nD Cert.AdamSbOutReferenceIdeal.τ).loc Cert.AdamSbOutReferenceIdeal.main_arg4) = m ((c.tc : Thread Cert.AdamSbOutIdeal.nD Cert.AdamSbOutIdeal.τ).loc Cert.AdamSbOutIdeal.main_arg4)
      ∧ m' ((c.tc : Thread Cert.AdamSbOutReferenceIdeal.nD Cert.AdamSbOutReferenceIdeal.τ).loc Cert.AdamSbOutReferenceIdeal.main_arg5) = m ((c.tc : Thread Cert.AdamSbOutIdeal.nD Cert.AdamSbOutIdeal.τ).loc Cert.AdamSbOutIdeal.main_arg5)
      ∧ m' ((c.tc : Thread Cert.AdamSbOutReferenceIdeal.nD Cert.AdamSbOutReferenceIdeal.τ).loc Cert.AdamSbOutReferenceIdeal.main_arg6) = m ((c.tc : Thread Cert.AdamSbOutIdeal.nD Cert.AdamSbOutIdeal.τ).loc Cert.AdamSbOutIdeal.main_arg6)
      ∧ m' ((c.tc : Thread Cert.AdamSbOutReferenceIdeal.nD Cert.AdamSbOutReferenceIdeal.τ).loc Cert.AdamSbOutReferenceIdeal.main_arg7) = m ((c.tc : Thread Cert.AdamSbOutIdeal.nD Cert.AdamSbOutIdeal.τ).loc Cert.AdamSbOutIdeal.main_arg7)) →
    ∃ (v0 : (c : Dev Cert.AdamSbOutIdeal.nD) → Buf (Elt Ideal) ((c.tc : Thread Cert.AdamSbOutIdeal.nD Cert.AdamSbOutIdeal.τ).loc Cert.AdamSbOutIdeal.main_v0_0)) (v1 : (c : Dev Cert.AdamSbOutIdeal.nD) → Buf (Elt Ideal) ((c.tc : Thread Cert.AdamSbOutIdeal.nD Cert.AdamSbOutIdeal.τ).loc Cert.AdamSbOutIdeal.main_v0_1)) (v2 : (c : Dev Cert.AdamSbOutIdeal.nD) → Buf (Elt Ideal) ((c.tc : Thread Cert.AdamSbOutIdeal.nD Cert.AdamSbOutIdeal.τ).loc Cert.AdamSbOutIdeal.main_v0_2)) (v3 : (c : Dev Cert.AdamSbOutIdeal.nD) → Buf (Elt Ideal) ((c.tc : Thread Cert.AdamSbOutIdeal.nD Cert.AdamSbOutIdeal.τ).loc Cert.AdamSbOutIdeal.main_v0_3)),
      θ_run (Cert.AdamSbOutIdeal.defs (F := Ideal)) (onTc (τ := Cert.AdamSbOutIdeal.τ) (Cert.AdamSbOutIdeal.main (F := Ideal))) ⟨m, fun _ => 0, g⟩ (fun r => ∀ c : Dev Cert.AdamSbOutIdeal.nD,
          r.2.mem ((c.tc : Thread Cert.AdamSbOutIdeal.nD Cert.AdamSbOutIdeal.τ).loc Cert.AdamSbOutIdeal.main_v0_0) = v0 c
          ∧ r.2.mem ((c.tc : Thread Cert.AdamSbOutIdeal.nD Cert.AdamSbOutIdeal.τ).loc Cert.AdamSbOutIdeal.main_v0_1) = v1 c
          ∧ r.2.mem ((c.tc : Thread Cert.AdamSbOutIdeal.nD Cert.AdamSbOutIdeal.τ).loc Cert.AdamSbOutIdeal.main_v0_2) = v2 c
          ∧ r.2.mem ((c.tc : Thread Cert.AdamSbOutIdeal.nD Cert.AdamSbOutIdeal.τ).loc Cert.AdamSbOutIdeal.main_v0_3) = v3 c
          ∧ r.2.mem ((c.tc : Thread Cert.AdamSbOutIdeal.nD Cert.AdamSbOutIdeal.τ).loc Cert.AdamSbOutIdeal.main_arg0) = m ((c.tc : Thread Cert.AdamSbOutIdeal.nD Cert.AdamSbOutIdeal.τ).loc Cert.AdamSbOutIdeal.main_arg0)
          ∧ r.2.mem ((c.tc : Thread Cert.AdamSbOutIdeal.nD Cert.AdamSbOutIdeal.τ).loc Cert.AdamSbOutIdeal.main_arg1) = m ((c.tc : Thread Cert.AdamSbOutIdeal.nD Cert.AdamSbOutIdeal.τ).loc Cert.AdamSbOutIdeal.main_arg1)
          ∧ r.2.mem ((c.tc : Thread Cert.AdamSbOutIdeal.nD Cert.AdamSbOutIdeal.τ).loc Cert.AdamSbOutIdeal.main_arg2) = m ((c.tc : Thread Cert.AdamSbOutIdeal.nD Cert.AdamSbOutIdeal.τ).loc Cert.AdamSbOutIdeal.main_arg2)
          ∧ r.2.mem ((c.tc : Thread Cert.AdamSbOutIdeal.nD Cert.AdamSbOutIdeal.τ).loc Cert.AdamSbOutIdeal.main_arg3) = m ((c.tc : Thread Cert.AdamSbOutIdeal.nD Cert.AdamSbOutIdeal.τ).loc Cert.AdamSbOutIdeal.main_arg3)
          ∧ r.2.mem ((c.tc : Thread Cert.AdamSbOutIdeal.nD Cert.AdamSbOutIdeal.τ).loc Cert.AdamSbOutIdeal.main_arg4) = m ((c.tc : Thread Cert.AdamSbOutIdeal.nD Cert.AdamSbOutIdeal.τ).loc Cert.AdamSbOutIdeal.main_arg4)
          ∧ r.2.mem ((c.tc : Thread Cert.AdamSbOutIdeal.nD Cert.AdamSbOutIdeal.τ).loc Cert.AdamSbOutIdeal.main_arg5) = m ((c.tc : Thread Cert.AdamSbOutIdeal.nD Cert.AdamSbOutIdeal.τ).loc Cert.AdamSbOutIdeal.main_arg5)
          ∧ r.2.mem ((c.tc : Thread Cert.AdamSbOutIdeal.nD Cert.AdamSbOutIdeal.τ).loc Cert.AdamSbOutIdeal.main_arg6) = m ((c.tc : Thread Cert.AdamSbOutIdeal.nD Cert.AdamSbOutIdeal.τ).loc Cert.AdamSbOutIdeal.main_arg6)
          ∧ r.2.mem ((c.tc : Thread Cert.AdamSbOutIdeal.nD Cert.AdamSbOutIdeal.τ).loc Cert.AdamSbOutIdeal.main_arg7) = m ((c.tc : Thread Cert.AdamSbOutIdeal.nD Cert.AdamSbOutIdeal.τ).loc Cert.AdamSbOutIdeal.main_arg7))
      ∧ θ_run (Cert.AdamSbOutReferenceIdeal.defs (F := Ideal)) (onTc (τ := Cert.AdamSbOutReferenceIdeal.τ) (Cert.AdamSbOutReferenceIdeal.main (F := Ideal))) ⟨m', fun _ => 0, g'⟩ (fun r => ∀ c : Dev Cert.AdamSbOutReferenceIdeal.nD,
          r.2.mem ((c.tc : Thread Cert.AdamSbOutReferenceIdeal.nD Cert.AdamSbOutReferenceIdeal.τ).loc Cert.AdamSbOutReferenceIdeal.main_v1) = v0 c
          ∧ r.2.mem ((c.tc : Thread Cert.AdamSbOutReferenceIdeal.nD Cert.AdamSbOutReferenceIdeal.τ).loc Cert.AdamSbOutReferenceIdeal.main_v25) = v1 c
          ∧ r.2.mem ((c.tc : Thread Cert.AdamSbOutReferenceIdeal.nD Cert.AdamSbOutReferenceIdeal.τ).loc Cert.AdamSbOutReferenceIdeal.main_v6) = v2 c
          ∧ r.2.mem ((c.tc : Thread Cert.AdamSbOutReferenceIdeal.nD Cert.AdamSbOutReferenceIdeal.τ).loc Cert.AdamSbOutReferenceIdeal.main_v12) = v3 c
          ∧ r.2.mem ((c.tc : Thread Cert.AdamSbOutReferenceIdeal.nD Cert.AdamSbOutReferenceIdeal.τ).loc Cert.AdamSbOutReferenceIdeal.main_arg0) = m' ((c.tc : Thread Cert.AdamSbOutReferenceIdeal.nD Cert.AdamSbOutReferenceIdeal.τ).loc Cert.AdamSbOutReferenceIdeal.main_arg0)
          ∧ r.2.mem ((c.tc : Thread Cert.AdamSbOutReferenceIdeal.nD Cert.AdamSbOutReferenceIdeal.τ).loc Cert.AdamSbOutReferenceIdeal.main_arg1) = m' ((c.tc : Thread Cert.AdamSbOutReferenceIdeal.nD Cert.AdamSbOutReferenceIdeal.τ).loc Cert.AdamSbOutReferenceIdeal.main_arg1)
          ∧ r.2.mem ((c.tc : Thread Cert.AdamSbOutReferenceIdeal.nD Cert.AdamSbOutReferenceIdeal.τ).loc Cert.AdamSbOutReferenceIdeal.main_arg2) = m' ((c.tc : Thread Cert.AdamSbOutReferenceIdeal.nD Cert.AdamSbOutReferenceIdeal.τ).loc Cert.AdamSbOutReferenceIdeal.main_arg2)
          ∧ r.2.mem ((c.tc : Thread Cert.AdamSbOutReferenceIdeal.nD Cert.AdamSbOutReferenceIdeal.τ).loc Cert.AdamSbOutReferenceIdeal.main_arg3) = m' ((c.tc : Thread Cert.AdamSbOutReferenceIdeal.nD Cert.AdamSbOutReferenceIdeal.τ).loc Cert.AdamSbOutReferenceIdeal.main_arg3)
          ∧ r.2.mem ((c.tc : Thread Cert.AdamSbOutReferenceIdeal.nD Cert.AdamSbOutReferenceIdeal.τ).loc Cert.AdamSbOutReferenceIdeal.main_arg4) = m' ((c.tc : Thread Cert.AdamSbOutReferenceIdeal.nD Cert.AdamSbOutReferenceIdeal.τ).loc Cert.AdamSbOutReferenceIdeal.main_arg4)
          ∧ r.2.mem ((c.tc : Thread Cert.AdamSbOutReferenceIdeal.nD Cert.AdamSbOutReferenceIdeal.τ).loc Cert.AdamSbOutReferenceIdeal.main_arg5) = m' ((c.tc : Thread Cert.AdamSbOutReferenceIdeal.nD Cert.AdamSbOutReferenceIdeal.τ).loc Cert.AdamSbOutReferenceIdeal.main_arg5)
          ∧ r.2.mem ((c.tc : Thread Cert.AdamSbOutReferenceIdeal.nD Cert.AdamSbOutReferenceIdeal.τ).loc Cert.AdamSbOutReferenceIdeal.main_arg6) = m' ((c.tc : Thread Cert.AdamSbOutReferenceIdeal.nD Cert.AdamSbOutReferenceIdeal.τ).loc Cert.AdamSbOutReferenceIdeal.main_arg6)
          ∧ r.2.mem ((c.tc : Thread Cert.AdamSbOutReferenceIdeal.nD Cert.AdamSbOutReferenceIdeal.τ).loc Cert.AdamSbOutReferenceIdeal.main_arg7) = m' ((c.tc : Thread Cert.AdamSbOutReferenceIdeal.nD Cert.AdamSbOutReferenceIdeal.τ).loc Cert.AdamSbOutReferenceIdeal.main_arg7))

def preserves_AdamPool_AdamPoolIdeal : Prop :=
  True

def algebraic_AdamPoolIdeal_AdamPoolReferenceIdeal [hAdamPoolIdeal : Cert.AdamPoolIdeal.Facts] [hAdamPoolReferenceIdeal : Cert.AdamPoolReferenceIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolReferenceIdeal.nD Cert.AdamPoolReferenceIdeal.τ Cert.AdamPoolReferenceIdeal.sig) → Buf (Elt Ideal) ℓ) (g' : Dev Cert.AdamPoolReferenceIdeal.nD → PrngReg), Pre_AdamPoolIdeal m →
    (∀ c : Dev Cert.AdamPoolIdeal.nD,
      m' ((c.tc : Thread Cert.AdamPoolReferenceIdeal.nD Cert.AdamPoolReferenceIdeal.τ).loc Cert.AdamPoolReferenceIdeal.main_arg0) = m ((c.tc : Thread Cert.AdamPoolIdeal.nD Cert.AdamPoolIdeal.τ).loc Cert.AdamPoolIdeal.main_arg0)
      ∧ m' ((c.tc : Thread Cert.AdamPoolReferenceIdeal.nD Cert.AdamPoolReferenceIdeal.τ).loc Cert.AdamPoolReferenceIdeal.main_arg1) = m ((c.tc : Thread Cert.AdamPoolIdeal.nD Cert.AdamPoolIdeal.τ).loc Cert.AdamPoolIdeal.main_arg1)
      ∧ m' ((c.tc : Thread Cert.AdamPoolReferenceIdeal.nD Cert.AdamPoolReferenceIdeal.τ).loc Cert.AdamPoolReferenceIdeal.main_arg2) = m ((c.tc : Thread Cert.AdamPoolIdeal.nD Cert.AdamPoolIdeal.τ).loc Cert.AdamPoolIdeal.main_arg2)
      ∧ m' ((c.tc : Thread Cert.AdamPoolReferenceIdeal.nD Cert.AdamPoolReferenceIdeal.τ).loc Cert.AdamPoolReferenceIdeal.main_arg3) = m ((c.tc : Thread Cert.AdamPoolIdeal.nD Cert.AdamPoolIdeal.τ).loc Cert.AdamPoolIdeal.main_arg3)
      ∧ m' ((c.tc : Thread Cert.AdamPoolReferenceIdeal.nD Cert.AdamPoolReferenceIdeal.τ).loc Cert.AdamPoolReferenceIdeal.main_arg4) = m ((c.tc : Thread Cert.AdamPoolIdeal.nD Cert.AdamPoolIdeal.τ).loc Cert.AdamPoolIdeal.main_arg4)
      ∧ m' ((c.tc : Thread Cert.AdamPoolReferenceIdeal.nD Cert.AdamPoolReferenceIdeal.τ).loc Cert.AdamPoolReferenceIdeal.main_arg5) = m ((c.tc : Thread Cert.AdamPoolIdeal.nD Cert.AdamPoolIdeal.τ).loc Cert.AdamPoolIdeal.main_arg5)
      ∧ m' ((c.tc : Thread Cert.AdamPoolReferenceIdeal.nD Cert.AdamPoolReferenceIdeal.τ).loc Cert.AdamPoolReferenceIdeal.main_arg6) = m ((c.tc : Thread Cert.AdamPoolIdeal.nD Cert.AdamPoolIdeal.τ).loc Cert.AdamPoolIdeal.main_arg6)
      ∧ m' ((c.tc : Thread Cert.AdamPoolReferenceIdeal.nD Cert.AdamPoolReferenceIdeal.τ).loc Cert.AdamPoolReferenceIdeal.main_arg7) = m ((c.tc : Thread Cert.AdamPoolIdeal.nD Cert.AdamPoolIdeal.τ).loc Cert.AdamPoolIdeal.main_arg7)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)) (v3 : (c : Dev Cert.AdamPoolIdeal.nD) → Buf (Elt Ideal) ((c.tc : Thread Cert.AdamPoolIdeal.nD Cert.AdamPoolIdeal.τ).loc Cert.AdamPoolIdeal.main_v0_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_v0_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
          ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4)
          ∧ r.2.mem ((c.tc : Thread Cert.AdamPoolIdeal.nD Cert.AdamPoolIdeal.τ).loc Cert.AdamPoolIdeal.main_arg5) = m ((c.tc : Thread Cert.AdamPoolIdeal.nD Cert.AdamPoolIdeal.τ).loc Cert.AdamPoolIdeal.main_arg5)
          ∧ r.2.mem ((c.tc : Thread Cert.AdamPoolIdeal.nD Cert.AdamPoolIdeal.τ).loc Cert.AdamPoolIdeal.main_arg6) = m ((c.tc : Thread Cert.AdamPoolIdeal.nD Cert.AdamPoolIdeal.τ).loc Cert.AdamPoolIdeal.main_arg6)
          ∧ r.2.mem ((c.tc : Thread Cert.AdamPoolIdeal.nD Cert.AdamPoolIdeal.τ).loc Cert.AdamPoolIdeal.main_arg7) = m ((c.tc : Thread Cert.AdamPoolIdeal.nD Cert.AdamPoolIdeal.τ).loc Cert.AdamPoolIdeal.main_arg7))
      ∧ θ_run (Cert.AdamPoolReferenceIdeal.defs (F := Ideal)) (onTc (τ := Cert.AdamPoolReferenceIdeal.τ) (Cert.AdamPoolReferenceIdeal.main (F := Ideal))) ⟨m', fun _ => 0, g'⟩ (fun r => ∀ c : Dev Cert.AdamPoolReferenceIdeal.nD,
          r.2.mem ((c.tc : Thread Cert.AdamPoolReferenceIdeal.nD Cert.AdamPoolReferenceIdeal.τ).loc Cert.AdamPoolReferenceIdeal.main_v1) = v0 c
          ∧ r.2.mem ((c.tc : Thread Cert.AdamPoolReferenceIdeal.nD Cert.AdamPoolReferenceIdeal.τ).loc Cert.AdamPoolReferenceIdeal.main_v25) = v1 c
          ∧ r.2.mem ((c.tc : Thread Cert.AdamPoolReferenceIdeal.nD Cert.AdamPoolReferenceIdeal.τ).loc Cert.AdamPoolReferenceIdeal.main_v6) = v2 c
          ∧ r.2.mem ((c.tc : Thread Cert.AdamPoolReferenceIdeal.nD Cert.AdamPoolReferenceIdeal.τ).loc Cert.AdamPoolReferenceIdeal.main_v12) = v3 c
          ∧ r.2.mem ((c.tc : Thread Cert.AdamPoolReferenceIdeal.nD Cert.AdamPoolReferenceIdeal.τ).loc Cert.AdamPoolReferenceIdeal.main_arg0) = m' ((c.tc : Thread Cert.AdamPoolReferenceIdeal.nD Cert.AdamPoolReferenceIdeal.τ).loc Cert.AdamPoolReferenceIdeal.main_arg0)
          ∧ r.2.mem ((c.tc : Thread Cert.AdamPoolReferenceIdeal.nD Cert.AdamPoolReferenceIdeal.τ).loc Cert.AdamPoolReferenceIdeal.main_arg1) = m' ((c.tc : Thread Cert.AdamPoolReferenceIdeal.nD Cert.AdamPoolReferenceIdeal.τ).loc Cert.AdamPoolReferenceIdeal.main_arg1)
          ∧ r.2.mem ((c.tc : Thread Cert.AdamPoolReferenceIdeal.nD Cert.AdamPoolReferenceIdeal.τ).loc Cert.AdamPoolReferenceIdeal.main_arg2) = m' ((c.tc : Thread Cert.AdamPoolReferenceIdeal.nD Cert.AdamPoolReferenceIdeal.τ).loc Cert.AdamPoolReferenceIdeal.main_arg2)
          ∧ r.2.mem ((c.tc : Thread Cert.AdamPoolReferenceIdeal.nD Cert.AdamPoolReferenceIdeal.τ).loc Cert.AdamPoolReferenceIdeal.main_arg3) = m' ((c.tc : Thread Cert.AdamPoolReferenceIdeal.nD Cert.AdamPoolReferenceIdeal.τ).loc Cert.AdamPoolReferenceIdeal.main_arg3)
          ∧ r.2.mem ((c.tc : Thread Cert.AdamPoolReferenceIdeal.nD Cert.AdamPoolReferenceIdeal.τ).loc Cert.AdamPoolReferenceIdeal.main_arg4) = m' ((c.tc : Thread Cert.AdamPoolReferenceIdeal.nD Cert.AdamPoolReferenceIdeal.τ).loc Cert.AdamPoolReferenceIdeal.main_arg4)
          ∧ r.2.mem ((c.tc : Thread Cert.AdamPoolReferenceIdeal.nD Cert.AdamPoolReferenceIdeal.τ).loc Cert.AdamPoolReferenceIdeal.main_arg5) = m' ((c.tc : Thread Cert.AdamPoolReferenceIdeal.nD Cert.AdamPoolReferenceIdeal.τ).loc Cert.AdamPoolReferenceIdeal.main_arg5)
          ∧ r.2.mem ((c.tc : Thread Cert.AdamPoolReferenceIdeal.nD Cert.AdamPoolReferenceIdeal.τ).loc Cert.AdamPoolReferenceIdeal.main_arg6) = m' ((c.tc : Thread Cert.AdamPoolReferenceIdeal.nD Cert.AdamPoolReferenceIdeal.τ).loc Cert.AdamPoolReferenceIdeal.main_arg6)
          ∧ r.2.mem ((c.tc : Thread Cert.AdamPoolReferenceIdeal.nD Cert.AdamPoolReferenceIdeal.τ).loc Cert.AdamPoolReferenceIdeal.main_arg7) = m' ((c.tc : Thread Cert.AdamPoolReferenceIdeal.nD Cert.AdamPoolReferenceIdeal.τ).loc Cert.AdamPoolReferenceIdeal.main_arg7))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)
      ∧ m' ((c.tc : Thread Cert.AdamInReferenceIdeal.nD Cert.AdamInReferenceIdeal.τ).loc Cert.AdamInReferenceIdeal.main_arg5) = m ((c.tc : Thread Cert.AdamInIdeal.nD Cert.AdamInIdeal.τ).loc Cert.AdamInIdeal.main_arg5)
      ∧ m' ((c.tc : Thread Cert.AdamInReferenceIdeal.nD Cert.AdamInReferenceIdeal.τ).loc Cert.AdamInReferenceIdeal.main_arg6) = m ((c.tc : Thread Cert.AdamInIdeal.nD Cert.AdamInIdeal.τ).loc Cert.AdamInIdeal.main_arg6)
      ∧ m' ((c.tc : Thread Cert.AdamInReferenceIdeal.nD Cert.AdamInReferenceIdeal.τ).loc Cert.AdamInReferenceIdeal.main_arg7) = m ((c.tc : Thread Cert.AdamInIdeal.nD Cert.AdamInIdeal.τ).loc Cert.AdamInIdeal.main_arg7)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
          ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v30) = v0 c
          ∧ r.2.mem ((c.tc : Thread Cert.AdamInReferenceIdeal.nD Cert.AdamInReferenceIdeal.τ).loc Cert.AdamInReferenceIdeal.main_v32) = v1 c
          ∧ r.2.mem ((c.tc : Thread Cert.AdamInReferenceIdeal.nD Cert.AdamInReferenceIdeal.τ).loc Cert.AdamInReferenceIdeal.main_v34) = v2 c
          ∧ r.2.mem ((c.tc : Thread Cert.AdamInReferenceIdeal.nD Cert.AdamInReferenceIdeal.τ).loc Cert.AdamInReferenceIdeal.main_v36) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4)
          ∧ r.2.mem ((c.tc : Thread Cert.AdamInReferenceIdeal.nD Cert.AdamInReferenceIdeal.τ).loc Cert.AdamInReferenceIdeal.main_arg5) = m' ((c.tc : Thread Cert.AdamInReferenceIdeal.nD Cert.AdamInReferenceIdeal.τ).loc Cert.AdamInReferenceIdeal.main_arg5)
          ∧ r.2.mem ((c.tc : Thread Cert.AdamInReferenceIdeal.nD Cert.AdamInReferenceIdeal.τ).loc Cert.AdamInReferenceIdeal.main_arg6) = m' ((c.tc : Thread Cert.AdamInReferenceIdeal.nD Cert.AdamInReferenceIdeal.τ).loc Cert.AdamInReferenceIdeal.main_arg6)
          ∧ r.2.mem ((c.tc : Thread Cert.AdamInReferenceIdeal.nD Cert.AdamInReferenceIdeal.τ).loc Cert.AdamInReferenceIdeal.main_arg7) = m' ((c.tc : Thread Cert.AdamInReferenceIdeal.nD Cert.AdamInReferenceIdeal.τ).loc Cert.AdamInReferenceIdeal.main_arg7))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)
      ∧ m' ((c.tc : Thread Cert.AdamOutReferenceIdeal.nD Cert.AdamOutReferenceIdeal.τ).loc Cert.AdamOutReferenceIdeal.main_arg4) = m ((c.tc : Thread Cert.AdamOutIdeal.nD Cert.AdamOutIdeal.τ).loc Cert.AdamOutIdeal.main_arg4)
      ∧ m' ((c.tc : Thread Cert.AdamOutReferenceIdeal.nD Cert.AdamOutReferenceIdeal.τ).loc Cert.AdamOutReferenceIdeal.main_arg5) = m ((c.tc : Thread Cert.AdamOutIdeal.nD Cert.AdamOutIdeal.τ).loc Cert.AdamOutIdeal.main_arg5)
      ∧ m' ((c.tc : Thread Cert.AdamOutReferenceIdeal.nD Cert.AdamOutReferenceIdeal.τ).loc Cert.AdamOutReferenceIdeal.main_arg6) = m ((c.tc : Thread Cert.AdamOutIdeal.nD Cert.AdamOutIdeal.τ).loc Cert.AdamOutIdeal.main_arg6)
      ∧ m' ((c.tc : Thread Cert.AdamOutReferenceIdeal.nD Cert.AdamOutReferenceIdeal.τ).loc Cert.AdamOutReferenceIdeal.main_arg7) = m ((c.tc : Thread Cert.AdamOutIdeal.nD Cert.AdamOutIdeal.τ).loc Cert.AdamOutIdeal.main_arg7)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
          ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6)
          ∧ r.2.mem ((c.tc : Thread Cert.AdamOutIdeal.nD Cert.AdamOutIdeal.τ).loc Cert.AdamOutIdeal.main_arg7) = m ((c.tc : Thread Cert.AdamOutIdeal.nD Cert.AdamOutIdeal.τ).loc Cert.AdamOutIdeal.main_arg7))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v30) = v0 c
          ∧ r.2.mem ((c.tc : Thread Cert.AdamOutReferenceIdeal.nD Cert.AdamOutReferenceIdeal.τ).loc Cert.AdamOutReferenceIdeal.main_v32) = v1 c
          ∧ r.2.mem ((c.tc : Thread Cert.AdamOutReferenceIdeal.nD Cert.AdamOutReferenceIdeal.τ).loc Cert.AdamOutReferenceIdeal.main_v34) = v2 c
          ∧ r.2.mem ((c.tc : Thread Cert.AdamOutReferenceIdeal.nD Cert.AdamOutReferenceIdeal.τ).loc Cert.AdamOutReferenceIdeal.main_v36) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4)
          ∧ r.2.mem ((c.tc : Thread Cert.AdamOutReferenceIdeal.nD Cert.AdamOutReferenceIdeal.τ).loc Cert.AdamOutReferenceIdeal.main_arg5) = m' ((c.tc : Thread Cert.AdamOutReferenceIdeal.nD Cert.AdamOutReferenceIdeal.τ).loc Cert.AdamOutReferenceIdeal.main_arg5)
          ∧ r.2.mem ((c.tc : Thread Cert.AdamOutReferenceIdeal.nD Cert.AdamOutReferenceIdeal.τ).loc Cert.AdamOutReferenceIdeal.main_arg6) = m' ((c.tc : Thread Cert.AdamOutReferenceIdeal.nD Cert.AdamOutReferenceIdeal.τ).loc Cert.AdamOutReferenceIdeal.main_arg6)
          ∧ r.2.mem ((c.tc : Thread Cert.AdamOutReferenceIdeal.nD Cert.AdamOutReferenceIdeal.τ).loc Cert.AdamOutReferenceIdeal.main_arg7) = m' ((c.tc : Thread Cert.AdamOutReferenceIdeal.nD Cert.AdamOutReferenceIdeal.τ).loc Cert.AdamOutReferenceIdeal.main_arg7))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)
      ∧ m' ((c.tc : Thread Cert.AdamUpReferenceIdeal.nD Cert.AdamUpReferenceIdeal.τ).loc Cert.AdamUpReferenceIdeal.main_arg4) = m ((c.tc : Thread Cert.AdamUpIdeal.nD Cert.AdamUpIdeal.τ).loc Cert.AdamUpIdeal.main_arg4)
      ∧ m' ((c.tc : Thread Cert.AdamUpReferenceIdeal.nD Cert.AdamUpReferenceIdeal.τ).loc Cert.AdamUpReferenceIdeal.main_arg5) = m ((c.tc : Thread Cert.AdamUpIdeal.nD Cert.AdamUpIdeal.τ).loc Cert.AdamUpIdeal.main_arg5)
      ∧ m' ((c.tc : Thread Cert.AdamUpReferenceIdeal.nD Cert.AdamUpReferenceIdeal.τ).loc Cert.AdamUpReferenceIdeal.main_arg6) = m ((c.tc : Thread Cert.AdamUpIdeal.nD Cert.AdamUpIdeal.τ).loc Cert.AdamUpIdeal.main_arg6)
      ∧ m' ((c.tc : Thread Cert.AdamUpReferenceIdeal.nD Cert.AdamUpReferenceIdeal.τ).loc Cert.AdamUpReferenceIdeal.main_arg7) = m ((c.tc : Thread Cert.AdamUpIdeal.nD Cert.AdamUpIdeal.τ).loc Cert.AdamUpIdeal.main_arg7)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
          ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6)
          ∧ r.2.mem ((c.tc : Thread Cert.AdamUpIdeal.nD Cert.AdamUpIdeal.τ).loc Cert.AdamUpIdeal.main_arg7) = m ((c.tc : Thread Cert.AdamUpIdeal.nD Cert.AdamUpIdeal.τ).loc Cert.AdamUpIdeal.main_arg7))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v30) = v0 c
          ∧ r.2.mem ((c.tc : Thread Cert.AdamUpReferenceIdeal.nD Cert.AdamUpReferenceIdeal.τ).loc Cert.AdamUpReferenceIdeal.main_v32) = v1 c
          ∧ r.2.mem ((c.tc : Thread Cert.AdamUpReferenceIdeal.nD Cert.AdamUpReferenceIdeal.τ).loc Cert.AdamUpReferenceIdeal.main_v34) = v2 c
          ∧ r.2.mem ((c.tc : Thread Cert.AdamUpReferenceIdeal.nD Cert.AdamUpReferenceIdeal.τ).loc Cert.AdamUpReferenceIdeal.main_v36) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3)
          ∧ r.2.mem ((c.tc : Thread Cert.AdamUpReferenceIdeal.nD Cert.AdamUpReferenceIdeal.τ).loc Cert.AdamUpReferenceIdeal.main_arg4) = m' ((c.tc : Thread Cert.AdamUpReferenceIdeal.nD Cert.AdamUpReferenceIdeal.τ).loc Cert.AdamUpReferenceIdeal.main_arg4)
          ∧ r.2.mem ((c.tc : Thread Cert.AdamUpReferenceIdeal.nD Cert.AdamUpReferenceIdeal.τ).loc Cert.AdamUpReferenceIdeal.main_arg5) = m' ((c.tc : Thread Cert.AdamUpReferenceIdeal.nD Cert.AdamUpReferenceIdeal.τ).loc Cert.AdamUpReferenceIdeal.main_arg5)
          ∧ r.2.mem ((c.tc : Thread Cert.AdamUpReferenceIdeal.nD Cert.AdamUpReferenceIdeal.τ).loc Cert.AdamUpReferenceIdeal.main_arg6) = m' ((c.tc : Thread Cert.AdamUpReferenceIdeal.nD Cert.AdamUpReferenceIdeal.τ).loc Cert.AdamUpReferenceIdeal.main_arg6)
          ∧ r.2.mem ((c.tc : Thread Cert.AdamUpReferenceIdeal.nD Cert.AdamUpReferenceIdeal.τ).loc Cert.AdamUpReferenceIdeal.main_arg7) = m' ((c.tc : Thread Cert.AdamUpReferenceIdeal.nD Cert.AdamUpReferenceIdeal.τ).loc Cert.AdamUpReferenceIdeal.main_arg7))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)
      ∧ m' ((c.tc : Thread Cert.AdamDownReferenceIdeal.nD Cert.AdamDownReferenceIdeal.τ).loc Cert.AdamDownReferenceIdeal.main_arg4) = m ((c.tc : Thread Cert.AdamDownIdeal.nD Cert.AdamDownIdeal.τ).loc Cert.AdamDownIdeal.main_arg4)
      ∧ m' ((c.tc : Thread Cert.AdamDownReferenceIdeal.nD Cert.AdamDownReferenceIdeal.τ).loc Cert.AdamDownReferenceIdeal.main_arg5) = m ((c.tc : Thread Cert.AdamDownIdeal.nD Cert.AdamDownIdeal.τ).loc Cert.AdamDownIdeal.main_arg5)
      ∧ m' ((c.tc : Thread Cert.AdamDownReferenceIdeal.nD Cert.AdamDownReferenceIdeal.τ).loc Cert.AdamDownReferenceIdeal.main_arg6) = m ((c.tc : Thread Cert.AdamDownIdeal.nD Cert.AdamDownIdeal.τ).loc Cert.AdamDownIdeal.main_arg6)
      ∧ m' ((c.tc : Thread Cert.AdamDownReferenceIdeal.nD Cert.AdamDownReferenceIdeal.τ).loc Cert.AdamDownReferenceIdeal.main_arg7) = m ((c.tc : Thread Cert.AdamDownIdeal.nD Cert.AdamDownIdeal.τ).loc Cert.AdamDownIdeal.main_arg7)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
          ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6)
          ∧ r.2.mem ((c.tc : Thread Cert.AdamDownIdeal.nD Cert.AdamDownIdeal.τ).loc Cert.AdamDownIdeal.main_arg7) = m ((c.tc : Thread Cert.AdamDownIdeal.nD Cert.AdamDownIdeal.τ).loc Cert.AdamDownIdeal.main_arg7))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v30) = v0 c
          ∧ r.2.mem ((c.tc : Thread Cert.AdamDownReferenceIdeal.nD Cert.AdamDownReferenceIdeal.τ).loc Cert.AdamDownReferenceIdeal.main_v32) = v1 c
          ∧ r.2.mem ((c.tc : Thread Cert.AdamDownReferenceIdeal.nD Cert.AdamDownReferenceIdeal.τ).loc Cert.AdamDownReferenceIdeal.main_v34) = v2 c
          ∧ r.2.mem ((c.tc : Thread Cert.AdamDownReferenceIdeal.nD Cert.AdamDownReferenceIdeal.τ).loc Cert.AdamDownReferenceIdeal.main_v36) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3)
          ∧ r.2.mem ((c.tc : Thread Cert.AdamDownReferenceIdeal.nD Cert.AdamDownReferenceIdeal.τ).loc Cert.AdamDownReferenceIdeal.main_arg4) = m' ((c.tc : Thread Cert.AdamDownReferenceIdeal.nD Cert.AdamDownReferenceIdeal.τ).loc Cert.AdamDownReferenceIdeal.main_arg4)
          ∧ r.2.mem ((c.tc : Thread Cert.AdamDownReferenceIdeal.nD Cert.AdamDownReferenceIdeal.τ).loc Cert.AdamDownReferenceIdeal.main_arg5) = m' ((c.tc : Thread Cert.AdamDownReferenceIdeal.nD Cert.AdamDownReferenceIdeal.τ).loc Cert.AdamDownReferenceIdeal.main_arg5)
          ∧ r.2.mem ((c.tc : Thread Cert.AdamDownReferenceIdeal.nD Cert.AdamDownReferenceIdeal.τ).loc Cert.AdamDownReferenceIdeal.main_arg6) = m' ((c.tc : Thread Cert.AdamDownReferenceIdeal.nD Cert.AdamDownReferenceIdeal.τ).loc Cert.AdamDownReferenceIdeal.main_arg6)
          ∧ r.2.mem ((c.tc : Thread Cert.AdamDownReferenceIdeal.nD Cert.AdamDownReferenceIdeal.τ).loc Cert.AdamDownReferenceIdeal.main_arg7) = m' ((c.tc : Thread Cert.AdamDownReferenceIdeal.nD Cert.AdamDownReferenceIdeal.τ).loc Cert.AdamDownReferenceIdeal.main_arg7))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v9) = v0 c
          ∧ r.2.mem ((c.tc : Thread Cert.LossHeadReferenceIdeal.nD Cert.LossHeadReferenceIdeal.τ).loc Cert.LossHeadReferenceIdeal.main_v15) = v1 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1))

def preserves_Bounds_BoundsIdeal : Prop :=
  True

def algebraic_BoundsIdeal_BoundsReferenceIdeal_pre_finite_logits [hBoundsIdeal : Cert.BoundsIdeal.Facts] [hBoundsReferenceIdeal : Cert.BoundsReferenceIdeal.Facts] [hPre_finite_logits : Cert.Pre_finite_logits.Facts] : Prop :=
  ∀ (m : (ℓ : Loc Cert.BoundsIdeal.nD Cert.BoundsIdeal.τ Cert.BoundsIdeal.sig) → Buf (Elt Ideal) ℓ) (g : Dev Cert.BoundsIdeal.nD → PrngReg)
    (m' : (ℓ : Loc Cert.BoundsReferenceIdeal.nD Cert.BoundsReferenceIdeal.τ Cert.BoundsReferenceIdeal.sig) → Buf (Elt Ideal) ℓ) (g' : Dev Cert.BoundsReferenceIdeal.nD → PrngReg), Pre_BoundsIdeal_finite_logits m →
    (∀ c : Dev Cert.BoundsIdeal.nD,
      m' ((c.tc : Thread Cert.BoundsReferenceIdeal.nD Cert.BoundsReferenceIdeal.τ).loc Cert.BoundsReferenceIdeal.main_arg0) = m ((c.tc : Thread Cert.BoundsIdeal.nD Cert.BoundsIdeal.τ).loc Cert.BoundsIdeal.main_arg0)
      ∧ m' ((c.tc : Thread Cert.BoundsReferenceIdeal.nD Cert.BoundsReferenceIdeal.τ).loc Cert.BoundsReferenceIdeal.main_arg1) = m ((c.tc : Thread Cert.BoundsIdeal.nD Cert.BoundsIdeal.τ).loc Cert.BoundsIdeal.main_arg1)) →
    ∃ (v0 : (c : Dev Cert.BoundsIdeal.nD) → Buf (Elt Ideal) ((c.tc : Thread Cert.BoundsIdeal.nD Cert.BoundsIdeal.τ).loc Cert.BoundsIdeal.main_v0)),
      θ_run (Cert.BoundsIdeal.defs (F := Ideal)) (onTc (τ := Cert.BoundsIdeal.τ) (Cert.BoundsIdeal.main (F := Ideal))) ⟨m, fun _ => 0, g⟩ (fun r => ∀ c : Dev Cert.BoundsIdeal.nD,
          r.2.mem ((c.tc : Thread Cert.BoundsIdeal.nD Cert.BoundsIdeal.τ).loc Cert.BoundsIdeal.main_v0) = v0 c
          ∧ r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0)
          ∧ r.2.mem ((c.tc : Thread Cert.BoundsIdeal.nD Cert.BoundsIdeal.τ).loc Cert.BoundsIdeal.main_arg1) = m ((c.tc : Thread Cert.BoundsIdeal.nD Cert.BoundsIdeal.τ).loc Cert.BoundsIdeal.main_arg1))
      ∧ θ_run (Cert.BoundsReferenceIdeal.defs (F := Ideal)) (onTc (τ := Cert.BoundsReferenceIdeal.τ) (Cert.BoundsReferenceIdeal.main (F := Ideal))) ⟨m', fun _ => 0, g'⟩ (fun r => ∀ c : Dev Cert.BoundsReferenceIdeal.nD,
          r.2.mem ((c.tc : Thread Cert.BoundsReferenceIdeal.nD Cert.BoundsReferenceIdeal.τ).loc Cert.BoundsReferenceIdeal.main_v49) = v0 c
          ∧ r.2.mem ((c.tc : Thread Cert.BoundsReferenceIdeal.nD Cert.BoundsReferenceIdeal.τ).loc Cert.BoundsReferenceIdeal.main_arg0) = m' ((c.tc : Thread Cert.BoundsReferenceIdeal.nD Cert.BoundsReferenceIdeal.τ).loc Cert.BoundsReferenceIdeal.main_arg0)
          ∧ r.2.mem ((c.tc : Thread Cert.BoundsReferenceIdeal.nD Cert.BoundsReferenceIdeal.τ).loc Cert.BoundsReferenceIdeal.main_arg1) = m' ((c.tc : Thread Cert.BoundsReferenceIdeal.nD Cert.BoundsReferenceIdeal.τ).loc Cert.BoundsReferenceIdeal.main_arg1))

def Claim : Prop :=
  ∃ (hKernel : Cert.Kernel.Facts) (hKernelIdeal : Cert.KernelIdeal.Facts) (hReferenceIdeal : Cert.ReferenceIdeal.Facts) (hDwUp : Cert.DwUp.Facts) (hDwUpIdeal : Cert.DwUpIdeal.Facts) (hDwUpReferenceIdeal : Cert.DwUpReferenceIdeal.Facts) (hDUp : Cert.DUp.Facts) (hDUpIdeal : Cert.DUpIdeal.Facts) (hDUpReferenceIdeal : Cert.DUpReferenceIdeal.Facts) (hUp : Cert.Up.Facts) (hUpIdeal : Cert.UpIdeal.Facts) (hUpReferenceIdeal : Cert.UpReferenceIdeal.Facts) (hDwDown : Cert.DwDown.Facts) (hDwDownIdeal : Cert.DwDownIdeal.Facts) (hDwDownReferenceIdeal : Cert.DwDownReferenceIdeal.Facts) (hDAct : Cert.DAct.Facts) (hDActIdeal : Cert.DActIdeal.Facts) (hDActReferenceIdeal : Cert.DActReferenceIdeal.Facts) (hDown : Cert.Down.Facts) (hDownIdeal : Cert.DownIdeal.Facts) (hDownReferenceIdeal : Cert.DownReferenceIdeal.Facts) (hDwHgIn : Cert.DwHgIn.Facts) (hDwHgInIdeal : Cert.DwHgInIdeal.Facts) (hDwHgInReferenceIdeal : Cert.DwHgInReferenceIdeal.Facts) (hDHgIn : Cert.DHgIn.Facts) (hDHgInIdeal : Cert.DHgInIdeal.Facts) (hDHgInReferenceIdeal : Cert.DHgInReferenceIdeal.Facts) (hHgIn : Cert.HgIn.Facts) (hHgInIdeal : Cert.HgInIdeal.Facts) (hHgInReferenceIdeal : Cert.HgInReferenceIdeal.Facts) (hNbIn : Cert.NbIn.Facts) (hNbInIdeal : Cert.NbInIdeal.Facts) (hNbInReferenceIdeal : Cert.NbInReferenceIdeal.Facts) (hAdamQkv : Cert.AdamQkv.Facts) (hAdamQkvIdeal : Cert.AdamQkvIdeal.Facts) (hAdamQkvReferenceIdeal : Cert.AdamQkvReferenceIdeal.Facts) (hAdamSmall : Cert.AdamSmall.Facts) (hAdamSmallIdeal : Cert.AdamSmallIdeal.Facts) (hAdamSmallReferenceIdeal : Cert.AdamSmallReferenceIdeal.Facts) (hAdamSbOut : Cert.AdamSbOut.Facts) (hAdamSbOutIdeal : Cert.AdamSbOutIdeal.Facts) (hAdamSbOutReferenceIdeal : Cert.AdamSbOutReferenceIdeal.Facts) (hAdamPool : Cert.AdamPool.Facts) (hAdamPoolIdeal : Cert.AdamPoolIdeal.Facts) (hAdamPoolReferenceIdeal : Cert.AdamPoolReferenceIdeal.Facts) (hAdamIn : Cert.AdamIn.Facts) (hAdamInIdeal : Cert.AdamInIdeal.Facts) (hAdamInReferenceIdeal : Cert.AdamInReferenceIdeal.Facts) (hAdamOut : Cert.AdamOut.Facts) (hAdamOutIdeal : Cert.AdamOutIdeal.Facts) (hAdamOutReferenceIdeal : Cert.AdamOutReferenceIdeal.Facts) (hAdamUp : Cert.AdamUp.Facts) (hAdamUpIdeal : Cert.AdamUpIdeal.Facts) (hAdamUpReferenceIdeal : Cert.AdamUpReferenceIdeal.Facts) (hAdamDown : Cert.AdamDown.Facts) (hAdamDownIdeal : Cert.AdamDownIdeal.Facts) (hAdamDownReferenceIdeal : Cert.AdamDownReferenceIdeal.Facts) (hLossHead : Cert.LossHead.Facts) (hLossHeadIdeal : Cert.LossHeadIdeal.Facts) (hLossHeadReferenceIdeal : Cert.LossHeadReferenceIdeal.Facts) (hBounds : Cert.Bounds.Facts) (hBoundsIdeal : Cert.BoundsIdeal.Facts) (hBoundsReferenceIdeal : Cert.BoundsReferenceIdeal.Facts) (hPre_finite : Cert.Pre_finite.Facts) (hPre_finite_logits : Cert.Pre_finite_logits.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwUp (hDwUp := hDwUp)
    ∧ quiescent_DwUpIdeal (hDwUpIdeal := hDwUpIdeal)
    ∧ quiescent_DwUpReferenceIdeal (hDwUpReferenceIdeal := hDwUpReferenceIdeal)
    ∧ quiescent_DUp (hDUp := hDUp)
    ∧ quiescent_DUpIdeal (hDUpIdeal := hDUpIdeal)
    ∧ quiescent_DUpReferenceIdeal (hDUpReferenceIdeal := hDUpReferenceIdeal)
    ∧ quiescent_Up (hUp := hUp)
    ∧ quiescent_UpIdeal (hUpIdeal := hUpIdeal)
    ∧ quiescent_UpReferenceIdeal (hUpReferenceIdeal := hUpReferenceIdeal)
    ∧ quiescent_DwDown (hDwDown := hDwDown)
    ∧ quiescent_DwDownIdeal (hDwDownIdeal := hDwDownIdeal)
    ∧ quiescent_DwDownReferenceIdeal (hDwDownReferenceIdeal := hDwDownReferenceIdeal)
    ∧ quiescent_DAct (hDAct := hDAct)
    ∧ quiescent_DActIdeal (hDActIdeal := hDActIdeal)
    ∧ quiescent_DActReferenceIdeal (hDActReferenceIdeal := hDActReferenceIdeal)
    ∧ quiescent_Down (hDown := hDown)
    ∧ quiescent_DownIdeal (hDownIdeal := hDownIdeal)
    ∧ quiescent_DownReferenceIdeal (hDownReferenceIdeal := hDownReferenceIdeal)
    ∧ quiescent_DwHgIn (hDwHgIn := hDwHgIn)
    ∧ quiescent_DwHgInIdeal (hDwHgInIdeal := hDwHgInIdeal)
    ∧ quiescent_DwHgInReferenceIdeal (hDwHgInReferenceIdeal := hDwHgInReferenceIdeal)
    ∧ quiescent_DHgIn (hDHgIn := hDHgIn)
    ∧ quiescent_DHgInIdeal (hDHgInIdeal := hDHgInIdeal)
    ∧ quiescent_DHgInReferenceIdeal (hDHgInReferenceIdeal := hDHgInReferenceIdeal)
    ∧ quiescent_HgIn (hHgIn := hHgIn)
    ∧ quiescent_HgInIdeal (hHgInIdeal := hHgInIdeal)
    ∧ quiescent_HgInReferenceIdeal (hHgInReferenceIdeal := hHgInReferenceIdeal)
    ∧ quiescent_NbIn (hNbIn := hNbIn)
    ∧ quiescent_NbInIdeal (hNbInIdeal := hNbInIdeal)
    ∧ quiescent_NbInReferenceIdeal (hNbInReferenceIdeal := hNbInReferenceIdeal)
    ∧ quiescent_AdamQkv (hAdamQkv := hAdamQkv)
    ∧ quiescent_AdamQkvIdeal (hAdamQkvIdeal := hAdamQkvIdeal)
    ∧ quiescent_AdamQkvReferenceIdeal (hAdamQkvReferenceIdeal := hAdamQkvReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_AdamSbOut (hAdamSbOut := hAdamSbOut)
    ∧ quiescent_AdamSbOutIdeal (hAdamSbOutIdeal := hAdamSbOutIdeal)
    ∧ quiescent_AdamSbOutReferenceIdeal (hAdamSbOutReferenceIdeal := hAdamSbOutReferenceIdeal)
    ∧ quiescent_AdamPool (hAdamPool := hAdamPool)
    ∧ quiescent_AdamPoolIdeal (hAdamPoolIdeal := hAdamPoolIdeal)
    ∧ quiescent_AdamPoolReferenceIdeal (hAdamPoolReferenceIdeal := hAdamPoolReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_Bounds (hBounds := hBounds)
    ∧ quiescent_BoundsIdeal (hBoundsIdeal := hBoundsIdeal)
    ∧ quiescent_BoundsIdeal_pre_finite_logits (hBoundsIdeal := hBoundsIdeal) (hPre_finite_logits := hPre_finite_logits)
    ∧ quiescent_BoundsReferenceIdeal (hBoundsReferenceIdeal := hBoundsReferenceIdeal)
    ∧ quiescent_BoundsReferenceIdeal_pre_finite_logits (hBoundsReferenceIdeal := hBoundsReferenceIdeal) (hPre_finite_logits := hPre_finite_logits)
    ∧ preserves_Kernel_KernelIdeal
    ∧ algebraic_KernelIdeal_ReferenceIdeal_pre_finite (hKernelIdeal := hKernelIdeal) (hReferenceIdeal := hReferenceIdeal) (hPre_finite := hPre_finite)
    ∧ preserves_DwUp_DwUpIdeal
    ∧ algebraic_DwUpIdeal_DwUpReferenceIdeal (hDwUpIdeal := hDwUpIdeal) (hDwUpReferenceIdeal := hDwUpReferenceIdeal)
    ∧ preserves_DUp_DUpIdeal
    ∧ algebraic_DUpIdeal_DUpReferenceIdeal (hDUpIdeal := hDUpIdeal) (hDUpReferenceIdeal := hDUpReferenceIdeal)
    ∧ preserves_Up_UpIdeal
    ∧ algebraic_UpIdeal_UpReferenceIdeal (hUpIdeal := hUpIdeal) (hUpReferenceIdeal := hUpReferenceIdeal)
    ∧ preserves_DwDown_DwDownIdeal
    ∧ algebraic_DwDownIdeal_DwDownReferenceIdeal (hDwDownIdeal := hDwDownIdeal) (hDwDownReferenceIdeal := hDwDownReferenceIdeal)
    ∧ preserves_DAct_DActIdeal
    ∧ algebraic_DActIdeal_DActReferenceIdeal (hDActIdeal := hDActIdeal) (hDActReferenceIdeal := hDActReferenceIdeal)
    ∧ preserves_Down_DownIdeal
    ∧ algebraic_DownIdeal_DownReferenceIdeal (hDownIdeal := hDownIdeal) (hDownReferenceIdeal := hDownReferenceIdeal)
    ∧ preserves_DwHgIn_DwHgInIdeal
    ∧ algebraic_DwHgInIdeal_DwHgInReferenceIdeal (hDwHgInIdeal := hDwHgInIdeal) (hDwHgInReferenceIdeal := hDwHgInReferenceIdeal)
    ∧ preserves_DHgIn_DHgInIdeal
    ∧ algebraic_DHgInIdeal_DHgInReferenceIdeal (hDHgInIdeal := hDHgInIdeal) (hDHgInReferenceIdeal := hDHgInReferenceIdeal)
    ∧ preserves_HgIn_HgInIdeal
    ∧ algebraic_HgInIdeal_HgInReferenceIdeal (hHgInIdeal := hHgInIdeal) (hHgInReferenceIdeal := hHgInReferenceIdeal)
    ∧ preserves_NbIn_NbInIdeal
    ∧ algebraic_NbInIdeal_NbInReferenceIdeal (hNbInIdeal := hNbInIdeal) (hNbInReferenceIdeal := hNbInReferenceIdeal)
    ∧ preserves_AdamQkv_AdamQkvIdeal
    ∧ algebraic_AdamQkvIdeal_AdamQkvReferenceIdeal (hAdamQkvIdeal := hAdamQkvIdeal) (hAdamQkvReferenceIdeal := hAdamQkvReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_AdamSbOut_AdamSbOutIdeal
    ∧ algebraic_AdamSbOutIdeal_AdamSbOutReferenceIdeal (hAdamSbOutIdeal := hAdamSbOutIdeal) (hAdamSbOutReferenceIdeal := hAdamSbOutReferenceIdeal)
    ∧ preserves_AdamPool_AdamPoolIdeal
    ∧ algebraic_AdamPoolIdeal_AdamPoolReferenceIdeal (hAdamPoolIdeal := hAdamPoolIdeal) (hAdamPoolReferenceIdeal := hAdamPoolReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_Bounds_BoundsIdeal
    ∧ algebraic_BoundsIdeal_BoundsReferenceIdeal_pre_finite_logits (hBoundsIdeal := hBoundsIdeal) (hBoundsReferenceIdeal := hBoundsReferenceIdeal) (hPre_finite_logits := hPre_finite_logits)
-- ==== Pre_finite.lean ====
abbrev S2048x6144 : Shape := ⟨2, ![2048, 6144]⟩
abbrev S2048x2048 : Shape := ⟨2, ![2048, 2048]⟩
abbrev S_ : Shape := ⟨0, ![]⟩

class Facts : Prop where
  bcast_S_S2048x6144 : S_.BroadcastsInDim S2048x6144 (![] : Fin 0 → Fin S2048x6144.rank)
  bcast_S_S2048x2048 : S_.BroadcastsInDim S2048x2048 (![] : Fin 0 → Fin S2048x2048.rank)

variable [Facts]

def fn {F : FTy → Type} [FloatOps F] (main_arg0 : FVec F S2048x6144 .f32) (main_arg1 : FVec F S2048x2048 .f32) : IVec S2048x6144 1 × IVec S2048x2048 1 :=
  let main_v0 : FVec F S2048x6144 .f32 := Host.absf main_arg0
  let main_cst : FVec F S_ .f32 := constant S_ .f32 0x7F800000#32
  let main_v1 : FVec F S2048x6144 .f32 := broadcastInDim S2048x6144 ![] bcast_S_S2048x6144 main_cst
  let main_v2 : IVec S2048x6144 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  (main_v2, main_v5)
-- ==== Pre_finite_logits.lean ====
abbrev S4x2048 : Shape := ⟨2, ![4, 2048]⟩
abbrev S_ : Shape := ⟨0, ![]⟩

class Facts : Prop where
  bcast_S_S4x2048 : S_.BroadcastsInDim S4x2048 (![] : Fin 0 → Fin S4x2048.rank)

variable [Facts]

def fn {F : FTy → Type} [FloatOps F] (main_arg0 : FVec F S4x2048 .f32) (main_arg1 : FVec F S4x2048 .f32) : IVec S4x2048 1 :=
  let main_v0 : FVec F S4x2048 .f32 := Host.absf main_arg0
  let main_cst : FVec F S_ .f32 := constant S_ .f32 0x7F800000#32
  let main_v1 : FVec F S4x2048 .f32 := broadcastInDim S4x2048 ![] bcast_S_S4x2048 main_cst
  let main_v2 : IVec S4x2048 1 := cmpf .olt main_v0 main_v1
  main_v2
-- ==== Kernel.lean ====
abbrev S2048x6144 : Shape := ⟨2, ![2048, 6144]⟩
abbrev S2048x2048 : Shape := ⟨2, ![2048, 2048]⟩
abbrev S2048x128 : Shape := ⟨2, ![2048, 128]⟩
abbrev S256x256 : Shape := ⟨2, ![256, 256]⟩
abbrev S256x128 : Shape := ⟨2, ![256, 128]⟩
abbrev S256x1 : Shape := ⟨2, ![256, 1]⟩
abbrev S256 : Shape := ⟨1, ![256]⟩
abbrev S3x2048x2048 : Shape := ⟨3, ![3, 2048, 2048]⟩
abbrev S3x2048x128 : Shape := ⟨3, ![3, 2048, 128]⟩
abbrev S1x256x128 : Shape := ⟨3, ![1, 256, 128]⟩
abbrev S1x2048x128 : Shape := ⟨3, ![1, 2048, 128]⟩

abbrev nBuf : Space → Nat
  | .hbm => 4
  | .vmem => 28
  | .smem => 0
  | _ => 0

abbrev bufTy : (tb : Table) → Fin (tcTables nBuf tb) → BufTy
  | .hbm, ⟨0, _⟩ => ⟨S2048x6144, .f32⟩
  | .hbm, ⟨1, _⟩ => ⟨S2048x2048, .f32⟩
  | .hbm, ⟨2, _⟩ => ⟨S2048x2048, .f32⟩
  | .hbm, ⟨3, _⟩ => ⟨S3x2048x2048, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S3x2048x128, .bf16⟩
  | .local _ .vmem, ⟨22, _⟩ => ⟨S3x2048x128, .bf16⟩
  | .local _ .vmem, ⟨23, _⟩ => ⟨S2048x128, .f32⟩
  | .local _ .vmem, ⟨24, _⟩ => ⟨S2048x128, .f32⟩
  | .local _ .vmem, ⟨25, _⟩ => ⟨S2048x128, .bf16⟩
  | .local _ .vmem, ⟨26, _⟩ => ⟨S2048x128, .bf16⟩
  | .local _ .vmem, ⟨27, _⟩ => ⟨S2048x128, .bf16⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc1_scratch3 : Ref sig .tc := ⟨.vmem, 26, rfl⟩
abbrev cc1_scratch4 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v25 : BitVec 32 := Scalar.addi c0_i32 c8_i32
  let c1_i32 : BitVec 32 := 1#32
  ⟨c0_i32, v25, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v26 : BitVec 32 := Scalar.muli arg8 c256_i32
  v26
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c256_i32 : BitVec 32 := 256#32
  let v26 : BitVec 32 := Scalar.muli arg8 c256_i32
  let v27 : BitVec 32 := v26
  let v28 : Index := Scalar.indexCast v27
  let c0_12 : Index := 0#32
  ![v28.toNat, 0]
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c1_i32_13 : BitVec 32 := 1#32
  let v30 : BitVec 32 := Scalar.addi arg8 c1_i32_13
  let c1_i32_14 : BitVec 32 := 1#32
  let v31 : BitVec 32 := Scalar.muli v30 c1_i32_14
  let c1_i32_15 : BitVec 32 := 1#32
  let v32 : BitVec 32 := Scalar.subi v31 c1_i32_15
  let c0_i32_18 : BitVec 32 := 0#32
  let v35 : BitVec 32 := Scalar.subi v32 c0_i32_18
  let c256_i32_19 : BitVec 32 := 256#32
  let v36 : BitVec 32 := Scalar.muli v35 c256_i32_19
  v36
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c1_i32_13 : BitVec 32 := 1#32
  let v30 : BitVec 32 := Scalar.addi arg8 c1_i32_13
  let c1_i32_14 : BitVec 32 := 1#32
  let v31 : BitVec 32 := Scalar.muli v30 c1_i32_14
  let c1_i32_15 : BitVec 32 := 1#32
  let v32 : BitVec 32 := Scalar.subi v31 c1_i32_15
  let c0_i32_18 : BitVec 32 := 0#32
  let v35 : BitVec 32 := Scalar.subi v32 c0_i32_18
  let c256_i32_19 : BitVec 32 := 256#32
  let v36 : BitVec 32 := Scalar.muli v35 c256_i32_19
  let v37 : BitVec 32 := v36
  let v38 : Index := Scalar.indexCast v37
  let c0_20 : Index := 0#32
  ![v38.toNat, 0]
@[reducible] def k0_t2_loop (k0_t1 : Fin k0_t1_loop.trips) : Scf.Loop 32 :=
  let c1_i32_34 : BitVec 32 := 1#32
  let c0_i32 : BitVec 32 := 0#32
  let c1_i32 : BitVec 32 := 1#32
  let arg8 : BitVec 32 := Scf.iv c0_i32 c1_i32 k0_t1
  let c1_i32_13 : BitVec 32 := 1#32
  let v30 : BitVec 32 := Scalar.addi arg8 c1_i32_13
  let c1_i32_14 : BitVec 32 := 1#32
  let v31 : BitVec 32 := Scalar.muli v30 c1_i32_14
  let c1_i32_15 : BitVec 32 := 1#32
  let v32 : BitVec 32 := Scalar.subi v31 c1_i32_15
  let c1_i32_33 : BitVec 32 := 1#32
  let v80 : BitVec 32 := Scalar.addi v32 c1_i32_33
  let v81 : BitVec 32 := Scalar.subi v80 c1_i32_34
  let c1_i32_35 : BitVec 32 := 1#32
  let v83 : BitVec 32 := Scalar.divsi v81 c1_i32_35
  let v84 : BitVec 32 := Scalar.muli v83 c1_i32_35
  let v85 : BitVec 32 := Scalar.addi c1_i32_34 v84
  let c1_i32_36 : BitVec 32 := 1#32
  ⟨c1_i32_34, v85, c1_i32_36⟩
def k0_mult3 (k0_t1 : Fin k0_t1_loop.trips) (k0_t2 : Fin (k0_t2_loop k0_t1).trips) : BitVec 32 :=
  let c0_i32 : BitVec 32 := 0#32
  let c1_i32 : BitVec 32 := 1#32
  let arg8 : BitVec 32 := Scf.iv c0_i32 c1_i32 k0_t1
  let c1_i32_13 : BitVec 32 := 1#32
  let v30 : BitVec 32 := Scalar.addi arg8 c1_i32_13
  let c1_i32_14 : BitVec 32 := 1#32
  let v31 : BitVec 32 := Scalar.muli v30 c1_i32_14
  let c1_i32_15 : BitVec 32 := 1#32
  let v32 : BitVec 32 := Scalar.subi v31 c1_i32_15
  let c1_i32_34 : BitVec 32 := 1#32
  let c1_i32_36 : BitVec 32 := 1#32
  let arg9 : BitVec 32 := Scf.iv c1_i32_34 c1_i32_36 k0_t2
  let v90 : BitVec 32 := Scalar.subi v32 arg9
  let c256_i32_39 : BitVec 32 := 256#32
  let v91 : BitVec 32 := Scalar.muli v90 c256_i32_39
  v91
def k0_off3 (k0_t1 : Fin k0_t1_loop.trips) (k0_t2 : Fin (k0_t2_loop k0_t1).trips) : Fin 2 → Nat :=
  let c0_i32 : BitVec 32 := 0#32
  let c1_i32 : BitVec 32 := 1#32
  let arg8 : BitVec 32 := Scf.iv c0_i32 c1_i32 k0_t1
  let c1_i32_13 : BitVec 32 := 1#32
  let v30 : BitVec 32 := Scalar.addi arg8 c1_i32_13
  let c1_i32_14 : BitVec 32 := 1#32
  let v31 : BitVec 32 := Scalar.muli v30 c1_i32_14
  let c1_i32_15 : BitVec 32 := 1#32
  let v32 : BitVec 32 := Scalar.subi v31 c1_i32_15
  let c1_i32_34 : BitVec 32 := 1#32
  let c1_i32_36 : BitVec 32 := 1#32
  let arg9 : BitVec 32 := Scf.iv c1_i32_34 c1_i32_36 k0_t2
  let v90 : BitVec 32 := Scalar.subi v32 arg9
  let c256_i32_39 : BitVec 32 := 256#32
  let v91 : BitVec 32 := Scalar.muli v90 c256_i32_39
  let v92 : BitVec 32 := v91
  let v93 : Index := Scalar.indexCast v92
  let c0_40 : Index := 0#32
  ![v93.toNat, 0]
@[reducible] def k0_t3_loop (k0_t1 : Fin k0_t1_loop.trips) : Scf.Loop 32 :=
  let c1_i32_34 : BitVec 32 := 1#32
  let c0_i32 : BitVec 32 := 0#32
  let c1_i32 : BitVec 32 := 1#32
  let arg8 : BitVec 32 := Scf.iv c0_i32 c1_i32 k0_t1
  let c1_i32_13 : BitVec 32 := 1#32
  let v30 : BitVec 32 := Scalar.addi arg8 c1_i32_13
  let c1_i32_14 : BitVec 32 := 1#32
  let v31 : BitVec 32 := Scalar.muli v30 c1_i32_14
  let c1_i32_15 : BitVec 32 := 1#32
  let v32 : BitVec 32 := Scalar.subi v31 c1_i32_15
  let c1_i32_33 : BitVec 32 := 1#32
  let v80 : BitVec 32 := Scalar.addi v32 c1_i32_33
  let v81 : BitVec 32 := Scalar.subi v80 c1_i32_34
  let c1_i32_35 : BitVec 32 := 1#32
  let v83 : BitVec 32 := Scalar.divsi v81 c1_i32_35
  let v84 : BitVec 32 := Scalar.muli v83 c1_i32_35
  let v85 : BitVec 32 := Scalar.addi c1_i32_34 v84
  let v82 : BitVec 32 := Scalar.addi c1_i32_34 v81
  let c1_i32_37 : BitVec 32 := 1#32
  ⟨v85, v82, c1_i32_37⟩
def k0_mult4 (k0_t1 : Fin k0_t1_loop.trips) (k0_t3 : Fin (k0_t3_loop k0_t1).trips) : BitVec 32 :=
  let c0_i32 : BitVec 32 := 0#32
  let c1_i32 : BitVec 32 := 1#32
  let arg8 : BitVec 32 := Scf.iv c0_i32 c1_i32 k0_t1
  let c1_i32_13 : BitVec 32 := 1#32
  let v30 : BitVec 32 := Scalar.addi arg8 c1_i32_13
  let c1_i32_14 : BitVec 32 := 1#32
  let v31 : BitVec 32 := Scalar.muli v30 c1_i32_14
  let c1_i32_15 : BitVec 32 := 1#32
  let v32 : BitVec 32 := Scalar.subi v31 c1_i32_15
  let c1_i32_34 : BitVec 32 := 1#32
  let c1_i32_33 : BitVec 32 := 1#32
  let v80 : BitVec 32 := Scalar.addi v32 c1_i32_33
  let v81 : BitVec 32 := Scalar.subi v80 c1_i32_34
  let c1_i32_35 : BitVec 32 := 1#32
  let v83 : BitVec 32 := Scalar.divsi v81 c1_i32_35
  let v84 : BitVec 32 := Scalar.muli v83 c1_i32_35
  let v85 : BitVec 32 := Scalar.addi c1_i32_34 v84
  let c1_i32_37 : BitVec 32 := 1#32
  let arg9 : BitVec 32 := Scf.iv v85 c1_i32_37 k0_t3
  let v90 : BitVec 32 := Scalar.subi v32 arg9
  let c256_i32_39 : BitVec 32 := 256#32
  let v91 : BitVec 32 := Scalar.muli v90 c256_i32_39
  v91
def k0_off4 (k0_t1 : Fin k0_t1_loop.trips) (k0_t3 : Fin (k0_t3_loop k0_t1).trips) : Fin 2 → Nat :=
  let c0_i32 : BitVec 32 := 0#32
  let c1_i32 : BitVec 32 := 1#32
  let arg8 : BitVec 32 := Scf.iv c0_i32 c1_i32 k0_t1
  let c1_i32_13 : BitVec 32 := 1#32
  let v30 : BitVec 32 := Scalar.addi arg8 c1_i32_13
  let c1_i32_14 : BitVec 32 := 1#32
  let v31 : BitVec 32 := Scalar.muli v30 c1_i32_14
  let c1_i32_15 : BitVec 32 := 1#32
  let v32 : BitVec 32 := Scalar.subi v31 c1_i32_15
  let c1_i32_34 : BitVec 32 := 1#32
  let c1_i32_33 : BitVec 32 := 1#32
  let v80 : BitVec 32 := Scalar.addi v32 c1_i32_33
  let v81 : BitVec 32 := Scalar.subi v80 c1_i32_34
  let c1_i32_35 : BitVec 32 := 1#32
  let v83 : BitVec 32 := Scalar.divsi v81 c1_i32_35
  let v84 : BitVec 32 := Scalar.muli v83 c1_i32_35
  let v85 : BitVec 32 := Scalar.addi c1_i32_34 v84
  let c1_i32_37 : BitVec 32 := 1#32
  let arg9 : BitVec 32 := Scf.iv v85 c1_i32_37 k0_t3
  let v90 : BitVec 32 := Scalar.subi v32 arg9
  let c256_i32_39 : BitVec 32 := 256#32
  let v91 : BitVec 32 := Scalar.muli v90 c256_i32_39
  let v92 : BitVec 32 := v91
  let v93 : Index := Scalar.indexCast v92
  let c0_40 : Index := 0#32
  ![v93.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

@[reducible] def k1_t1_loop : Scf.Loop 32 :=
  let c0_i32 : BitVec 32 := 0#32
  let c8_i32 : BitVec 32 := 8#32
  let v37 : BitVec 32 := Scalar.addi c0_i32 c8_i32
  let c1_i32 : BitVec 32 := 1#32
  ⟨c0_i32, v37, c1_i32⟩
def k1_mult1 (k1_t1 : Fin k1_t1_loop.trips) : BitVec 32 :=
  let c0_i32 : BitVec 32 := 0#32
  let c1_i32 : BitVec 32 := 1#32
  let arg12 : BitVec 32 := Scf.iv c0_i32 c1_i32 k1_t1
  let c256_i32 : BitVec 32 := 256#32
  let v48 : BitVec 32 := Scalar.muli arg12 c256_i32
  v48
def k1_off1 (k1_t1 : Fin k1_t1_loop.trips) : Fin 2 → Nat :=
  let c0_i32 : BitVec 32 := 0#32
  let c1_i32 : BitVec 32 := 1#32
  let arg12 : BitVec 32 := Scf.iv c0_i32 c1_i32 k1_t1
  let c256_i32 : BitVec 32 := 256#32
  let v48 : BitVec 32 := Scalar.muli arg12 c256_i32
  let v49 : BitVec 32 := v48
  let v50 : Index := Scalar.indexCast v49
  let c0_26 : Index := 0#32
  ![v50.toNat, 0]
def k1_mult2 (k1_t1 : Fin k1_t1_loop.trips) : BitVec 32 :=
  let c0_i32 : BitVec 32 := 0#32
  let c1_i32 : BitVec 32 := 1#32
  let arg12 : BitVec 32 := Scf.iv c0_i32 c1_i32 k1_t1
  let c1_i32_30 : BitVec 32 := 1#32
  let v62 : BitVec 32 := Scalar.addi arg12 c1_i32_30
  let c1_i32_31 : BitVec 32 := 1#32
  let v63 : BitVec 32 := Scalar.muli v62 c1_i32_31
  let c1_i32_32 : BitVec 32 := 1#32
  let v64 : BitVec 32 := Scalar.subi v63 c1_i32_32
  let c0_i32_35 : BitVec 32 := 0#32
  let v67 : BitVec 32 := Scalar.subi v64 c0_i32_35
  let c256_i32_36 : BitVec 32 := 256#32
  let v68 : BitVec 32 := Scalar.muli v67 c256_i32_36
  v68
def k1_off2 (k1_t1 : Fin k1_t1_loop.trips) : Fin 2 → Nat :=
  let c0_i32 : BitVec 32 := 0#32
  let c1_i32 : BitVec 32 := 1#32
  let arg12 : BitVec 32 := Scf.iv c0_i32 c1_i32 k1_t1
  let c1_i32_30 : BitVec 32 := 1#32
  let v62 : BitVec 32 := Scalar.addi arg12 c1_i32_30
  let c1_i32_31 : BitVec 32 := 1#32
  let v63 : BitVec 32 := Scalar.muli v62 c1_i32_31
  let c1_i32_32 : BitVec 32 := 1#32
  let v64 : BitVec 32 := Scalar.subi v63 c1_i32_32
  let c0_i32_35 : BitVec 32 := 0#32
  let v67 : BitVec 32 := Scalar.subi v64 c0_i32_35
  let c256_i32_36 : BitVec 32 := 256#32
  let v68 : BitVec 32 := Scalar.muli v67 c256_i32_36
  let v69 : BitVec 32 := v68
  let v70 : Index := Scalar.indexCast v69
  let c0_37 : Index := 0#32
  ![v70.toNat, 0]
@[reducible] def k1_t2_loop (k1_t1 : Fin k1_t1_loop.trips) : Scf.Loop 32 :=
  let c1_i32_64 : BitVec 32 := 1#32
  let c0_i32 : BitVec 32 := 0#32
  let c1_i32 : BitVec 32 := 1#32
  let arg12 : BitVec 32 := Scf.iv c0_i32 c1_i32 k1_t1
  let c1_i32_30 : BitVec 32 := 1#32
  let v62 : BitVec 32 := Scalar.addi arg12 c1_i32_30
  let c1_i32_31 : BitVec 32 := 1#32
  let v63 : BitVec 32 := Scalar.muli v62 c1_i32_31
  let c1_i32_32 : BitVec 32 := 1#32
  let v64 : BitVec 32 := Scalar.subi v63 c1_i32_32
  let c1_i32_63 : BitVec 32 := 1#32
  let v156 : BitVec 32 := Scalar.addi v64 c1_i32_63
  let v157 : BitVec 32 := Scalar.subi v156 c1_i32_64
  let c1_i32_65 : BitVec 32 := 1#32
  let v159 : BitVec 32 := Scalar.divsi v157 c1_i32_65
  let v160 : BitVec 32 := Scalar.muli v159 c1_i32_65
  let v161 : BitVec 32 := Scalar.addi c1_i32_64 v160
  let c1_i32_66 : BitVec 32 := 1#32
  ⟨c1_i32_64, v161, c1_i32_66⟩
def k1_mult3 (k1_t1 : Fin k1_t1_loop.trips) (k1_t2 : Fin (k1_t2_loop k1_t1).trips) : BitVec 32 :=
  let c0_i32 : BitVec 32 := 0#32
  let c1_i32 : BitVec 32 := 1#32
  let arg12 : BitVec 32 := Scf.iv c0_i32 c1_i32 k1_t1
  let c1_i32_30 : BitVec 32 := 1#32
  let v62 : BitVec 32 := Scalar.addi arg12 c1_i32_30
  let c1_i32_31 : BitVec 32 := 1#32
  let v63 : BitVec 32 := Scalar.muli v62 c1_i32_31
  let c1_i32_32 : BitVec 32 := 1#32
  let v64 : BitVec 32 := Scalar.subi v63 c1_i32_32
  let c1_i32_64 : BitVec 32 := 1#32
  let c1_i32_66 : BitVec 32 := 1#32
  let arg13 : BitVec 32 := Scf.iv c1_i32_64 c1_i32_66 k1_t2
  let v171 : BitVec 32 := Scalar.subi v64 arg13
  let c256_i32_71 : BitVec 32 := 256#32
  let v172 : BitVec 32 := Scalar.muli v171 c256_i32_71
  v172
def k1_off3 (k1_t1 : Fin k1_t1_loop.trips) (k1_t2 : Fin (k1_t2_loop k1_t1).trips) : Fin 2 → Nat :=
  let c0_i32 : BitVec 32 := 0#32
  let c1_i32 : BitVec 32 := 1#32
  let arg12 : BitVec 32 := Scf.iv c0_i32 c1_i32 k1_t1
  let c1_i32_30 : BitVec 32 := 1#32
  let v62 : BitVec 32 := Scalar.addi arg12 c1_i32_30
  let c1_i32_31 : BitVec 32 := 1#32
  let v63 : BitVec 32 := Scalar.muli v62 c1_i32_31
  let c1_i32_32 : BitVec 32 := 1#32
  let v64 : BitVec 32 := Scalar.subi v63 c1_i32_32
  let c1_i32_64 : BitVec 32 := 1#32
  let c1_i32_66 : BitVec 32 := 1#32
  let arg13 : BitVec 32 := Scf.iv c1_i32_64 c1_i32_66 k1_t2
  let v171 : BitVec 32 := Scalar.subi v64 arg13
  let c256_i32_71 : BitVec 32 := 256#32
  let v172 : BitVec 32 := Scalar.muli v171 c256_i32_71
  let v173 : BitVec 32 := v172
  let v174 : Index := Scalar.indexCast v173
  let c0_72 : Index := 0#32
  ![v174.toNat, 0]
@[reducible] def k1_t3_loop (k1_t1 : Fin k1_t1_loop.trips) : Scf.Loop 32 :=
  let c1_i32_64 : BitVec 32 := 1#32
  let c0_i32 : BitVec 32 := 0#32
  let c1_i32 : BitVec 32 := 1#32
  let arg12 : BitVec 32 := Scf.iv c0_i32 c1_i32 k1_t1
  let c1_i32_30 : BitVec 32 := 1#32
  let v62 : BitVec 32 := Scalar.addi arg12 c1_i32_30
  let c1_i32_31 : BitVec 32 := 1#32
  let v63 : BitVec 32 := Scalar.muli v62 c1_i32_31
  let c1_i32_32 : BitVec 32 := 1#32
  let v64 : BitVec 32 := Scalar.subi v63 c1_i32_32
  let c1_i32_63 : BitVec 32 := 1#32
  let v156 : BitVec 32 := Scalar.addi v64 c1_i32_63
  let v157 : BitVec 32 := Scalar.subi v156 c1_i32_64
  let c1_i32_65 : BitVec 32 := 1#32
  let v159 : BitVec 32 := Scalar.divsi v157 c1_i32_65
  let v160 : BitVec 32 := Scalar.muli v159 c1_i32_65
  let v161 : BitVec 32 := Scalar.addi c1_i32_64 v160
  let v158 : BitVec 32 := Scalar.addi c1_i32_64 v157
  let c1_i32_67 : BitVec 32 := 1#32
  ⟨v161, v158, c1_i32_67⟩
def k1_mult4 (k1_t1 : Fin k1_t1_loop.trips) (k1_t3 : Fin (k1_t3_loop k1_t1).trips) : BitVec 32 :=
  let c0_i32 : BitVec 32 := 0#32
  let c1_i32 : BitVec 32 := 1#32
  let arg12 : BitVec 32 := Scf.iv c0_i32 c1_i32 k1_t1
  let c1_i32_30 : BitVec 32 := 1#32
  let v62 : BitVec 32 := Scalar.addi arg12 c1_i32_30
  let c1_i32_31 : BitVec 32 := 1#32
  let v63 : BitVec 32 := Scalar.muli v62 c1_i32_31
  let c1_i32_32 : BitVec 32 := 1#32
  let v64 : BitVec 32 := Scalar.subi v63 c1_i32_32
  let c1_i32_64 : BitVec 32 := 1#32
  let c1_i32_63 : BitVec 32 := 1#32
  let v156 : BitVec 32 := Scalar.addi v64 c1_i32_63
  let v157 : BitVec 32 := Scalar.subi v156 c1_i32_64
  let c1_i32_65 : BitVec 32 := 1#32
  let v159 : BitVec 32 := Scalar.divsi v157 c1_i32_65
  let v160 : BitVec 32 := Scalar.muli v159 c1_i32_65
  let v161 : BitVec 32 := Scalar.addi c1_i32_64 v160
  let c1_i32_67 : BitVec 32 := 1#32
  let arg13 : BitVec 32 := Scf.iv v161 c1_i32_67 k1_t3
  let v171 : BitVec 32 := Scalar.subi v64 arg13
  let c256_i32_71 : BitVec 32 := 256#32
  let v172 : BitVec 32 := Scalar.muli v171 c256_i32_71
  v172
def k1_off4 (k1_t1 : Fin k1_t1_loop.trips) (k1_t3 : Fin (k1_t3_loop k1_t1).trips) : Fin 2 → Nat :=
  let c0_i32 : BitVec 32 := 0#32
  let c1_i32 : BitVec 32 := 1#32
  let arg12 : BitVec 32 := Scf.iv c0_i32 c1_i32 k1_t1
  let c1_i32_30 : BitVec 32 := 1#32
  let v62 : BitVec 32 := Scalar.addi arg12 c1_i32_30
  let c1_i32_31 : BitVec 32 := 1#32
  let v63 : BitVec 32 := Scalar.muli v62 c1_i32_31
  let c1_i32_32 : BitVec 32 := 1#32
  let v64 : BitVec 32 := Scalar.subi v63 c1_i32_32
  let c1_i32_64 : BitVec 32 := 1#32
  let c1_i32_63 : BitVec 32 := 1#32
  let v156 : BitVec 32 := Scalar.addi v64 c1_i32_63
  let v157 : BitVec 32 := Scalar.subi v156 c1_i32_64
  let c1_i32_65 : BitVec 32 := 1#32
  let v159 : BitVec 32 := Scalar.divsi v157 c1_i32_65
  let v160 : BitVec 32 := Scalar.muli v159 c1_i32_65
  let v161 : BitVec 32 := Scalar.addi c1_i32_64 v160
  let c1_i32_67 : BitVec 32 := 1#32
  let arg13 : BitVec 32 := Scf.iv v161 c1_i32_67 k1_t3
  let v171 : BitVec 32 := Scalar.subi v64 arg13
  let c256_i32_71 : BitVec 32 := 256#32
  let v172 : BitVec 32 := Scalar.muli v171 c256_i32_71
  let v173 : BitVec 32 := v172
  let v174 : Index := Scalar.indexCast v173
  let c0_72 : Index := 0#32
  ![v174.toNat, 0]
def k1_off5 (k1_t1 : Fin k1_t1_loop.trips) : Fin 3 → Nat :=
  let c0_69 : Index := 0#32
  let c0_i32 : BitVec 32 := 0#32
  let c1_i32 : BitVec 32 := 1#32
  let arg12 : BitVec 32 := Scf.iv c0_i32 c1_i32 k1_t1
  let c256_i32 : BitVec 32 := 256#32
  let v48 : BitVec 32 := Scalar.muli arg12 c256_i32
  let v49 : BitVec 32 := v48
  let v167 : Index := Scalar.indexCast v49
  let c0_70 : Index := 0#32
  ![0, v167.toNat, 0]
def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3x2048x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S2048x6144 : Shape := ⟨2, ![2048, 6144]⟩
abbrev S2048x2048 : Shape := ⟨2, ![2048, 2048]⟩
abbrev S2048x3x16x128 : Shape := ⟨4, ![2048, 3, 16, 128]⟩
abbrev S2048x1x16x128 : Shape := ⟨4, ![2048, 1, 16, 128]⟩
abbrev S2048x16x128 : Shape := ⟨3, ![2048, 16, 128]⟩
abbrev S_ : Shape := ⟨0, ![]⟩
abbrev S16x2048x2048 : Shape := ⟨3, ![16, 2048, 2048]⟩
abbrev S2048 : Shape := ⟨1, ![2048]⟩
abbrev S1x2048 : Shape := ⟨2, ![1, 2048]⟩
abbrev S2048x1 : Shape := ⟨2, ![2048, 1]⟩
abbrev S16x128x2048 : Shape := ⟨3, ![16, 128, 2048]⟩
abbrev S16x2048x128 : Shape := ⟨3, ![16, 2048, 128]⟩
abbrev S2048x3x2048 : Shape := ⟨3, ![2048, 3, 2048]⟩
abbrev S3x2048x2048 : Shape := ⟨3, ![3, 2048, 2048]⟩

abbrev nBuf : Space → Nat
  | .hbm => 182
  | .vmem => 0
  | .smem => 0
  | _ => 0

abbrev hbmTy0_0 (i : Nat) : BufTy := match i % 128 with
  | 0 => ⟨S2048x6144, .f32⟩
  | 1 => ⟨S2048x2048, .f32⟩
  | 2 => ⟨S2048x3x16x128, .f32⟩
  | 3 => ⟨S2048x1x16x128, .f32⟩
  | 4 => ⟨S2048x16x128, .f32⟩
  | 5 => ⟨S_, .f32⟩
  | 6 => ⟨S2048x16x128, .f32⟩
  | 7 => ⟨S2048x16x128, .f32⟩
  | 8 => ⟨S2048x1x16x128, .f32⟩
  | 9 => ⟨S2048x16x128, .f32⟩
  | 10 => ⟨S2048x1x16x128, .f32⟩
  | 11 => ⟨S2048x16x128, .f32⟩
  | 12 => ⟨S16x2048x2048, .f32⟩
  | 13 => ⟨S2048, .i32⟩
  | 14 => ⟨S1x2048, .i32⟩
  | 15 => ⟨S2048, .i32⟩
  | 16 => ⟨S2048x1, .i32⟩
  | 17 => ⟨S2048x2048, .i32⟩
  | 18 => ⟨S2048x2048, .i32⟩
  | 19 => ⟨S2048x2048, .i1⟩
  | 20 => ⟨S_, .f32⟩
  | 21 => ⟨S16x2048x2048, .f32⟩
  | 22 => ⟨S16x2048x2048, .f32⟩
  | 23 => ⟨S16x2048x2048, .f32⟩
  | 24 => ⟨S16x2048x2048, .f32⟩
  | 25 => ⟨S16x2048x2048, .i1⟩
  | 26 => ⟨S16x2048x2048, .f32⟩
  | 27 => ⟨S16x2048x2048, .f32⟩
  | 28 => ⟨S16x2048x2048, .f32⟩
  | 29 => ⟨S16x2048x2048, .f32⟩
  | 30 => ⟨S16x2048x2048, .f32⟩
  | 31 => ⟨S16x2048x2048, .f32⟩
  | 32 => ⟨S16x2048x2048, .f32⟩
  | 33 => ⟨S16x2048x2048, .f32⟩
  | 34 => ⟨S_, .f32⟩
  | 35 => ⟨S16x2048x2048, .f32⟩
  | 36 => ⟨S16x2048x2048, .i1⟩
  | 37 => ⟨S_, .f32⟩
  | 38 => ⟨S16x2048x2048, .f32⟩
  | 39 => ⟨S16x2048x2048, .f32⟩
  | 40 => ⟨S_, .f32⟩
  | 41 => ⟨S16x2048x2048, .f32⟩
  | 42 => ⟨S16x2048x2048, .i1⟩
  | 43 => ⟨S_, .f32⟩
  | 44 => ⟨S16x2048x2048, .f32⟩
  | 45 => ⟨S16x2048x2048, .f32⟩
  | 46 => ⟨S16x2048x2048, .f32⟩
  | 47 => ⟨S16x2048x2048, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S16x2048x2048, .f32⟩
  | 56 => ⟨S16x2048x2048, .i1⟩
  | 57 => ⟨S_, .f32⟩
  | 58 => ⟨S16x2048x2048, .f32⟩
  | 59 => ⟨S16x2048x2048, .f32⟩
  | 60 => ⟨S16x2048x2048, .f32⟩
  | 61 => ⟨S16x2048x2048, .f32⟩
  | 62 => ⟨S16x2048x2048, .f32⟩
  | 63 => ⟨S_, .f32⟩
  | 64 => ⟨S16x2048x2048, .f32⟩
  | 65 => ⟨S16x2048x2048, .f32⟩
  | 66 => ⟨S_, .f32⟩
  | 67 => ⟨S_, .f32⟩
  | 68 => ⟨S16x2048x2048, .i1⟩
  | 69 => ⟨S16x2048x2048, .f32⟩
  | 70 => ⟨S16x2048x2048, .f32⟩
  | 71 => ⟨S_, .f32⟩
  | 72 => ⟨S16x2048x2048, .f32⟩
  | 73 => ⟨S_, .f32⟩
  | 74 => ⟨S_, .f32⟩
  | 75 => ⟨S16x2048x2048, .f32⟩
  | 76 => ⟨S16x2048x2048, .f32⟩
  | 77 => ⟨S16x2048x2048, .f32⟩
  | 78 => ⟨S_, .f32⟩
  | 79 => ⟨S16x2048x2048, .f32⟩
  | 80 => ⟨S16x2048x2048, .f32⟩
  | 81 => ⟨S16x2048x2048, .f32⟩
  | 82 => ⟨S16x2048x2048, .f32⟩
  | 83 => ⟨S16x2048x2048, .i1⟩
  | 84 => ⟨S16x2048x2048, .f32⟩
  | 85 => ⟨S16x2048x2048, .f32⟩
  | 86 => ⟨S16x2048x2048, .f32⟩
  | 87 => ⟨S16x2048x2048, .f32⟩
  | 88 => ⟨S16x2048x2048, .f32⟩
  | 89 => ⟨S16x2048x2048, .f32⟩
  | 90 => ⟨S16x2048x2048, .f32⟩
  | 91 => ⟨S16x2048x2048, .f32⟩
  | 92 => ⟨S_, .f32⟩
  | 93 => ⟨S16x2048x2048, .f32⟩
  | 94 => ⟨S16x2048x2048, .i1⟩
  | 95 => ⟨S_, .f32⟩
  | 96 => ⟨S16x2048x2048, .f32⟩
  | 97 => ⟨S16x2048x2048, .f32⟩
  | 98 => ⟨S_, .f32⟩
  | 99 => ⟨S16x2048x2048, .f32⟩
  | 100 => ⟨S16x2048x2048, .i1⟩
  | 101 => ⟨S_, .f32⟩
  | 102 => ⟨S16x2048x2048, .f32⟩
  | 103 => ⟨S16x2048x2048, .f32⟩
  | 104 => ⟨S16x2048x2048, .f32⟩
  | 105 => ⟨S16x2048x2048, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S16x2048x2048, .f32⟩
  | 114 => ⟨S16x2048x2048, .i1⟩
  | 115 => ⟨S_, .f32⟩
  | 116 => ⟨S16x2048x2048, .f32⟩
  | 117 => ⟨S16x2048x2048, .f32⟩
  | 118 => ⟨S16x2048x2048, .f32⟩
  | 119 => ⟨S16x2048x2048, .f32⟩
  | 120 => ⟨S16x2048x2048, .f32⟩
  | 121 => ⟨S_, .f32⟩
  | 122 => ⟨S16x2048x2048, .f32⟩
  | 123 => ⟨S16x2048x2048, .f32⟩
  | 124 => ⟨S16x2048x2048, .f32⟩
  | 125 => ⟨S16x2048x2048, .f32⟩
  | 126 => ⟨S16x2048x2048, .f32⟩
  | 127 => ⟨S_, .f32⟩
  | _ => ⟨S2048x6144, .f32⟩

abbrev hbmTy0_1 (i : Nat) : BufTy := match i % 128 with
  | 0 => ⟨S_, .f32⟩
  | 1 => ⟨S16x2048x2048, .i1⟩
  | 2 => ⟨S16x2048x2048, .f32⟩
  | 3 => ⟨S16x2048x2048, .f32⟩
  | 4 => ⟨S_, .f32⟩
  | 5 => ⟨S16x2048x2048, .f32⟩
  | 6 => ⟨S16x128x2048, .f32⟩
  | 7 => ⟨S2048x16x128, .f32⟩
  | 8 => ⟨S2048x2048, .f32⟩
  | 9 => ⟨S2048x16x128, .f32⟩
  | 10 => ⟨S16x128x2048, .f32⟩
  | 11 => ⟨S16x2048x2048, .f32⟩
  | 12 => ⟨S16x128x2048, .f32⟩
  | 13 => ⟨S2048x16x128, .f32⟩
  | 14 => ⟨S_, .f32⟩
  | 15 => ⟨S16x2048x2048, .f32⟩
  | 16 => ⟨S16x2048x2048, .f32⟩
  | 17 => ⟨S16x2048x2048, .f32⟩
  | 18 => ⟨S16x2048x2048, .f32⟩
  | 19 => ⟨S16x2048x2048, .f32⟩
  | 20 => ⟨S16x2048x2048, .f32⟩
  | 21 => ⟨S16x2048x2048, .f32⟩
  | 22 => ⟨S16x2048x2048, .f32⟩
  | 23 => ⟨S_, .f32⟩
  | 24 => ⟨S_, .f32⟩
  | 25 => ⟨S16x2048x2048, .f32⟩
  | 26 => ⟨S16x2048x2048, .f32⟩
  | 27 => ⟨S_, .f32⟩
  | 28 => ⟨S16x2048x2048, .f32⟩
  | 29 => ⟨S16x2048x2048, .f32⟩
  | 30 => ⟨S16x2048x2048, .f32⟩
  | 31 => ⟨S16x2048x2048, .f32⟩
  | 32 => ⟨S16x2048x128, .f32⟩
  | 33 => ⟨S2048x16x128, .f32⟩
  | 34 => ⟨S16x2048x128, .f32⟩
  | 35 => ⟨S2048x16x128, .f32⟩
  | 36 => ⟨S2048x1x16x128, .f32⟩
  | 37 => ⟨S_, .f32⟩
  | 38 => ⟨S2048x3x16x128, .f32⟩
  | 39 => ⟨S2048x1x16x128, .f32⟩
  | 40 => ⟨S_, .f32⟩
  | 41 => ⟨S2048x3x16x128, .f32⟩
  | 42 => ⟨S2048x3x16x128, .f32⟩
  | 43 => ⟨S_, .f32⟩
  | 44 => ⟨S2048x16x128, .f32⟩
  | 45 => ⟨S2048x16x128, .f32⟩
  | 46 => ⟨S2048x1x16x128, .f32⟩
  | 47 => ⟨S_, .f32⟩
  | 48 => ⟨S2048x3x16x128, .f32⟩
  | 49 => ⟨S2048x3x16x128, .f32⟩
  | 50 => ⟨S2048x6144, .f32⟩
  | 51 => ⟨S2048x3x2048, .f32⟩
  | 52 => ⟨S3x2048x2048, .f32⟩
  | 53 => ⟨S3x2048x2048, .bf16⟩
  | _ => ⟨S2048x6144, .f32⟩

abbrev hbmTy (i : Nat) : BufTy := match i / 128 with
  | 0 => hbmTy0_0 i
  | 1 => hbmTy0_1 i
  | _ => ⟨S2048x6144, .f32⟩

abbrev bufTy : (tb : Table) → Fin (tcTables nBuf tb) → BufTy
  | .hbm, ⟨i, _⟩ => hbmTy i
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v17_0 : Ref sig .tc := ⟨.hbm, 33, rfl⟩
abbrev main_call0_cst_0 : Ref sig .tc := ⟨.hbm, 34, rfl⟩
abbrev main_call0_v13 : Ref sig .tc := ⟨.hbm, 35, rfl⟩
abbrev main_call0_v14 : Ref sig .tc := ⟨.hbm, 36, rfl⟩
abbrev main_call0_cst_1 : Ref sig .tc := ⟨.hbm, 37, rfl⟩
abbrev main_call0_v15 : Ref sig .tc := ⟨.hbm, 38, rfl⟩
abbrev main_call0_v16 : Ref sig .tc := ⟨.hbm, 39, rfl⟩
abbrev main_call0_cst_2 : Ref sig .tc := ⟨.hbm, 40, rfl⟩
abbrev main_call0_v17 : Ref sig .tc := ⟨.hbm, 41, rfl⟩
abbrev main_call0_v18 : Ref sig .tc := ⟨.hbm, 42, rfl⟩
abbrev main_call0_cst_3 : Ref sig .tc := ⟨.hbm, 43, rfl⟩
abbrev main_call0_v19 : Ref sig .tc := ⟨.hbm, 44, rfl⟩
abbrev main_call0_v20 : Ref sig .tc := ⟨.hbm, 45, rfl⟩
abbrev main_call0_v21 : Ref sig .tc := ⟨.hbm, 46, rfl⟩
abbrev main_v17_1 : Ref sig .tc := ⟨.hbm, 47, rfl⟩
abbrev main_call0_cst_4 : Ref sig .tc := ⟨.hbm, 48, rfl⟩
abbrev main_call0_cst_5 : Ref sig .tc := ⟨.hbm, 49, rfl⟩
abbrev main_call0_v23 : Ref sig .tc := ⟨.hbm, 50, rfl⟩
abbrev main_call0_cst_6 : Ref sig .tc := ⟨.hbm, 51, rfl⟩
abbrev main_call0_cst_7 : Ref sig .tc := ⟨.hbm, 52, rfl⟩
abbrev main_call0_v24 : Ref sig .tc := ⟨.hbm, 53, rfl⟩
abbrev main_call0_cst_8 : Ref sig .tc := ⟨.hbm, 54, rfl⟩
abbrev main_call0_v25 : Ref sig .tc := ⟨.hbm, 55, rfl⟩
abbrev main_call0_v26 : Ref sig .tc := ⟨.hbm, 56, rfl⟩
abbrev main_call0_cst_9 : Ref sig .tc := ⟨.hbm, 57, rfl⟩
abbrev main_call0_v27 : Ref sig .tc := ⟨.hbm, 58, rfl⟩
abbrev main_call0_v28 : Ref sig .tc := ⟨.hbm, 59, rfl⟩
abbrev main_call0_v29 : Ref sig .tc := ⟨.hbm, 60, rfl⟩
abbrev main_call0_v30 : Ref sig .tc := ⟨.hbm, 61, rfl⟩
abbrev main_call0_v31 : Ref sig .tc := ⟨.hbm, 62, rfl⟩
abbrev main_call0_cst_10 : Ref sig .tc := ⟨.hbm, 63, rfl⟩
abbrev main_call0_v32 : Ref sig .tc := ⟨.hbm, 64, rfl⟩
abbrev main_v17_2 : Ref sig .tc := ⟨.hbm, 65, rfl⟩
abbrev main_cst_0 : Ref sig .tc := ⟨.hbm, 66, rfl⟩
abbrev main_call1_v0 : Ref sig .tc := ⟨.hbm, 67, rfl⟩
abbrev main_v18_1 : Ref sig .tc := ⟨.hbm, 68, rfl⟩
abbrev main_call1_v2 : Ref sig .tc := ⟨.hbm, 69, rfl⟩
abbrev main_v18_0 : Ref sig .tc := ⟨.hbm, 70, rfl⟩
abbrev main_call1_cst : Ref sig .tc := ⟨.hbm, 71, rfl⟩
abbrev main_v18_2 : Ref sig .tc := ⟨.hbm, 72, rfl⟩
abbrev main_call2_cst : Ref sig .tc := ⟨.hbm, 73, rfl⟩
abbrev main_call2_v0 : Ref sig .tc := ⟨.hbm, 74, rfl⟩
abbrev main_v19 : Ref sig .tc := ⟨.hbm, 75, rfl⟩
abbrev main_v20 : Ref sig .tc := ⟨.hbm, 76, rfl⟩
abbrev main_call3_v0 : Ref sig .tc := ⟨.hbm, 77, rfl⟩
abbrev main_call3_call0_cst : Ref sig .tc := ⟨.hbm, 78, rfl⟩
abbrev main_call3_call0_v0 : Ref sig .tc := ⟨.hbm, 79, rfl⟩
abbrev main_call3_call0_v1 : Ref sig .tc := ⟨.hbm, 80, rfl⟩
abbrev main_call3_call0_v2 : Ref sig .tc := ⟨.hbm, 81, rfl⟩
abbrev main_call3_call0_v3 : Ref sig .tc := ⟨.hbm, 82, rfl⟩
abbrev main_call3_call0_v4 : Ref sig .tc := ⟨.hbm, 83, rfl⟩
abbrev main_call3_call0_v5 : Ref sig .tc := ⟨.hbm, 84, rfl⟩
abbrev main_call3_call0_v6 : Ref sig .tc := ⟨.hbm, 85, rfl⟩
abbrev main_call3_call0_v7 : Ref sig .tc := ⟨.hbm, 86, rfl⟩
abbrev main_call3_call0_v8 : Ref sig .tc := ⟨.hbm, 87, rfl⟩
abbrev main_call3_call0_v9 : Ref sig .tc := ⟨.hbm, 88, rfl⟩
abbrev main_call3_call0_v10 : Ref sig .tc := ⟨.hbm, 89, rfl⟩
abbrev main_call3_call0_v11 : Ref sig .tc := ⟨.hbm, 90, rfl⟩
abbrev main_call3_v1_0 : Ref sig .tc := ⟨.hbm, 91, rfl⟩
abbrev main_call3_call0_cst_0 : Ref sig .tc := ⟨.hbm, 92, rfl⟩
abbrev main_call3_call0_v13 : Ref sig .tc := ⟨.hbm, 93, rfl⟩
abbrev main_call3_call0_v14 : Ref sig .tc := ⟨.hbm, 94, rfl⟩
abbrev main_call3_call0_cst_1 : Ref sig .tc := ⟨.hbm, 95, rfl⟩
abbrev main_call3_call0_v15 : Ref sig .tc := ⟨.hbm, 96, rfl⟩
abbrev main_call3_call0_v16 : Ref sig .tc := ⟨.hbm, 97, rfl⟩
abbrev main_call3_call0_cst_2 : Ref sig .tc := ⟨.hbm, 98, rfl⟩
abbrev main_call3_call0_v17 : Ref sig .tc := ⟨.hbm, 99, rfl⟩
abbrev main_call3_call0_v18 : Ref sig .tc := ⟨.hbm, 100, rfl⟩
abbrev main_call3_call0_cst_3 : Ref sig .tc := ⟨.hbm, 101, rfl⟩
abbrev main_call3_call0_v19 : Ref sig .tc := ⟨.hbm, 102, rfl⟩
abbrev main_call3_call0_v20 : Ref sig .tc := ⟨.hbm, 103, rfl⟩
abbrev main_call3_call0_v21 : Ref sig .tc := ⟨.hbm, 104, rfl⟩
abbrev main_v21_1 : Ref sig .tc := ⟨.hbm, 105, rfl⟩
abbrev main_call3_call0_cst_4 : Ref sig .tc := ⟨.hbm, 106, rfl⟩
abbrev main_call3_call0_cst_5 : Ref sig .tc := ⟨.hbm, 107, rfl⟩
abbrev main_call3_call0_v23 : Ref sig .tc := ⟨.hbm, 108, rfl⟩
abbrev main_call3_call0_cst_6 : Ref sig .tc := ⟨.hbm, 109, rfl⟩
abbrev main_call3_call0_cst_7 : Ref sig .tc := ⟨.hbm, 110, rfl⟩
abbrev main_call3_call0_v24 : Ref sig .tc := ⟨.hbm, 111, rfl⟩
abbrev main_call3_call0_cst_8 : Ref sig .tc := ⟨.hbm, 112, rfl⟩
abbrev main_call3_call0_v25 : Ref sig .tc := ⟨.hbm, 113, rfl⟩
abbrev main_call3_call0_v26 : Ref sig .tc := ⟨.hbm, 114, rfl⟩
abbrev main_call3_call0_cst_9 : Ref sig .tc := ⟨.hbm, 115, rfl⟩
abbrev main_call3_call0_v27 : Ref sig .tc := ⟨.hbm, 116, rfl⟩
abbrev main_call3_call0_v28 : Ref sig .tc := ⟨.hbm, 117, rfl⟩
abbrev main_call3_call0_v29 : Ref sig .tc := ⟨.hbm, 118, rfl⟩
abbrev main_call3_call0_v30 : Ref sig .tc := ⟨.hbm, 119, rfl⟩
abbrev main_call3_call0_v31 : Ref sig .tc := ⟨.hbm, 120, rfl⟩
abbrev main_call3_call0_cst_10 : Ref sig .tc := ⟨.hbm, 121, rfl⟩
abbrev main_call3_call0_v32 : Ref sig .tc := ⟨.hbm, 122, rfl⟩
abbrev main_v21_2 : Ref sig .tc := ⟨.hbm, 123, rfl⟩
abbrev main_v21_0 : Ref sig .tc := ⟨.hbm, 124, rfl⟩
abbrev main_v22 : Ref sig .tc := ⟨.hbm, 125, rfl⟩
abbrev main_v23 : Ref sig .tc := ⟨.hbm, 126, rfl⟩
abbrev main_cst_1 : Ref sig .tc := ⟨.hbm, 127, rfl⟩
abbrev main_call4_v0 : Ref sig .tc := ⟨.hbm, 128, rfl⟩
abbrev main_v24_1 : Ref sig .tc := ⟨.hbm, 129, rfl⟩
abbrev main_call4_v2 : Ref sig .tc := ⟨.hbm, 130, rfl⟩
abbrev main_v24_0 : Ref sig .tc := ⟨.hbm, 131, rfl⟩
abbrev main_call4_cst : Ref sig .tc := ⟨.hbm, 132, rfl⟩
abbrev main_v24_2 : Ref sig .tc := ⟨.hbm, 133, rfl⟩
abbrev main_v25 : Ref sig .tc := ⟨.hbm, 134, rfl⟩
abbrev main_v26 : Ref sig .tc := ⟨.hbm, 135, rfl⟩
abbrev main_v27 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_v31 : Ref sig .tc := ⟨.hbm, 140, rfl⟩
abbrev main_v32 : Ref sig .tc := ⟨.hbm, 141, rfl⟩
abbrev main_call5_cst : Ref sig .tc := ⟨.hbm, 142, rfl⟩
abbrev main_call5_v0 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_call6_v0 : Ref sig .tc := ⟨.hbm, 147, rfl⟩
abbrev main_call6_v1 : Ref sig .tc := ⟨.hbm, 148, rfl⟩
abbrev main_v36 : Ref sig .tc := ⟨.hbm, 149, rfl⟩
abbrev main_v37 : Ref sig .tc := ⟨.hbm, 150, rfl⟩
abbrev main_call7_cst : Ref sig .tc := ⟨.hbm, 151, rfl⟩
abbrev main_call7_v0 : Ref sig .tc := ⟨.hbm, 152, rfl⟩
abbrev main_v38 : Ref sig .tc := ⟨.hbm, 153, rfl⟩
abbrev main_v39 : Ref sig .tc := ⟨.hbm, 154, rfl⟩
abbrev main_call8_cst : Ref sig .tc := ⟨.hbm, 155, rfl⟩
abbrev main_call8_v0 : Ref sig .tc := ⟨.hbm, 156, rfl⟩
abbrev main_v40 : Ref sig .tc := ⟨.hbm, 157, rfl⟩
abbrev main_v41 : Ref sig .tc := ⟨.hbm, 158, rfl⟩
abbrev main_v42 : Ref sig .tc := ⟨.hbm, 159, rfl⟩
abbrev main_v43 : Ref sig .tc := ⟨.hbm, 160, rfl⟩
abbrev main_v44 : Ref sig .tc := ⟨.hbm, 161, rfl⟩
abbrev main_v45 : Ref sig .tc := ⟨.hbm, 162, rfl⟩
abbrev main_v46 : Ref sig .tc := ⟨.hbm, 163, rfl⟩
abbrev main_v47 : Ref sig .tc := ⟨.hbm, 164, rfl⟩
abbrev main_cst_2 : Ref sig .tc := ⟨.hbm, 165, rfl⟩
abbrev main_v48 : Ref sig .tc := ⟨.hbm, 166, rfl⟩
abbrev main_v49 : Ref sig .tc := ⟨.hbm, 167, rfl⟩
abbrev main_cst_3 : Ref sig .tc := ⟨.hbm, 168, rfl⟩
abbrev main_v50 : Ref sig .tc := ⟨.hbm, 169, rfl⟩
abbrev main_v51 : Ref sig .tc := ⟨.hbm, 170, rfl⟩
abbrev main_cst_4 : Ref sig .tc := ⟨.hbm, 171, rfl⟩
abbrev main_v52 : Ref sig .tc := ⟨.hbm, 172, rfl⟩
abbrev main_v53 : Ref sig .tc := ⟨.hbm, 173, rfl⟩
abbrev main_v54 : Ref sig .tc := ⟨.hbm, 174, rfl⟩
abbrev main_cst_5 : Ref sig .tc := ⟨.hbm, 175, rfl⟩
abbrev main_v55 : Ref sig .tc := ⟨.hbm, 176, rfl⟩
abbrev main_v56 : Ref sig .tc := ⟨.hbm, 177, rfl⟩
abbrev main_v57 : Ref sig .tc := ⟨.hbm, 178, rfl⟩
abbrev main_v58 : Ref sig .tc := ⟨.hbm, 179, rfl⟩
abbrev main_v59 : Ref sig .tc := ⟨.hbm, 180, rfl⟩
abbrev main_v60 : Ref sig .tc := ⟨.hbm, 181, rfl⟩

abbrev nD : Nat := 1
abbrev τ : Topo := Topo.v7x

variable {F : FTy → Type} [FloatOps F]
-- ==== DwUp.lean ====
abbrev S2048x2048 : Shape := ⟨2, ![2048, 2048]⟩
abbrev S2x2048x5632 : Shape := ⟨3, ![2, 2048, 5632]⟩
abbrev S2048x11264 : Shape := ⟨2, ![2048, 11264]⟩
abbrev S2048x1024 : Shape := ⟨2, ![2048, 1024]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c11_i32_0 : BitVec 32 := 11#32
  let v1 : BitVec 32 := Scalar.remsi arg1 c11_i32_0
  let c0_i32 : BitVec 32 := 0#32
  ![v0.toNat, arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpReferenceIdeal.lean ====
abbrev S2048x2048 : Shape := ⟨2, ![2048, 2048]⟩
abbrev S2x2048x5632 : Shape := ⟨3, ![2, 2048, 5632]⟩
abbrev S2048x2x5632 : Shape := ⟨3, ![2048, 2, 5632]⟩
abbrev S2048x11264 : Shape := ⟨2, ![2048, 11264]⟩
abbrev S_ : Shape := ⟨0, ![]⟩
abbrev S11264x2048 : Shape := ⟨2, ![11264, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S2048x2x5632, .bf16⟩
  | .hbm, ⟨3, _⟩ => ⟨S2048x11264, .bf16⟩
  | .hbm, ⟨4, _⟩ => ⟨S_, .bf16⟩
  | .hbm, ⟨5, _⟩ => ⟨S2048x11264, .bf16⟩
  | .hbm, ⟨6, _⟩ => ⟨S2048x2048, .f32⟩
  | .hbm, ⟨7, _⟩ => ⟨S2048x11264, .f32⟩
  | .hbm, ⟨8, _⟩ => ⟨S2048x11264, .f32⟩
  | .hbm, ⟨9, _⟩ => ⟨S2048x11264, .f32⟩
  | .hbm, ⟨10, _⟩ => ⟨S11264x2048, .f32⟩
  | .hbm, ⟨11, _⟩ => ⟨S2048x11264, .f32⟩
  | .hbm, ⟨12, _⟩ => ⟨S2048x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DUp.lean ====
abbrev S2x2048x5632 : Shape := ⟨3, ![2, 2048, 5632]⟩
abbrev S2048x11264 : Shape := ⟨2, ![2048, 11264]⟩
abbrev S2048x2048 : Shape := ⟨2, ![2048, 2048]⟩
abbrev S1x1024x2816 : Shape := ⟨3, ![1, 1024, 2816]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S2048x11264, .bf16⟩
  | .hbm, ⟨2, _⟩ => ⟨S2048x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c2_i32_0 : BitVec 32 := 2#32
  let v1 : BitVec 32 := Scalar.remsi arg2 c2_i32_0
  let c0_i32 : BitVec 32 := 0#32
  ![v0.toNat, arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DUpReferenceIdeal.lean ====
abbrev S2x2048x5632 : Shape := ⟨3, ![2, 2048, 5632]⟩
abbrev S2048x11264 : Shape := ⟨2, ![2048, 11264]⟩
abbrev S2048x2x5632 : Shape := ⟨3, ![2048, 2, 5632]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S2048x11264, .bf16⟩
  | .hbm, ⟨2, _⟩ => ⟨S2048x2x5632, .bf16⟩
  | .hbm, ⟨3, _⟩ => ⟨S2048x11264, .bf16⟩
  | .hbm, ⟨4, _⟩ => ⟨S_, .f32⟩
  | .hbm, ⟨5, _⟩ => ⟨S2048x2048, .f32⟩
  | .hbm, ⟨6, _⟩ => ⟨S2048x11264, .f32⟩
  | .hbm, ⟨7, _⟩ => ⟨S2048x11264, .f32⟩
  | .hbm, ⟨8, _⟩ => ⟨S2048x11264, .f32⟩
  | .hbm, ⟨9, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S2048x2048 : Shape := ⟨2, ![2048, 2048]⟩
abbrev S2048x11264 : Shape := ⟨2, ![2048, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S2048x2048 : Shape := ⟨2, ![2048, 2048]⟩
abbrev S2048x11264 : Shape := ⟨2, ![2048, 11264]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x2048, .f32⟩
  | .hbm, ⟨3, _⟩ => ⟨S2048x11264, .f32⟩
  | .hbm, ⟨4, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwDown.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownReferenceIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .bf16⟩
  | .hbm, ⟨3, _⟩ => ⟨S5632x2048, .bf16⟩
  | .hbm, ⟨4, _⟩ => ⟨S2048x5632, .f32⟩
  | .hbm, ⟨5, _⟩ => ⟨S5632x2048, .f32⟩
  | .hbm, ⟨6, _⟩ => ⟨S2048x2048, .f32⟩
  | .hbm, ⟨7, _⟩ => ⟨S2048x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DAct.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActReferenceIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S_, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | .hbm, ⟨7, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Down.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwHgIn.lean ====
abbrev S2048x2048 : Shape := ⟨2, ![2048, 2048]⟩
abbrev S4x2048x2048 : Shape := ⟨3, ![4, 2048, 2048]⟩
abbrev S2048x8192 : Shape := ⟨2, ![2048, 8192]⟩
abbrev S2048x1024 : Shape := ⟨2, ![2048, 1024]⟩
abbrev S1x2048x1024 : Shape := ⟨3, ![1, 2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | .hbm, ⟨2, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c2_i32_0 : BitVec 32 := 2#32
  let v1 : BitVec 32 := Scalar.remsi arg1 c2_i32_0
  let c0_i32 : BitVec 32 := 0#32
  ![v0.toNat, arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwHgInReferenceIdeal.lean ====
abbrev S2048x2048 : Shape := ⟨2, ![2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S_ : Shape := ⟨0, ![]⟩
abbrev S8192x2048 : Shape := ⟨2, ![8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | .hbm, ⟨2, _⟩ => ⟨S2048x4x2048, .bf16⟩
  | .hbm, ⟨3, _⟩ => ⟨S2048x8192, .bf16⟩
  | .hbm, ⟨4, _⟩ => ⟨S_, .bf16⟩
  | .hbm, ⟨5, _⟩ => ⟨S2048x8192, .bf16⟩
  | .hbm, ⟨6, _⟩ => ⟨S2048x2048, .f32⟩
  | .hbm, ⟨7, _⟩ => ⟨S2048x8192, .f32⟩
  | .hbm, ⟨8, _⟩ => ⟨S2048x8192, .f32⟩
  | .hbm, ⟨9, _⟩ => ⟨S2048x8192, .f32⟩
  | .hbm, ⟨10, _⟩ => ⟨S8192x2048, .f32⟩
  | .hbm, ⟨11, _⟩ => ⟨S2048x8192, .f32⟩
  | .hbm, ⟨12, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DHgIn.lean ====
abbrev S4x2048x2048 : Shape := ⟨3, ![4, 2048, 2048]⟩
abbrev S2048x8192 : Shape := ⟨2, ![2048, 8192]⟩
abbrev S2048x2048 : Shape := ⟨2, ![2048, 2048]⟩
abbrev S1x1024x2048 : Shape := ⟨3, ![1, 1024, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x2048x2048, .bf16⟩
  | .hbm, ⟨1, _⟩ => ⟨S2048x8192, .bf16⟩
  | .hbm, ⟨2, _⟩ => ⟨S2048x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c1_i32_0 : BitVec 32 := 1#32
  let v1 : BitVec 32 := Scalar.remsi arg2 c1_i32_0
  let c0_i32 : BitVec 32 := 0#32
  ![v0.toNat, arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHgInReferenceIdeal.lean ====
abbrev S4x2048x2048 : Shape := ⟨3, ![4, 2048, 2048]⟩
abbrev S2048x8192 : Shape := ⟨2, ![2048, 8192]⟩
abbrev S2048x4x2048 : Shape := ⟨3, ![2048, 4, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2048x8192, .bf16⟩
  | .hbm, ⟨2, _⟩ => ⟨S2048x4x2048, .bf16⟩
  | .hbm, ⟨3, _⟩ => ⟨S2048x8192, .bf16⟩
  | .hbm, ⟨4, _⟩ => ⟨S_, .f32⟩
  | .hbm, ⟨5, _⟩ => ⟨S2048x2048, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x2048, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== HgIn.lean ====
abbrev S2048x2048 : Shape := ⟨2, ![2048, 2048]⟩
abbrev S2048x8192 : Shape := ⟨2, ![2048, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgInReferenceIdeal.lean ====
abbrev S2048x2048 : Shape := ⟨2, ![2048, 2048]⟩
abbrev S2048x8192 : Shape := ⟨2, ![2048, 8192]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x2048, .f32⟩
  | .hbm, ⟨3, _⟩ => ⟨S2048x8192, .f32⟩
  | .hbm, ⟨4, _⟩ => ⟨S2048x8192, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== NbIn.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NbInReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== AdamQkv.lean ====
abbrev S4x1x2048x768 : Shape := ⟨4, ![4, 1, 2048, 768]⟩
abbrev S1x2048x768 : Shape := ⟨3, ![1, 2048, 768]⟩
abbrev S1x1x256x768 : Shape := ⟨4, ![1, 1, 256, 768]⟩
abbrev S1x256x768 : Shape := ⟨3, ![1, 256, 768]⟩
abbrev S256x768 : Shape := ⟨2, ![256, 768]⟩

abbrev nBuf : Space → Nat
  | .hbm => 12
  | .vmem => 22
  | .smem => 0
  | _ => 0

abbrev bufTy : (tb : Table) → Fin (tcTables nBuf tb) → BufTy
  | .hbm, ⟨0, _⟩ => ⟨S4x1x2048x768, .bf16⟩
  | .hbm, ⟨1, _⟩ => ⟨S1x2048x768, .f32⟩
  | .hbm, ⟨2, _⟩ => ⟨S1x2048x768, .f32⟩
  | .hbm, ⟨3, _⟩ => ⟨S1x2048x768, .f32⟩
  | .hbm, ⟨4, _⟩ => ⟨S1x2048x768, .f32⟩
  | .hbm, ⟨5, _⟩ => ⟨S1x2048x768, .f32⟩
  | .hbm, ⟨6, _⟩ => ⟨S1x2048x768, .f32⟩
  | .hbm, ⟨7, _⟩ => ⟨S1x2048x768, .f32⟩
  | .hbm, ⟨8, _⟩ => ⟨S1x2048x768, .f32⟩
  | .hbm, ⟨9, _⟩ => ⟨S1x2048x768, .f32⟩
  | .hbm, ⟨10, _⟩ => ⟨S1x2048x768, .f32⟩
  | .hbm, ⟨11, _⟩ => ⟨S1x2048x768, .f32⟩
  | .local _ .vmem, ⟨0, _⟩ => ⟨S1x1x256x768, .bf16⟩
  | .local _ .vmem, ⟨1, _⟩ => ⟨S1x1x256x768, .bf16⟩
  | .local _ .vmem, ⟨2, _⟩ => ⟨S1x1x256x768, .bf16⟩
  | .local _ .vmem, ⟨3, _⟩ => ⟨S1x1x256x768, .bf16⟩
  | .local _ .vmem, ⟨4, _⟩ => ⟨S1x1x256x768, .bf16⟩
  | .local _ .vmem, ⟨5, _⟩ => ⟨S1x1x256x768, .bf16⟩
  | .local _ .vmem, ⟨6, _⟩ => ⟨S1x1x256x768, .bf16⟩
  | .local _ .vmem, ⟨7, _⟩ => ⟨S1x1x256x768, .bf16⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | .local _ .vmem, ⟨18, _⟩ => ⟨S1x256x768, .f32⟩
  | .local _ .vmem, ⟨19, _⟩ => ⟨S1x256x768, .f32⟩
  | .local _ .vmem, ⟨20, _⟩ => ⟨S1x256x768, .f32⟩
  | .local _ .vmem, ⟨21, _⟩ => ⟨S1x256x768, .f32⟩
  | _, _ => ⟨S4x1x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamQkvIdeal.lean ====
abbrev S4x1x2048x768 : Shape := ⟨4, ![4, 1, 2048, 768]⟩
abbrev S1x2048x768 : Shape := ⟨3, ![1, 2048, 768]⟩
abbrev S1x1x256x768 : Shape := ⟨4, ![1, 1, 256, 768]⟩
abbrev S1x256x768 : Shape := ⟨3, ![1, 256, 768]⟩
abbrev S256x768 : Shape := ⟨2, ![256, 768]⟩

abbrev nBuf : Space → Nat
  | .hbm => 12
  | .vmem => 22
  | .smem => 0
  | _ => 0

abbrev bufTy : (tb : Table) → Fin (tcTables nBuf tb) → BufTy
  | .hbm, ⟨0, _⟩ => ⟨S4x1x2048x768, .bf16⟩
  | .hbm, ⟨1, _⟩ => ⟨S1x2048x768, .f32⟩
  | .hbm, ⟨2, _⟩ => ⟨S1x2048x768, .f32⟩
  | .hbm, ⟨3, _⟩ => ⟨S1x2048x768, .f32⟩
  | .hbm, ⟨4, _⟩ => ⟨S1x2048x768, .f32⟩
  | .hbm, ⟨5, _⟩ => ⟨S1x2048x768, .f32⟩
  | .hbm, ⟨6, _⟩ => ⟨S1x2048x768, .f32⟩
  | .hbm, ⟨7, _⟩ => ⟨S1x2048x768, .f32⟩
  | .hbm, ⟨8, _⟩ => ⟨S1x2048x768, .f32⟩
  | .hbm, ⟨9, _⟩ => ⟨S1x2048x768, .f32⟩
  | .hbm, ⟨10, _⟩ => ⟨S1x2048x768, .f32⟩
  | .hbm, ⟨11, _⟩ => ⟨S1x2048x768, .f32⟩
  | .local _ .vmem, ⟨0, _⟩ => ⟨S1x1x256x768, .bf16⟩
  | .local _ .vmem, ⟨1, _⟩ => ⟨S1x1x256x768, .bf16⟩
  | .local _ .vmem, ⟨2, _⟩ => ⟨S1x1x256x768, .bf16⟩
  | .local _ .vmem, ⟨3, _⟩ => ⟨S1x1x256x768, .bf16⟩
  | .local _ .vmem, ⟨4, _⟩ => ⟨S1x1x256x768, .bf16⟩
  | .local _ .vmem, ⟨5, _⟩ => ⟨S1x1x256x768, .bf16⟩
  | .local _ .vmem, ⟨6, _⟩ => ⟨S1x1x256x768, .bf16⟩
  | .local _ .vmem, ⟨7, _⟩ => ⟨S1x1x256x768, .bf16⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | .local _ .vmem, ⟨18, _⟩ => ⟨S1x256x768, .f32⟩
  | .local _ .vmem, ⟨19, _⟩ => ⟨S1x256x768, .f32⟩
  | .local _ .vmem, ⟨20, _⟩ => ⟨S1x256x768, .f32⟩
  | .local _ .vmem, ⟨21, _⟩ => ⟨S1x256x768, .f32⟩
  | _, _ => ⟨S4x1x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamQkvReferenceIdeal.lean ====
abbrev S4x1x2048x768 : Shape := ⟨4, ![4, 1, 2048, 768]⟩
abbrev S1x2048x768 : Shape := ⟨3, ![1, 2048, 768]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4x1x2048x768, .bf16⟩
  | .hbm, ⟨1, _⟩ => ⟨S1x2048x768, .f32⟩
  | .hbm, ⟨2, _⟩ => ⟨S1x2048x768, .f32⟩
  | .hbm, ⟨3, _⟩ => ⟨S1x2048x768, .f32⟩
  | .hbm, ⟨4, _⟩ => ⟨S1x2048x768, .f32⟩
  | .hbm, ⟨5, _⟩ => ⟨S1x2048x768, .f32⟩
  | .hbm, ⟨6, _⟩ => ⟨S1x2048x768, .f32⟩
  | .hbm, ⟨7, _⟩ => ⟨S1x2048x768, .f32⟩
  | .hbm, ⟨8, _⟩ => ⟨S4x1x2048x768, .f32⟩
  | .hbm, ⟨9, _⟩ => ⟨S_, .f32⟩
  | .hbm, ⟨10, _⟩ => ⟨S1x2048x768, .f32⟩
  | .hbm, ⟨11, _⟩ => ⟨S_, .f32⟩
  | .hbm, ⟨12, _⟩ => ⟨S1x2048x768, .f32⟩
  | .hbm, ⟨13, _⟩ => ⟨S1x2048x768, .f32⟩
  | .hbm, ⟨14, _⟩ => ⟨S_, .f32⟩
  | .hbm, ⟨15, _⟩ => ⟨S1x2048x768, .f32⟩
  | .hbm, ⟨16, _⟩ => ⟨S1x2048x768, .f32⟩
  | .hbm, ⟨17, _⟩ => ⟨S1x2048x768, .f32⟩
  | .hbm, ⟨18, _⟩ => ⟨S_, .f32⟩
  | .hbm, ⟨19, _⟩ => ⟨S1x2048x768, .f32⟩
  | .hbm, ⟨20, _⟩ => ⟨S1x2048x768, .f32⟩
  | .hbm, ⟨21, _⟩ => ⟨S1x2048x768, .f32⟩
  | .hbm, ⟨22, _⟩ => ⟨S_, .f32⟩
  | .hbm, ⟨23, _⟩ => ⟨S1x2048x768, .f32⟩
  | .hbm, ⟨24, _⟩ => ⟨S1x2048x768, .f32⟩
  | .hbm, ⟨25, _⟩ => ⟨S1x2048x768, .f32⟩
  | .hbm, ⟨26, _⟩ => ⟨S_, .f32⟩
  | .hbm, ⟨27, _⟩ => ⟨S1x2048x768, .f32⟩
  | .hbm, ⟨28, _⟩ => ⟨S1x2048x768, .f32⟩
  | .hbm, ⟨29, _⟩ => ⟨S_, .f32⟩
  | .hbm, ⟨30, _⟩ => ⟨S1x2048x768, .f32⟩
  | .hbm, ⟨31, _⟩ => ⟨S1x2048x768, .f32⟩
  | .hbm, ⟨32, _⟩ => ⟨S1x2048x768, .f32⟩
  | .hbm, ⟨33, _⟩ => ⟨S_, .f32⟩
  | .hbm, ⟨34, _⟩ => ⟨S1x2048x768, .f32⟩
  | .hbm, ⟨35, _⟩ => ⟨S1x2048x768, .f32⟩
  | .hbm, ⟨36, _⟩ => ⟨S1x2048x768, .f32⟩
  | .hbm, ⟨37, _⟩ => ⟨S_, .f32⟩
  | .hbm, ⟨38, _⟩ => ⟨S1x2048x768, .f32⟩
  | .hbm, ⟨39, _⟩ => ⟨S1x2048x768, .f32⟩
  | .hbm, ⟨40, _⟩ => ⟨S1x2048x768, .f32⟩
  | .hbm, ⟨41, _⟩ => ⟨S_, .f32⟩
  | .hbm, ⟨42, _⟩ => ⟨S1x2048x768, .f32⟩
  | .hbm, ⟨43, _⟩ => ⟨S1x2048x768, .f32⟩
  | _, _ => ⟨S4x1x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== AdamSmall.lean ====
abbrev S592x128 : Shape := ⟨2, ![592, 128]⟩

abbrev nBuf : Space → Nat
  | .hbm => 7
  | .vmem => 7
  | .smem => 0
  | _ => 0

abbrev bufTy : (tb : Table) → Fin (tcTables nBuf tb) → BufTy
  | .hbm, ⟨0, _⟩ => ⟨S592x128, .f32⟩
  | .hbm, ⟨1, _⟩ => ⟨S592x128, .f32⟩
  | .hbm, ⟨2, _⟩ => ⟨S592x128, .f32⟩
  | .hbm, ⟨3, _⟩ => ⟨S592x128, .f32⟩
  | .hbm, ⟨4, _⟩ => ⟨S592x128, .f32⟩
  | .hbm, ⟨5, _⟩ => ⟨S592x128, .f32⟩
  | .hbm, ⟨6, _⟩ => ⟨S592x128, .f32⟩
  | .local _ .vmem, ⟨0, _⟩ => ⟨S592x128, .f32⟩
  | .local _ .vmem, ⟨1, _⟩ => ⟨S592x128, .f32⟩
  | .local _ .vmem, ⟨2, _⟩ => ⟨S592x128, .f32⟩
  | .local _ .vmem, ⟨3, _⟩ => ⟨S592x128, .f32⟩
  | .local _ .vmem, ⟨4, _⟩ => ⟨S592x128, .f32⟩
  | .local _ .vmem, ⟨5, _⟩ => ⟨S592x128, .f32⟩
  | .local _ .vmem, ⟨6, _⟩ => ⟨S592x128, .f32⟩
  | _, _ => ⟨S592x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S592x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S592x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S592x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S592x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S592x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S592x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S592x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSmallReferenceIdeal.lean ====
abbrev S592x128 : Shape := ⟨2, ![592, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S592x128, .f32⟩
  | .hbm, ⟨1, _⟩ => ⟨S592x128, .f32⟩
  | .hbm, ⟨2, _⟩ => ⟨S592x128, .f32⟩
  | .hbm, ⟨3, _⟩ => ⟨S592x128, .f32⟩
  | .hbm, ⟨4, _⟩ => ⟨S_, .f32⟩
  | .hbm, ⟨5, _⟩ => ⟨S592x128, .f32⟩
  | .hbm, ⟨6, _⟩ => ⟨S592x128, .f32⟩
  | .hbm, ⟨7, _⟩ => ⟨S_, .f32⟩
  | .hbm, ⟨8, _⟩ => ⟨S592x128, .f32⟩
  | .hbm, ⟨9, _⟩ => ⟨S592x128, .f32⟩
  | .hbm, ⟨10, _⟩ => ⟨S592x128, .f32⟩
  | .hbm, ⟨11, _⟩ => ⟨S_, .f32⟩
  | .hbm, ⟨12, _⟩ => ⟨S592x128, .f32⟩
  | .hbm, ⟨13, _⟩ => ⟨S592x128, .f32⟩
  | .hbm, ⟨14, _⟩ => ⟨S592x128, .f32⟩
  | .hbm, ⟨15, _⟩ => ⟨S_, .f32⟩
  | .hbm, ⟨16, _⟩ => ⟨S592x128, .f32⟩
  | .hbm, ⟨17, _⟩ => ⟨S592x128, .f32⟩
  | .hbm, ⟨18, _⟩ => ⟨S592x128, .f32⟩
  | .hbm, ⟨19, _⟩ => ⟨S_, .f32⟩
  | .hbm, ⟨20, _⟩ => ⟨S592x128, .f32⟩
  | .hbm, ⟨21, _⟩ => ⟨S592x128, .f32⟩
  | .hbm, ⟨22, _⟩ => ⟨S_, .f32⟩
  | .hbm, ⟨23, _⟩ => ⟨S592x128, .f32⟩
  | .hbm, ⟨24, _⟩ => ⟨S592x128, .f32⟩
  | .hbm, ⟨25, _⟩ => ⟨S592x128, .f32⟩
  | .hbm, ⟨26, _⟩ => ⟨S_, .f32⟩
  | .hbm, ⟨27, _⟩ => ⟨S592x128, .f32⟩
  | .hbm, ⟨28, _⟩ => ⟨S592x128, .f32⟩
  | .hbm, ⟨29, _⟩ => ⟨S592x128, .f32⟩
  | .hbm, ⟨30, _⟩ => ⟨S_, .f32⟩
  | .hbm, ⟨31, _⟩ => ⟨S592x128, .f32⟩
  | .hbm, ⟨32, _⟩ => ⟨S592x128, .f32⟩
  | .hbm, ⟨33, _⟩ => ⟨S592x128, .f32⟩
  | .hbm, ⟨34, _⟩ => ⟨S_, .f32⟩
  | .hbm, ⟨35, _⟩ => ⟨S592x128, .f32⟩
  | .hbm, ⟨36, _⟩ => ⟨S592x128, .f32⟩
  | _, _ => ⟨S592x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSbOut.lean ====
abbrev S4x1x256x2048 : Shape := ⟨4, ![4, 1, 256, 2048]⟩
abbrev S1x256x2048 : Shape := ⟨3, ![1, 256, 2048]⟩
abbrev S1x1x128x2048 : Shape := ⟨4, ![1, 1, 128, 2048]⟩
abbrev S1x128x2048 : Shape := ⟨3, ![1, 128, 2048]⟩
abbrev S128x2048 : Shape := ⟨2, ![128, 2048]⟩

abbrev nBuf : Space → Nat
  | .hbm => 12
  | .vmem => 22
  | .smem => 0
  | _ => 0

abbrev bufTy : (tb : Table) → Fin (tcTables nBuf tb) → BufTy
  | .hbm, ⟨0, _⟩ => ⟨S4x1x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S1x256x2048, .f32⟩
  | .hbm, ⟨7, _⟩ => ⟨S1x256x2048, .f32⟩
  | .hbm, ⟨8, _⟩ => ⟨S1x256x2048, .f32⟩
  | .hbm, ⟨9, _⟩ => ⟨S1x256x2048, .f32⟩
  | .hbm, ⟨10, _⟩ => ⟨S1x256x2048, .f32⟩
  | .hbm, ⟨11, _⟩ => ⟨S1x256x2048, .f32⟩
  | .local _ .vmem, ⟨0, _⟩ => ⟨S1x1x128x2048, .bf16⟩
  | .local _ .vmem, ⟨1, _⟩ => ⟨S1x1x128x2048, .bf16⟩
  | .local _ .vmem, ⟨2, _⟩ => ⟨S1x1x128x2048, .bf16⟩
  | .local _ .vmem, ⟨3, _⟩ => ⟨S1x1x128x2048, .bf16⟩
  | .local _ .vmem, ⟨4, _⟩ => ⟨S1x1x128x2048, .bf16⟩
  | .local _ .vmem, ⟨5, _⟩ => ⟨S1x1x128x2048, .bf16⟩
  | .local _ .vmem, ⟨6, _⟩ => ⟨S1x1x128x2048, .bf16⟩
  | .local _ .vmem, ⟨7, _⟩ => ⟨S1x1x128x2048, .bf16⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | _, _ => ⟨S4x1x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamSbOutIdeal.lean ====
abbrev S4x1x256x2048 : Shape := ⟨4, ![4, 1, 256, 2048]⟩
abbrev S1x256x2048 : Shape := ⟨3, ![1, 256, 2048]⟩
abbrev S1x1x128x2048 : Shape := ⟨4, ![1, 1, 128, 2048]⟩
abbrev S1x128x2048 : Shape := ⟨3, ![1, 128, 2048]⟩
abbrev S128x2048 : Shape := ⟨2, ![128, 2048]⟩

abbrev nBuf : Space → Nat
  | .hbm => 12
  | .vmem => 22
  | .smem => 0
  | _ => 0

abbrev bufTy : (tb : Table) → Fin (tcTables nBuf tb) → BufTy
  | .hbm, ⟨0, _⟩ => ⟨S4x1x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S1x256x2048, .f32⟩
  | .hbm, ⟨7, _⟩ => ⟨S1x256x2048, .f32⟩
  | .hbm, ⟨8, _⟩ => ⟨S1x256x2048, .f32⟩
  | .hbm, ⟨9, _⟩ => ⟨S1x256x2048, .f32⟩
  | .hbm, ⟨10, _⟩ => ⟨S1x256x2048, .f32⟩
  | .hbm, ⟨11, _⟩ => ⟨S1x256x2048, .f32⟩
  | .local _ .vmem, ⟨0, _⟩ => ⟨S1x1x128x2048, .bf16⟩
  | .local _ .vmem, ⟨1, _⟩ => ⟨S1x1x128x2048, .bf16⟩
  | .local _ .vmem, ⟨2, _⟩ => ⟨S1x1x128x2048, .bf16⟩
  | .local _ .vmem, ⟨3, _⟩ => ⟨S1x1x128x2048, .bf16⟩
  | .local _ .vmem, ⟨4, _⟩ => ⟨S1x1x128x2048, .bf16⟩
  | .local _ .vmem, ⟨5, _⟩ => ⟨S1x1x128x2048, .bf16⟩
  | .local _ .vmem, ⟨6, _⟩ => ⟨S1x1x128x2048, .bf16⟩
  | .local _ .vmem, ⟨7, _⟩ => ⟨S1x1x128x2048, .bf16⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | _, _ => ⟨S4x1x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamSbOutReferenceIdeal.lean ====
abbrev S4x1x256x2048 : Shape := ⟨4, ![4, 1, 256, 2048]⟩
abbrev S1x256x2048 : Shape := ⟨3, ![1, 256, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4x1x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S1x256x2048, .f32⟩
  | .hbm, ⟨7, _⟩ => ⟨S1x256x2048, .f32⟩
  | .hbm, ⟨8, _⟩ => ⟨S4x1x256x2048, .f32⟩
  | .hbm, ⟨9, _⟩ => ⟨S_, .f32⟩
  | .hbm, ⟨10, _⟩ => ⟨S1x256x2048, .f32⟩
  | .hbm, ⟨11, _⟩ => ⟨S_, .f32⟩
  | .hbm, ⟨12, _⟩ => ⟨S1x256x2048, .f32⟩
  | .hbm, ⟨13, _⟩ => ⟨S1x256x2048, .f32⟩
  | .hbm, ⟨14, _⟩ => ⟨S_, .f32⟩
  | .hbm, ⟨15, _⟩ => ⟨S1x256x2048, .f32⟩
  | .hbm, ⟨16, _⟩ => ⟨S1x256x2048, .f32⟩
  | .hbm, ⟨17, _⟩ => ⟨S1x256x2048, .f32⟩
  | .hbm, ⟨18, _⟩ => ⟨S_, .f32⟩
  | .hbm, ⟨19, _⟩ => ⟨S1x256x2048, .f32⟩
  | .hbm, ⟨20, _⟩ => ⟨S1x256x2048, .f32⟩
  | .hbm, ⟨21, _⟩ => ⟨S1x256x2048, .f32⟩
  | .hbm, ⟨22, _⟩ => ⟨S_, .f32⟩
  | .hbm, ⟨23, _⟩ => ⟨S1x256x2048, .f32⟩
  | .hbm, ⟨24, _⟩ => ⟨S1x256x2048, .f32⟩
  | .hbm, ⟨25, _⟩ => ⟨S1x256x2048, .f32⟩
  | .hbm, ⟨26, _⟩ => ⟨S_, .f32⟩
  | .hbm, ⟨27, _⟩ => ⟨S1x256x2048, .f32⟩
  | .hbm, ⟨28, _⟩ => ⟨S1x256x2048, .f32⟩
  | .hbm, ⟨29, _⟩ => ⟨S_, .f32⟩
  | .hbm, ⟨30, _⟩ => ⟨S1x256x2048, .f32⟩
  | .hbm, ⟨31, _⟩ => ⟨S1x256x2048, .f32⟩
  | .hbm, ⟨32, _⟩ => ⟨S1x256x2048, .f32⟩
  | .hbm, ⟨33, _⟩ => ⟨S_, .f32⟩
  | .hbm, ⟨34, _⟩ => ⟨S1x256x2048, .f32⟩
  | .hbm, ⟨35, _⟩ => ⟨S1x256x2048, .f32⟩
  | .hbm, ⟨36, _⟩ => ⟨S1x256x2048, .f32⟩
  | .hbm, ⟨37, _⟩ => ⟨S_, .f32⟩
  | .hbm, ⟨38, _⟩ => ⟨S1x256x2048, .f32⟩
  | .hbm, ⟨39, _⟩ => ⟨S1x256x2048, .f32⟩
  | .hbm, ⟨40, _⟩ => ⟨S1x256x2048, .f32⟩
  | .hbm, ⟨41, _⟩ => ⟨S_, .f32⟩
  | .hbm, ⟨42, _⟩ => ⟨S1x256x2048, .f32⟩
  | .hbm, ⟨43, _⟩ => ⟨S1x256x2048, .f32⟩
  | _, _ => ⟨S4x1x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== AdamPool.lean ====
abbrev S4x4x64x512 : Shape := ⟨4, ![4, 4, 64, 512]⟩
abbrev S4x64x512 : Shape := ⟨3, ![4, 64, 512]⟩
abbrev S1x1x64x512 : Shape := ⟨4, ![1, 1, 64, 512]⟩
abbrev S1x64x512 : Shape := ⟨3, ![1, 64, 512]⟩
abbrev S64x512 : Shape := ⟨2, ![64, 512]⟩

abbrev nBuf : Space → Nat
  | .hbm => 12
  | .vmem => 22
  | .smem => 0
  | _ => 0

abbrev bufTy : (tb : Table) → Fin (tcTables nBuf tb) → BufTy
  | .hbm, ⟨0, _⟩ => ⟨S4x4x64x512, .bf16⟩
  | .hbm, ⟨1, _⟩ => ⟨S4x64x512, .f32⟩
  | .hbm, ⟨2, _⟩ => ⟨S4x64x512, .f32⟩
  | .hbm, ⟨3, _⟩ => ⟨S4x64x512, .f32⟩
  | .hbm, ⟨4, _⟩ => ⟨S4x64x512, .f32⟩
  | .hbm, ⟨5, _⟩ => ⟨S4x64x512, .f32⟩
  | .hbm, ⟨6, _⟩ => ⟨S4x64x512, .f32⟩
  | .hbm, ⟨7, _⟩ => ⟨S4x64x512, .f32⟩
  | .hbm, ⟨8, _⟩ => ⟨S4x64x512, .f32⟩
  | .hbm, ⟨9, _⟩ => ⟨S4x64x512, .f32⟩
  | .hbm, ⟨10, _⟩ => ⟨S4x64x512, .f32⟩
  | .hbm, ⟨11, _⟩ => ⟨S4x64x512, .f32⟩
  | .local _ .vmem, ⟨0, _⟩ => ⟨S1x1x64x512, .bf16⟩
  | .local _ .vmem, ⟨1, _⟩ => ⟨S1x1x64x512, .bf16⟩
  | .local _ .vmem, ⟨2, _⟩ => ⟨S1x1x64x512, .bf16⟩
  | .local _ .vmem, ⟨3, _⟩ => ⟨S1x1x64x512, .bf16⟩
  | .local _ .vmem, ⟨4, _⟩ => ⟨S1x1x64x512, .bf16⟩
  | .local _ .vmem, ⟨5, _⟩ => ⟨S1x1x64x512, .bf16⟩
  | .local _ .vmem, ⟨6, _⟩ => ⟨S1x1x64x512, .bf16⟩
  | .local _ .vmem, ⟨7, _⟩ => ⟨S1x1x64x512, .bf16⟩
  | .local _ .vmem, ⟨8, _⟩ => ⟨S1x64x512, .f32⟩
  | .local _ .vmem, ⟨9, _⟩ => ⟨S1x64x512, .f32⟩
  | .local _ .vmem, ⟨10, _⟩ => ⟨S1x64x512, .f32⟩
  | .local _ .vmem, ⟨11, _⟩ => ⟨S1x64x512, .f32⟩
  | .local _ .vmem, ⟨12, _⟩ => ⟨S1x64x512, .f32⟩
  | .local _ .vmem, ⟨13, _⟩ => ⟨S1x64x512, .f32⟩
  | .local _ .vmem, ⟨14, _⟩ => ⟨S1x64x512, .f32⟩
  | .local _ .vmem, ⟨15, _⟩ => ⟨S1x64x512, .f32⟩
  | .local _ .vmem, ⟨16, _⟩ => ⟨S1x64x512, .f32⟩
  | .local _ .vmem, ⟨17, _⟩ => ⟨S1x64x512, .f32⟩
  | .local _ .vmem, ⟨18, _⟩ => ⟨S1x64x512, .f32⟩
  | .local _ .vmem, ⟨19, _⟩ => ⟨S1x64x512, .f32⟩
  | .local _ .vmem, ⟨20, _⟩ => ⟨S1x64x512, .f32⟩
  | .local _ .vmem, ⟨21, _⟩ => ⟨S1x64x512, .f32⟩
  | _, _ => ⟨S4x4x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamPoolIdeal.lean ====
abbrev S4x4x64x512 : Shape := ⟨4, ![4, 4, 64, 512]⟩
abbrev S4x64x512 : Shape := ⟨3, ![4, 64, 512]⟩
abbrev S1x1x64x512 : Shape := ⟨4, ![1, 1, 64, 512]⟩
abbrev S1x64x512 : Shape := ⟨3, ![1, 64, 512]⟩
abbrev S64x512 : Shape := ⟨2, ![64, 512]⟩

abbrev nBuf : Space → Nat
  | .hbm => 12
  | .vmem => 22
  | .smem => 0
  | _ => 0

abbrev bufTy : (tb : Table) → Fin (tcTables nBuf tb) → BufTy
  | .hbm, ⟨0, _⟩ => ⟨S4x4x64x512, .bf16⟩
  | .hbm, ⟨1, _⟩ => ⟨S4x64x512, .f32⟩
  | .hbm, ⟨2, _⟩ => ⟨S4x64x512, .f32⟩
  | .hbm, ⟨3, _⟩ => ⟨S4x64x512, .f32⟩
  | .hbm, ⟨4, _⟩ => ⟨S4x64x512, .f32⟩
  | .hbm, ⟨5, _⟩ => ⟨S4x64x512, .f32⟩
  | .hbm, ⟨6, _⟩ => ⟨S4x64x512, .f32⟩
  | .hbm, ⟨7, _⟩ => ⟨S4x64x512, .f32⟩
  | .hbm, ⟨8, _⟩ => ⟨S4x64x512, .f32⟩
  | .hbm, ⟨9, _⟩ => ⟨S4x64x512, .f32⟩
  | .hbm, ⟨10, _⟩ => ⟨S4x64x512, .f32⟩
  | .hbm, ⟨11, _⟩ => ⟨S4x64x512, .f32⟩
  | .local _ .vmem, ⟨0, _⟩ => ⟨S1x1x64x512, .bf16⟩
  | .local _ .vmem, ⟨1, _⟩ => ⟨S1x1x64x512, .bf16⟩
  | .local _ .vmem, ⟨2, _⟩ => ⟨S1x1x64x512, .bf16⟩
  | .local _ .vmem, ⟨3, _⟩ => ⟨S1x1x64x512, .bf16⟩
  | .local _ .vmem, ⟨4, _⟩ => ⟨S1x1x64x512, .bf16⟩
  | .local _ .vmem, ⟨5, _⟩ => ⟨S1x1x64x512, .bf16⟩
  | .local _ .vmem, ⟨6, _⟩ => ⟨S1x1x64x512, .bf16⟩
  | .local _ .vmem, ⟨7, _⟩ => ⟨S1x1x64x512, .bf16⟩
  | .local _ .vmem, ⟨8, _⟩ => ⟨S1x64x512, .f32⟩
  | .local _ .vmem, ⟨9, _⟩ => ⟨S1x64x512, .f32⟩
  | .local _ .vmem, ⟨10, _⟩ => ⟨S1x64x512, .f32⟩
  | .local _ .vmem, ⟨11, _⟩ => ⟨S1x64x512, .f32⟩
  | .local _ .vmem, ⟨12, _⟩ => ⟨S1x64x512, .f32⟩
  | .local _ .vmem, ⟨13, _⟩ => ⟨S1x64x512, .f32⟩
  | .local _ .vmem, ⟨14, _⟩ => ⟨S1x64x512, .f32⟩
  | .local _ .vmem, ⟨15, _⟩ => ⟨S1x64x512, .f32⟩
  | .local _ .vmem, ⟨16, _⟩ => ⟨S1x64x512, .f32⟩
  | .local _ .vmem, ⟨17, _⟩ => ⟨S1x64x512, .f32⟩
  | .local _ .vmem, ⟨18, _⟩ => ⟨S1x64x512, .f32⟩
  | .local _ .vmem, ⟨19, _⟩ => ⟨S1x64x512, .f32⟩
  | .local _ .vmem, ⟨20, _⟩ => ⟨S1x64x512, .f32⟩
  | .local _ .vmem, ⟨21, _⟩ => ⟨S1x64x512, .f32⟩
  | _, _ => ⟨S4x4x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamPoolReferenceIdeal.lean ====
abbrev S4x4x64x512 : Shape := ⟨4, ![4, 4, 64, 512]⟩
abbrev S4x64x512 : Shape := ⟨3, ![4, 64, 512]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4x4x64x512, .bf16⟩
  | .hbm, ⟨1, _⟩ => ⟨S4x64x512, .f32⟩
  | .hbm, ⟨2, _⟩ => ⟨S4x64x512, .f32⟩
  | .hbm, ⟨3, _⟩ => ⟨S4x64x512, .f32⟩
  | .hbm, ⟨4, _⟩ => ⟨S4x64x512, .f32⟩
  | .hbm, ⟨5, _⟩ => ⟨S4x64x512, .f32⟩
  | .hbm, ⟨6, _⟩ => ⟨S4x64x512, .f32⟩
  | .hbm, ⟨7, _⟩ => ⟨S4x64x512, .f32⟩
  | .hbm, ⟨8, _⟩ => ⟨S4x4x64x512, .f32⟩
  | .hbm, ⟨9, _⟩ => ⟨S_, .f32⟩
  | .hbm, ⟨10, _⟩ => ⟨S4x64x512, .f32⟩
  | .hbm, ⟨11, _⟩ => ⟨S_, .f32⟩
  | .hbm, ⟨12, _⟩ => ⟨S4x64x512, .f32⟩
  | .hbm, ⟨13, _⟩ => ⟨S4x64x512, .f32⟩
  | .hbm, ⟨14, _⟩ => ⟨S_, .f32⟩
  | .hbm, ⟨15, _⟩ => ⟨S4x64x512, .f32⟩
  | .hbm, ⟨16, _⟩ => ⟨S4x64x512, .f32⟩
  | .hbm, ⟨17, _⟩ => ⟨S4x64x512, .f32⟩
  | .hbm, ⟨18, _⟩ => ⟨S_, .f32⟩
  | .hbm, ⟨19, _⟩ => ⟨S4x64x512, .f32⟩
  | .hbm, ⟨20, _⟩ => ⟨S4x64x512, .f32⟩
  | .hbm, ⟨21, _⟩ => ⟨S4x64x512, .f32⟩
  | .hbm, ⟨22, _⟩ => ⟨S_, .f32⟩
  | .hbm, ⟨23, _⟩ => ⟨S4x64x512, .f32⟩
  | .hbm, ⟨24, _⟩ => ⟨S4x64x512, .f32⟩
  | .hbm, ⟨25, _⟩ => ⟨S4x64x512, .f32⟩
  | .hbm, ⟨26, _⟩ => ⟨S_, .f32⟩
  | .hbm, ⟨27, _⟩ => ⟨S4x64x512, .f32⟩
  | .hbm, ⟨28, _⟩ => ⟨S4x64x512, .f32⟩
  | .hbm, ⟨29, _⟩ => ⟨S_, .f32⟩
  | .hbm, ⟨30, _⟩ => ⟨S4x64x512, .f32⟩
  | .hbm, ⟨31, _⟩ => ⟨S4x64x512, .f32⟩
  | .hbm, ⟨32, _⟩ => ⟨S4x64x512, .f32⟩
  | .hbm, ⟨33, _⟩ => ⟨S_, .f32⟩
  | .hbm, ⟨34, _⟩ => ⟨S4x64x512, .f32⟩
  | .hbm, ⟨35, _⟩ => ⟨S4x64x512, .f32⟩
  | .hbm, ⟨36, _⟩ => ⟨S4x64x512, .f32⟩
  | .hbm, ⟨37, _⟩ => ⟨S_, .f32⟩
  | .hbm, ⟨38, _⟩ => ⟨S4x64x512, .f32⟩
  | .hbm, ⟨39, _⟩ => ⟨S4x64x512, .f32⟩
  | .hbm, ⟨40, _⟩ => ⟨S4x64x512, .f32⟩
  | .hbm, ⟨41, _⟩ => ⟨S_, .f32⟩
  | .hbm, ⟨42, _⟩ => ⟨S4x64x512, .f32⟩
  | .hbm, ⟨43, _⟩ => ⟨S4x64x512, .f32⟩
  | _, _ => ⟨S4x4x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== AdamIn.lean ====
abbrev S4x1x2048x1024 : Shape := ⟨4, ![4, 1, 2048, 1024]⟩
abbrev S2x2048x1024 : Shape := ⟨3, ![2, 2048, 1024]⟩
abbrev S1x1x256x1024 : Shape := ⟨4, ![1, 1, 256, 1024]⟩
abbrev S1x256x1024 : Shape := ⟨3, ![1, 256, 1024]⟩
abbrev S256x1024 : Shape := ⟨2, ![256, 1024]⟩

abbrev nBuf : Space → Nat
  | .hbm => 12
  | .vmem => 22
  | .smem => 0
  | _ => 0

abbrev bufTy : (tb : Table) → Fin (tcTables nBuf tb) → BufTy
  | .hbm, ⟨0, _⟩ => ⟨S4x1x2048x1024, .bf16⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .local _ .vmem, ⟨0, _⟩ => ⟨S1x1x256x1024, .bf16⟩
  | .local _ .vmem, ⟨1, _⟩ => ⟨S1x1x256x1024, .bf16⟩
  | .local _ .vmem, ⟨2, _⟩ => ⟨S1x1x256x1024, .bf16⟩
  | .local _ .vmem, ⟨3, _⟩ => ⟨S1x1x256x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S1x1x256x1024, .bf16⟩
  | .local _ .vmem, ⟨7, _⟩ => ⟨S1x1x256x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamInIdeal.lean ====
abbrev S4x1x2048x1024 : Shape := ⟨4, ![4, 1, 2048, 1024]⟩
abbrev S2x2048x1024 : Shape := ⟨3, ![2, 2048, 1024]⟩
abbrev S1x1x256x1024 : Shape := ⟨4, ![1, 1, 256, 1024]⟩
abbrev S1x256x1024 : Shape := ⟨3, ![1, 256, 1024]⟩
abbrev S256x1024 : Shape := ⟨2, ![256, 1024]⟩

abbrev nBuf : Space → Nat
  | .hbm => 12
  | .vmem => 22
  | .smem => 0
  | _ => 0

abbrev bufTy : (tb : Table) → Fin (tcTables nBuf tb) → BufTy
  | .hbm, ⟨0, _⟩ => ⟨S4x1x2048x1024, .bf16⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .local _ .vmem, ⟨0, _⟩ => ⟨S1x1x256x1024, .bf16⟩
  | .local _ .vmem, ⟨1, _⟩ => ⟨S1x1x256x1024, .bf16⟩
  | .local _ .vmem, ⟨2, _⟩ => ⟨S1x1x256x1024, .bf16⟩
  | .local _ .vmem, ⟨3, _⟩ => ⟨S1x1x256x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S1x1x256x1024, .bf16⟩
  | .local _ .vmem, ⟨7, _⟩ => ⟨S1x1x256x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamInReferenceIdeal.lean ====
abbrev S4x1x2048x1024 : Shape := ⟨4, ![4, 1, 2048, 1024]⟩
abbrev S2x2048x1024 : Shape := ⟨3, ![2, 2048, 1024]⟩
abbrev S_ : Shape := ⟨0, ![]⟩
abbrev S1x2048x1024 : Shape := ⟨3, ![1, 2048, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4x1x2048x1024, .bf16⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S4x1x2048x1024, .f32⟩
  | .hbm, ⟨9, _⟩ => ⟨S_, .f32⟩
  | .hbm, ⟨10, _⟩ => ⟨S1x2048x1024, .f32⟩
  | .hbm, ⟨11, _⟩ => ⟨S1x2048x1024, .f32⟩
  | .hbm, ⟨12, _⟩ => ⟨S1x2048x1024, .f32⟩
  | .hbm, ⟨13, _⟩ => ⟨S1x2048x1024, .f32⟩
  | .hbm, ⟨14, _⟩ => ⟨S_, .f32⟩
  | .hbm, ⟨15, _⟩ => ⟨S1x2048x1024, .f32⟩
  | .hbm, ⟨16, _⟩ => ⟨S1x2048x1024, .f32⟩
  | .hbm, ⟨17, _⟩ => ⟨S_, .f32⟩
  | .hbm, ⟨18, _⟩ => ⟨S1x2048x1024, .f32⟩
  | .hbm, ⟨19, _⟩ => ⟨S1x2048x1024, .f32⟩
  | .hbm, ⟨20, _⟩ => ⟨S1x2048x1024, .f32⟩
  | .hbm, ⟨21, _⟩ => ⟨S_, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S_, .f32⟩
  | .hbm, ⟨26, _⟩ => ⟨S1x2048x1024, .f32⟩
  | .hbm, ⟨27, _⟩ => ⟨S1x2048x1024, .f32⟩
  | .hbm, ⟨28, _⟩ => ⟨S1x2048x1024, .f32⟩
  | .hbm, ⟨29, _⟩ => ⟨S_, .f32⟩
  | .hbm, ⟨30, _⟩ => ⟨S1x2048x1024, .f32⟩
  | .hbm, ⟨31, _⟩ => ⟨S1x2048x1024, .f32⟩
  | .hbm, ⟨32, _⟩ => ⟨S_, .f32⟩
  | .hbm, ⟨33, _⟩ => ⟨S1x2048x1024, .f32⟩
  | .hbm, ⟨34, _⟩ => ⟨S1x2048x1024, .f32⟩
  | .hbm, ⟨35, _⟩ => ⟨S1x2048x1024, .f32⟩
  | .hbm, ⟨36, _⟩ => ⟨S_, .f32⟩
  | .hbm, ⟨37, _⟩ => ⟨S1x2048x1024, .f32⟩
  | .hbm, ⟨38, _⟩ => ⟨S1x2048x1024, .f32⟩
  | .hbm, ⟨39, _⟩ => ⟨S1x2048x1024, .f32⟩
  | .hbm, ⟨40, _⟩ => ⟨S_, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S_, .f32⟩
  | .hbm, ⟨45, _⟩ => ⟨S1x2048x1024, .f32⟩
  | .hbm, ⟨46, _⟩ => ⟨S1x2048x1024, .f32⟩
  | .hbm, ⟨47, _⟩ => ⟨S1x2048x1024, .f32⟩
  | .hbm, ⟨48, _⟩ => ⟨S2x2048x1024, .f32⟩
  | .hbm, ⟨49, _⟩ => ⟨S1x2048x1024, .f32⟩
  | .hbm, ⟨50, _⟩ => ⟨S2x2048x1024, .f32⟩
  | .hbm, ⟨51, _⟩ => ⟨S1x2048x1024, .f32⟩
  | .hbm, ⟨52, _⟩ => ⟨S2x2048x1024, .f32⟩
  | .hbm, ⟨53, _⟩ => ⟨S1x2048x1024, .f32⟩
  | .hbm, ⟨54, _⟩ => ⟨S2x2048x1024, .f32⟩
  | _, _ => ⟨S4x1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== AdamOut.lean ====
abbrev S4x1x256x2048 : Shape := ⟨4, ![4, 1, 256, 2048]⟩
abbrev S2x256x2048 : Shape := ⟨3, ![2, 256, 2048]⟩
abbrev S1x1x128x2048 : Shape := ⟨4, ![1, 1, 128, 2048]⟩
abbrev S1x128x2048 : Shape := ⟨3, ![1, 128, 2048]⟩
abbrev S128x2048 : Shape := ⟨2, ![128, 2048]⟩

abbrev nBuf : Space → Nat
  | .hbm => 12
  | .vmem => 22
  | .smem => 0
  | _ => 0

abbrev bufTy : (tb : Table) → Fin (tcTables nBuf tb) → BufTy
  | .hbm, ⟨0, _⟩ => ⟨S4x1x256x2048, .bf16⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .hbm, ⟨11, _⟩ => ⟨S2x256x2048, .f32⟩
  | .local _ .vmem, ⟨0, _⟩ => ⟨S1x1x128x2048, .bf16⟩
  | .local _ .vmem, ⟨1, _⟩ => ⟨S1x1x128x2048, .bf16⟩
  | .local _ .vmem, ⟨2, _⟩ => ⟨S1x1x128x2048, .bf16⟩
  | .local _ .vmem, ⟨3, _⟩ => ⟨S1x1x128x2048, .bf16⟩
  | .local _ .vmem, ⟨4, _⟩ => ⟨S1x1x128x2048, .bf16⟩
  | .local _ .vmem, ⟨5, _⟩ => ⟨S1x1x128x2048, .bf16⟩
  | .local _ .vmem, ⟨6, _⟩ => ⟨S1x1x128x2048, .bf16⟩
  | .local _ .vmem, ⟨7, _⟩ => ⟨S1x1x128x2048, .bf16⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | _, _ => ⟨S4x1x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamOutIdeal.lean ====
abbrev S4x1x256x2048 : Shape := ⟨4, ![4, 1, 256, 2048]⟩
abbrev S2x256x2048 : Shape := ⟨3, ![2, 256, 2048]⟩
abbrev S1x1x128x2048 : Shape := ⟨4, ![1, 1, 128, 2048]⟩
abbrev S1x128x2048 : Shape := ⟨3, ![1, 128, 2048]⟩
abbrev S128x2048 : Shape := ⟨2, ![128, 2048]⟩

abbrev nBuf : Space → Nat
  | .hbm => 12
  | .vmem => 22
  | .smem => 0
  | _ => 0

abbrev bufTy : (tb : Table) → Fin (tcTables nBuf tb) → BufTy
  | .hbm, ⟨0, _⟩ => ⟨S4x1x256x2048, .bf16⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .hbm, ⟨11, _⟩ => ⟨S2x256x2048, .f32⟩
  | .local _ .vmem, ⟨0, _⟩ => ⟨S1x1x128x2048, .bf16⟩
  | .local _ .vmem, ⟨1, _⟩ => ⟨S1x1x128x2048, .bf16⟩
  | .local _ .vmem, ⟨2, _⟩ => ⟨S1x1x128x2048, .bf16⟩
  | .local _ .vmem, ⟨3, _⟩ => ⟨S1x1x128x2048, .bf16⟩
  | .local _ .vmem, ⟨4, _⟩ => ⟨S1x1x128x2048, .bf16⟩
  | .local _ .vmem, ⟨5, _⟩ => ⟨S1x1x128x2048, .bf16⟩
  | .local _ .vmem, ⟨6, _⟩ => ⟨S1x1x128x2048, .bf16⟩
  | .local _ .vmem, ⟨7, _⟩ => ⟨S1x1x128x2048, .bf16⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | _, _ => ⟨S4x1x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamOutReferenceIdeal.lean ====
abbrev S4x1x256x2048 : Shape := ⟨4, ![4, 1, 256, 2048]⟩
abbrev S2x256x2048 : Shape := ⟨3, ![2, 256, 2048]⟩
abbrev S_ : Shape := ⟨0, ![]⟩
abbrev S1x256x2048 : Shape := ⟨3, ![1, 256, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4x1x256x2048, .bf16⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S4x1x256x2048, .f32⟩
  | .hbm, ⟨9, _⟩ => ⟨S_, .f32⟩
  | .hbm, ⟨10, _⟩ => ⟨S1x256x2048, .f32⟩
  | .hbm, ⟨11, _⟩ => ⟨S1x256x2048, .f32⟩
  | .hbm, ⟨12, _⟩ => ⟨S1x256x2048, .f32⟩
  | .hbm, ⟨13, _⟩ => ⟨S1x256x2048, .f32⟩
  | .hbm, ⟨14, _⟩ => ⟨S_, .f32⟩
  | .hbm, ⟨15, _⟩ => ⟨S1x256x2048, .f32⟩
  | .hbm, ⟨16, _⟩ => ⟨S1x256x2048, .f32⟩
  | .hbm, ⟨17, _⟩ => ⟨S_, .f32⟩
  | .hbm, ⟨18, _⟩ => ⟨S1x256x2048, .f32⟩
  | .hbm, ⟨19, _⟩ => ⟨S1x256x2048, .f32⟩
  | .hbm, ⟨20, _⟩ => ⟨S1x256x2048, .f32⟩
  | .hbm, ⟨21, _⟩ => ⟨S_, .f32⟩
  | .hbm, ⟨22, _⟩ => ⟨S1x256x2048, .f32⟩
  | .hbm, ⟨23, _⟩ => ⟨S1x256x2048, .f32⟩
  | .hbm, ⟨24, _⟩ => ⟨S1x256x2048, .f32⟩
  | .hbm, ⟨25, _⟩ => ⟨S_, .f32⟩
  | .hbm, ⟨26, _⟩ => ⟨S1x256x2048, .f32⟩
  | .hbm, ⟨27, _⟩ => ⟨S1x256x2048, .f32⟩
  | .hbm, ⟨28, _⟩ => ⟨S1x256x2048, .f32⟩
  | .hbm, ⟨29, _⟩ => ⟨S_, .f32⟩
  | .hbm, ⟨30, _⟩ => ⟨S1x256x2048, .f32⟩
  | .hbm, ⟨31, _⟩ => ⟨S1x256x2048, .f32⟩
  | .hbm, ⟨32, _⟩ => ⟨S_, .f32⟩
  | .hbm, ⟨33, _⟩ => ⟨S1x256x2048, .f32⟩
  | .hbm, ⟨34, _⟩ => ⟨S1x256x2048, .f32⟩
  | .hbm, ⟨35, _⟩ => ⟨S1x256x2048, .f32⟩
  | .hbm, ⟨36, _⟩ => ⟨S_, .f32⟩
  | .hbm, ⟨37, _⟩ => ⟨S1x256x2048, .f32⟩
  | .hbm, ⟨38, _⟩ => ⟨S1x256x2048, .f32⟩
  | .hbm, ⟨39, _⟩ => ⟨S1x256x2048, .f32⟩
  | .hbm, ⟨40, _⟩ => ⟨S_, .f32⟩
  | .hbm, ⟨41, _⟩ => ⟨S1x256x2048, .f32⟩
  | .hbm, ⟨42, _⟩ => ⟨S1x256x2048, .f32⟩
  | .hbm, ⟨43, _⟩ => ⟨S1x256x2048, .f32⟩
  | .hbm, ⟨44, _⟩ => ⟨S_, .f32⟩
  | .hbm, ⟨45, _⟩ => ⟨S1x256x2048, .f32⟩
  | .hbm, ⟨46, _⟩ => ⟨S1x256x2048, .f32⟩
  | .hbm, ⟨47, _⟩ => ⟨S1x256x2048, .f32⟩
  | .hbm, ⟨48, _⟩ => ⟨S2x256x2048, .f32⟩
  | .hbm, ⟨49, _⟩ => ⟨S1x256x2048, .f32⟩
  | .hbm, ⟨50, _⟩ => ⟨S2x256x2048, .f32⟩
  | .hbm, ⟨51, _⟩ => ⟨S1x256x2048, .f32⟩
  | .hbm, ⟨52, _⟩ => ⟨S2x256x2048, .f32⟩
  | .hbm, ⟨53, _⟩ => ⟨S1x256x2048, .f32⟩
  | .hbm, ⟨54, _⟩ => ⟨S2x256x2048, .f32⟩
  | _, _ => ⟨S4x1x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== AdamUp.lean ====
abbrev S4x1x2048x1408 : Shape := ⟨4, ![4, 1, 2048, 1408]⟩
abbrev S4x2048x1408 : Shape := ⟨3, ![4, 2048, 1408]⟩
abbrev S1x1x128x1408 : Shape := ⟨4, ![1, 1, 128, 1408]⟩
abbrev S1x128x1408 : Shape := ⟨3, ![1, 128, 1408]⟩
abbrev S128x1408 : Shape := ⟨2, ![128, 1408]⟩

abbrev nBuf : Space → Nat
  | .hbm => 12
  | .vmem => 22
  | .smem => 0
  | _ => 0

abbrev bufTy : (tb : Table) → Fin (tcTables nBuf tb) → BufTy
  | .hbm, ⟨0, _⟩ => ⟨S4x1x2048x1408, .bf16⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .local _ .vmem, ⟨0, _⟩ => ⟨S1x1x128x1408, .bf16⟩
  | .local _ .vmem, ⟨1, _⟩ => ⟨S1x1x128x1408, .bf16⟩
  | .local _ .vmem, ⟨2, _⟩ => ⟨S1x1x128x1408, .bf16⟩
  | .local _ .vmem, ⟨3, _⟩ => ⟨S1x1x128x1408, .bf16⟩
  | .local _ .vmem, ⟨4, _⟩ => ⟨S1x1x128x1408, .bf16⟩
  | .local _ .vmem, ⟨5, _⟩ => ⟨S1x1x128x1408, .bf16⟩
  | .local _ .vmem, ⟨6, _⟩ => ⟨S1x1x128x1408, .bf16⟩
  | .local _ .vmem, ⟨7, _⟩ => ⟨S1x1x128x1408, .bf16⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .vmem, ⟨18, _⟩ => ⟨S1x128x1408, .f32⟩
  | .local _ .vmem, ⟨19, _⟩ => ⟨S1x128x1408, .f32⟩
  | .local _ .vmem, ⟨20, _⟩ => ⟨S1x128x1408, .f32⟩
  | .local _ .vmem, ⟨21, _⟩ => ⟨S1x128x1408, .f32⟩
  | _, _ => ⟨S4x1x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamUpIdeal.lean ====
abbrev S4x1x2048x1408 : Shape := ⟨4, ![4, 1, 2048, 1408]⟩
abbrev S4x2048x1408 : Shape := ⟨3, ![4, 2048, 1408]⟩
abbrev S1x1x128x1408 : Shape := ⟨4, ![1, 1, 128, 1408]⟩
abbrev S1x128x1408 : Shape := ⟨3, ![1, 128, 1408]⟩
abbrev S128x1408 : Shape := ⟨2, ![128, 1408]⟩

abbrev nBuf : Space → Nat
  | .hbm => 12
  | .vmem => 22
  | .smem => 0
  | _ => 0

abbrev bufTy : (tb : Table) → Fin (tcTables nBuf tb) → BufTy
  | .hbm, ⟨0, _⟩ => ⟨S4x1x2048x1408, .bf16⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .local _ .vmem, ⟨0, _⟩ => ⟨S1x1x128x1408, .bf16⟩
  | .local _ .vmem, ⟨1, _⟩ => ⟨S1x1x128x1408, .bf16⟩
  | .local _ .vmem, ⟨2, _⟩ => ⟨S1x1x128x1408, .bf16⟩
  | .local _ .vmem, ⟨3, _⟩ => ⟨S1x1x128x1408, .bf16⟩
  | .local _ .vmem, ⟨4, _⟩ => ⟨S1x1x128x1408, .bf16⟩
  | .local _ .vmem, ⟨5, _⟩ => ⟨S1x1x128x1408, .bf16⟩
  | .local _ .vmem, ⟨6, _⟩ => ⟨S1x1x128x1408, .bf16⟩
  | .local _ .vmem, ⟨7, _⟩ => ⟨S1x1x128x1408, .bf16⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .vmem, ⟨18, _⟩ => ⟨S1x128x1408, .f32⟩
  | .local _ .vmem, ⟨19, _⟩ => ⟨S1x128x1408, .f32⟩
  | .local _ .vmem, ⟨20, _⟩ => ⟨S1x128x1408, .f32⟩
  | .local _ .vmem, ⟨21, _⟩ => ⟨S1x128x1408, .f32⟩
  | _, _ => ⟨S4x1x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamUpReferenceIdeal.lean ====
abbrev S4x1x2048x1408 : Shape := ⟨4, ![4, 1, 2048, 1408]⟩
abbrev S4x2048x1408 : Shape := ⟨3, ![4, 2048, 1408]⟩
abbrev S_ : Shape := ⟨0, ![]⟩
abbrev S1x2048x1408 : Shape := ⟨3, ![1, 2048, 1408]⟩
abbrev S3x2048x1408 : Shape := ⟨3, ![3, 2048, 1408]⟩

abbrev nBuf : Space → Nat
  | .hbm => 55
  | .vmem => 0
  | .smem => 0
  | _ => 0

abbrev bufTy : (tb : Table) → Fin (tcTables nBuf tb) → BufTy
  | .hbm, ⟨0, _⟩ => ⟨S4x1x2048x1408, .bf16⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x1x2048x1408, .f32⟩
  | .hbm, ⟨9, _⟩ => ⟨S_, .f32⟩
  | .hbm, ⟨10, _⟩ => ⟨S1x2048x1408, .f32⟩
  | .hbm, ⟨11, _⟩ => ⟨S1x2048x1408, .f32⟩
  | .hbm, ⟨12, _⟩ => ⟨S1x2048x1408, .f32⟩
  | .hbm, ⟨13, _⟩ => ⟨S1x2048x1408, .f32⟩
  | .hbm, ⟨14, _⟩ => ⟨S_, .f32⟩
  | .hbm, ⟨15, _⟩ => ⟨S1x2048x1408, .f32⟩
  | .hbm, ⟨16, _⟩ => ⟨S1x2048x1408, .f32⟩
  | .hbm, ⟨17, _⟩ => ⟨S_, .f32⟩
  | .hbm, ⟨18, _⟩ => ⟨S1x2048x1408, .f32⟩
  | .hbm, ⟨19, _⟩ => ⟨S1x2048x1408, .f32⟩
  | .hbm, ⟨20, _⟩ => ⟨S1x2048x1408, .f32⟩
  | .hbm, ⟨21, _⟩ => ⟨S_, .f32⟩
  | .hbm, ⟨22, _⟩ => ⟨S1x2048x1408, .f32⟩
  | .hbm, ⟨23, _⟩ => ⟨S1x2048x1408, .f32⟩
  | .hbm, ⟨24, _⟩ => ⟨S1x2048x1408, .f32⟩
  | .hbm, ⟨25, _⟩ => ⟨S_, .f32⟩
  | .hbm, ⟨26, _⟩ => ⟨S1x2048x1408, .f32⟩
  | .hbm, ⟨27, _⟩ => ⟨S1x2048x1408, .f32⟩
  | .hbm, ⟨28, _⟩ => ⟨S1x2048x1408, .f32⟩
  | .hbm, ⟨29, _⟩ => ⟨S_, .f32⟩
  | .hbm, ⟨30, _⟩ => ⟨S1x2048x1408, .f32⟩
  | .hbm, ⟨31, _⟩ => ⟨S1x2048x1408, .f32⟩
  | .hbm, ⟨32, _⟩ => ⟨S_, .f32⟩
  | .hbm, ⟨33, _⟩ => ⟨S1x2048x1408, .f32⟩
  | .hbm, ⟨34, _⟩ => ⟨S1x2048x1408, .f32⟩
  | .hbm, ⟨35, _⟩ => ⟨S1x2048x1408, .f32⟩
  | .hbm, ⟨36, _⟩ => ⟨S_, .f32⟩
  | .hbm, ⟨37, _⟩ => ⟨S1x2048x1408, .f32⟩
  | .hbm, ⟨38, _⟩ => ⟨S1x2048x1408, .f32⟩
  | .hbm, ⟨39, _⟩ => ⟨S1x2048x1408, .f32⟩
  | .hbm, ⟨40, _⟩ => ⟨S_, .f32⟩
  | .hbm, ⟨41, _⟩ => ⟨S1x2048x1408, .f32⟩
  | .hbm, ⟨42, _⟩ => ⟨S1x2048x1408, .f32⟩
  | .hbm, ⟨43, _⟩ => ⟨S1x2048x1408, .f32⟩
  | .hbm, ⟨44, _⟩ => ⟨S_, .f32⟩
  | .hbm, ⟨45, _⟩ => ⟨S1x2048x1408, .f32⟩
  | .hbm, ⟨46, _⟩ => ⟨S1x2048x1408, .f32⟩
  | .hbm, ⟨47, _⟩ => ⟨S3x2048x1408, .f32⟩
  | .hbm, ⟨48, _⟩ => ⟨S4x2048x1408, .f32⟩
  | .hbm, ⟨49, _⟩ => ⟨S3x2048x1408, .f32⟩
  | .hbm, ⟨50, _⟩ => ⟨S4x2048x1408, .f32⟩
  | .hbm, ⟨51, _⟩ => ⟨S3x2048x1408, .f32⟩
  | .hbm, ⟨52, _⟩ => ⟨S4x2048x1408, .f32⟩
  | .hbm, ⟨53, _⟩ => ⟨S3x2048x1408, .f32⟩
  | .hbm, ⟨54, _⟩ => ⟨S4x2048x1408, .f32⟩
  | _, _ => ⟨S4x1x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== AdamDown.lean ====
abbrev S4x1x704x2048 : Shape := ⟨4, ![4, 1, 704, 2048]⟩
abbrev S4x704x2048 : Shape := ⟨3, ![4, 704, 2048]⟩
abbrev S1x1x64x2048 : Shape := ⟨4, ![1, 1, 64, 2048]⟩
abbrev S1x64x2048 : Shape := ⟨3, ![1, 64, 2048]⟩
abbrev S64x2048 : Shape := ⟨2, ![64, 2048]⟩

abbrev nBuf : Space → Nat
  | .hbm => 12
  | .vmem => 22
  | .smem => 0
  | _ => 0

abbrev bufTy : (tb : Table) → Fin (tcTables nBuf tb) → BufTy
  | .hbm, ⟨0, _⟩ => ⟨S4x1x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .hbm, ⟨11, _⟩ => ⟨S4x704x2048, .f32⟩
  | .local _ .vmem, ⟨0, _⟩ => ⟨S1x1x64x2048, .bf16⟩
  | .local _ .vmem, ⟨1, _⟩ => ⟨S1x1x64x2048, .bf16⟩
  | .local _ .vmem, ⟨2, _⟩ => ⟨S1x1x64x2048, .bf16⟩
  | .local _ .vmem, ⟨3, _⟩ => ⟨S1x1x64x2048, .bf16⟩
  | .local _ .vmem, ⟨4, _⟩ => ⟨S1x1x64x2048, .bf16⟩
  | .local _ .vmem, ⟨5, _⟩ => ⟨S1x1x64x2048, .bf16⟩
  | .local _ .vmem, ⟨6, _⟩ => ⟨S1x1x64x2048, .bf16⟩
  | .local _ .vmem, ⟨7, _⟩ => ⟨S1x1x64x2048, .bf16⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | _, _ => ⟨S4x1x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 11], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamDownReferenceIdeal.lean ====
abbrev S4x1x704x2048 : Shape := ⟨4, ![4, 1, 704, 2048]⟩
abbrev S4x704x2048 : Shape := ⟨3, ![4, 704, 2048]⟩
abbrev S_ : Shape := ⟨0, ![]⟩
abbrev S1x704x2048 : Shape := ⟨3, ![1, 704, 2048]⟩
abbrev S3x704x2048 : Shape := ⟨3, ![3, 704, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4x1x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x1x704x2048, .f32⟩
  | .hbm, ⟨9, _⟩ => ⟨S_, .f32⟩
  | .hbm, ⟨10, _⟩ => ⟨S1x704x2048, .f32⟩
  | .hbm, ⟨11, _⟩ => ⟨S1x704x2048, .f32⟩
  | .hbm, ⟨12, _⟩ => ⟨S1x704x2048, .f32⟩
  | .hbm, ⟨13, _⟩ => ⟨S1x704x2048, .f32⟩
  | .hbm, ⟨14, _⟩ => ⟨S_, .f32⟩
  | .hbm, ⟨15, _⟩ => ⟨S1x704x2048, .f32⟩
  | .hbm, ⟨16, _⟩ => ⟨S1x704x2048, .f32⟩
  | .hbm, ⟨17, _⟩ => ⟨S_, .f32⟩
  | .hbm, ⟨18, _⟩ => ⟨S1x704x2048, .f32⟩
  | .hbm, ⟨19, _⟩ => ⟨S1x704x2048, .f32⟩
  | .hbm, ⟨20, _⟩ => ⟨S1x704x2048, .f32⟩
  | .hbm, ⟨21, _⟩ => ⟨S_, .f32⟩
  | .hbm, ⟨22, _⟩ => ⟨S1x704x2048, .f32⟩
  | .hbm, ⟨23, _⟩ => ⟨S1x704x2048, .f32⟩
  | .hbm, ⟨24, _⟩ => ⟨S1x704x2048, .f32⟩
  | .hbm, ⟨25, _⟩ => ⟨S_, .f32⟩
  | .hbm, ⟨26, _⟩ => ⟨S1x704x2048, .f32⟩
  | .hbm, ⟨27, _⟩ => ⟨S1x704x2048, .f32⟩
  | .hbm, ⟨28, _⟩ => ⟨S1x704x2048, .f32⟩
  | .hbm, ⟨29, _⟩ => ⟨S_, .f32⟩
  | .hbm, ⟨30, _⟩ => ⟨S1x704x2048, .f32⟩
  | .hbm, ⟨31, _⟩ => ⟨S1x704x2048, .f32⟩
  | .hbm, ⟨32, _⟩ => ⟨S_, .f32⟩
  | .hbm, ⟨33, _⟩ => ⟨S1x704x2048, .f32⟩
  | .hbm, ⟨34, _⟩ => ⟨S1x704x2048, .f32⟩
  | .hbm, ⟨35, _⟩ => ⟨S1x704x2048, .f32⟩
  | .hbm, ⟨36, _⟩ => ⟨S_, .f32⟩
  | .hbm, ⟨37, _⟩ => ⟨S1x704x2048, .f32⟩
  | .hbm, ⟨38, _⟩ => ⟨S1x704x2048, .f32⟩
  | .hbm, ⟨39, _⟩ => ⟨S1x704x2048, .f32⟩
  | .hbm, ⟨40, _⟩ => ⟨S_, .f32⟩
  | .hbm, ⟨41, _⟩ => ⟨S1x704x2048, .f32⟩
  | .hbm, ⟨42, _⟩ => ⟨S1x704x2048, .f32⟩
  | .hbm, ⟨43, _⟩ => ⟨S1x704x2048, .f32⟩
  | .hbm, ⟨44, _⟩ => ⟨S_, .f32⟩
  | .hbm, ⟨45, _⟩ => ⟨S1x704x2048, .f32⟩
  | .hbm, ⟨46, _⟩ => ⟨S1x704x2048, .f32⟩
  | .hbm, ⟨47, _⟩ => ⟨S3x704x2048, .f32⟩
  | .hbm, ⟨48, _⟩ => ⟨S4x704x2048, .f32⟩
  | .hbm, ⟨49, _⟩ => ⟨S3x704x2048, .f32⟩
  | .hbm, ⟨50, _⟩ => ⟨S4x704x2048, .f32⟩
  | .hbm, ⟨51, _⟩ => ⟨S3x704x2048, .f32⟩
  | .hbm, ⟨52, _⟩ => ⟨S4x704x2048, .f32⟩
  | .hbm, ⟨53, _⟩ => ⟨S3x704x2048, .f32⟩
  | .hbm, ⟨54, _⟩ => ⟨S4x704x2048, .f32⟩
  | _, _ => ⟨S4x1x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== LossHead.lean ====
abbrev S2048x2048 : Shape := ⟨2, ![2048, 2048]⟩
abbrev S8x128 : Shape := ⟨2, ![8, 128]⟩
abbrev S256x2048 : Shape := ⟨2, ![256, 2048]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S8x128, .f32⟩
  | .hbm, ⟨3, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S8x128, .f32⟩
  | .local _ .vmem, ⟨5, _⟩ => ⟨S256x2048, .f32⟩
  | .local _ .vmem, ⟨6, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossHeadReferenceIdeal.lean ====
abbrev S2048x2048 : Shape := ⟨2, ![2048, 2048]⟩
abbrev S_ : Shape := ⟨0, ![]⟩
abbrev S2048 : Shape := ⟨1, ![2048]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S2048x2048, .f32⟩
  | .hbm, ⟨25, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Bounds.lean ====
abbrev S4x2048 : Shape := ⟨2, ![4, 2048]⟩
abbrev S1x2048 : Shape := ⟨2, ![1, 2048]⟩

abbrev nBuf : Space → Nat
  | .hbm => 3
  | .vmem => 3
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BoundsReferenceIdeal.lean ====
abbrev S4x2048 : Shape := ⟨2, ![4, 2048]⟩
abbrev S_ : Shape := ⟨0, ![]⟩
abbrev S2048 : Shape := ⟨1, ![2048]⟩
abbrev S1x2048 : Shape := ⟨2, ![1, 2048]⟩
abbrev S3x2048 : Shape := ⟨2, ![3, 2048]⟩

abbrev nBuf : Space → Nat
  | .hbm => 71
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S_, .f32⟩
  | .hbm, ⟨3, _⟩ => ⟨S2048, .f32⟩
  | .hbm, ⟨4, _⟩ => ⟨S1x2048, .f32⟩
  | .hbm, ⟨5, _⟩ => ⟨S4x2048, .f32⟩
  | .hbm, ⟨6, _⟩ => ⟨S4x2048, .i1⟩
  | .hbm, ⟨7, _⟩ => ⟨S4x2048, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .i1⟩
  | .hbm, ⟨16, _⟩ => ⟨S_, .f32⟩
  | .hbm, ⟨17, _⟩ => ⟨S2048, .f32⟩
  | .hbm, ⟨18, _⟩ => ⟨S2048, .i1⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S1x2048, .f32⟩
  | .hbm, ⟨28, _⟩ => ⟨S4x2048, .f32⟩
  | .hbm, ⟨29, _⟩ => ⟨S4x2048, .f32⟩
  | .hbm, ⟨30, _⟩ => ⟨S4x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4x2048, .f32⟩
  | .hbm, ⟨35, _⟩ => ⟨S4x2048, .f32⟩
  | .hbm, ⟨36, _⟩ => ⟨S1x2048, .f32⟩
  | .hbm, ⟨37, _⟩ => ⟨S_, .f32⟩
  | .hbm, ⟨38, _⟩ => ⟨S1x2048, .f32⟩
  | .hbm, ⟨39, _⟩ => ⟨S1x2048, .f32⟩
  | .hbm, ⟨40, _⟩ => ⟨S1x2048, .f32⟩
  | .hbm, ⟨41, _⟩ => ⟨S_, .f32⟩
  | .hbm, ⟨42, _⟩ => ⟨S1x2048, .f32⟩
  | .hbm, ⟨43, _⟩ => ⟨S3x2048, .f32⟩
  | .hbm, ⟨44, _⟩ => ⟨S_, .f32⟩
  | .hbm, ⟨45, _⟩ => ⟨S_, .f32⟩
  | .hbm, ⟨46, _⟩ => ⟨S3x2048, .f32⟩
  | .hbm, ⟨47, _⟩ => ⟨S4x2048, .f32⟩
  | .hbm, ⟨48, _⟩ => ⟨S_, .f32⟩
  | .hbm, ⟨49, _⟩ => ⟨S1x2048, .f32⟩
  | .hbm, ⟨50, _⟩ => ⟨S1x2048, .f32⟩
  | .hbm, ⟨51, _⟩ => ⟨S3x2048, .f32⟩
  | .hbm, ⟨52, _⟩ => ⟨S_, .f32⟩
  | .hbm, ⟨53, _⟩ => ⟨S_, .f32⟩
  | .hbm, ⟨54, _⟩ => ⟨S3x2048, .f32⟩
  | .hbm, ⟨55, _⟩ => ⟨S_, .f32⟩
  | .hbm, ⟨56, _⟩ => ⟨S4x2048, .f32⟩
  | .hbm, ⟨57, _⟩ => ⟨S4x2048, .f32⟩
  | .hbm, ⟨58, _⟩ => ⟨S4x2048, .f32⟩
  | .hbm, ⟨59, _⟩ => ⟨S4x2048, .f32⟩
  | .hbm, ⟨60, _⟩ => ⟨S_, .f32⟩
  | .hbm, ⟨61, _⟩ => ⟨S2048, .f32⟩
  | .hbm, ⟨62, _⟩ => ⟨S1x2048, .f32⟩
  | .hbm, ⟨63, _⟩ => ⟨S1x2048, .f32⟩
  | .hbm, ⟨64, _⟩ => ⟨S4x2048, .f32⟩
  | .hbm, ⟨65, _⟩ => ⟨S4x2048, .f32⟩
  | .hbm, ⟨66, _⟩ => ⟨S_, .f32⟩
  | .hbm, ⟨67, _⟩ => ⟨S2048, .f32⟩
  | .hbm, ⟨68, _⟩ => ⟨S4x2048, .f32⟩
  | .hbm, ⟨69, _⟩ => ⟨S4x2048, .f32⟩
  | .hbm, ⟨70, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_9 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_cst_10 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call1_cst : Ref sig .tc := ⟨.hbm, 52, rfl⟩
abbrev main_call1_v0 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== Proof.Prod.lean ====
/- Arrays of extended reals written as functions of their row and column numbers, and sums over the rows or columns
   of a product. -/
module

public import Idealize.ShloMosaic.Lib.Pointwise
public import Idealize.ShloMosaic.Lib.ValueLayout
public import Idealize.ShloMosaic.Lib.ValueIdx
public import Idealize.ShloMosaic.PureOps.Ideal.Laws

@[expose] public section

noncomputable section

namespace Cert.Prod

open Idealize.ShloMosaic
open Finset

/-- The array whose entry in row `a` and column `b` is `f a b`. -/
def E {m n : ℕ} {φ : FTy} (f : ℕ → ℕ → EReal) : FVec Ideal ⟨2, ![m, n]⟩ φ := fun i => f (i 0).val (i 1).val

/-- The array whose entry in row `a` and column `b` of part `p` is `f p a b`. -/
def E3 {l m n : ℕ} {φ : FTy} (f : ℕ → ℕ → ℕ → EReal) : FVec Ideal ⟨3, ![l, m, n]⟩ φ :=
  fun i => f (i 0).val (i 1).val (i 2).val

variable {l m n : ℕ} {φ : FTy}

theorem E_congr {f g : ℕ → ℕ → EReal} (h : ∀ a < m, ∀ b < n, f a b = g a b) :
    (E f : FVec Ideal ⟨2, ![m, n]⟩ φ) = E g := funext fun i => h _ (i 0).isLt _ (i 1).isLt

/-- An array's entries as a function of numbers. -/
def entries (X : FVec Ideal ⟨2, ![m, n]⟩ φ) (a b : ℕ) : EReal :=
  if h : a < m ∧ b < n then X (fun d => match d with | ⟨0, _⟩ => ⟨a, h.1⟩ | ⟨1, _⟩ => ⟨b, h.2⟩) else 0

theorem eq_E (X : FVec Ideal ⟨2, ![m, n]⟩ φ) : X = E (entries X) := by
  funext i
  have h0 : (i 0).val < m := (i 0).isLt
  have h1 : (i 1).val < n := (i 1).isLt
  unfold E entries
  rw [dif_pos ⟨h0, h1⟩]
  refine congrArg X (funext fun d => ?_)
  match d with
  | ⟨0, _⟩ => rfl
  | ⟨1, _⟩ => rfl

def entries3 (X : FVec Ideal ⟨3, ![l, m, n]⟩ φ) (p a b : ℕ) : EReal :=
  if h : p < l ∧ a < m ∧ b < n then
    X (fun d => match d with | ⟨0, _⟩ => ⟨p, h.1⟩ | ⟨1, _⟩ => ⟨a, h.2.1⟩ | ⟨2, _⟩ => ⟨b, h.2.2⟩) else 0

theorem eq_E3 (X : FVec Ideal ⟨3, ![l, m, n]⟩ φ) : X = E3 (entries3 X) := by
  funext i
  have h0 : (i 0).val < l := (i 0).isLt
  have h1 : (i 1).val < m := (i 1).isLt
  have h2 : (i 2).val < n := (i 2).isLt
  unfold E3 entries3
  rw [dif_pos ⟨h0, h1, h2⟩]
  refine congrArg X (funext fun d => ?_)
  match d with
  | ⟨0, _⟩ => rfl
  | ⟨1, _⟩ => rfl
  | ⟨2, _⟩ => rfl

/-- The parts of a cut array set side by side, `w` columns each. -/
def beside (w : ℕ) (f : ℕ → ℕ → ℕ → EReal) (a b : ℕ) : EReal := f (b / w) a (b % w)

theorem ofBits_zero : FloatOps.ofBits (F := Ideal) .f32 0x00000000#32 = (0 : EReal) := by
  simp [FloatOps.ofBits, Ideal.ofBits, Ideal.ieee]

/-- A sum into an accumulator of zeros, over numbers. -/
theorem zero_sum (K : ℕ) (f : ℕ → EReal) :
    FloatOps.ofBits (F := Ideal) .f32 0x00000000#32 + ∑ k : Fin K, f k.val = ∑ k ∈ range K, f k := by
  rw [ofBits_zero, sum_range]; exact zero_add _

/-- A sum over `K * N` numbers is the sum of `N` sums over `K`. -/
theorem sum_split (K : ℕ) (f : ℕ → EReal) : ∀ N : ℕ, ∑ k ∈ range (K * N), f k = ∑ s ∈ range N, ∑ k ∈ range K, f (K * s + k)
  | 0 => by simp
  | N + 1 => by rw [Nat.mul_succ, sum_range_add, sum_split K f N, sum_range_succ]

end Cert.Prod

end
-- ==== Proof.Down.lean ====
/- The product that gives the second feed-forward product: the kernel's tiles, put together, are the whole product, and so is the
   reference. -/
module

public import proofs.«01_k».proof.Defs
public import proofs.«01_k».proof.Proof.Prod
public import proofs.«01_k».proof.Proof.Gen.Down
public import proofs.«01_k».proof.Proof.Gen.DownIdeal
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import Idealize.ShloMosaic.Lib.Pipeline.ValueKit

@[expose] public section

set_option maxRecDepth 16384
set_option maxHeartbeats 400000

noncomputable section

namespace Cert.DownIdeal.Tiles

open Cert.DownIdeal.Gen
open Idealize.ShloMosaic Idealize.ShloMosaic.TcCoe Idealize.ShloMosaic.Tactic
open Finset Cert.Prod

variable (m : (ℓ : Loc nD τ sig) → Buf (Elt Ideal) ℓ) (c : Dev nD)

theorem e0 : ∀ t : Fin cfg0.N, win0_0.index t = ![t.val / 4, t.val % 2] := (by decide +kernel : ∀ t : Fin grid0.N, _)
theorem e1 : ∀ t : Fin cfg0.N, win0_1.index t = ![t.val % 2, t.val / 2 % 2] := (by decide +kernel : ∀ t : Fin grid0.N, _)
theorem e2 : ∀ t : Fin cfg0.N, win0_2.index t = ![t.val / 4, t.val / 2 % 2] := (by decide +kernel : ∀ t : Fin grid0.N, _)

theorem b0 (f : ℕ → ℕ → EReal) (hX : V m c (Pipeline.arrRef spec0 0) = (E f : FVec Ideal S2048x5632 .bf16)) (t : Fin cfg0.N) :
    iblk m c 0 t = (E (fun r k => f (1024 * (t.val / 4) + r) (2816 * (t.val % 2) + k)) : FVec Ideal S1024x2816 .bf16) := by
  funext y
  refine (congrFun hX ((win0_0.blk t).view.emb y)).trans ?_
  have a0 : ((win0_0.blk t).view.emb y 0).val = 1024 * (t.val / 4) + (y 0).val := by blk_simp [e0]; try omega
  have a1 : ((win0_0.blk t).view.emb y 1).val = 2816 * (t.val % 2) + (y 1).val := by blk_simp [e0]; try omega
  show f ((win0_0.blk t).view.emb y 0).val ((win0_0.blk t).view.emb y 1).val = f (1024 * (t.val / 4) + (y 0).val) (2816 * (t.val % 2) + (y 1).val)
  rw [a0, a1]

theorem b1 (g : ℕ → ℕ → EReal) (hX : V m c (Pipeline.arrRef spec0 1) = (E g : FVec Ideal S5632x2048 .bf16)) (t : Fin cfg0.N) :
    iblk m c 1 t = (E (fun r k => g (2816 * (t.val % 2) + r) (1024 * (t.val / 2 % 2) + k)) : FVec Ideal S2816x1024 .bf16) := by
  funext y
  refine (congrFun hX ((win0_1.blk t).view.emb y)).trans ?_
  have a0 : ((win0_1.blk t).view.emb y 0).val = 2816 * (t.val % 2) + (y 0).val := by blk_simp [e1]; try omega
  have a1 : ((win0_1.blk t).view.emb y 1).val = 1024 * (t.val / 2 % 2) + (y 1).val := by blk_simp [e1]; try omega
  show g ((win0_1.blk t).view.emb y 0).val ((win0_1.blk t).view.emb y 1).val = g (2816 * (t.val % 2) + (y 0).val) (1024 * (t.val / 2 % 2) + (y 1).val)
  rw [a0, a1]

/-- The whole product: row `r`, column `c`. -/
def whole (f : ℕ → ℕ → EReal) (g : ℕ → ℕ → EReal) : ℕ → ℕ → EReal := fun r c => ∑ k ∈ range 5632, f r k * g k c

/-- What step `s` of the sum adds to row `r`, column `c` of the tile in place `I`, `J`. -/
def part (f : ℕ → ℕ → EReal) (g : ℕ → ℕ → EReal) (I J s r c : ℕ) : EReal := ∑ k ∈ range 2816, f (1024 * I + r) (2816 * s + k) * g (2816 * s + k) (1024 * J + c)

theorem whole_parts (f : ℕ → ℕ → EReal) (g : ℕ → ℕ → EReal) (I J r c : ℕ) :
    whole f g (1024 * I + r) (1024 * J + c) = ∑ s ∈ range 2, part f g I J s r c :=
  sum_split 2816 (fun k => f (1024 * I + r) k * g k (1024 * J + c)) 2

theorem pay_first (f : ℕ → ℕ → EReal) (g : ℕ → ℕ → EReal) :
    k0_pay2 (E f : FVec Ideal S1024x2816 .bf16) (E g : FVec Ideal S2816x1024 .bf16) = (E (fun r c => ∑ k ∈ range 2816, f r k * g k c) : FVec Ideal S1024x1024 .f32) := by
  funext i
  simp only [k0_pay2, k0_pay1, pointwise]
  exact (zero_add _).trans (sum_range (fun k => f (i 0).val k * g k (i 1).val)).symm

theorem pay_next (f : ℕ → ℕ → EReal) (g : ℕ → ℕ → EReal) (h : ℕ → ℕ → EReal) :
    k0_pay3 (E f : FVec Ideal S1024x2816 .bf16) (E g : FVec Ideal S2816x1024 .bf16) (E h : FVec Ideal S1024x1024 .f32)
      = (E (fun r c => h r c + ∑ k ∈ range 2816, f r k * g k c) : FVec Ideal S1024x1024 .f32) := by
  funext i
  simp only [k0_pay3, k0_pay1, pointwise]
  exact congrArg (h (i 0).val (i 1).val + ·) ((zero_add _).trans (sum_range (fun k => f (i 0).val k * g k (i 1).val)).symm)

theorem load_whole {S : Shape} {e : EltTy} {arg : Memref sig .tc .vmem S e} (h : arg.IsWhole) (X : Vec Ideal S e) {off : Fin S.rank → Nat}
    (inb : ∀ a, off a + S.size a ≤ S.size a) (hz : ∀ a, off a = 0) :
    View.readAt (Elt Ideal) arg.view (Rect.unit off S.size inb).toLoadRect (h.unread X) = X := by
  show View.ld (arg.view.read (Elt Ideal) (h.unread X)) (Rect.unit off S.size inb) = X
  rw [h.read_unread]
  exact View.ld_unit_lit inb X hz

theorem first_held (t : Fin cfg0.N) (h0 h1 h2) (x0 : Vec Ideal S1024x2816 .bf16) (x1 : Vec Ideal S2816x1024 .bf16) :
    sout0_A_0 c (grid0.coords t) (ms0_0 t) (hs0_0 t) (ms0_1 t) (hs0_1 t) (ms0_2 t) (hs0_2 t) scM0_0 (Memref.isWhole_whole _) h0 h1 h2 x0 x1 = k0_pay2 x0 x1 := by
  unfold sout0_A_0
  rw [View.read_writes_eq_canon _ _ _ (fun y => scover0_A_0 _ _ _ _ _ _ _ _ _ _ _ _ _ _ _ y)]
  unfold kernelRun0_A
  refine (View.canon_cons_unit_lit _ _ _ (by decide)).trans ?_
  exact congrArg₂ k0_pay2 (load_whole _ x0 _ (by decide)) (load_whole _ x1 _ (by decide))

theorem next_held_B (t : Fin cfg0.N) (h0 h1 h2) (x0 : Vec Ideal S1024x2816 .bf16) (x1 : Vec Ideal S2816x1024 .bf16) (xs : Vec Ideal S1024x1024 .f32) :
    sout0_B_0 c (grid0.coords t) (ms0_0 t) (hs0_0 t) (ms0_1 t) (hs0_1 t) (ms0_2 t) (hs0_2 t) scM0_0 (Memref.isWhole_whole _) h0 h1 h2 x0 x1 xs = k0_pay3 x0 x1 xs := by
  unfold sout0_B_0
  rw [View.read_writes_eq_canon _ _ _ (fun y => scover0_B_0 _ _ _ _ _ _ _ _ _ _ _ _ _ _ _ _ y)]
  unfold kernelRun0_B
  refine (View.canon_cons_unit_lit _ _ _ (by decide)).trans ?_
  exact (congrArg₂ (fun u v => k0_pay3 u v _) (load_whole _ x0 _ (by decide)) (load_whole _ x1 _ (by decide))).trans
    (congrArg (k0_pay3 x0 x1) (load_whole _ xs _ (by decide)))

theorem left_eq (t : Fin cfg0.N) (h0 h1 h2) (x0 : Vec Ideal S1024x2816 .bf16) (x1 : Vec Ideal S2816x1024 .bf16) (xs : Vec Ideal S1024x1024 .f32) :
    out0_B_2 c (grid0.coords t) (ms0_0 t) (hs0_0 t) (ms0_1 t) (hs0_1 t) (ms0_2 t) (hs0_2 t) scM0_0 (Memref.isWhole_whole _) h0 h1 h2 x0 x1 xs = k0_pay3 x0 x1 xs := by
  unfold out0_B_2
  rw [View.read_writes_eq_canon _ _ _ (fun y => cover0_B_2 _ _ _ _ _ _ _ _ _ _ _ _ _ _ _ _ y)]
  unfold kernelRun0_B
  refine (View.canon_cons_unit_lit _ _ _ (by decide)).trans ?_
  unfold kernelRun0_B.sl.v12
  refine (View.readCov_unit_lit _ _ _ (by decide)).trans ?_
  exact (congrArg₂ (fun u v => k0_pay3 u v _) (load_whole _ x0 _ (by decide)) (load_whole _ x1 _ (by decide))).trans
    (congrArg (k0_pay3 x0 x1) (load_whole _ xs _ (by decide)))

theorem first_snd (t : Fin cfg0.N) (ht : t.val % 2 = 0) : (outsAt0 m c t.val t.isLt).2 = k0_pay2 (iblk m c 0 t) (iblk m c 1 t) := by
  rw [outsAt0_A m c t ht (by omega) (by omega)]
  dsimp only
  exact first_held c t _ _ _ (iblk m c 0 t) (iblk m c 1 t)

theorem next_snd (t : Fin cfg0.N) (ht : ¬t.val % 2 = 0) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t ht (by omega) (by omega)]
  dsimp only
  exact next_held_B c t _ _ _ (iblk m c 0 t) (iblk m c 1 t) _

/-- The last step leaves in the output's tile what it leaves in the accumulator. -/
theorem last_eq (t : Fin cfg0.N) (ht : t.val % 2 = 1) : (outsAt0 m c t.val t.isLt).1 = (outsAt0 m c t.val t.isLt).2 := by
  rw [next_snd m c t (by omega), outsAt0_B m c t (by omega) (by omega) (by omega)]
  dsimp only
  exact left_eq c t _ _ _ (iblk m c 0 t) (iblk m c 1 t) _

theorem step (f : ℕ → ℕ → EReal) (g : ℕ → ℕ → EReal) (t : Fin cfg0.N) (r c : ℕ) :
    ∑ k ∈ range 2816, (fun r k => f (1024 * (t.val / 4) + r) (2816 * (t.val % 2) + k)) r k * (fun r k => g (2816 * (t.val % 2) + r) (1024 * (t.val / 2 % 2) + k)) k c = part f g (t.val / 4) (t.val / 2 % 2) (t.val % 2) r c := rfl

/-- After point `n` the accumulator holds the steps of the sum done so far for its tile. -/
theorem held (f : ℕ → ℕ → EReal) (g : ℕ → ℕ → EReal) (hX : V m c (Pipeline.arrRef spec0 0) = (E f : FVec Ideal S2048x5632 .bf16))
    (hY : V m c (Pipeline.arrRef spec0 1) = (E g : FVec Ideal S5632x2048 .bf16)) : ∀ (n : ℕ) (hn : n < cfg0.N),
    (outsAt0 m c n hn).2 = (E (fun r c => ∑ s ∈ range (n % 2 + 1), part f g (n / 4) (n / 2 % 2) s r c) : FVec Ideal S1024x1024 .f32) := by
  intro n
  induction n with
  | zero =>
    intro hn
    refine (first_snd m c ⟨0, hn⟩ (Nat.zero_mod _)).trans ?_
    rw [b0 m c f hX, b1 m c g hY]
    refine (pay_first _ _).trans (E_congr fun r _ c _ => ?_)
    refine (step f g ⟨0, hn⟩ r c).trans ?_
    exact (sum_range_one (fun s => part f g (0 / 4) (0 / 2 % 2) s r c)).symm
  | succ n ih =>
    intro hn
    have ih := ih (Nat.lt_of_succ_lt hn)
    by_cases hz : (n + 1) % 2 = 0
    · refine (first_snd m c ⟨n + 1, hn⟩ hz).trans ?_
      rw [b0 m c f hX, b1 m c g hY]
      refine (pay_first _ _).trans (E_congr fun r _ c _ => ?_)
      refine (step f g ⟨n + 1, hn⟩ r c).trans ?_
      dsimp only
      rw [hz]
      exact (sum_range_one (fun s => part f g ((n + 1) / 4) ((n + 1) / 2 % 2) s r c)).symm
    · have hs : (E (fun r c => (∑ s ∈ range (n % 2 + 1), part f g (n / 4) (n / 2 % 2) s r c) + part f g ((n + 1) / 4) ((n + 1) / 2 % 2) ((n + 1) % 2) r c) : FVec Ideal S1024x1024 .f32)
          = E (fun r c => ∑ s ∈ range ((n + 1) % 2 + 1), part f g ((n + 1) / 4) ((n + 1) / 2 % 2) s r c) := by
        rw [show (n + 1) / 4 = n / 4 by omega, show (n + 1) / 2 % 2 = n / 2 % 2 by omega, show (n + 1) % 2 = n % 2 + 1 by omega]
        exact E_congr fun r _ c _ => (sum_range_succ _ _).symm
      refine Eq.trans ?_ hs
      have hp : k0_pay3 (iblk m c 0 ⟨n + 1, hn⟩) (iblk m c 1 ⟨n + 1, hn⟩) (outsAt0 m c n (Nat.lt_of_succ_lt hn)).2
          = (E (fun r c => (∑ s ∈ range (n % 2 + 1), part f g (n / 4) (n / 2 % 2) s r c) + part f g ((n + 1) / 4) ((n + 1) / 2 % 2) ((n + 1) % 2) r c) : FVec Ideal S1024x1024 .f32) := by
        rw [ih, b0 m c f hX, b1 m c g hY]
        refine (pay_next _ _ _).trans (E_congr fun r _ c _ => ?_)
        exact congrArg _ (step f g ⟨n + 1, hn⟩ r c)
      exact (next_snd m c ⟨n + 1, hn⟩ hz).trans hp

theorem arr (f : ℕ → ℕ → EReal) (g : ℕ → ℕ → EReal) (hX : V m c (Pipeline.arrRef spec0 0) = (E f : FVec Ideal S2048x5632 .bf16))
    (hY : V m c (Pipeline.arrRef spec0 1) = (E g : FVec Ideal S5632x2048 .bf16)) :
    (dats m 0 c).arrAt 2 cfg0.N = (E (whole f g) : FVec Ideal S2048x2048 .f32) := by
  refine (dats m 0 c).arrAt_eq_of_covers 2 _ (by decide +kernel) fun t hf y => ?_
  have hm : t.val % 2 = 1 := (flush0_2 t).mp hf
  have a0 : ((win0_2.blk t).view.emb y 0).val = 1024 * (t.val / 4) + (y 0).val := by blk_simp [e2]; try omega
  have a1 : ((win0_2.blk t).view.emb y 1).val = 1024 * (t.val / 2 % 2) + (y 1).val := by blk_simp [e2]; try omega
  have ho := (last_eq m c t hm).trans (held m c f g hX hY t.val t.isLt)
  refine (congrFun ((after0_2 m c t).trans ho) y).trans ?_
  show _ = whole f g ((win0_2.blk t).view.emb y 0).val ((win0_2.blk t).view.emb y 1).val
  rw [a0, a1, whole_parts]
  show ∑ s ∈ range (t.val % 2 + 1), part f g (t.val / 4) (t.val / 2 % 2) s (y 0).val (y 1).val = _
  rw [hm]

theorem ref (f : ℕ → ℕ → EReal) (g : ℕ → ℕ → EReal) :
    Cert.DownReferenceIdeal.Read.val_main_v2 (F := Ideal) (E f : FVec Ideal S2048x5632 .bf16) (E g : FVec Ideal S5632x2048 .bf16) = (E (whole f g) : FVec Ideal S2048x2048 .f32) := by
  funext i
  have i0 : (i 0).val < 2048 := (i 0).isLt
  have i1 : (i 1).val < 2048 := (i 1).isLt
  refine Eq.trans ?_ (sum_range _).symm
  rw [Cert.DownReferenceIdeal.Read.val_main_v2_apply]
  refine sum_congr rfl fun k _ => ?_
  have hk := k.isLt
  rw [Cert.DownReferenceIdeal.Read.val_main_v0_apply, Cert.DownReferenceIdeal.Read.val_main_v1_apply]
  rfl

theorem values : Cert.algebraic_DownIdeal_DownReferenceIdeal := fun m ρ m' ρ' _ ha => by
  refine ⟨fun c => (dats m 0 c).arrAt 2 cfg0.N, Cert.DownIdeal.Value.run_blocks m ρ, ?_⟩
  refine (θ_run Cert.DownReferenceIdeal.defs _ _).mono (fun _ h c => ⟨(h c).1.trans ?_, (h c).2⟩) (Cert.DownReferenceIdeal.Value.run (F := Ideal) m' ρ')
  have hX : V m c (Pipeline.arrRef spec0 0) = (E (entries (m ((c.tc : Thread nD τ).loc main_arg0))) : FVec Ideal S2048x5632 .bf16) := eq_E (m := 2048) (n := 5632) _
  have hY : V m c (Pipeline.arrRef spec0 1) = (E (entries (m ((c.tc : Thread nD τ).loc main_arg1))) : FVec Ideal S5632x2048 .bf16) := eq_E (m := 5632) (n := 2048) _
  refine Eq.trans ?_ (arr m c _ _ hX hY).symm
  refine Eq.trans ?_ (ref _ _)
  exact congrArg₂ (Cert.DownReferenceIdeal.Read.val_main_v2 (F := Ideal)) ((ha c).1.trans hX) ((ha c).2.trans hY)

theorem frame_ideal : Cert.quiescent_DownIdeal := fun m ρ _ => Cert.DownIdeal.Gen.frame m ρ

theorem frame_reference : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

theorem body_same {F : FTy → Type} [FloatOps F] : Cert.DownIdeal.cc0_ffn_down (F := F) = Cert.Down.cc0_ffn_down (F := F) := rfl

theorem bodies_same {F : FTy → Type} [FloatOps F] : Cert.DownIdeal.defs₀ (F := F) = Cert.Down.defs₀ (F := F) := by
  refine congrArg (Defs.onTc (nD := Cert.Down.nD) (τ := Cert.Down.τ)) (funext fun l => funext fun a => ?_)
  match l, a with
  | 0, (t, s) => dsimp only; rw [body_same]; rfl

theorem defs_same {F : FTy → Type} [FloatOps F] : Cert.DownIdeal.defs (F := F) = Cert.Down.defs (F := F) :=
  congrArg (Pipeline.defs (Cert.Down.pcfgs (F := F))) bodies_same

theorem frame_kernel : Cert.quiescent_Down := fun m ρ _ => by
  rw [← defs_same]
  exact Cert.DownIdeal.Gen.frame (F := Bits) m ρ

end Cert.DownIdeal.Tiles

end
-- ==== Proof.DAct.lean ====
/- The product that gives the gradient of the activation: the kernel's tiles, put together, are the whole product, and so is the
   reference. -/
module

public import proofs.«01_k».proof.Defs
public import proofs.«01_k».proof.Proof.Prod
public import proofs.«01_k».proof.Proof.Gen.DAct
public import proofs.«01_k».proof.Proof.Gen.DActIdeal
public import proofs.«01_k».proof.Proof.Gen.DActIdeal.Value
public import proofs.«01_k».proof.Proof.Gen.DActReferenceIdeal
public import proofs.«01_k».proof.Proof.Gen.DActReferenceIdeal.Run
public import proofs.«01_k».proof.Proof.Gen.DActReferenceIdeal.Read
public import Idealize.ShloMosaic.Lib.Pipeline.ValueKit

@[expose] public section

set_option maxRecDepth 16384
set_option maxHeartbeats 400000

noncomputable section

namespace Cert.DActIdeal.Tiles

open Cert.DActIdeal.Gen
open Idealize.ShloMosaic Idealize.ShloMosaic.TcCoe Idealize.ShloMosaic.Tactic
open Finset Cert.Prod

variable (m : (ℓ : Loc nD τ sig) → Buf (Elt Ideal) ℓ) (c : Dev nD)

theorem e0 : ∀ t : Fin cfg0.N, win0_0.index t = ![t.val / 11, 0] := (by decide +kernel : ∀ t : Fin grid0.N, _)
theorem e1 : ∀ t : Fin cfg0.N, win0_1.index t = ![t.val % 11, 0] := (by decide +kernel : ∀ t : Fin grid0.N, _)
theorem e2 : ∀ t : Fin cfg0.N, win0_2.index t = ![t.val / 11, t.val % 11] := (by decide +kernel : ∀ t : Fin grid0.N, _)

theorem b0 (f : ℕ → ℕ → EReal) (hX : V m c (Pipeline.arrRef spec0 0) = (E f : FVec Ideal S2048x2048 .bf16)) (t : Fin cfg0.N) :
    iblk m c 0 t = (E (fun r k => f (1024 * (t.val / 11) + r) (2048 * (0) + k)) : FVec Ideal S1024x2048 .bf16) := by
  funext y
  refine (congrFun hX ((win0_0.blk t).view.emb y)).trans ?_
  have a0 : ((win0_0.blk t).view.emb y 0).val = 1024 * (t.val / 11) + (y 0).val := by blk_simp [e0]; try omega
  have a1 : ((win0_0.blk t).view.emb y 1).val = 2048 * (0) + (y 1).val := by blk_simp [e0]; try omega
  show f ((win0_0.blk t).view.emb y 0).val ((win0_0.blk t).view.emb y 1).val = f (1024 * (t.val / 11) + (y 0).val) (2048 * (0) + (y 1).val)
  rw [a0, a1]

theorem b1 (g : ℕ → ℕ → EReal) (hX : V m c (Pipeline.arrRef spec0 1) = (E g : FVec Ideal S5632x2048 .bf16)) (t : Fin cfg0.N) :
    iblk m c 1 t = (E (fun r k => g (512 * (t.val % 11) + r) (2048 * (0) + k)) : FVec Ideal S512x2048 .bf16) := by
  funext y
  refine (congrFun hX ((win0_1.blk t).view.emb y)).trans ?_
  have a0 : ((win0_1.blk t).view.emb y 0).val = 512 * (t.val % 11) + (y 0).val := by blk_simp [e1]; try omega
  have a1 : ((win0_1.blk t).view.emb y 1).val = 2048 * (0) + (y 1).val := by blk_simp [e1]; try omega
  show g ((win0_1.blk t).view.emb y 0).val ((win0_1.blk t).view.emb y 1).val = g (512 * (t.val % 11) + (y 0).val) (2048 * (0) + (y 1).val)
  rw [a0, a1]

/-- The whole product: row `r`, column `c`. -/
def whole (f : ℕ → ℕ → EReal) (g : ℕ → ℕ → EReal) : ℕ → ℕ → EReal := fun r c => ∑ k ∈ range 2048, f r k * g c k

theorem pay (f : ℕ → ℕ → EReal) (g : ℕ → ℕ → EReal) :
    k0_pay1 (E f : FVec Ideal S1024x2048 .bf16) (E g : FVec Ideal S512x2048 .bf16) = (E (fun r c => ∑ k ∈ range 2048, f r k * g c k) : FVec Ideal S1024x512 .f32) := by
  funext i
  simp only [k0_pay1, pointwise]
  exact (zero_add _).trans (sum_range (fun k => f (i 0).val k * g (i 1).val k)).symm

theorem left_eq (x0 : Vec Ideal S1024x2048 .bf16) (x1 : Vec Ideal S512x2048 .bf16) : out0_2 x0 x1 = k0_pay1 x0 x1 := by
  unfold out0_2
  rw [View.ld_unit_lit _ x0 (by decide), View.ld_unit_lit _ x1 (by decide)]
  exact View.canon_cons_unit_lit _ _ _ (by decide)

theorem arr (f : ℕ → ℕ → EReal) (g : ℕ → ℕ → EReal) (hX : V m c (Pipeline.arrRef spec0 0) = (E f : FVec Ideal S2048x2048 .bf16))
    (hY : V m c (Pipeline.arrRef spec0 1) = (E g : FVec Ideal S5632x2048 .bf16)) :
    (dats m 0 c).arrAt 2 cfg0.N = (E (whole f g) : FVec Ideal S2048x5632 .f32) := by
  refine (dats m 0 c).arrAt_eq_of_covers 2 _ (by decide +kernel) fun t hf y => ?_
  have a0 : ((win0_2.blk t).view.emb y 0).val = 1024 * (t.val / 11) + (y 0).val := by blk_simp [e2]; try omega
  have a1 : ((win0_2.blk t).view.emb y 1).val = 512 * (t.val % 11) + (y 1).val := by blk_simp [e2]; try omega
  have y0 : (y 0).val < 1024 := (y 0).isLt
  have y1 : (y 1).val < 512 := (y 1).isLt
  have ho := (left_eq _ _).trans ((congrArg₂ k0_pay1 (b0 m c f hX t) (b1 m c g hY t)).trans (pay (fun r k => f (1024 * (t.val / 11) + r) (2048 * (0) + k)) (fun r k => g (512 * (t.val % 11) + r) (2048 * (0) + k))))
  refine (congrFun ((after0_2 m c t).trans ho) y).trans ?_
  show _ = whole f g ((win0_2.blk t).view.emb y 0).val ((win0_2.blk t).view.emb y 1).val
  rw [a0, a1]
  refine sum_congr rfl fun k _ => ?_
  simp only [Nat.mul_zero, Nat.zero_add]

theorem ref (f : ℕ → ℕ → EReal) (g : ℕ → ℕ → EReal) :
    Cert.DActReferenceIdeal.Read.val_main_v4 (F := Ideal) (E f : FVec Ideal S2048x2048 .bf16) (E g : FVec Ideal S5632x2048 .bf16) = (E (whole f g) : FVec Ideal S2048x5632 .f32) := by
  funext i
  have i0 : (i 0).val < 2048 := (i 0).isLt
  have i1 : (i 1).val < 5632 := (i 1).isLt
  refine Eq.trans ?_ (sum_range _).symm
  rw [Cert.DActReferenceIdeal.Read.val_main_v4_apply]
  refine sum_congr rfl fun k _ => ?_
  have hk := k.isLt
  rw [Cert.DActReferenceIdeal.Read.val_main_v3_apply, Cert.DActReferenceIdeal.Read.val_main_v1_apply]
  rfl

theorem values : Cert.algebraic_DActIdeal_DActReferenceIdeal := fun m ρ m' ρ' _ ha => by
  refine ⟨fun c => (dats m 0 c).arrAt 2 cfg0.N, Cert.DActIdeal.Value.run_blocks m ρ, ?_⟩
  refine (θ_run Cert.DActReferenceIdeal.defs _ _).mono (fun _ h c => ⟨(h c).1.trans ?_, (h c).2⟩) (Cert.DActReferenceIdeal.Value.run (F := Ideal) m' ρ')
  have hX : V m c (Pipeline.arrRef spec0 0) = (E (entries (m ((c.tc : Thread nD τ).loc main_arg0))) : FVec Ideal S2048x2048 .bf16) := eq_E (m := 2048) (n := 2048) _
  have hY : V m c (Pipeline.arrRef spec0 1) = (E (entries (m ((c.tc : Thread nD τ).loc main_arg1))) : FVec Ideal S5632x2048 .bf16) := eq_E (m := 5632) (n := 2048) _
  refine Eq.trans ?_ (arr m c _ _ hX hY).symm
  refine Eq.trans ?_ (ref _ _)
  exact congrArg₂ (Cert.DActReferenceIdeal.Read.val_main_v4 (F := Ideal)) ((ha c).1.trans hX) ((ha c).2.trans hY)

theorem frame_ideal : Cert.quiescent_DActIdeal := fun m ρ _ => Cert.DActIdeal.Gen.frame m ρ

theorem frame_reference : Cert.quiescent_DActReferenceIdeal := fun m ρ _ =>
  (θ_run Cert.DActReferenceIdeal.defs _ _).mono (fun r h => ⟨fun c => (h c).2, sem_eq_zero_of_no_sems (by decide) r.2⟩)
    (Cert.DActReferenceIdeal.Value.run (F := Ideal) m ρ)

theorem body_same {F : FTy → Type} [FloatOps F] : Cert.DActIdeal.cc0_d_act (F := F) = Cert.DAct.cc0_d_act (F := F) := rfl

theorem bodies_same {F : FTy → Type} [FloatOps F] : Cert.DActIdeal.defs₀ (F := F) = Cert.DAct.defs₀ (F := F) := by
  refine congrArg (Defs.onTc (nD := Cert.DAct.nD) (τ := Cert.DAct.τ)) (funext fun l => funext fun a => ?_)
  match l, a with
  | 0, (t, s) => dsimp only; rw [body_same]; rfl

theorem defs_same {F : FTy → Type} [FloatOps F] : Cert.DActIdeal.defs (F := F) = Cert.DAct.defs (F := F) :=
  congrArg (Pipeline.defs (Cert.DAct.pcfgs (F := F))) bodies_same

theorem frame_kernel : Cert.quiescent_DAct := fun m ρ _ => by
  rw [← defs_same]
  exact Cert.DActIdeal.Gen.frame (F := Bits) m ρ

end Cert.DActIdeal.Tiles

end
-- ==== Proof.DwDown.lean ====
/- The product that gives the gradient of the second feed-forward weight: the kernel's tiles, put together, are the whole product, and so is the
   reference. -/
module

public import proofs.«01_k».proof.Defs
public import proofs.«01_k».proof.Proof.Prod
public import proofs.«01_k».proof.Proof.Gen.DwDown
public import proofs.«01_k».proof.Proof.Gen.DwDownIdeal
public import proofs.«01_k».proof.Proof.Gen.DwDownIdeal.Value
public import proofs.«01_k».proof.Proof.Gen.DwDownReferenceIdeal
public import proofs.«01_k».proof.Proof.Gen.DwDownReferenceIdeal.Run
public import proofs.«01_k».proof.Proof.Gen.DwDownReferenceIdeal.Read
public import Idealize.ShloMosaic.Lib.Pipeline.ValueKit

@[expose] public section

set_option maxRecDepth 16384
set_option maxHeartbeats 400000

noncomputable section

namespace Cert.DwDownIdeal.Tiles

open Cert.DwDownIdeal.Gen
open Idealize.ShloMosaic Idealize.ShloMosaic.TcCoe Idealize.ShloMosaic.Tactic
open Finset Cert.Prod

variable (m : (ℓ : Loc nD τ sig) → Buf (Elt Ideal) ℓ) (c : Dev nD)

theorem e0 : ∀ t : Fin cfg0.N, win0_0.index t = ![0, t.val / 2] := (by decide +kernel : ∀ t : Fin grid0.N, _)
theorem e1 : ∀ t : Fin cfg0.N, win0_1.index t = ![0, t.val % 2] := (by decide +kernel : ∀ t : Fin grid0.N, _)
theorem e2 : ∀ t : Fin cfg0.N, win0_2.index t = ![t.val / 2, t.val % 2] := (by decide +kernel : ∀ t : Fin grid0.N, _)

theorem b0 (f : ℕ → ℕ → EReal) (hX : V m c (Pipeline.arrRef spec0 0) = (E f : FVec Ideal S2048x5632 .bf16)) (t : Fin cfg0.N) :
    iblk m c 0 t = (E (fun r k => f (2048 * (0) + r) (512 * (t.val / 2) + k)) : FVec Ideal S2048x512 .bf16) := by
  funext y
  refine (congrFun hX ((win0_0.blk t).view.emb y)).trans ?_
  have a0 : ((win0_0.blk t).view.emb y 0).val = 2048 * (0) + (y 0).val := by blk_simp [e0]; try omega
  have a1 : ((win0_0.blk t).view.emb y 1).val = 512 * (t.val / 2) + (y 1).val := by blk_simp [e0]; try omega
  show f ((win0_0.blk t).view.emb y 0).val ((win0_0.blk t).view.emb y 1).val = f (2048 * (0) + (y 0).val) (512 * (t.val / 2) + (y 1).val)
  rw [a0, a1]

theorem b1 (g : ℕ → ℕ → EReal) (hX : V m c (Pipeline.arrRef spec0 1) = (E g : FVec Ideal S2048x2048 .bf16)) (t : Fin cfg0.N) :
    iblk m c 1 t = (E (fun r k => g (2048 * (0) + r) (1024 * (t.val % 2) + k)) : FVec Ideal S2048x1024 .bf16) := by
  funext y
  refine (congrFun hX ((win0_1.blk t).view.emb y)).trans ?_
  have a0 : ((win0_1.blk t).view.emb y 0).val = 2048 * (0) + (y 0).val := by blk_simp [e1]; try omega
  have a1 : ((win0_1.blk t).view.emb y 1).val = 1024 * (t.val % 2) + (y 1).val := by blk_simp [e1]; try omega
  show g ((win0_1.blk t).view.emb y 0).val ((win0_1.blk t).view.emb y 1).val = g (2048 * (0) + (y 0).val) (1024 * (t.val % 2) + (y 1).val)
  rw [a0, a1]

/-- The whole product: row `r`, column `c`. -/
def whole (f : ℕ → ℕ → EReal) (g : ℕ → ℕ → EReal) : ℕ → ℕ → EReal := fun r c => ∑ k ∈ range 2048, f k r * g k c

theorem pay (f : ℕ → ℕ → EReal) (g : ℕ → ℕ → EReal) :
    k0_pay1 (E f : FVec Ideal S2048x512 .bf16) (E g : FVec Ideal S2048x1024 .bf16) = (E (fun r c => ∑ k ∈ range 2048, f k r * g k c) : FVec Ideal S512x1024 .bf16) := by
  funext i
  simp only [k0_pay1, pointwise]
  exact (zero_add _).trans (sum_range (fun k => f k (i 0).val * g k (i 1).val)).symm

theorem left_eq (x0 : Vec Ideal S2048x512 .bf16) (x1 : Vec Ideal S2048x1024 .bf16) : out0_2 x0 x1 = k0_pay1 x0 x1 := by
  unfold out0_2
  rw [View.ld_unit_lit _ x0 (by decide), View.ld_unit_lit _ x1 (by decide)]
  exact View.canon_cons_unit_lit _ _ _ (by decide)

theorem arr (f : ℕ → ℕ → EReal) (g : ℕ → ℕ → EReal) (hX : V m c (Pipeline.arrRef spec0 0) = (E f : FVec Ideal S2048x5632 .bf16))
    (hY : V m c (Pipeline.arrRef spec0 1) = (E g : FVec Ideal S2048x2048 .bf16)) :
    (dats m 0 c).arrAt 2 cfg0.N = (E (whole f g) : FVec Ideal S5632x2048 .bf16) := by
  refine (dats m 0 c).arrAt_eq_of_covers 2 _ (by decide +kernel) fun t hf y => ?_
  have a0 : ((win0_2.blk t).view.emb y 0).val = 512 * (t.val / 2) + (y 0).val := by blk_simp [e2]; try omega
  have a1 : ((win0_2.blk t).view.emb y 1).val = 1024 * (t.val % 2) + (y 1).val := by blk_simp [e2]; try omega
  have y0 : (y 0).val < 512 := (y 0).isLt
  have y1 : (y 1).val < 1024 := (y 1).isLt
  have ho := (left_eq _ _).trans ((congrArg₂ k0_pay1 (b0 m c f hX t) (b1 m c g hY t)).trans (pay (fun r k => f (2048 * (0) + r) (512 * (t.val / 2) + k)) (fun r k => g (2048 * (0) + r) (1024 * (t.val % 2) + k))))
  refine (congrFun ((after0_2 m c t).trans ho) y).trans ?_
  show _ = whole f g ((win0_2.blk t).view.emb y 0).val ((win0_2.blk t).view.emb y 1).val
  rw [a0, a1]
  refine sum_congr rfl fun k _ => ?_
  simp only [Nat.mul_zero, Nat.zero_add]

theorem ref (f : ℕ → ℕ → EReal) (g : ℕ → ℕ → EReal) :
    Cert.DwDownReferenceIdeal.Read.val_main_v7 (F := Ideal) (E f : FVec Ideal S2048x5632 .bf16) (E g : FVec Ideal S2048x2048 .bf16) = (E (whole f g) : FVec Ideal S5632x2048 .bf16) := by
  funext i
  have i0 : (i 0).val < 5632 := (i 0).isLt
  have i1 : (i 1).val < 2048 := (i 1).isLt
  refine Eq.trans ?_ (sum_range _).symm
  rw [Cert.DwDownReferenceIdeal.Read.val_main_v7_apply, Cert.DwDownReferenceIdeal.Read.val_main_v6_apply, Cert.DwDownReferenceIdeal.Read.val_main_v5_apply]
  refine sum_congr rfl fun k _ => ?_
  have hk := k.isLt
  rw [Cert.DwDownReferenceIdeal.Read.val_main_v4_apply, Cert.DwDownReferenceIdeal.Read.val_main_v1_apply]
  exact mul_comm _ _

theorem values : Cert.algebraic_DwDownIdeal_DwDownReferenceIdeal := fun m ρ m' ρ' _ ha => by
  refine ⟨fun c => (dats m 0 c).arrAt 2 cfg0.N, Cert.DwDownIdeal.Value.run_blocks m ρ, ?_⟩
  refine (θ_run Cert.DwDownReferenceIdeal.defs _ _).mono (fun _ h c => ⟨(h c).1.trans ?_, (h c).2⟩) (Cert.DwDownReferenceIdeal.Value.run (F := Ideal) m' ρ')
  have hX : V m c (Pipeline.arrRef spec0 0) = (E (entries (m ((c.tc : Thread nD τ).loc main_arg0))) : FVec Ideal S2048x5632 .bf16) := eq_E (m := 2048) (n := 5632) _
  have hY : V m c (Pipeline.arrRef spec0 1) = (E (entries (m ((c.tc : Thread nD τ).loc main_arg1))) : FVec Ideal S2048x2048 .bf16) := eq_E (m := 2048) (n := 2048) _
  refine Eq.trans ?_ (arr m c _ _ hX hY).symm
  refine Eq.trans ?_ (ref _ _)
  exact congrArg₂ (Cert.DwDownReferenceIdeal.Read.val_main_v7 (F := Ideal)) ((ha c).1.trans hX) ((ha c).2.trans hY)

theorem frame_ideal : Cert.quiescent_DwDownIdeal := fun m ρ _ => Cert.DwDownIdeal.Gen.frame m ρ

theorem frame_reference : Cert.quiescent_DwDownReferenceIdeal := fun m ρ _ =>
  (θ_run Cert.DwDownReferenceIdeal.defs _ _).mono (fun r h => ⟨fun c => (h c).2, sem_eq_zero_of_no_sems (by decide) r.2⟩)
    (Cert.DwDownReferenceIdeal.Value.run (F := Ideal) m ρ)

theorem body_same {F : FTy → Type} [FloatOps F] : Cert.DwDownIdeal.cc0_dw_down (F := F) = Cert.DwDown.cc0_dw_down (F := F) := rfl

theorem bodies_same {F : FTy → Type} [FloatOps F] : Cert.DwDownIdeal.defs₀ (F := F) = Cert.DwDown.defs₀ (F := F) := by
  refine congrArg (Defs.onTc (nD := Cert.DwDown.nD) (τ := Cert.DwDown.τ)) (funext fun l => funext fun a => ?_)
  match l, a with
  | 0, (t, s) => dsimp only; rw [body_same]; rfl

theorem defs_same {F : FTy → Type} [FloatOps F] : Cert.DwDownIdeal.defs (F := F) = Cert.DwDown.defs (F := F) :=
  congrArg (Pipeline.defs (Cert.DwDown.pcfgs (F := F))) bodies_same

theorem frame_kernel : Cert.quiescent_DwDown := fun m ρ _ => by
  rw [← defs_same]
  exact Cert.DwDownIdeal.Gen.frame (F := Bits) m ρ

end Cert.DwDownIdeal.Tiles

end
-- ==== Proof.Up.lean ====
/- The product that gives the first feed-forward product: the kernel's tiles, put together, are the whole product, and so is the
   reference. -/
module

public import proofs.«01_k».proof.Defs
public import proofs.«01_k».proof.Proof.Prod
public import proofs.«01_k».proof.Proof.Gen.Up
public import proofs.«01_k».proof.Proof.Gen.UpIdeal
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import Idealize.ShloMosaic.Lib.Pipeline.ValueKit

@[expose] public section

set_option maxRecDepth 16384
set_option maxHeartbeats 400000

noncomputable section

namespace Cert.UpIdeal.Tiles

open Cert.UpIdeal.Gen
open Idealize.ShloMosaic Idealize.ShloMosaic.TcCoe Idealize.ShloMosaic.Tactic
open Finset Cert.Prod

variable (m : (ℓ : Loc nD τ sig) → Buf (Elt Ideal) ℓ) (c : Dev nD)

theorem e0 : ∀ t : Fin cfg0.N, win0_0.index t = ![t.val / 11, 0] := (by decide +kernel : ∀ t : Fin grid0.N, _)
theorem e1 : ∀ t : Fin cfg0.N, win0_1.index t = ![0, t.val % 11] := (by decide +kernel : ∀ t : Fin grid0.N, _)
theorem e2 : ∀ t : Fin cfg0.N, win0_2.index t = ![t.val / 11, t.val % 11] := (by decide +kernel : ∀ t : Fin grid0.N, _)

theorem b0 (f : ℕ → ℕ → EReal) (hX : V m c (Pipeline.arrRef spec0 0) = (E f : FVec Ideal S2048x2048 .bf16)) (t : Fin cfg0.N) :
    iblk m c 0 t = (E (fun r k => f (1024 * (t.val / 11) + r) (2048 * (0) + k)) : FVec Ideal S1024x2048 .bf16) := by
  funext y
  refine (congrFun hX ((win0_0.blk t).view.emb y)).trans ?_
  have a0 : ((win0_0.blk t).view.emb y 0).val = 1024 * (t.val / 11) + (y 0).val := by blk_simp [e0]; try omega
  have a1 : ((win0_0.blk t).view.emb y 1).val = 2048 * (0) + (y 1).val := by blk_simp [e0]; try omega
  show f ((win0_0.blk t).view.emb y 0).val ((win0_0.blk t).view.emb y 1).val = f (1024 * (t.val / 11) + (y 0).val) (2048 * (0) + (y 1).val)
  rw [a0, a1]

theorem b1 (g : ℕ → ℕ → EReal) (hX : V m c (Pipeline.arrRef spec0 1) = (E g : FVec Ideal S2048x11264 .bf16)) (t : Fin cfg0.N) :
    iblk m c 1 t = (E (fun r k => g (2048 * (0) + r) (1024 * (t.val % 11) + k)) : FVec Ideal S2048x1024 .bf16) := by
  funext y
  refine (congrFun hX ((win0_1.blk t).view.emb y)).trans ?_
  have a0 : ((win0_1.blk t).view.emb y 0).val = 2048 * (0) + (y 0).val := by blk_simp [e1]; try omega
  have a1 : ((win0_1.blk t).view.emb y 1).val = 1024 * (t.val % 11) + (y 1).val := by blk_simp [e1]; try omega
  show g ((win0_1.blk t).view.emb y 0).val ((win0_1.blk t).view.emb y 1).val = g (2048 * (0) + (y 0).val) (1024 * (t.val % 11) + (y 1).val)
  rw [a0, a1]

/-- The whole product: row `r`, column `c`. -/
def whole (f : ℕ → ℕ → EReal) (g : ℕ → ℕ → EReal) : ℕ → ℕ → EReal := fun r c => ∑ k ∈ range 2048, f r k * g k c

theorem pay (f : ℕ → ℕ → EReal) (g : ℕ → ℕ → EReal) :
    k0_pay1 (E f : FVec Ideal S1024x2048 .bf16) (E g : FVec Ideal S2048x1024 .bf16) = (E (fun r c => ∑ k ∈ range 2048, f r k * g k c) : FVec Ideal S1024x1024 .f32) := by
  funext i
  simp only [k0_pay1, pointwise]
  exact (zero_add _).trans (sum_range (fun k => f (i 0).val k * g k (i 1).val)).symm

theorem left_eq (x0 : Vec Ideal S1024x2048 .bf16) (x1 : Vec Ideal S2048x1024 .bf16) : out0_2 x0 x1 = k0_pay1 x0 x1 := by
  unfold out0_2
  rw [View.ld_unit_lit _ x0 (by decide), View.ld_unit_lit _ x1 (by decide)]
  exact View.canon_cons_unit_lit _ _ _ (by decide)

theorem arr (f : ℕ → ℕ → EReal) (g : ℕ → ℕ → EReal) (hX : V m c (Pipeline.arrRef spec0 0) = (E f : FVec Ideal S2048x2048 .bf16))
    (hY : V m c (Pipeline.arrRef spec0 1) = (E g : FVec Ideal S2048x11264 .bf16)) :
    (dats m 0 c).arrAt 2 cfg0.N = (E (whole f g) : FVec Ideal S2048x11264 .f32) := by
  refine (dats m 0 c).arrAt_eq_of_covers 2 _ (by decide +kernel) fun t hf y => ?_
  have a0 : ((win0_2.blk t).view.emb y 0).val = 1024 * (t.val / 11) + (y 0).val := by blk_simp [e2]; try omega
  have a1 : ((win0_2.blk t).view.emb y 1).val = 1024 * (t.val % 11) + (y 1).val := by blk_simp [e2]; try omega
  have y0 : (y 0).val < 1024 := (y 0).isLt
  have y1 : (y 1).val < 1024 := (y 1).isLt
  have ho := (left_eq _ _).trans ((congrArg₂ k0_pay1 (b0 m c f hX t) (b1 m c g hY t)).trans (pay (fun r k => f (1024 * (t.val / 11) + r) (2048 * (0) + k)) (fun r k => g (2048 * (0) + r) (1024 * (t.val % 11) + k))))
  refine (congrFun ((after0_2 m c t).trans ho) y).trans ?_
  show _ = whole f g ((win0_2.blk t).view.emb y 0).val ((win0_2.blk t).view.emb y 1).val
  rw [a0, a1]
  refine sum_congr rfl fun k _ => ?_
  simp only [Nat.mul_zero, Nat.zero_add]

theorem ref (f : ℕ → ℕ → EReal) (g : ℕ → ℕ → EReal) :
    Cert.UpReferenceIdeal.Read.val_main_v2 (F := Ideal) (E f : FVec Ideal S2048x2048 .bf16) (E g : FVec Ideal S2048x11264 .bf16) = (E (whole f g) : FVec Ideal S2048x11264 .f32) := by
  funext i
  have i0 : (i 0).val < 2048 := (i 0).isLt
  have i1 : (i 1).val < 11264 := (i 1).isLt
  refine Eq.trans ?_ (sum_range _).symm
  rw [Cert.UpReferenceIdeal.Read.val_main_v2_apply]
  refine sum_congr rfl fun k _ => ?_
  have hk := k.isLt
  rw [Cert.UpReferenceIdeal.Read.val_main_v0_apply, Cert.UpReferenceIdeal.Read.val_main_v1_apply]
  rfl

theorem values : Cert.algebraic_UpIdeal_UpReferenceIdeal := fun m ρ m' ρ' _ ha => by
  refine ⟨fun c => (dats m 0 c).arrAt 2 cfg0.N, Cert.UpIdeal.Value.run_blocks m ρ, ?_⟩
  refine (θ_run Cert.UpReferenceIdeal.defs _ _).mono (fun _ h c => ⟨(h c).1.trans ?_, (h c).2⟩) (Cert.UpReferenceIdeal.Value.run (F := Ideal) m' ρ')
  have hX : V m c (Pipeline.arrRef spec0 0) = (E (entries (m ((c.tc : Thread nD τ).loc main_arg0))) : FVec Ideal S2048x2048 .bf16) := eq_E (m := 2048) (n := 2048) _
  have hY : V m c (Pipeline.arrRef spec0 1) = (E (entries (m ((c.tc : Thread nD τ).loc main_arg1))) : FVec Ideal S2048x11264 .bf16) := eq_E (m := 2048) (n := 11264) _
  refine Eq.trans ?_ (arr m c _ _ hX hY).symm
  refine Eq.trans ?_ (ref _ _)
  exact congrArg₂ (Cert.UpReferenceIdeal.Read.val_main_v2 (F := Ideal)) ((ha c).1.trans hX) ((ha c).2.trans hY)

theorem frame_ideal : Cert.quiescent_UpIdeal := fun m ρ _ => Cert.UpIdeal.Gen.frame m ρ

theorem frame_reference : Cert.quiescent_UpReferenceIdeal := fun m ρ _ =>
  (θ_run Cert.UpReferenceIdeal.defs _ _).mono (fun r h => ⟨fun c => (h c).2, sem_eq_zero_of_no_sems (by decide) r.2⟩)
    (Cert.UpReferenceIdeal.Value.run (F := Ideal) m ρ)

theorem body_same {F : FTy → Type} [FloatOps F] : Cert.UpIdeal.cc0_ffn_up (F := F) = Cert.Up.cc0_ffn_up (F := F) := rfl

theorem bodies_same {F : FTy → Type} [FloatOps F] : Cert.UpIdeal.defs₀ (F := F) = Cert.Up.defs₀ (F := F) := by
  refine congrArg (Defs.onTc (nD := Cert.Up.nD) (τ := Cert.Up.τ)) (funext fun l => funext fun a => ?_)
  match l, a with
  | 0, (t, s) => dsimp only; rw [body_same]; rfl

theorem defs_same {F : FTy → Type} [FloatOps F] : Cert.UpIdeal.defs (F := F) = Cert.Up.defs (F := F) :=
  congrArg (Pipeline.defs (Cert.Up.pcfgs (F := F))) bodies_same

theorem frame_kernel : Cert.quiescent_Up := fun m ρ _ => by
  rw [← defs_same]
  exact Cert.UpIdeal.Gen.frame (F := Bits) m ρ

end Cert.UpIdeal.Tiles

end
-- ==== Proof.DUp.lean ====
/- The product that gives the gradient of the feed-forward input: the kernel's tiles, put together, are the whole product, and so is the
   reference. -/
module

public import proofs.«01_k».proof.Defs
public import proofs.«01_k».proof.Proof.Prod
public import proofs.«01_k».proof.Proof.Gen.DUp
public import proofs.«01_k».proof.Proof.Gen.DUpIdeal
public import proofs.«01_k».proof.Proof.Gen.DUpIdeal.Value
public import proofs.«01_k».proof.Proof.Gen.DUpReferenceIdeal
public import proofs.«01_k».proof.Proof.Gen.DUpReferenceIdeal.Run
public import proofs.«01_k».proof.Proof.Gen.DUpReferenceIdeal.Read
public import Idealize.ShloMosaic.Lib.Pipeline.ValueKit

@[expose] public section

set_option maxRecDepth 16384
set_option maxHeartbeats 400000

noncomputable section

namespace Cert.DUpIdeal.Tiles

open Cert.DUpIdeal.Gen
open Idealize.ShloMosaic Idealize.ShloMosaic.TcCoe Idealize.ShloMosaic.Tactic
open Finset Cert.Prod

variable (m : (ℓ : Loc nD τ sig) → Buf (Elt Ideal) ℓ) (c : Dev nD)

theorem e0 : ∀ t : Fin cfg0.N, win0_0.index t = ![(t.val % 4) / 2, t.val / 8, (t.val % 4) % 2] := (by decide +kernel : ∀ t : Fin grid0.N, _)
theorem e1 : ∀ t : Fin cfg0.N, win0_1.index t = ![t.val / 4 % 2, t.val % 4] := (by decide +kernel : ∀ t : Fin grid0.N, _)
theorem e2 : ∀ t : Fin cfg0.N, win0_2.index t = ![t.val / 8, t.val / 4 % 2] := (by decide +kernel : ∀ t : Fin grid0.N, _)

theorem b0 (f : ℕ → ℕ → ℕ → EReal) (hX : V m c (Pipeline.arrRef spec0 0) = (E3 f : FVec Ideal S2x2048x5632 .bf16)) (t : Fin cfg0.N) :
    iblk m c 0 t = (E3 (fun _ r k => f ((t.val % 4) / 2) (1024 * (t.val / 8) + r) (2816 * ((t.val % 4) % 2) + k)) : FVec Ideal S1x1024x2816 .bf16) := by
  funext y
  refine (congrFun hX ((win0_0.blk t).view.emb y)).trans ?_
  have a0 : ((win0_0.blk t).view.emb y 0).val = (t.val % 4) / 2 := by blk_simp [e0]; try omega
  have a1 : ((win0_0.blk t).view.emb y 1).val = 1024 * (t.val / 8) + (y 1).val := by blk_simp [e0]; try omega
  have a2 : ((win0_0.blk t).view.emb y 2).val = 2816 * ((t.val % 4) % 2) + (y 2).val := by blk_simp [e0]; try omega
  show f ((win0_0.blk t).view.emb y 0).val ((win0_0.blk t).view.emb y 1).val ((win0_0.blk t).view.emb y 2).val = f ((t.val % 4) / 2) (1024 * (t.val / 8) + (y 1).val) (2816 * ((t.val % 4) % 2) + (y 2).val)
  rw [a0, a1, a2]

theorem b1 (g : ℕ → ℕ → EReal) (hX : V m c (Pipeline.arrRef spec0 1) = (E g : FVec Ideal S2048x11264 .bf16)) (t : Fin cfg0.N) :
    iblk m c 1 t = (E (fun r k => g (1024 * (t.val / 4 % 2) + r) (2816 * (t.val % 4) + k)) : FVec Ideal S1024x2816 .bf16) := by
  funext y
  refine (congrFun hX ((win0_1.blk t).view.emb y)).trans ?_
  have a0 : ((win0_1.blk t).view.emb y 0).val = 1024 * (t.val / 4 % 2) + (y 0).val := by blk_simp [e1]; try omega
  have a1 : ((win0_1.blk t).view.emb y 1).val = 2816 * (t.val % 4) + (y 1).val := by blk_simp [e1]; try omega
  show g ((win0_1.blk t).view.emb y 0).val ((win0_1.blk t).view.emb y 1).val = g (1024 * (t.val / 4 % 2) + (y 0).val) (2816 * (t.val % 4) + (y 1).val)
  rw [a0, a1]

/-- The whole product: row `r`, column `c`. -/
def whole (f : ℕ → ℕ → ℕ → EReal) (g : ℕ → ℕ → EReal) : ℕ → ℕ → EReal := fun r c => ∑ k ∈ range 11264, beside 5632 f r k * g c k

/-- What step `s` of the sum adds to row `r`, column `c` of the tile in place `I`, `J`. -/
def part (f : ℕ → ℕ → ℕ → EReal) (g : ℕ → ℕ → EReal) (I J s r c : ℕ) : EReal := ∑ k ∈ range 2816, beside 5632 f (1024 * I + r) (2816 * s + k) * g (1024 * J + c) (2816 * s + k)

theorem whole_parts (f : ℕ → ℕ → ℕ → EReal) (g : ℕ → ℕ → EReal) (I J r c : ℕ) :
    whole f g (1024 * I + r) (1024 * J + c) = ∑ s ∈ range 4, part f g I J s r c :=
  sum_split 2816 (fun k => beside 5632 f (1024 * I + r) k * g (1024 * J + c) k) 4

theorem pay_first (f : ℕ → ℕ → ℕ → EReal) (g : ℕ → ℕ → EReal) :
    k0_pay2 (E3 f : FVec Ideal S1x1024x2816 .bf16) (E g : FVec Ideal S1024x2816 .bf16) = (E (fun r c => ∑ k ∈ range 2816, f 0 r k * g c k) : FVec Ideal S1024x1024 .f32) := by
  funext i
  simp only [k0_pay2, k0_pay1, pointwise]
  exact (zero_add _).trans (sum_range (fun k => f 0 (i 0).val k * g (i 1).val k)).symm

theorem pay_next (f : ℕ → ℕ → ℕ → EReal) (g : ℕ → ℕ → EReal) (h : ℕ → ℕ → EReal) :
    k0_pay3 (E3 f : FVec Ideal S1x1024x2816 .bf16) (E g : FVec Ideal S1024x2816 .bf16) (E h : FVec Ideal S1024x1024 .f32)
      = (E (fun r c => h r c + ∑ k ∈ range 2816, f 0 r k * g c k) : FVec Ideal S1024x1024 .f32) := by
  funext i
  simp only [k0_pay3, k0_pay1, pointwise]
  exact congrArg (h (i 0).val (i 1).val + ·) ((zero_add _).trans (sum_range (fun k => f 0 (i 0).val k * g (i 1).val k)).symm)

theorem load_whole {S : Shape} {e : EltTy} {arg : Memref sig .tc .vmem S e} (h : arg.IsWhole) (X : Vec Ideal S e) {off : Fin S.rank → Nat}
    (inb : ∀ a, off a + S.size a ≤ S.size a) (hz : ∀ a, off a = 0) :
    View.readAt (Elt Ideal) arg.view (Rect.unit off S.size inb).toLoadRect (h.unread X) = X := by
  show View.ld (arg.view.read (Elt Ideal) (h.unread X)) (Rect.unit off S.size inb) = X
  rw [h.read_unread]
  exact View.ld_unit_lit inb X hz

theorem first_held (t : Fin cfg0.N) (h0 h1 h2) (x0 : Vec Ideal S1x1024x2816 .bf16) (x1 : Vec Ideal S1024x2816 .bf16) :
    sout0_A_0 c (grid0.coords t) (ms0_0 t) (hs0_0 t) (ms0_1 t) (hs0_1 t) (ms0_2 t) (hs0_2 t) scM0_0 (Memref.isWhole_whole _) h0 h1 h2 x0 x1 = k0_pay2 x0 x1 := by
  unfold sout0_A_0
  rw [View.read_writes_eq_canon _ _ _ (fun y => scover0_A_0 _ _ _ _ _ _ _ _ _ _ _ _ _ _ _ y)]
  unfold kernelRun0_A
  refine (View.canon_cons_unit_lit _ _ _ (by decide)).trans ?_
  exact congrArg₂ k0_pay2 (load_whole _ x0 _ (by decide)) (load_whole _ x1 _ (by decide))

theorem next_held_B (t : Fin cfg0.N) (h0 h1 h2) (x0 : Vec Ideal S1x1024x2816 .bf16) (x1 : Vec Ideal S1024x2816 .bf16) (xs : Vec Ideal S1024x1024 .f32) :
    sout0_B_0 c (grid0.coords t) (ms0_0 t) (hs0_0 t) (ms0_1 t) (hs0_1 t) (ms0_2 t) (hs0_2 t) scM0_0 (Memref.isWhole_whole _) h0 h1 h2 x0 x1 xs = k0_pay3 x0 x1 xs := by
  unfold sout0_B_0
  rw [View.read_writes_eq_canon _ _ _ (fun y => scover0_B_0 _ _ _ _ _ _ _ _ _ _ _ _ _ _ _ _ y)]
  unfold kernelRun0_B
  refine (View.canon_cons_unit_lit _ _ _ (by decide)).trans ?_
  exact (congrArg₂ (fun u v => k0_pay3 u v _) (load_whole _ x0 _ (by decide)) (load_whole _ x1 _ (by decide))).trans
    (congrArg (k0_pay3 x0 x1) (load_whole _ xs _ (by decide)))

theorem next_held_C (t : Fin cfg0.N) (h0 h1 h2) (x0 : Vec Ideal S1x1024x2816 .bf16) (x1 : Vec Ideal S1024x2816 .bf16) (xs : Vec Ideal S1024x1024 .f32) :
    sout0_C_0 c (grid0.coords t) (ms0_0 t) (hs0_0 t) (ms0_1 t) (hs0_1 t) (ms0_2 t) (hs0_2 t) scM0_0 (Memref.isWhole_whole _) h0 h1 h2 x0 x1 xs = k0_pay3 x0 x1 xs := by
  unfold sout0_C_0
  rw [View.read_writes_eq_canon _ _ _ (fun y => scover0_C_0 _ _ _ _ _ _ _ _ _ _ _ _ _ _ _ _ y)]
  unfold kernelRun0_C
  refine (View.canon_cons_unit_lit _ _ _ (by decide)).trans ?_
  exact (congrArg₂ (fun u v => k0_pay3 u v _) (load_whole _ x0 _ (by decide)) (load_whole _ x1 _ (by decide))).trans
    (congrArg (k0_pay3 x0 x1) (load_whole _ xs _ (by decide)))

theorem left_eq (t : Fin cfg0.N) (h0 h1 h2) (x0 : Vec Ideal S1x1024x2816 .bf16) (x1 : Vec Ideal S1024x2816 .bf16) (xs : Vec Ideal S1024x1024 .f32) :
    out0_C_2 c (grid0.coords t) (ms0_0 t) (hs0_0 t) (ms0_1 t) (hs0_1 t) (ms0_2 t) (hs0_2 t) scM0_0 (Memref.isWhole_whole _) h0 h1 h2 x0 x1 xs = k0_pay3 x0 x1 xs := by
  unfold out0_C_2
  rw [View.read_writes_eq_canon _ _ _ (fun y => cover0_C_2 _ _ _ _ _ _ _ _ _ _ _ _ _ _ _ _ y)]
  unfold kernelRun0_C
  refine (View.canon_cons_unit_lit _ _ _ (by decide)).trans ?_
  unfold kernelRun0_C.sl.v13
  refine (View.readCov_unit_lit _ _ _ (by decide)).trans ?_
  exact (congrArg₂ (fun u v => k0_pay3 u v _) (load_whole _ x0 _ (by decide)) (load_whole _ x1 _ (by decide))).trans
    (congrArg (k0_pay3 x0 x1) (load_whole _ xs _ (by decide)))

theorem first_snd (t : Fin cfg0.N) (ht : t.val % 4 = 0) : (outsAt0 m c t.val t.isLt).2 = k0_pay2 (iblk m c 0 t) (iblk m c 1 t) := by
  rw [outsAt0_A m c t ht (by omega) (by omega)]
  dsimp only
  exact first_held c t _ _ _ (iblk m c 0 t) (iblk m c 1 t)

theorem next_snd (t : Fin cfg0.N) (ht : ¬t.val % 4 = 0) :
    (outsAt0 m c t.val t.isLt).2 = k0_pay3 (iblk m c 0 t) (iblk m c 1 t) (outsAt0 m c (t.val - 1) (Nat.lt_of_le_of_lt (Nat.sub_le _ _) t.isLt)).2 := by
  by_cases hl : t.val % 4 = 3
  · skip
    rw [outsAt0_C m c t ht (by omega) (by omega)]
    dsimp only
    exact next_held_C c t _ _ _ (iblk m c 0 t) (iblk m c 1 t) _
  · skip
    rw [outsAt0_B m c t ht (by omega) (by omega)]
    dsimp only
    exact next_held_B c t _ _ _ (iblk m c 0 t) (iblk m c 1 t) _

/-- The last step leaves in the output's tile what it leaves in the accumulator. -/
theorem last_eq (t : Fin cfg0.N) (ht : t.val % 4 = 3) : (outsAt0 m c t.val t.isLt).1 = (outsAt0 m c t.val t.isLt).2 := by
  rw [next_snd m c t (by omega), outsAt0_C m c t (by omega) (by omega) (by omega)]
  dsimp only
  exact left_eq c t _ _ _ (iblk m c 0 t) (iblk m c 1 t) _

theorem step (f : ℕ → ℕ → ℕ → EReal) (g : ℕ → ℕ → EReal) (t : Fin cfg0.N) (r c : ℕ) :
    ∑ k ∈ range 2816, (fun _ r k => f ((t.val % 4) / 2) (1024 * (t.val / 8) + r) (2816 * ((t.val % 4) % 2) + k)) 0 r k * (fun r k => g (1024 * (t.val / 4 % 2) + r) (2816 * (t.val % 4) + k)) c k = part f g (t.val / 8) (t.val / 4 % 2) (t.val % 4) r c := sum_congr rfl fun k hk => by
    have hk := mem_range.mp hk
    simp only [beside]
    rw [show (2816 * (t.val % 4) + k) / 5632 = t.val % 4 / 2 by omega, show (2816 * (t.val % 4) + k) % 5632 = 2816 * (t.val % 4 % 2) + k by omega]

/-- After point `n` the accumulator holds the steps of the sum done so far for its tile. -/
theorem held (f : ℕ → ℕ → ℕ → EReal) (g : ℕ → ℕ → EReal) (hX : V m c (Pipeline.arrRef spec0 0) = (E3 f : FVec Ideal S2x2048x5632 .bf16))
    (hY : V m c (Pipeline.arrRef spec0 1) = (E g : FVec Ideal S2048x11264 .bf16)) : ∀ (n : ℕ) (hn : n < cfg0.N),
    (outsAt0 m c n hn).2 = (E (fun r c => ∑ s ∈ range (n % 4 + 1), part f g (n / 8) (n / 4 % 2) s r c) : FVec Ideal S1024x1024 .f32) := by
  intro n
  induction n with
  | zero =>
    intro hn
    refine (first_snd m c ⟨0, hn⟩ (Nat.zero_mod _)).trans ?_
    rw [b0 m c f hX, b1 m c g hY]
    refine (pay_first _ _).trans (E_congr fun r _ c _ => ?_)
    refine (step f g ⟨0, hn⟩ r c).trans ?_
    exact (sum_range_one (fun s => part f g (0 / 8) (0 / 4 % 2) s r c)).symm
  | succ n ih =>
    intro hn
    have ih := ih (Nat.lt_of_succ_lt hn)
    by_cases hz : (n + 1) % 4 = 0
    · refine (first_snd m c ⟨n + 1, hn⟩ hz).trans ?_
      rw [b0 m c f hX, b1 m c g hY]
      refine (pay_first _ _).trans (E_congr fun r _ c _ => ?_)
      refine (step f g ⟨n + 1, hn⟩ r c).trans ?_
      dsimp only
      rw [hz]
      exact (sum_range_one (fun s => part f g ((n + 1) / 8) ((n + 1) / 4 % 2) s r c)).symm
    · have hs : (E (fun r c => (∑ s ∈ range (n % 4 + 1), part f g (n / 8) (n / 4 % 2) s r c) + part f g ((n + 1) / 8) ((n + 1) / 4 % 2) ((n + 1) % 4) r c) : FVec Ideal S1024x1024 .f32)
          = E (fun r c => ∑ s ∈ range ((n + 1) % 4 + 1), part f g ((n + 1) / 8) ((n + 1) / 4 % 2) s r c) := by
        rw [show (n + 1) / 8 = n / 8 by omega, show (n + 1) / 4 % 2 = n / 4 % 2 by omega, show (n + 1) % 4 = n % 4 + 1 by omega]
        exact E_congr fun r _ c _ => (sum_range_succ _ _).symm
      refine Eq.trans ?_ hs
      have hp : k0_pay3 (iblk m c 0 ⟨n + 1, hn⟩) (iblk m c 1 ⟨n + 1, hn⟩) (outsAt0 m c n (Nat.lt_of_succ_lt hn)).2
          = (E (fun r c => (∑ s ∈ range (n % 4 + 1), part f g (n / 8) (n / 4 % 2) s r c) + part f g ((n + 1) / 8) ((n + 1) / 4 % 2) ((n + 1) % 4) r c) : FVec Ideal S1024x1024 .f32) := by
        rw [ih, b0 m c f hX, b1 m c g hY]
        refine (pay_next _ _ _).trans (E_congr fun r _ c _ => ?_)
        exact congrArg _ (step f g ⟨n + 1, hn⟩ r c)
      exact (next_snd m c ⟨n + 1, hn⟩ hz).trans hp

theorem arr (f : ℕ → ℕ → ℕ → EReal) (g : ℕ → ℕ → EReal) (hX : V m c (Pipeline.arrRef spec0 0) = (E3 f : FVec Ideal S2x2048x5632 .bf16))
    (hY : V m c (Pipeline.arrRef spec0 1) = (E g : FVec Ideal S2048x11264 .bf16)) :
    (dats m 0 c).arrAt 2 cfg0.N = (E (whole f g) : FVec Ideal S2048x2048 .f32) := by
  refine (dats m 0 c).arrAt_eq_of_covers 2 _ (by decide +kernel) fun t hf y => ?_
  have hm : t.val % 4 = 3 := (flush0_2 t).mp hf
  have a0 : ((win0_2.blk t).view.emb y 0).val = 1024 * (t.val / 8) + (y 0).val := by blk_simp [e2]; try omega
  have a1 : ((win0_2.blk t).view.emb y 1).val = 1024 * (t.val / 4 % 2) + (y 1).val := by blk_simp [e2]; try omega
  have ho := (last_eq m c t hm).trans (held m c f g hX hY t.val t.isLt)
  refine (congrFun ((after0_2 m c t).trans ho) y).trans ?_
  show _ = whole f g ((win0_2.blk t).view.emb y 0).val ((win0_2.blk t).view.emb y 1).val
  rw [a0, a1, whole_parts]
  show ∑ s ∈ range (t.val % 4 + 1), part f g (t.val / 8) (t.val / 4 % 2) s (y 0).val (y 1).val = _
  rw [hm]

theorem ref (f : ℕ → ℕ → ℕ → EReal) (g : ℕ → ℕ → EReal) :
    Cert.DUpReferenceIdeal.Read.val_main_v6 (F := Ideal) (E3 f : FVec Ideal S2x2048x5632 .bf16) (E g : FVec Ideal S2048x11264 .bf16) = (E (whole f g) : FVec Ideal S2048x2048 .f32) := by
  funext i
  have i0 : (i 0).val < 2048 := (i 0).isLt
  have i1 : (i 1).val < 2048 := (i 1).isLt
  refine Eq.trans ?_ (sum_range _).symm
  rw [Cert.DUpReferenceIdeal.Read.val_main_v6_apply]
  refine sum_congr rfl fun k _ => ?_
  have hk := k.isLt
  rw [Cert.DUpReferenceIdeal.Read.val_main_v5_apply, Cert.DUpReferenceIdeal.Read.val_main_v1_apply, Cert.DUpReferenceIdeal.Read.val_main_v0_apply, Cert.DUpReferenceIdeal.Read.val_main_v3_apply]
  show f (((i 0).val * 11264 + k.val) / 5632 % 2) (((i 0).val * 11264 + k.val) / 11264) (((i 0).val * 11264 + k.val) % 5632) * g _ _ = beside 5632 f (i 0).val k.val * g _ _
  rw [beside, show ((i 0).val * 11264 + k.val) / 5632 % 2 = k.val / 5632 by omega, show ((i 0).val * 11264 + k.val) / 11264 = (i 0).val by omega,
    show ((i 0).val * 11264 + k.val) % 5632 = k.val % 5632 by omega]

theorem values : Cert.algebraic_DUpIdeal_DUpReferenceIdeal := fun m ρ m' ρ' _ ha => by
  refine ⟨fun c => (dats m 0 c).arrAt 2 cfg0.N, Cert.DUpIdeal.Value.run_blocks m ρ, ?_⟩
  refine (θ_run Cert.DUpReferenceIdeal.defs _ _).mono (fun _ h c => ⟨(h c).1.trans ?_, (h c).2⟩) (Cert.DUpReferenceIdeal.Value.run (F := Ideal) m' ρ')
  have hX : V m c (Pipeline.arrRef spec0 0) = (E3 (entries3 (m ((c.tc : Thread nD τ).loc main_arg0))) : FVec Ideal S2x2048x5632 .bf16) := eq_E3 (l := 2) (m := 2048) (n := 5632) _
  have hY : V m c (Pipeline.arrRef spec0 1) = (E (entries (m ((c.tc : Thread nD τ).loc main_arg1))) : FVec Ideal S2048x11264 .bf16) := eq_E (m := 2048) (n := 11264) _
  refine Eq.trans ?_ (arr m c _ _ hX hY).symm
  refine Eq.trans ?_ (ref _ _)
  exact congrArg₂ (Cert.DUpReferenceIdeal.Read.val_main_v6 (F := Ideal)) ((ha c).1.trans hX) ((ha c).2.trans hY)

theorem frame_ideal : Cert.quiescent_DUpIdeal := fun m ρ _ => Cert.DUpIdeal.Gen.frame m ρ

theorem frame_reference : Cert.quiescent_DUpReferenceIdeal := fun m ρ _ =>
  (θ_run Cert.DUpReferenceIdeal.defs _ _).mono (fun r h => ⟨fun c => (h c).2, sem_eq_zero_of_no_sems (by decide) r.2⟩)
    (Cert.DUpReferenceIdeal.Value.run (F := Ideal) m ρ)

theorem body_same {F : FTy → Type} [FloatOps F] : Cert.DUpIdeal.cc0_d_u2 (F := F) = Cert.DUp.cc0_d_u2 (F := F) := rfl

theorem bodies_same {F : FTy → Type} [FloatOps F] : Cert.DUpIdeal.defs₀ (F := F) = Cert.DUp.defs₀ (F := F) := by
  refine congrArg (Defs.onTc (nD := Cert.DUp.nD) (τ := Cert.DUp.τ)) (funext fun l => funext fun a => ?_)
  match l, a with
  | 0, (t, s) => dsimp only; rw [body_same]; rfl

theorem defs_same {F : FTy → Type} [FloatOps F] : Cert.DUpIdeal.defs (F := F) = Cert.DUp.defs (F := F) :=
  congrArg (Pipeline.defs (Cert.DUp.pcfgs (F := F))) bodies_same

theorem frame_kernel : Cert.quiescent_DUp := fun m ρ _ => by
  rw [← defs_same]
  exact Cert.DUpIdeal.Gen.frame (F := Bits) m ρ

end Cert.DUpIdeal.Tiles

end
-- ==== Proof.DwUp.lean ====
/- The product that gives the gradient of the first feed-forward weight: the kernel's tiles, put together, are the whole product, and so is the
   reference. -/
module

public import proofs.«01_k».proof.Defs
public import proofs.«01_k».proof.Proof.Prod
public import proofs.«01_k».proof.Proof.Gen.DwUp
public import proofs.«01_k».proof.Proof.Gen.DwUpIdeal
public import proofs.«01_k».proof.Proof.Gen.DwUpIdeal.Value
public import proofs.«01_k».proof.Proof.Gen.DwUpReferenceIdeal
public import proofs.«01_k».proof.Proof.Gen.DwUpReferenceIdeal.Run
public import proofs.«01_k».proof.Proof.Gen.DwUpReferenceIdeal.Read
public import Idealize.ShloMosaic.Lib.Pipeline.ValueKit

@[expose] public section

set_option maxRecDepth 16384
set_option maxHeartbeats 400000

noncomputable section

namespace Cert.DwUpIdeal.Tiles

open Cert.DwUpIdeal.Gen
open Idealize.ShloMosaic Idealize.ShloMosaic.TcCoe Idealize.ShloMosaic.Tactic
open Finset Cert.Prod

variable (m : (ℓ : Loc nD τ sig) → Buf (Elt Ideal) ℓ) (c : Dev nD)

theorem e0 : ∀ t : Fin cfg0.N, win0_0.index t = ![0, t.val / 22] := (by decide +kernel : ∀ t : Fin grid0.N, _)
theorem e1 : ∀ t : Fin cfg0.N, win0_1.index t = ![(t.val % 22) / 11, 0, (t.val % 22) % 11] := (by decide +kernel : ∀ t : Fin grid0.N, _)
theorem e2 : ∀ t : Fin cfg0.N, win0_2.index t = ![t.val / 22, t.val % 22] := (by decide +kernel : ∀ t : Fin grid0.N, _)

theorem b0 (f : ℕ → ℕ → EReal) (hX : V m c (Pipeline.arrRef spec0 0) = (E f : FVec Ideal S2048x2048 .bf16)) (t : Fin cfg0.N) :
    iblk m c 0 t = (E (fun r k => f (2048 * (0) + r) (1024 * (t.val / 22) + k)) : FVec Ideal S2048x1024 .bf16) := by
  funext y
  refine (congrFun hX ((win0_0.blk t).view.emb y)).trans ?_
  have a0 : ((win0_0.blk t).view.emb y 0).val = 2048 * (0) + (y 0).val := by blk_simp [e0]; try omega
  have a1 : ((win0_0.blk t).view.emb y 1).val = 1024 * (t.val / 22) + (y 1).val := by blk_simp [e0]; try omega
  show f ((win0_0.blk t).view.emb y 0).val ((win0_0.blk t).view.emb y 1).val = f (2048 * (0) + (y 0).val) (1024 * (t.val / 22) + (y 1).val)
  rw [a0, a1]

theorem b1 (g : ℕ → ℕ → ℕ → EReal) (hX : V m c (Pipeline.arrRef spec0 1) = (E3 g : FVec Ideal S2x2048x5632 .bf16)) (t : Fin cfg0.N) :
    iblk m c 1 t = (E3 (fun _ r k => g ((t.val % 22) / 11) (2048 * (0) + r) (512 * ((t.val % 22) % 11) + k)) : FVec Ideal S1x2048x512 .bf16) := by
  funext y
  refine (congrFun hX ((win0_1.blk t).view.emb y)).trans ?_
  have a0 : ((win0_1.blk t).view.emb y 0).val = (t.val % 22) / 11 := by blk_simp [e1]; try omega
  have a1 : ((win0_1.blk t).view.emb y 1).val = 2048 * (0) + (y 1).val := by blk_simp [e1]; try omega
  have a2 : ((win0_1.blk t).view.emb y 2).val = 512 * ((t.val % 22) % 11) + (y 2).val := by blk_simp [e1]; try omega
  show g ((win0_1.blk t).view.emb y 0).val ((win0_1.blk t).view.emb y 1).val ((win0_1.blk t).view.emb y 2).val = g ((t.val % 22) / 11) (2048 * (0) + (y 1).val) (512 * ((t.val % 22) % 11) + (y 2).val)
  rw [a0, a1, a2]

/-- The whole product: row `r`, column `c`. -/
def whole (f : ℕ → ℕ → EReal) (g : ℕ → ℕ → ℕ → EReal) : ℕ → ℕ → EReal := fun r c => ∑ k ∈ range 2048, f k r * beside 5632 g k c

theorem pay (f : ℕ → ℕ → EReal) (g : ℕ → ℕ → ℕ → EReal) :
    k0_pay1 (E f : FVec Ideal S2048x1024 .bf16) (E3 g : FVec Ideal S1x2048x512 .bf16) = (E (fun r c => ∑ k ∈ range 2048, f k r * g 0 k c) : FVec Ideal S1024x512 .bf16) := by
  funext i
  simp only [k0_pay1, pointwise]
  exact (zero_add _).trans (sum_range (fun k => f k (i 0).val * g 0 k (i 1).val)).symm

theorem left_eq (x0 : Vec Ideal S2048x1024 .bf16) (x1 : Vec Ideal S1x2048x512 .bf16) : out0_2 x0 x1 = k0_pay1 x0 x1 := by
  unfold out0_2
  rw [View.ld_unit_lit _ x0 (by decide), View.ld_unit_lit _ x1 (by decide)]
  exact View.canon_cons_unit_lit _ _ _ (by decide)

theorem arr (f : ℕ → ℕ → EReal) (g : ℕ → ℕ → ℕ → EReal) (hX : V m c (Pipeline.arrRef spec0 0) = (E f : FVec Ideal S2048x2048 .bf16))
    (hY : V m c (Pipeline.arrRef spec0 1) = (E3 g : FVec Ideal S2x2048x5632 .bf16)) :
    (dats m 0 c).arrAt 2 cfg0.N = (E (whole f g) : FVec Ideal S2048x11264 .bf16) := by
  refine (dats m 0 c).arrAt_eq_of_covers 2 _ (by decide +kernel) fun t hf y => ?_
  have a0 : ((win0_2.blk t).view.emb y 0).val = 1024 * (t.val / 22) + (y 0).val := by blk_simp [e2]; try omega
  have a1 : ((win0_2.blk t).view.emb y 1).val = 512 * (t.val % 22) + (y 1).val := by blk_simp [e2]; try omega
  have y0 : (y 0).val < 1024 := (y 0).isLt
  have y1 : (y 1).val < 512 := (y 1).isLt
  have ho := (left_eq _ _).trans ((congrArg₂ k0_pay1 (b0 m c f hX t) (b1 m c g hY t)).trans (pay (fun r k => f (2048 * (0) + r) (1024 * (t.val / 22) + k)) (fun _ r k => g ((t.val % 22) / 11) (2048 * (0) + r) (512 * ((t.val % 22) % 11) + k))))
  refine (congrFun ((after0_2 m c t).trans ho) y).trans ?_
  show _ = whole f g ((win0_2.blk t).view.emb y 0).val ((win0_2.blk t).view.emb y 1).val
  rw [a0, a1]
  refine sum_congr rfl fun k _ => ?_
  simp only [beside, Nat.mul_zero, Nat.zero_add]
  rw [show (512 * (t.val % 22) + (y 1).val) / 5632 = (t.val % 22) / 11 by omega, show (512 * (t.val % 22) + (y 1).val) % 5632 = 512 * ((t.val % 22) % 11) + (y 1).val by omega]

theorem ref (f : ℕ → ℕ → EReal) (g : ℕ → ℕ → ℕ → EReal) :
    Cert.DwUpReferenceIdeal.Read.val_main_v9 (F := Ideal) (E f : FVec Ideal S2048x2048 .bf16) (E3 g : FVec Ideal S2x2048x5632 .bf16) = (E (whole f g) : FVec Ideal S2048x11264 .bf16) := by
  funext i
  have i0 : (i 0).val < 2048 := (i 0).isLt
  have i1 : (i 1).val < 11264 := (i 1).isLt
  refine Eq.trans ?_ (sum_range _).symm
  rw [Cert.DwUpReferenceIdeal.Read.val_main_v9_apply, Cert.DwUpReferenceIdeal.Read.val_main_v8_apply, Cert.DwUpReferenceIdeal.Read.val_main_v7_apply]
  refine sum_congr rfl fun k _ => ?_
  have hk := k.isLt
  rw [Cert.DwUpReferenceIdeal.Read.val_main_v6_apply, Cert.DwUpReferenceIdeal.Read.val_main_v1_apply, Cert.DwUpReferenceIdeal.Read.val_main_v0_apply, Cert.DwUpReferenceIdeal.Read.val_main_v3_apply]
  refine (mul_comm _ _).trans ?_
  show f _ _ * g ((k.val * 11264 + (i 1).val) / 5632 % 2) ((k.val * 11264 + (i 1).val) / 11264) ((k.val * 11264 + (i 1).val) % 5632) = f _ _ * beside 5632 g k.val (i 1).val
  rw [beside, show (k.val * 11264 + (i 1).val) / 5632 % 2 = (i 1).val / 5632 by omega, show (k.val * 11264 + (i 1).val) / 11264 = k.val by omega,
    show (k.val * 11264 + (i 1).val) % 5632 = (i 1).val % 5632 by omega]

theorem values : Cert.algebraic_DwUpIdeal_DwUpReferenceIdeal := fun m ρ m' ρ' _ ha => by
  refine ⟨fun c => (dats m 0 c).arrAt 2 cfg0.N, Cert.DwUpIdeal.Value.run_blocks m ρ, ?_⟩
  refine (θ_run Cert.DwUpReferenceIdeal.defs _ _).mono (fun _ h c => ⟨(h c).1.trans ?_, (h c).2⟩) (Cert.DwUpReferenceIdeal.Value.run (F := Ideal) m' ρ')
  have hX : V m c (Pipeline.arrRef spec0 0) = (E (entries (m ((c.tc : Thread nD τ).loc main_arg0))) : FVec Ideal S2048x2048 .bf16) := eq_E (m := 2048) (n := 2048) _
  have hY : V m c (Pipeline.arrRef spec0 1) = (E3 (entries3 (m ((c.tc : Thread nD τ).loc main_arg1))) : FVec Ideal S2x2048x5632 .bf16) := eq_E3 (l := 2) (m := 2048) (n := 5632) _
  refine Eq.trans ?_ (arr m c _ _ hX hY).symm
  refine Eq.trans ?_ (ref _ _)
  exact congrArg₂ (Cert.DwUpReferenceIdeal.Read.val_main_v9 (F := Ideal)) ((ha c).1.trans hX) ((ha c).2.trans hY)

theorem frame_ideal : Cert.quiescent_DwUpIdeal := fun m ρ _ => Cert.DwUpIdeal.Gen.frame m ρ

theorem frame_reference : Cert.quiescent_DwUpReferenceIdeal := fun m ρ _ =>
  (θ_run Cert.DwUpReferenceIdeal.defs _ _).mono (fun r h => ⟨fun c => (h c).2, sem_eq_zero_of_no_sems (by decide) r.2⟩)
    (Cert.DwUpReferenceIdeal.Value.run (F := Ideal) m ρ)

theorem body_same {F : FTy → Type} [FloatOps F] : Cert.DwUpIdeal.cc0_dw_up (F := F) = Cert.DwUp.cc0_dw_up (F := F) := rfl

theorem bodies_same {F : FTy → Type} [FloatOps F] : Cert.DwUpIdeal.defs₀ (F := F) = Cert.DwUp.defs₀ (F := F) := by
  refine congrArg (Defs.onTc (nD := Cert.DwUp.nD) (τ := Cert.DwUp.τ)) (funext fun l => funext fun a => ?_)
  match l, a with
  | 0, (t, s) => dsimp only; rw [body_same]; rfl

theorem defs_same {F : FTy → Type} [FloatOps F] : Cert.DwUpIdeal.defs (F := F) = Cert.DwUp.defs (F := F) :=
  congrArg (Pipeline.defs (Cert.DwUp.pcfgs (F := F))) bodies_same

theorem frame_kernel : Cert.quiescent_DwUp := fun m ρ _ => by
  rw [← defs_same]
  exact Cert.DwUpIdeal.Gen.frame (F := Bits) m ρ

end Cert.DwUpIdeal.Tiles

end
-- ==== Proof.DwHgIn.lean ====
/- The product that gives the gradient of the recurrence's first weight: the kernel's tiles, put together, are the whole product, and so is the
   reference. -/
module

public import proofs.«01_k».proof.Defs
public import proofs.«01_k».proof.Proof.Prod
public import proofs.«01_k».proof.Proof.Gen.DwHgIn
public import proofs.«01_k».proof.Proof.Gen.DwHgInIdeal
public import proofs.«01_k».proof.Proof.Gen.DwHgInIdeal.Value
public import proofs.«01_k».proof.Proof.Gen.DwHgInReferenceIdeal
public import proofs.«01_k».proof.Proof.Gen.DwHgInReferenceIdeal.Run
public import proofs.«01_k».proof.Proof.Gen.DwHgInReferenceIdeal.Read
public import Idealize.ShloMosaic.Lib.Pipeline.ValueKit

@[expose] public section

set_option maxRecDepth 16384
set_option maxHeartbeats 400000

noncomputable section

namespace Cert.DwHgInIdeal.Tiles

open Cert.DwHgInIdeal.Gen
open Idealize.ShloMosaic Idealize.ShloMosaic.TcCoe Idealize.ShloMosaic.Tactic
open Finset Cert.Prod

variable (m : (ℓ : Loc nD τ sig) → Buf (Elt Ideal) ℓ) (c : Dev nD)

theorem e0 : ∀ t : Fin cfg0.N, win0_0.index t = ![0, t.val / 8] := (by decide +kernel : ∀ t : Fin grid0.N, _)
theorem e1 : ∀ t : Fin cfg0.N, win0_1.index t = ![(t.val % 8) / 2, 0, (t.val % 8) % 2] := (by decide +kernel : ∀ t : Fin grid0.N, _)
theorem e2 : ∀ t : Fin cfg0.N, win0_2.index t = ![t.val / 8, t.val % 8] := (by decide +kernel : ∀ t : Fin grid0.N, _)

theorem b0 (f : ℕ → ℕ → EReal) (hX : V m c (Pipeline.arrRef spec0 0) = (E f : FVec Ideal S2048x2048 .bf16)) (t : Fin cfg0.N) :
    iblk m c 0 t = (E (fun r k => f (2048 * (0) + r) (1024 * (t.val / 8) + k)) : FVec Ideal S2048x1024 .bf16) := by
  funext y
  refine (congrFun hX ((win0_0.blk t).view.emb y)).trans ?_
  have a0 : ((win0_0.blk t).view.emb y 0).val = 2048 * (0) + (y 0).val := by blk_simp [e0]; try omega
  have a1 : ((win0_0.blk t).view.emb y 1).val = 1024 * (t.val / 8) + (y 1).val := by blk_simp [e0]; try omega
  show f ((win0_0.blk t).view.emb y 0).val ((win0_0.blk t).view.emb y 1).val = f (2048 * (0) + (y 0).val) (1024 * (t.val / 8) + (y 1).val)
  rw [a0, a1]

theorem b1 (g : ℕ → ℕ → ℕ → EReal) (hX : V m c (Pipeline.arrRef spec0 1) = (E3 g : FVec Ideal S4x2048x2048 .bf16)) (t : Fin cfg0.N) :
    iblk m c 1 t = (E3 (fun _ r k => g ((t.val % 8) / 2) (2048 * (0) + r) (1024 * ((t.val % 8) % 2) + k)) : FVec Ideal S1x2048x1024 .bf16) := by
  funext y
  refine (congrFun hX ((win0_1.blk t).view.emb y)).trans ?_
  have a0 : ((win0_1.blk t).view.emb y 0).val = (t.val % 8) / 2 := by blk_simp [e1]; try omega
  have a1 : ((win0_1.blk t).view.emb y 1).val = 2048 * (0) + (y 1).val := by blk_simp [e1]; try omega
  have a2 : ((win0_1.blk t).view.emb y 2).val = 1024 * ((t.val % 8) % 2) + (y 2).val := by blk_simp [e1]; try omega
  show g ((win0_1.blk t).view.emb y 0).val ((win0_1.blk t).view.emb y 1).val ((win0_1.blk t).view.emb y 2).val = g ((t.val % 8) / 2) (2048 * (0) + (y 1).val) (1024 * ((t.val % 8) % 2) + (y 2).val)
  rw [a0, a1, a2]

/-- The whole product: row `r`, column `c`. -/
def whole (f : ℕ → ℕ → EReal) (g : ℕ → ℕ → ℕ → EReal) : ℕ → ℕ → EReal := fun r c => ∑ k ∈ range 2048, f k r * beside 2048 g k c

theorem pay (f : ℕ → ℕ → EReal) (g : ℕ → ℕ → ℕ → EReal) :
    k0_pay1 (E f : FVec Ideal S2048x1024 .bf16) (E3 g : FVec Ideal S1x2048x1024 .bf16) = (E (fun r c => ∑ k ∈ range 2048, f k r * g 0 k c) : FVec Ideal S1024x1024 .bf16) := by
  funext i
  simp only [k0_pay1, pointwise]
  exact (zero_add _).trans (sum_range (fun k => f k (i 0).val * g 0 k (i 1).val)).symm

theorem left_eq (x0 : Vec Ideal S2048x1024 .bf16) (x1 : Vec Ideal S1x2048x1024 .bf16) : out0_2 x0 x1 = k0_pay1 x0 x1 := by
  unfold out0_2
  rw [View.ld_unit_lit _ x0 (by decide), View.ld_unit_lit _ x1 (by decide)]
  exact View.canon_cons_unit_lit _ _ _ (by decide)

theorem arr (f : ℕ → ℕ → EReal) (g : ℕ → ℕ → ℕ → EReal) (hX : V m c (Pipeline.arrRef spec0 0) = (E f : FVec Ideal S2048x2048 .bf16))
    (hY : V m c (Pipeline.arrRef spec0 1) = (E3 g : FVec Ideal S4x2048x2048 .bf16)) :
    (dats m 0 c).arrAt 2 cfg0.N = (E (whole f g) : FVec Ideal S2048x8192 .bf16) := by
  refine (dats m 0 c).arrAt_eq_of_covers 2 _ (by decide +kernel) fun t hf y => ?_
  have a0 : ((win0_2.blk t).view.emb y 0).val = 1024 * (t.val / 8) + (y 0).val := by blk_simp [e2]; try omega
  have a1 : ((win0_2.blk t).view.emb y 1).val = 1024 * (t.val % 8) + (y 1).val := by blk_simp [e2]; try omega
  have y0 : (y 0).val < 1024 := (y 0).isLt
  have y1 : (y 1).val < 1024 := (y 1).isLt
  have ho := (left_eq _ _).trans ((congrArg₂ k0_pay1 (b0 m c f hX t) (b1 m c g hY t)).trans (pay (fun r k => f (2048 * (0) + r) (1024 * (t.val / 8) + k)) (fun _ r k => g ((t.val % 8) / 2) (2048 * (0) + r) (1024 * ((t.val % 8) % 2) + k))))
  refine (congrFun ((after0_2 m c t).trans ho) y).trans ?_
  show _ = whole f g ((win0_2.blk t).view.emb y 0).val ((win0_2.blk t).view.emb y 1).val
  rw [a0, a1]
  refine sum_congr rfl fun k _ => ?_
  simp only [beside, Nat.mul_zero, Nat.zero_add]
  rw [show (1024 * (t.val % 8) + (y 1).val) / 2048 = (t.val % 8) / 2 by omega, show (1024 * (t.val % 8) + (y 1).val) % 2048 = 1024 * ((t.val % 8) % 2) + (y 1).val by omega]

theorem ref (f : ℕ → ℕ → EReal) (g : ℕ → ℕ → ℕ → EReal) :
    Cert.DwHgInReferenceIdeal.Read.val_main_v9 (F := Ideal) (E f : FVec Ideal S2048x2048 .bf16) (E3 g : FVec Ideal S4x2048x2048 .bf16) = (E (whole f g) : FVec Ideal S2048x8192 .bf16) := by
  funext i
  have i0 : (i 0).val < 2048 := (i 0).isLt
  have i1 : (i 1).val < 8192 := (i 1).isLt
  refine Eq.trans ?_ (sum_range _).symm
  rw [Cert.DwHgInReferenceIdeal.Read.val_main_v9_apply, Cert.DwHgInReferenceIdeal.Read.val_main_v8_apply, Cert.DwHgInReferenceIdeal.Read.val_main_v7_apply]
  refine sum_congr rfl fun k _ => ?_
  have hk := k.isLt
  rw [Cert.DwHgInReferenceIdeal.Read.val_main_v6_apply, Cert.DwHgInReferenceIdeal.Read.val_main_v1_apply, Cert.DwHgInReferenceIdeal.Read.val_main_v0_apply, Cert.DwHgInReferenceIdeal.Read.val_main_v3_apply]
  refine (mul_comm _ _).trans ?_
  show f _ _ * g ((k.val * 8192 + (i 1).val) / 2048 % 4) ((k.val * 8192 + (i 1).val) / 8192) ((k.val * 8192 + (i 1).val) % 2048) = f _ _ * beside 2048 g k.val (i 1).val
  rw [beside, show (k.val * 8192 + (i 1).val) / 2048 % 4 = (i 1).val / 2048 by omega, show (k.val * 8192 + (i 1).val) / 8192 = k.val by omega,
    show (k.val * 8192 + (i 1).val) % 2048 = (i 1).val % 2048 by omega]

theorem values : Cert.algebraic_DwHgInIdeal_DwHgInReferenceIdeal := fun m ρ m' ρ' _ ha => by
  refine ⟨fun c => (dats m 0 c).arrAt 2 cfg0.N, Cert.DwHgInIdeal.Value.run_blocks m ρ, ?_⟩
  refine (θ_run Cert.DwHgInReferenceIdeal.defs _ _).mono (fun _ h c => ⟨(h c).1.trans ?_, (h c).2⟩) (Cert.DwHgInReferenceIdeal.Value.run (F := Ideal) m' ρ')
  have hX : V m c (Pipeline.arrRef spec0 0) = (E (entries (m ((c.tc : Thread nD τ).loc main_arg0))) : FVec Ideal S2048x2048 .bf16) := eq_E (m := 2048) (n := 2048) _
  have hY : V m c (Pipeline.arrRef spec0 1) = (E3 (entries3 (m ((c.tc : Thread nD τ).loc main_arg1))) : FVec Ideal S4x2048x2048 .bf16) := eq_E3 (l := 4) (m := 2048) (n := 2048) _
  refine Eq.trans ?_ (arr m c _ _ hX hY).symm
  refine Eq.trans ?_ (ref _ _)
  exact congrArg₂ (Cert.DwHgInReferenceIdeal.Read.val_main_v9 (F := Ideal)) ((ha c).1.trans hX) ((ha c).2.trans hY)

theorem frame_ideal : Cert.quiescent_DwHgInIdeal := fun m ρ _ => Cert.DwHgInIdeal.Gen.frame m ρ

theorem frame_reference : Cert.quiescent_DwHgInReferenceIdeal := fun m ρ _ =>
  (θ_run Cert.DwHgInReferenceIdeal.defs _ _).mono (fun r h => ⟨fun c => (h c).2, sem_eq_zero_of_no_sems (by decide) r.2⟩)
    (Cert.DwHgInReferenceIdeal.Value.run (F := Ideal) m ρ)

theorem body_same {F : FTy → Type} [FloatOps F] : Cert.DwHgInIdeal.cc0_dw_hgin (F := F) = Cert.DwHgIn.cc0_dw_hgin (F := F) := rfl

theorem bodies_same {F : FTy → Type} [FloatOps F] : Cert.DwHgInIdeal.defs₀ (F := F) = Cert.DwHgIn.defs₀ (F := F) := by
  refine congrArg (Defs.onTc (nD := Cert.DwHgIn.nD) (τ := Cert.DwHgIn.τ)) (funext fun l => funext fun a => ?_)
  match l, a with
  | 0, (t, s) => dsimp only; rw [body_same]; rfl

theorem defs_same {F : FTy → Type} [FloatOps F] : Cert.DwHgInIdeal.defs (F := F) = Cert.DwHgIn.defs (F := F) :=
  congrArg (Pipeline.defs (Cert.DwHgIn.pcfgs (F := F))) bodies_same

theorem frame_kernel : Cert.quiescent_DwHgIn := fun m ρ _ => by
  rw [← defs_same]
  exact Cert.DwHgInIdeal.Gen.frame (F := Bits) m ρ

end Cert.DwHgInIdeal.Tiles

end
-- ==== Proof.DHgIn.lean ====
/- The product that gives the gradient of the recurrence's input: the kernel's tiles, put together, are the whole product, and so is the
   reference. -/
module

public import proofs.«01_k».proof.Defs
public import proofs.«01_k».proof.Proof.Prod
public import proofs.«01_k».proof.Proof.Gen.DHgIn
public import proofs.«01_k».proof.Proof.Gen.DHgInIdeal
public import proofs.«01_k».proof.Proof.Gen.DHgInIdeal.Value
public import proofs.«01_k».proof.Proof.Gen.DHgInReferenceIdeal
public import proofs.«01_k».proof.Proof.Gen.DHgInReferenceIdeal.Run
public import proofs.«01_k».proof.Proof.Gen.DHgInReferenceIdeal.Read
public import Idealize.ShloMosaic.Lib.Pipeline.ValueKit

@[expose] public section

set_option maxRecDepth 16384
set_option maxHeartbeats 400000

noncomputable section

namespace Cert.DHgInIdeal.Tiles

open Cert.DHgInIdeal.Gen
open Idealize.ShloMosaic Idealize.ShloMosaic.TcCoe Idealize.ShloMosaic.Tactic
open Finset Cert.Prod

variable (m : (ℓ : Loc nD τ sig) → Buf (Elt Ideal) ℓ) (c : Dev nD)

theorem e0 : ∀ t : Fin cfg0.N, win0_0.index t = ![(t.val % 4) / 1, t.val / 8, (t.val % 4) % 1] := (by decide +kernel : ∀ t : Fin grid0.N, _)
theorem e1 : ∀ t : Fin cfg0.N, win0_1.index t = ![t.val / 4 % 2, t.val % 4] := (by decide +kernel : ∀ t : Fin grid0.N, _)
theorem e2 : ∀ t : Fin cfg0.N, win0_2.index t = ![t.val / 8, t.val / 4 % 2] := (by decide +kernel : ∀ t : Fin grid0.N, _)

theorem b0 (f : ℕ → ℕ → ℕ → EReal) (hX : V m c (Pipeline.arrRef spec0 0) = (E3 f : FVec Ideal S4x2048x2048 .bf16)) (t : Fin cfg0.N) :
    iblk m c 0 t = (E3 (fun _ r k => f ((t.val % 4) / 1) (1024 * (t.val / 8) + r) (2048 * ((t.val % 4) % 1) + k)) : FVec Ideal S1x1024x2048 .bf16) := by
  funext y
  refine (congrFun hX ((win0_0.blk t).view.emb y)).trans ?_
  have a0 : ((win0_0.blk t).view.emb y 0).val = (t.val % 4) / 1 := by blk_simp [e0]; try omega
  have a1 : ((win0_0.blk t).view.emb y 1).val = 1024 * (t.val / 8) + (y 1).val := by blk_simp [e0]; try omega
  have a2 : ((win0_0.blk t).view.emb y 2).val = 2048 * ((t.val % 4) % 1) + (y 2).val := by blk_simp [e0]; try omega
  show f ((win0_0.blk t).view.emb y 0).val ((win0_0.blk t).view.emb y 1).val ((win0_0.blk t).view.emb y 2).val = f ((t.val % 4) / 1) (1024 * (t.val / 8) + (y 1).val) (2048 * ((t.val % 4) % 1) + (y 2).val)
  rw [a0, a1, a2]

theorem b1 (g : ℕ → ℕ → EReal) (hX : V m c (Pipeline.arrRef spec0 1) = (E g : FVec Ideal S2048x8192 .bf16)) (t : Fin cfg0.N) :
    iblk m c 1 t = (E (fun r k => g (1024 * (t.val / 4 % 2) + r) (2048 * (t.val % 4) + k)) : FVec Ideal S1024x2048 .bf16) := by
  funext y
  refine (congrFun hX ((win0_1.blk t).view.emb y)).trans ?_
  have a0 : ((win0_1.blk t).view.emb y 0).val = 1024 * (t.val / 4 % 2) + (y 0).val := by blk_simp [e1]; try omega
  have a1 : ((win0_1.blk t).view.emb y 1).val = 2048 * (t.val % 4) + (y 1).val := by blk_simp [e1]; try omega
  show g ((win0_1.blk t).view.emb y 0).val ((win0_1.blk t).view.emb y 1).val = g (1024 * (t.val / 4 % 2) + (y 0).val) (2048 * (t.val % 4) + (y 1).val)
  rw [a0, a1]

/-- The whole product: row `r`, column `c`. -/
def whole (f : ℕ → ℕ → ℕ → EReal) (g : ℕ → ℕ → EReal) : ℕ → ℕ → EReal := fun r c => ∑ k ∈ range 8192, beside 2048 f r k * g c k

/-- What step `s` of the sum adds to row `r`, column `c` of the tile in place `I`, `J`. -/
def part (f : ℕ → ℕ → ℕ → EReal) (g : ℕ → ℕ → EReal) (I J s r c : ℕ) : EReal := ∑ k ∈ range 2048, beside 2048 f (1024 * I + r) (2048 * s + k) * g (1024 * J + c) (2048 * s + k)

theorem whole_parts (f : ℕ → ℕ → ℕ → EReal) (g : ℕ → ℕ → EReal) (I J r c : ℕ) :
    whole f g (1024 * I + r) (1024 * J + c) = ∑ s ∈ range 4, part f g I J s r c :=
  sum_split 2048 (fun k => beside 2048 f (1024 * I + r) k * g (1024 * J + c) k) 4

theorem pay_first (f : ℕ → ℕ → ℕ → EReal) (g : ℕ → ℕ → EReal) :
    k0_pay2 (E3 f : FVec Ideal S1x1024x2048 .bf16) (E g : FVec Ideal S1024x2048 .bf16) = (E (fun r c => ∑ k ∈ range 2048, f 0 r k * g c k) : FVec Ideal S1024x1024 .f32) := by
  funext i
  simp only [k0_pay2, k0_pay1, pointwise]
  exact (zero_add _).trans (sum_range (fun k => f 0 (i 0).val k * g (i 1).val k)).symm

theorem pay_next (f : ℕ → ℕ → ℕ → EReal) (g : ℕ → ℕ → EReal) (h : ℕ → ℕ → EReal) :
    k0_pay3 (E3 f : FVec Ideal S1x1024x2048 .bf16) (E g : FVec Ideal S1024x2048 .bf16) (E h : FVec Ideal S1024x1024 .f32)
      = (E (fun r c => h r c + ∑ k ∈ range 2048, f 0 r k * g c k) : FVec Ideal S1024x1024 .f32) := by
  funext i
  simp only [k0_pay3, k0_pay1, pointwise]
  exact congrArg (h (i 0).val (i 1).val + ·) ((zero_add _).trans (sum_range (fun k => f 0 (i 0).val k * g (i 1).val k)).symm)

theorem load_whole {S : Shape} {e : EltTy} {arg : Memref sig .tc .vmem S e} (h : arg.IsWhole) (X : Vec Ideal S e) {off : Fin S.rank → Nat}
    (inb : ∀ a, off a + S.size a ≤ S.size a) (hz : ∀ a, off a = 0) :
    View.readAt (Elt Ideal) arg.view (Rect.unit off S.size inb).toLoadRect (h.unread X) = X := by
  show View.ld (arg.view.read (Elt Ideal) (h.unread X)) (Rect.unit off S.size inb) = X
  rw [h.read_unread]
  exact View.ld_unit_lit inb X hz

theorem first_held (t : Fin cfg0.N) (h0 h1 h2) (x0 : Vec Ideal S1x1024x2048 .bf16) (x1 : Vec Ideal S1024x2048 .bf16) :
    sout0_A_0 c (grid0.coords t) (ms0_0 t) (hs0_0 t) (ms0_1 t) (hs0_1 t) (ms0_2 t) (hs0_2 t) scM0_0 (Memref.isWhole_whole _) h0 h1 h2 x0 x1 = k0_pay2 x0 x1 := by
  unfold sout0_A_0
  rw [View.read_writes_eq_canon _ _ _ (fun y => scover0_A_0 _ _ _ _ _ _ _ _ _ _ _ _ _ _ _ y)]
  unfold kernelRun0_A
  refine (View.canon_cons_unit_lit _ _ _ (by decide)).trans ?_
  exact congrArg₂ k0_pay2 (load_whole _ x0 _ (by decide)) (load_whole _ x1 _ (by decide))

theorem next_held_B (t : Fin cfg0.N) (h0 h1 h2) (x0 : Vec Ideal S1x1024x2048 .bf16) (x1 : Vec Ideal S1024x2048 .bf16) (xs : Vec Ideal S1024x1024 .f32) :
    sout0_B_0 c (grid0.coords t) (ms0_0 t) (hs0_0 t) (ms0_1 t) (hs0_1 t) (ms0_2 t) (hs0_2 t) scM0_0 (Memref.isWhole_whole _) h0 h1 h2 x0 x1 xs = k0_pay3 x0 x1 xs := by
  unfold sout0_B_0
  rw [View.read_writes_eq_canon _ _ _ (fun y => scover0_B_0 _ _ _ _ _ _ _ _ _ _ _ _ _ _ _ _ y)]
  unfold kernelRun0_B
  refine (View.canon_cons_unit_lit _ _ _ (by decide)).trans ?_
  exact (congrArg₂ (fun u v => k0_pay3 u v _) (load_whole _ x0 _ (by decide)) (load_whole _ x1 _ (by decide))).trans
    (congrArg (k0_pay3 x0 x1) (load_whole _ xs _ (by decide)))

theorem next_held_C (t : Fin cfg0.N) (h0 h1 h2) (x0 : Vec Ideal S1x1024x2048 .bf16) (x1 : Vec Ideal S1024x2048 .bf16) (xs : Vec Ideal S1024x1024 .f32) :
    sout0_C_0 c (grid0.coords t) (ms0_0 t) (hs0_0 t) (ms0_1 t) (hs0_1 t) (ms0_2 t) (hs0_2 t) scM0_0 (Memref.isWhole_whole _) h0 h1 h2 x0 x1 xs = k0_pay3 x0 x1 xs := by
  unfold sout0_C_0
  rw [View.read_writes_eq_canon _ _ _ (fun y => scover0_C_0 _ _ _ _ _ _ _ _ _ _ _ _ _ _ _ _ y)]
  unfold kernelRun0_C
  refine (View.canon_cons_unit_lit _ _ _ (by decide)).trans ?_
  exact (congrArg₂ (fun u v => k0_pay3 u v _) (load_whole _ x0 _ (by decide)) (load_whole _ x1 _ (by decide))).trans
    (congrArg (k0_pay3 x0 x1) (load_whole _ xs _ (by decide)))

theorem left_eq (t : Fin cfg0.N) (h0 h1 h2) (x0 : Vec Ideal S1x1024x2048 .bf16) (x1 : Vec Ideal S1024x2048 .bf16) (xs : Vec Ideal S1024x1024 .f32) :
    out0_C_2 c (grid0.coords t) (ms0_0 t) (hs0_0 t) (ms0_1 t) (hs0_1 t) (ms0_2 t) (hs0_2 t) scM0_0 (Memref.isWhole_whole _) h0 h1 h2 x0 x1 xs = k0_pay3 x0 x1 xs := by
  unfold out0_C_2
  rw [View.read_writes_eq_canon _ _ _ (fun y => cover0_C_2 _ _ _ _ _ _ _ _ _ _ _ _ _ _ _ _ y)]
  unfold kernelRun0_C
  refine (View.canon_cons_unit_lit _ _ _ (by decide)).trans ?_
  unfold kernelRun0_C.sl.v13
  refine (View.readCov_unit_lit _ _ _ (by decide)).trans ?_
  exact (congrArg₂ (fun u v => k0_pay3 u v _) (load_whole _ x0 _ (by decide)) (load_whole _ x1 _ (by decide))).trans
    (congrArg (k0_pay3 x0 x1) (load_whole _ xs _ (by decide)))

theorem first_snd (t : Fin cfg0.N) (ht : t.val % 4 = 0) : (outsAt0 m c t.val t.isLt).2 = k0_pay2 (iblk m c 0 t) (iblk m c 1 t) := by
  rw [outsAt0_A m c t ht (by omega) (by omega)]
  dsimp only
  exact first_held c t _ _ _ (iblk m c 0 t) (iblk m c 1 t)

theorem next_snd (t : Fin cfg0.N) (ht : ¬t.val % 4 = 0) :
    (outsAt0 m c t.val t.isLt).2 = k0_pay3 (iblk m c 0 t) (iblk m c 1 t) (outsAt0 m c (t.val - 1) (Nat.lt_of_le_of_lt (Nat.sub_le _ _) t.isLt)).2 := by
  by_cases hl : t.val % 4 = 3
  · skip
    rw [outsAt0_C m c t ht (by omega) (by omega)]
    dsimp only
    exact next_held_C c t _ _ _ (iblk m c 0 t) (iblk m c 1 t) _
  · skip
    rw [outsAt0_B m c t ht (by omega) (by omega)]
    dsimp only
    exact next_held_B c t _ _ _ (iblk m c 0 t) (iblk m c 1 t) _

/-- The last step leaves in the output's tile what it leaves in the accumulator. -/
theorem last_eq (t : Fin cfg0.N) (ht : t.val % 4 = 3) : (outsAt0 m c t.val t.isLt).1 = (outsAt0 m c t.val t.isLt).2 := by
  rw [next_snd m c t (by omega), outsAt0_C m c t (by omega) (by omega) (by omega)]
  dsimp only
  exact left_eq c t _ _ _ (iblk m c 0 t) (iblk m c 1 t) _

theorem step (f : ℕ → ℕ → ℕ → EReal) (g : ℕ → ℕ → EReal) (t : Fin cfg0.N) (r c : ℕ) :
    ∑ k ∈ range 2048, (fun _ r k => f ((t.val % 4) / 1) (1024 * (t.val / 8) + r) (2048 * ((t.val % 4) % 1) + k)) 0 r k * (fun r k => g (1024 * (t.val / 4 % 2) + r) (2048 * (t.val % 4) + k)) c k = part f g (t.val / 8) (t.val / 4 % 2) (t.val % 4) r c := sum_congr rfl fun k hk => by
    have hk := mem_range.mp hk
    simp only [beside]
    rw [show (2048 * (t.val % 4) + k) / 2048 = t.val % 4 / 1 by omega, show (2048 * (t.val % 4) + k) % 2048 = 2048 * (t.val % 4 % 1) + k by omega]

/-- After point `n` the accumulator holds the steps of the sum done so far for its tile. -/
theorem held (f : ℕ → ℕ → ℕ → EReal) (g : ℕ → ℕ → EReal) (hX : V m c (Pipeline.arrRef spec0 0) = (E3 f : FVec Ideal S4x2048x2048 .bf16))
    (hY : V m c (Pipeline.arrRef spec0 1) = (E g : FVec Ideal S2048x8192 .bf16)) : ∀ (n : ℕ) (hn : n < cfg0.N),
    (outsAt0 m c n hn).2 = (E (fun r c => ∑ s ∈ range (n % 4 + 1), part f g (n / 8) (n / 4 % 2) s r c) : FVec Ideal S1024x1024 .f32) := by
  intro n
  induction n with
  | zero =>
    intro hn
    refine (first_snd m c ⟨0, hn⟩ (Nat.zero_mod _)).trans ?_
    rw [b0 m c f hX, b1 m c g hY]
    refine (pay_first _ _).trans (E_congr fun r _ c _ => ?_)
    refine (step f g ⟨0, hn⟩ r c).trans ?_
    exact (sum_range_one (fun s => part f g (0 / 8) (0 / 4 % 2) s r c)).symm
  | succ n ih =>
    intro hn
    have ih := ih (Nat.lt_of_succ_lt hn)
    by_cases hz : (n + 1) % 4 = 0
    · refine (first_snd m c ⟨n + 1, hn⟩ hz).trans ?_
      rw [b0 m c f hX, b1 m c g hY]
      refine (pay_first _ _).trans (E_congr fun r _ c _ => ?_)
      refine (step f g ⟨n + 1, hn⟩ r c).trans ?_
      dsimp only
      rw [hz]
      exact (sum_range_one (fun s => part f g ((n + 1) / 8) ((n + 1) / 4 % 2) s r c)).symm
    · have hs : (E (fun r c => (∑ s ∈ range (n % 4 + 1), part f g (n / 8) (n / 4 % 2) s r c) + part f g ((n + 1) / 8) ((n + 1) / 4 % 2) ((n + 1) % 4) r c) : FVec Ideal S1024x1024 .f32)
          = E (fun r c => ∑ s ∈ range ((n + 1) % 4 + 1), part f g ((n + 1) / 8) ((n + 1) / 4 % 2) s r c) := by
        rw [show (n + 1) / 8 = n / 8 by omega, show (n + 1) / 4 % 2 = n / 4 % 2 by omega, show (n + 1) % 4 = n % 4 + 1 by omega]
        exact E_congr fun r _ c _ => (sum_range_succ _ _).symm
      refine Eq.trans ?_ hs
      have hp : k0_pay3 (iblk m c 0 ⟨n + 1, hn⟩) (iblk m c 1 ⟨n + 1, hn⟩) (outsAt0 m c n (Nat.lt_of_succ_lt hn)).2
          = (E (fun r c => (∑ s ∈ range (n % 4 + 1), part f g (n / 8) (n / 4 % 2) s r c) + part f g ((n + 1) / 8) ((n + 1) / 4 % 2) ((n + 1) % 4) r c) : FVec Ideal S1024x1024 .f32) := by
        rw [ih, b0 m c f hX, b1 m c g hY]
        refine (pay_next _ _ _).trans (E_congr fun r _ c _ => ?_)
        exact congrArg _ (step f g ⟨n + 1, hn⟩ r c)
      exact (next_snd m c ⟨n + 1, hn⟩ hz).trans hp

theorem arr (f : ℕ → ℕ → ℕ → EReal) (g : ℕ → ℕ → EReal) (hX : V m c (Pipeline.arrRef spec0 0) = (E3 f : FVec Ideal S4x2048x2048 .bf16))
    (hY : V m c (Pipeline.arrRef spec0 1) = (E g : FVec Ideal S2048x8192 .bf16)) :
    (dats m 0 c).arrAt 2 cfg0.N = (E (whole f g) : FVec Ideal S2048x2048 .f32) := by
  refine (dats m 0 c).arrAt_eq_of_covers 2 _ (by decide +kernel) fun t hf y => ?_
  have hm : t.val % 4 = 3 := (flush0_2 t).mp hf
  have a0 : ((win0_2.blk t).view.emb y 0).val = 1024 * (t.val / 8) + (y 0).val := by blk_simp [e2]; try omega
  have a1 : ((win0_2.blk t).view.emb y 1).val = 1024 * (t.val / 4 % 2) + (y 1).val := by blk_simp [e2]; try omega
  have ho := (last_eq m c t hm).trans (held m c f g hX hY t.val t.isLt)
  refine (congrFun ((after0_2 m c t).trans ho) y).trans ?_
  show _ = whole f g ((win0_2.blk t).view.emb y 0).val ((win0_2.blk t).view.emb y 1).val
  rw [a0, a1, whole_parts]
  show ∑ s ∈ range (t.val % 4 + 1), part f g (t.val / 8) (t.val / 4 % 2) s (y 0).val (y 1).val = _
  rw [hm]

theorem ref (f : ℕ → ℕ → ℕ → EReal) (g : ℕ → ℕ → EReal) :
    Cert.DHgInReferenceIdeal.Read.val_main_v6 (F := Ideal) (E3 f : FVec Ideal S4x2048x2048 .bf16) (E g : FVec Ideal S2048x8192 .bf16) = (E (whole f g) : FVec Ideal S2048x2048 .f32) := by
  funext i
  have i0 : (i 0).val < 2048 := (i 0).isLt
  have i1 : (i 1).val < 2048 := (i 1).isLt
  refine Eq.trans ?_ (sum_range _).symm
  rw [Cert.DHgInReferenceIdeal.Read.val_main_v6_apply]
  refine sum_congr rfl fun k _ => ?_
  have hk := k.isLt
  rw [Cert.DHgInReferenceIdeal.Read.val_main_v5_apply, Cert.DHgInReferenceIdeal.Read.val_main_v1_apply, Cert.DHgInReferenceIdeal.Read.val_main_v0_apply, Cert.DHgInReferenceIdeal.Read.val_main_v3_apply]
  show f (((i 0).val * 8192 + k.val) / 2048 % 4) (((i 0).val * 8192 + k.val) / 8192) (((i 0).val * 8192 + k.val) % 2048) * g _ _ = beside 2048 f (i 0).val k.val * g _ _
  rw [beside, show ((i 0).val * 8192 + k.val) / 2048 % 4 = k.val / 2048 by omega, show ((i 0).val * 8192 + k.val) / 8192 = (i 0).val by omega,
    show ((i 0).val * 8192 + k.val) % 2048 = k.val % 2048 by omega]

theorem values : Cert.algebraic_DHgInIdeal_DHgInReferenceIdeal := fun m ρ m' ρ' _ ha => by
  refine ⟨fun c => (dats m 0 c).arrAt 2 cfg0.N, Cert.DHgInIdeal.Value.run_blocks m ρ, ?_⟩
  refine (θ_run Cert.DHgInReferenceIdeal.defs _ _).mono (fun _ h c => ⟨(h c).1.trans ?_, (h c).2⟩) (Cert.DHgInReferenceIdeal.Value.run (F := Ideal) m' ρ')
  have hX : V m c (Pipeline.arrRef spec0 0) = (E3 (entries3 (m ((c.tc : Thread nD τ).loc main_arg0))) : FVec Ideal S4x2048x2048 .bf16) := eq_E3 (l := 4) (m := 2048) (n := 2048) _
  have hY : V m c (Pipeline.arrRef spec0 1) = (E (entries (m ((c.tc : Thread nD τ).loc main_arg1))) : FVec Ideal S2048x8192 .bf16) := eq_E (m := 2048) (n := 8192) _
  refine Eq.trans ?_ (arr m c _ _ hX hY).symm
  refine Eq.trans ?_ (ref _ _)
  exact congrArg₂ (Cert.DHgInReferenceIdeal.Read.val_main_v6 (F := Ideal)) ((ha c).1.trans hX) ((ha c).2.trans hY)

theorem frame_ideal : Cert.quiescent_DHgInIdeal := fun m ρ _ => Cert.DHgInIdeal.Gen.frame m ρ

theorem frame_reference : Cert.quiescent_DHgInReferenceIdeal := fun m ρ _ =>
  (θ_run Cert.DHgInReferenceIdeal.defs _ _).mono (fun r h => ⟨fun c => (h c).2, sem_eq_zero_of_no_sems (by decide) r.2⟩)
    (Cert.DHgInReferenceIdeal.Value.run (F := Ideal) m ρ)

theorem body_same {F : FTy → Type} [FloatOps F] : Cert.DHgInIdeal.cc0_d_u1 (F := F) = Cert.DHgIn.cc0_d_u1 (F := F) := rfl

theorem bodies_same {F : FTy → Type} [FloatOps F] : Cert.DHgInIdeal.defs₀ (F := F) = Cert.DHgIn.defs₀ (F := F) := by
  refine congrArg (Defs.onTc (nD := Cert.DHgIn.nD) (τ := Cert.DHgIn.τ)) (funext fun l => funext fun a => ?_)
  match l, a with
  | 0, (t, s) => dsimp only; rw [body_same]; rfl

theorem defs_same {F : FTy → Type} [FloatOps F] : Cert.DHgInIdeal.defs (F := F) = Cert.DHgIn.defs (F := F) :=
  congrArg (Pipeline.defs (Cert.DHgIn.pcfgs (F := F))) bodies_same

theorem frame_kernel : Cert.quiescent_DHgIn := fun m ρ _ => by
  rw [← defs_same]
  exact Cert.DHgInIdeal.Gen.frame (F := Bits) m ρ

end Cert.DHgInIdeal.Tiles

end
-- ==== Proof.HgIn.lean ====
/- The product that gives the first product of the recurrence: the kernel's tiles, put together, are the whole product, and so is the
   reference. -/
module

public import proofs.«01_k».proof.Defs
public import proofs.«01_k».proof.Proof.Prod
public import proofs.«01_k».proof.Proof.Gen.HgIn
public import proofs.«01_k».proof.Proof.Gen.HgInIdeal
public import proofs.«01_k».proof.Proof.Gen.HgInIdeal.Value
public import proofs.«01_k».proof.Proof.Gen.HgInReferenceIdeal
public import proofs.«01_k».proof.Proof.Gen.HgInReferenceIdeal.Run
public import proofs.«01_k».proof.Proof.Gen.HgInReferenceIdeal.Read
public import Idealize.ShloMosaic.Lib.Pipeline.ValueKit

@[expose] public section

set_option maxRecDepth 16384
set_option maxHeartbeats 400000

noncomputable section

namespace Cert.HgInIdeal.Tiles

open Cert.HgInIdeal.Gen
open Idealize.ShloMosaic Idealize.ShloMosaic.TcCoe Idealize.ShloMosaic.Tactic
open Finset Cert.Prod

variable (m : (ℓ : Loc nD τ sig) → Buf (Elt Ideal) ℓ) (c : Dev nD)

theorem e0 : ∀ t : Fin cfg0.N, win0_0.index t = ![t.val / 8, 0] := (by decide +kernel : ∀ t : Fin grid0.N, _)
theorem e1 : ∀ t : Fin cfg0.N, win0_1.index t = ![0, t.val % 8] := (by decide +kernel : ∀ t : Fin grid0.N, _)
theorem e2 : ∀ t : Fin cfg0.N, win0_2.index t = ![t.val / 8, t.val % 8] := (by decide +kernel : ∀ t : Fin grid0.N, _)

theorem b0 (f : ℕ → ℕ → EReal) (hX : V m c (Pipeline.arrRef spec0 0) = (E f : FVec Ideal S2048x2048 .bf16)) (t : Fin cfg0.N) :
    iblk m c 0 t = (E (fun r k => f (1024 * (t.val / 8) + r) (2048 * (0) + k)) : FVec Ideal S1024x2048 .bf16) := by
  funext y
  refine (congrFun hX ((win0_0.blk t).view.emb y)).trans ?_
  have a0 : ((win0_0.blk t).view.emb y 0).val = 1024 * (t.val / 8) + (y 0).val := by blk_simp [e0]; try omega
  have a1 : ((win0_0.blk t).view.emb y 1).val = 2048 * (0) + (y 1).val := by blk_simp [e0]; try omega
  show f ((win0_0.blk t).view.emb y 0).val ((win0_0.blk t).view.emb y 1).val = f (1024 * (t.val / 8) + (y 0).val) (2048 * (0) + (y 1).val)
  rw [a0, a1]

theorem b1 (g : ℕ → ℕ → EReal) (hX : V m c (Pipeline.arrRef spec0 1) = (E g : FVec Ideal S2048x8192 .bf16)) (t : Fin cfg0.N) :
    iblk m c 1 t = (E (fun r k => g (2048 * (0) + r) (1024 * (t.val % 8) + k)) : FVec Ideal S2048x1024 .bf16) := by
  funext y
  refine (congrFun hX ((win0_1.blk t).view.emb y)).trans ?_
  have a0 : ((win0_1.blk t).view.emb y 0).val = 2048 * (0) + (y 0).val := by blk_simp [e1]; try omega
  have a1 : ((win0_1.blk t).view.emb y 1).val = 1024 * (t.val % 8) + (y 1).val := by blk_simp [e1]; try omega
  show g ((win0_1.blk t).view.emb y 0).val ((win0_1.blk t).view.emb y 1).val = g (2048 * (0) + (y 0).val) (1024 * (t.val % 8) + (y 1).val)
  rw [a0, a1]

/-- The whole product: row `r`, column `c`. -/
def whole (f : ℕ → ℕ → EReal) (g : ℕ → ℕ → EReal) : ℕ → ℕ → EReal := fun r c => ∑ k ∈ range 2048, f r k * g k c

theorem pay (f : ℕ → ℕ → EReal) (g : ℕ → ℕ → EReal) :
    k0_pay1 (E f : FVec Ideal S1024x2048 .bf16) (E g : FVec Ideal S2048x1024 .bf16) = (E (fun r c => ∑ k ∈ range 2048, f r k * g k c) : FVec Ideal S1024x1024 .f32) := by
  funext i
  simp only [k0_pay1, pointwise]
  exact (zero_add _).trans (sum_range (fun k => f (i 0).val k * g k (i 1).val)).symm

theorem left_eq (x0 : Vec Ideal S1024x2048 .bf16) (x1 : Vec Ideal S2048x1024 .bf16) : out0_2 x0 x1 = k0_pay1 x0 x1 := by
  unfold out0_2
  rw [View.ld_unit_lit _ x0 (by decide), View.ld_unit_lit _ x1 (by decide)]
  exact View.canon_cons_unit_lit _ _ _ (by decide)

theorem arr (f : ℕ → ℕ → EReal) (g : ℕ → ℕ → EReal) (hX : V m c (Pipeline.arrRef spec0 0) = (E f : FVec Ideal S2048x2048 .bf16))
    (hY : V m c (Pipeline.arrRef spec0 1) = (E g : FVec Ideal S2048x8192 .bf16)) :
    (dats m 0 c).arrAt 2 cfg0.N = (E (whole f g) : FVec Ideal S2048x8192 .f32) := by
  refine (dats m 0 c).arrAt_eq_of_covers 2 _ (by decide +kernel) fun t hf y => ?_
  have a0 : ((win0_2.blk t).view.emb y 0).val = 1024 * (t.val / 8) + (y 0).val := by blk_simp [e2]; try omega
  have a1 : ((win0_2.blk t).view.emb y 1).val = 1024 * (t.val % 8) + (y 1).val := by blk_simp [e2]; try omega
  have y0 : (y 0).val < 1024 := (y 0).isLt
  have y1 : (y 1).val < 1024 := (y 1).isLt
  have ho := (left_eq _ _).trans ((congrArg₂ k0_pay1 (b0 m c f hX t) (b1 m c g hY t)).trans (pay (fun r k => f (1024 * (t.val / 8) + r) (2048 * (0) + k)) (fun r k => g (2048 * (0) + r) (1024 * (t.val % 8) + k))))
  refine (congrFun ((after0_2 m c t).trans ho) y).trans ?_
  show _ = whole f g ((win0_2.blk t).view.emb y 0).val ((win0_2.blk t).view.emb y 1).val
  rw [a0, a1]
  refine sum_congr rfl fun k _ => ?_
  simp only [Nat.mul_zero, Nat.zero_add]

theorem ref (f : ℕ → ℕ → EReal) (g : ℕ → ℕ → EReal) :
    Cert.HgInReferenceIdeal.Read.val_main_v2 (F := Ideal) (E f : FVec Ideal S2048x2048 .bf16) (E g : FVec Ideal S2048x8192 .bf16) = (E (whole f g) : FVec Ideal S2048x8192 .f32) := by
  funext i
  have i0 : (i 0).val < 2048 := (i 0).isLt
  have i1 : (i 1).val < 8192 := (i 1).isLt
  refine Eq.trans ?_ (sum_range _).symm
  rw [Cert.HgInReferenceIdeal.Read.val_main_v2_apply]
  refine sum_congr rfl fun k _ => ?_
  have hk := k.isLt
  rw [Cert.HgInReferenceIdeal.Read.val_main_v0_apply, Cert.HgInReferenceIdeal.Read.val_main_v1_apply]
  rfl

theorem values : Cert.algebraic_HgInIdeal_HgInReferenceIdeal := fun m ρ m' ρ' _ ha => by
  refine ⟨fun c => (dats m 0 c).arrAt 2 cfg0.N, Cert.HgInIdeal.Value.run_blocks m ρ, ?_⟩
  refine (θ_run Cert.HgInReferenceIdeal.defs _ _).mono (fun _ h c => ⟨(h c).1.trans ?_, (h c).2⟩) (Cert.HgInReferenceIdeal.Value.run (F := Ideal) m' ρ')
  have hX : V m c (Pipeline.arrRef spec0 0) = (E (entries (m ((c.tc : Thread nD τ).loc main_arg0))) : FVec Ideal S2048x2048 .bf16) := eq_E (m := 2048) (n := 2048) _
  have hY : V m c (Pipeline.arrRef spec0 1) = (E (entries (m ((c.tc : Thread nD τ).loc main_arg1))) : FVec Ideal S2048x8192 .bf16) := eq_E (m := 2048) (n := 8192) _
  refine Eq.trans ?_ (arr m c _ _ hX hY).symm
  refine Eq.trans ?_ (ref _ _)
  exact congrArg₂ (Cert.HgInReferenceIdeal.Read.val_main_v2 (F := Ideal)) ((ha c).1.trans hX) ((ha c).2.trans hY)

theorem frame_ideal : Cert.quiescent_HgInIdeal := fun m ρ _ => Cert.HgInIdeal.Gen.frame m ρ

theorem frame_reference : Cert.quiescent_HgInReferenceIdeal := fun m ρ _ =>
  (θ_run Cert.HgInReferenceIdeal.defs _ _).mono (fun r h => ⟨fun c => (h c).2, sem_eq_zero_of_no_sems (by decide) r.2⟩)
    (Cert.HgInReferenceIdeal.Value.run (F := Ideal) m ρ)

theorem body_same {F : FTy → Type} [FloatOps F] : Cert.HgInIdeal.cc0_hg_in (F := F) = Cert.HgIn.cc0_hg_in (F := F) := rfl

theorem bodies_same {F : FTy → Type} [FloatOps F] : Cert.HgInIdeal.defs₀ (F := F) = Cert.HgIn.defs₀ (F := F) := by
  refine congrArg (Defs.onTc (nD := Cert.HgIn.nD) (τ := Cert.HgIn.τ)) (funext fun l => funext fun a => ?_)
  match l, a with
  | 0, (t, s) => dsimp only; rw [body_same]; rfl

theorem defs_same {F : FTy → Type} [FloatOps F] : Cert.HgInIdeal.defs (F := F) = Cert.HgIn.defs (F := F) :=
  congrArg (Pipeline.defs (Cert.HgIn.pcfgs (F := F))) bodies_same

theorem frame_kernel : Cert.quiescent_HgIn := fun m ρ _ => by
  rw [← defs_same]
  exact Cert.HgInIdeal.Gen.frame (F := Bits) m ρ

end Cert.HgInIdeal.Tiles

end
-- ==== Proof.NbIn.lean ====
/- The gradient through the scaled norm before the first product: the kernel writes it with the cube of the scale, the reference with the
   scale over the mean square, and they agree for every input. -/
module

public import proofs.«01_k».proof.Defs
public import proofs.«01_k».proof.Proof.Prod
public import proofs.«01_k».proof.Proof.Gen.NbIn
public import proofs.«01_k».proof.Proof.Gen.NbInIdeal
public import proofs.«01_k».proof.Proof.Gen.NbInIdeal.Value
public import proofs.«01_k».proof.Proof.Gen.NbInReferenceIdeal
public import proofs.«01_k».proof.Proof.Gen.NbInReferenceIdeal.Run
public import proofs.«01_k».proof.Proof.Gen.NbInReferenceIdeal.Read
public import Idealize.ShloMosaic.Lib.Pipeline.ValueKit

@[expose] public section

set_option maxRecDepth 16384
set_option maxHeartbeats 400000

noncomputable section

namespace Cert.NbInIdeal.Tiles

open Cert.NbInIdeal.Gen
open Idealize.ShloMosaic Idealize.ShloMosaic.TcCoe Idealize.ShloMosaic.Tactic
open Finset Cert.Prod

/-! ### Numbers -/

/-- The number of entries of a row, the small constant under the root, and minus one half, as the programs write them. -/
abbrev dim : EReal := FloatOps.ofBits (F := Ideal) .f32 0x45000000#32
abbrev tiny : EReal := FloatOps.ofBits (F := Ideal) .f32 0x358637BD#32
abbrev half : EReal := FloatOps.ofBits (F := Ideal) .f32 0xBF000000#32

theorem dim_eq : dim = ((2048 : ℝ) : EReal) := by
  simp [dim, FloatOps.ofBits, Ideal.ofBits, Ideal.ieee]
  rw [← EReal.coe_mul]
  norm_num

theorem half_eq : half = ((-(1 / 2) : ℝ) : EReal) := by
  simp [half, FloatOps.ofBits, Ideal.ofBits, Ideal.ieee]
  rw [← EReal.coe_mul]
  norm_num

theorem tiny_pos : 0 < tiny := by
  simp [tiny, FloatOps.ofBits, Ideal.ofBits, Ideal.ieee]
  rw [← EReal.coe_mul]
  exact EReal.coe_pos.mpr (by positivity)

theorem square_nonneg (x : EReal) : 0 ≤ x * x := by
  induction x with
  | bot => simp
  | top => simp
  | coe a => exact_mod_cast mul_self_nonneg a

theorem twice (y : EReal) : y + y = y * ((2 : ℝ) : EReal) := by
  induction y with
  | bot => rw [EReal.bot_mul_coe_of_pos (by norm_num)]; rfl
  | top => rw [EReal.top_mul_coe_of_pos (by norm_num)]; rfl
  | coe a => rw [← EReal.coe_add, ← EReal.coe_mul]; congr 1; ring

/-- Over a positive mean square `s`, the scale's cube and the scale over `s` are the same number. -/
theorem cube (s : EReal) (h : 0 < s) : ∃ u : ℝ, Ideal.rsqrt s * Ideal.rsqrt s * Ideal.rsqrt s = (u : EReal) ∧ Ideal.div (Ideal.rsqrt s) s = (u : EReal) := by
  induction s with
  | bot => exact absurd h (by simp)
  | top =>
    refine ⟨0, ?_, ?_⟩
    · show (0 : EReal) * 0 * 0 = _; simp
    · show Ideal.div 0 ⊤ = _; simp [Ideal.div]
  | coe a =>
    have ha : 0 < a := by exact_mod_cast h
    have hr : Ideal.rsqrt (a : EReal) = (((Real.sqrt a)⁻¹ : ℝ) : EReal) := by
      show (if a < 0 then (⊥ : EReal) else if a = 0 then ⊤ else (((Real.sqrt a)⁻¹ : ℝ) : EReal)) = _
      rw [if_neg (by linarith), if_neg (by linarith)]
    refine ⟨(Real.sqrt a)⁻¹ * (1 / a), ?_, ?_⟩
    · rw [hr, ← EReal.coe_mul, ← EReal.coe_mul]
      congr 1
      rw [mul_assoc, ← mul_inv, Real.mul_self_sqrt ha.le, one_div]
    · rw [hr, Ideal.div_coe (by linarith), ← EReal.coe_mul]

/-- The kernel's way and the reference's way to write one entry, before the added array. -/
theorem agree (s x S G : EReal) (h : 0 < s) :
    Ideal.rsqrt s * G - x * (Ideal.rsqrt s * Ideal.rsqrt s * Ideal.rsqrt s * Ideal.div S dim)
      = G * Ideal.rsqrt s + x * Ideal.div (S * (half * Ideal.div (Ideal.rsqrt s) s)) dim
        + Ideal.div (S * (half * Ideal.div (Ideal.rsqrt s) s)) dim * x := by
  obtain ⟨u, h1, h2⟩ := cube s h
  rw [h1, h2, dim_eq, half_eq, Ideal.div_coe (by norm_num), Ideal.div_coe (by norm_num), add_assoc, mul_comm G, sub_eq_add_neg]
  refine congrArg (fun z : EReal => Ideal.rsqrt s * G + z) ?_
  rw [mul_comm (S * _ * _) x, twice, ← EReal.coe_mul]
  have e : x * (S * ((-(1 / 2) * u : ℝ) : EReal) * ((1 / 2048 : ℝ) : EReal)) * ((2 : ℝ) : EReal)
      = x * S * (((-(1 / 2) * u : ℝ) : EReal) * (((1 / 2048 : ℝ) : EReal) * ((2 : ℝ) : EReal))) := by
    simp only [mul_assoc]
  have e' : x * ((u : EReal) * (S * ((1 / 2048 : ℝ) : EReal))) = x * S * ((u : EReal) * ((1 / 2048 : ℝ) : EReal)) := by
    simp only [mul_assoc, mul_left_comm]
  rw [e, e', ← EReal.coe_mul, ← EReal.coe_mul, ← EReal.coe_mul, ← mul_neg, ← EReal.coe_neg]
  congr 2
  ring

/-! ### Entries -/

/-- The mean square of row `r` of `f`, with the small constant. -/
def size (f : ℕ → ℕ → EReal) (r : ℕ) : EReal := Ideal.div (∑ k : Fin 2048, f r k.val * f r k.val) dim + tiny

theorem size_pos (f : ℕ → ℕ → EReal) (r : ℕ) : 0 < size f r := by
  refine lt_of_lt_of_le tiny_pos (le_add_of_nonneg_left ?_)
  rw [dim_eq, Ideal.div_coe (by norm_num)]
  exact mul_nonneg (sum_nonneg fun k _ => square_nonneg _) (by exact_mod_cast (by norm_num : (0 : ℝ) ≤ 1 / 2048))

def scale (f : ℕ → ℕ → EReal) (r : ℕ) : EReal := Ideal.rsqrt (size f r)

/-- The sum over row `r` of the incoming gradient, times the row's weights, times `f`. -/
def along (f g h : ℕ → ℕ → EReal) (r : ℕ) : EReal := ∑ k : Fin 2048, h r k.val * g 0 k.val * f r k.val

/-- The gradient of the norm's input, plus the array that is added. -/
def wholeIn (f g h a : ℕ → ℕ → EReal) (r c : ℕ) : EReal :=
  scale f r * (h r c * g 0 c) - f r c * (scale f r * scale f r * scale f r * Ideal.div (along f g h r) dim) + a r c

/-- One entry's share of the gradient of the norm's weights. -/
def share (f h : ℕ → ℕ → EReal) (r c : ℕ) : EReal := h r c * f r c * scale f r

/-! ### The kernel's tiles -/

theorem pay_scale (f : ℕ → ℕ → EReal) : k0_pay2 (E f : FVec Ideal S256x2048 .f32) = (E (fun r _ => scale f r) : FVec Ideal S256x1 .f32) := by
  funext i
  simp only [k0_pay2, pointwise]
  rfl

theorem pay_in (f g h a : ℕ → ℕ → EReal) :
    k0_pay3 (E f : FVec Ideal S256x2048 .f32) (E h : FVec Ideal S256x2048 .f32) (E g : FVec Ideal S1x2048 .f32) (E a : FVec Ideal S256x2048 .f32)
      = (E (wholeIn f g h a) : FVec Ideal S256x2048 .f32) := by
  funext i
  simp only [k0_pay3, pay_scale, pointwise]
  rfl

theorem pay_share (f h : ℕ → ℕ → EReal) :
    k0_pay6 (E f : FVec Ideal S256x2048 .f32) (E h : FVec Ideal S256x2048 .f32) = (E (share f h) : FVec Ideal S256x2048 .f32) := by
  funext i
  simp only [k0_pay6, pay_scale, pointwise]
  rfl

theorem pay_same (X : Vec Ideal S1x2048 .f32) : k0_pay5 X = X := by
  funext i
  simp only [k0_pay5, pointwise]

theorem pay_next (f h a : ℕ → ℕ → EReal) :
    k0_pay1 (k0_pay5 (E a : FVec Ideal S1x2048 .f32)) (k0_pay6 (E f : FVec Ideal S256x2048 .f32) (E h : FVec Ideal S256x2048 .f32))
      = (E (fun r c => a r c + ∑ k ∈ range 256, share f h k c) : FVec Ideal S1x2048 .f32) := by
  rw [pay_same, pay_share]
  funext i
  simp only [k0_pay1, pointwise]
  exact congrArg (fun z : EReal => a (i 0).val (i 1).val + z) (sum_range (fun k => share f h k (i 1).val)).symm

theorem pay_zero : (k0_pay4 : FVec Ideal S1x2048 .f32) = E (fun _ _ => 0) := funext fun _ => ofBits_zero

variable (m : (ℓ : Loc nD τ sig) → Buf (Elt Ideal) ℓ) (c : Dev nD)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![0, 0] := (by decide +kernel : ∀ t : Fin grid0.N, _)

/-- The rows of block `t` of `f`. -/
abbrev rows (t : ℕ) (f : ℕ → ℕ → EReal) : ℕ → ℕ → EReal := fun r k => f (256 * t + r) k

theorem b0 (f : ℕ → ℕ → EReal) (hX : V m c (Pipeline.arrRef spec0 0) = (E f : FVec Ideal S2048x2048 .f32)) (t : Fin cfg0.N) :
    iblk m c 0 t = (E (rows t.val f) : FVec Ideal S256x2048 .f32) := by
  funext y
  refine (congrFun hX ((win0_0.blk t).view.emb y)).trans ?_
  have a0 : ((win0_0.blk t).view.emb y 0).val = 256 * t.val + (y 0).val := by blk_simp [e0]; try omega
  have a1 : ((win0_0.blk t).view.emb y 1).val = (y 1).val := by blk_simp [e0]; try omega
  show f ((win0_0.blk t).view.emb y 0).val ((win0_0.blk t).view.emb y 1).val = f (256 * t.val + (y 0).val) (y 1).val
  rw [a0, a1]

theorem b1 (f : ℕ → ℕ → EReal) (hX : V m c (Pipeline.arrRef spec0 1) = (E f : FVec Ideal S1x2048 .f32)) (t : Fin cfg0.N) :
    iblk m c 1 t = (E f : FVec Ideal S1x2048 .f32) := by
  funext y
  refine (congrFun hX ((win0_1.blk t).view.emb y)).trans ?_
  have a0 : ((win0_1.blk t).view.emb y 0).val = (y 0).val := by blk_simp [e1]; try omega
  have a1 : ((win0_1.blk t).view.emb y 1).val = (y 1).val := by blk_simp [e1]; try omega
  show f ((win0_1.blk t).view.emb y 0).val ((win0_1.blk t).view.emb y 1).val = f (y 0).val (y 1).val
  rw [a0, a1]

theorem b2 (f : ℕ → ℕ → EReal) (hX : V m c (Pipeline.arrRef spec0 2) = (E f : FVec Ideal S2048x2048 .f32)) (t : Fin cfg0.N) :
    iblk m c 2 t = (E (rows t.val f) : FVec Ideal S256x2048 .f32) := by
  funext y
  refine (congrFun hX ((win0_2.blk t).view.emb y)).trans ?_
  have a0 : ((win0_2.blk t).view.emb y 0).val = 256 * t.val + (y 0).val := by blk_simp [e2]; try omega
  have a1 : ((win0_2.blk t).view.emb y 1).val = (y 1).val := by blk_simp [e2]; try omega
  show f ((win0_2.blk t).view.emb y 0).val ((win0_2.blk t).view.emb y 1).val = f (256 * t.val + (y 0).val) (y 1).val
  rw [a0, a1]

theorem b3 (f : ℕ → ℕ → EReal) (hX : V m c (Pipeline.arrRef spec0 3) = (E f : FVec Ideal S2048x2048 .f32)) (t : Fin cfg0.N) :
    iblk m c 3 t = (E (rows t.val f) : FVec Ideal S256x2048 .f32) := by
  funext y
  refine (congrFun hX ((win0_3.blk t).view.emb y)).trans ?_
  have a0 : ((win0_3.blk t).view.emb y 0).val = 256 * t.val + (y 0).val := by blk_simp [e3]; try omega
  have a1 : ((win0_3.blk t).view.emb y 1).val = (y 1).val := by blk_simp [e3]; try omega
  show f ((win0_3.blk t).view.emb y 0).val ((win0_3.blk t).view.emb y 1).val = f (256 * t.val + (y 0).val) (y 1).val
  rw [a0, a1]

theorem load_whole {S : Shape} {e : EltTy} {arg : Memref sig .tc .vmem S e} (h : arg.IsWhole) (X : Vec Ideal S e) {off : Fin S.rank → Nat}
    (inb : ∀ a, off a + S.size a ≤ S.size a) (hz : ∀ a, off a = 0) :
    View.readAt (Elt Ideal) arg.view (Rect.unit off S.size inb).toLoadRect (h.unread X) = X := by
  show View.ld (arg.view.read (Elt Ideal) (h.unread X)) (Rect.unit off S.size inb) = X
  rw [h.read_unread]
  exact View.ld_unit_lit inb X hz

theorem cong4 {α β γ δ ε : Type} (f : α → β → γ → δ → ε) {a a' : α} {b b' : β} {c c' : γ} {d d' : δ} (ha : a = a') (hb : b = b') (hc : c = c')
    (hd : d = d') : f a b c d = f a' b' c' d' := by subst ha; subst hb; subst hc; subst hd; rfl

section left
variable (t : Fin cfg0.N) (x0 : Vec Ideal S256x2048 .f32) (x1 : Vec Ideal S1x2048 .f32) (x2 x3 : Vec Ideal S256x2048 .f32) (xo : Vec Ideal S1x2048 .f32)

theorem left_first (h0) : out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) h0 x0 x1 x2 x3 = k0_pay3 x0 x2 x1 x3 := by
  unfold out0_A_4
  rw [View.read_writes_eq_canon _ _ _ (fun y => cover0_A_4 _ _ _ _ _ _ _ _ _ _ _ _ _ _ _ _ _ _ _ y)]
  unfold kernelRun0_A
  refine (View.canon_cons_unit_lit _ _ _ (by decide)).trans ?_
  exact cong4 k0_pay3 (load_whole _ x0 _ (by decide)) (load_whole _ x2 _ (by decide)) (load_whole _ x1 _ (by decide)) (load_whole _ x3 _ (by decide))

theorem left_next (h0) : out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) h0 x0 x1 x2 x3 xo = k0_pay3 x0 x2 x1 x3 := by
  unfold out0_B_4
  rw [View.read_writes_eq_canon _ _ _ (fun y => cover0_B_4 _ _ _ _ _ _ _ _ _ _ _ _ _ _ _ _ _ _ _ _ y)]
  unfold kernelRun0_B
  refine (View.canon_cons_unit_lit _ _ _ (by decide)).trans ?_
  exact cong4 k0_pay3 (load_whole _ x0 _ (by decide)) (load_whole _ x2 _ (by decide)) (load_whole _ x1 _ (by decide)) (load_whole _ x3 _ (by decide))

theorem held_next (h0) : out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) h0 x0 x1 x2 x3 xo = k0_pay1 (k0_pay5 xo) (k0_pay6 x0 x2) := by
  unfold out0_B_5
  rw [View.read_writes_eq_canon _ _ _ (fun y => cover0_B_5 _ _ _ _ _ _ _ _ _ _ _ _ _ _ _ _ _ _ _ _ y)]
  unfold kernelRun0_B
  refine (View.canon_cons_unit_lit _ _ _ (by decide)).trans ?_
  exact congrArg₂ k0_pay1 (congrArg k0_pay5 (load_whole _ xo _ (by decide))) (congrArg₂ k0_pay6 (load_whole _ x0 _ (by decide)) (load_whole _ x2 _ (by decide)))

theorem held_first (h0) : out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) h0 x0 x1 x2 x3 = k0_pay1 (k0_pay5 k0_pay4) (k0_pay6 x0 x2) := by
  unfold out0_A_5
  rw [View.read_writes_eq_canon _ _ _ (fun y => cover0_A_5 _ _ _ _ _ _ _ _ _ _ _ _ _ _ _ _ _ _ _ y)]
  unfold kernelRun0_A
  refine (View.canon_cons_unit_lit _ _ _ (by decide)).trans ?_
  refine congrArg₂ k0_pay1 (congrArg k0_pay5 ?_) (congrArg₂ k0_pay6 (load_whole _ x0 _ (by decide)) (load_whole _ x2 _ (by decide)))
  exact View.readCov_unit_lit _ _ _ (by decide)
end left

theorem fst_eq (t : Fin cfg0.N) : (outsAt0 m c t.val t.isLt).1 = k0_pay3 (iblk m c 0 t) (iblk m c 2 t) (iblk m c 1 t) (iblk m c 3 t) := by
  by_cases ht : t.val % 8 = 0
  · rw [outsAt0_A m c t ht]
    dsimp only
    exact left_first c t (iblk m c 0 t) (iblk m c 1 t) (iblk m c 2 t) (iblk m c 3 t) _
  · rw [outsAt0_B m c t ht]
    dsimp only
    exact left_next c t (iblk m c 0 t) (iblk m c 1 t) (iblk m c 2 t) (iblk m c 3 t) _ _

theorem snd_first (t : Fin cfg0.N) (ht : t.val % 8 = 0) : (outsAt0 m c t.val t.isLt).2 = k0_pay1 (k0_pay5 k0_pay4) (k0_pay6 (iblk m c 0 t) (iblk m c 2 t)) := by
  rw [outsAt0_A m c t ht]
  dsimp only
  exact held_first c t (iblk m c 0 t) (iblk m c 1 t) (iblk m c 2 t) (iblk m c 3 t) _

theorem snd_next (t : Fin cfg0.N) (ht : ¬t.val % 8 = 0) : (outsAt0 m c t.val t.isLt).2
    = k0_pay1 (k0_pay5 (outsAt0 m c (t.val - 1) (Nat.lt_of_le_of_lt (Nat.sub_le _ _) t.isLt)).2) (k0_pay6 (iblk m c 0 t) (iblk m c 2 t)) := by
  rw [outsAt0_B m c t ht]
  dsimp only
  exact held_next c t (iblk m c 0 t) (iblk m c 1 t) (iblk m c 2 t) (iblk m c 3 t) _ _

/-- After point `n` the accumulator holds the column sums over the blocks seen so far. -/
theorem held (f h : ℕ → ℕ → EReal) (hX : V m c (Pipeline.arrRef spec0 0) = (E f : FVec Ideal S2048x2048 .f32))
    (hD : V m c (Pipeline.arrRef spec0 2) = (E h : FVec Ideal S2048x2048 .f32)) : ∀ (n : ℕ) (hn : n < cfg0.N),
    (outsAt0 m c n hn).2 = (E (fun _ c => ∑ s ∈ range (n + 1), ∑ k ∈ range 256, share f h (256 * s + k) c) : FVec Ideal S1x2048 .f32) := by
  intro n
  induction n with
  | zero =>
    intro hn
    refine (snd_first m c ⟨0, hn⟩ (Nat.zero_mod _)).trans ?_
    rw [b0 m c f hX, b2 m c h hD, pay_zero]
    refine (pay_next _ _ _).trans (E_congr fun r _ c _ => ?_)
    exact (zero_add _).trans (sum_range_one (fun s => ∑ k ∈ range 256, share f h (256 * s + k) c)).symm
  | succ n ih =>
    intro hn
    have ih := ih (Nat.lt_of_succ_lt hn)
    have hN : cfg0.N = 8 := by decide
    have hp : k0_pay1 (k0_pay5 (outsAt0 m c n (Nat.lt_of_succ_lt hn)).2) (k0_pay6 (iblk m c 0 ⟨n + 1, hn⟩) (iblk m c 2 ⟨n + 1, hn⟩))
        = (E (fun _ c => ∑ s ∈ range (n + 1 + 1), ∑ k ∈ range 256, share f h (256 * s + k) c) : FVec Ideal S1x2048 .f32) := by
      rw [ih, b0 m c f hX, b2 m c h hD]
      refine (pay_next _ _ _).trans (E_congr fun r _ c _ => ?_)
      exact (sum_range_succ (fun s => ∑ k ∈ range 256, share f h (256 * s + k) c) (n + 1)).symm
    exact (snd_next m c ⟨n + 1, hn⟩ (by show ¬(n + 1) % 8 = 0; omega)).trans hp

theorem arr_in (f g h a : ℕ → ℕ → EReal) (hX : V m c (Pipeline.arrRef spec0 0) = (E f : FVec Ideal S2048x2048 .f32))
    (hG : V m c (Pipeline.arrRef spec0 1) = (E g : FVec Ideal S1x2048 .f32)) (hD : V m c (Pipeline.arrRef spec0 2) = (E h : FVec Ideal S2048x2048 .f32))
    (hA : V m c (Pipeline.arrRef spec0 3) = (E a : FVec Ideal S2048x2048 .f32)) :
    (dats m 0 c).arrAt 4 cfg0.N = (E (wholeIn f g h a) : FVec Ideal S2048x2048 .f32) := by
  refine (dats m 0 c).arrAt_eq_of_covers 4 _ (by decide +kernel) fun t hf y => ?_
  have a0 : ((win0_4.blk t).view.emb y 0).val = 256 * t.val + (y 0).val := by blk_simp [e4]; try omega
  have a1 : ((win0_4.blk t).view.emb y 1).val = (y 1).val := by blk_simp [e4]; try omega
  have hp : k0_pay3 (iblk m c 0 t) (iblk m c 2 t) (iblk m c 1 t) (iblk m c 3 t)
      = (E (wholeIn (rows t.val f) g (rows t.val h) (rows t.val a)) : FVec Ideal S256x2048 .f32) := by
    rw [b0 m c f hX, b1 m c g hG, b2 m c h hD, b3 m c a hA]
    exact pay_in _ _ _ _
  refine (congrFun ((after0_4 m c t).trans ((fst_eq m c t).trans hp)) y).trans ?_
  show _ = wholeIn f g h a ((win0_4.blk t).view.emb y 0).val ((win0_4.blk t).view.emb y 1).val
  rw [a0, a1]
  rfl

theorem arr_weights (f h : ℕ → ℕ → EReal) (hX : V m c (Pipeline.arrRef spec0 0) = (E f : FVec Ideal S2048x2048 .f32))
    (hD : V m c (Pipeline.arrRef spec0 2) = (E h : FVec Ideal S2048x2048 .f32)) :
    (dats m 0 c).arrAt 5 cfg0.N = (E (fun _ c => ∑ k ∈ range 2048, share f h k c) : FVec Ideal S1x2048 .f32) := by
  refine (dats m 0 c).arrAt_eq_of_covers 5 _ (by decide +kernel) fun t hf y => ?_
  have hm : t.val % 8 = 7 := (flush0_5 t).mp hf
  have hN : t.val < 8 := t.isLt.trans_eq (by decide)
  have a1 : ((win0_5.blk t).view.emb y 1).val = (y 1).val := by blk_simp [e5]; try omega
  refine (congrFun ((after0_5 m c t).trans (held m c f h hX hD t.val t.isLt)) y).trans ?_
  show ∑ s ∈ range (t.val + 1), ∑ k ∈ range 256, share f h (256 * s + k) (y 1).val = ∑ k ∈ range (256 * 8), share f h k ((win0_5.blk t).view.emb y 1).val
  rw [a1, sum_split 256 _ 8, show t.val + 1 = 8 by omega]

/-! ### The reference -/

theorem ref_size (f : ℕ → ℕ → EReal) (i) :
    Cert.NbInReferenceIdeal.Read.val_main_v6 (F := Ideal) (E f : FVec Ideal S2048x2048 .f32) i = size f (i 0).val := by
  rw [Cert.NbInReferenceIdeal.Read.val_main_v6_apply, Cert.NbInReferenceIdeal.Read.val_main_v4_apply, Cert.NbInReferenceIdeal.Read.val_main_v2_apply,
    Cert.NbInReferenceIdeal.Read.val_main_v1_apply, Cert.NbInReferenceIdeal.Read.val_main_v3_apply, Cert.NbInReferenceIdeal.Read.val_main_v5_apply]
  show Ideal.div (FloatOps.ofBits (F := Ideal) .f32 0x00000000#32 + _) dim + tiny = Ideal.div _ dim + tiny
  rw [ofBits_zero]
  exact congrArg (fun z : EReal => Ideal.div z dim + tiny) (zero_add _)

theorem ref_scale (f : ℕ → ℕ → EReal) (i) :
    Cert.NbInReferenceIdeal.Read.val_main_v7 (F := Ideal) (E f : FVec Ideal S2048x2048 .f32) i = scale f (i 0).val :=
  congrArg Ideal.rsqrt (ref_size f i)

theorem ref_along (f g h : ℕ → ℕ → EReal) (i) :
    Cert.NbInReferenceIdeal.Read.val_main_v22 (F := Ideal) (E f : FVec Ideal S2048x2048 .f32) (E g : FVec Ideal S1x2048 .f32) (E h : FVec Ideal S2048x2048 .f32) i
      = along f g h (i 0).val := by
  have i1 : (i 1).val < 1 := (i 1).isLt
  rw [Cert.NbInReferenceIdeal.Read.val_main_v22_apply, Cert.NbInReferenceIdeal.Read.val_main_v21_apply]
  show FloatOps.ofBits (F := Ideal) .f32 0x00000000#32 + _ = _
  rw [ofBits_zero]
  refine (zero_add _).trans (sum_congr rfl fun k _ => ?_)
  rw [Cert.NbInReferenceIdeal.Read.val_main_v20_apply, Cert.NbInReferenceIdeal.Read.val_main_v19_apply, Cert.NbInReferenceIdeal.Read.val_main_v18_apply]
  show f ((i 0).val * 1 + (i 1).val) k.val * (h ((i 0).val * 1 + (i 1).val) k.val * g 0 k.val) = h (i 0).val k.val * g 0 k.val * f (i 0).val k.val
  rw [show (i 0).val * 1 + (i 1).val = (i 0).val by omega]
  exact mul_comm _ _

theorem ref_mean (f g h : ℕ → ℕ → EReal) (i) :
    Cert.NbInReferenceIdeal.Read.val_main_v29 (F := Ideal) (E f : FVec Ideal S2048x2048 .f32) (E g : FVec Ideal S1x2048 .f32) (E h : FVec Ideal S2048x2048 .f32) i
      = Ideal.div (along f g h (i 0).val * (half * Ideal.div (scale f (i 0).val) (size f (i 0).val))) dim := by
  rw [Cert.NbInReferenceIdeal.Read.val_main_v29_apply, Cert.NbInReferenceIdeal.Read.val_main_v28_apply]
  show FloatOps.ofBits (F := Ideal) .f32 0x00000000#32 + _ = _
  rw [ofBits_zero]
  refine (zero_add _).trans ((Fin.sum_univ_one _).trans ?_)
  rw [Cert.NbInReferenceIdeal.Read.val_main_v27_apply, Cert.NbInReferenceIdeal.Read.val_main_v25_apply, Cert.NbInReferenceIdeal.Read.val_main_v10_apply,
    Cert.NbInReferenceIdeal.Read.val_main_v8_apply, Cert.NbInReferenceIdeal.Read.val_main_v9_apply, Cert.NbInReferenceIdeal.Read.val_main_v26_apply,
    ref_along, ref_scale, ref_size]
  rfl

theorem ref_in (f g h a : ℕ → ℕ → EReal) :
    Cert.NbInReferenceIdeal.Read.val_main_v34 (F := Ideal) (E f : FVec Ideal S2048x2048 .f32) (E g : FVec Ideal S1x2048 .f32)
      (E h : FVec Ideal S2048x2048 .f32) (E a : FVec Ideal S2048x2048 .f32) = (E (wholeIn f g h a) : FVec Ideal S2048x2048 .f32) := by
  funext i
  rw [Cert.NbInReferenceIdeal.Read.val_main_v34_apply, Cert.NbInReferenceIdeal.Read.val_main_v33_apply, Cert.NbInReferenceIdeal.Read.val_main_v31_apply,
    Cert.NbInReferenceIdeal.Read.val_main_v24_apply, Cert.NbInReferenceIdeal.Read.val_main_v30_apply, Cert.NbInReferenceIdeal.Read.val_main_v32_apply,
    Cert.NbInReferenceIdeal.Read.val_main_v19_apply, Cert.NbInReferenceIdeal.Read.val_main_v18_apply, Cert.NbInReferenceIdeal.Read.val_main_v23_apply,
    ref_mean, ref_scale]
  exact congrArg (fun z : EReal => z + a (i 0).val (i 1).val)
    (agree (size f (i 0).val) (f (i 0).val (i 1).val) (along f g h (i 0).val) (h (i 0).val (i 1).val * g 0 (i 1).val) (size_pos f (i 0).val)).symm

theorem ref_weights (f h : ℕ → ℕ → EReal) :
    Cert.NbInReferenceIdeal.Read.val_main_v17 (F := Ideal) (E f : FVec Ideal S2048x2048 .f32) (E h : FVec Ideal S2048x2048 .f32)
      = (E (fun _ c => ∑ k ∈ range 2048, share f h k c) : FVec Ideal S1x2048 .f32) := by
  funext i
  have i0 : (i 0).val < 1 := (i 0).isLt
  rw [Cert.NbInReferenceIdeal.Read.val_main_v17_apply, Cert.NbInReferenceIdeal.Read.val_main_v16_apply]
  show FloatOps.ofBits (F := Ideal) .f32 0x00000000#32 + _ = ∑ k ∈ range 2048, share f h k (i 1).val
  rw [ofBits_zero]
  refine (zero_add _).trans (Eq.trans (sum_congr rfl fun k _ => ?_) (sum_range _).symm)
  rw [Cert.NbInReferenceIdeal.Read.val_main_v15_apply, Cert.NbInReferenceIdeal.Read.val_main_v12_apply, Cert.NbInReferenceIdeal.Read.val_main_v11_apply, ref_scale]
  show f k.val ((i 0).val * 2048 + (i 1).val) * scale f k.val * h k.val ((i 0).val * 2048 + (i 1).val) = h k.val (i 1).val * f k.val (i 1).val * scale f k.val
  rw [show (i 0).val * 2048 + (i 1).val = (i 1).val by omega]
  rw [mul_comm, mul_assoc]

theorem values : Cert.algebraic_NbInIdeal_NbInReferenceIdeal := fun m ρ m' ρ' _ ha => by
  refine ⟨fun c => (dats m 0 c).arrAt 4 cfg0.N, fun c => (dats m 0 c).arrAt 5 cfg0.N, Cert.NbInIdeal.Value.run_blocks m ρ, ?_⟩
  refine (θ_run Cert.NbInReferenceIdeal.defs _ _).mono (fun _ h c => ⟨(h c).1.trans ?_, (h c).2.1.trans ?_, (h c).2.2⟩)
    (Cert.NbInReferenceIdeal.Value.run (F := Ideal) m' ρ')
  all_goals
    have hX : V m c (Pipeline.arrRef spec0 0) = (E (entries (m ((c.tc : Thread nD τ).loc main_arg0))) : FVec Ideal S2048x2048 .f32) := eq_E (m := 2048) (n := 2048) _
    have hG : V m c (Pipeline.arrRef spec0 1) = (E (entries (m ((c.tc : Thread nD τ).loc main_arg1))) : FVec Ideal S1x2048 .f32) := eq_E (m := 1) (n := 2048) _
    have hD : V m c (Pipeline.arrRef spec0 2) = (E (entries (m ((c.tc : Thread nD τ).loc main_arg2))) : FVec Ideal S2048x2048 .f32) := eq_E (m := 2048) (n := 2048) _
    have hA : V m c (Pipeline.arrRef spec0 3) = (E (entries (m ((c.tc : Thread nD τ).loc main_arg3))) : FVec Ideal S2048x2048 .f32) := eq_E (m := 2048) (n := 2048) _
    obtain ⟨h0, h1, h2, h3⟩ := ha c
  · refine Eq.trans ?_ (arr_in m c _ _ _ _ hX hG hD hA).symm
    refine Eq.trans ?_ (ref_in _ _ _ _)
    exact cong4 (Cert.NbInReferenceIdeal.Read.val_main_v34 (F := Ideal)) (h0.trans hX) (h1.trans hG) (h2.trans hD) (h3.trans hA)
  · refine Eq.trans ?_ (arr_weights m c _ _ hX hD).symm
    refine Eq.trans ?_ (ref_weights _ _)
    exact congrArg₂ (Cert.NbInReferenceIdeal.Read.val_main_v17 (F := Ideal)) (h0.trans hX) (h2.trans hD)

theorem frame_ideal : Cert.quiescent_NbInIdeal := fun m ρ _ => Cert.NbInIdeal.Gen.frame m ρ

theorem frame_reference : Cert.quiescent_NbInReferenceIdeal := fun m ρ _ =>
  (θ_run Cert.NbInReferenceIdeal.defs _ _).mono (fun r h => ⟨fun c => (h c).2.2, sem_eq_zero_of_no_sems (by decide) r.2⟩)
    (Cert.NbInReferenceIdeal.Value.run (F := Ideal) m ρ)

theorem body_same {F : FTy → Type} [FloatOps F] : Cert.NbInIdeal.cc0_nb_in (F := F) = Cert.NbIn.cc0_nb_in (F := F) := rfl

theorem bodies_same {F : FTy → Type} [FloatOps F] : Cert.NbInIdeal.defs₀ (F := F) = Cert.NbIn.defs₀ (F := F) := by
  refine congrArg (Defs.onTc (nD := Cert.NbIn.nD) (τ := Cert.NbIn.τ)) (funext fun l => funext fun a => ?_)
  match l, a with
  | 0, (t, s) => dsimp only; rw [body_same]; rfl

theorem defs_same {F : FTy → Type} [FloatOps F] : Cert.NbInIdeal.defs (F := F) = Cert.NbIn.defs (F := F) :=
  congrArg (Pipeline.defs (Cert.NbIn.pcfgs (F := F))) bodies_same

theorem frame_kernel : Cert.quiescent_NbIn := fun m ρ _ => by
  rw [← defs_same]
  exact Cert.NbInIdeal.Gen.frame (F := Bits) m ρ

end Cert.NbInIdeal.Tiles

end
-- ==== Proof.Adam.lean ====
/- One AdamW step of one entry, and small facts that the optimiser's calls share. -/
module

public import proofs.«01_k».proof.Defs
public import proofs.«01_k».proof.Proof.Prod
public import Idealize.ShloMosaic.Lib.Pipeline.ValueKit

@[expose] public section

noncomputable section

namespace Cert.Adam

open Idealize.ShloMosaic Idealize.ShloMosaic.TcCoe Idealize.ShloMosaic.Tactic

/-- A constant of the step. -/
abbrev k (b : BitVec 32) : EReal := FloatOps.ofBits (F := Ideal) .f32 b

/-- The new first moment of one entry: gradient `g`, old moment `p`. -/
def first (g p : EReal) : EReal := k 0x3F666666#32 * p + k 0x3DCCCCCD#32 * g

/-- The new second moment of one entry: gradient `g`, old moment `q`. -/
def second (g q : EReal) : EReal := k 0x3F7FBE77#32 * q + k 0x3A83126F#32 * (g * g)

/-- The change of one entry `w`. -/
def change (w g p q : EReal) : EReal :=
  k 0xBA83126F#32 * (Ideal.div (Ideal.div (first g p) (k 0x3F26BD02#32)) (Ideal.sqrt (Ideal.div (second g q) (k 0x3C231ACC#32)) + k 0x322BCC77#32)
    + k 0x3C23D70A#32 * w)

/-- The first layer of one array, the other layers of another. -/
def layer {l r n : Nat} (G B : (⟨3, ![l, r, n]⟩ : Shape).Idx → EReal) : FVec Ideal ⟨3, ![l, r, n]⟩ .f32 :=
  fun i => if (i 0).val < 1 then G i else B i

theorem ext3 {l r n : Nat} {i j : (⟨3, ![l, r, n]⟩ : Shape).Idx} (h0 : (i 0).val = (j 0).val) (h1 : (i 1).val = (j 1).val)
    (h2 : (i 2).val = (j 2).val) : i = j := funext fun a => Fin.ext (by
  match a with
  | ⟨0, _⟩ => exact h0
  | ⟨1, _⟩ => exact h1
  | ⟨2, _⟩ => exact h2)

theorem ext4 {p l r n : Nat} {i j : (⟨4, ![p, l, r, n]⟩ : Shape).Idx} (h0 : (i 0).val = (j 0).val) (h1 : (i 1).val = (j 1).val)
    (h2 : (i 2).val = (j 2).val) (h3 : (i 3).val = (j 3).val) : i = j := funext fun a => Fin.ext (by
  match a with
  | ⟨0, _⟩ => exact h0
  | ⟨1, _⟩ => exact h1
  | ⟨2, _⟩ => exact h2
  | ⟨3, _⟩ => exact h3)

theorem load_whole {sig : RefSig} {S : Shape} {e : EltTy} {arg : Memref sig .tc .vmem S e} (h : arg.IsWhole) (X : Vec Ideal S e)
    {off : Fin S.rank → Nat} (inb : ∀ a, off a + S.size a ≤ S.size a) (hz : ∀ a, off a = 0) :
    View.readAt (Elt Ideal) arg.view (Rect.unit off S.size inb).toLoadRect (h.unread X) = X := by
  show View.ld (arg.view.read (Elt Ideal) (h.unread X)) (Rect.unit off S.size inb) = X
  rw [h.read_unread]
  exact View.ld_unit_lit inb X hz

theorem cong3 {α β γ ε : Type} (f : α → β → γ → ε) {a a' : α} {b b' : β} {c c' : γ} (ha : a = a') (hb : b = b') (hc : c = c') :
    f a b c = f a' b' c' := by subst ha; subst hb; subst hc; rfl

theorem cong4 {α β γ δ ε : Type} (f : α → β → γ → δ → ε) {a a' : α} {b b' : β} {c c' : γ} {d d' : δ} (ha : a = a') (hb : b = b') (hc : c = c')
    (hd : d = d') : f a b c d = f a' b' c' d' := by subst ha; subst hb; subst hc; subst hd; rfl

theorem cong5 {α β γ δ ε ζ : Type} (f : α → β → γ → δ → ε → ζ) {a a' : α} {b b' : β} {c c' : γ} {d d' : δ} {e e' : ε} (ha : a = a') (hb : b = b')
    (hc : c = c') (hd : d = d') (he : e = e') : f a b c d e = f a' b' c' d' e' := by subst ha; subst hb; subst hc; subst hd; subst he; rfl

end Cert.Adam

end
-- ==== Proof.AdamQkv.lean ====
/- The optimiser's step on the attention's first weight: every entry of the four results is the same function of the entries of the partial
   gradients, the weight and the moments on both sides. -/
module

public import proofs.«01_k».proof.Defs
public import proofs.«01_k».proof.Proof.Adam
public import proofs.«01_k».proof.Proof.Gen.AdamQkv
public import proofs.«01_k».proof.Proof.Gen.AdamQkvIdeal
public import proofs.«01_k».proof.Proof.Gen.AdamQkvIdeal.Value
public import proofs.«01_k».proof.Proof.Gen.AdamQkvReferenceIdeal
public import proofs.«01_k».proof.Proof.Gen.AdamQkvReferenceIdeal.Run
public import proofs.«01_k».proof.Proof.Gen.AdamQkvReferenceIdeal.Read
public import Idealize.ShloMosaic.Lib.Pipeline.ValueKit

@[expose] public section

set_option maxRecDepth 16384
set_option maxHeartbeats 400000

noncomputable section

namespace Cert.AdamQkvIdeal.Tiles

open Cert.AdamQkvIdeal.Gen
open Idealize.ShloMosaic Idealize.ShloMosaic.TcCoe Idealize.ShloMosaic.Tactic
open Cert.Prod Cert.Adam

variable (m : (ℓ : Loc nD τ sig) → Buf (Elt Ideal) ℓ) (c : Dev nD)

/-- The entry of a block of the partial gradients in the place of an entry of the weight's block. -/
abbrev up (y : S1x256x768.Idx) : S1x1x256x768.Idx := ValueIdx.ix4 0 0 (y 1) (y 2)

section pays
variable (P0 P1 P2 P3 : FVec Ideal S1x1x256x768 .bf16) (W P Q : FVec Ideal S1x256x768 .f32) (y : S1x256x768.Idx)

/-- The four partial gradients of one entry, added. -/
abbrev four : EReal := P0 (up y) + P1 (up y) + P2 (up y) + P3 (up y)

theorem pay_sum : (k0_pay2 (F := Ideal) (k0_pay6 P0 P1 P2 P3) y : EReal) = four P0 P1 P2 P3 y := by
  simp only [k0_pay2, k0_pay6, pointwise]
  rfl

theorem pay_first : (k0_pay4 (F := Ideal) (k0_pay8 P0 P1 P2 P3 P) y : EReal) = first (four P0 P1 P2 P3 y) (P y) := by
  simp only [k0_pay4, k0_pay8, k0_pay6, pointwise]
  rfl

theorem pay_second : (k0_pay5 (F := Ideal) (k0_pay9 Q) (k0_pay10 P0 P1 P2 P3) (k 0x3A83126F#32) y : EReal) = second (four P0 P1 P2 P3 y) (Q y) := by
  simp only [k0_pay5, k0_pay1, k0_pay9, k0_pay10, k0_pay6, pointwise]
  rfl

theorem pay_change : (k0_pay3 (F := Ideal) (k0_pay7 W) (k0_pay8 P0 P1 P2 P3 P) (k0_pay9 Q) (k0_pay10 P0 P1 P2 P3) (k 0x3A83126F#32) y : EReal)
    = change (W y) (four P0 P1 P2 P3 y) (P y) (Q y) := by
  simp only [k0_pay3, k0_pay1, k0_pay7, k0_pay8, k0_pay9, k0_pay10, k0_pay6, pointwise]
  rfl
end pays

theorem e0 : ∀ t : Fin cfg0.N, win0_0.index t = ![0, 0, t.val, 0] := (by decide +kernel : ∀ t : Fin grid0.N, _)
theorem e1 : ∀ t : Fin cfg0.N, win0_1.index t = ![1, 0, t.val, 0] := (by decide +kernel : ∀ t : Fin grid0.N, _)
theorem e2 : ∀ t : Fin cfg0.N, win0_2.index t = ![2, 0, t.val, 0] := (by decide +kernel : ∀ t : Fin grid0.N, _)
theorem e3 : ∀ t : Fin cfg0.N, win0_3.index t = ![3, 0, t.val, 0] := (by decide +kernel : ∀ t : Fin grid0.N, _)
theorem e4 : ∀ t : Fin cfg0.N, win0_4.index t = ![0, t.val, 0] := (by decide +kernel : ∀ t : Fin grid0.N, _)
theorem e5 : ∀ t : Fin cfg0.N, win0_5.index t = ![0, t.val, 0] := (by decide +kernel : ∀ t : Fin grid0.N, _)
theorem e6 : ∀ t : Fin cfg0.N, win0_6.index t = ![0, t.val, 0] := (by decide +kernel : ∀ t : Fin grid0.N, _)
theorem e7 : ∀ t : Fin cfg0.N, win0_7.index t = ![0, t.val, 0] := (by decide +kernel : ∀ t : Fin grid0.N, _)
theorem e8 : ∀ t : Fin cfg0.N, win0_8.index t = ![0, t.val, 0] := (by decide +kernel : ∀ t : Fin grid0.N, _)
theorem e9 : ∀ t : Fin cfg0.N, win0_9.index t = ![0, t.val, 0] := (by decide +kernel : ∀ t : Fin grid0.N, _)
theorem e10 : ∀ t : Fin cfg0.N, win0_10.index t = ![0, t.val, 0] := (by decide +kernel : ∀ t : Fin grid0.N, _)

/-- The entry of a whole array in the place of entry `y` of block `t`. -/
abbrev place (t : Fin cfg0.N) (y : S1x256x768.Idx) : S1x2048x768.Idx := fun a => match a with
  | ⟨0, _⟩ => ⟨0, by show 0 < 1; omega⟩
  | ⟨1, _⟩ => ⟨256 * t.val + (y 1).val, by
      have h := t.isLt
      have h' : (y 1).val < 256 := (y 1).isLt
      have : cfg0.N = 8 := by decide
      show 256 * t.val + (y 1).val < 2048; omega⟩
  | ⟨2, _⟩ => ⟨(y 2).val, (y 2).isLt⟩

/-- The entry of part `p` of the gradient that belongs to entry `i` of the weight. -/
abbrev part (i : S1x2048x768.Idx) (p : Fin 4) : S4x1x2048x768.Idx := ValueIdx.ix4 p 0 (i 1) (i 2)

theorem places (t : Fin cfg0.N) (y : S1x256x768.Idx) :
    (win0_4.blk t).view.emb y = place t y
      ∧ (win0_5.blk t).view.emb y = place t y
      ∧ (win0_6.blk t).view.emb y = place t y
      ∧ (win0_7.blk t).view.emb y = place t y
      ∧ (win0_8.blk t).view.emb y = place t y
      ∧ (win0_9.blk t).view.emb y = place t y
      ∧ (win0_10.blk t).view.emb y = place t y := by
  have hz : (y 0).val = 0 := Nat.lt_one_iff.mp (y 0).isLt
  refine ⟨?_, ?_, ?_, ?_, ?_, ?_, ?_⟩
  all_goals
    refine ext3 (Eq.trans ?_ (show 0 = (place t y 0).val from rfl)) (Eq.trans ?_ (show 256 * t.val + (y 1).val = (place t y 1).val from rfl))
      (Eq.trans ?_ (show (y 2).val = (place t y 2).val from rfl))
    · blk_simp [e4, e5, e6, e7, e8, e9, e10]; try omega
    · blk_simp [e4, e5, e6, e7, e8, e9, e10]; try omega
    · blk_simp [e4, e5, e6, e7, e8, e9, e10]; try omega

theorem parts (t : Fin cfg0.N) (y : S1x256x768.Idx) :
    (win0_0.blk t).view.emb (up y) = part (place t y) 0
      ∧ (win0_1.blk t).view.emb (up y) = part (place t y) 1
      ∧ (win0_2.blk t).view.emb (up y) = part (place t y) 2
      ∧ (win0_3.blk t).view.emb (up y) = part (place t y) 3 := by
  refine ⟨?_, ?_, ?_, ?_⟩
  all_goals
    refine ext4 ?_ (Eq.trans ?_ (show 0 = (part (place t y) 0 1).val from rfl)) (Eq.trans ?_ (show 256 * t.val + (y 1).val = (place t y 1).val from rfl))
      (Eq.trans ?_ (show (y 2).val = (place t y 2).val from rfl))
    · blk_simp [e0, e1, e2, e3]; try rfl
    · blk_simp [e0, e1, e2, e3]; try rfl
    · blk_simp [e0, e1, e2, e3]; first | done | rfl | exact congrArg (· + (y 1).val) (Nat.mul_comm _ _)
    · blk_simp [e0, e1, e2, e3]; try rfl

section left
variable (t : Fin cfg0.N) (x0 x1 x2 x3 : Vec Ideal S1x1x256x768 .bf16) (x4 x5 x6 : Vec Ideal S1x256x768 .f32)

theorem left7 : out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay2 (k0_pay6 x0 x1 x2 x3) := by
  unfold out0_A_7
  rw [View.read_writes_eq_canon _ _ _ (fun y => cover0_A_7 _ _ _ _ _ _ _ _ _ _ _ _ _ _ _ _ _ _ _ _ _ _ _ _ _ _ _ _ _ _ _ y)]
  unfold kernelRun0_A
  refine (View.canon_cons_unit_lit _ _ _ (by decide)).trans ?_
  exact congrArg k0_pay2 (cong4 k0_pay6 (load_whole _ x0 _ (by decide)) (load_whole _ x1 _ (by decide)) (load_whole _ x2 _ (by decide)) (load_whole _ x3 _ (by decide)))

theorem left8 : out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay3 (k0_pay7 x4) (k0_pay8 x0 x1 x2 x3 x5) (k0_pay9 x6) (k0_pay10 x0 x1 x2 x3) (k 0x3A83126F#32) := by
  unfold out0_A_8
  rw [View.read_writes_eq_canon _ _ _ (fun y => cover0_A_8 _ _ _ _ _ _ _ _ _ _ _ _ _ _ _ _ _ _ _ _ _ _ _ _ _ _ _ _ _ _ _ y)]
  unfold kernelRun0_A
  refine (View.canon_cons_unit_lit _ _ _ (by decide)).trans ?_
  exact cong5 k0_pay3 (congrArg k0_pay7 (load_whole _ x4 _ (by decide))) (cong5 k0_pay8 (load_whole _ x0 _ (by decide)) (load_whole _ x1 _ (by decide)) (load_whole _ x2 _ (by decide)) (load_whole _ x3 _ (by decide)) (load_whole _ x5 _ (by decide))) (congrArg k0_pay9 (load_whole _ x6 _ (by decide))) (cong4 k0_pay10 (load_whole _ x0 _ (by decide)) (load_whole _ x1 _ (by decide)) (load_whole _ x2 _ (by decide)) (load_whole _ x3 _ (by decide))) rfl

theorem left9 : out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay4 (k0_pay8 x0 x1 x2 x3 x5) := by
  unfold out0_A_9
  rw [View.read_writes_eq_canon _ _ _ (fun y => cover0_A_9 _ _ _ _ _ _ _ _ _ _ _ _ _ _ _ _ _ _ _ _ _ _ _ _ _ _ _ _ _ _ _ y)]
  unfold kernelRun0_A
  refine (View.canon_cons_unit_lit _ _ _ (by decide)).trans ?_
  exact congrArg k0_pay4 (cong5 k0_pay8 (load_whole _ x0 _ (by decide)) (load_whole _ x1 _ (by decide)) (load_whole _ x2 _ (by decide)) (load_whole _ x3 _ (by decide)) (load_whole _ x5 _ (by decide)))

theorem left10 : out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay5 (k0_pay9 x6) (k0_pay10 x0 x1 x2 x3) (k 0x3A83126F#32) := by
  unfold out0_A_10
  rw [View.read_writes_eq_canon _ _ _ (fun y => cover0_A_10 _ _ _ _ _ _ _ _ _ _ _ _ _ _ _ _ _ _ _ _ _ _ _ _ _ _ _ _ _ _ _ y)]
  unfold kernelRun0_A
  refine (View.canon_cons_unit_lit _ _ _ (by decide)).trans ?_
  exact cong3 k0_pay5 (congrArg k0_pay9 (load_whole _ x6 _ (by decide))) (cong4 k0_pay10 (load_whole _ x0 _ (by decide)) (load_whole _ x1 _ (by decide)) (load_whole _ x2 _ (by decide)) (load_whole _ x3 _ (by decide))) rfl

end left

section blocks
variable (t : Fin cfg0.N) (y : S1x256x768.Idx)

/-- The four arrays the kernel reads, by their names in the program. -/
abbrev partials : FVec Ideal S4x1x2048x768 .bf16 := m ((c.tc : Thread nD τ).loc main_arg0)
abbrev weight : FVec Ideal S1x2048x768 .f32 := m ((c.tc : Thread nD τ).loc main_arg1)
abbrev moment : FVec Ideal S1x2048x768 .f32 := m ((c.tc : Thread nD τ).loc main_arg2)
abbrev square : FVec Ideal S1x2048x768 .f32 := m ((c.tc : Thread nD τ).loc main_arg3)

/-- The gradient of one entry: the sum of its four parts. -/
def grad (X : FVec Ideal S4x1x2048x768 .bf16) (i : S1x2048x768.Idx) : EReal := ∑ p : Fin 4, X (part i p)

theorem block_grad : four (iblk m c 0 t) (iblk m c 1 t) (iblk m c 2 t) (iblk m c 3 t) y = grad (partials m c) (place t y) := by
  obtain ⟨h0, h1, h2, h3⟩ := parts t y
  refine Eq.trans ?_ (Fin.sum_univ_four _).symm
  rw [← h0, ← h1, ← h2, ← h3]
  rfl

theorem block_weight : (iblk m c 4 t : FVec Ideal S1x256x768 .f32) y = weight m c (place t y) := congrArg (weight m c) (places t y).1
theorem block_moment : (iblk m c 5 t : FVec Ideal S1x256x768 .f32) y = moment m c (place t y) := congrArg (moment m c) (places t y).2.1
theorem block_square : (iblk m c 6 t : FVec Ideal S1x256x768 .f32) y = square m c (place t y) := congrArg (square m c) (places t y).2.2.1

/-- What point `t` leaves in output 0. -/
theorem point_grad : (outsAt0 m c t).1 = k0_pay2 (k0_pay6 (iblk m c 0 t) (iblk m c 1 t) (iblk m c 2 t) (iblk m c 3 t)) := by
  unfold outsAt0
  dsimp only
  exact left7 c t (iblk m c 0 t) (iblk m c 1 t) (iblk m c 2 t) (iblk m c 3 t) (iblk m c 4 t) (iblk m c 5 t) (iblk m c 6 t)

theorem tile_grad : k0_pay2 (k0_pay6 (iblk m c 0 t) (iblk m c 1 t) (iblk m c 2 t) (iblk m c 3 t))
    = (fun y => grad (partials m c) (place t y) : FVec Ideal S1x256x768 .f32) := by
  funext y
  exact (pay_sum _ _ _ _ y).trans ((block_grad m c t y))

theorem arr_grad : (dats m 0 c).arrAt 7 cfg0.N = (fun i => grad (partials m c) i : FVec Ideal S1x2048x768 .f32) := by
  refine (dats m 0 c).arrAt_eq_of_covers 7 _ (by decide +kernel) fun t hf y => ?_
  refine (congrFun ((after0_7 m c t).trans ((point_grad m c t).trans (tile_grad m c t))) y).trans ?_
  have hp : (win0_7.blk t).view.emb y = place t y := (places t y).2.2.2.1
  show _ = (fun i => grad (partials m c) i : FVec Ideal S1x2048x768 .f32) ((win0_7.blk t).view.emb y)
  rw [hp]

/-- What point `t` leaves in output 1. -/
theorem point_change : (outsAt0 m c t).2.1 = k0_pay3 (k0_pay7 (iblk m c 4 t)) (k0_pay8 (iblk m c 0 t) (iblk m c 1 t) (iblk m c 2 t) (iblk m c 3 t) (iblk m c 5 t)) (k0_pay9 (iblk m c 6 t)) (k0_pay10 (iblk m c 0 t) (iblk m c 1 t) (iblk m c 2 t) (iblk m c 3 t)) (k 0x3A83126F#32) := by
  unfold outsAt0
  dsimp only
  exact left8 c t (iblk m c 0 t) (iblk m c 1 t) (iblk m c 2 t) (iblk m c 3 t) (iblk m c 4 t) (iblk m c 5 t) (iblk m c 6 t)

theorem tile_change : k0_pay3 (k0_pay7 (iblk m c 4 t)) (k0_pay8 (iblk m c 0 t) (iblk m c 1 t) (iblk m c 2 t) (iblk m c 3 t) (iblk m c 5 t)) (k0_pay9 (iblk m c 6 t)) (k0_pay10 (iblk m c 0 t) (iblk m c 1 t) (iblk m c 2 t) (iblk m c 3 t)) (k 0x3A83126F#32)
    = (fun y => change (weight m c (place t y)) (grad (partials m c) (place t y)) (moment m c (place t y)) (square m c (place t y)) : FVec Ideal S1x256x768 .f32) := by
  funext y
  exact (pay_change _ _ _ _ _ _ _ y).trans (cong4 change (block_weight m c t y) (block_grad m c t y) (block_moment m c t y) (block_square m c t y))

theorem arr_change : (dats m 0 c).arrAt 8 cfg0.N = (fun i => change (weight m c i) (grad (partials m c) i) (moment m c i) (square m c i) : FVec Ideal S1x2048x768 .f32) := by
  refine (dats m 0 c).arrAt_eq_of_covers 8 _ (by decide +kernel) fun t hf y => ?_
  refine (congrFun ((after0_8 m c t).trans ((point_change m c t).trans (tile_change m c t))) y).trans ?_
  have hp : (win0_8.blk t).view.emb y = place t y := (places t y).2.2.2.2.1
  show _ = (fun i => change (weight m c i) (grad (partials m c) i) (moment m c i) (square m c i) : FVec Ideal S1x2048x768 .f32) ((win0_8.blk t).view.emb y)
  rw [hp]

/-- What point `t` leaves in output 2. -/
theorem point_first : (outsAt0 m c t).2.2.1 = k0_pay4 (k0_pay8 (iblk m c 0 t) (iblk m c 1 t) (iblk m c 2 t) (iblk m c 3 t) (iblk m c 5 t)) := by
  unfold outsAt0
  dsimp only
  exact left9 c t (iblk m c 0 t) (iblk m c 1 t) (iblk m c 2 t) (iblk m c 3 t) (iblk m c 4 t) (iblk m c 5 t) (iblk m c 6 t)

theorem tile_first : k0_pay4 (k0_pay8 (iblk m c 0 t) (iblk m c 1 t) (iblk m c 2 t) (iblk m c 3 t) (iblk m c 5 t))
    = (fun y => first (grad (partials m c) (place t y)) (moment m c (place t y)) : FVec Ideal S1x256x768 .f32) := by
  funext y
  exact (pay_first _ _ _ _ _ y).trans (congrArg₂ first (block_grad m c t y) (block_moment m c t y))

theorem arr_first : (dats m 0 c).arrAt 9 cfg0.N = (fun i => first (grad (partials m c) i) (moment m c i) : FVec Ideal S1x2048x768 .f32) := by
  refine (dats m 0 c).arrAt_eq_of_covers 9 _ (by decide +kernel) fun t hf y => ?_
  refine (congrFun ((after0_9 m c t).trans ((point_first m c t).trans (tile_first m c t))) y).trans ?_
  have hp : (win0_9.blk t).view.emb y = place t y := (places t y).2.2.2.2.2.1
  show _ = (fun i => first (grad (partials m c) i) (moment m c i) : FVec Ideal S1x2048x768 .f32) ((win0_9.blk t).view.emb y)
  rw [hp]

/-- What point `t` leaves in output 3. -/
theorem point_second : (outsAt0 m c t).2.2.2 = k0_pay5 (k0_pay9 (iblk m c 6 t)) (k0_pay10 (iblk m c 0 t) (iblk m c 1 t) (iblk m c 2 t) (iblk m c 3 t)) (k 0x3A83126F#32) := by
  unfold outsAt0
  dsimp only
  exact left10 c t (iblk m c 0 t) (iblk m c 1 t) (iblk m c 2 t) (iblk m c 3 t) (iblk m c 4 t) (iblk m c 5 t) (iblk m c 6 t)

theorem tile_second : k0_pay5 (k0_pay9 (iblk m c 6 t)) (k0_pay10 (iblk m c 0 t) (iblk m c 1 t) (iblk m c 2 t) (iblk m c 3 t)) (k 0x3A83126F#32)
    = (fun y => second (grad (partials m c) (place t y)) (square m c (place t y)) : FVec Ideal S1x256x768 .f32) := by
  funext y
  exact (pay_second _ _ _ _ _ y).trans (congrArg₂ second (block_grad m c t y) (block_square m c t y))

theorem arr_second : (dats m 0 c).arrAt 10 cfg0.N = (fun i => second (grad (partials m c) i) (square m c i) : FVec Ideal S1x2048x768 .f32) := by
  refine (dats m 0 c).arrAt_eq_of_covers 10 _ (by decide +kernel) fun t hf y => ?_
  refine (congrFun ((after0_10 m c t).trans ((point_second m c t).trans (tile_second m c t))) y).trans ?_
  have hp : (win0_10.blk t).view.emb y = place t y := (places t y).2.2.2.2.2.2
  show _ = (fun i => second (grad (partials m c) i) (square m c i) : FVec Ideal S1x2048x768 .f32) ((win0_10.blk t).view.emb y)
  rw [hp]

end blocks

/-! ### The reference -/

section reference
variable (X : FVec Ideal S4x1x2048x768 .bf16) (W P Q : FVec Ideal S1x2048x768 .f32)

theorem ref_grad : Cert.AdamQkvReferenceIdeal.Read.val_main_v1 (F := Ideal) X = (fun i => grad X i : FVec Ideal S1x2048x768 .f32) := by
  funext i
  rw [Cert.AdamQkvReferenceIdeal.Read.val_main_v1_apply]
  show FloatOps.ofBits (F := Ideal) .f32 0x00000000#32 + _ = _
  rw [ofBits_zero]
  refine (zero_add _).trans (Finset.sum_congr rfl fun p _ => ?_)
  exact congrArg X (ext4 rfl (Nat.lt_one_iff.mp (i 0).isLt) rfl rfl)

theorem ref_first : Cert.AdamQkvReferenceIdeal.Read.val_main_v6 (F := Ideal) X P = (fun i => first (grad X i) (P i) : FVec Ideal S1x2048x768 .f32) :=
  funext fun i => congrArg (fun z : EReal => first z (P i)) (congrFun (ref_grad X) i)

theorem ref_second : Cert.AdamQkvReferenceIdeal.Read.val_main_v12 (F := Ideal) X Q = (fun i => second (grad X i) (Q i) : FVec Ideal S1x2048x768 .f32) :=
  funext fun i => congrArg (fun z : EReal => second z (Q i)) (congrFun (ref_grad X) i)

theorem ref_change : Cert.AdamQkvReferenceIdeal.Read.val_main_v25 (F := Ideal) X W P Q = (fun i => change (W i) (grad X i) (P i) (Q i) : FVec Ideal S1x2048x768 .f32) :=
  funext fun i => congrArg (fun z : EReal => change (W i) z (P i) (Q i)) (congrFun (ref_grad X) i)
end reference

theorem values : Cert.algebraic_AdamQkvIdeal_AdamQkvReferenceIdeal := fun m ρ m' ρ' _ ha => by
  refine ⟨fun c => (dats m 0 c).arrAt 7 cfg0.N, fun c => (dats m 0 c).arrAt 8 cfg0.N, fun c => (dats m 0 c).arrAt 9 cfg0.N,
    fun c => (dats m 0 c).arrAt 10 cfg0.N, Cert.AdamQkvIdeal.Value.run_blocks m ρ, ?_⟩
  refine (θ_run Cert.AdamQkvReferenceIdeal.defs _ _).mono
    (fun _ h c => ⟨(h c).1.trans ?_, (h c).2.1.trans ?_, (h c).2.2.1.trans ?_, (h c).2.2.2.1.trans ?_, (h c).2.2.2.2⟩)
    (Cert.AdamQkvReferenceIdeal.Value.run (F := Ideal) m' ρ')
  all_goals obtain ⟨h0, h1, h2, h3, -⟩ := ha c
  · exact (congrArg (Cert.AdamQkvReferenceIdeal.Read.val_main_v1 (F := Ideal)) h0).trans ((ref_grad _).trans (arr_grad m c).symm)
  · exact (cong4 (Cert.AdamQkvReferenceIdeal.Read.val_main_v25 (F := Ideal)) h0 h1 h2 h3).trans ((ref_change _ _ _ _).trans (arr_change m c).symm)
  · exact (congrArg₂ (Cert.AdamQkvReferenceIdeal.Read.val_main_v6 (F := Ideal)) h0 h2).trans ((ref_first _ _).trans (arr_first m c).symm)
  · exact (congrArg₂ (Cert.AdamQkvReferenceIdeal.Read.val_main_v12 (F := Ideal)) h0 h3).trans ((ref_second _ _).trans (arr_second m c).symm)

theorem frame_ideal : Cert.quiescent_AdamQkvIdeal := fun m ρ _ => Cert.AdamQkvIdeal.Gen.frame m ρ

theorem frame_reference : Cert.quiescent_AdamQkvReferenceIdeal := fun m ρ _ =>
  (θ_run Cert.AdamQkvReferenceIdeal.defs _ _).mono (fun r h => ⟨fun c => (h c).2.2.2.2, sem_eq_zero_of_no_sems (by decide) r.2⟩)
    (Cert.AdamQkvReferenceIdeal.Value.run (F := Ideal) m ρ)

theorem body_same {F : FTy → Type} [FloatOps F] : Cert.AdamQkvIdeal.cc0_adam_big (F := F) = Cert.AdamQkv.cc0_adam_big (F := F) := rfl

theorem bodies_same {F : FTy → Type} [FloatOps F] : Cert.AdamQkvIdeal.defs₀ (F := F) = Cert.AdamQkv.defs₀ (F := F) := by
  refine congrArg (Defs.onTc (nD := Cert.AdamQkv.nD) (τ := Cert.AdamQkv.τ)) (funext fun l => funext fun a => ?_)
  match l, a with
  | 0, (t, s) => dsimp only; rw [body_same]; rfl

theorem defs_same {F : FTy → Type} [FloatOps F] : Cert.AdamQkvIdeal.defs (F := F) = Cert.AdamQkv.defs (F := F) :=
  congrArg (Pipeline.defs (Cert.AdamQkv.pcfgs (F := F))) bodies_same

theorem frame_kernel : Cert.quiescent_AdamQkv := fun m ρ _ => by
  rw [← defs_same]
  exact Cert.AdamQkvIdeal.Gen.frame (F := Bits) m ρ

end Cert.AdamQkvIdeal.Tiles

end
-- ==== Proof.AdamSmall.lean ====
/- The optimiser's step on the packed small parameters: the kernel and the reference do the same to every entry. -/
module

public import proofs.«01_k».proof.Defs
public import proofs.«01_k».proof.Proof.Gen.AdamSmall
public import proofs.«01_k».proof.Proof.Gen.AdamSmallIdeal
public import proofs.«01_k».proof.Proof.Gen.AdamSmallIdeal.Value
public import proofs.«01_k».proof.Proof.Gen.AdamSmallReferenceIdeal
public import proofs.«01_k».proof.Proof.Gen.AdamSmallReferenceIdeal.Run
public import proofs.«01_k».proof.Proof.Gen.AdamSmallReferenceIdeal.Read

@[expose] public section

set_option maxHeartbeats 400000

noncomputable section

namespace Cert.AdamSmallIdeal.Tiles

open Cert.AdamSmallIdeal.Gen
open Idealize.ShloMosaic Idealize.ShloMosaic.TcCoe Idealize.ShloMosaic.StableHlo
open Cert.AdamSmallIdeal (S592x128)

/-- The change of a parameter: weight `w`, gradient `g`, moments `p` and `q`. -/
theorem delta (w g p q : FVec Ideal S592x128 .f32) :
    Cert.AdamSmallReferenceIdeal.Read.val_main_v23 (F := Ideal) w g p q = Cert.AdamSmallIdeal.Value.G4 w g p q := funext fun _ => rfl

theorem first (g p : FVec Ideal S592x128 .f32) :
    Cert.AdamSmallReferenceIdeal.Read.val_main_v4 (F := Ideal) g p = Cert.AdamSmallIdeal.Value.G5 g p := funext fun _ => rfl

theorem second (g q : FVec Ideal S592x128 .f32) :
    Cert.AdamSmallReferenceIdeal.Read.val_main_v10 (F := Ideal) g q = Cert.AdamSmallIdeal.Value.G6 g q := funext fun _ => rfl

theorem values : Cert.algebraic_AdamSmallIdeal_AdamSmallReferenceIdeal := fun m ρ m' ρ' _ ha => by
  refine ⟨_, _, _, Cert.AdamSmallIdeal.Value.run m ρ, ?_⟩
  refine (θ_run Cert.AdamSmallReferenceIdeal.defs _ _).mono (fun _ h c => ?_) (Cert.AdamSmallReferenceIdeal.Value.run (F := Ideal) m' ρ')
  obtain ⟨ha0, ha1, ha2, ha3⟩ := ha c
  obtain ⟨h0, h1, h2, h⟩ := h c
  refine ⟨h0.trans ?_, h1.trans ?_, h2.trans ?_, h⟩
  · rw [ha0, ha1, ha2, ha3]; exact delta _ _ _ _
  · rw [ha1, ha2]; exact first _ _
  · rw [ha1, ha3]; exact second _ _

theorem frame_ideal : Cert.quiescent_AdamSmallIdeal := fun m ρ _ => Cert.AdamSmallIdeal.Gen.frame m ρ

theorem frame_reference : Cert.quiescent_AdamSmallReferenceIdeal := fun m ρ _ =>
  (θ_run Cert.AdamSmallReferenceIdeal.defs _ _).mono (fun r h => ⟨fun c => (h c).2.2.2, sem_eq_zero_of_no_sems (by decide) r.2⟩)
    (Cert.AdamSmallReferenceIdeal.Value.run (F := Ideal) m ρ)

theorem body_same {F : FTy → Type} [FloatOps F] : Cert.AdamSmallIdeal.cc0_adam_small (F := F) = Cert.AdamSmall.cc0_adam_small (F := F) := rfl

theorem bodies_same {F : FTy → Type} [FloatOps F] : Cert.AdamSmallIdeal.defs₀ (F := F) = Cert.AdamSmall.defs₀ (F := F) := by
  refine congrArg (Defs.onTc (nD := Cert.AdamSmall.nD) (τ := Cert.AdamSmall.τ)) (funext fun l => funext fun a => ?_)
  match l, a with
  | 0, (t, s) => dsimp only; rw [body_same]

theorem defs_same {F : FTy → Type} [FloatOps F] : Cert.AdamSmallIdeal.defs (F := F) = Cert.AdamSmall.defs (F := F) :=
  congrArg (Pipeline.defs (Cert.AdamSmall.pcfgs (F := F))) bodies_same

theorem frame_kernel : Cert.quiescent_AdamSmall := fun m ρ _ => by
  rw [← defs_same]
  exact Cert.AdamSmallIdeal.Gen.frame (F := Bits) m ρ

end Cert.AdamSmallIdeal.Tiles

end
-- ==== Proof.AdamSbOut.lean ====
/- The optimiser's step on the attention's second weight: every entry of the four results is the same function of the entries of the partial
   gradients, the weight and the moments on both sides. -/
module

public import proofs.«01_k».proof.Defs
public import proofs.«01_k».proof.Proof.Adam
public import proofs.«01_k».proof.Proof.Gen.AdamSbOut
public import proofs.«01_k».proof.Proof.Gen.AdamSbOutIdeal
public import proofs.«01_k».proof.Proof.Gen.AdamSbOutIdeal.Value
public import proofs.«01_k».proof.Proof.Gen.AdamSbOutReferenceIdeal
public import proofs.«01_k».proof.Proof.Gen.AdamSbOutReferenceIdeal.Run
public import proofs.«01_k».proof.Proof.Gen.AdamSbOutReferenceIdeal.Read
public import Idealize.ShloMosaic.Lib.Pipeline.ValueKit

@[expose] public section

set_option maxRecDepth 16384
set_option maxHeartbeats 400000

noncomputable section

namespace Cert.AdamSbOutIdeal.Tiles

open Cert.AdamSbOutIdeal.Gen
open Idealize.ShloMosaic Idealize.ShloMosaic.TcCoe Idealize.ShloMosaic.Tactic
open Cert.Prod Cert.Adam

variable (m : (ℓ : Loc nD τ sig) → Buf (Elt Ideal) ℓ) (c : Dev nD)

/-- The entry of a block of the partial gradients in the place of an entry of the weight's block. -/
abbrev up (y : S1x128x2048.Idx) : S1x1x128x2048.Idx := ValueIdx.ix4 0 0 (y 1) (y 2)

section pays
variable (P0 P1 P2 P3 : FVec Ideal S1x1x128x2048 .bf16) (W P Q : FVec Ideal S1x128x2048 .f32) (y : S1x128x2048.Idx)

/-- The four partial gradients of one entry, added. -/
abbrev four : EReal := P0 (up y) + P1 (up y) + P2 (up y) + P3 (up y)

theorem pay_sum : (k0_pay2 (F := Ideal) (k0_pay6 P0 P1 P2 P3) y : EReal) = four P0 P1 P2 P3 y := by
  simp only [k0_pay2, k0_pay6, pointwise]
  rfl

theorem pay_first : (k0_pay4 (F := Ideal) (k0_pay8 P0 P1 P2 P3 P) y : EReal) = first (four P0 P1 P2 P3 y) (P y) := by
  simp only [k0_pay4, k0_pay8, k0_pay6, pointwise]
  rfl

theorem pay_second : (k0_pay5 (F := Ideal) (k0_pay9 Q) (k0_pay10 P0 P1 P2 P3) (k 0x3A83126F#32) y : EReal) = second (four P0 P1 P2 P3 y) (Q y) := by
  simp only [k0_pay5, k0_pay1, k0_pay9, k0_pay10, k0_pay6, pointwise]
  rfl

theorem pay_change : (k0_pay3 (F := Ideal) (k0_pay7 W) (k0_pay8 P0 P1 P2 P3 P) (k0_pay9 Q) (k0_pay10 P0 P1 P2 P3) (k 0x3A83126F#32) y : EReal)
    = change (W y) (four P0 P1 P2 P3 y) (P y) (Q y) := by
  simp only [k0_pay3, k0_pay1, k0_pay7, k0_pay8, k0_pay9, k0_pay10, k0_pay6, pointwise]
  rfl
end pays

theorem e0 : ∀ t : Fin cfg0.N, win0_0.index t = ![0, 0, t.val, 0] := (by decide +kernel : ∀ t : Fin grid0.N, _)
theorem e1 : ∀ t : Fin cfg0.N, win0_1.index t = ![1, 0, t.val, 0] := (by decide +kernel : ∀ t : Fin grid0.N, _)
theorem e2 : ∀ t : Fin cfg0.N, win0_2.index t = ![2, 0, t.val, 0] := (by decide +kernel : ∀ t : Fin grid0.N, _)
theorem e3 : ∀ t : Fin cfg0.N, win0_3.index t = ![3, 0, t.val, 0] := (by decide +kernel : ∀ t : Fin grid0.N, _)
theorem e4 : ∀ t : Fin cfg0.N, win0_4.index t = ![0, t.val, 0] := (by decide +kernel : ∀ t : Fin grid0.N, _)
theorem e5 : ∀ t : Fin cfg0.N, win0_5.index t = ![0, t.val, 0] := (by decide +kernel : ∀ t : Fin grid0.N, _)
theorem e6 : ∀ t : Fin cfg0.N, win0_6.index t = ![0, t.val, 0] := (by decide +kernel : ∀ t : Fin grid0.N, _)
theorem e7 : ∀ t : Fin cfg0.N, win0_7.index t = ![0, t.val, 0] := (by decide +kernel : ∀ t : Fin grid0.N, _)
theorem e8 : ∀ t : Fin cfg0.N, win0_8.index t = ![0, t.val, 0] := (by decide +kernel : ∀ t : Fin grid0.N, _)
theorem e9 : ∀ t : Fin cfg0.N, win0_9.index t = ![0, t.val, 0] := (by decide +kernel : ∀ t : Fin grid0.N, _)
theorem e10 : ∀ t : Fin cfg0.N, win0_10.index t = ![0, t.val, 0] := (by decide +kernel : ∀ t : Fin grid0.N, _)

/-- The entry of a whole array in the place of entry `y` of block `t`. -/
abbrev place (t : Fin cfg0.N) (y : S1x128x2048.Idx) : S1x256x2048.Idx := fun a => match a with
  | ⟨0, _⟩ => ⟨0, by show 0 < 1; omega⟩
  | ⟨1, _⟩ => ⟨128 * t.val + (y 1).val, by
      have h := t.isLt
      have h' : (y 1).val < 128 := (y 1).isLt
      have : cfg0.N = 2 := by decide
      show 128 * t.val + (y 1).val < 256; omega⟩
  | ⟨2, _⟩ => ⟨(y 2).val, (y 2).isLt⟩

/-- The entry of part `p` of the gradient that belongs to entry `i` of the weight. -/
abbrev part (i : S1x256x2048.Idx) (p : Fin 4) : S4x1x256x2048.Idx := ValueIdx.ix4 p 0 (i 1) (i 2)

theorem places (t : Fin cfg0.N) (y : S1x128x2048.Idx) :
    (win0_4.blk t).view.emb y = place t y
      ∧ (win0_5.blk t).view.emb y = place t y
      ∧ (win0_6.blk t).view.emb y = place t y
      ∧ (win0_7.blk t).view.emb y = place t y
      ∧ (win0_8.blk t).view.emb y = place t y
      ∧ (win0_9.blk t).view.emb y = place t y
      ∧ (win0_10.blk t).view.emb y = place t y := by
  have hz : (y 0).val = 0 := Nat.lt_one_iff.mp (y 0).isLt
  refine ⟨?_, ?_, ?_, ?_, ?_, ?_, ?_⟩
  all_goals
    refine ext3 (Eq.trans ?_ (show 0 = (place t y 0).val from rfl)) (Eq.trans ?_ (show 128 * t.val + (y 1).val = (place t y 1).val from rfl))
      (Eq.trans ?_ (show (y 2).val = (place t y 2).val from rfl))
    · blk_simp [e4, e5, e6, e7, e8, e9, e10]; try omega
    · blk_simp [e4, e5, e6, e7, e8, e9, e10]; try omega
    · blk_simp [e4, e5, e6, e7, e8, e9, e10]; try omega

theorem parts (t : Fin cfg0.N) (y : S1x128x2048.Idx) :
    (win0_0.blk t).view.emb (up y) = part (place t y) 0
      ∧ (win0_1.blk t).view.emb (up y) = part (place t y) 1
      ∧ (win0_2.blk t).view.emb (up y) = part (place t y) 2
      ∧ (win0_3.blk t).view.emb (up y) = part (place t y) 3 := by
  refine ⟨?_, ?_, ?_, ?_⟩
  all_goals
    refine ext4 ?_ (Eq.trans ?_ (show 0 = (part (place t y) 0 1).val from rfl)) (Eq.trans ?_ (show 128 * t.val + (y 1).val = (place t y 1).val from rfl))
      (Eq.trans ?_ (show (y 2).val = (place t y 2).val from rfl))
    · blk_simp [e0, e1, e2, e3]; try rfl
    · blk_simp [e0, e1, e2, e3]; try rfl
    · blk_simp [e0, e1, e2, e3]; first | done | rfl | exact congrArg (· + (y 1).val) (Nat.mul_comm _ _)
    · blk_simp [e0, e1, e2, e3]; try rfl

section left
variable (t : Fin cfg0.N) (x0 x1 x2 x3 : Vec Ideal S1x1x128x2048 .bf16) (x4 x5 x6 : Vec Ideal S1x128x2048 .f32)

theorem left7 : out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay2 (k0_pay6 x0 x1 x2 x3) := by
  unfold out0_A_7
  rw [View.read_writes_eq_canon _ _ _ (fun y => cover0_A_7 _ _ _ _ _ _ _ _ _ _ _ _ _ _ _ _ _ _ _ _ _ _ _ _ _ _ _ _ _ _ _ y)]
  unfold kernelRun0_A
  refine (View.canon_cons_unit_lit _ _ _ (by decide)).trans ?_
  exact congrArg k0_pay2 (cong4 k0_pay6 (load_whole _ x0 _ (by decide)) (load_whole _ x1 _ (by decide)) (load_whole _ x2 _ (by decide)) (load_whole _ x3 _ (by decide)))

theorem left8 : out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay3 (k0_pay7 x4) (k0_pay8 x0 x1 x2 x3 x5) (k0_pay9 x6) (k0_pay10 x0 x1 x2 x3) (k 0x3A83126F#32) := by
  unfold out0_A_8
  rw [View.read_writes_eq_canon _ _ _ (fun y => cover0_A_8 _ _ _ _ _ _ _ _ _ _ _ _ _ _ _ _ _ _ _ _ _ _ _ _ _ _ _ _ _ _ _ y)]
  unfold kernelRun0_A
  refine (View.canon_cons_unit_lit _ _ _ (by decide)).trans ?_
  exact cong5 k0_pay3 (congrArg k0_pay7 (load_whole _ x4 _ (by decide))) (cong5 k0_pay8 (load_whole _ x0 _ (by decide)) (load_whole _ x1 _ (by decide)) (load_whole _ x2 _ (by decide)) (load_whole _ x3 _ (by decide)) (load_whole _ x5 _ (by decide))) (congrArg k0_pay9 (load_whole _ x6 _ (by decide))) (cong4 k0_pay10 (load_whole _ x0 _ (by decide)) (load_whole _ x1 _ (by decide)) (load_whole _ x2 _ (by decide)) (load_whole _ x3 _ (by decide))) rfl

theorem left9 : out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay4 (k0_pay8 x0 x1 x2 x3 x5) := by
  unfold out0_A_9
  rw [View.read_writes_eq_canon _ _ _ (fun y => cover0_A_9 _ _ _ _ _ _ _ _ _ _ _ _ _ _ _ _ _ _ _ _ _ _ _ _ _ _ _ _ _ _ _ y)]
  unfold kernelRun0_A
  refine (View.canon_cons_unit_lit _ _ _ (by decide)).trans ?_
  exact congrArg k0_pay4 (cong5 k0_pay8 (load_whole _ x0 _ (by decide)) (load_whole _ x1 _ (by decide)) (load_whole _ x2 _ (by decide)) (load_whole _ x3 _ (by decide)) (load_whole _ x5 _ (by decide)))

theorem left10 : out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay5 (k0_pay9 x6) (k0_pay10 x0 x1 x2 x3) (k 0x3A83126F#32) := by
  unfold out0_A_10
  rw [View.read_writes_eq_canon _ _ _ (fun y => cover0_A_10 _ _ _ _ _ _ _ _ _ _ _ _ _ _ _ _ _ _ _ _ _ _ _ _ _ _ _ _ _ _ _ y)]
  unfold kernelRun0_A
  refine (View.canon_cons_unit_lit _ _ _ (by decide)).trans ?_
  exact cong3 k0_pay5 (congrArg k0_pay9 (load_whole _ x6 _ (by decide))) (cong4 k0_pay10 (load_whole _ x0 _ (by decide)) (load_whole _ x1 _ (by decide)) (load_whole _ x2 _ (by decide)) (load_whole _ x3 _ (by decide))) rfl

end left

section blocks
variable (t : Fin cfg0.N) (y : S1x128x2048.Idx)

/-- The four arrays the kernel reads, by their names in the program. -/
abbrev partials : FVec Ideal S4x1x256x2048 .bf16 := m ((c.tc : Thread nD τ).loc main_arg0)
abbrev weight : FVec Ideal S1x256x2048 .f32 := m ((c.tc : Thread nD τ).loc main_arg1)
abbrev moment : FVec Ideal S1x256x2048 .f32 := m ((c.tc : Thread nD τ).loc main_arg2)
abbrev square : FVec Ideal S1x256x2048 .f32 := m ((c.tc : Thread nD τ).loc main_arg3)

/-- The gradient of one entry: the sum of its four parts. -/
def grad (X : FVec Ideal S4x1x256x2048 .bf16) (i : S1x256x2048.Idx) : EReal := ∑ p : Fin 4, X (part i p)

theorem block_grad : four (iblk m c 0 t) (iblk m c 1 t) (iblk m c 2 t) (iblk m c 3 t) y = grad (partials m c) (place t y) := by
  obtain ⟨h0, h1, h2, h3⟩ := parts t y
  refine Eq.trans ?_ (Fin.sum_univ_four _).symm
  rw [← h0, ← h1, ← h2, ← h3]
  rfl

theorem block_weight : (iblk m c 4 t : FVec Ideal S1x128x2048 .f32) y = weight m c (place t y) := congrArg (weight m c) (places t y).1
theorem block_moment : (iblk m c 5 t : FVec Ideal S1x128x2048 .f32) y = moment m c (place t y) := congrArg (moment m c) (places t y).2.1
theorem block_square : (iblk m c 6 t : FVec Ideal S1x128x2048 .f32) y = square m c (place t y) := congrArg (square m c) (places t y).2.2.1

/-- What point `t` leaves in output 0. -/
theorem point_grad : (outsAt0 m c t).1 = k0_pay2 (k0_pay6 (iblk m c 0 t) (iblk m c 1 t) (iblk m c 2 t) (iblk m c 3 t)) := by
  unfold outsAt0
  dsimp only
  exact left7 c t (iblk m c 0 t) (iblk m c 1 t) (iblk m c 2 t) (iblk m c 3 t) (iblk m c 4 t) (iblk m c 5 t) (iblk m c 6 t)

theorem tile_grad : k0_pay2 (k0_pay6 (iblk m c 0 t) (iblk m c 1 t) (iblk m c 2 t) (iblk m c 3 t))
    = (fun y => grad (partials m c) (place t y) : FVec Ideal S1x128x2048 .f32) := by
  funext y
  exact (pay_sum _ _ _ _ y).trans ((block_grad m c t y))

theorem arr_grad : (dats m 0 c).arrAt 7 cfg0.N = (fun i => grad (partials m c) i : FVec Ideal S1x256x2048 .f32) := by
  refine (dats m 0 c).arrAt_eq_of_covers 7 _ (by decide +kernel) fun t hf y => ?_
  refine (congrFun ((after0_7 m c t).trans ((point_grad m c t).trans (tile_grad m c t))) y).trans ?_
  have hp : (win0_7.blk t).view.emb y = place t y := (places t y).2.2.2.1
  show _ = (fun i => grad (partials m c) i : FVec Ideal S1x256x2048 .f32) ((win0_7.blk t).view.emb y)
  rw [hp]

/-- What point `t` leaves in output 1. -/
theorem point_change : (outsAt0 m c t).2.1 = k0_pay3 (k0_pay7 (iblk m c 4 t)) (k0_pay8 (iblk m c 0 t) (iblk m c 1 t) (iblk m c 2 t) (iblk m c 3 t) (iblk m c 5 t)) (k0_pay9 (iblk m c 6 t)) (k0_pay10 (iblk m c 0 t) (iblk m c 1 t) (iblk m c 2 t) (iblk m c 3 t)) (k 0x3A83126F#32) := by
  unfold outsAt0
  dsimp only
  exact left8 c t (iblk m c 0 t) (iblk m c 1 t) (iblk m c 2 t) (iblk m c 3 t) (iblk m c 4 t) (iblk m c 5 t) (iblk m c 6 t)

theorem tile_change : k0_pay3 (k0_pay7 (iblk m c 4 t)) (k0_pay8 (iblk m c 0 t) (iblk m c 1 t) (iblk m c 2 t) (iblk m c 3 t) (iblk m c 5 t)) (k0_pay9 (iblk m c 6 t)) (k0_pay10 (iblk m c 0 t) (iblk m c 1 t) (iblk m c 2 t) (iblk m c 3 t)) (k 0x3A83126F#32)
    = (fun y => change (weight m c (place t y)) (grad (partials m c) (place t y)) (moment m c (place t y)) (square m c (place t y)) : FVec Ideal S1x128x2048 .f32) := by
  funext y
  exact (pay_change _ _ _ _ _ _ _ y).trans (cong4 change (block_weight m c t y) (block_grad m c t y) (block_moment m c t y) (block_square m c t y))

theorem arr_change : (dats m 0 c).arrAt 8 cfg0.N = (fun i => change (weight m c i) (grad (partials m c) i) (moment m c i) (square m c i) : FVec Ideal S1x256x2048 .f32) := by
  refine (dats m 0 c).arrAt_eq_of_covers 8 _ (by decide +kernel) fun t hf y => ?_
  refine (congrFun ((after0_8 m c t).trans ((point_change m c t).trans (tile_change m c t))) y).trans ?_
  have hp : (win0_8.blk t).view.emb y = place t y := (places t y).2.2.2.2.1
  show _ = (fun i => change (weight m c i) (grad (partials m c) i) (moment m c i) (square m c i) : FVec Ideal S1x256x2048 .f32) ((win0_8.blk t).view.emb y)
  rw [hp]

/-- What point `t` leaves in output 2. -/
theorem point_first : (outsAt0 m c t).2.2.1 = k0_pay4 (k0_pay8 (iblk m c 0 t) (iblk m c 1 t) (iblk m c 2 t) (iblk m c 3 t) (iblk m c 5 t)) := by
  unfold outsAt0
  dsimp only
  exact left9 c t (iblk m c 0 t) (iblk m c 1 t) (iblk m c 2 t) (iblk m c 3 t) (iblk m c 4 t) (iblk m c 5 t) (iblk m c 6 t)

theorem tile_first : k0_pay4 (k0_pay8 (iblk m c 0 t) (iblk m c 1 t) (iblk m c 2 t) (iblk m c 3 t) (iblk m c 5 t))
    = (fun y => first (grad (partials m c) (place t y)) (moment m c (place t y)) : FVec Ideal S1x128x2048 .f32) := by
  funext y
  exact (pay_first _ _ _ _ _ y).trans (congrArg₂ first (block_grad m c t y) (block_moment m c t y))

theorem arr_first : (dats m 0 c).arrAt 9 cfg0.N = (fun i => first (grad (partials m c) i) (moment m c i) : FVec Ideal S1x256x2048 .f32) := by
  refine (dats m 0 c).arrAt_eq_of_covers 9 _ (by decide +kernel) fun t hf y => ?_
  refine (congrFun ((after0_9 m c t).trans ((point_first m c t).trans (tile_first m c t))) y).trans ?_
  have hp : (win0_9.blk t).view.emb y = place t y := (places t y).2.2.2.2.2.1
  show _ = (fun i => first (grad (partials m c) i) (moment m c i) : FVec Ideal S1x256x2048 .f32) ((win0_9.blk t).view.emb y)
  rw [hp]

/-- What point `t` leaves in output 3. -/
theorem point_second : (outsAt0 m c t).2.2.2 = k0_pay5 (k0_pay9 (iblk m c 6 t)) (k0_pay10 (iblk m c 0 t) (iblk m c 1 t) (iblk m c 2 t) (iblk m c 3 t)) (k 0x3A83126F#32) := by
  unfold outsAt0
  dsimp only
  exact left10 c t (iblk m c 0 t) (iblk m c 1 t) (iblk m c 2 t) (iblk m c 3 t) (iblk m c 4 t) (iblk m c 5 t) (iblk m c 6 t)

theorem tile_second : k0_pay5 (k0_pay9 (iblk m c 6 t)) (k0_pay10 (iblk m c 0 t) (iblk m c 1 t) (iblk m c 2 t) (iblk m c 3 t)) (k 0x3A83126F#32)
    = (fun y => second (grad (partials m c) (place t y)) (square m c (place t y)) : FVec Ideal S1x128x2048 .f32) := by
  funext y
  exact (pay_second _ _ _ _ _ y).trans (congrArg₂ second (block_grad m c t y) (block_square m c t y))

theorem arr_second : (dats m 0 c).arrAt 10 cfg0.N = (fun i => second (grad (partials m c) i) (square m c i) : FVec Ideal S1x256x2048 .f32) := by
  refine (dats m 0 c).arrAt_eq_of_covers 10 _ (by decide +kernel) fun t hf y => ?_
  refine (congrFun ((after0_10 m c t).trans ((point_second m c t).trans (tile_second m c t))) y).trans ?_
  have hp : (win0_10.blk t).view.emb y = place t y := (places t y).2.2.2.2.2.2
  show _ = (fun i => second (grad (partials m c) i) (square m c i) : FVec Ideal S1x256x2048 .f32) ((win0_10.blk t).view.emb y)
  rw [hp]

end blocks

/-! ### The reference -/

section reference
variable (X : FVec Ideal S4x1x256x2048 .bf16) (W P Q : FVec Ideal S1x256x2048 .f32)

theorem ref_grad : Cert.AdamSbOutReferenceIdeal.Read.val_main_v1 (F := Ideal) X = (fun i => grad X i : FVec Ideal S1x256x2048 .f32) := by
  funext i
  rw [Cert.AdamSbOutReferenceIdeal.Read.val_main_v1_apply]
  show FloatOps.ofBits (F := Ideal) .f32 0x00000000#32 + _ = _
  rw [ofBits_zero]
  refine (zero_add _).trans (Finset.sum_congr rfl fun p _ => ?_)
  exact congrArg X (ext4 rfl (Nat.lt_one_iff.mp (i 0).isLt) rfl rfl)

theorem ref_first : Cert.AdamSbOutReferenceIdeal.Read.val_main_v6 (F := Ideal) X P = (fun i => first (grad X i) (P i) : FVec Ideal S1x256x2048 .f32) :=
  funext fun i => congrArg (fun z : EReal => first z (P i)) (congrFun (ref_grad X) i)

theorem ref_second : Cert.AdamSbOutReferenceIdeal.Read.val_main_v12 (F := Ideal) X Q = (fun i => second (grad X i) (Q i) : FVec Ideal S1x256x2048 .f32) :=
  funext fun i => congrArg (fun z : EReal => second z (Q i)) (congrFun (ref_grad X) i)

theorem ref_change : Cert.AdamSbOutReferenceIdeal.Read.val_main_v25 (F := Ideal) X W P Q = (fun i => change (W i) (grad X i) (P i) (Q i) : FVec Ideal S1x256x2048 .f32) :=
  funext fun i => congrArg (fun z : EReal => change (W i) z (P i) (Q i)) (congrFun (ref_grad X) i)
end reference

theorem values : Cert.algebraic_AdamSbOutIdeal_AdamSbOutReferenceIdeal := fun m ρ m' ρ' _ ha => by
  refine ⟨fun c => (dats m 0 c).arrAt 7 cfg0.N, fun c => (dats m 0 c).arrAt 8 cfg0.N, fun c => (dats m 0 c).arrAt 9 cfg0.N,
    fun c => (dats m 0 c).arrAt 10 cfg0.N, Cert.AdamSbOutIdeal.Value.run_blocks m ρ, ?_⟩
  refine (θ_run Cert.AdamSbOutReferenceIdeal.defs _ _).mono
    (fun _ h c => ⟨(h c).1.trans ?_, (h c).2.1.trans ?_, (h c).2.2.1.trans ?_, (h c).2.2.2.1.trans ?_, (h c).2.2.2.2⟩)
    (Cert.AdamSbOutReferenceIdeal.Value.run (F := Ideal) m' ρ')
  all_goals obtain ⟨h0, h1, h2, h3, -⟩ := ha c
  · exact (congrArg (Cert.AdamSbOutReferenceIdeal.Read.val_main_v1 (F := Ideal)) h0).trans ((ref_grad _).trans (arr_grad m c).symm)
  · exact (cong4 (Cert.AdamSbOutReferenceIdeal.Read.val_main_v25 (F := Ideal)) h0 h1 h2 h3).trans ((ref_change _ _ _ _).trans (arr_change m c).symm)
  · exact (congrArg₂ (Cert.AdamSbOutReferenceIdeal.Read.val_main_v6 (F := Ideal)) h0 h2).trans ((ref_first _ _).trans (arr_first m c).symm)
  · exact (congrArg₂ (Cert.AdamSbOutReferenceIdeal.Read.val_main_v12 (F := Ideal)) h0 h3).trans ((ref_second _ _).trans (arr_second m c).symm)

theorem frame_ideal : Cert.quiescent_AdamSbOutIdeal := fun m ρ _ => Cert.AdamSbOutIdeal.Gen.frame m ρ

theorem frame_reference : Cert.quiescent_AdamSbOutReferenceIdeal := fun m ρ _ =>
  (θ_run Cert.AdamSbOutReferenceIdeal.defs _ _).mono (fun r h => ⟨fun c => (h c).2.2.2.2, sem_eq_zero_of_no_sems (by decide) r.2⟩)
    (Cert.AdamSbOutReferenceIdeal.Value.run (F := Ideal) m ρ)

theorem body_same {F : FTy → Type} [FloatOps F] : Cert.AdamSbOutIdeal.cc0_adam_big (F := F) = Cert.AdamSbOut.cc0_adam_big (F := F) := rfl

theorem bodies_same {F : FTy → Type} [FloatOps F] : Cert.AdamSbOutIdeal.defs₀ (F := F) = Cert.AdamSbOut.defs₀ (F := F) := by
  refine congrArg (Defs.onTc (nD := Cert.AdamSbOut.nD) (τ := Cert.AdamSbOut.τ)) (funext fun l => funext fun a => ?_)
  match l, a with
  | 0, (t, s) => dsimp only; rw [body_same]; rfl

theorem defs_same {F : FTy → Type} [FloatOps F] : Cert.AdamSbOutIdeal.defs (F := F) = Cert.AdamSbOut.defs (F := F) :=
  congrArg (Pipeline.defs (Cert.AdamSbOut.pcfgs (F := F))) bodies_same

theorem frame_kernel : Cert.quiescent_AdamSbOut := fun m ρ _ => by
  rw [← defs_same]
  exact Cert.AdamSbOutIdeal.Gen.frame (F := Bits) m ρ

end Cert.AdamSbOutIdeal.Tiles

end
-- ==== Proof.AdamPool.lean ====
/- The optimiser's step on the pooling weight: every entry of the four results is the same function of the entries of the partial
   gradients, the weight and the moments on both sides. -/
module

public import proofs.«01_k».proof.Defs
public import proofs.«01_k».proof.Proof.Adam
public import proofs.«01_k».proof.Proof.Gen.AdamPool
public import proofs.«01_k».proof.Proof.Gen.AdamPoolIdeal
public import proofs.«01_k».proof.Proof.Gen.AdamPoolIdeal.Value
public import proofs.«01_k».proof.Proof.Gen.AdamPoolReferenceIdeal
public import proofs.«01_k».proof.Proof.Gen.AdamPoolReferenceIdeal.Run
public import proofs.«01_k».proof.Proof.Gen.AdamPoolReferenceIdeal.Read
public import Idealize.ShloMosaic.Lib.Pipeline.ValueKit

@[expose] public section

set_option maxRecDepth 16384
set_option maxHeartbeats 400000

noncomputable section

namespace Cert.AdamPoolIdeal.Tiles

open Cert.AdamPoolIdeal.Gen
open Idealize.ShloMosaic Idealize.ShloMosaic.TcCoe Idealize.ShloMosaic.Tactic
open Cert.Prod Cert.Adam

variable (m : (ℓ : Loc nD τ sig) → Buf (Elt Ideal) ℓ) (c : Dev nD)

/-- The entry of a block of the partial gradients in the place of an entry of the weight's block. -/
abbrev up (y : S1x64x512.Idx) : S1x1x64x512.Idx := ValueIdx.ix4 0 0 (y 1) (y 2)

section pays
variable (P0 P1 P2 P3 : FVec Ideal S1x1x64x512 .bf16) (W P Q : FVec Ideal S1x64x512 .f32) (y : S1x64x512.Idx)

/-- The four partial gradients of one entry, added. -/
abbrev four : EReal := P0 (up y) + P1 (up y) + P2 (up y) + P3 (up y)

theorem pay_sum : (k0_pay2 (F := Ideal) (k0_pay6 P0 P1 P2 P3) y : EReal) = four P0 P1 P2 P3 y := by
  simp only [k0_pay2, k0_pay6, pointwise]
  rfl

theorem pay_first : (k0_pay4 (F := Ideal) (k0_pay8 P0 P1 P2 P3 P) y : EReal) = first (four P0 P1 P2 P3 y) (P y) := by
  simp only [k0_pay4, k0_pay8, k0_pay6, pointwise]
  rfl

theorem pay_second : (k0_pay5 (F := Ideal) (k0_pay9 Q) (k0_pay10 P0 P1 P2 P3) (k 0x3A83126F#32) y : EReal) = second (four P0 P1 P2 P3 y) (Q y) := by
  simp only [k0_pay5, k0_pay1, k0_pay9, k0_pay10, k0_pay6, pointwise]
  rfl

theorem pay_change : (k0_pay3 (F := Ideal) (k0_pay7 W) (k0_pay8 P0 P1 P2 P3 P) (k0_pay9 Q) (k0_pay10 P0 P1 P2 P3) (k 0x3A83126F#32) y : EReal)
    = change (W y) (four P0 P1 P2 P3 y) (P y) (Q y) := by
  simp only [k0_pay3, k0_pay1, k0_pay7, k0_pay8, k0_pay9, k0_pay10, k0_pay6, pointwise]
  rfl
end pays

theorem e0 : ∀ t : Fin cfg0.N, win0_0.index t = ![0, t.val, 0, 0] := (by decide +kernel : ∀ t : Fin grid0.N, _)
theorem e1 : ∀ t : Fin cfg0.N, win0_1.index t = ![1, t.val, 0, 0] := (by decide +kernel : ∀ t : Fin grid0.N, _)
theorem e2 : ∀ t : Fin cfg0.N, win0_2.index t = ![2, t.val, 0, 0] := (by decide +kernel : ∀ t : Fin grid0.N, _)
theorem e3 : ∀ t : Fin cfg0.N, win0_3.index t = ![3, t.val, 0, 0] := (by decide +kernel : ∀ t : Fin grid0.N, _)
theorem e4 : ∀ t : Fin cfg0.N, win0_4.index t = ![t.val, 0, 0] := (by decide +kernel : ∀ t : Fin grid0.N, _)
theorem e5 : ∀ t : Fin cfg0.N, win0_5.index t = ![t.val, 0, 0] := (by decide +kernel : ∀ t : Fin grid0.N, _)
theorem e6 : ∀ t : Fin cfg0.N, win0_6.index t = ![t.val, 0, 0] := (by decide +kernel : ∀ t : Fin grid0.N, _)
theorem e7 : ∀ t : Fin cfg0.N, win0_7.index t = ![t.val, 0, 0] := (by decide +kernel : ∀ t : Fin grid0.N, _)
theorem e8 : ∀ t : Fin cfg0.N, win0_8.index t = ![t.val, 0, 0] := (by decide +kernel : ∀ t : Fin grid0.N, _)
theorem e9 : ∀ t : Fin cfg0.N, win0_9.index t = ![t.val, 0, 0] := (by decide +kernel : ∀ t : Fin grid0.N, _)
theorem e10 : ∀ t : Fin cfg0.N, win0_10.index t = ![t.val, 0, 0] := (by decide +kernel : ∀ t : Fin grid0.N, _)

/-- The entry of a whole array in the place of entry `y` of block `t`. -/
abbrev place (t : Fin cfg0.N) (y : S1x64x512.Idx) : S4x64x512.Idx := fun a => match a with
  | ⟨0, _⟩ => ⟨t.val, by
      have h := t.isLt
      have : cfg0.N = 4 := by decide
      show t.val < 4; omega⟩
  | ⟨1, _⟩ => ⟨(y 1).val, (y 1).isLt⟩
  | ⟨2, _⟩ => ⟨(y 2).val, (y 2).isLt⟩

/-- The entry of part `p` of the gradient that belongs to entry `i` of the weight. -/
abbrev part (i : S4x64x512.Idx) (p : Fin 4) : S4x4x64x512.Idx := ValueIdx.ix4 p (i 0) (i 1) (i 2)

theorem places (t : Fin cfg0.N) (y : S1x64x512.Idx) :
    (win0_4.blk t).view.emb y = place t y
      ∧ (win0_5.blk t).view.emb y = place t y
      ∧ (win0_6.blk t).view.emb y = place t y
      ∧ (win0_7.blk t).view.emb y = place t y
      ∧ (win0_8.blk t).view.emb y = place t y
      ∧ (win0_9.blk t).view.emb y = place t y
      ∧ (win0_10.blk t).view.emb y = place t y := by
  have hz : (y 0).val = 0 := Nat.lt_one_iff.mp (y 0).isLt
  refine ⟨?_, ?_, ?_, ?_, ?_, ?_, ?_⟩
  all_goals
    refine ext3 (Eq.trans ?_ (show t.val = (place t y 0).val from rfl)) (Eq.trans ?_ (show (y 1).val = (place t y 1).val from rfl))
      (Eq.trans ?_ (show (y 2).val = (place t y 2).val from rfl))
    · blk_simp [e4, e5, e6, e7, e8, e9, e10]; try omega
    · blk_simp [e4, e5, e6, e7, e8, e9, e10]; try omega
    · blk_simp [e4, e5, e6, e7, e8, e9, e10]; try omega

theorem parts (t : Fin cfg0.N) (y : S1x64x512.Idx) :
    (win0_0.blk t).view.emb (up y) = part (place t y) 0
      ∧ (win0_1.blk t).view.emb (up y) = part (place t y) 1
      ∧ (win0_2.blk t).view.emb (up y) = part (place t y) 2
      ∧ (win0_3.blk t).view.emb (up y) = part (place t y) 3 := by
  refine ⟨?_, ?_, ?_, ?_⟩
  all_goals
    refine ext4 ?_ (Eq.trans ?_ (show t.val = (part (place t y) 0 1).val from rfl)) (Eq.trans ?_ (show (y 1).val = (place t y 1).val from rfl))
      (Eq.trans ?_ (show (y 2).val = (place t y 2).val from rfl))
    · blk_simp [e0, e1, e2, e3]; try rfl
    · blk_simp [e0, e1, e2, e3]; try rfl
    · blk_simp [e0, e1, e2, e3]; first | done | rfl | exact congrArg (· + (y 1).val) (Nat.mul_comm _ _)
    · blk_simp [e0, e1, e2, e3]; try rfl

section left
variable (t : Fin cfg0.N) (x0 x1 x2 x3 : Vec Ideal S1x1x64x512 .bf16) (x4 x5 x6 : Vec Ideal S1x64x512 .f32)

theorem left7 : out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay2 (k0_pay6 x0 x1 x2 x3) := by
  unfold out0_A_7
  rw [View.read_writes_eq_canon _ _ _ (fun y => cover0_A_7 _ _ _ _ _ _ _ _ _ _ _ _ _ _ _ _ _ _ _ _ _ _ _ _ _ _ _ _ _ _ _ y)]
  unfold kernelRun0_A
  refine (View.canon_cons_unit_lit _ _ _ (by decide)).trans ?_
  exact congrArg k0_pay2 (cong4 k0_pay6 (load_whole _ x0 _ (by decide)) (load_whole _ x1 _ (by decide)) (load_whole _ x2 _ (by decide)) (load_whole _ x3 _ (by decide)))

theorem left8 : out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay3 (k0_pay7 x4) (k0_pay8 x0 x1 x2 x3 x5) (k0_pay9 x6) (k0_pay10 x0 x1 x2 x3) (k 0x3A83126F#32) := by
  unfold out0_A_8
  rw [View.read_writes_eq_canon _ _ _ (fun y => cover0_A_8 _ _ _ _ _ _ _ _ _ _ _ _ _ _ _ _ _ _ _ _ _ _ _ _ _ _ _ _ _ _ _ y)]
  unfold kernelRun0_A
  refine (View.canon_cons_unit_lit _ _ _ (by decide)).trans ?_
  exact cong5 k0_pay3 (congrArg k0_pay7 (load_whole _ x4 _ (by decide))) (cong5 k0_pay8 (load_whole _ x0 _ (by decide)) (load_whole _ x1 _ (by decide)) (load_whole _ x2 _ (by decide)) (load_whole _ x3 _ (by decide)) (load_whole _ x5 _ (by decide))) (congrArg k0_pay9 (load_whole _ x6 _ (by decide))) (cong4 k0_pay10 (load_whole _ x0 _ (by decide)) (load_whole _ x1 _ (by decide)) (load_whole _ x2 _ (by decide)) (load_whole _ x3 _ (by decide))) rfl

theorem left9 : out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay4 (k0_pay8 x0 x1 x2 x3 x5) := by
  unfold out0_A_9
  rw [View.read_writes_eq_canon _ _ _ (fun y => cover0_A_9 _ _ _ _ _ _ _ _ _ _ _ _ _ _ _ _ _ _ _ _ _ _ _ _ _ _ _ _ _ _ _ y)]
  unfold kernelRun0_A
  refine (View.canon_cons_unit_lit _ _ _ (by decide)).trans ?_
  exact congrArg k0_pay4 (cong5 k0_pay8 (load_whole _ x0 _ (by decide)) (load_whole _ x1 _ (by decide)) (load_whole _ x2 _ (by decide)) (load_whole _ x3 _ (by decide)) (load_whole _ x5 _ (by decide)))

theorem left10 : out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay5 (k0_pay9 x6) (k0_pay10 x0 x1 x2 x3) (k 0x3A83126F#32) := by
  unfold out0_A_10
  rw [View.read_writes_eq_canon _ _ _ (fun y => cover0_A_10 _ _ _ _ _ _ _ _ _ _ _ _ _ _ _ _ _ _ _ _ _ _ _ _ _ _ _ _ _ _ _ y)]
  unfold kernelRun0_A
  refine (View.canon_cons_unit_lit _ _ _ (by decide)).trans ?_
  exact cong3 k0_pay5 (congrArg k0_pay9 (load_whole _ x6 _ (by decide))) (cong4 k0_pay10 (load_whole _ x0 _ (by decide)) (load_whole _ x1 _ (by decide)) (load_whole _ x2 _ (by decide)) (load_whole _ x3 _ (by decide))) rfl

end left

section blocks
variable (t : Fin cfg0.N) (y : S1x64x512.Idx)

/-- The four arrays the kernel reads, by their names in the program. -/
abbrev partials : FVec Ideal S4x4x64x512 .bf16 := m ((c.tc : Thread nD τ).loc main_arg0)
abbrev weight : FVec Ideal S4x64x512 .f32 := m ((c.tc : Thread nD τ).loc main_arg1)
abbrev moment : FVec Ideal S4x64x512 .f32 := m ((c.tc : Thread nD τ).loc main_arg2)
abbrev square : FVec Ideal S4x64x512 .f32 := m ((c.tc : Thread nD τ).loc main_arg3)

/-- The gradient of one entry: the sum of its four parts. -/
def grad (X : FVec Ideal S4x4x64x512 .bf16) (i : S4x64x512.Idx) : EReal := ∑ p : Fin 4, X (part i p)

theorem block_grad : four (iblk m c 0 t) (iblk m c 1 t) (iblk m c 2 t) (iblk m c 3 t) y = grad (partials m c) (place t y) := by
  obtain ⟨h0, h1, h2, h3⟩ := parts t y
  refine Eq.trans ?_ (Fin.sum_univ_four _).symm
  rw [← h0, ← h1, ← h2, ← h3]
  rfl

theorem block_weight : (iblk m c 4 t : FVec Ideal S1x64x512 .f32) y = weight m c (place t y) := congrArg (weight m c) (places t y).1
theorem block_moment : (iblk m c 5 t : FVec Ideal S1x64x512 .f32) y = moment m c (place t y) := congrArg (moment m c) (places t y).2.1
theorem block_square : (iblk m c 6 t : FVec Ideal S1x64x512 .f32) y = square m c (place t y) := congrArg (square m c) (places t y).2.2.1

/-- What point `t` leaves in output 0. -/
theorem point_grad : (outsAt0 m c t).1 = k0_pay2 (k0_pay6 (iblk m c 0 t) (iblk m c 1 t) (iblk m c 2 t) (iblk m c 3 t)) := by
  unfold outsAt0
  dsimp only
  exact left7 c t (iblk m c 0 t) (iblk m c 1 t) (iblk m c 2 t) (iblk m c 3 t) (iblk m c 4 t) (iblk m c 5 t) (iblk m c 6 t)

theorem tile_grad : k0_pay2 (k0_pay6 (iblk m c 0 t) (iblk m c 1 t) (iblk m c 2 t) (iblk m c 3 t))
    = (fun y => grad (partials m c) (place t y) : FVec Ideal S1x64x512 .f32) := by
  funext y
  exact (pay_sum _ _ _ _ y).trans ((block_grad m c t y))

theorem arr_grad : (dats m 0 c).arrAt 7 cfg0.N = (fun i => grad (partials m c) i : FVec Ideal S4x64x512 .f32) := by
  refine (dats m 0 c).arrAt_eq_of_covers 7 _ (by decide +kernel) fun t hf y => ?_
  refine (congrFun ((after0_7 m c t).trans ((point_grad m c t).trans (tile_grad m c t))) y).trans ?_
  have hp : (win0_7.blk t).view.emb y = place t y := (places t y).2.2.2.1
  show _ = (fun i => grad (partials m c) i : FVec Ideal S4x64x512 .f32) ((win0_7.blk t).view.emb y)
  rw [hp]

/-- What point `t` leaves in output 1. -/
theorem point_change : (outsAt0 m c t).2.1 = k0_pay3 (k0_pay7 (iblk m c 4 t)) (k0_pay8 (iblk m c 0 t) (iblk m c 1 t) (iblk m c 2 t) (iblk m c 3 t) (iblk m c 5 t)) (k0_pay9 (iblk m c 6 t)) (k0_pay10 (iblk m c 0 t) (iblk m c 1 t) (iblk m c 2 t) (iblk m c 3 t)) (k 0x3A83126F#32) := by
  unfold outsAt0
  dsimp only
  exact left8 c t (iblk m c 0 t) (iblk m c 1 t) (iblk m c 2 t) (iblk m c 3 t) (iblk m c 4 t) (iblk m c 5 t) (iblk m c 6 t)

theorem tile_change : k0_pay3 (k0_pay7 (iblk m c 4 t)) (k0_pay8 (iblk m c 0 t) (iblk m c 1 t) (iblk m c 2 t) (iblk m c 3 t) (iblk m c 5 t)) (k0_pay9 (iblk m c 6 t)) (k0_pay10 (iblk m c 0 t) (iblk m c 1 t) (iblk m c 2 t) (iblk m c 3 t)) (k 0x3A83126F#32)
    = (fun y => change (weight m c (place t y)) (grad (partials m c) (place t y)) (moment m c (place t y)) (square m c (place t y)) : FVec Ideal S1x64x512 .f32) := by
  funext y
  exact (pay_change _ _ _ _ _ _ _ y).trans (cong4 change (block_weight m c t y) (block_grad m c t y) (block_moment m c t y) (block_square m c t y))

theorem arr_change : (dats m 0 c).arrAt 8 cfg0.N = (fun i => change (weight m c i) (grad (partials m c) i) (moment m c i) (square m c i) : FVec Ideal S4x64x512 .f32) := by
  refine (dats m 0 c).arrAt_eq_of_covers 8 _ (by decide +kernel) fun t hf y => ?_
  refine (congrFun ((after0_8 m c t).trans ((point_change m c t).trans (tile_change m c t))) y).trans ?_
  have hp : (win0_8.blk t).view.emb y = place t y := (places t y).2.2.2.2.1
  show _ = (fun i => change (weight m c i) (grad (partials m c) i) (moment m c i) (square m c i) : FVec Ideal S4x64x512 .f32) ((win0_8.blk t).view.emb y)
  rw [hp]

/-- What point `t` leaves in output 2. -/
theorem point_first : (outsAt0 m c t).2.2.1 = k0_pay4 (k0_pay8 (iblk m c 0 t) (iblk m c 1 t) (iblk m c 2 t) (iblk m c 3 t) (iblk m c 5 t)) := by
  unfold outsAt0
  dsimp only
  exact left9 c t (iblk m c 0 t) (iblk m c 1 t) (iblk m c 2 t) (iblk m c 3 t) (iblk m c 4 t) (iblk m c 5 t) (iblk m c 6 t)

theorem tile_first : k0_pay4 (k0_pay8 (iblk m c 0 t) (iblk m c 1 t) (iblk m c 2 t) (iblk m c 3 t) (iblk m c 5 t))
    = (fun y => first (grad (partials m c) (place t y)) (moment m c (place t y)) : FVec Ideal S1x64x512 .f32) := by
  funext y
  exact (pay_first _ _ _ _ _ y).trans (congrArg₂ first (block_grad m c t y) (block_moment m c t y))

theorem arr_first : (dats m 0 c).arrAt 9 cfg0.N = (fun i => first (grad (partials m c) i) (moment m c i) : FVec Ideal S4x64x512 .f32) := by
  refine (dats m 0 c).arrAt_eq_of_covers 9 _ (by decide +kernel) fun t hf y => ?_
  refine (congrFun ((after0_9 m c t).trans ((point_first m c t).trans (tile_first m c t))) y).trans ?_
  have hp : (win0_9.blk t).view.emb y = place t y := (places t y).2.2.2.2.2.1
  show _ = (fun i => first (grad (partials m c) i) (moment m c i) : FVec Ideal S4x64x512 .f32) ((win0_9.blk t).view.emb y)
  rw [hp]

/-- What point `t` leaves in output 3. -/
theorem point_second : (outsAt0 m c t).2.2.2 = k0_pay5 (k0_pay9 (iblk m c 6 t)) (k0_pay10 (iblk m c 0 t) (iblk m c 1 t) (iblk m c 2 t) (iblk m c 3 t)) (k 0x3A83126F#32) := by
  unfold outsAt0
  dsimp only
  exact left10 c t (iblk m c 0 t) (iblk m c 1 t) (iblk m c 2 t) (iblk m c 3 t) (iblk m c 4 t) (iblk m c 5 t) (iblk m c 6 t)

theorem tile_second : k0_pay5 (k0_pay9 (iblk m c 6 t)) (k0_pay10 (iblk m c 0 t) (iblk m c 1 t) (iblk m c 2 t) (iblk m c 3 t)) (k 0x3A83126F#32)
    = (fun y => second (grad (partials m c) (place t y)) (square m c (place t y)) : FVec Ideal S1x64x512 .f32) := by
  funext y
  exact (pay_second _ _ _ _ _ y).trans (congrArg₂ second (block_grad m c t y) (block_square m c t y))

theorem arr_second : (dats m 0 c).arrAt 10 cfg0.N = (fun i => second (grad (partials m c) i) (square m c i) : FVec Ideal S4x64x512 .f32) := by
  refine (dats m 0 c).arrAt_eq_of_covers 10 _ (by decide +kernel) fun t hf y => ?_
  refine (congrFun ((after0_10 m c t).trans ((point_second m c t).trans (tile_second m c t))) y).trans ?_
  have hp : (win0_10.blk t).view.emb y = place t y := (places t y).2.2.2.2.2.2
  show _ = (fun i => second (grad (partials m c) i) (square m c i) : FVec Ideal S4x64x512 .f32) ((win0_10.blk t).view.emb y)
  rw [hp]

end blocks

/-! ### The reference -/

section reference
variable (X : FVec Ideal S4x4x64x512 .bf16) (W P Q : FVec Ideal S4x64x512 .f32)

theorem ref_grad : Cert.AdamPoolReferenceIdeal.Read.val_main_v1 (F := Ideal) X = (fun i => grad X i : FVec Ideal S4x64x512 .f32) := by
  funext i
  rw [Cert.AdamPoolReferenceIdeal.Read.val_main_v1_apply]
  show FloatOps.ofBits (F := Ideal) .f32 0x00000000#32 + _ = _
  rw [ofBits_zero]
  refine (zero_add _).trans (Finset.sum_congr rfl fun p _ => ?_)
  exact congrArg X (ext4 rfl rfl rfl rfl)

theorem ref_first : Cert.AdamPoolReferenceIdeal.Read.val_main_v6 (F := Ideal) X P = (fun i => first (grad X i) (P i) : FVec Ideal S4x64x512 .f32) :=
  funext fun i => congrArg (fun z : EReal => first z (P i)) (congrFun (ref_grad X) i)

theorem ref_second : Cert.AdamPoolReferenceIdeal.Read.val_main_v12 (F := Ideal) X Q = (fun i => second (grad X i) (Q i) : FVec Ideal S4x64x512 .f32) :=
  funext fun i => congrArg (fun z : EReal => second z (Q i)) (congrFun (ref_grad X) i)

theorem ref_change : Cert.AdamPoolReferenceIdeal.Read.val_main_v25 (F := Ideal) X W P Q = (fun i => change (W i) (grad X i) (P i) (Q i) : FVec Ideal S4x64x512 .f32) :=
  funext fun i => congrArg (fun z : EReal => change (W i) z (P i) (Q i)) (congrFun (ref_grad X) i)
end reference

theorem values : Cert.algebraic_AdamPoolIdeal_AdamPoolReferenceIdeal := fun m ρ m' ρ' _ ha => by
  refine ⟨fun c => (dats m 0 c).arrAt 7 cfg0.N, fun c => (dats m 0 c).arrAt 8 cfg0.N, fun c => (dats m 0 c).arrAt 9 cfg0.N,
    fun c => (dats m 0 c).arrAt 10 cfg0.N, Cert.AdamPoolIdeal.Value.run_blocks m ρ, ?_⟩
  refine (θ_run Cert.AdamPoolReferenceIdeal.defs _ _).mono
    (fun _ h c => ⟨(h c).1.trans ?_, (h c).2.1.trans ?_, (h c).2.2.1.trans ?_, (h c).2.2.2.1.trans ?_, (h c).2.2.2.2⟩)
    (Cert.AdamPoolReferenceIdeal.Value.run (F := Ideal) m' ρ')
  all_goals obtain ⟨h0, h1, h2, h3, -⟩ := ha c
  · exact (congrArg (Cert.AdamPoolReferenceIdeal.Read.val_main_v1 (F := Ideal)) h0).trans ((ref_grad _).trans (arr_grad m c).symm)
  · exact (cong4 (Cert.AdamPoolReferenceIdeal.Read.val_main_v25 (F := Ideal)) h0 h1 h2 h3).trans ((ref_change _ _ _ _).trans (arr_change m c).symm)
  · exact (congrArg₂ (Cert.AdamPoolReferenceIdeal.Read.val_main_v6 (F := Ideal)) h0 h2).trans ((ref_first _ _).trans (arr_first m c).symm)
  · exact (congrArg₂ (Cert.AdamPoolReferenceIdeal.Read.val_main_v12 (F := Ideal)) h0 h3).trans ((ref_second _ _).trans (arr_second m c).symm)

theorem frame_ideal : Cert.quiescent_AdamPoolIdeal := fun m ρ _ => Cert.AdamPoolIdeal.Gen.frame m ρ

theorem frame_reference : Cert.quiescent_AdamPoolReferenceIdeal := fun m ρ _ =>
  (θ_run Cert.AdamPoolReferenceIdeal.defs _ _).mono (fun r h => ⟨fun c => (h c).2.2.2.2, sem_eq_zero_of_no_sems (by decide) r.2⟩)
    (Cert.AdamPoolReferenceIdeal.Value.run (F := Ideal) m ρ)

theorem body_same {F : FTy → Type} [FloatOps F] : Cert.AdamPoolIdeal.cc0_adam_big (F := F) = Cert.AdamPool.cc0_adam_big (F := F) := rfl

theorem bodies_same {F : FTy → Type} [FloatOps F] : Cert.AdamPoolIdeal.defs₀ (F := F) = Cert.AdamPool.defs₀ (F := F) := by
  refine congrArg (Defs.onTc (nD := Cert.AdamPool.nD) (τ := Cert.AdamPool.τ)) (funext fun l => funext fun a => ?_)
  match l, a with
  | 0, (t, s) => dsimp only; rw [body_same]; rfl

theorem defs_same {F : FTy → Type} [FloatOps F] : Cert.AdamPoolIdeal.defs (F := F) = Cert.AdamPool.defs (F := F) :=
  congrArg (Pipeline.defs (Cert.AdamPool.pcfgs (F := F))) bodies_same

theorem frame_kernel : Cert.quiescent_AdamPool := fun m ρ _ => by
  rw [← defs_same]
  exact Cert.AdamPoolIdeal.Gen.frame (F := Bits) m ρ

end Cert.AdamPoolIdeal.Tiles

end
-- ==== Proof.AdamIn.lean ====
/- The optimiser's step on the recurrence's first weight, in one layer: every entry of the four results is the same function of the entries of the partial
   gradients, the weight and the moments on both sides. -/
module

public import proofs.«01_k».proof.Defs
public import proofs.«01_k».proof.Proof.Adam
public import proofs.«01_k».proof.Proof.Gen.AdamIn
public import proofs.«01_k».proof.Proof.Gen.AdamInIdeal
public import proofs.«01_k».proof.Proof.Gen.AdamInIdeal.Value
public import proofs.«01_k».proof.Proof.Gen.AdamInReferenceIdeal
public import proofs.«01_k».proof.Proof.Gen.AdamInReferenceIdeal.Run
public import proofs.«01_k».proof.Proof.Gen.AdamInReferenceIdeal.Read
public import Idealize.ShloMosaic.Lib.Pipeline.ValueKit

@[expose] public section

set_option maxRecDepth 16384
set_option maxHeartbeats 400000

noncomputable section

namespace Cert.AdamInIdeal.Tiles

open Cert.AdamInIdeal.Gen
open Idealize.ShloMosaic Idealize.ShloMosaic.TcCoe Idealize.ShloMosaic.Tactic
open Cert.Prod Cert.Adam

variable (m : (ℓ : Loc nD τ sig) → Buf (Elt Ideal) ℓ) (c : Dev nD)

/-- The entry of a block of the partial gradients in the place of an entry of the weight's block. -/
abbrev up (y : S1x256x1024.Idx) : S1x1x256x1024.Idx := ValueIdx.ix4 0 0 (y 1) (y 2)

section pays
variable (P0 P1 P2 P3 : FVec Ideal S1x1x256x1024 .bf16) (W P Q : FVec Ideal S1x256x1024 .f32) (y : S1x256x1024.Idx)

/-- The four partial gradients of one entry, added. -/
abbrev four : EReal := P0 (up y) + P1 (up y) + P2 (up y) + P3 (up y)

theorem pay_sum : (k0_pay2 (F := Ideal) (k0_pay6 P0 P1 P2 P3) y : EReal) = four P0 P1 P2 P3 y := by
  simp only [k0_pay2, k0_pay6, pointwise]
  rfl

theorem pay_first : (k0_pay4 (F := Ideal) (k0_pay8 P0 P1 P2 P3 P) y : EReal) = first (four P0 P1 P2 P3 y) (P y) := by
  simp only [k0_pay4, k0_pay8, k0_pay6, pointwise]
  rfl

theorem pay_second : (k0_pay5 (F := Ideal) (k0_pay9 Q) (k0_pay10 P0 P1 P2 P3) (k 0x3A83126F#32) y : EReal) = second (four P0 P1 P2 P3 y) (Q y) := by
  simp only [k0_pay5, k0_pay1, k0_pay9, k0_pay10, k0_pay6, pointwise]
  rfl

theorem pay_change : (k0_pay3 (F := Ideal) (k0_pay7 W) (k0_pay8 P0 P1 P2 P3 P) (k0_pay9 Q) (k0_pay10 P0 P1 P2 P3) (k 0x3A83126F#32) y : EReal)
    = change (W y) (four P0 P1 P2 P3 y) (P y) (Q y) := by
  simp only [k0_pay3, k0_pay1, k0_pay7, k0_pay8, k0_pay9, k0_pay10, k0_pay6, pointwise]
  rfl
end pays

theorem e0 : ∀ t : Fin cfg0.N, win0_0.index t = ![0, 0, t.val, 0] := (by decide +kernel : ∀ t : Fin grid0.N, _)
theorem e1 : ∀ t : Fin cfg0.N, win0_1.index t = ![1, 0, t.val, 0] := (by decide +kernel : ∀ t : Fin grid0.N, _)
theorem e2 : ∀ t : Fin cfg0.N, win0_2.index t = ![2, 0, t.val, 0] := (by decide +kernel : ∀ t : Fin grid0.N, _)
theorem e3 : ∀ t : Fin cfg0.N, win0_3.index t = ![3, 0, t.val, 0] := (by decide +kernel : ∀ t : Fin grid0.N, _)
theorem e4 : ∀ t : Fin cfg0.N, win0_4.index t = ![0, t.val, 0] := (by decide +kernel : ∀ t : Fin grid0.N, _)
theorem e5 : ∀ t : Fin cfg0.N, win0_5.index t = ![0, t.val, 0] := (by decide +kernel : ∀ t : Fin grid0.N, _)
theorem e6 : ∀ t : Fin cfg0.N, win0_6.index t = ![0, t.val, 0] := (by decide +kernel : ∀ t : Fin grid0.N, _)
theorem e7 : ∀ t : Fin cfg0.N, win0_7.index t = ![0, t.val, 0] := (by decide +kernel : ∀ t : Fin grid0.N, _)
theorem e8 : ∀ t : Fin cfg0.N, win0_8.index t = ![0, t.val, 0] := (by decide +kernel : ∀ t : Fin grid0.N, _)
theorem e9 : ∀ t : Fin cfg0.N, win0_9.index t = ![0, t.val, 0] := (by decide +kernel : ∀ t : Fin grid0.N, _)
theorem e10 : ∀ t : Fin cfg0.N, win0_10.index t = ![0, t.val, 0] := (by decide +kernel : ∀ t : Fin grid0.N, _)

/-- The entry of a whole array in the place of entry `y` of block `t`. -/
abbrev place (t : Fin cfg0.N) (y : S1x256x1024.Idx) : S2x2048x1024.Idx := fun a => match a with
  | ⟨0, _⟩ => ⟨0, by show 0 < 2; omega⟩
  | ⟨1, _⟩ => ⟨256 * t.val + (y 1).val, by
      have h := t.isLt
      have h' : (y 1).val < 256 := (y 1).isLt
      have : cfg0.N = 8 := by decide
      show 256 * t.val + (y 1).val < 2048; omega⟩
  | ⟨2, _⟩ => ⟨(y 2).val, (y 2).isLt⟩

/-- The entry of part `p` of the gradient that belongs to entry `i` of the weight. -/
abbrev part (i : S2x2048x1024.Idx) (p : Fin 4) : S4x1x2048x1024.Idx := ValueIdx.ix4 p 0 (i 1) (i 2)

theorem places (t : Fin cfg0.N) (y : S1x256x1024.Idx) :
    (win0_4.blk t).view.emb y = place t y
      ∧ (win0_5.blk t).view.emb y = place t y
      ∧ (win0_6.blk t).view.emb y = place t y
      ∧ (win0_7.blk t).view.emb y = place t y
      ∧ (win0_8.blk t).view.emb y = place t y
      ∧ (win0_9.blk t).view.emb y = place t y
      ∧ (win0_10.blk t).view.emb y = place t y := by
  have hz : (y 0).val = 0 := Nat.lt_one_iff.mp (y 0).isLt
  refine ⟨?_, ?_, ?_, ?_, ?_, ?_, ?_⟩
  all_goals
    refine ext3 (Eq.trans ?_ (show 0 = (place t y 0).val from rfl)) (Eq.trans ?_ (show 256 * t.val + (y 1).val = (place t y 1).val from rfl))
      (Eq.trans ?_ (show (y 2).val = (place t y 2).val from rfl))
    · blk_simp [e4, e5, e6, e7, e8, e9, e10]; try omega
    · blk_simp [e4, e5, e6, e7, e8, e9, e10]; try omega
    · blk_simp [e4, e5, e6, e7, e8, e9, e10]; try omega

theorem parts (t : Fin cfg0.N) (y : S1x256x1024.Idx) :
    (win0_0.blk t).view.emb (up y) = part (place t y) 0
      ∧ (win0_1.blk t).view.emb (up y) = part (place t y) 1
      ∧ (win0_2.blk t).view.emb (up y) = part (place t y) 2
      ∧ (win0_3.blk t).view.emb (up y) = part (place t y) 3 := by
  refine ⟨?_, ?_, ?_, ?_⟩
  all_goals
    refine ext4 ?_ (Eq.trans ?_ (show 0 = (part (place t y) 0 1).val from rfl)) (Eq.trans ?_ (show 256 * t.val + (y 1).val = (place t y 1).val from rfl))
      (Eq.trans ?_ (show (y 2).val = (place t y 2).val from rfl))
    · blk_simp [e0, e1, e2, e3]; try rfl
    · blk_simp [e0, e1, e2, e3]; try rfl
    · blk_simp [e0, e1, e2, e3]; first | done | rfl | exact congrArg (· + (y 1).val) (Nat.mul_comm _ _)
    · blk_simp [e0, e1, e2, e3]; try rfl

section left
variable (t : Fin cfg0.N) (x0 x1 x2 x3 : Vec Ideal S1x1x256x1024 .bf16) (x4 x5 x6 : Vec Ideal S1x256x1024 .f32)

theorem left7 : out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay2 (k0_pay6 x0 x1 x2 x3) := by
  unfold out0_A_7
  rw [View.read_writes_eq_canon _ _ _ (fun y => cover0_A_7 _ _ _ _ _ _ _ _ _ _ _ _ _ _ _ _ _ _ _ _ _ _ _ _ _ _ _ _ _ _ _ y)]
  unfold kernelRun0_A
  refine (View.canon_cons_unit_lit _ _ _ (by decide)).trans ?_
  exact congrArg k0_pay2 (cong4 k0_pay6 (load_whole _ x0 _ (by decide)) (load_whole _ x1 _ (by decide)) (load_whole _ x2 _ (by decide)) (load_whole _ x3 _ (by decide)))

theorem left8 : out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay3 (k0_pay7 x4) (k0_pay8 x0 x1 x2 x3 x5) (k0_pay9 x6) (k0_pay10 x0 x1 x2 x3) (k 0x3A83126F#32) := by
  unfold out0_A_8
  rw [View.read_writes_eq_canon _ _ _ (fun y => cover0_A_8 _ _ _ _ _ _ _ _ _ _ _ _ _ _ _ _ _ _ _ _ _ _ _ _ _ _ _ _ _ _ _ y)]
  unfold kernelRun0_A
  refine (View.canon_cons_unit_lit _ _ _ (by decide)).trans ?_
  exact cong5 k0_pay3 (congrArg k0_pay7 (load_whole _ x4 _ (by decide))) (cong5 k0_pay8 (load_whole _ x0 _ (by decide)) (load_whole _ x1 _ (by decide)) (load_whole _ x2 _ (by decide)) (load_whole _ x3 _ (by decide)) (load_whole _ x5 _ (by decide))) (congrArg k0_pay9 (load_whole _ x6 _ (by decide))) (cong4 k0_pay10 (load_whole _ x0 _ (by decide)) (load_whole _ x1 _ (by decide)) (load_whole _ x2 _ (by decide)) (load_whole _ x3 _ (by decide))) rfl

theorem left9 : out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay4 (k0_pay8 x0 x1 x2 x3 x5) := by
  unfold out0_A_9
  rw [View.read_writes_eq_canon _ _ _ (fun y => cover0_A_9 _ _ _ _ _ _ _ _ _ _ _ _ _ _ _ _ _ _ _ _ _ _ _ _ _ _ _ _ _ _ _ y)]
  unfold kernelRun0_A
  refine (View.canon_cons_unit_lit _ _ _ (by decide)).trans ?_
  exact congrArg k0_pay4 (cong5 k0_pay8 (load_whole _ x0 _ (by decide)) (load_whole _ x1 _ (by decide)) (load_whole _ x2 _ (by decide)) (load_whole _ x3 _ (by decide)) (load_whole _ x5 _ (by decide)))

theorem left10 : out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay5 (k0_pay9 x6) (k0_pay10 x0 x1 x2 x3) (k 0x3A83126F#32) := by
  unfold out0_A_10
  rw [View.read_writes_eq_canon _ _ _ (fun y => cover0_A_10 _ _ _ _ _ _ _ _ _ _ _ _ _ _ _ _ _ _ _ _ _ _ _ _ _ _ _ _ _ _ _ y)]
  unfold kernelRun0_A
  refine (View.canon_cons_unit_lit _ _ _ (by decide)).trans ?_
  exact cong3 k0_pay5 (congrArg k0_pay9 (load_whole _ x6 _ (by decide))) (cong4 k0_pay10 (load_whole _ x0 _ (by decide)) (load_whole _ x1 _ (by decide)) (load_whole _ x2 _ (by decide)) (load_whole _ x3 _ (by decide))) rfl

end left

section blocks
variable (t : Fin cfg0.N) (y : S1x256x1024.Idx)

/-- The four arrays the kernel reads, by their names in the program. -/
abbrev partials : FVec Ideal S4x1x2048x1024 .bf16 := m ((c.tc : Thread nD τ).loc main_arg0)
abbrev weight : FVec Ideal S2x2048x1024 .f32 := m ((c.tc : Thread nD τ).loc main_arg1)
abbrev moment : FVec Ideal S2x2048x1024 .f32 := m ((c.tc : Thread nD τ).loc main_arg2)
abbrev square : FVec Ideal S2x2048x1024 .f32 := m ((c.tc : Thread nD τ).loc main_arg3)

/-- The arrays the call writes over. -/
abbrev over4 : FVec Ideal S2x2048x1024 .f32 := m ((c.tc : Thread nD τ).loc main_arg4)
abbrev over5 : FVec Ideal S2x2048x1024 .f32 := m ((c.tc : Thread nD τ).loc main_arg5)
abbrev over6 : FVec Ideal S2x2048x1024 .f32 := m ((c.tc : Thread nD τ).loc main_arg6)
abbrev over7 : FVec Ideal S2x2048x1024 .f32 := m ((c.tc : Thread nD τ).loc main_arg7)

theorem entry4 : V m c main_v0_0 = over4 m c := by
  show StableHlo.after hostOps0 _ _ = _
  after_results_simp
  try rfl

theorem entry5 : V m c main_v0_1 = over5 m c := by
  show StableHlo.after hostOps0 _ _ = _
  after_results_simp
  try rfl

theorem entry6 : V m c main_v0_2 = over6 m c := by
  show StableHlo.after hostOps0 _ _ = _
  after_results_simp
  try rfl

theorem entry7 : V m c main_v0_3 = over7 m c := by
  show StableHlo.after hostOps0 _ _ = _
  after_results_simp
  try rfl

/-- The gradient of one entry: the sum of its four parts. -/
def grad (X : FVec Ideal S4x1x2048x1024 .bf16) (i : S2x2048x1024.Idx) : EReal := ∑ p : Fin 4, X (part i p)

theorem block_grad : four (iblk m c 0 t) (iblk m c 1 t) (iblk m c 2 t) (iblk m c 3 t) y = grad (partials m c) (place t y) := by
  obtain ⟨h0, h1, h2, h3⟩ := parts t y
  refine Eq.trans ?_ (Fin.sum_univ_four _).symm
  rw [← h0, ← h1, ← h2, ← h3]
  rfl

theorem block_weight : (iblk m c 4 t : FVec Ideal S1x256x1024 .f32) y = weight m c (place t y) := congrArg (weight m c) (places t y).1
theorem block_moment : (iblk m c 5 t : FVec Ideal S1x256x1024 .f32) y = moment m c (place t y) := congrArg (moment m c) (places t y).2.1
theorem block_square : (iblk m c 6 t : FVec Ideal S1x256x1024 .f32) y = square m c (place t y) := congrArg (square m c) (places t y).2.2.1

/-- What point `t` leaves in output 0. -/
theorem point_grad : (outsAt0 m c t).1 = k0_pay2 (k0_pay6 (iblk m c 0 t) (iblk m c 1 t) (iblk m c 2 t) (iblk m c 3 t)) := by
  unfold outsAt0
  dsimp only
  exact left7 c t (iblk m c 0 t) (iblk m c 1 t) (iblk m c 2 t) (iblk m c 3 t) (iblk m c 4 t) (iblk m c 5 t) (iblk m c 6 t)

theorem tile_grad : k0_pay2 (k0_pay6 (iblk m c 0 t) (iblk m c 1 t) (iblk m c 2 t) (iblk m c 3 t))
    = (fun y => grad (partials m c) (place t y) : FVec Ideal S1x256x1024 .f32) := by
  funext y
  exact (pay_sum _ _ _ _ y).trans ((block_grad m c t y))

theorem arr_grad : (dats m 0 c).arrAt 7 cfg0.N = layer (fun i => grad (partials m c) i) (over4 m c) := by
  refine ((dats m 0 c).arrAt_eq_of_coversWhere 7 (fun i => grad (partials m c) i : FVec Ideal S2x2048x1024 .f32) (fun β => β (0 : Fin 3) < 1) (P := fun i : S2x2048x1024.Idx => (i 0).val < 1)
    (by decide +kernel) (fun t hf y => ?_) (fun j => by blk_simp [Pipeline.Window.cell_apply]; rw [Nat.div_one])).trans ?_
  swap
  · funext i
    show (if (i 0).val < 1 then _ else (dats m 0 c).A 7 i) = _
    rw [show (dats m 0 c).A 7 = over4 m c from (A_eq m c 7).trans (entry4 m c)]
    rfl
  refine (congrFun ((after0_7 m c t).trans ((point_grad m c t).trans (tile_grad m c t))) y).trans ?_
  have hp : (win0_7.blk t).view.emb y = place t y := (places t y).2.2.2.1
  show _ = (fun i => grad (partials m c) i : FVec Ideal S2x2048x1024 .f32) ((win0_7.blk t).view.emb y)
  rw [hp]

/-- What point `t` leaves in output 1. -/
theorem point_change : (outsAt0 m c t).2.1 = k0_pay3 (k0_pay7 (iblk m c 4 t)) (k0_pay8 (iblk m c 0 t) (iblk m c 1 t) (iblk m c 2 t) (iblk m c 3 t) (iblk m c 5 t)) (k0_pay9 (iblk m c 6 t)) (k0_pay10 (iblk m c 0 t) (iblk m c 1 t) (iblk m c 2 t) (iblk m c 3 t)) (k 0x3A83126F#32) := by
  unfold outsAt0
  dsimp only
  exact left8 c t (iblk m c 0 t) (iblk m c 1 t) (iblk m c 2 t) (iblk m c 3 t) (iblk m c 4 t) (iblk m c 5 t) (iblk m c 6 t)

theorem tile_change : k0_pay3 (k0_pay7 (iblk m c 4 t)) (k0_pay8 (iblk m c 0 t) (iblk m c 1 t) (iblk m c 2 t) (iblk m c 3 t) (iblk m c 5 t)) (k0_pay9 (iblk m c 6 t)) (k0_pay10 (iblk m c 0 t) (iblk m c 1 t) (iblk m c 2 t) (iblk m c 3 t)) (k 0x3A83126F#32)
    = (fun y => change (weight m c (place t y)) (grad (partials m c) (place t y)) (moment m c (place t y)) (square m c (place t y)) : FVec Ideal S1x256x1024 .f32) := by
  funext y
  exact (pay_change _ _ _ _ _ _ _ y).trans (cong4 change (block_weight m c t y) (block_grad m c t y) (block_moment m c t y) (block_square m c t y))

theorem arr_change : (dats m 0 c).arrAt 8 cfg0.N = layer (fun i => change (weight m c i) (grad (partials m c) i) (moment m c i) (square m c i)) (over5 m c) := by
  refine ((dats m 0 c).arrAt_eq_of_coversWhere 8 (fun i => change (weight m c i) (grad (partials m c) i) (moment m c i) (square m c i) : FVec Ideal S2x2048x1024 .f32) (fun β => β (0 : Fin 3) < 1) (P := fun i : S2x2048x1024.Idx => (i 0).val < 1)
    (by decide +kernel) (fun t hf y => ?_) (fun j => by blk_simp [Pipeline.Window.cell_apply]; rw [Nat.div_one])).trans ?_
  swap
  · funext i
    show (if (i 0).val < 1 then _ else (dats m 0 c).A 8 i) = _
    rw [show (dats m 0 c).A 8 = over5 m c from (A_eq m c 8).trans (entry5 m c)]
    rfl
  refine (congrFun ((after0_8 m c t).trans ((point_change m c t).trans (tile_change m c t))) y).trans ?_
  have hp : (win0_8.blk t).view.emb y = place t y := (places t y).2.2.2.2.1
  show _ = (fun i => change (weight m c i) (grad (partials m c) i) (moment m c i) (square m c i) : FVec Ideal S2x2048x1024 .f32) ((win0_8.blk t).view.emb y)
  rw [hp]

/-- What point `t` leaves in output 2. -/
theorem point_first : (outsAt0 m c t).2.2.1 = k0_pay4 (k0_pay8 (iblk m c 0 t) (iblk m c 1 t) (iblk m c 2 t) (iblk m c 3 t) (iblk m c 5 t)) := by
  unfold outsAt0
  dsimp only
  exact left9 c t (iblk m c 0 t) (iblk m c 1 t) (iblk m c 2 t) (iblk m c 3 t) (iblk m c 4 t) (iblk m c 5 t) (iblk m c 6 t)

theorem tile_first : k0_pay4 (k0_pay8 (iblk m c 0 t) (iblk m c 1 t) (iblk m c 2 t) (iblk m c 3 t) (iblk m c 5 t))
    = (fun y => first (grad (partials m c) (place t y)) (moment m c (place t y)) : FVec Ideal S1x256x1024 .f32) := by
  funext y
  exact (pay_first _ _ _ _ _ y).trans (congrArg₂ first (block_grad m c t y) (block_moment m c t y))

theorem arr_first : (dats m 0 c).arrAt 9 cfg0.N = layer (fun i => first (grad (partials m c) i) (moment m c i)) (over6 m c) := by
  refine ((dats m 0 c).arrAt_eq_of_coversWhere 9 (fun i => first (grad (partials m c) i) (moment m c i) : FVec Ideal S2x2048x1024 .f32) (fun β => β (0 : Fin 3) < 1) (P := fun i : S2x2048x1024.Idx => (i 0).val < 1)
    (by decide +kernel) (fun t hf y => ?_) (fun j => by blk_simp [Pipeline.Window.cell_apply]; rw [Nat.div_one])).trans ?_
  swap
  · funext i
    show (if (i 0).val < 1 then _ else (dats m 0 c).A 9 i) = _
    rw [show (dats m 0 c).A 9 = over6 m c from (A_eq m c 9).trans (entry6 m c)]
    rfl
  refine (congrFun ((after0_9 m c t).trans ((point_first m c t).trans (tile_first m c t))) y).trans ?_
  have hp : (win0_9.blk t).view.emb y = place t y := (places t y).2.2.2.2.2.1
  show _ = (fun i => first (grad (partials m c) i) (moment m c i) : FVec Ideal S2x2048x1024 .f32) ((win0_9.blk t).view.emb y)
  rw [hp]

/-- What point `t` leaves in output 3. -/
theorem point_second : (outsAt0 m c t).2.2.2 = k0_pay5 (k0_pay9 (iblk m c 6 t)) (k0_pay10 (iblk m c 0 t) (iblk m c 1 t) (iblk m c 2 t) (iblk m c 3 t)) (k 0x3A83126F#32) := by
  unfold outsAt0
  dsimp only
  exact left10 c t (iblk m c 0 t) (iblk m c 1 t) (iblk m c 2 t) (iblk m c 3 t) (iblk m c 4 t) (iblk m c 5 t) (iblk m c 6 t)

theorem tile_second : k0_pay5 (k0_pay9 (iblk m c 6 t)) (k0_pay10 (iblk m c 0 t) (iblk m c 1 t) (iblk m c 2 t) (iblk m c 3 t)) (k 0x3A83126F#32)
    = (fun y => second (grad (partials m c) (place t y)) (square m c (place t y)) : FVec Ideal S1x256x1024 .f32) := by
  funext y
  exact (pay_second _ _ _ _ _ y).trans (congrArg₂ second (block_grad m c t y) (block_square m c t y))

theorem arr_second : (dats m 0 c).arrAt 10 cfg0.N = layer (fun i => second (grad (partials m c) i) (square m c i)) (over7 m c) := by
  refine ((dats m 0 c).arrAt_eq_of_coversWhere 10 (fun i => second (grad (partials m c) i) (square m c i) : FVec Ideal S2x2048x1024 .f32) (fun β => β (0 : Fin 3) < 1) (P := fun i : S2x2048x1024.Idx => (i 0).val < 1)
    (by decide +kernel) (fun t hf y => ?_) (fun j => by blk_simp [Pipeline.Window.cell_apply]; rw [Nat.div_one])).trans ?_
  swap
  · funext i
    show (if (i 0).val < 1 then _ else (dats m 0 c).A 10 i) = _
    rw [show (dats m 0 c).A 10 = over7 m c from (A_eq m c 10).trans (entry7 m c)]
    rfl
  refine (congrFun ((after0_10 m c t).trans ((point_second m c t).trans (tile_second m c t))) y).trans ?_
  have hp : (win0_10.blk t).view.emb y = place t y := (places t y).2.2.2.2.2.2
  show _ = (fun i => second (grad (partials m c) i) (square m c i) : FVec Ideal S2x2048x1024 .f32) ((win0_10.blk t).view.emb y)
  rw [hp]

end blocks

/-! ### The reference -/

section reference
variable (X : FVec Ideal S4x1x2048x1024 .bf16) (W P Q B : FVec Ideal S2x2048x1024 .f32)

/-- The same entry of an array with one layer. -/
abbrev down (i : S2x2048x1024.Idx) : Cert.AdamInReferenceIdeal.S1x2048x1024.Idx := ValueIdx.ix3 0 (i 1) (i 2)

/-- The same entry of the layers after the first. -/
abbrev rest (i : S2x2048x1024.Idx) : Cert.AdamInReferenceIdeal.S1x2048x1024.Idx := ValueIdx.ix3 ⟨(i 0).val - 1, by have h : (i 0).val < 2 := (i 0).isLt; omega⟩ (i 1) (i 2)

/-- One layer and the layers after it, joined. -/
theorem join (A : FVec Ideal Cert.AdamInReferenceIdeal.S1x2048x1024 .f32) (T : FVec Ideal Cert.AdamInReferenceIdeal.S1x2048x1024 .f32) (G : S2x2048x1024.Idx → EReal) (hA : ∀ i : S2x2048x1024.Idx, (i 0).val < 1 → A (down i) = G i)
    (hT : ∀ i : S2x2048x1024.Idx, ¬ (i 0).val < 1 → T (rest i) = B i) (h : Shape.Concatenates [Cert.AdamInReferenceIdeal.S1x2048x1024, Cert.AdamInReferenceIdeal.S1x2048x1024] S2x2048x1024 0) :
    concatenate S2x2048x1024 0 [⟨Cert.AdamInReferenceIdeal.S1x2048x1024, A⟩, ⟨Cert.AdamInReferenceIdeal.S1x2048x1024, T⟩] h = layer G B := by
  funext i
  unfold layer
  simp only [pointwise]
  split
  · rename_i hi
    refine Eq.trans ?_ (if_pos (show (i 0).val < 1 from hi)).symm
    exact (congrArg A (funext fun a => Fin.ext (by match a with
      | ⟨0, _⟩ => exact Nat.lt_one_iff.mp hi
      | ⟨1, _⟩ => rfl
      | ⟨2, _⟩ => rfl))).trans (hA i hi)
  · rename_i hi
    refine Eq.trans ?_ (if_neg (show ¬ (i 0).val < 1 from hi)).symm
    exact (congrArg T (funext fun a => Fin.ext (by match a with
      | ⟨0, _⟩ => rfl
      | ⟨1, _⟩ => rfl
      | ⟨2, _⟩ => rfl))).trans (hT i hi)

theorem sum_at (i : S2x2048x1024.Idx) : Cert.AdamInReferenceIdeal.Read.val_main_v1 (F := Ideal) X (down i) = grad X i := by
  rw [Cert.AdamInReferenceIdeal.Read.val_main_v1_apply]
  show FloatOps.ofBits (F := Ideal) .f32 0x00000000#32 + _ = _
  rw [ofBits_zero]
  exact (zero_add _).trans (Finset.sum_congr rfl fun p _ => congrArg X (ext4 rfl rfl rfl rfl))

theorem at_weight (i : S2x2048x1024.Idx) (h : (i 0).val < 1) : Cert.AdamInReferenceIdeal.Read.val_main_v2 (F := Ideal) W (down i) = W i := by
  rw [Cert.AdamInReferenceIdeal.Read.val_main_v2_apply]
  exact congrArg W (ext3 (Nat.lt_one_iff.mp h).symm rfl rfl)

theorem at_moment (i : S2x2048x1024.Idx) (h : (i 0).val < 1) : Cert.AdamInReferenceIdeal.Read.val_main_v3 (F := Ideal) P (down i) = P i := by
  rw [Cert.AdamInReferenceIdeal.Read.val_main_v3_apply]
  exact congrArg P (ext3 (Nat.lt_one_iff.mp h).symm rfl rfl)

theorem at_square (i : S2x2048x1024.Idx) (h : (i 0).val < 1) : Cert.AdamInReferenceIdeal.Read.val_main_v4 (F := Ideal) Q (down i) = Q i := by
  rw [Cert.AdamInReferenceIdeal.Read.val_main_v4_apply]
  exact congrArg Q (ext3 (Nat.lt_one_iff.mp h).symm rfl rfl)

theorem tail_29 (i : S2x2048x1024.Idx) (h : ¬ (i 0).val < 1) : Cert.AdamInReferenceIdeal.Read.val_main_v29 (F := Ideal) B (rest i) = B i := by
  rw [Cert.AdamInReferenceIdeal.Read.val_main_v29_apply]
  exact congrArg B (ext3 (by show 1 + ((i 0).val - 1) = (i 0).val; omega) rfl rfl)

theorem tail_31 (i : S2x2048x1024.Idx) (h : ¬ (i 0).val < 1) : Cert.AdamInReferenceIdeal.Read.val_main_v31 (F := Ideal) B (rest i) = B i := by
  rw [Cert.AdamInReferenceIdeal.Read.val_main_v31_apply]
  exact congrArg B (ext3 (by show 1 + ((i 0).val - 1) = (i 0).val; omega) rfl rfl)

theorem tail_33 (i : S2x2048x1024.Idx) (h : ¬ (i 0).val < 1) : Cert.AdamInReferenceIdeal.Read.val_main_v33 (F := Ideal) B (rest i) = B i := by
  rw [Cert.AdamInReferenceIdeal.Read.val_main_v33_apply]
  exact congrArg B (ext3 (by show 1 + ((i 0).val - 1) = (i 0).val; omega) rfl rfl)

theorem tail_35 (i : S2x2048x1024.Idx) (h : ¬ (i 0).val < 1) : Cert.AdamInReferenceIdeal.Read.val_main_v35 (F := Ideal) B (rest i) = B i := by
  rw [Cert.AdamInReferenceIdeal.Read.val_main_v35_apply]
  exact congrArg B (ext3 (by show 1 + ((i 0).val - 1) = (i 0).val; omega) rfl rfl)

theorem ref_grad : Cert.AdamInReferenceIdeal.Read.val_main_v30 (F := Ideal) X B = layer (fun i => grad X i) B :=
  join B _ _ _ (fun i _ => sum_at X i) (tail_29 B) _

theorem ref_first : Cert.AdamInReferenceIdeal.Read.val_main_v34 (F := Ideal) X P B = layer (fun i => first (grad X i) (P i)) B :=
  join B _ _ _ (fun i h => congrArg₂ first (sum_at X i) (at_moment P i h)) (tail_33 B) _

theorem ref_second : Cert.AdamInReferenceIdeal.Read.val_main_v36 (F := Ideal) X Q B = layer (fun i => second (grad X i) (Q i)) B :=
  join B _ _ _ (fun i h => congrArg₂ second (sum_at X i) (at_square Q i h)) (tail_35 B) _

theorem ref_change : Cert.AdamInReferenceIdeal.Read.val_main_v32 (F := Ideal) X W P Q B = layer (fun i => change (W i) (grad X i) (P i) (Q i)) B :=
  join B _ _ _ (fun i h => cong4 change (at_weight W i h) (sum_at X i) (at_moment P i h) (at_square Q i h)) (tail_31 B) _

end reference

theorem values : Cert.algebraic_AdamInIdeal_AdamInReferenceIdeal := fun m ρ m' ρ' _ ha => by
  refine ⟨fun c => (dats m 0 c).arrAt 7 cfg0.N, fun c => (dats m 0 c).arrAt 8 cfg0.N, fun c => (dats m 0 c).arrAt 9 cfg0.N,
    fun c => (dats m 0 c).arrAt 10 cfg0.N, Cert.AdamInIdeal.Value.run_blocks m ρ, ?_⟩
  refine (θ_run Cert.AdamInReferenceIdeal.defs _ _).mono
    (fun _ h c => ⟨(h c).1.trans ?_, (h c).2.1.trans ?_, (h c).2.2.1.trans ?_, (h c).2.2.2.1.trans ?_, (h c).2.2.2.2⟩)
    (Cert.AdamInReferenceIdeal.Value.run (F := Ideal) m' ρ')
  all_goals obtain ⟨h0, h1, h2, h3, h4, h5, h6, h7⟩ := ha c
  · exact (congrArg₂ (Cert.AdamInReferenceIdeal.Read.val_main_v30 (F := Ideal)) h0 h4).trans ((ref_grad _ _).trans (arr_grad m c).symm)
  · exact (cong5 (Cert.AdamInReferenceIdeal.Read.val_main_v32 (F := Ideal)) h0 h1 h2 h3 h5).trans ((ref_change _ _ _ _ _).trans (arr_change m c).symm)
  · exact (cong3 (Cert.AdamInReferenceIdeal.Read.val_main_v34 (F := Ideal)) h0 h2 h6).trans ((ref_first _ _ _).trans (arr_first m c).symm)
  · exact (cong3 (Cert.AdamInReferenceIdeal.Read.val_main_v36 (F := Ideal)) h0 h3 h7).trans ((ref_second _ _ _).trans (arr_second m c).symm)

theorem frame_ideal : Cert.quiescent_AdamInIdeal := fun m ρ _ => Cert.AdamInIdeal.Gen.frame m ρ

theorem frame_reference : Cert.quiescent_AdamInReferenceIdeal := fun m ρ _ =>
  (θ_run Cert.AdamInReferenceIdeal.defs _ _).mono (fun r h => ⟨fun c => (h c).2.2.2.2, sem_eq_zero_of_no_sems (by decide) r.2⟩)
    (Cert.AdamInReferenceIdeal.Value.run (F := Ideal) m ρ)

theorem body_same {F : FTy → Type} [FloatOps F] : Cert.AdamInIdeal.cc0_adam_big (F := F) = Cert.AdamIn.cc0_adam_big (F := F) := rfl

theorem bodies_same {F : FTy → Type} [FloatOps F] : Cert.AdamInIdeal.defs₀ (F := F) = Cert.AdamIn.defs₀ (F := F) := by
  refine congrArg (Defs.onTc (nD := Cert.AdamIn.nD) (τ := Cert.AdamIn.τ)) (funext fun l => funext fun a => ?_)
  match l, a with
  | 0, (t, s) => dsimp only; rw [body_same]; rfl

theorem defs_same {F : FTy → Type} [FloatOps F] : Cert.AdamInIdeal.defs (F := F) = Cert.AdamIn.defs (F := F) :=
  congrArg (Pipeline.defs (Cert.AdamIn.pcfgs (F := F))) bodies_same

theorem frame_kernel : Cert.quiescent_AdamIn := fun m ρ _ => by
  rw [← defs_same]
  exact Cert.AdamInIdeal.Gen.frame (F := Bits) m ρ

end Cert.AdamInIdeal.Tiles

end
-- ==== Proof.AdamOut.lean ====
/- The optimiser's step on the recurrence's second weight, in one layer: every entry of the four results is the same function of the entries of the partial
   gradients, the weight and the moments on both sides. -/
module

public import proofs.«01_k».proof.Defs
public import proofs.«01_k».proof.Proof.Adam
public import proofs.«01_k».proof.Proof.Gen.AdamOut
public import proofs.«01_k».proof.Proof.Gen.AdamOutIdeal
public import proofs.«01_k».proof.Proof.Gen.AdamOutIdeal.Value
public import proofs.«01_k».proof.Proof.Gen.AdamOutReferenceIdeal
public import proofs.«01_k».proof.Proof.Gen.AdamOutReferenceIdeal.Run
public import proofs.«01_k».proof.Proof.Gen.AdamOutReferenceIdeal.Read
public import Idealize.ShloMosaic.Lib.Pipeline.ValueKit

@[expose] public section

set_option maxRecDepth 16384
set_option maxHeartbeats 400000

noncomputable section

namespace Cert.AdamOutIdeal.Tiles

open Cert.AdamOutIdeal.Gen
open Idealize.ShloMosaic Idealize.ShloMosaic.TcCoe Idealize.ShloMosaic.Tactic
open Cert.Prod Cert.Adam

variable (m : (ℓ : Loc nD τ sig) → Buf (Elt Ideal) ℓ) (c : Dev nD)

/-- The entry of a block of the partial gradients in the place of an entry of the weight's block. -/
abbrev up (y : S1x128x2048.Idx) : S1x1x128x2048.Idx := ValueIdx.ix4 0 0 (y 1) (y 2)

section pays
variable (P0 P1 P2 P3 : FVec Ideal S1x1x128x2048 .bf16) (W P Q : FVec Ideal S1x128x2048 .f32) (y : S1x128x2048.Idx)

/-- The four partial gradients of one entry, added. -/
abbrev four : EReal := P0 (up y) + P1 (up y) + P2 (up y) + P3 (up y)

theorem pay_sum : (k0_pay2 (F := Ideal) (k0_pay6 P0 P1 P2 P3) y : EReal) = four P0 P1 P2 P3 y := by
  simp only [k0_pay2, k0_pay6, pointwise]
  rfl

theorem pay_first : (k0_pay4 (F := Ideal) (k0_pay8 P0 P1 P2 P3 P) y : EReal) = first (four P0 P1 P2 P3 y) (P y) := by
  simp only [k0_pay4, k0_pay8, k0_pay6, pointwise]
  rfl

theorem pay_second : (k0_pay5 (F := Ideal) (k0_pay9 Q) (k0_pay10 P0 P1 P2 P3) (k 0x3A83126F#32) y : EReal) = second (four P0 P1 P2 P3 y) (Q y) := by
  simp only [k0_pay5, k0_pay1, k0_pay9, k0_pay10, k0_pay6, pointwise]
  rfl

theorem pay_change : (k0_pay3 (F := Ideal) (k0_pay7 W) (k0_pay8 P0 P1 P2 P3 P) (k0_pay9 Q) (k0_pay10 P0 P1 P2 P3) (k 0x3A83126F#32) y : EReal)
    = change (W y) (four P0 P1 P2 P3 y) (P y) (Q y) := by
  simp only [k0_pay3, k0_pay1, k0_pay7, k0_pay8, k0_pay9, k0_pay10, k0_pay6, pointwise]
  rfl
end pays

theorem e0 : ∀ t : Fin cfg0.N, win0_0.index t = ![0, 0, t.val, 0] := (by decide +kernel : ∀ t : Fin grid0.N, _)
theorem e1 : ∀ t : Fin cfg0.N, win0_1.index t = ![1, 0, t.val, 0] := (by decide +kernel : ∀ t : Fin grid0.N, _)
theorem e2 : ∀ t : Fin cfg0.N, win0_2.index t = ![2, 0, t.val, 0] := (by decide +kernel : ∀ t : Fin grid0.N, _)
theorem e3 : ∀ t : Fin cfg0.N, win0_3.index t = ![3, 0, t.val, 0] := (by decide +kernel : ∀ t : Fin grid0.N, _)
theorem e4 : ∀ t : Fin cfg0.N, win0_4.index t = ![0, t.val, 0] := (by decide +kernel : ∀ t : Fin grid0.N, _)
theorem e5 : ∀ t : Fin cfg0.N, win0_5.index t = ![0, t.val, 0] := (by decide +kernel : ∀ t : Fin grid0.N, _)
theorem e6 : ∀ t : Fin cfg0.N, win0_6.index t = ![0, t.val, 0] := (by decide +kernel : ∀ t : Fin grid0.N, _)
theorem e7 : ∀ t : Fin cfg0.N, win0_7.index t = ![0, t.val, 0] := (by decide +kernel : ∀ t : Fin grid0.N, _)
theorem e8 : ∀ t : Fin cfg0.N, win0_8.index t = ![0, t.val, 0] := (by decide +kernel : ∀ t : Fin grid0.N, _)
theorem e9 : ∀ t : Fin cfg0.N, win0_9.index t = ![0, t.val, 0] := (by decide +kernel : ∀ t : Fin grid0.N, _)
theorem e10 : ∀ t : Fin cfg0.N, win0_10.index t = ![0, t.val, 0] := (by decide +kernel : ∀ t : Fin grid0.N, _)

/-- The entry of a whole array in the place of entry `y` of block `t`. -/
abbrev place (t : Fin cfg0.N) (y : S1x128x2048.Idx) : S2x256x2048.Idx := fun a => match a with
  | ⟨0, _⟩ => ⟨0, by show 0 < 2; omega⟩
  | ⟨1, _⟩ => ⟨128 * t.val + (y 1).val, by
      have h := t.isLt
      have h' : (y 1).val < 128 := (y 1).isLt
      have : cfg0.N = 2 := by decide
      show 128 * t.val + (y 1).val < 256; omega⟩
  | ⟨2, _⟩ => ⟨(y 2).val, (y 2).isLt⟩

/-- The entry of part `p` of the gradient that belongs to entry `i` of the weight. -/
abbrev part (i : S2x256x2048.Idx) (p : Fin 4) : S4x1x256x2048.Idx := ValueIdx.ix4 p 0 (i 1) (i 2)

theorem places (t : Fin cfg0.N) (y : S1x128x2048.Idx) :
    (win0_4.blk t).view.emb y = place t y
      ∧ (win0_5.blk t).view.emb y = place t y
      ∧ (win0_6.blk t).view.emb y = place t y
      ∧ (win0_7.blk t).view.emb y = place t y
      ∧ (win0_8.blk t).view.emb y = place t y
      ∧ (win0_9.blk t).view.emb y = place t y
      ∧ (win0_10.blk t).view.emb y = place t y := by
  have hz : (y 0).val = 0 := Nat.lt_one_iff.mp (y 0).isLt
  refine ⟨?_, ?_, ?_, ?_, ?_, ?_, ?_⟩
  all_goals
    refine ext3 (Eq.trans ?_ (show 0 = (place t y 0).val from rfl)) (Eq.trans ?_ (show 128 * t.val + (y 1).val = (place t y 1).val from rfl))
      (Eq.trans ?_ (show (y 2).val = (place t y 2).val from rfl))
    · blk_simp [e4, e5, e6, e7, e8, e9, e10]; try omega
    · blk_simp [e4, e5, e6, e7, e8, e9, e10]; try omega
    · blk_simp [e4, e5, e6, e7, e8, e9, e10]; try omega

theorem parts (t : Fin cfg0.N) (y : S1x128x2048.Idx) :
    (win0_0.blk t).view.emb (up y) = part (place t y) 0
      ∧ (win0_1.blk t).view.emb (up y) = part (place t y) 1
      ∧ (win0_2.blk t).view.emb (up y) = part (place t y) 2
      ∧ (win0_3.blk t).view.emb (up y) = part (place t y) 3 := by
  refine ⟨?_, ?_, ?_, ?_⟩
  all_goals
    refine ext4 ?_ (Eq.trans ?_ (show 0 = (part (place t y) 0 1).val from rfl)) (Eq.trans ?_ (show 128 * t.val + (y 1).val = (place t y 1).val from rfl))
      (Eq.trans ?_ (show (y 2).val = (place t y 2).val from rfl))
    · blk_simp [e0, e1, e2, e3]; try rfl
    · blk_simp [e0, e1, e2, e3]; try rfl
    · blk_simp [e0, e1, e2, e3]; first | done | rfl | exact congrArg (· + (y 1).val) (Nat.mul_comm _ _)
    · blk_simp [e0, e1, e2, e3]; try rfl

section left
variable (t : Fin cfg0.N) (x0 x1 x2 x3 : Vec Ideal S1x1x128x2048 .bf16) (x4 x5 x6 : Vec Ideal S1x128x2048 .f32)

theorem left7 : out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay2 (k0_pay6 x0 x1 x2 x3) := by
  unfold out0_A_7
  rw [View.read_writes_eq_canon _ _ _ (fun y => cover0_A_7 _ _ _ _ _ _ _ _ _ _ _ _ _ _ _ _ _ _ _ _ _ _ _ _ _ _ _ _ _ _ _ y)]
  unfold kernelRun0_A
  refine (View.canon_cons_unit_lit _ _ _ (by decide)).trans ?_
  exact congrArg k0_pay2 (cong4 k0_pay6 (load_whole _ x0 _ (by decide)) (load_whole _ x1 _ (by decide)) (load_whole _ x2 _ (by decide)) (load_whole _ x3 _ (by decide)))

theorem left8 : out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay3 (k0_pay7 x4) (k0_pay8 x0 x1 x2 x3 x5) (k0_pay9 x6) (k0_pay10 x0 x1 x2 x3) (k 0x3A83126F#32) := by
  unfold out0_A_8
  rw [View.read_writes_eq_canon _ _ _ (fun y => cover0_A_8 _ _ _ _ _ _ _ _ _ _ _ _ _ _ _ _ _ _ _ _ _ _ _ _ _ _ _ _ _ _ _ y)]
  unfold kernelRun0_A
  refine (View.canon_cons_unit_lit _ _ _ (by decide)).trans ?_
  exact cong5 k0_pay3 (congrArg k0_pay7 (load_whole _ x4 _ (by decide))) (cong5 k0_pay8 (load_whole _ x0 _ (by decide)) (load_whole _ x1 _ (by decide)) (load_whole _ x2 _ (by decide)) (load_whole _ x3 _ (by decide)) (load_whole _ x5 _ (by decide))) (congrArg k0_pay9 (load_whole _ x6 _ (by decide))) (cong4 k0_pay10 (load_whole _ x0 _ (by decide)) (load_whole _ x1 _ (by decide)) (load_whole _ x2 _ (by decide)) (load_whole _ x3 _ (by decide))) rfl

theorem left9 : out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay4 (k0_pay8 x0 x1 x2 x3 x5) := by
  unfold out0_A_9
  rw [View.read_writes_eq_canon _ _ _ (fun y => cover0_A_9 _ _ _ _ _ _ _ _ _ _ _ _ _ _ _ _ _ _ _ _ _ _ _ _ _ _ _ _ _ _ _ y)]
  unfold kernelRun0_A
  refine (View.canon_cons_unit_lit _ _ _ (by decide)).trans ?_
  exact congrArg k0_pay4 (cong5 k0_pay8 (load_whole _ x0 _ (by decide)) (load_whole _ x1 _ (by decide)) (load_whole _ x2 _ (by decide)) (load_whole _ x3 _ (by decide)) (load_whole _ x5 _ (by decide)))

theorem left10 : out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay5 (k0_pay9 x6) (k0_pay10 x0 x1 x2 x3) (k 0x3A83126F#32) := by
  unfold out0_A_10
  rw [View.read_writes_eq_canon _ _ _ (fun y => cover0_A_10 _ _ _ _ _ _ _ _ _ _ _ _ _ _ _ _ _ _ _ _ _ _ _ _ _ _ _ _ _ _ _ y)]
  unfold kernelRun0_A
  refine (View.canon_cons_unit_lit _ _ _ (by decide)).trans ?_
  exact cong3 k0_pay5 (congrArg k0_pay9 (load_whole _ x6 _ (by decide))) (cong4 k0_pay10 (load_whole _ x0 _ (by decide)) (load_whole _ x1 _ (by decide)) (load_whole _ x2 _ (by decide)) (load_whole _ x3 _ (by decide))) rfl

end left

section blocks
variable (t : Fin cfg0.N) (y : S1x128x2048.Idx)

/-- The four arrays the kernel reads, by their names in the program. -/
abbrev partials : FVec Ideal S4x1x256x2048 .bf16 := m ((c.tc : Thread nD τ).loc main_arg0)
abbrev weight : FVec Ideal S2x256x2048 .f32 := m ((c.tc : Thread nD τ).loc main_arg1)
abbrev moment : FVec Ideal S2x256x2048 .f32 := m ((c.tc : Thread nD τ).loc main_arg2)
abbrev square : FVec Ideal S2x256x2048 .f32 := m ((c.tc : Thread nD τ).loc main_arg3)

/-- The arrays the call writes over. -/
abbrev over4 : FVec Ideal S2x256x2048 .f32 := m ((c.tc : Thread nD τ).loc main_arg4)
abbrev over5 : FVec Ideal S2x256x2048 .f32 := m ((c.tc : Thread nD τ).loc main_arg5)
abbrev over6 : FVec Ideal S2x256x2048 .f32 := m ((c.tc : Thread nD τ).loc main_arg6)
abbrev over7 : FVec Ideal S2x256x2048 .f32 := m ((c.tc : Thread nD τ).loc main_arg7)

theorem entry4 : V m c main_v0_0 = over4 m c := by
  show StableHlo.after hostOps0 _ _ = _
  after_results_simp
  try rfl

theorem entry5 : V m c main_v0_1 = over5 m c := by
  show StableHlo.after hostOps0 _ _ = _
  after_results_simp
  try rfl

theorem entry6 : V m c main_v0_2 = over6 m c := by
  show StableHlo.after hostOps0 _ _ = _
  after_results_simp
  try rfl

theorem entry7 : V m c main_v0_3 = over7 m c := by
  show StableHlo.after hostOps0 _ _ = _
  after_results_simp
  try rfl

/-- The gradient of one entry: the sum of its four parts. -/
def grad (X : FVec Ideal S4x1x256x2048 .bf16) (i : S2x256x2048.Idx) : EReal := ∑ p : Fin 4, X (part i p)

theorem block_grad : four (iblk m c 0 t) (iblk m c 1 t) (iblk m c 2 t) (iblk m c 3 t) y = grad (partials m c) (place t y) := by
  obtain ⟨h0, h1, h2, h3⟩ := parts t y
  refine Eq.trans ?_ (Fin.sum_univ_four _).symm
  rw [← h0, ← h1, ← h2, ← h3]
  rfl

theorem block_weight : (iblk m c 4 t : FVec Ideal S1x128x2048 .f32) y = weight m c (place t y) := congrArg (weight m c) (places t y).1
theorem block_moment : (iblk m c 5 t : FVec Ideal S1x128x2048 .f32) y = moment m c (place t y) := congrArg (moment m c) (places t y).2.1
theorem block_square : (iblk m c 6 t : FVec Ideal S1x128x2048 .f32) y = square m c (place t y) := congrArg (square m c) (places t y).2.2.1

/-- What point `t` leaves in output 0. -/
theorem point_grad : (outsAt0 m c t).1 = k0_pay2 (k0_pay6 (iblk m c 0 t) (iblk m c 1 t) (iblk m c 2 t) (iblk m c 3 t)) := by
  unfold outsAt0
  dsimp only
  exact left7 c t (iblk m c 0 t) (iblk m c 1 t) (iblk m c 2 t) (iblk m c 3 t) (iblk m c 4 t) (iblk m c 5 t) (iblk m c 6 t)

theorem tile_grad : k0_pay2 (k0_pay6 (iblk m c 0 t) (iblk m c 1 t) (iblk m c 2 t) (iblk m c 3 t))
    = (fun y => grad (partials m c) (place t y) : FVec Ideal S1x128x2048 .f32) := by
  funext y
  exact (pay_sum _ _ _ _ y).trans ((block_grad m c t y))

theorem arr_grad : (dats m 0 c).arrAt 7 cfg0.N = layer (fun i => grad (partials m c) i) (over4 m c) := by
  refine ((dats m 0 c).arrAt_eq_of_coversWhere 7 (fun i => grad (partials m c) i : FVec Ideal S2x256x2048 .f32) (fun β => β (0 : Fin 3) < 1) (P := fun i : S2x256x2048.Idx => (i 0).val < 1)
    (by decide +kernel) (fun t hf y => ?_) (fun j => by blk_simp [Pipeline.Window.cell_apply]; rw [Nat.div_one])).trans ?_
  swap
  · funext i
    show (if (i 0).val < 1 then _ else (dats m 0 c).A 7 i) = _
    rw [show (dats m 0 c).A 7 = over4 m c from (A_eq m c 7).trans (entry4 m c)]
    rfl
  refine (congrFun ((after0_7 m c t).trans ((point_grad m c t).trans (tile_grad m c t))) y).trans ?_
  have hp : (win0_7.blk t).view.emb y = place t y := (places t y).2.2.2.1
  show _ = (fun i => grad (partials m c) i : FVec Ideal S2x256x2048 .f32) ((win0_7.blk t).view.emb y)
  rw [hp]

/-- What point `t` leaves in output 1. -/
theorem point_change : (outsAt0 m c t).2.1 = k0_pay3 (k0_pay7 (iblk m c 4 t)) (k0_pay8 (iblk m c 0 t) (iblk m c 1 t) (iblk m c 2 t) (iblk m c 3 t) (iblk m c 5 t)) (k0_pay9 (iblk m c 6 t)) (k0_pay10 (iblk m c 0 t) (iblk m c 1 t) (iblk m c 2 t) (iblk m c 3 t)) (k 0x3A83126F#32) := by
  unfold outsAt0
  dsimp only
  exact left8 c t (iblk m c 0 t) (iblk m c 1 t) (iblk m c 2 t) (iblk m c 3 t) (iblk m c 4 t) (iblk m c 5 t) (iblk m c 6 t)

theorem tile_change : k0_pay3 (k0_pay7 (iblk m c 4 t)) (k0_pay8 (iblk m c 0 t) (iblk m c 1 t) (iblk m c 2 t) (iblk m c 3 t) (iblk m c 5 t)) (k0_pay9 (iblk m c 6 t)) (k0_pay10 (iblk m c 0 t) (iblk m c 1 t) (iblk m c 2 t) (iblk m c 3 t)) (k 0x3A83126F#32)
    = (fun y => change (weight m c (place t y)) (grad (partials m c) (place t y)) (moment m c (place t y)) (square m c (place t y)) : FVec Ideal S1x128x2048 .f32) := by
  funext y
  exact (pay_change _ _ _ _ _ _ _ y).trans (cong4 change (block_weight m c t y) (block_grad m c t y) (block_moment m c t y) (block_square m c t y))

theorem arr_change : (dats m 0 c).arrAt 8 cfg0.N = layer (fun i => change (weight m c i) (grad (partials m c) i) (moment m c i) (square m c i)) (over5 m c) := by
  refine ((dats m 0 c).arrAt_eq_of_coversWhere 8 (fun i => change (weight m c i) (grad (partials m c) i) (moment m c i) (square m c i) : FVec Ideal S2x256x2048 .f32) (fun β => β (0 : Fin 3) < 1) (P := fun i : S2x256x2048.Idx => (i 0).val < 1)
    (by decide +kernel) (fun t hf y => ?_) (fun j => by blk_simp [Pipeline.Window.cell_apply]; rw [Nat.div_one])).trans ?_
  swap
  · funext i
    show (if (i 0).val < 1 then _ else (dats m 0 c).A 8 i) = _
    rw [show (dats m 0 c).A 8 = over5 m c from (A_eq m c 8).trans (entry5 m c)]
    rfl
  refine (congrFun ((after0_8 m c t).trans ((point_change m c t).trans (tile_change m c t))) y).trans ?_
  have hp : (win0_8.blk t).view.emb y = place t y := (places t y).2.2.2.2.1
  show _ = (fun i => change (weight m c i) (grad (partials m c) i) (moment m c i) (square m c i) : FVec Ideal S2x256x2048 .f32) ((win0_8.blk t).view.emb y)
  rw [hp]

/-- What point `t` leaves in output 2. -/
theorem point_first : (outsAt0 m c t).2.2.1 = k0_pay4 (k0_pay8 (iblk m c 0 t) (iblk m c 1 t) (iblk m c 2 t) (iblk m c 3 t) (iblk m c 5 t)) := by
  unfold outsAt0
  dsimp only
  exact left9 c t (iblk m c 0 t) (iblk m c 1 t) (iblk m c 2 t) (iblk m c 3 t) (iblk m c 4 t) (iblk m c 5 t) (iblk m c 6 t)

theorem tile_first : k0_pay4 (k0_pay8 (iblk m c 0 t) (iblk m c 1 t) (iblk m c 2 t) (iblk m c 3 t) (iblk m c 5 t))
    = (fun y => first (grad (partials m c) (place t y)) (moment m c (place t y)) : FVec Ideal S1x128x2048 .f32) := by
  funext y
  exact (pay_first _ _ _ _ _ y).trans (congrArg₂ first (block_grad m c t y) (block_moment m c t y))

theorem arr_first : (dats m 0 c).arrAt 9 cfg0.N = layer (fun i => first (grad (partials m c) i) (moment m c i)) (over6 m c) := by
  refine ((dats m 0 c).arrAt_eq_of_coversWhere 9 (fun i => first (grad (partials m c) i) (moment m c i) : FVec Ideal S2x256x2048 .f32) (fun β => β (0 : Fin 3) < 1) (P := fun i : S2x256x2048.Idx => (i 0).val < 1)
    (by decide +kernel) (fun t hf y => ?_) (fun j => by blk_simp [Pipeline.Window.cell_apply]; rw [Nat.div_one])).trans ?_
  swap
  · funext i
    show (if (i 0).val < 1 then _ else (dats m 0 c).A 9 i) = _
    rw [show (dats m 0 c).A 9 = over6 m c from (A_eq m c 9).trans (entry6 m c)]
    rfl
  refine (congrFun ((after0_9 m c t).trans ((point_first m c t).trans (tile_first m c t))) y).trans ?_
  have hp : (win0_9.blk t).view.emb y = place t y := (places t y).2.2.2.2.2.1
  show _ = (fun i => first (grad (partials m c) i) (moment m c i) : FVec Ideal S2x256x2048 .f32) ((win0_9.blk t).view.emb y)
  rw [hp]

/-- What point `t` leaves in output 3. -/
theorem point_second : (outsAt0 m c t).2.2.2 = k0_pay5 (k0_pay9 (iblk m c 6 t)) (k0_pay10 (iblk m c 0 t) (iblk m c 1 t) (iblk m c 2 t) (iblk m c 3 t)) (k 0x3A83126F#32) := by
  unfold outsAt0
  dsimp only
  exact left10 c t (iblk m c 0 t) (iblk m c 1 t) (iblk m c 2 t) (iblk m c 3 t) (iblk m c 4 t) (iblk m c 5 t) (iblk m c 6 t)

theorem tile_second : k0_pay5 (k0_pay9 (iblk m c 6 t)) (k0_pay10 (iblk m c 0 t) (iblk m c 1 t) (iblk m c 2 t) (iblk m c 3 t)) (k 0x3A83126F#32)
    = (fun y => second (grad (partials m c) (place t y)) (square m c (place t y)) : FVec Ideal S1x128x2048 .f32) := by
  funext y
  exact (pay_second _ _ _ _ _ y).trans (congrArg₂ second (block_grad m c t y) (block_square m c t y))

theorem arr_second : (dats m 0 c).arrAt 10 cfg0.N = layer (fun i => second (grad (partials m c) i) (square m c i)) (over7 m c) := by
  refine ((dats m 0 c).arrAt_eq_of_coversWhere 10 (fun i => second (grad (partials m c) i) (square m c i) : FVec Ideal S2x256x2048 .f32) (fun β => β (0 : Fin 3) < 1) (P := fun i : S2x256x2048.Idx => (i 0).val < 1)
    (by decide +kernel) (fun t hf y => ?_) (fun j => by blk_simp [Pipeline.Window.cell_apply]; rw [Nat.div_one])).trans ?_
  swap
  · funext i
    show (if (i 0).val < 1 then _ else (dats m 0 c).A 10 i) = _
    rw [show (dats m 0 c).A 10 = over7 m c from (A_eq m c 10).trans (entry7 m c)]
    rfl
  refine (congrFun ((after0_10 m c t).trans ((point_second m c t).trans (tile_second m c t))) y).trans ?_
  have hp : (win0_10.blk t).view.emb y = place t y := (places t y).2.2.2.2.2.2
  show _ = (fun i => second (grad (partials m c) i) (square m c i) : FVec Ideal S2x256x2048 .f32) ((win0_10.blk t).view.emb y)
  rw [hp]

end blocks

/-! ### The reference -/

section reference
variable (X : FVec Ideal S4x1x256x2048 .bf16) (W P Q B : FVec Ideal S2x256x2048 .f32)

/-- The same entry of an array with one layer. -/
abbrev down (i : S2x256x2048.Idx) : Cert.AdamOutReferenceIdeal.S1x256x2048.Idx := ValueIdx.ix3 0 (i 1) (i 2)

/-- The same entry of the layers after the first. -/
abbrev rest (i : S2x256x2048.Idx) : Cert.AdamOutReferenceIdeal.S1x256x2048.Idx := ValueIdx.ix3 ⟨(i 0).val - 1, by have h : (i 0).val < 2 := (i 0).isLt; omega⟩ (i 1) (i 2)

/-- One layer and the layers after it, joined. -/
theorem join (A : FVec Ideal Cert.AdamOutReferenceIdeal.S1x256x2048 .f32) (T : FVec Ideal Cert.AdamOutReferenceIdeal.S1x256x2048 .f32) (G : S2x256x2048.Idx → EReal) (hA : ∀ i : S2x256x2048.Idx, (i 0).val < 1 → A (down i) = G i)
    (hT : ∀ i : S2x256x2048.Idx, ¬ (i 0).val < 1 → T (rest i) = B i) (h : Shape.Concatenates [Cert.AdamOutReferenceIdeal.S1x256x2048, Cert.AdamOutReferenceIdeal.S1x256x2048] S2x256x2048 0) :
    concatenate S2x256x2048 0 [⟨Cert.AdamOutReferenceIdeal.S1x256x2048, A⟩, ⟨Cert.AdamOutReferenceIdeal.S1x256x2048, T⟩] h = layer G B := by
  funext i
  unfold layer
  simp only [pointwise]
  split
  · rename_i hi
    refine Eq.trans ?_ (if_pos (show (i 0).val < 1 from hi)).symm
    exact (congrArg A (funext fun a => Fin.ext (by match a with
      | ⟨0, _⟩ => exact Nat.lt_one_iff.mp hi
      | ⟨1, _⟩ => rfl
      | ⟨2, _⟩ => rfl))).trans (hA i hi)
  · rename_i hi
    refine Eq.trans ?_ (if_neg (show ¬ (i 0).val < 1 from hi)).symm
    exact (congrArg T (funext fun a => Fin.ext (by match a with
      | ⟨0, _⟩ => rfl
      | ⟨1, _⟩ => rfl
      | ⟨2, _⟩ => rfl))).trans (hT i hi)

theorem sum_at (i : S2x256x2048.Idx) : Cert.AdamOutReferenceIdeal.Read.val_main_v1 (F := Ideal) X (down i) = grad X i := by
  rw [Cert.AdamOutReferenceIdeal.Read.val_main_v1_apply]
  show FloatOps.ofBits (F := Ideal) .f32 0x00000000#32 + _ = _
  rw [ofBits_zero]
  exact (zero_add _).trans (Finset.sum_congr rfl fun p _ => congrArg X (ext4 rfl rfl rfl rfl))

theorem at_weight (i : S2x256x2048.Idx) (h : (i 0).val < 1) : Cert.AdamOutReferenceIdeal.Read.val_main_v2 (F := Ideal) W (down i) = W i := by
  rw [Cert.AdamOutReferenceIdeal.Read.val_main_v2_apply]
  exact congrArg W (ext3 (Nat.lt_one_iff.mp h).symm rfl rfl)

theorem at_moment (i : S2x256x2048.Idx) (h : (i 0).val < 1) : Cert.AdamOutReferenceIdeal.Read.val_main_v3 (F := Ideal) P (down i) = P i := by
  rw [Cert.AdamOutReferenceIdeal.Read.val_main_v3_apply]
  exact congrArg P (ext3 (Nat.lt_one_iff.mp h).symm rfl rfl)

theorem at_square (i : S2x256x2048.Idx) (h : (i 0).val < 1) : Cert.AdamOutReferenceIdeal.Read.val_main_v4 (F := Ideal) Q (down i) = Q i := by
  rw [Cert.AdamOutReferenceIdeal.Read.val_main_v4_apply]
  exact congrArg Q (ext3 (Nat.lt_one_iff.mp h).symm rfl rfl)

theorem tail_29 (i : S2x256x2048.Idx) (h : ¬ (i 0).val < 1) : Cert.AdamOutReferenceIdeal.Read.val_main_v29 (F := Ideal) B (rest i) = B i := by
  rw [Cert.AdamOutReferenceIdeal.Read.val_main_v29_apply]
  exact congrArg B (ext3 (by show 1 + ((i 0).val - 1) = (i 0).val; omega) rfl rfl)

theorem tail_31 (i : S2x256x2048.Idx) (h : ¬ (i 0).val < 1) : Cert.AdamOutReferenceIdeal.Read.val_main_v31 (F := Ideal) B (rest i) = B i := by
  rw [Cert.AdamOutReferenceIdeal.Read.val_main_v31_apply]
  exact congrArg B (ext3 (by show 1 + ((i 0).val - 1) = (i 0).val; omega) rfl rfl)

theorem tail_33 (i : S2x256x2048.Idx) (h : ¬ (i 0).val < 1) : Cert.AdamOutReferenceIdeal.Read.val_main_v33 (F := Ideal) B (rest i) = B i := by
  rw [Cert.AdamOutReferenceIdeal.Read.val_main_v33_apply]
  exact congrArg B (ext3 (by show 1 + ((i 0).val - 1) = (i 0).val; omega) rfl rfl)

theorem tail_35 (i : S2x256x2048.Idx) (h : ¬ (i 0).val < 1) : Cert.AdamOutReferenceIdeal.Read.val_main_v35 (F := Ideal) B (rest i) = B i := by
  rw [Cert.AdamOutReferenceIdeal.Read.val_main_v35_apply]
  exact congrArg B (ext3 (by show 1 + ((i 0).val - 1) = (i 0).val; omega) rfl rfl)

theorem ref_grad : Cert.AdamOutReferenceIdeal.Read.val_main_v30 (F := Ideal) X B = layer (fun i => grad X i) B :=
  join B _ _ _ (fun i _ => sum_at X i) (tail_29 B) _

theorem ref_first : Cert.AdamOutReferenceIdeal.Read.val_main_v34 (F := Ideal) X P B = layer (fun i => first (grad X i) (P i)) B :=
  join B _ _ _ (fun i h => congrArg₂ first (sum_at X i) (at_moment P i h)) (tail_33 B) _

theorem ref_second : Cert.AdamOutReferenceIdeal.Read.val_main_v36 (F := Ideal) X Q B = layer (fun i => second (grad X i) (Q i)) B :=
  join B _ _ _ (fun i h => congrArg₂ second (sum_at X i) (at_square Q i h)) (tail_35 B) _

theorem ref_change : Cert.AdamOutReferenceIdeal.Read.val_main_v32 (F := Ideal) X W P Q B = layer (fun i => change (W i) (grad X i) (P i) (Q i)) B :=
  join B _ _ _ (fun i h => cong4 change (at_weight W i h) (sum_at X i) (at_moment P i h) (at_square Q i h)) (tail_31 B) _

end reference

theorem values : Cert.algebraic_AdamOutIdeal_AdamOutReferenceIdeal := fun m ρ m' ρ' _ ha => by
  refine ⟨fun c => (dats m 0 c).arrAt 7 cfg0.N, fun c => (dats m 0 c).arrAt 8 cfg0.N, fun c => (dats m 0 c).arrAt 9 cfg0.N,
    fun c => (dats m 0 c).arrAt 10 cfg0.N, Cert.AdamOutIdeal.Value.run_blocks m ρ, ?_⟩
  refine (θ_run Cert.AdamOutReferenceIdeal.defs _ _).mono
    (fun _ h c => ⟨(h c).1.trans ?_, (h c).2.1.trans ?_, (h c).2.2.1.trans ?_, (h c).2.2.2.1.trans ?_, (h c).2.2.2.2⟩)
    (Cert.AdamOutReferenceIdeal.Value.run (F := Ideal) m' ρ')
  all_goals obtain ⟨h0, h1, h2, h3, h4, h5, h6, h7⟩ := ha c
  · exact (congrArg₂ (Cert.AdamOutReferenceIdeal.Read.val_main_v30 (F := Ideal)) h0 h4).trans ((ref_grad _ _).trans (arr_grad m c).symm)
  · exact (cong5 (Cert.AdamOutReferenceIdeal.Read.val_main_v32 (F := Ideal)) h0 h1 h2 h3 h5).trans ((ref_change _ _ _ _ _).trans (arr_change m c).symm)
  · exact (cong3 (Cert.AdamOutReferenceIdeal.Read.val_main_v34 (F := Ideal)) h0 h2 h6).trans ((ref_first _ _ _).trans (arr_first m c).symm)
  · exact (cong3 (Cert.AdamOutReferenceIdeal.Read.val_main_v36 (F := Ideal)) h0 h3 h7).trans ((ref_second _ _ _).trans (arr_second m c).symm)

theorem frame_ideal : Cert.quiescent_AdamOutIdeal := fun m ρ _ => Cert.AdamOutIdeal.Gen.frame m ρ

theorem frame_reference : Cert.quiescent_AdamOutReferenceIdeal := fun m ρ _ =>
  (θ_run Cert.AdamOutReferenceIdeal.defs _ _).mono (fun r h => ⟨fun c => (h c).2.2.2.2, sem_eq_zero_of_no_sems (by decide) r.2⟩)
    (Cert.AdamOutReferenceIdeal.Value.run (F := Ideal) m ρ)

theorem body_same {F : FTy → Type} [FloatOps F] : Cert.AdamOutIdeal.cc0_adam_big (F := F) = Cert.AdamOut.cc0_adam_big (F := F) := rfl

theorem bodies_same {F : FTy → Type} [FloatOps F] : Cert.AdamOutIdeal.defs₀ (F := F) = Cert.AdamOut.defs₀ (F := F) := by
  refine congrArg (Defs.onTc (nD := Cert.AdamOut.nD) (τ := Cert.AdamOut.τ)) (funext fun l => funext fun a => ?_)
  match l, a with
  | 0, (t, s) => dsimp only; rw [body_same]; rfl

theorem defs_same {F : FTy → Type} [FloatOps F] : Cert.AdamOutIdeal.defs (F := F) = Cert.AdamOut.defs (F := F) :=
  congrArg (Pipeline.defs (Cert.AdamOut.pcfgs (F := F))) bodies_same

theorem frame_kernel : Cert.quiescent_AdamOut := fun m ρ _ => by
  rw [← defs_same]
  exact Cert.AdamOutIdeal.Gen.frame (F := Bits) m ρ

end Cert.AdamOutIdeal.Tiles

end
-- ==== Proof.AdamUp.lean ====
/- The optimiser's step on the feed-forward layer's first weight, in one layer: every entry of the four results is the same function of the entries of the partial
   gradients, the weight and the moments on both sides. -/
module

public import proofs.«01_k».proof.Defs
public import proofs.«01_k».proof.Proof.Adam
public import proofs.«01_k».proof.Proof.Gen.AdamUp
public import proofs.«01_k».proof.Proof.Gen.AdamUpIdeal
public import proofs.«01_k».proof.Proof.Gen.AdamUpIdeal.Value
public import proofs.«01_k».proof.Proof.Gen.AdamUpReferenceIdeal
public import proofs.«01_k».proof.Proof.Gen.AdamUpReferenceIdeal.Run
public import proofs.«01_k».proof.Proof.Gen.AdamUpReferenceIdeal.Read
public import Idealize.ShloMosaic.Lib.Pipeline.ValueKit

@[expose] public section

set_option maxRecDepth 16384
set_option maxHeartbeats 400000

noncomputable section

namespace Cert.AdamUpIdeal.Tiles

open Cert.AdamUpIdeal.Gen
open Idealize.ShloMosaic Idealize.ShloMosaic.TcCoe Idealize.ShloMosaic.Tactic
open Cert.Prod Cert.Adam

variable (m : (ℓ : Loc nD τ sig) → Buf (Elt Ideal) ℓ) (c : Dev nD)

/-- The entry of a block of the partial gradients in the place of an entry of the weight's block. -/
abbrev up (y : S1x128x1408.Idx) : S1x1x128x1408.Idx := ValueIdx.ix4 0 0 (y 1) (y 2)

section pays
variable (P0 P1 P2 P3 : FVec Ideal S1x1x128x1408 .bf16) (W P Q : FVec Ideal S1x128x1408 .f32) (y : S1x128x1408.Idx)

/-- The four partial gradients of one entry, added. -/
abbrev four : EReal := P0 (up y) + P1 (up y) + P2 (up y) + P3 (up y)

theorem pay_sum : (k0_pay2 (F := Ideal) (k0_pay6 P0 P1 P2 P3) y : EReal) = four P0 P1 P2 P3 y := by
  simp only [k0_pay2, k0_pay6, pointwise]
  rfl

theorem pay_first : (k0_pay4 (F := Ideal) (k0_pay8 P0 P1 P2 P3 P) y : EReal) = first (four P0 P1 P2 P3 y) (P y) := by
  simp only [k0_pay4, k0_pay8, k0_pay6, pointwise]
  rfl

theorem pay_second : (k0_pay5 (F := Ideal) (k0_pay9 Q) (k0_pay10 P0 P1 P2 P3) (k 0x3A83126F#32) y : EReal) = second (four P0 P1 P2 P3 y) (Q y) := by
  simp only [k0_pay5, k0_pay1, k0_pay9, k0_pay10, k0_pay6, pointwise]
  rfl

theorem pay_change : (k0_pay3 (F := Ideal) (k0_pay7 W) (k0_pay8 P0 P1 P2 P3 P) (k0_pay9 Q) (k0_pay10 P0 P1 P2 P3) (k 0x3A83126F#32) y : EReal)
    = change (W y) (four P0 P1 P2 P3 y) (P y) (Q y) := by
  simp only [k0_pay3, k0_pay1, k0_pay7, k0_pay8, k0_pay9, k0_pay10, k0_pay6, pointwise]
  rfl
end pays

theorem e0 : ∀ t : Fin cfg0.N, win0_0.index t = ![0, 0, t.val, 0] := (by decide +kernel : ∀ t : Fin grid0.N, _)
theorem e1 : ∀ t : Fin cfg0.N, win0_1.index t = ![1, 0, t.val, 0] := (by decide +kernel : ∀ t : Fin grid0.N, _)
theorem e2 : ∀ t : Fin cfg0.N, win0_2.index t = ![2, 0, t.val, 0] := (by decide +kernel : ∀ t : Fin grid0.N, _)
theorem e3 : ∀ t : Fin cfg0.N, win0_3.index t = ![3, 0, t.val, 0] := (by decide +kernel : ∀ t : Fin grid0.N, _)
theorem e4 : ∀ t : Fin cfg0.N, win0_4.index t = ![0, t.val, 0] := (by decide +kernel : ∀ t : Fin grid0.N, _)
theorem e5 : ∀ t : Fin cfg0.N, win0_5.index t = ![0, t.val, 0] := (by decide +kernel : ∀ t : Fin grid0.N, _)
theorem e6 : ∀ t : Fin cfg0.N, win0_6.index t = ![0, t.val, 0] := (by decide +kernel : ∀ t : Fin grid0.N, _)
theorem e7 : ∀ t : Fin cfg0.N, win0_7.index t = ![0, t.val, 0] := (by decide +kernel : ∀ t : Fin grid0.N, _)
theorem e8 : ∀ t : Fin cfg0.N, win0_8.index t = ![0, t.val, 0] := (by decide +kernel : ∀ t : Fin grid0.N, _)
theorem e9 : ∀ t : Fin cfg0.N, win0_9.index t = ![0, t.val, 0] := (by decide +kernel : ∀ t : Fin grid0.N, _)
theorem e10 : ∀ t : Fin cfg0.N, win0_10.index t = ![0, t.val, 0] := (by decide +kernel : ∀ t : Fin grid0.N, _)

/-- The entry of a whole array in the place of entry `y` of block `t`. -/
abbrev place (t : Fin cfg0.N) (y : S1x128x1408.Idx) : S4x2048x1408.Idx := fun a => match a with
  | ⟨0, _⟩ => ⟨0, by show 0 < 4; omega⟩
  | ⟨1, _⟩ => ⟨128 * t.val + (y 1).val, by
      have h := t.isLt
      have h' : (y 1).val < 128 := (y 1).isLt
      have : cfg0.N = 16 := by decide
      show 128 * t.val + (y 1).val < 2048; omega⟩
  | ⟨2, _⟩ => ⟨(y 2).val, (y 2).isLt⟩

/-- The entry of part `p` of the gradient that belongs to entry `i` of the weight. -/
abbrev part (i : S4x2048x1408.Idx) (p : Fin 4) : S4x1x2048x1408.Idx := ValueIdx.ix4 p 0 (i 1) (i 2)

theorem places (t : Fin cfg0.N) (y : S1x128x1408.Idx) :
    (win0_4.blk t).view.emb y = place t y
      ∧ (win0_5.blk t).view.emb y = place t y
      ∧ (win0_6.blk t).view.emb y = place t y
      ∧ (win0_7.blk t).view.emb y = place t y
      ∧ (win0_8.blk t).view.emb y = place t y
      ∧ (win0_9.blk t).view.emb y = place t y
      ∧ (win0_10.blk t).view.emb y = place t y := by
  have hz : (y 0).val = 0 := Nat.lt_one_iff.mp (y 0).isLt
  refine ⟨?_, ?_, ?_, ?_, ?_, ?_, ?_⟩
  all_goals
    refine ext3 (Eq.trans ?_ (show 0 = (place t y 0).val from rfl)) (Eq.trans ?_ (show 128 * t.val + (y 1).val = (place t y 1).val from rfl))
      (Eq.trans ?_ (show (y 2).val = (place t y 2).val from rfl))
    · blk_simp [e4, e5, e6, e7, e8, e9, e10]; try omega
    · blk_simp [e4, e5, e6, e7, e8, e9, e10]; try omega
    · blk_simp [e4, e5, e6, e7, e8, e9, e10]; try omega

theorem parts (t : Fin cfg0.N) (y : S1x128x1408.Idx) :
    (win0_0.blk t).view.emb (up y) = part (place t y) 0
      ∧ (win0_1.blk t).view.emb (up y) = part (place t y) 1
      ∧ (win0_2.blk t).view.emb (up y) = part (place t y) 2
      ∧ (win0_3.blk t).view.emb (up y) = part (place t y) 3 := by
  refine ⟨?_, ?_, ?_, ?_⟩
  all_goals
    refine ext4 ?_ (Eq.trans ?_ (show 0 = (part (place t y) 0 1).val from rfl)) (Eq.trans ?_ (show 128 * t.val + (y 1).val = (place t y 1).val from rfl))
      (Eq.trans ?_ (show (y 2).val = (place t y 2).val from rfl))
    · blk_simp [e0, e1, e2, e3]; try rfl
    · blk_simp [e0, e1, e2, e3]; try rfl
    · blk_simp [e0, e1, e2, e3]; first | done | rfl | exact congrArg (· + (y 1).val) (Nat.mul_comm _ _)
    · blk_simp [e0, e1, e2, e3]; try rfl

section left
variable (t : Fin cfg0.N) (x0 x1 x2 x3 : Vec Ideal S1x1x128x1408 .bf16) (x4 x5 x6 : Vec Ideal S1x128x1408 .f32)

theorem left7 : out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay2 (k0_pay6 x0 x1 x2 x3) := by
  unfold out0_A_7
  rw [View.read_writes_eq_canon _ _ _ (fun y => cover0_A_7 _ _ _ _ _ _ _ _ _ _ _ _ _ _ _ _ _ _ _ _ _ _ _ _ _ _ _ _ _ _ _ y)]
  unfold kernelRun0_A
  refine (View.canon_cons_unit_lit _ _ _ (by decide)).trans ?_
  exact congrArg k0_pay2 (cong4 k0_pay6 (load_whole _ x0 _ (by decide)) (load_whole _ x1 _ (by decide)) (load_whole _ x2 _ (by decide)) (load_whole _ x3 _ (by decide)))

theorem left8 : out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay3 (k0_pay7 x4) (k0_pay8 x0 x1 x2 x3 x5) (k0_pay9 x6) (k0_pay10 x0 x1 x2 x3) (k 0x3A83126F#32) := by
  unfold out0_A_8
  rw [View.read_writes_eq_canon _ _ _ (fun y => cover0_A_8 _ _ _ _ _ _ _ _ _ _ _ _ _ _ _ _ _ _ _ _ _ _ _ _ _ _ _ _ _ _ _ y)]
  unfold kernelRun0_A
  refine (View.canon_cons_unit_lit _ _ _ (by decide)).trans ?_
  exact cong5 k0_pay3 (congrArg k0_pay7 (load_whole _ x4 _ (by decide))) (cong5 k0_pay8 (load_whole _ x0 _ (by decide)) (load_whole _ x1 _ (by decide)) (load_whole _ x2 _ (by decide)) (load_whole _ x3 _ (by decide)) (load_whole _ x5 _ (by decide))) (congrArg k0_pay9 (load_whole _ x6 _ (by decide))) (cong4 k0_pay10 (load_whole _ x0 _ (by decide)) (load_whole _ x1 _ (by decide)) (load_whole _ x2 _ (by decide)) (load_whole _ x3 _ (by decide))) rfl

theorem left9 : out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay4 (k0_pay8 x0 x1 x2 x3 x5) := by
  unfold out0_A_9
  rw [View.read_writes_eq_canon _ _ _ (fun y => cover0_A_9 _ _ _ _ _ _ _ _ _ _ _ _ _ _ _ _ _ _ _ _ _ _ _ _ _ _ _ _ _ _ _ y)]
  unfold kernelRun0_A
  refine (View.canon_cons_unit_lit _ _ _ (by decide)).trans ?_
  exact congrArg k0_pay4 (cong5 k0_pay8 (load_whole _ x0 _ (by decide)) (load_whole _ x1 _ (by decide)) (load_whole _ x2 _ (by decide)) (load_whole _ x3 _ (by decide)) (load_whole _ x5 _ (by decide)))

theorem left10 : out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay5 (k0_pay9 x6) (k0_pay10 x0 x1 x2 x3) (k 0x3A83126F#32) := by
  unfold out0_A_10
  rw [View.read_writes_eq_canon _ _ _ (fun y => cover0_A_10 _ _ _ _ _ _ _ _ _ _ _ _ _ _ _ _ _ _ _ _ _ _ _ _ _ _ _ _ _ _ _ y)]
  unfold kernelRun0_A
  refine (View.canon_cons_unit_lit _ _ _ (by decide)).trans ?_
  exact cong3 k0_pay5 (congrArg k0_pay9 (load_whole _ x6 _ (by decide))) (cong4 k0_pay10 (load_whole _ x0 _ (by decide)) (load_whole _ x1 _ (by decide)) (load_whole _ x2 _ (by decide)) (load_whole _ x3 _ (by decide))) rfl

end left

section blocks
variable (t : Fin cfg0.N) (y : S1x128x1408.Idx)

/-- The four arrays the kernel reads, by their names in the program. -/
abbrev partials : FVec Ideal S4x1x2048x1408 .bf16 := m ((c.tc : Thread nD τ).loc main_arg0)
abbrev weight : FVec Ideal S4x2048x1408 .f32 := m ((c.tc : Thread nD τ).loc main_arg1)
abbrev moment : FVec Ideal S4x2048x1408 .f32 := m ((c.tc : Thread nD τ).loc main_arg2)
abbrev square : FVec Ideal S4x2048x1408 .f32 := m ((c.tc : Thread nD τ).loc main_arg3)

/-- The arrays the call writes over. -/
abbrev over4 : FVec Ideal S4x2048x1408 .f32 := m ((c.tc : Thread nD τ).loc main_arg4)
abbrev over5 : FVec Ideal S4x2048x1408 .f32 := m ((c.tc : Thread nD τ).loc main_arg5)
abbrev over6 : FVec Ideal S4x2048x1408 .f32 := m ((c.tc : Thread nD τ).loc main_arg6)
abbrev over7 : FVec Ideal S4x2048x1408 .f32 := m ((c.tc : Thread nD τ).loc main_arg7)

theorem entry4 : V m c main_v0_0 = over4 m c := by
  show StableHlo.after hostOps0 _ _ = _
  after_results_simp
  try rfl

theorem entry5 : V m c main_v0_1 = over5 m c := by
  show StableHlo.after hostOps0 _ _ = _
  after_results_simp
  try rfl

theorem entry6 : V m c main_v0_2 = over6 m c := by
  show StableHlo.after hostOps0 _ _ = _
  after_results_simp
  try rfl

theorem entry7 : V m c main_v0_3 = over7 m c := by
  show StableHlo.after hostOps0 _ _ = _
  after_results_simp
  try rfl

/-- The gradient of one entry: the sum of its four parts. -/
def grad (X : FVec Ideal S4x1x2048x1408 .bf16) (i : S4x2048x1408.Idx) : EReal := ∑ p : Fin 4, X (part i p)

theorem block_grad : four (iblk m c 0 t) (iblk m c 1 t) (iblk m c 2 t) (iblk m c 3 t) y = grad (partials m c) (place t y) := by
  obtain ⟨h0, h1, h2, h3⟩ := parts t y
  refine Eq.trans ?_ (Fin.sum_univ_four _).symm
  rw [← h0, ← h1, ← h2, ← h3]
  rfl

theorem block_weight : (iblk m c 4 t : FVec Ideal S1x128x1408 .f32) y = weight m c (place t y) := congrArg (weight m c) (places t y).1
theorem block_moment : (iblk m c 5 t : FVec Ideal S1x128x1408 .f32) y = moment m c (place t y) := congrArg (moment m c) (places t y).2.1
theorem block_square : (iblk m c 6 t : FVec Ideal S1x128x1408 .f32) y = square m c (place t y) := congrArg (square m c) (places t y).2.2.1

/-- What point `t` leaves in output 0. -/
theorem point_grad : (outsAt0 m c t).1 = k0_pay2 (k0_pay6 (iblk m c 0 t) (iblk m c 1 t) (iblk m c 2 t) (iblk m c 3 t)) := by
  unfold outsAt0
  dsimp only
  exact left7 c t (iblk m c 0 t) (iblk m c 1 t) (iblk m c 2 t) (iblk m c 3 t) (iblk m c 4 t) (iblk m c 5 t) (iblk m c 6 t)

theorem tile_grad : k0_pay2 (k0_pay6 (iblk m c 0 t) (iblk m c 1 t) (iblk m c 2 t) (iblk m c 3 t))
    = (fun y => grad (partials m c) (place t y) : FVec Ideal S1x128x1408 .f32) := by
  funext y
  exact (pay_sum _ _ _ _ y).trans ((block_grad m c t y))

theorem arr_grad : (dats m 0 c).arrAt 7 cfg0.N = layer (fun i => grad (partials m c) i) (over4 m c) := by
  refine ((dats m 0 c).arrAt_eq_of_coversWhere 7 (fun i => grad (partials m c) i : FVec Ideal S4x2048x1408 .f32) (fun β => β (0 : Fin 3) < 1) (P := fun i : S4x2048x1408.Idx => (i 0).val < 1)
    (by decide +kernel) (fun t hf y => ?_) (fun j => by blk_simp [Pipeline.Window.cell_apply]; rw [Nat.div_one])).trans ?_
  swap
  · funext i
    show (if (i 0).val < 1 then _ else (dats m 0 c).A 7 i) = _
    rw [show (dats m 0 c).A 7 = over4 m c from (A_eq m c 7).trans (entry4 m c)]
    rfl
  refine (congrFun ((after0_7 m c t).trans ((point_grad m c t).trans (tile_grad m c t))) y).trans ?_
  have hp : (win0_7.blk t).view.emb y = place t y := (places t y).2.2.2.1
  show _ = (fun i => grad (partials m c) i : FVec Ideal S4x2048x1408 .f32) ((win0_7.blk t).view.emb y)
  rw [hp]

/-- What point `t` leaves in output 1. -/
theorem point_change : (outsAt0 m c t).2.1 = k0_pay3 (k0_pay7 (iblk m c 4 t)) (k0_pay8 (iblk m c 0 t) (iblk m c 1 t) (iblk m c 2 t) (iblk m c 3 t) (iblk m c 5 t)) (k0_pay9 (iblk m c 6 t)) (k0_pay10 (iblk m c 0 t) (iblk m c 1 t) (iblk m c 2 t) (iblk m c 3 t)) (k 0x3A83126F#32) := by
  unfold outsAt0
  dsimp only
  exact left8 c t (iblk m c 0 t) (iblk m c 1 t) (iblk m c 2 t) (iblk m c 3 t) (iblk m c 4 t) (iblk m c 5 t) (iblk m c 6 t)

theorem tile_change : k0_pay3 (k0_pay7 (iblk m c 4 t)) (k0_pay8 (iblk m c 0 t) (iblk m c 1 t) (iblk m c 2 t) (iblk m c 3 t) (iblk m c 5 t)) (k0_pay9 (iblk m c 6 t)) (k0_pay10 (iblk m c 0 t) (iblk m c 1 t) (iblk m c 2 t) (iblk m c 3 t)) (k 0x3A83126F#32)
    = (fun y => change (weight m c (place t y)) (grad (partials m c) (place t y)) (moment m c (place t y)) (square m c (place t y)) : FVec Ideal S1x128x1408 .f32) := by
  funext y
  exact (pay_change _ _ _ _ _ _ _ y).trans (cong4 change (block_weight m c t y) (block_grad m c t y) (block_moment m c t y) (block_square m c t y))

theorem arr_change : (dats m 0 c).arrAt 8 cfg0.N = layer (fun i => change (weight m c i) (grad (partials m c) i) (moment m c i) (square m c i)) (over5 m c) := by
  refine ((dats m 0 c).arrAt_eq_of_coversWhere 8 (fun i => change (weight m c i) (grad (partials m c) i) (moment m c i) (square m c i) : FVec Ideal S4x2048x1408 .f32) (fun β => β (0 : Fin 3) < 1) (P := fun i : S4x2048x1408.Idx => (i 0).val < 1)
    (by decide +kernel) (fun t hf y => ?_) (fun j => by blk_simp [Pipeline.Window.cell_apply]; rw [Nat.div_one])).trans ?_
  swap
  · funext i
    show (if (i 0).val < 1 then _ else (dats m 0 c).A 8 i) = _
    rw [show (dats m 0 c).A 8 = over5 m c from (A_eq m c 8).trans (entry5 m c)]
    rfl
  refine (congrFun ((after0_8 m c t).trans ((point_change m c t).trans (tile_change m c t))) y).trans ?_
  have hp : (win0_8.blk t).view.emb y = place t y := (places t y).2.2.2.2.1
  show _ = (fun i => change (weight m c i) (grad (partials m c) i) (moment m c i) (square m c i) : FVec Ideal S4x2048x1408 .f32) ((win0_8.blk t).view.emb y)
  rw [hp]

/-- What point `t` leaves in output 2. -/
theorem point_first : (outsAt0 m c t).2.2.1 = k0_pay4 (k0_pay8 (iblk m c 0 t) (iblk m c 1 t) (iblk m c 2 t) (iblk m c 3 t) (iblk m c 5 t)) := by
  unfold outsAt0
  dsimp only
  exact left9 c t (iblk m c 0 t) (iblk m c 1 t) (iblk m c 2 t) (iblk m c 3 t) (iblk m c 4 t) (iblk m c 5 t) (iblk m c 6 t)

theorem tile_first : k0_pay4 (k0_pay8 (iblk m c 0 t) (iblk m c 1 t) (iblk m c 2 t) (iblk m c 3 t) (iblk m c 5 t))
    = (fun y => first (grad (partials m c) (place t y)) (moment m c (place t y)) : FVec Ideal S1x128x1408 .f32) := by
  funext y
  exact (pay_first _ _ _ _ _ y).trans (congrArg₂ first (block_grad m c t y) (block_moment m c t y))

theorem arr_first : (dats m 0 c).arrAt 9 cfg0.N = layer (fun i => first (grad (partials m c) i) (moment m c i)) (over6 m c) := by
  refine ((dats m 0 c).arrAt_eq_of_coversWhere 9 (fun i => first (grad (partials m c) i) (moment m c i) : FVec Ideal S4x2048x1408 .f32) (fun β => β (0 : Fin 3) < 1) (P := fun i : S4x2048x1408.Idx => (i 0).val < 1)
    (by decide +kernel) (fun t hf y => ?_) (fun j => by blk_simp [Pipeline.Window.cell_apply]; rw [Nat.div_one])).trans ?_
  swap
  · funext i
    show (if (i 0).val < 1 then _ else (dats m 0 c).A 9 i) = _
    rw [show (dats m 0 c).A 9 = over6 m c from (A_eq m c 9).trans (entry6 m c)]
    rfl
  refine (congrFun ((after0_9 m c t).trans ((point_first m c t).trans (tile_first m c t))) y).trans ?_
  have hp : (win0_9.blk t).view.emb y = place t y := (places t y).2.2.2.2.2.1
  show _ = (fun i => first (grad (partials m c) i) (moment m c i) : FVec Ideal S4x2048x1408 .f32) ((win0_9.blk t).view.emb y)
  rw [hp]

/-- What point `t` leaves in output 3. -/
theorem point_second : (outsAt0 m c t).2.2.2 = k0_pay5 (k0_pay9 (iblk m c 6 t)) (k0_pay10 (iblk m c 0 t) (iblk m c 1 t) (iblk m c 2 t) (iblk m c 3 t)) (k 0x3A83126F#32) := by
  unfold outsAt0
  dsimp only
  exact left10 c t (iblk m c 0 t) (iblk m c 1 t) (iblk m c 2 t) (iblk m c 3 t) (iblk m c 4 t) (iblk m c 5 t) (iblk m c 6 t)

theorem tile_second : k0_pay5 (k0_pay9 (iblk m c 6 t)) (k0_pay10 (iblk m c 0 t) (iblk m c 1 t) (iblk m c 2 t) (iblk m c 3 t)) (k 0x3A83126F#32)
    = (fun y => second (grad (partials m c) (place t y)) (square m c (place t y)) : FVec Ideal S1x128x1408 .f32) := by
  funext y
  exact (pay_second _ _ _ _ _ y).trans (congrArg₂ second (block_grad m c t y) (block_square m c t y))

theorem arr_second : (dats m 0 c).arrAt 10 cfg0.N = layer (fun i => second (grad (partials m c) i) (square m c i)) (over7 m c) := by
  refine ((dats m 0 c).arrAt_eq_of_coversWhere 10 (fun i => second (grad (partials m c) i) (square m c i) : FVec Ideal S4x2048x1408 .f32) (fun β => β (0 : Fin 3) < 1) (P := fun i : S4x2048x1408.Idx => (i 0).val < 1)
    (by decide +kernel) (fun t hf y => ?_) (fun j => by blk_simp [Pipeline.Window.cell_apply]; rw [Nat.div_one])).trans ?_
  swap
  · funext i
    show (if (i 0).val < 1 then _ else (dats m 0 c).A 10 i) = _
    rw [show (dats m 0 c).A 10 = over7 m c from (A_eq m c 10).trans (entry7 m c)]
    rfl
  refine (congrFun ((after0_10 m c t).trans ((point_second m c t).trans (tile_second m c t))) y).trans ?_
  have hp : (win0_10.blk t).view.emb y = place t y := (places t y).2.2.2.2.2.2
  show _ = (fun i => second (grad (partials m c) i) (square m c i) : FVec Ideal S4x2048x1408 .f32) ((win0_10.blk t).view.emb y)
  rw [hp]

end blocks

/-! ### The reference -/

section reference
variable (X : FVec Ideal S4x1x2048x1408 .bf16) (W P Q B : FVec Ideal S4x2048x1408 .f32)

/-- The same entry of an array with one layer. -/
abbrev down (i : S4x2048x1408.Idx) : Cert.AdamUpReferenceIdeal.S1x2048x1408.Idx := ValueIdx.ix3 0 (i 1) (i 2)

/-- The same entry of the layers after the first. -/
abbrev rest (i : S4x2048x1408.Idx) : Cert.AdamUpReferenceIdeal.S3x2048x1408.Idx := ValueIdx.ix3 ⟨(i 0).val - 1, by have h : (i 0).val < 4 := (i 0).isLt; omega⟩ (i 1) (i 2)

/-- One layer and the layers after it, joined. -/
theorem join (A : FVec Ideal Cert.AdamUpReferenceIdeal.S1x2048x1408 .f32) (T : FVec Ideal Cert.AdamUpReferenceIdeal.S3x2048x1408 .f32) (G : S4x2048x1408.Idx → EReal) (hA : ∀ i : S4x2048x1408.Idx, (i 0).val < 1 → A (down i) = G i)
    (hT : ∀ i : S4x2048x1408.Idx, ¬ (i 0).val < 1 → T (rest i) = B i) (h : Shape.Concatenates [Cert.AdamUpReferenceIdeal.S1x2048x1408, Cert.AdamUpReferenceIdeal.S3x2048x1408] S4x2048x1408 0) :
    concatenate S4x2048x1408 0 [⟨Cert.AdamUpReferenceIdeal.S1x2048x1408, A⟩, ⟨Cert.AdamUpReferenceIdeal.S3x2048x1408, T⟩] h = layer G B := by
  funext i
  unfold layer
  simp only [pointwise]
  split
  · rename_i hi
    refine Eq.trans ?_ (if_pos (show (i 0).val < 1 from hi)).symm
    exact (congrArg A (funext fun a => Fin.ext (by match a with
      | ⟨0, _⟩ => exact Nat.lt_one_iff.mp hi
      | ⟨1, _⟩ => rfl
      | ⟨2, _⟩ => rfl))).trans (hA i hi)
  · rename_i hi
    refine Eq.trans ?_ (if_neg (show ¬ (i 0).val < 1 from hi)).symm
    exact (congrArg T (funext fun a => Fin.ext (by match a with
      | ⟨0, _⟩ => rfl
      | ⟨1, _⟩ => rfl
      | ⟨2, _⟩ => rfl))).trans (hT i hi)

theorem sum_at (i : S4x2048x1408.Idx) : Cert.AdamUpReferenceIdeal.Read.val_main_v1 (F := Ideal) X (down i) = grad X i := by
  rw [Cert.AdamUpReferenceIdeal.Read.val_main_v1_apply]
  show FloatOps.ofBits (F := Ideal) .f32 0x00000000#32 + _ = _
  rw [ofBits_zero]
  exact (zero_add _).trans (Finset.sum_congr rfl fun p _ => congrArg X (ext4 rfl rfl rfl rfl))

theorem at_weight (i : S4x2048x1408.Idx) (h : (i 0).val < 1) : Cert.AdamUpReferenceIdeal.Read.val_main_v2 (F := Ideal) W (down i) = W i := by
  rw [Cert.AdamUpReferenceIdeal.Read.val_main_v2_apply]
  exact congrArg W (ext3 (Nat.lt_one_iff.mp h).symm rfl rfl)

theorem at_moment (i : S4x2048x1408.Idx) (h : (i 0).val < 1) : Cert.AdamUpReferenceIdeal.Read.val_main_v3 (F := Ideal) P (down i) = P i := by
  rw [Cert.AdamUpReferenceIdeal.Read.val_main_v3_apply]
  exact congrArg P (ext3 (Nat.lt_one_iff.mp h).symm rfl rfl)

theorem at_square (i : S4x2048x1408.Idx) (h : (i 0).val < 1) : Cert.AdamUpReferenceIdeal.Read.val_main_v4 (F := Ideal) Q (down i) = Q i := by
  rw [Cert.AdamUpReferenceIdeal.Read.val_main_v4_apply]
  exact congrArg Q (ext3 (Nat.lt_one_iff.mp h).symm rfl rfl)

theorem tail_29 (i : S4x2048x1408.Idx) (h : ¬ (i 0).val < 1) : Cert.AdamUpReferenceIdeal.Read.val_main_v29 (F := Ideal) B (rest i) = B i := by
  rw [Cert.AdamUpReferenceIdeal.Read.val_main_v29_apply]
  exact congrArg B (ext3 (by show 1 + ((i 0).val - 1) = (i 0).val; omega) rfl rfl)

theorem tail_31 (i : S4x2048x1408.Idx) (h : ¬ (i 0).val < 1) : Cert.AdamUpReferenceIdeal.Read.val_main_v31 (F := Ideal) B (rest i) = B i := by
  rw [Cert.AdamUpReferenceIdeal.Read.val_main_v31_apply]
  exact congrArg B (ext3 (by show 1 + ((i 0).val - 1) = (i 0).val; omega) rfl rfl)

theorem tail_33 (i : S4x2048x1408.Idx) (h : ¬ (i 0).val < 1) : Cert.AdamUpReferenceIdeal.Read.val_main_v33 (F := Ideal) B (rest i) = B i := by
  rw [Cert.AdamUpReferenceIdeal.Read.val_main_v33_apply]
  exact congrArg B (ext3 (by show 1 + ((i 0).val - 1) = (i 0).val; omega) rfl rfl)

theorem tail_35 (i : S4x2048x1408.Idx) (h : ¬ (i 0).val < 1) : Cert.AdamUpReferenceIdeal.Read.val_main_v35 (F := Ideal) B (rest i) = B i := by
  rw [Cert.AdamUpReferenceIdeal.Read.val_main_v35_apply]
  exact congrArg B (ext3 (by show 1 + ((i 0).val - 1) = (i 0).val; omega) rfl rfl)

theorem ref_grad : Cert.AdamUpReferenceIdeal.Read.val_main_v30 (F := Ideal) X B = layer (fun i => grad X i) B :=
  join B _ _ _ (fun i _ => sum_at X i) (tail_29 B) _

theorem ref_first : Cert.AdamUpReferenceIdeal.Read.val_main_v34 (F := Ideal) X P B = layer (fun i => first (grad X i) (P i)) B :=
  join B _ _ _ (fun i h => congrArg₂ first (sum_at X i) (at_moment P i h)) (tail_33 B) _

theorem ref_second : Cert.AdamUpReferenceIdeal.Read.val_main_v36 (F := Ideal) X Q B = layer (fun i => second (grad X i) (Q i)) B :=
  join B _ _ _ (fun i h => congrArg₂ second (sum_at X i) (at_square Q i h)) (tail_35 B) _

theorem ref_change : Cert.AdamUpReferenceIdeal.Read.val_main_v32 (F := Ideal) X W P Q B = layer (fun i => change (W i) (grad X i) (P i) (Q i)) B :=
  join B _ _ _ (fun i h => cong4 change (at_weight W i h) (sum_at X i) (at_moment P i h) (at_square Q i h)) (tail_31 B) _

end reference

theorem values : Cert.algebraic_AdamUpIdeal_AdamUpReferenceIdeal := fun m ρ m' ρ' _ ha => by
  refine ⟨fun c => (dats m 0 c).arrAt 7 cfg0.N, fun c => (dats m 0 c).arrAt 8 cfg0.N, fun c => (dats m 0 c).arrAt 9 cfg0.N,
    fun c => (dats m 0 c).arrAt 10 cfg0.N, Cert.AdamUpIdeal.Value.run_blocks m ρ, ?_⟩
  refine (θ_run Cert.AdamUpReferenceIdeal.defs _ _).mono
    (fun _ h c => ⟨(h c).1.trans ?_, (h c).2.1.trans ?_, (h c).2.2.1.trans ?_, (h c).2.2.2.1.trans ?_, (h c).2.2.2.2⟩)
    (Cert.AdamUpReferenceIdeal.Value.run (F := Ideal) m' ρ')
  all_goals obtain ⟨h0, h1, h2, h3, h4, h5, h6, h7⟩ := ha c
  · exact (congrArg₂ (Cert.AdamUpReferenceIdeal.Read.val_main_v30 (F := Ideal)) h0 h4).trans ((ref_grad _ _).trans (arr_grad m c).symm)
  · exact (cong5 (Cert.AdamUpReferenceIdeal.Read.val_main_v32 (F := Ideal)) h0 h1 h2 h3 h5).trans ((ref_change _ _ _ _ _).trans (arr_change m c).symm)
  · exact (cong3 (Cert.AdamUpReferenceIdeal.Read.val_main_v34 (F := Ideal)) h0 h2 h6).trans ((ref_first _ _ _).trans (arr_first m c).symm)
  · exact (cong3 (Cert.AdamUpReferenceIdeal.Read.val_main_v36 (F := Ideal)) h0 h3 h7).trans ((ref_second _ _ _).trans (arr_second m c).symm)

theorem frame_ideal : Cert.quiescent_AdamUpIdeal := fun m ρ _ => Cert.AdamUpIdeal.Gen.frame m ρ

theorem frame_reference : Cert.quiescent_AdamUpReferenceIdeal := fun m ρ _ =>
  (θ_run Cert.AdamUpReferenceIdeal.defs _ _).mono (fun r h => ⟨fun c => (h c).2.2.2.2, sem_eq_zero_of_no_sems (by decide) r.2⟩)
    (Cert.AdamUpReferenceIdeal.Value.run (F := Ideal) m ρ)

theorem body_same {F : FTy → Type} [FloatOps F] : Cert.AdamUpIdeal.cc0_adam_big (F := F) = Cert.AdamUp.cc0_adam_big (F := F) := rfl

theorem bodies_same {F : FTy → Type} [FloatOps F] : Cert.AdamUpIdeal.defs₀ (F := F) = Cert.AdamUp.defs₀ (F := F) := by
  refine congrArg (Defs.onTc (nD := Cert.AdamUp.nD) (τ := Cert.AdamUp.τ)) (funext fun l => funext fun a => ?_)
  match l, a with
  | 0, (t, s) => dsimp only; rw [body_same]; rfl

theorem defs_same {F : FTy → Type} [FloatOps F] : Cert.AdamUpIdeal.defs (F := F) = Cert.AdamUp.defs (F := F) :=
  congrArg (Pipeline.defs (Cert.AdamUp.pcfgs (F := F))) bodies_same

theorem frame_kernel : Cert.quiescent_AdamUp := fun m ρ _ => by
  rw [← defs_same]
  exact Cert.AdamUpIdeal.Gen.frame (F := Bits) m ρ

end Cert.AdamUpIdeal.Tiles

end
-- ==== Proof.AdamDown.lean ====
/- The optimiser's step on the feed-forward layer's second weight, in one layer: every entry of the four results is the same function of the entries of the partial
   gradients, the weight and the moments on both sides. -/
module

public import proofs.«01_k».proof.Defs
public import proofs.«01_k».proof.Proof.Adam
public import proofs.«01_k».proof.Proof.Gen.AdamDown
public import proofs.«01_k».proof.Proof.Gen.AdamDownIdeal
public import proofs.«01_k».proof.Proof.Gen.AdamDownIdeal.Value
public import proofs.«01_k».proof.Proof.Gen.AdamDownReferenceIdeal
public import proofs.«01_k».proof.Proof.Gen.AdamDownReferenceIdeal.Run
public import proofs.«01_k».proof.Proof.Gen.AdamDownReferenceIdeal.Read
public import Idealize.ShloMosaic.Lib.Pipeline.ValueKit

@[expose] public section

set_option maxRecDepth 16384
set_option maxHeartbeats 400000

noncomputable section

namespace Cert.AdamDownIdeal.Tiles

open Cert.AdamDownIdeal.Gen
open Idealize.ShloMosaic Idealize.ShloMosaic.TcCoe Idealize.ShloMosaic.Tactic
open Cert.Prod Cert.Adam

variable (m : (ℓ : Loc nD τ sig) → Buf (Elt Ideal) ℓ) (c : Dev nD)

/-- The entry of a block of the partial gradients in the place of an entry of the weight's block. -/
abbrev up (y : S1x64x2048.Idx) : S1x1x64x2048.Idx := ValueIdx.ix4 0 0 (y 1) (y 2)

section pays
variable (P0 P1 P2 P3 : FVec Ideal S1x1x64x2048 .bf16) (W P Q : FVec Ideal S1x64x2048 .f32) (y : S1x64x2048.Idx)

/-- The four partial gradients of one entry, added. -/
abbrev four : EReal := P0 (up y) + P1 (up y) + P2 (up y) + P3 (up y)

theorem pay_sum : (k0_pay2 (F := Ideal) (k0_pay6 P0 P1 P2 P3) y : EReal) = four P0 P1 P2 P3 y := by
  simp only [k0_pay2, k0_pay6, pointwise]
  rfl

theorem pay_first : (k0_pay4 (F := Ideal) (k0_pay8 P0 P1 P2 P3 P) y : EReal) = first (four P0 P1 P2 P3 y) (P y) := by
  simp only [k0_pay4, k0_pay8, k0_pay6, pointwise]
  rfl

theorem pay_second : (k0_pay5 (F := Ideal) (k0_pay9 Q) (k0_pay10 P0 P1 P2 P3) (k 0x3A83126F#32) y : EReal) = second (four P0 P1 P2 P3 y) (Q y) := by
  simp only [k0_pay5, k0_pay1, k0_pay9, k0_pay10, k0_pay6, pointwise]
  rfl

theorem pay_change : (k0_pay3 (F := Ideal) (k0_pay7 W) (k0_pay8 P0 P1 P2 P3 P) (k0_pay9 Q) (k0_pay10 P0 P1 P2 P3) (k 0x3A83126F#32) y : EReal)
    = change (W y) (four P0 P1 P2 P3 y) (P y) (Q y) := by
  simp only [k0_pay3, k0_pay1, k0_pay7, k0_pay8, k0_pay9, k0_pay10, k0_pay6, pointwise]
  rfl
end pays

theorem e0 : ∀ t : Fin cfg0.N, win0_0.index t = ![0, 0, t.val, 0] := (by decide +kernel : ∀ t : Fin grid0.N, _)
theorem e1 : ∀ t : Fin cfg0.N, win0_1.index t = ![1, 0, t.val, 0] := (by decide +kernel : ∀ t : Fin grid0.N, _)
theorem e2 : ∀ t : Fin cfg0.N, win0_2.index t = ![2, 0, t.val, 0] := (by decide +kernel : ∀ t : Fin grid0.N, _)
theorem e3 : ∀ t : Fin cfg0.N, win0_3.index t = ![3, 0, t.val, 0] := (by decide +kernel : ∀ t : Fin grid0.N, _)
theorem e4 : ∀ t : Fin cfg0.N, win0_4.index t = ![0, t.val, 0] := (by decide +kernel : ∀ t : Fin grid0.N, _)
theorem e5 : ∀ t : Fin cfg0.N, win0_5.index t = ![0, t.val, 0] := (by decide +kernel : ∀ t : Fin grid0.N, _)
theorem e6 : ∀ t : Fin cfg0.N, win0_6.index t = ![0, t.val, 0] := (by decide +kernel : ∀ t : Fin grid0.N, _)
theorem e7 : ∀ t : Fin cfg0.N, win0_7.index t = ![0, t.val, 0] := (by decide +kernel : ∀ t : Fin grid0.N, _)
theorem e8 : ∀ t : Fin cfg0.N, win0_8.index t = ![0, t.val, 0] := (by decide +kernel : ∀ t : Fin grid0.N, _)
theorem e9 : ∀ t : Fin cfg0.N, win0_9.index t = ![0, t.val, 0] := (by decide +kernel : ∀ t : Fin grid0.N, _)
theorem e10 : ∀ t : Fin cfg0.N, win0_10.index t = ![0, t.val, 0] := (by decide +kernel : ∀ t : Fin grid0.N, _)

/-- The entry of a whole array in the place of entry `y` of block `t`. -/
abbrev place (t : Fin cfg0.N) (y : S1x64x2048.Idx) : S4x704x2048.Idx := fun a => match a with
  | ⟨0, _⟩ => ⟨0, by show 0 < 4; omega⟩
  | ⟨1, _⟩ => ⟨64 * t.val + (y 1).val, by
      have h := t.isLt
      have h' : (y 1).val < 64 := (y 1).isLt
      have : cfg0.N = 11 := by decide
      show 64 * t.val + (y 1).val < 704; omega⟩
  | ⟨2, _⟩ => ⟨(y 2).val, (y 2).isLt⟩

/-- The entry of part `p` of the gradient that belongs to entry `i` of the weight. -/
abbrev part (i : S4x704x2048.Idx) (p : Fin 4) : S4x1x704x2048.Idx := ValueIdx.ix4 p 0 (i 1) (i 2)

theorem places (t : Fin cfg0.N) (y : S1x64x2048.Idx) :
    (win0_4.blk t).view.emb y = place t y
      ∧ (win0_5.blk t).view.emb y = place t y
      ∧ (win0_6.blk t).view.emb y = place t y
      ∧ (win0_7.blk t).view.emb y = place t y
      ∧ (win0_8.blk t).view.emb y = place t y
      ∧ (win0_9.blk t).view.emb y = place t y
      ∧ (win0_10.blk t).view.emb y = place t y := by
  have hz : (y 0).val = 0 := Nat.lt_one_iff.mp (y 0).isLt
  refine ⟨?_, ?_, ?_, ?_, ?_, ?_, ?_⟩
  all_goals
    refine ext3 (Eq.trans ?_ (show 0 = (place t y 0).val from rfl)) (Eq.trans ?_ (show 64 * t.val + (y 1).val = (place t y 1).val from rfl))
      (Eq.trans ?_ (show (y 2).val = (place t y 2).val from rfl))
    · blk_simp [e4, e5, e6, e7, e8, e9, e10]; try omega
    · blk_simp [e4, e5, e6, e7, e8, e9, e10]; try omega
    · blk_simp [e4, e5, e6, e7, e8, e9, e10]; try omega

theorem parts (t : Fin cfg0.N) (y : S1x64x2048.Idx) :
    (win0_0.blk t).view.emb (up y) = part (place t y) 0
      ∧ (win0_1.blk t).view.emb (up y) = part (place t y) 1
      ∧ (win0_2.blk t).view.emb (up y) = part (place t y) 2
      ∧ (win0_3.blk t).view.emb (up y) = part (place t y) 3 := by
  refine ⟨?_, ?_, ?_, ?_⟩
  all_goals
    refine ext4 ?_ (Eq.trans ?_ (show 0 = (part (place t y) 0 1).val from rfl)) (Eq.trans ?_ (show 64 * t.val + (y 1).val = (place t y 1).val from rfl))
      (Eq.trans ?_ (show (y 2).val = (place t y 2).val from rfl))
    · blk_simp [e0, e1, e2, e3]; try rfl
    · blk_simp [e0, e1, e2, e3]; try rfl
    · blk_simp [e0, e1, e2, e3]; first | done | rfl | exact congrArg (· + (y 1).val) (Nat.mul_comm _ _)
    · blk_simp [e0, e1, e2, e3]; try rfl

section left
variable (t : Fin cfg0.N) (x0 x1 x2 x3 : Vec Ideal S1x1x64x2048 .bf16) (x4 x5 x6 : Vec Ideal S1x64x2048 .f32)

theorem left7 : out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay2 (k0_pay6 x0 x1 x2 x3) := by
  unfold out0_A_7
  rw [View.read_writes_eq_canon _ _ _ (fun y => cover0_A_7 _ _ _ _ _ _ _ _ _ _ _ _ _ _ _ _ _ _ _ _ _ _ _ _ _ _ _ _ _ _ _ y)]
  unfold kernelRun0_A
  refine (View.canon_cons_unit_lit _ _ _ (by decide)).trans ?_
  exact congrArg k0_pay2 (cong4 k0_pay6 (load_whole _ x0 _ (by decide)) (load_whole _ x1 _ (by decide)) (load_whole _ x2 _ (by decide)) (load_whole _ x3 _ (by decide)))

theorem left8 : out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay3 (k0_pay7 x4) (k0_pay8 x0 x1 x2 x3 x5) (k0_pay9 x6) (k0_pay10 x0 x1 x2 x3) (k 0x3A83126F#32) := by
  unfold out0_A_8
  rw [View.read_writes_eq_canon _ _ _ (fun y => cover0_A_8 _ _ _ _ _ _ _ _ _ _ _ _ _ _ _ _ _ _ _ _ _ _ _ _ _ _ _ _ _ _ _ y)]
  unfold kernelRun0_A
  refine (View.canon_cons_unit_lit _ _ _ (by decide)).trans ?_
  exact cong5 k0_pay3 (congrArg k0_pay7 (load_whole _ x4 _ (by decide))) (cong5 k0_pay8 (load_whole _ x0 _ (by decide)) (load_whole _ x1 _ (by decide)) (load_whole _ x2 _ (by decide)) (load_whole _ x3 _ (by decide)) (load_whole _ x5 _ (by decide))) (congrArg k0_pay9 (load_whole _ x6 _ (by decide))) (cong4 k0_pay10 (load_whole _ x0 _ (by decide)) (load_whole _ x1 _ (by decide)) (load_whole _ x2 _ (by decide)) (load_whole _ x3 _ (by decide))) rfl

theorem left9 : out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay4 (k0_pay8 x0 x1 x2 x3 x5) := by
  unfold out0_A_9
  rw [View.read_writes_eq_canon _ _ _ (fun y => cover0_A_9 _ _ _ _ _ _ _ _ _ _ _ _ _ _ _ _ _ _ _ _ _ _ _ _ _ _ _ _ _ _ _ y)]
  unfold kernelRun0_A
  refine (View.canon_cons_unit_lit _ _ _ (by decide)).trans ?_
  exact congrArg k0_pay4 (cong5 k0_pay8 (load_whole _ x0 _ (by decide)) (load_whole _ x1 _ (by decide)) (load_whole _ x2 _ (by decide)) (load_whole _ x3 _ (by decide)) (load_whole _ x5 _ (by decide)))

theorem left10 : out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6
    = k0_pay5 (k0_pay9 x6) (k0_pay10 x0 x1 x2 x3) (k 0x3A83126F#32) := by
  unfold out0_A_10
  rw [View.read_writes_eq_canon _ _ _ (fun y => cover0_A_10 _ _ _ _ _ _ _ _ _ _ _ _ _ _ _ _ _ _ _ _ _ _ _ _ _ _ _ _ _ _ _ y)]
  unfold kernelRun0_A
  refine (View.canon_cons_unit_lit _ _ _ (by decide)).trans ?_
  exact cong3 k0_pay5 (congrArg k0_pay9 (load_whole _ x6 _ (by decide))) (cong4 k0_pay10 (load_whole _ x0 _ (by decide)) (load_whole _ x1 _ (by decide)) (load_whole _ x2 _ (by decide)) (load_whole _ x3 _ (by decide))) rfl

end left

section blocks
variable (t : Fin cfg0.N) (y : S1x64x2048.Idx)

/-- The four arrays the kernel reads, by their names in the program. -/
abbrev partials : FVec Ideal S4x1x704x2048 .bf16 := m ((c.tc : Thread nD τ).loc main_arg0)
abbrev weight : FVec Ideal S4x704x2048 .f32 := m ((c.tc : Thread nD τ).loc main_arg1)
abbrev moment : FVec Ideal S4x704x2048 .f32 := m ((c.tc : Thread nD τ).loc main_arg2)
abbrev square : FVec Ideal S4x704x2048 .f32 := m ((c.tc : Thread nD τ).loc main_arg3)

/-- The arrays the call writes over. -/
abbrev over4 : FVec Ideal S4x704x2048 .f32 := m ((c.tc : Thread nD τ).loc main_arg4)
abbrev over5 : FVec Ideal S4x704x2048 .f32 := m ((c.tc : Thread nD τ).loc main_arg5)
abbrev over6 : FVec Ideal S4x704x2048 .f32 := m ((c.tc : Thread nD τ).loc main_arg6)
abbrev over7 : FVec Ideal S4x704x2048 .f32 := m ((c.tc : Thread nD τ).loc main_arg7)

theorem entry4 : V m c main_v0_0 = over4 m c := by
  show StableHlo.after hostOps0 _ _ = _
  after_results_simp
  try rfl

theorem entry5 : V m c main_v0_1 = over5 m c := by
  show StableHlo.after hostOps0 _ _ = _
  after_results_simp
  try rfl

theorem entry6 : V m c main_v0_2 = over6 m c := by
  show StableHlo.after hostOps0 _ _ = _
  after_results_simp
  try rfl

theorem entry7 : V m c main_v0_3 = over7 m c := by
  show StableHlo.after hostOps0 _ _ = _
  after_results_simp
  try rfl

/-- The gradient of one entry: the sum of its four parts. -/
def grad (X : FVec Ideal S4x1x704x2048 .bf16) (i : S4x704x2048.Idx) : EReal := ∑ p : Fin 4, X (part i p)

theorem block_grad : four (iblk m c 0 t) (iblk m c 1 t) (iblk m c 2 t) (iblk m c 3 t) y = grad (partials m c) (place t y) := by
  obtain ⟨h0, h1, h2, h3⟩ := parts t y
  refine Eq.trans ?_ (Fin.sum_univ_four _).symm
  rw [← h0, ← h1, ← h2, ← h3]
  rfl

theorem block_weight : (iblk m c 4 t : FVec Ideal S1x64x2048 .f32) y = weight m c (place t y) := congrArg (weight m c) (places t y).1
theorem block_moment : (iblk m c 5 t : FVec Ideal S1x64x2048 .f32) y = moment m c (place t y) := congrArg (moment m c) (places t y).2.1
theorem block_square : (iblk m c 6 t : FVec Ideal S1x64x2048 .f32) y = square m c (place t y) := congrArg (square m c) (places t y).2.2.1

/-- What point `t` leaves in output 0. -/
theorem point_grad : (outsAt0 m c t).1 = k0_pay2 (k0_pay6 (iblk m c 0 t) (iblk m c 1 t) (iblk m c 2 t) (iblk m c 3 t)) := by
  unfold outsAt0
  dsimp only
  exact left7 c t (iblk m c 0 t) (iblk m c 1 t) (iblk m c 2 t) (iblk m c 3 t) (iblk m c 4 t) (iblk m c 5 t) (iblk m c 6 t)

theorem tile_grad : k0_pay2 (k0_pay6 (iblk m c 0 t) (iblk m c 1 t) (iblk m c 2 t) (iblk m c 3 t))
    = (fun y => grad (partials m c) (place t y) : FVec Ideal S1x64x2048 .f32) := by
  funext y
  exact (pay_sum _ _ _ _ y).trans ((block_grad m c t y))

theorem arr_grad : (dats m 0 c).arrAt 7 cfg0.N = layer (fun i => grad (partials m c) i) (over4 m c) := by
  refine ((dats m 0 c).arrAt_eq_of_coversWhere 7 (fun i => grad (partials m c) i : FVec Ideal S4x704x2048 .f32) (fun β => β (0 : Fin 3) < 1) (P := fun i : S4x704x2048.Idx => (i 0).val < 1)
    (by decide +kernel) (fun t hf y => ?_) (fun j => by blk_simp [Pipeline.Window.cell_apply]; rw [Nat.div_one])).trans ?_
  swap
  · funext i
    show (if (i 0).val < 1 then _ else (dats m 0 c).A 7 i) = _
    rw [show (dats m 0 c).A 7 = over4 m c from (A_eq m c 7).trans (entry4 m c)]
    rfl
  refine (congrFun ((after0_7 m c t).trans ((point_grad m c t).trans (tile_grad m c t))) y).trans ?_
  have hp : (win0_7.blk t).view.emb y = place t y := (places t y).2.2.2.1
  show _ = (fun i => grad (partials m c) i : FVec Ideal S4x704x2048 .f32) ((win0_7.blk t).view.emb y)
  rw [hp]

/-- What point `t` leaves in output 1. -/
theorem point_change : (outsAt0 m c t).2.1 = k0_pay3 (k0_pay7 (iblk m c 4 t)) (k0_pay8 (iblk m c 0 t) (iblk m c 1 t) (iblk m c 2 t) (iblk m c 3 t) (iblk m c 5 t)) (k0_pay9 (iblk m c 6 t)) (k0_pay10 (iblk m c 0 t) (iblk m c 1 t) (iblk m c 2 t) (iblk m c 3 t)) (k 0x3A83126F#32) := by
  unfold outsAt0
  dsimp only
  exact left8 c t (iblk m c 0 t) (iblk m c 1 t) (iblk m c 2 t) (iblk m c 3 t) (iblk m c 4 t) (iblk m c 5 t) (iblk m c 6 t)

theorem tile_change : k0_pay3 (k0_pay7 (iblk m c 4 t)) (k0_pay8 (iblk m c 0 t) (iblk m c 1 t) (iblk m c 2 t) (iblk m c 3 t) (iblk m c 5 t)) (k0_pay9 (iblk m c 6 t)) (k0_pay10 (iblk m c 0 t) (iblk m c 1 t) (iblk m c 2 t) (iblk m c 3 t)) (k 0x3A83126F#32)
    = (fun y => change (weight m c (place t y)) (grad (partials m c) (place t y)) (moment m c (place t y)) (square m c (place t y)) : FVec Ideal S1x64x2048 .f32) := by
  funext y
  exact (pay_change _ _ _ _ _ _ _ y).trans (cong4 change (block_weight m c t y) (block_grad m c t y) (block_moment m c t y) (block_square m c t y))

theorem arr_change : (dats m 0 c).arrAt 8 cfg0.N = layer (fun i => change (weight m c i) (grad (partials m c) i) (moment m c i) (square m c i)) (over5 m c) := by
  refine ((dats m 0 c).arrAt_eq_of_coversWhere 8 (fun i => change (weight m c i) (grad (partials m c) i) (moment m c i) (square m c i) : FVec Ideal S4x704x2048 .f32) (fun β => β (0 : Fin 3) < 1) (P := fun i : S4x704x2048.Idx => (i 0).val < 1)
    (by decide +kernel) (fun t hf y => ?_) (fun j => by blk_simp [Pipeline.Window.cell_apply]; rw [Nat.div_one])).trans ?_
  swap
  · funext i
    show (if (i 0).val < 1 then _ else (dats m 0 c).A 8 i) = _
    rw [show (dats m 0 c).A 8 = over5 m c from (A_eq m c 8).trans (entry5 m c)]
    rfl
  refine (congrFun ((after0_8 m c t).trans ((point_change m c t).trans (tile_change m c t))) y).trans ?_
  have hp : (win0_8.blk t).view.emb y = place t y := (places t y).2.2.2.2.1
  show _ = (fun i => change (weight m c i) (grad (partials m c) i) (moment m c i) (square m c i) : FVec Ideal S4x704x2048 .f32) ((win0_8.blk t).view.emb y)
  rw [hp]

/-- What point `t` leaves in output 2. -/
theorem point_first : (outsAt0 m c t).2.2.1 = k0_pay4 (k0_pay8 (iblk m c 0 t) (iblk m c 1 t) (iblk m c 2 t) (iblk m c 3 t) (iblk m c 5 t)) := by
  unfold outsAt0
  dsimp only
  exact left9 c t (iblk m c 0 t) (iblk m c 1 t) (iblk m c 2 t) (iblk m c 3 t) (iblk m c 4 t) (iblk m c 5 t) (iblk m c 6 t)

theorem tile_first : k0_pay4 (k0_pay8 (iblk m c 0 t) (iblk m c 1 t) (iblk m c 2 t) (iblk m c 3 t) (iblk m c 5 t))
    = (fun y => first (grad (partials m c) (place t y)) (moment m c (place t y)) : FVec Ideal S1x64x2048 .f32) := by
  funext y
  exact (pay_first _ _ _ _ _ y).trans (congrArg₂ first (block_grad m c t y) (block_moment m c t y))

theorem arr_first : (dats m 0 c).arrAt 9 cfg0.N = layer (fun i => first (grad (partials m c) i) (moment m c i)) (over6 m c) := by
  refine ((dats m 0 c).arrAt_eq_of_coversWhere 9 (fun i => first (grad (partials m c) i) (moment m c i) : FVec Ideal S4x704x2048 .f32) (fun β => β (0 : Fin 3) < 1) (P := fun i : S4x704x2048.Idx => (i 0).val < 1)
    (by decide +kernel) (fun t hf y => ?_) (fun j => by blk_simp [Pipeline.Window.cell_apply]; rw [Nat.div_one])).trans ?_
  swap
  · funext i
    show (if (i 0).val < 1 then _ else (dats m 0 c).A 9 i) = _
    rw [show (dats m 0 c).A 9 = over6 m c from (A_eq m c 9).trans (entry6 m c)]
    rfl
  refine (congrFun ((after0_9 m c t).trans ((point_first m c t).trans (tile_first m c t))) y).trans ?_
  have hp : (win0_9.blk t).view.emb y = place t y := (places t y).2.2.2.2.2.1
  show _ = (fun i => first (grad (partials m c) i) (moment m c i) : FVec Ideal S4x704x2048 .f32) ((win0_9.blk t).view.emb y)
  rw [hp]

/-- What point `t` leaves in output 3. -/
theorem point_second : (outsAt0 m c t).2.2.2 = k0_pay5 (k0_pay9 (iblk m c 6 t)) (k0_pay10 (iblk m c 0 t) (iblk m c 1 t) (iblk m c 2 t) (iblk m c 3 t)) (k 0x3A83126F#32) := by
  unfold outsAt0
  dsimp only
  exact left10 c t (iblk m c 0 t) (iblk m c 1 t) (iblk m c 2 t) (iblk m c 3 t) (iblk m c 4 t) (iblk m c 5 t) (iblk m c 6 t)

theorem tile_second : k0_pay5 (k0_pay9 (iblk m c 6 t)) (k0_pay10 (iblk m c 0 t) (iblk m c 1 t) (iblk m c 2 t) (iblk m c 3 t)) (k 0x3A83126F#32)
    = (fun y => second (grad (partials m c) (place t y)) (square m c (place t y)) : FVec Ideal S1x64x2048 .f32) := by
  funext y
  exact (pay_second _ _ _ _ _ y).trans (congrArg₂ second (block_grad m c t y) (block_square m c t y))

theorem arr_second : (dats m 0 c).arrAt 10 cfg0.N = layer (fun i => second (grad (partials m c) i) (square m c i)) (over7 m c) := by
  refine ((dats m 0 c).arrAt_eq_of_coversWhere 10 (fun i => second (grad (partials m c) i) (square m c i) : FVec Ideal S4x704x2048 .f32) (fun β => β (0 : Fin 3) < 1) (P := fun i : S4x704x2048.Idx => (i 0).val < 1)
    (by decide +kernel) (fun t hf y => ?_) (fun j => by blk_simp [Pipeline.Window.cell_apply]; rw [Nat.div_one])).trans ?_
  swap
  · funext i
    show (if (i 0).val < 1 then _ else (dats m 0 c).A 10 i) = _
    rw [show (dats m 0 c).A 10 = over7 m c from (A_eq m c 10).trans (entry7 m c)]
    rfl
  refine (congrFun ((after0_10 m c t).trans ((point_second m c t).trans (tile_second m c t))) y).trans ?_
  have hp : (win0_10.blk t).view.emb y = place t y := (places t y).2.2.2.2.2.2
  show _ = (fun i => second (grad (partials m c) i) (square m c i) : FVec Ideal S4x704x2048 .f32) ((win0_10.blk t).view.emb y)
  rw [hp]

end blocks

/-! ### The reference -/

section reference
variable (X : FVec Ideal S4x1x704x2048 .bf16) (W P Q B : FVec Ideal S4x704x2048 .f32)

/-- The same entry of an array with one layer. -/
abbrev down (i : S4x704x2048.Idx) : Cert.AdamDownReferenceIdeal.S1x704x2048.Idx := ValueIdx.ix3 0 (i 1) (i 2)

/-- The same entry of the layers after the first. -/
abbrev rest (i : S4x704x2048.Idx) : Cert.AdamDownReferenceIdeal.S3x704x2048.Idx := ValueIdx.ix3 ⟨(i 0).val - 1, by have h : (i 0).val < 4 := (i 0).isLt; omega⟩ (i 1) (i 2)

/-- One layer and the layers after it, joined. -/
theorem join (A : FVec Ideal Cert.AdamDownReferenceIdeal.S1x704x2048 .f32) (T : FVec Ideal Cert.AdamDownReferenceIdeal.S3x704x2048 .f32) (G : S4x704x2048.Idx → EReal) (hA : ∀ i : S4x704x2048.Idx, (i 0).val < 1 → A (down i) = G i)
    (hT : ∀ i : S4x704x2048.Idx, ¬ (i 0).val < 1 → T (rest i) = B i) (h : Shape.Concatenates [Cert.AdamDownReferenceIdeal.S1x704x2048, Cert.AdamDownReferenceIdeal.S3x704x2048] S4x704x2048 0) :
    concatenate S4x704x2048 0 [⟨Cert.AdamDownReferenceIdeal.S1x704x2048, A⟩, ⟨Cert.AdamDownReferenceIdeal.S3x704x2048, T⟩] h = layer G B := by
  funext i
  unfold layer
  simp only [pointwise]
  split
  · rename_i hi
    refine Eq.trans ?_ (if_pos (show (i 0).val < 1 from hi)).symm
    exact (congrArg A (funext fun a => Fin.ext (by match a with
      | ⟨0, _⟩ => exact Nat.lt_one_iff.mp hi
      | ⟨1, _⟩ => rfl
      | ⟨2, _⟩ => rfl))).trans (hA i hi)
  · rename_i hi
    refine Eq.trans ?_ (if_neg (show ¬ (i 0).val < 1 from hi)).symm
    exact (congrArg T (funext fun a => Fin.ext (by match a with
      | ⟨0, _⟩ => rfl
      | ⟨1, _⟩ => rfl
      | ⟨2, _⟩ => rfl))).trans (hT i hi)

theorem sum_at (i : S4x704x2048.Idx) : Cert.AdamDownReferenceIdeal.Read.val_main_v1 (F := Ideal) X (down i) = grad X i := by
  rw [Cert.AdamDownReferenceIdeal.Read.val_main_v1_apply]
  show FloatOps.ofBits (F := Ideal) .f32 0x00000000#32 + _ = _
  rw [ofBits_zero]
  exact (zero_add _).trans (Finset.sum_congr rfl fun p _ => congrArg X (ext4 rfl rfl rfl rfl))

theorem at_weight (i : S4x704x2048.Idx) (h : (i 0).val < 1) : Cert.AdamDownReferenceIdeal.Read.val_main_v2 (F := Ideal) W (down i) = W i := by
  rw [Cert.AdamDownReferenceIdeal.Read.val_main_v2_apply]
  exact congrArg W (ext3 (Nat.lt_one_iff.mp h).symm rfl rfl)

theorem at_moment (i : S4x704x2048.Idx) (h : (i 0).val < 1) : Cert.AdamDownReferenceIdeal.Read.val_main_v3 (F := Ideal) P (down i) = P i := by
  rw [Cert.AdamDownReferenceIdeal.Read.val_main_v3_apply]
  exact congrArg P (ext3 (Nat.lt_one_iff.mp h).symm rfl rfl)

theorem at_square (i : S4x704x2048.Idx) (h : (i 0).val < 1) : Cert.AdamDownReferenceIdeal.Read.val_main_v4 (F := Ideal) Q (down i) = Q i := by
  rw [Cert.AdamDownReferenceIdeal.Read.val_main_v4_apply]
  exact congrArg Q (ext3 (Nat.lt_one_iff.mp h).symm rfl rfl)

theorem tail_29 (i : S4x704x2048.Idx) (h : ¬ (i 0).val < 1) : Cert.AdamDownReferenceIdeal.Read.val_main_v29 (F := Ideal) B (rest i) = B i := by
  rw [Cert.AdamDownReferenceIdeal.Read.val_main_v29_apply]
  exact congrArg B (ext3 (by show 1 + ((i 0).val - 1) = (i 0).val; omega) rfl rfl)

theorem tail_31 (i : S4x704x2048.Idx) (h : ¬ (i 0).val < 1) : Cert.AdamDownReferenceIdeal.Read.val_main_v31 (F := Ideal) B (rest i) = B i := by
  rw [Cert.AdamDownReferenceIdeal.Read.val_main_v31_apply]
  exact congrArg B (ext3 (by show 1 + ((i 0).val - 1) = (i 0).val; omega) rfl rfl)

theorem tail_33 (i : S4x704x2048.Idx) (h : ¬ (i 0).val < 1) : Cert.AdamDownReferenceIdeal.Read.val_main_v33 (F := Ideal) B (rest i) = B i := by
  rw [Cert.AdamDownReferenceIdeal.Read.val_main_v33_apply]
  exact congrArg B (ext3 (by show 1 + ((i 0).val - 1) = (i 0).val; omega) rfl rfl)

theorem tail_35 (i : S4x704x2048.Idx) (h : ¬ (i 0).val < 1) : Cert.AdamDownReferenceIdeal.Read.val_main_v35 (F := Ideal) B (rest i) = B i := by
  rw [Cert.AdamDownReferenceIdeal.Read.val_main_v35_apply]
  exact congrArg B (ext3 (by show 1 + ((i 0).val - 1) = (i 0).val; omega) rfl rfl)

theorem ref_grad : Cert.AdamDownReferenceIdeal.Read.val_main_v30 (F := Ideal) X B = layer (fun i => grad X i) B :=
  join B _ _ _ (fun i _ => sum_at X i) (tail_29 B) _

theorem ref_first : Cert.AdamDownReferenceIdeal.Read.val_main_v34 (F := Ideal) X P B = layer (fun i => first (grad X i) (P i)) B :=
  join B _ _ _ (fun i h => congrArg₂ first (sum_at X i) (at_moment P i h)) (tail_33 B) _

theorem ref_second : Cert.AdamDownReferenceIdeal.Read.val_main_v36 (F := Ideal) X Q B = layer (fun i => second (grad X i) (Q i)) B :=
  join B _ _ _ (fun i h => congrArg₂ second (sum_at X i) (at_square Q i h)) (tail_35 B) _

theorem ref_change : Cert.AdamDownReferenceIdeal.Read.val_main_v32 (F := Ideal) X W P Q B = layer (fun i => change (W i) (grad X i) (P i) (Q i)) B :=
  join B _ _ _ (fun i h => cong4 change (at_weight W i h) (sum_at X i) (at_moment P i h) (at_square Q i h)) (tail_31 B) _

end reference

theorem values : Cert.algebraic_AdamDownIdeal_AdamDownReferenceIdeal := fun m ρ m' ρ' _ ha => by
  refine ⟨fun c => (dats m 0 c).arrAt 7 cfg0.N, fun c => (dats m 0 c).arrAt 8 cfg0.N, fun c => (dats m 0 c).arrAt 9 cfg0.N,
    fun c => (dats m 0 c).arrAt 10 cfg0.N, Cert.AdamDownIdeal.Value.run_blocks m ρ, ?_⟩
  refine (θ_run Cert.AdamDownReferenceIdeal.defs _ _).mono
    (fun _ h c => ⟨(h c).1.trans ?_, (h c).2.1.trans ?_, (h c).2.2.1.trans ?_, (h c).2.2.2.1.trans ?_, (h c).2.2.2.2⟩)
    (Cert.AdamDownReferenceIdeal.Value.run (F := Ideal) m' ρ')
  all_goals obtain ⟨h0, h1, h2, h3, h4, h5, h6, h7⟩ := ha c
  · exact (congrArg₂ (Cert.AdamDownReferenceIdeal.Read.val_main_v30 (F := Ideal)) h0 h4).trans ((ref_grad _ _).trans (arr_grad m c).symm)
  · exact (cong5 (Cert.AdamDownReferenceIdeal.Read.val_main_v32 (F := Ideal)) h0 h1 h2 h3 h5).trans ((ref_change _ _ _ _ _).trans (arr_change m c).symm)
  · exact (cong3 (Cert.AdamDownReferenceIdeal.Read.val_main_v34 (F := Ideal)) h0 h2 h6).trans ((ref_first _ _ _).trans (arr_first m c).symm)
  · exact (cong3 (Cert.AdamDownReferenceIdeal.Read.val_main_v36 (F := Ideal)) h0 h3 h7).trans ((ref_second _ _ _).trans (arr_second m c).symm)

theorem frame_ideal : Cert.quiescent_AdamDownIdeal := fun m ρ _ => Cert.AdamDownIdeal.Gen.frame m ρ

theorem frame_reference : Cert.quiescent_AdamDownReferenceIdeal := fun m ρ _ =>
  (θ_run Cert.AdamDownReferenceIdeal.defs _ _).mono (fun r h => ⟨fun c => (h c).2.2.2.2, sem_eq_zero_of_no_sems (by decide) r.2⟩)
    (Cert.AdamDownReferenceIdeal.Value.run (F := Ideal) m ρ)

theorem body_same {F : FTy → Type} [FloatOps F] : Cert.AdamDownIdeal.cc0_adam_big (F := F) = Cert.AdamDown.cc0_adam_big (F := F) := rfl

theorem bodies_same {F : FTy → Type} [FloatOps F] : Cert.AdamDownIdeal.defs₀ (F := F) = Cert.AdamDown.defs₀ (F := F) := by
  refine congrArg (Defs.onTc (nD := Cert.AdamDown.nD) (τ := Cert.AdamDown.τ)) (funext fun l => funext fun a => ?_)
  match l, a with
  | 0, (t, s) => dsimp only; rw [body_same]; rfl

theorem defs_same {F : FTy → Type} [FloatOps F] : Cert.AdamDownIdeal.defs (F := F) = Cert.AdamDown.defs (F := F) :=
  congrArg (Pipeline.defs (Cert.AdamDown.pcfgs (F := F))) bodies_same

theorem frame_kernel : Cert.quiescent_AdamDown := fun m ρ _ => by
  rw [← defs_same]
  exact Cert.AdamDownIdeal.Gen.frame (F := Bits) m ρ

end Cert.AdamDownIdeal.Tiles

end
-- ==== Proof.LossHead.lean ====
/- The loss and its gradient: the kernel adds up the squares block by block, each block's sum times one half over the row length, and the
   reference takes each row's mean, adds them up and halves. Every square is at least zero, so both are the same number for every input. -/
module

public import proofs.«01_k».proof.Defs
public import proofs.«01_k».proof.Proof.Prod
public import proofs.«01_k».proof.Proof.Adam
public import proofs.«01_k».proof.Proof.Gen.LossHead
public import proofs.«01_k».proof.Proof.Gen.LossHeadIdeal
public import proofs.«01_k».proof.Proof.Gen.LossHeadIdeal.Value
public import proofs.«01_k».proof.Proof.Gen.LossHeadReferenceIdeal
public import proofs.«01_k».proof.Proof.Gen.LossHeadReferenceIdeal.Run
public import proofs.«01_k».proof.Proof.Gen.LossHeadReferenceIdeal.Read
public import Idealize.ShloMosaic.Lib.Pipeline.ValueKit

@[expose] public section

set_option maxRecDepth 16384
set_option maxHeartbeats 400000

noncomputable section

namespace Cert.LossHeadIdeal.Tiles

open Cert.LossHeadIdeal.Gen
open Idealize.ShloMosaic Idealize.ShloMosaic.TcCoe Idealize.ShloMosaic.Tactic
open Finset Cert.Prod

/-! ### Numbers -/

/-- The row length, one half, one and two, and the kernel's two factors, as the programs write them. -/
abbrev dim : EReal := FloatOps.ofBits (F := Ideal) .f32 0x45000000#32
abbrev half : EReal := FloatOps.ofBits (F := Ideal) .f32 0x3F000000#32
abbrev one : EReal := FloatOps.ofBits (F := Ideal) .f32 0x3F800000#32
abbrev two : EReal := FloatOps.ofBits (F := Ideal) .f32 0x40000000#32
abbrev share : EReal := FloatOps.ofBits (F := Ideal) .f32 0x39800000#32
abbrev slope : EReal := FloatOps.ofBits (F := Ideal) .f32 0x3A000000#32

theorem dim_eq : dim = ((2048 : ℝ) : EReal) := by
  simp [dim, FloatOps.ofBits, Ideal.ofBits, Ideal.ieee]
  rw [← EReal.coe_mul]
  norm_num

theorem half_eq : half = ((1 / 2 : ℝ) : EReal) := by
  simp [half, FloatOps.ofBits, Ideal.ofBits, Ideal.ieee]
  rw [← EReal.coe_mul]
  norm_num

theorem one_eq : one = ((1 : ℝ) : EReal) := by
  simp [one, FloatOps.ofBits, Ideal.ofBits, Ideal.ieee]
  rw [← EReal.coe_mul]
  norm_num

theorem two_eq : two = ((2 : ℝ) : EReal) := by
  simp [two, FloatOps.ofBits, Ideal.ofBits, Ideal.ieee]
  rw [← EReal.coe_mul]
  norm_num

theorem share_eq : share = ((1 / 4096 : ℝ) : EReal) := by
  simp [share, FloatOps.ofBits, Ideal.ofBits, Ideal.ieee]
  rw [← EReal.coe_mul]
  norm_num

theorem slope_eq : slope = ((1 / 2048 : ℝ) : EReal) := by
  simp [slope, FloatOps.ofBits, Ideal.ofBits, Ideal.ieee]
  rw [← EReal.coe_mul]
  norm_num

theorem square_nonneg (x : EReal) : 0 ≤ x * x := by
  induction x with
  | bot => simp
  | top => simp
  | coe a => exact_mod_cast mul_self_nonneg a

/-- A factor comes out of a sum of numbers that are at least zero. -/
theorem factor (q : ℕ → EReal) (hq : ∀ r, 0 ≤ q r) (u : EReal) : ∀ n : ℕ, ∑ r ∈ range n, q r * u = (∑ r ∈ range n, q r) * u
  | 0 => by simp
  | n + 1 => by rw [sum_range_succ, sum_range_succ, factor q hq u n, EReal.right_distrib_of_nonneg (sum_nonneg fun r _ => hq r) (hq n)]

/-! ### Entries -/

def err (f g : ℕ → ℕ → EReal) (r k : ℕ) : EReal := f r k - g r k

/-- The sum of the squares of row `r`. -/
def squares (f g : ℕ → ℕ → EReal) (r : ℕ) : EReal := ∑ k ∈ range 2048, err f g r k * err f g r k

theorem squares_nonneg (f g : ℕ → ℕ → EReal) (r : ℕ) : 0 ≤ squares f g r := sum_nonneg fun k _ => square_nonneg _

/-- Block `s`'s part of the loss. -/
def block (f g : ℕ → ℕ → EReal) (s : ℕ) : EReal := (∑ r ∈ range 256, squares f g (256 * s + r)) * share

/-- The loss as the reference writes it. -/
def loss (f g : ℕ → ℕ → EReal) : EReal := half * ∑ r ∈ range 2048, Ideal.div (squares f g r) dim

def slopes (f g : ℕ → ℕ → EReal) (r k : ℕ) : EReal := err f g r k * slope

theorem blocks_eq (f g : ℕ → ℕ → EReal) : ∑ s ∈ range 8, block f g s = loss f g := by
  have hl : ∑ s ∈ range 8, block f g s = (∑ r ∈ range 2048, squares f g r) * share := by
    rw [show (2048 : ℕ) = 256 * 8 from rfl, sum_split 256 _ 8]
    exact factor (fun s => ∑ r ∈ range 256, squares f g (256 * s + r)) (fun s => sum_nonneg fun r _ => squares_nonneg f g _) share 8
  have hr : ∑ r ∈ range 2048, Ideal.div (squares f g r) dim = (∑ r ∈ range 2048, squares f g r) * ((1 / 2048 : ℝ) : EReal) := by
    rw [← factor _ (squares_nonneg f g), dim_eq]
    exact sum_congr rfl fun r _ => Ideal.div_coe (y := (2048 : ℝ)) (by norm_num) _
  unfold loss
  rw [hl, hr, half_eq, share_eq, mul_left_comm, ← EReal.coe_mul]
  congr 2
  norm_num

theorem slope_same (x : EReal) : Ideal.div (half * one) dim * (two * x) = x * slope := by
  rw [half_eq, one_eq, dim_eq, two_eq, slope_eq, Ideal.div_coe (by norm_num), ← mul_assoc, mul_comm, ← EReal.coe_mul, ← EReal.coe_mul, ← EReal.coe_mul]
  congr 2
  norm_num

/-! ### The kernel's tiles -/

theorem pay_slopes (f g : ℕ → ℕ → EReal) :
    k0_pay2 (E f : FVec Ideal S256x2048 .f32) (E g : FVec Ideal S256x2048 .f32) = (E (slopes f g) : FVec Ideal S256x2048 .f32) := by
  funext i
  simp only [k0_pay2, k0_pay1, pointwise]
  rfl

theorem pay_next (f g a : ℕ → ℕ → EReal) :
    k0_pay4 (E f : FVec Ideal S256x2048 .f32) (E g : FVec Ideal S256x2048 .f32) (E a : FVec Ideal S8x128 .f32)
      = (E (fun r k => a r k + (∑ r ∈ range 256, squares f g r) * share) : FVec Ideal S8x128 .f32) := by
  funext i
  simp only [k0_pay4, k0_pay1, pointwise]
  have h : ∑ r : Fin 256, ∑ k : Fin 2048, err f g r.val k.val * err f g r.val k.val = ∑ r ∈ range 256, squares f g r := by
    rw [sum_range]
    exact sum_congr rfl fun r _ => (sum_range (fun k => err f g r.val k * err f g r.val k)).symm
  exact congrArg (fun z : EReal => a (i 0).val (i 1).val + z * share) h

theorem pay_zero : (k0_pay3 : FVec Ideal S8x128 .f32) = E (fun _ _ => 0) := funext fun _ => ofBits_zero

variable (m : (ℓ : Loc nD τ sig) → Buf (Elt Ideal) ℓ) (c : Dev nD)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e3 : ∀ t : Fin cfg0.N, win0_3.index t = ![t.val, 0] := (by decide +kernel : ∀ t : Fin grid0.N, _)

/-- The rows of block `t` of `f`. -/
abbrev rows (t : ℕ) (f : ℕ → ℕ → EReal) : ℕ → ℕ → EReal := fun r k => f (256 * t + r) k

theorem b0 (f : ℕ → ℕ → EReal) (hX : V m c (Pipeline.arrRef spec0 0) = (E f : FVec Ideal S2048x2048 .f32)) (t : Fin cfg0.N) :
    iblk m c 0 t = (E (rows t.val f) : FVec Ideal S256x2048 .f32) := by
  funext y
  refine (congrFun hX ((win0_0.blk t).view.emb y)).trans ?_
  have a0 : ((win0_0.blk t).view.emb y 0).val = 256 * t.val + (y 0).val := by blk_simp [e0]; try omega
  have a1 : ((win0_0.blk t).view.emb y 1).val = (y 1).val := by blk_simp [e0]; try omega
  show f ((win0_0.blk t).view.emb y 0).val ((win0_0.blk t).view.emb y 1).val = f (256 * t.val + (y 0).val) (y 1).val
  rw [a0, a1]

theorem b1 (f : ℕ → ℕ → EReal) (hX : V m c (Pipeline.arrRef spec0 1) = (E f : FVec Ideal S2048x2048 .f32)) (t : Fin cfg0.N) :
    iblk m c 1 t = (E (rows t.val f) : FVec Ideal S256x2048 .f32) := by
  funext y
  refine (congrFun hX ((win0_1.blk t).view.emb y)).trans ?_
  have a0 : ((win0_1.blk t).view.emb y 0).val = 256 * t.val + (y 0).val := by blk_simp [e1]; try omega
  have a1 : ((win0_1.blk t).view.emb y 1).val = (y 1).val := by blk_simp [e1]; try omega
  show f ((win0_1.blk t).view.emb y 0).val ((win0_1.blk t).view.emb y 1).val = f (256 * t.val + (y 0).val) (y 1).val
  rw [a0, a1]

section left
variable (t : Fin cfg0.N) (x0 x1 : Vec Ideal S256x2048 .f32) (xo : Vec Ideal S8x128 .f32)

theorem left_first (h0) : out0_A_3 c (grid0.coords t) (ms0_0 t) (hs0_0 t) (ms0_1 t) (hs0_1 t) (ms0_2 t) (hs0_2 t) (ms0_3 t) (hs0_3 t) h0 x0 x1 = k0_pay2 x0 x1 := by
  unfold out0_A_3
  rw [View.read_writes_eq_canon _ _ _ (fun y => cover0_A_3 _ _ _ _ _ _ _ _ _ _ _ _ _ y)]
  unfold kernelRun0_A
  refine (View.canon_cons_unit_lit _ _ _ (by decide)).trans ?_
  exact congrArg₂ k0_pay2 (Cert.Adam.load_whole _ x0 _ (by decide)) (Cert.Adam.load_whole _ x1 _ (by decide))

theorem left_next (h0) : out0_B_3 c (grid0.coords t) (ms0_0 t) (hs0_0 t) (ms0_1 t) (hs0_1 t) (ms0_2 t) (hs0_2 t) (ms0_3 t) (hs0_3 t) h0 x0 x1 xo = k0_pay2 x0 x1 := by
  unfold out0_B_3
  rw [View.read_writes_eq_canon _ _ _ (fun y => cover0_B_3 _ _ _ _ _ _ _ _ _ _ _ _ _ _ y)]
  unfold kernelRun0_B
  refine (View.canon_cons_unit_lit _ _ _ (by decide)).trans ?_
  exact congrArg₂ k0_pay2 (Cert.Adam.load_whole _ x0 _ (by decide)) (Cert.Adam.load_whole _ x1 _ (by decide))

theorem held_next (h0) : out0_B_2 c (grid0.coords t) (ms0_0 t) (hs0_0 t) (ms0_1 t) (hs0_1 t) (ms0_2 t) (hs0_2 t) (ms0_3 t) (hs0_3 t) h0 x0 x1 xo = k0_pay4 x0 x1 xo := by
  unfold out0_B_2
  rw [View.read_writes_eq_canon _ _ _ (fun y => cover0_B_2 _ _ _ _ _ _ _ _ _ _ _ _ _ _ y)]
  unfold kernelRun0_B
  refine (View.canon_cons_unit_lit _ _ _ (by decide)).trans ?_
  exact Cert.Adam.cong3 k0_pay4 (Cert.Adam.load_whole _ x0 _ (by decide)) (Cert.Adam.load_whole _ x1 _ (by decide)) (Cert.Adam.load_whole _ xo _ (by decide))

theorem held_first (h0) : out0_A_2 c (grid0.coords t) (ms0_0 t) (hs0_0 t) (ms0_1 t) (hs0_1 t) (ms0_2 t) (hs0_2 t) (ms0_3 t) (hs0_3 t) h0 x0 x1 = k0_pay4 x0 x1 (k0_pay3 (F := Ideal)) := by
  unfold out0_A_2
  rw [View.read_writes_eq_canon _ _ _ (fun y => cover0_A_2 _ _ _ _ _ _ _ _ _ _ _ _ _ y)]
  unfold kernelRun0_A
  refine (View.canon_cons_unit_lit _ _ _ (by decide)).trans ?_
  refine Cert.Adam.cong3 k0_pay4 (Cert.Adam.load_whole _ x0 _ (by decide)) (Cert.Adam.load_whole _ x1 _ (by decide)) ?_
  exact View.readCov_unit_lit _ _ _ (by decide)
end left

theorem snd_eq (t : Fin cfg0.N) : (outsAt0 m c t.val t.isLt).2 = k0_pay2 (iblk m c 0 t) (iblk m c 1 t) := by
  by_cases ht : t.val % 8 = 0
  · rw [outsAt0_A m c t ht]
    dsimp only
    exact left_first c t (iblk m c 0 t) (iblk m c 1 t) _
  · rw [outsAt0_B m c t ht]
    dsimp only
    exact left_next c t (iblk m c 0 t) (iblk m c 1 t) _ _

theorem fst_first (t : Fin cfg0.N) (ht : t.val % 8 = 0) : (outsAt0 m c t.val t.isLt).1 = k0_pay4 (iblk m c 0 t) (iblk m c 1 t) (k0_pay3 (F := Ideal)) := by
  rw [outsAt0_A m c t ht]
  dsimp only
  exact held_first c t (iblk m c 0 t) (iblk m c 1 t) _

theorem fst_next (t : Fin cfg0.N) (ht : ¬t.val % 8 = 0) : (outsAt0 m c t.val t.isLt).1
    = k0_pay4 (iblk m c 0 t) (iblk m c 1 t) (outsAt0 m c (t.val - 1) (Nat.lt_of_le_of_lt (Nat.sub_le _ _) t.isLt)).1 := by
  rw [outsAt0_B m c t ht]
  dsimp only
  exact held_next c t (iblk m c 0 t) (iblk m c 1 t) _ _

/-- After point `n` the accumulator holds the parts of the blocks seen so far. -/
theorem held (f g : ℕ → ℕ → EReal) (hX : V m c (Pipeline.arrRef spec0 0) = (E f : FVec Ideal S2048x2048 .f32))
    (hG : V m c (Pipeline.arrRef spec0 1) = (E g : FVec Ideal S2048x2048 .f32)) : ∀ (n : ℕ) (hn : n < cfg0.N),
    (outsAt0 m c n hn).1 = (E (fun _ _ => ∑ s ∈ range (n + 1), block f g s) : FVec Ideal S8x128 .f32) := by
  intro n
  induction n with
  | zero =>
    intro hn
    refine (fst_first m c ⟨0, hn⟩ (Nat.zero_mod _)).trans ?_
    rw [b0 m c f hX, b1 m c g hG, pay_zero]
    refine (pay_next _ _ _).trans (E_congr fun r _ k _ => ?_)
    exact (zero_add _).trans (sum_range_one (block f g)).symm
  | succ n ih =>
    intro hn
    have ih := ih (Nat.lt_of_succ_lt hn)
    have hN : cfg0.N = 8 := by decide
    have hp : k0_pay4 (iblk m c 0 ⟨n + 1, hn⟩) (iblk m c 1 ⟨n + 1, hn⟩) (outsAt0 m c n (Nat.lt_of_succ_lt hn)).1
        = (E (fun _ _ => ∑ s ∈ range (n + 1 + 1), block f g s) : FVec Ideal S8x128 .f32) := by
      rw [ih, b0 m c f hX, b1 m c g hG]
      refine (pay_next _ _ _).trans (E_congr fun r _ k _ => ?_)
      exact (sum_range_succ (block f g) (n + 1)).symm
    exact (fst_next m c ⟨n + 1, hn⟩ (by show ¬(n + 1) % 8 = 0; omega)).trans hp

theorem arr_loss (f g : ℕ → ℕ → EReal) (hX : V m c (Pipeline.arrRef spec0 0) = (E f : FVec Ideal S2048x2048 .f32))
    (hG : V m c (Pipeline.arrRef spec0 1) = (E g : FVec Ideal S2048x2048 .f32)) :
    (dats m 0 c).arrAt 2 cfg0.N = (E (fun _ _ => loss f g) : FVec Ideal S8x128 .f32) := by
  refine (dats m 0 c).arrAt_eq_of_covers 2 _ (by decide +kernel) fun t hf y => ?_
  have hm : t.val % 8 = 7 := (flush0_2 t).mp hf
  have hN : t.val < 8 := t.isLt.trans_eq (by decide)
  refine (congrFun ((after0_2 m c t).trans (held m c f g hX hG t.val t.isLt)) y).trans ?_
  show ∑ s ∈ range (t.val + 1), block f g s = loss f g
  rw [show t.val + 1 = 8 by omega]
  exact blocks_eq f g

theorem arr_slopes (f g : ℕ → ℕ → EReal) (hX : V m c (Pipeline.arrRef spec0 0) = (E f : FVec Ideal S2048x2048 .f32))
    (hG : V m c (Pipeline.arrRef spec0 1) = (E g : FVec Ideal S2048x2048 .f32)) :
    (dats m 0 c).arrAt 3 cfg0.N = (E (slopes f g) : FVec Ideal S2048x2048 .f32) := by
  refine (dats m 0 c).arrAt_eq_of_covers 3 _ (by decide +kernel) fun t hf y => ?_
  have a0 : ((win0_3.blk t).view.emb y 0).val = 256 * t.val + (y 0).val := by blk_simp [e3]; try omega
  have a1 : ((win0_3.blk t).view.emb y 1).val = (y 1).val := by blk_simp [e3]; try omega
  have hp : k0_pay2 (iblk m c 0 t) (iblk m c 1 t) = (E (slopes (rows t.val f) (rows t.val g)) : FVec Ideal S256x2048 .f32) := by
    rw [b0 m c f hX, b1 m c g hG]
    exact pay_slopes _ _
  refine (congrFun ((after0_3 m c t).trans ((snd_eq m c t).trans hp)) y).trans ?_
  show _ = slopes f g ((win0_3.blk t).view.emb y 0).val ((win0_3.blk t).view.emb y 1).val
  rw [a0, a1]
  rfl

/-! ### The reference -/

theorem ref_mean (f g : ℕ → ℕ → EReal) (i) :
    Cert.LossHeadReferenceIdeal.Read.val_main_v6 (F := Ideal) (E f : FVec Ideal S2048x2048 .f32) (E g : FVec Ideal S2048x2048 .f32) i
      = Ideal.div (squares f g (i 0).val) dim := by
  rw [Cert.LossHeadReferenceIdeal.Read.val_main_v6_apply, Cert.LossHeadReferenceIdeal.Read.val_main_v4_apply,
    Cert.LossHeadReferenceIdeal.Read.val_main_v5_apply]
  show Ideal.div (FloatOps.ofBits (F := Ideal) .f32 0x00000000#32 + _) dim = Ideal.div _ dim
  refine congrArg (fun z : EReal => Ideal.div z dim) ?_
  exact zero_sum 2048 (fun k => err f g (i 0).val k * err f g (i 0).val k)

theorem ref_loss (f g : ℕ → ℕ → EReal) :
    Cert.LossHeadReferenceIdeal.Read.val_main_v9 (F := Ideal) (E f : FVec Ideal S2048x2048 .f32) (E g : FVec Ideal S2048x2048 .f32)
      = (E (fun _ _ => loss f g) : FVec Ideal S8x128 .f32) := by
  funext i
  rw [Cert.LossHeadReferenceIdeal.Read.val_main_v9_apply, Cert.LossHeadReferenceIdeal.Read.val_main_v8_apply,
    Cert.LossHeadReferenceIdeal.Read.val_main_v7_apply]
  show half * (FloatOps.ofBits (F := Ideal) .f32 0x00000000#32 + _) = half * _
  refine congrArg (fun z : EReal => half * z) ?_
  refine Eq.trans ?_ (zero_sum 2048 (fun r => Ideal.div (squares f g r) dim))
  refine congrArg (fun z : EReal => FloatOps.ofBits (F := Ideal) .f32 0x00000000#32 + z) ?_
  exact (sum_idx1 _).trans (sum_congr rfl fun r _ => ref_mean f g _)

theorem ref_slopes (f g : ℕ → ℕ → EReal) :
    Cert.LossHeadReferenceIdeal.Read.val_main_v15 (F := Ideal) (E f : FVec Ideal S2048x2048 .f32) (E g : FVec Ideal S2048x2048 .f32)
      = (E (slopes f g) : FVec Ideal S2048x2048 .f32) := by
  funext i
  rw [Cert.LossHeadReferenceIdeal.Read.val_main_v15_apply, Cert.LossHeadReferenceIdeal.Read.val_main_v14_apply,
    Cert.LossHeadReferenceIdeal.Read.val_main_v13_apply, Cert.LossHeadReferenceIdeal.Read.val_main_v11_apply,
    Cert.LossHeadReferenceIdeal.Read.val_main_v12_apply, Cert.LossHeadReferenceIdeal.Read.val_main_v3_apply,
    Cert.LossHeadReferenceIdeal.Read.val_main_v2_apply]
  exact slope_same (err f g (i 0).val (i 1).val)

theorem values : Cert.algebraic_LossHeadIdeal_LossHeadReferenceIdeal := fun m ρ m' ρ' _ ha => by
  refine ⟨fun c => (dats m 0 c).arrAt 2 cfg0.N, fun c => (dats m 0 c).arrAt 3 cfg0.N, Cert.LossHeadIdeal.Value.run_blocks m ρ, ?_⟩
  refine (θ_run Cert.LossHeadReferenceIdeal.defs _ _).mono (fun _ h c => ⟨(h c).1.trans ?_, (h c).2.1.trans ?_, (h c).2.2⟩)
    (Cert.LossHeadReferenceIdeal.Value.run (F := Ideal) m' ρ')
  all_goals
    have hX : V m c (Pipeline.arrRef spec0 0) = (E (entries (m ((c.tc : Thread nD τ).loc main_arg0))) : FVec Ideal S2048x2048 .f32) := eq_E (m := 2048) (n := 2048) _
    have hG : V m c (Pipeline.arrRef spec0 1) = (E (entries (m ((c.tc : Thread nD τ).loc main_arg1))) : FVec Ideal S2048x2048 .f32) := eq_E (m := 2048) (n := 2048) _
    obtain ⟨h0, h1⟩ := ha c
  · refine Eq.trans ?_ (arr_loss m c _ _ hX hG).symm
    refine Eq.trans ?_ (ref_loss _ _)
    exact congrArg₂ (Cert.LossHeadReferenceIdeal.Read.val_main_v9 (F := Ideal)) (h0.trans hX) (h1.trans hG)
  · refine Eq.trans ?_ (arr_slopes m c _ _ hX hG).symm
    refine Eq.trans ?_ (ref_slopes _ _)
    exact congrArg₂ (Cert.LossHeadReferenceIdeal.Read.val_main_v15 (F := Ideal)) (h0.trans hX) (h1.trans hG)

theorem frame_ideal : Cert.quiescent_LossHeadIdeal := fun m ρ _ => Cert.LossHeadIdeal.Gen.frame m ρ

theorem frame_reference : Cert.quiescent_LossHeadReferenceIdeal := fun m ρ _ =>
  (θ_run Cert.LossHeadReferenceIdeal.defs _ _).mono (fun r h => ⟨fun c => (h c).2.2, sem_eq_zero_of_no_sems (by decide) r.2⟩)
    (Cert.LossHeadReferenceIdeal.Value.run (F := Ideal) m ρ)

theorem body_same {F : FTy → Type} [FloatOps F] : Cert.LossHeadIdeal.cc0_loss_head (F := F) = Cert.LossHead.cc0_loss_head (F := F) := rfl

theorem bodies_same {F : FTy → Type} [FloatOps F] : Cert.LossHeadIdeal.defs₀ (F := F) = Cert.LossHead.defs₀ (F := F) := by
  refine congrArg (Defs.onTc (nD := Cert.LossHead.nD) (τ := Cert.LossHead.τ)) (funext fun l => funext fun a => ?_)
  match l, a with
  | 0, (t, s) => dsimp only; rw [body_same]; rfl

theorem defs_same {F : FTy → Type} [FloatOps F] : Cert.LossHeadIdeal.defs (F := F) = Cert.LossHead.defs (F := F) :=
  congrArg (Pipeline.defs (Cert.LossHead.pcfgs (F := F))) bodies_same

theorem frame_kernel : Cert.quiescent_LossHead := fun m ρ _ => by
  rw [← defs_same]
  exact Cert.LossHeadIdeal.Gen.frame (F := Bits) m ρ

end Cert.LossHeadIdeal.Tiles

end
-- ==== Proof.FwdLoop.lean ====
/- The forward kernel's loop over the query blocks: one trip run once at a symbolic block, the list of
   what the trips before a block have stored, and the loop's invariant. -/
module

public import proofs.«01_k».proof.Proof.Gen.KernelIdeal.Loops

@[expose] public section

set_option maxRecDepth 8192
set_option maxHeartbeats 4000000

noncomputable section

namespace Cert.KernelIdeal.Sba

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (i : grid0.Coords)
  (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2048x128 .bf16) (harg5 : arg5.IsWhole)
  (arg6 : Memref sig .tc .vmem S2048x128 .bf16) (harg6 : arg6.IsWhole)
  (arg7 : Memref sig .tc .vmem S2048x128 .bf16) (harg7 : arg7.IsWhole)
  (v0 : IVec S256x256 32) (v1 : IVec S256x256 32)
  (X5 : BufTy.Contents (Elt F) arg5.view.ty) (X6 : BufTy.Contents (Elt F) arg6.view.ty)
  (X7 : BufTy.Contents (Elt F) arg7.view.ty)

/-- What a trip touches: the rounded queries, keys and values, read at their contents, and the
   output block, written. -/
abbrev TripF (f4 : BufTy.Contents (Elt F) arg4.view.ty) : sProp 𝕄G :=
  iprop((arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg4.view.loc (c : Thread nD τ) ↦[arg4.view.set]{fullShare} f4))

/-- One trip at a symbolic query block `k`: the piece it stores into the output block. -/
@[irreducible] def tripF (k : Fin k0_t1_loop.trips) :
    { L : List (View.Piece (Elt F) S2048x128 .f32) //
      ∀ (E : Set ℕ) (f4 : BufTy.Contents (Elt F) arg4.view.ty),
      TripF (F := F) c arg4 arg5 arg6 arg7 X5 X6 X7 f4
      ⊢ wp frame (wpE (defs₀ (F := F)) 𝒱 (c : Thread nD τ) bd) E
          (k0_t1_body (F := F) i arg1 harg1 arg2 harg2 arg3 harg3 arg4 harg4 arg5 harg5 arg6 harg6 arg7 harg7 v0 v1 k ())
          (fun _ => TripF (F := F) c arg4 arg5 arg6 arg7 X5 X6 X7 (arg4.view.writes (Elt F) f4 L)) } := by
  refine ⟨?_, fun E f4 => ?run⟩
  case run =>
    unfold k0_t1_body
    iintro ⟨H5, H6, H7, H4⟩
    sl_exec_parts
    sl_step
    sl_close

/-- The pieces the trips before `k` have stored, last first. -/
def pbF : ℕ → List (View.Piece (Elt F) S2048x128 .f32)
  | 0 => []
  | k + 1 =>
    if h : k < k0_t1_loop.trips then
      (tripF (F := F) 𝒱 c bd i arg1 harg1 arg2 harg2 arg3 harg3 arg4 harg4 arg5 harg5 arg6 harg6 arg7 harg7 v0 v1 X5 X6 X7 ⟨k, h⟩).1
        ++ pbF k
    else pbF k

theorem pbF_succ (k : Fin k0_t1_loop.trips) :
    pbF (F := F) 𝒱 c bd i arg1 harg1 arg2 harg2 arg3 harg3 arg4 harg4 arg5 harg5 arg6 harg6 arg7 harg7 v0 v1 X5 X6 X7 (k.val + 1)
      = (tripF (F := F) 𝒱 c bd i arg1 harg1 arg2 harg2 arg3 harg3 arg4 harg4 arg5 harg5 arg6 harg6 arg7 harg7 v0 v1 X5 X6 X7 k).1
        ++ pbF (F := F) 𝒱 c bd i arg1 harg1 arg2 harg2 arg3 harg3 arg4 harg4 arg5 harg5 arg6 harg6 arg7 harg7 v0 v1 X5 X6 X7 k.val := by
  rw [pbF.eq_2]; exact dif_pos k.isLt

/-- Before block `k` the output block holds its first contents with the earlier trips' pieces
   written over them. -/
abbrev invF (G4 : BufTy.Contents (Elt F) arg4.view.ty) (k : ℕ) (_ : Unit) : sProp 𝕄G :=
  iprop((arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ ∃ f, (arg4.view.loc (c : Thread nD τ) ↦[arg4.view.set]{fullShare} f)
        ∗ ⌜f = arg4.view.writes (Elt F) G4 (pbF (F := F) 𝒱 c bd i arg1 harg1 arg2 harg2 arg3 harg3 arg4 harg4 arg5 harg5 arg6 harg6 arg7 harg7 v0 v1 X5 X6 X7 k)⌝)

set_option warn.classDefReducibility false in
/-- The loop by its invariant. -/
@[sl_loop] def loopInv_k0_t1 (E : Set ℕ) (G4 : BufTy.Contents (Elt F) arg4.view.ty) :
    LoopInvTy_k0_t1 (F := F) Unit ℕ (UR sig nD τ) ℕ 𝒱 c bd E i arg1 harg1 arg2 harg2 arg3 harg3 arg4 harg4 arg5 harg5 arg6 harg6 arg7 harg7 v0 v1 where
  inv := invF (F := F) 𝒱 c bd i arg1 harg1 arg2 harg2 arg3 harg3 arg4 harg4 arg5 harg5 arg6 harg6 arg7 harg7 v0 v1 X5 X6 X7 G4
  step k acc := by
    iintro ⟨H5, H6, H7, %f, H4, %h4⟩
    iapply (wp_wand_r Idealize.ShloMosaic.frame (wpE (defs₀ (F := F)) 𝒱 (c : Thread nD τ) bd) E)
    isplitl [H5 H6 H7 H4]
    · iapply ((tripF (F := F) 𝒱 c bd i arg1 harg1 arg2 harg2 arg3 harg3 arg4 harg4 arg5 harg5 arg6 harg6 arg7 harg7 v0 v1 X5 X6 X7 k).2 E f)
      isplitl [H5]; · iexact H5
      isplitl [H6]; · iexact H6
      isplitl [H7]; · iexact H7
      iexact H4
    · iintro %yld ⟨H5, H6, H7, H4⟩
      isplitl [H5]; · iexact H5
      isplitl [H6]; · iexact H6
      isplitl [H7]; · iexact H7
      iexists _; isplitl [H4]; · iexact H4
      ipureintro; rw [pbF_succ, h4, ← View.writes_append]

end Cert.KernelIdeal.Sba

end
-- ==== Proof.FwdRun.lean ====
/- The forward kernel's body, run once over symbolic blocks. -/
module

public import proofs.«01_k».proof.Proof.FwdLoop

@[expose] public section

set_option maxRecDepth 8192
set_option maxHeartbeats 4000000

noncomputable section

namespace Cert.KernelIdeal.Sba

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (i : grid0.Coords)
  (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2048x128 .bf16) (harg5 : arg5.IsWhole)
  (arg6 : Memref sig .tc .vmem S2048x128 .bf16) (harg6 : arg6.IsWhole)
  (arg7 : Memref sig .tc .vmem S2048x128 .bf16) (harg7 : arg7.IsWhole)
  (x1 : BufTy.Contents (Elt F) arg1.view.ty) (x2 : BufTy.Contents (Elt F) arg2.view.ty) (x3 : BufTy.Contents (Elt F) arg3.view.ty)

/-- What the body is handed: its input blocks at their contents, the output block and the scratch at
   anything. -/
abbrev PreFwd (f4 : BufTy.Contents (Elt F) arg4.view.ty) : sProp 𝕄G :=
  iprop((arg1.view.loc (c : Thread nD τ) ↦[arg1.view.set]{fullShare} x1) ∗ (arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} f4) ∗ (∃ g, (arg5.view.loc (c : Thread nD τ) ↦[arg5.view.set]{fullShare} g)) ∗ (∃ g, (arg6.view.loc (c : Thread nD τ) ↦[arg6.view.set]{fullShare} g)) ∗ (∃ g, (arg7.view.loc (c : Thread nD τ) ↦[arg7.view.set]{fullShare} g)))

set_option warn.classDefReducibility false in
/-- The whole body, run once: the pieces it leaves in the output block, a function of the input
   blocks alone. -/
@[irreducible] def runF :
    { L : List (View.Piece (Elt F) S2048x128 .f32) //
      ∀ (E : Set ℕ) (f4 : BufTy.Contents (Elt F) arg4.view.ty),
      PreFwd (F := F) c arg1 arg2 arg3 arg4 arg5 arg6 arg7 x1 x2 x3 f4
      ⊢ wp frame (wpE (defs₀ (F := F)) 𝒱 (c : Thread nD τ) bd) E
          (cc0_sba_fwd (F := F) i arg1 harg1 arg2 harg2 arg3 harg3 arg4 harg4 arg5 harg5 arg6 harg6 arg7 harg7)
          (fun _ => PreFwd (F := F) c arg1 arg2 arg3 arg4 arg5 arg6 arg7 x1 x2 x3 (arg4.view.writes (Elt F) f4 L)) } := by
  refine ⟨?_, fun E f4 => ?run⟩
  case run =>
    rw [cc0_sba_fwd_eq_skeleton]; unfold cc0_sba_fwd_skel
    iintro ⟨H1, H2, H3, H4, ⟨%g5, H5⟩, ⟨%g6, H6⟩, ⟨%g7, H7⟩⟩
    sl_exec_parts
    sl_step
    sl_close

end Cert.KernelIdeal.Sba

end
-- ==== Proof.BwdLoop.lean ====
/- The backward kernel's loop over the query blocks: one trip run once at a symbolic block, the lists
   of what the trips before a block have stored (the accumulations of the keys' and values' gradients
   are read back, so a trip's pieces depend on what it finds), and the loop's invariant. -/
module

public import proofs.«01_k».proof.Proof.Gen.KernelIdeal.Loops

@[expose] public section

set_option maxRecDepth 8192
set_option maxHeartbeats 4000000

noncomputable section

namespace Cert.KernelIdeal.Sba

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (i : grid1.Coords)
  (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2048x128 .f32) (harg5 : arg5.IsWhole)
  (arg6 : Memref sig .tc .vmem S3x2048x128 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (v0 : IVec S256x256 32) (v1 : IVec S256x256 32) (v7 : FVec F S256x256 .bf16) (v11 : FVec F S256x256 .bf16)
  (X4 : BufTy.Contents (Elt F) arg4.view.ty) (X5 : BufTy.Contents (Elt F) arg5.view.ty) (X9 : BufTy.Contents (Elt F) arg9.view.ty) (X10 : BufTy.Contents (Elt F) arg10.view.ty) (X11 : BufTy.Contents (Elt F) arg11.view.ty)

/-- What a trip touches: the block of the forward result, of its gradient, and the rounded queries,
   keys and values, read at their contents; the result block and the two accumulations, written. -/
abbrev TripB (f6 : BufTy.Contents (Elt F) arg6.view.ty) (f7 : BufTy.Contents (Elt F) arg7.view.ty) (f8 : BufTy.Contents (Elt F) arg8.view.ty) : sProp 𝕄G :=
  iprop((arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))

/-- One trip at a symbolic query block `k`: the pieces it stores into the result block and the two
   accumulations, as functions of what it finds in the accumulations. -/
@[irreducible] def tripB (k : Fin k1_t1_loop.trips) :
    Σ' (L6 : BufTy.Contents (Elt F) arg7.view.ty → BufTy.Contents (Elt F) arg8.view.ty → List (View.Piece (Elt F) S3x2048x128 .bf16)) (L7 : BufTy.Contents (Elt F) arg7.view.ty → BufTy.Contents (Elt F) arg8.view.ty → List (View.Piece (Elt F) S2048x128 .f32)),
    { L8 : BufTy.Contents (Elt F) arg7.view.ty → BufTy.Contents (Elt F) arg8.view.ty → List (View.Piece (Elt F) S2048x128 .f32) //
      ∀ (E : Set ℕ) (f6 : BufTy.Contents (Elt F) arg6.view.ty) (f7 : BufTy.Contents (Elt F) arg7.view.ty) (f8 : BufTy.Contents (Elt F) arg8.view.ty),
      TripB (F := F) c arg4 arg5 arg6 arg7 arg8 arg9 arg10 arg11 X4 X5 X9 X10 X11 f6 f7 f8
      ⊢ wp frame (wpE (defs₀ (F := F)) 𝒱 (c : Thread nD τ) bd) E
          (k1_t1_body (F := F) i arg1 harg1 arg2 harg2 arg3 harg3 arg4 harg4 arg5 harg5 arg6 harg6 arg7 harg7 arg8 harg8 arg9 harg9 arg10 harg10 arg11 harg11 v0 v1 v7 v11 k ())
          (fun _ => TripB (F := F) c arg4 arg5 arg6 arg7 arg8 arg9 arg10 arg11 X4 X5 X9 X10 X11 (arg6.view.writes (Elt F) f6 (L6 f7 f8)) (arg7.view.writes (Elt F) f7 (L7 f7 f8)) (arg8.view.writes (Elt F) f8 (L8 f7 f8))) } := by
  refine ⟨?_, ?_, ?_, fun E f6 f7 f8 => ?run⟩
  case run =>
    unfold k1_t1_body
    iintro ⟨H4, H5, H9, H10, H11, H6, H7, H8⟩
    sl_exec_parts
    sl_step
    sl_close

/-- Three lists of pieces: for the result block and for the two accumulations. -/
abbrev PiecesB (F : FTy → Type) [FloatOps F] : Type :=
  List (View.Piece (Elt F) S3x2048x128 .bf16) × List (View.Piece (Elt F) S2048x128 .f32) × List (View.Piece (Elt F) S2048x128 .f32)

/-- The pieces the trips before `k` have stored, last first, from the accumulations' contents at
   loop entry. -/
def pbB (G7 : BufTy.Contents (Elt F) arg7.view.ty) (G8 : BufTy.Contents (Elt F) arg8.view.ty) : ℕ → PiecesB F
  | 0 => ([], [], [])
  | k + 1 =>
    if h : k < k1_t1_loop.trips then
      ((tripB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 ⟨k, h⟩).1 (arg7.view.writes (Elt F) G7 (pbB G7 G8 k).2.1) (arg8.view.writes (Elt F) G8 (pbB G7 G8 k).2.2) ++ (pbB G7 G8 k).1,
       (tripB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 ⟨k, h⟩).2.1 (arg7.view.writes (Elt F) G7 (pbB G7 G8 k).2.1) (arg8.view.writes (Elt F) G8 (pbB G7 G8 k).2.2) ++ (pbB G7 G8 k).2.1,
       (tripB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 ⟨k, h⟩).2.2.1 (arg7.view.writes (Elt F) G7 (pbB G7 G8 k).2.1) (arg8.view.writes (Elt F) G8 (pbB G7 G8 k).2.2) ++ (pbB G7 G8 k).2.2)
    else pbB G7 G8 k

theorem pbB_succ (G7 : BufTy.Contents (Elt F) arg7.view.ty) (G8 : BufTy.Contents (Elt F) arg8.view.ty) (k : Fin k1_t1_loop.trips) :
    pbB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 G7 G8 (k.val + 1) =
      ((tripB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 k).1 (arg7.view.writes (Elt F) G7 (pbB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 G7 G8 k.val).2.1) (arg8.view.writes (Elt F) G8 (pbB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 G7 G8 k.val).2.2) ++ (pbB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 G7 G8 k.val).1,
       (tripB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 k).2.1 (arg7.view.writes (Elt F) G7 (pbB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 G7 G8 k.val).2.1) (arg8.view.writes (Elt F) G8 (pbB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 G7 G8 k.val).2.2) ++ (pbB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 G7 G8 k.val).2.1,
       (tripB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 k).2.2.1 (arg7.view.writes (Elt F) G7 (pbB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 G7 G8 k.val).2.1) (arg8.view.writes (Elt F) G8 (pbB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 G7 G8 k.val).2.2) ++ (pbB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 G7 G8 k.val).2.2) := by
  rw [pbB.eq_2]; exact dif_pos k.isLt

/-- Before block `k` the three written blocks hold their first contents with the earlier trips'
   pieces written over them. -/
abbrev invB (G6 : BufTy.Contents (Elt F) arg6.view.ty) (G7 : BufTy.Contents (Elt F) arg7.view.ty) (G8 : BufTy.Contents (Elt F) arg8.view.ty) (k : ℕ) (_ : Unit) : sProp 𝕄G :=
  iprop((arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
    ∗ (∃ f, (arg6.view.loc (c : Thread nD τ) ↦[arg6.view.set]{fullShare} f) ∗ ⌜f = arg6.view.writes (Elt F) G6 (pbB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 G7 G8 k).1⌝)
    ∗ (∃ f, (arg7.view.loc (c : Thread nD τ) ↦[arg7.view.set]{fullShare} f) ∗ ⌜f = arg7.view.writes (Elt F) G7 (pbB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 G7 G8 k).2.1⌝)
    ∗ (∃ f, (arg8.view.loc (c : Thread nD τ) ↦[arg8.view.set]{fullShare} f) ∗ ⌜f = arg8.view.writes (Elt F) G8 (pbB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 G7 G8 k).2.2⌝))

set_option warn.classDefReducibility false in
/-- The loop by its invariant. -/
@[sl_loop] def loopInv_k1_t1 (E : Set ℕ) (G6 : BufTy.Contents (Elt F) arg6.view.ty) (G7 : BufTy.Contents (Elt F) arg7.view.ty) (G8 : BufTy.Contents (Elt F) arg8.view.ty) :
    LoopInvTy_k1_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 v0 v1 v7 v11 where
  inv := invB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 G6 G7 G8
  step k acc := by
    iintro ⟨H4, H5, H9, H10, H11, ⟨%f6, H6, %h6⟩, ⟨%f7, H7, %h7⟩, ⟨%f8, H8, %h8⟩⟩
    iapply (wp_wand_r Idealize.ShloMosaic.frame (wpE (defs₀ (F := F)) 𝒱 (c : Thread nD τ) bd) E)
    isplitl [H4 H5 H9 H10 H11 H6 H7 H8]
    · iapply ((tripB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 k).2.2.2 E f6 f7 f8)
      isplitl [H4]; · iexact H4
      isplitl [H5]; · iexact H5
      isplitl [H9]; · iexact H9
      isplitl [H10]; · iexact H10
      isplitl [H11]; · iexact H11
      isplitl [H6]; · iexact H6
      isplitl [H7]; · iexact H7
      iexact H8
    · iintro %yld ⟨H4, H5, H9, H10, H11, H6, H7, H8⟩
      isplitl [H4]; · iexact H4
      isplitl [H5]; · iexact H5
      isplitl [H9]; · iexact H9
      isplitl [H10]; · iexact H10
      isplitl [H11]; · iexact H11
      simp only [pbB_succ]
      isplitl [H6]
      · iexists _; isplitl [H6]; · iexact H6
        ipureintro; rw [h6, h7, h8, ← View.writes_append]
      isplitl [H7]
      · iexists _; isplitl [H7]; · iexact H7
        ipureintro; rw [h7, h8, ← View.writes_append]
      iexists _; isplitl [H8]; · iexact H8
      ipureintro; rw [h7, h8, ← View.writes_append]

end Cert.KernelIdeal.Sba

end
-- ==== Proof.BwdRun.lean ====
/- The backward kernel's body, run once over symbolic blocks. -/
module

public import proofs.«01_k».proof.Proof.BwdLoop

@[expose] public section

set_option maxRecDepth 8192
set_option maxHeartbeats 4000000

noncomputable section

namespace Cert.KernelIdeal.Sba

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (i : grid1.Coords)
  (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2048x128 .f32) (harg5 : arg5.IsWhole)
  (arg6 : Memref sig .tc .vmem S3x2048x128 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (x1 : BufTy.Contents (Elt F) arg1.view.ty) (x2 : BufTy.Contents (Elt F) arg2.view.ty) (x3 : BufTy.Contents (Elt F) arg3.view.ty) (x4 : BufTy.Contents (Elt F) arg4.view.ty) (x5 : BufTy.Contents (Elt F) arg5.view.ty)

/-- What the body is handed: its input blocks at their contents, the output block and the scratch at
   anything. -/
abbrev PreBwd (f6 : BufTy.Contents (Elt F) arg6.view.ty) : sProp 𝕄G :=
  iprop((arg1.view.loc (c : Thread nD τ) ↦[arg1.view.set]{fullShare} x1) ∗ (arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} f6) ∗ (∃ g, (arg7.view.loc (c : Thread nD τ) ↦[arg7.view.set]{fullShare} g)) ∗ (∃ g, (arg8.view.loc (c : Thread nD τ) ↦[arg8.view.set]{fullShare} g)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)))

set_option warn.classDefReducibility false in
/-- The whole body, run once: the pieces it leaves in the output block, a function of the input
   blocks alone. -/
@[irreducible] def runB :
    { L : List (View.Piece (Elt F) S3x2048x128 .bf16) //
      ∀ (E : Set ℕ) (f6 : BufTy.Contents (Elt F) arg6.view.ty),
      PreBwd (F := F) c arg1 arg2 arg3 arg4 arg5 arg6 arg7 arg8 arg9 arg10 arg11 x1 x2 x3 x4 x5 f6
      ⊢ wp frame (wpE (defs₀ (F := F)) 𝒱 (c : Thread nD τ) bd) E
          (cc1_sba_bwd (F := F) i arg1 harg1 arg2 harg2 arg3 harg3 arg4 harg4 arg5 harg5 arg6 harg6 arg7 harg7 arg8 harg8 arg9 harg9 arg10 harg10 arg11 harg11)
          (fun _ => PreBwd (F := F) c arg1 arg2 arg3 arg4 arg5 arg6 arg7 arg8 arg9 arg10 arg11 x1 x2 x3 x4 x5 (arg6.view.writes (Elt F) f6 L)) } := by
  refine ⟨?_, fun E f6 => ?run⟩
  case run =>
    rw [cc1_sba_bwd_eq_skeleton]; unfold cc1_sba_bwd_skel
    iintro ⟨H1, H2, H3, H4, H5, H6, ⟨%g7, H7⟩, ⟨%g8, H8⟩, ⟨%g9, H9⟩, ⟨%g10, H10⟩, ⟨%g11, H11⟩⟩
    sl_exec_parts
    sl_step
    sl_close

end Cert.KernelIdeal.Sba

end
-- ==== Proof.Cover.lean ====
/- The pieces the two bodies leave cover their output blocks: each query block's trip stores its rows,
   and the eight query blocks fill the 2048 rows. -/
module

public import proofs.«01_k».proof.Proof.FwdRun
public import proofs.«01_k».proof.Proof.BwdRun

@[expose] public section

set_option maxRecDepth 8192
set_option maxHeartbeats 4000000

noncomputable section

namespace Cert.KernelIdeal.Sba

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section Fwd

variable (𝒱 : Variants) (c : Dev nD) (bd : Option 𝒱.V) (i : grid0.Coords)
  (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2048x128 .bf16) (harg5 : arg5.IsWhole)
  (arg6 : Memref sig .tc .vmem S2048x128 .bf16) (harg6 : arg6.IsWhole)
  (arg7 : Memref sig .tc .vmem S2048x128 .bf16) (harg7 : arg7.IsWhole)
  (v0 : IVec S256x256 32) (v1 : IVec S256x256 32)
  (X5 : BufTy.Contents (Elt F) arg5.view.ty) (X6 : BufTy.Contents (Elt F) arg6.view.ty)
  (X7 : BufTy.Contents (Elt F) arg7.view.ty)

theorem tripF_pieces (k : Fin k0_t1_loop.trips) :
    ∃ w, (tripF (F := F) 𝒱 c bd i arg1 harg1 arg2 harg2 arg3 harg3 arg4 harg4 arg5 harg5 arg6 harg6 arg7 harg7 v0 v1 X5 X6 X7 k).1
      = [(⟨Rect.unit (s := S2048x128) (k0_off1 k) S256x128.size (k0_off1_inb k), w⟩ : View.Piece (Elt F) S2048x128 .f32)] := by
  unfold tripF; exact ⟨_, rfl⟩

theorem pbF_covers (y : S2048x128.Idx) : ∀ n, n ≤ k0_t1_loop.trips → (y 0).val < 256 * n →
    ∃ p ∈ pbF (F := F) 𝒱 c bd i arg1 harg1 arg2 harg2 arg3 harg3 arg4 harg4 arg5 harg5 arg6 harg6 arg7 harg7 v0 v1 X5 X6 X7 n, y ∈ p.1.set
  | 0, _, h => absurd h (by omega)
  | n + 1, hn, h => by
    rw [pbF_succ (F := F) 𝒱 c bd i arg1 harg1 arg2 harg2 arg3 harg3 arg4 harg4 arg5 harg5 arg6 harg6 arg7 harg7 v0 v1 X5 X6 X7 ⟨n, hn⟩]
    by_cases hy : (y 0).val < 256 * n
    · obtain ⟨p, hp, hm⟩ := pbF_covers y n (by omega) hy
      exact ⟨p, List.mem_append_right _ hp, hm⟩
    · obtain ⟨w, hw⟩ := tripF_pieces (F := F) 𝒱 c bd i arg1 harg1 arg2 harg2 arg3 harg3 arg4 harg4 arg5 harg5 arg6 harg6 arg7 harg7 v0 v1 X5 X6 X7 ⟨n, hn⟩
      refine ⟨_, List.mem_append_left _ (hw ▸ List.mem_singleton.mpr rfl), ?_⟩
      rw [Rect.mem_set_unit, k0_off1_eq]
      have h1 : (y 1).val < 128 := (y 1).isLt
      intro a; match a with
      | ⟨0, _⟩ => exact ⟨by show 256 * n ≤ (y 0).val; omega, by show (y 0).val < 256 * n + 256; omega⟩
      | ⟨1, _⟩ => exact ⟨Nat.zero_le _, by show (y 1).val < 0 + 128; omega⟩

end Fwd

section Bwd

variable (𝒱 : Variants) (c : Dev nD) (bd : Option 𝒱.V) (i : grid1.Coords)
  (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2048x128 .f32) (harg5 : arg5.IsWhole)
  (arg6 : Memref sig .tc .vmem S3x2048x128 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (v0 : IVec S256x256 32) (v1 : IVec S256x256 32) (v7 : FVec F S256x256 .bf16) (v11 : FVec F S256x256 .bf16)
  (X4 : BufTy.Contents (Elt F) arg4.view.ty) (X5 : BufTy.Contents (Elt F) arg5.view.ty)
  (X9 : BufTy.Contents (Elt F) arg9.view.ty) (X10 : BufTy.Contents (Elt F) arg10.view.ty) (X11 : BufTy.Contents (Elt F) arg11.view.ty)
  (G7 : BufTy.Contents (Elt F) arg7.view.ty) (G8 : BufTy.Contents (Elt F) arg8.view.ty)

theorem tripB_pieces (k : Fin k1_t1_loop.trips) (f7 : BufTy.Contents (Elt F) arg7.view.ty) (f8 : BufTy.Contents (Elt F) arg8.view.ty) :
    ∃ w, (tripB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 k).1 f7 f8
      = [(⟨Rect.unit (s := S3x2048x128) (k1_off5 k) S1x256x128.size (k1_off5_inb k), w⟩ : View.Piece (Elt F) S3x2048x128 .bf16)] := by
  unfold tripB; exact ⟨_, rfl⟩

theorem pbB_covers (y : S3x2048x128.Idx) (h0 : (y 0).val = 0) : ∀ n, n ≤ k1_t1_loop.trips → (y 1).val < 256 * n →
    ∃ p ∈ (pbB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 G7 G8 n).1, y ∈ p.1.set
  | 0, _, h => absurd h (by omega)
  | n + 1, hn, h => by
    rw [pbB_succ (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 G7 G8 ⟨n, hn⟩]
    by_cases hy : (y 1).val < 256 * n
    · obtain ⟨p, hp, hm⟩ := pbB_covers y h0 n (by omega) hy
      exact ⟨p, List.mem_append_right _ hp, hm⟩
    · obtain ⟨w, hw⟩ := tripB_pieces (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 ⟨n, hn⟩
        (arg7.view.writes (Elt F) G7 (pbB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 G7 G8 n).2.1) (arg8.view.writes (Elt F) G8 (pbB (F := F) 𝒱 c bd i arg1 harg1 arg2 harg2 arg3 harg3 arg4 harg4 arg5 harg5 arg6 harg6 arg7 harg7 arg8 harg8 arg9 harg9 arg10 harg10 arg11 harg11 v0 v1 v7 v11 X4 X5 X9 X10 X11 G7 G8 n).2.2)
      refine ⟨_, List.mem_append_left _ (hw ▸ List.mem_singleton.mpr rfl), ?_⟩
      rw [Rect.mem_set_unit, k1_off5_eq]
      have h1 : (y 2).val < 128 := (y 2).isLt
      intro a; match a with
      | ⟨0, _⟩ => exact ⟨Nat.zero_le _, by show (y 0).val < 0 + 1; omega⟩
      | ⟨1, _⟩ => exact ⟨by show 256 * n ≤ (y 1).val; omega, by show (y 1).val < 256 * n + 256; omega⟩
      | ⟨2, _⟩ => exact ⟨Nat.zero_le _, by show (y 2).val < 0 + 128; omega⟩

end Bwd

section Bodies

variable (𝒱 : Variants) (c : Dev nD) (bd : Option 𝒱.V)

theorem runF_covers (i : grid0.Coords)
  (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2048x128 .bf16) (harg5 : arg5.IsWhole)
  (arg6 : Memref sig .tc .vmem S2048x128 .bf16) (harg6 : arg6.IsWhole)
  (arg7 : Memref sig .tc .vmem S2048x128 .bf16) (harg7 : arg7.IsWhole)
  (x1 : BufTy.Contents (Elt F) arg1.view.ty) (x2 : BufTy.Contents (Elt F) arg2.view.ty) (x3 : BufTy.Contents (Elt F) arg3.view.ty)
  (y : S2048x128.Idx) : ∃ p ∈ (runF (F := F) 𝒱 c bd i arg1 harg1 arg2 harg2 arg3 harg3 arg4 harg4 arg5 harg5 arg6 harg6 arg7 harg7 x1 x2 x3).1, y ∈ p.1.set := by
  unfold runF
  exact pbF_covers (F := F) _ _ _ _ _ _ _ _ _ _ _ _ _ _ _ _ _ _ _ _ _ _ _ y k0_t1_loop.trips le_rfl
    (lt_of_lt_of_le (y 0).isLt (show 2048 ≤ 256 * k0_t1_loop.trips by decide))

theorem runB_covers (i : grid1.Coords)
  (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2048x128 .f32) (harg5 : arg5.IsWhole)
  (arg6 : Memref sig .tc .vmem S3x2048x128 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (x1 : BufTy.Contents (Elt F) arg1.view.ty) (x2 : BufTy.Contents (Elt F) arg2.view.ty) (x3 : BufTy.Contents (Elt F) arg3.view.ty)
  (x4 : BufTy.Contents (Elt F) arg4.view.ty) (x5 : BufTy.Contents (Elt F) arg5.view.ty)
  (y : S3x2048x128.Idx) : ∃ p ∈ (runB (F := F) 𝒱 c bd i arg1 harg1 arg2 harg2 arg3 harg3 arg4 harg4 arg5 harg5 arg6 harg6 arg7 harg7 arg8 harg8 arg9 harg9 arg10 harg10 arg11 harg11 x1 x2 x3 x4 x5).1, y ∈ p.1.set := by
  have h0 : (y 0).val < 3 := (y 0).isLt
  have h1 : (y 1).val < 2048 := (y 1).isLt
  have h2 : (y 2).val < 128 := (y 2).isLt
  unfold runB
  rcases (by omega : (y 0).val = 2 ∨ (y 0).val = 1 ∨ (y 0).val = 0) with h | h | h
  · refine ⟨_, List.mem_cons_self, ?_⟩
    rw [Rect.mem_set_unit]
    intro a; match a with
      | ⟨0, _⟩ => exact ⟨by show 2 ≤ (y 0).val; omega, by show (y 0).val < 2 + 1; omega⟩
      | ⟨1, _⟩ => exact ⟨Nat.zero_le _, by show (y 1).val < 0 + 2048; omega⟩
      | ⟨2, _⟩ => exact ⟨Nat.zero_le _, by show (y 2).val < 0 + 128; omega⟩
  · refine ⟨_, List.mem_cons_of_mem _ List.mem_cons_self, ?_⟩
    rw [Rect.mem_set_unit]
    intro a; match a with
      | ⟨0, _⟩ => exact ⟨by show 1 ≤ (y 0).val; omega, by show (y 0).val < 1 + 1; omega⟩
      | ⟨1, _⟩ => exact ⟨Nat.zero_le _, by show (y 1).val < 0 + 2048; omega⟩
      | ⟨2, _⟩ => exact ⟨Nat.zero_le _, by show (y 2).val < 0 + 128; omega⟩
  · obtain ⟨p, hp, hm⟩ := pbB_covers (F := F) 𝒱 c bd i arg1 harg1 arg2 harg2 arg3 harg3 arg4 harg4 arg5 harg5 arg6 harg6 arg7 harg7 arg8 harg8 arg9 harg9 arg10 harg10 arg11 harg11 runB.sl.v0 runB.sl.v1 k1_pay52 k1_pay53 x4 x5
      (arg9.view.writes (Elt F) arg9.view.junk (runB.sl.H9_1 arg1 x1)) (arg10.view.writes (Elt F) arg10.view.junk (runB.sl.H10_1 arg2 x2))
      (arg11.view.writes (Elt F) arg11.view.junk (runB.sl.H11_1 arg3 x3)) (arg7.view.writes (Elt F) arg7.view.junk runB.sl.H7_1)
      (arg8.view.writes (Elt F) arg8.view.junk runB.sl.H8_1) y h k1_t1_loop.trips le_rfl
      (lt_of_lt_of_le h1 (show 2048 ≤ 256 * k1_t1_loop.trips by decide))
    exact ⟨p, List.mem_cons_of_mem _ (List.mem_cons_of_mem _ hp), hm⟩

end Bodies

end Cert.KernelIdeal.Sba

end
-- ==== Proof.Run.lean ====
/- The run of the two calls, at any float values: what each pipeline finds and leaves, the two bodies'
   obligations, the two regions, and the launch. The last state holds the arguments as launched, every
   counter at zero, and the result at the second pipeline's final array. -/
module

public import proofs.«01_k».proof.Proof.Cover
public import proofs.«01_k».proof.Proof.Gen.KernelIdeal.Points
public import proofs.«01_k».proof.Proof.Gen.KernelIdeal.Regions
public import Idealize.ShloMosaic.Lib.Pipeline.FrameBody
public import Idealize.ShloMosaic.Lib.Pipeline.TableIdle
public import Idealize.ShloMosaic.Lib.Pipeline.RegionArrays
public import Idealize.ShloMosaic.Lib.Pipeline.RegionsLoop

@[expose] public section

set_option maxRecDepth 8192
set_option maxHeartbeats 4000000

noncomputable section

namespace Cert.KernelIdeal.Sba

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg BodyObligation)

variable {F : FTy → Type} [FloatOps F]

local notation "𝕄G" => MT nD τ sig Unit (Elt F) ℕ (UR sig nD τ) ℕ

abbrev 𝒱₀ : Variants := Variants.none

variable (m : (ℓ : Loc nD τ sig) → Buf (Elt F) ℓ) (ρ : Dev nD → PrngReg)

/-! ## What the bodies compute -/

/-- The forward body's result at point `t`, from the three blocks it is handed. -/
def outF (c : Dev nD) (t : Fin cfg0.N) (x1 x2 x3 : S2048x128.Idx → Elt F .f32) : S2048x128.Idx → Elt F .f32 :=
  View.canon (runF (F := F) 𝒱₀ c none (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (Memref.whole cc0_scratch0) (Memref.isWhole_whole _) (Memref.whole cc0_scratch1) (Memref.isWhole_whole _) (Memref.whole cc0_scratch2) (Memref.isWhole_whole _)
    ((win0_0.stage (cfg0.slots t 0)).view.rep x1) ((win0_1.stage (cfg0.slots t 1)).view.rep x2) ((win0_2.stage (cfg0.slots t 2)).view.rep x3)).1

/-- The backward body's result at point `t`, from the five blocks it is handed. -/
def outB (c : Dev nD) (t : Fin cfg1.N) (x1 x2 x3 x4 x5 : S2048x128.Idx → Elt F .f32) : S3x2048x128.Idx → Elt F .bf16 :=
  View.canon (runB (F := F) 𝒱₀ c none (grid1.coords t)
    (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (win1_3.stage (cfg1.slots t 3)) (hstage1_3 ((cfg1.slots t 3).cast nbuf1_3))
    (win1_4.stage (cfg1.slots t 4)) (hstage1_4 ((cfg1.slots t 4).cast nbuf1_4)) (win1_5.stage (cfg1.slots t 5)) (hstage1_5 ((cfg1.slots t 5).cast nbuf1_5))
    (Memref.whole cc1_scratch0) (Memref.isWhole_whole _) (Memref.whole cc1_scratch1) (Memref.isWhole_whole _) (Memref.whole cc1_scratch2) (Memref.isWhole_whole _)
    (Memref.whole cc1_scratch3) (Memref.isWhole_whole _) (Memref.whole cc1_scratch4) (Memref.isWhole_whole _)
    ((win1_0.stage (cfg1.slots t 0)).view.rep x1) ((win1_1.stage (cfg1.slots t 1)).view.rep x2) ((win1_2.stage (cfg1.slots t 2)).view.rep x3)
    ((win1_3.stage (cfg1.slots t 3)).view.rep x4) ((win1_4.stage (cfg1.slots t 4)).view.rep x5)).1

/-! ## The pipelines' proof data -/

/-- Window `w`'s block at point `t`, read off contents `A` of its array. -/
abbrev blk0 (c : Dev nD) (V : Valuation τ sig (Elt F)) (w : Fin 4) (t : Fin cfg0.N) :=
  ((cfg0.win w).blk t).view.read (Elt F) (V (Pipeline.arrRef spec0 w))
abbrev blk1 (c : Dev nD) (V : Valuation τ sig (Elt F)) (w : Fin 6) (t : Fin cfg1.N) :=
  ((cfg1.win w).blk t).view.read (Elt F) (V (Pipeline.arrRef spec1 w))

/-- The first pipeline: every input window's buffer stays its block, the output's is the body's result. -/
def dat0 (c : Dev nD) : Dat τ (Elt F) Unit ℕ (UR sig nD τ) ℕ cfg0 c where
  A w := V0 m c (Pipeline.arrRef spec0 w)
  after w t := match w with
    | ⟨0, _⟩ => blk0 c (V0 m c) 0 t
    | ⟨1, _⟩ => blk0 c (V0 m c) 1 t
    | ⟨2, _⟩ => blk0 c (V0 m c) 2 t
    | ⟨3, _⟩ => outF c t (blk0 c (V0 m c) 0 t) (blk0 c (V0 m c) 1 t) (blk0 c (V0 m c) 2 t)
  Φ _ := Pipeline.scopedRest spec0 c
  q := Pipeline.shareOf spec0
  owed _ := 0

/-- Core `c`'s buffers after the first call. -/
def W1 (c : Dev nD) : Valuation τ sig (Elt F) :=
  Function.update (V0 m c) (Proc.devRef .tc main_v0) ((dat0 m c).arrAt 3 cfg0.N)

/-- The second pipeline, entered from what the first left. -/
def dat1 (c : Dev nD) : Dat τ (Elt F) Unit ℕ (UR sig nD τ) ℕ cfg1 c where
  A w := W1 m c (Pipeline.arrRef spec1 w)
  after w t := match w with
    | ⟨0, _⟩ => blk1 c (W1 m c) 0 t
    | ⟨1, _⟩ => blk1 c (W1 m c) 1 t
    | ⟨2, _⟩ => blk1 c (W1 m c) 2 t
    | ⟨3, _⟩ => blk1 c (W1 m c) 3 t
    | ⟨4, _⟩ => blk1 c (W1 m c) 4 t
    | ⟨5, _⟩ => outB c t (blk1 c (W1 m c) 0 t) (blk1 c (W1 m c) 1 t) (blk1 c (W1 m c) 2 t) (blk1 c (W1 m c) 3 t) (blk1 c (W1 m c) 4 t)
  Φ _ := Pipeline.scopedRest spec1 c
  q := Pipeline.shareOf spec1
  owed _ := 0

/-- Core `c`'s buffers after the second call. -/
def W2 (c : Dev nD) : Valuation τ sig (Elt F) :=
  Function.update (W1 m c) (Proc.devRef .tc main_v1) ((dat1 m c).arrAt 5 cfg1.N)

theorem A0_eq (c : Dev nD) (w : Fin cfg0.W) : (dat0 m c).A w = V0 m c (Pipeline.arrRef spec0 w) := by dsimp only [dat0]
theorem A1_eq (c : Dev nD) (w : Fin cfg1.W) : (dat1 m c).A w = W1 m c (Pipeline.arrRef spec1 w) := by dsimp only [dat1]

abbrev pdats : (p : Fin 2) → (c : Dev nD) → Dat τ (Elt F) Unit ℕ (UR sig nD τ) ℕ (cfgs p) c
  | ⟨0, _⟩ => dat0 m
  | ⟨1, _⟩ => dat1 m

/-! ## The bodies' obligations -/

theorem body0 (c : Dev nD) : BodyObligation (dat0 m c) (defs₀ (F := F)) 𝒱₀ () Set.univ := fun t => by
  rw [bigSep_W0, bigSep_W0]
  rw [show (dat0 m c).Φ t.castSucc = Pipeline.scopedRest spec0 c from rfl, show (dat0 m c).Φ t.succ = Pipeline.scopedRest spec0 c from rfl]
  simp only [Pipeline.Dat.before_fetched _ 0 t (fetch0_0 t), Pipeline.Dat.before_fetched _ 1 t (fetch0_1 t), Pipeline.Dat.before_fetched _ 2 t (fetch0_2 t)]
  rw [scopedRest0_eq]
  iintro ⟨⟨⟨%g5, H5⟩, ⟨%g6, H6⟩, ⟨%g7, H7⟩, Hr⟩, HO, ⟨%d0, H0⟩, ⟨%d1, H1⟩, ⟨%d2, H2⟩, ⟨%d3, H3⟩⟩
  ihave H0 := (rep_of_owns _ _ _ _) $$ H0
  ihave H1 := (rep_of_owns _ _ _ _) $$ H1
  ihave H2 := (rep_of_owns _ _ _ _) $$ H2
  ihave H3 := (rep_of_owns _ _ _ _) $$ H3
  iapply (wp_wand_r Idealize.ShloMosaic.frame (wpE (defs₀ (F := F)) 𝒱₀ (c : Thread nD τ) none) Set.univ)
  isplitl [H0 H1 H2 H3 H5 H6 H7]
  · iapply ((runF (F := F) 𝒱₀ c none (grid0.coords t)
      (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (Memref.whole cc0_scratch0) (Memref.isWhole_whole _) (Memref.whole cc0_scratch1) (Memref.isWhole_whole _) (Memref.whole cc0_scratch2) (Memref.isWhole_whole _)
      ((win0_0.stage (cfg0.slots t 0)).view.rep (blk0 c (V0 m c) 0 t)) ((win0_1.stage (cfg0.slots t 1)).view.rep (blk0 c (V0 m c) 1 t))
      ((win0_2.stage (cfg0.slots t 2)).view.rep (blk0 c (V0 m c) 2 t))).2 Set.univ _)
    isplitl [H0]; · iexact H0
    isplitl [H1]; · iexact H1
    isplitl [H2]; · iexact H2
    isplitl [H3]; · iexact H3
    isplitl [H5]; · iexists g5; simp only [Memref.view_whole, View.set_whole]; iexact H5
    isplitl [H6]; · iexists g6; simp only [Memref.view_whole, View.set_whole]; iexact H6
    iexists g7; simp only [Memref.view_whole, View.set_whole]; iexact H7
  · iintro %yld ⟨H0, H1, H2, H3, ⟨%g5, H5⟩, ⟨%g6, H6⟩, ⟨%g7, H7⟩⟩
    isplitl [H5 H6 H7 Hr]
    · isplitl [H5]; · iexists g5; simp only [Memref.view_whole, View.set_whole]; iexact H5
      isplitl [H6]; · iexists g6; simp only [Memref.view_whole, View.set_whole]; iexact H6
      isplitl [H7]; · iexists g7; simp only [Memref.view_whole, View.set_whole]; iexact H7
      iexact Hr
    isplitl [HO]; · iexact HO
    isplitl [H0]; · iapply (owns_of_rep _ _ _ _); iexact H0
    isplitl [H1]; · iapply (owns_of_rep _ _ _ _); iexact H1
    isplitl [H2]; · iapply (owns_of_rep _ _ _ _); iexact H2
    unfold owns; iexists _; isplitr; swap; (· iexact H3)
    ipureintro
    exact View.read_writes_eq_canon _ _ _ (runF_covers (F := F) 𝒱₀ c none (grid0.coords t) _ _ _ _ _ _ _ _ _ _ _ _ _ _ _ _ _)

theorem body1 (c : Dev nD) : BodyObligation (dat1 m c) (defs₀ (F := F)) 𝒱₀ () Set.univ := fun t => by
  rw [bigSep_W1, bigSep_W1]
  rw [show (dat1 m c).Φ t.castSucc = Pipeline.scopedRest spec1 c from rfl, show (dat1 m c).Φ t.succ = Pipeline.scopedRest spec1 c from rfl]
  simp only [Pipeline.Dat.before_fetched _ 0 t (fetch1_0 t), Pipeline.Dat.before_fetched _ 1 t (fetch1_1 t), Pipeline.Dat.before_fetched _ 2 t (fetch1_2 t),
    Pipeline.Dat.before_fetched _ 3 t (fetch1_3 t), Pipeline.Dat.before_fetched _ 4 t (fetch1_4 t)]
  rw [scopedRest1_eq]
  iintro ⟨⟨HR0, HR1, HR2, HR3, HR4, HR5, HR6, HR7, HR8, HR9, HR10, ⟨%g0, HS0⟩, ⟨%g1, HS1⟩, ⟨%g2, HS2⟩, ⟨%g3, HS3⟩, ⟨%g4, HS4⟩⟩, HO, ⟨%d0, H0⟩, ⟨%d1, H1⟩, ⟨%d2, H2⟩, ⟨%d3, H3⟩, ⟨%d4, H4⟩, ⟨%d5, H5⟩⟩
  ihave H0 := (rep_of_owns _ _ _ _) $$ H0
  ihave H1 := (rep_of_owns _ _ _ _) $$ H1
  ihave H2 := (rep_of_owns _ _ _ _) $$ H2
  ihave H3 := (rep_of_owns _ _ _ _) $$ H3
  ihave H4 := (rep_of_owns _ _ _ _) $$ H4
  ihave H5 := (rep_of_owns _ _ _ _) $$ H5
  iapply (wp_wand_r Idealize.ShloMosaic.frame (wpE (defs₀ (F := F)) 𝒱₀ (c : Thread nD τ) none) Set.univ)
  isplitl [H0 H1 H2 H3 H4 H5 HS0 HS1 HS2 HS3 HS4]
  · iapply ((runB (F := F) 𝒱₀ c none (grid1.coords t)
      (win1_0.stage (cfg1.slots t 0)) (hstage1_0 ((cfg1.slots t 0).cast nbuf1_0))
      (win1_1.stage (cfg1.slots t 1)) (hstage1_1 ((cfg1.slots t 1).cast nbuf1_1))
      (win1_2.stage (cfg1.slots t 2)) (hstage1_2 ((cfg1.slots t 2).cast nbuf1_2))
      (win1_3.stage (cfg1.slots t 3)) (hstage1_3 ((cfg1.slots t 3).cast nbuf1_3))
      (win1_4.stage (cfg1.slots t 4)) (hstage1_4 ((cfg1.slots t 4).cast nbuf1_4))
      (win1_5.stage (cfg1.slots t 5)) (hstage1_5 ((cfg1.slots t 5).cast nbuf1_5))
      (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _)
      ((win1_0.stage (cfg1.slots t 0)).view.rep (blk1 c (W1 m c) 0 t))
      ((win1_1.stage (cfg1.slots t 1)).view.rep (blk1 c (W1 m c) 1 t))
      ((win1_2.stage (cfg1.slots t 2)).view.rep (blk1 c (W1 m c) 2 t))
      ((win1_3.stage (cfg1.slots t 3)).view.rep (blk1 c (W1 m c) 3 t))
      ((win1_4.stage (cfg1.slots t 4)).view.rep (blk1 c (W1 m c) 4 t))).2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists g0; simp only [Memref.view_whole, View.set_whole]; iexact HS0
    isplitl [HS1]; · iexists g1; simp only [Memref.view_whole, View.set_whole]; iexact HS1
    isplitl [HS2]; · iexists g2; simp only [Memref.view_whole, View.set_whole]; iexact HS2
    isplitl [HS3]; · iexists g3; simp only [Memref.view_whole, View.set_whole]; iexact HS3
    iexists g4; simp only [Memref.view_whole, View.set_whole]; iexact HS4
  · iintro %yld ⟨H0, H1, H2, H3, H4, H5, ⟨%g0, HS0⟩, ⟨%g1, HS1⟩, ⟨%g2, HS2⟩, ⟨%g3, HS3⟩, ⟨%g4, HS4⟩⟩
    isplitl [HR0 HR1 HR2 HR3 HR4 HR5 HR6 HR7 HR8 HR9 HR10 HS0 HS1 HS2 HS3 HS4]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HS0]; · iexists g0; simp only [Memref.view_whole, View.set_whole]; iexact HS0
      isplitl [HS1]; · iexists g1; simp only [Memref.view_whole, View.set_whole]; iexact HS1
      isplitl [HS2]; · iexists g2; simp only [Memref.view_whole, View.set_whole]; iexact HS2
      isplitl [HS3]; · iexists g3; simp only [Memref.view_whole, View.set_whole]; iexact HS3
      iexists g4; simp only [Memref.view_whole, View.set_whole]; iexact HS4
    isplitl [HO]; · iexact HO
    isplitl [H0]; · iapply (owns_of_rep _ _ _ _); iexact H0
    isplitl [H1]; · iapply (owns_of_rep _ _ _ _); iexact H1
    isplitl [H2]; · iapply (owns_of_rep _ _ _ _); iexact H2
    isplitl [H3]; · iapply (owns_of_rep _ _ _ _); iexact H3
    isplitl [H4]; · iapply (owns_of_rep _ _ _ _); iexact H4
    unfold owns; iexists _; isplitr; swap; (· iexact H5)
    ipureintro
    exact View.read_writes_eq_canon _ _ _ (runB_covers (F := F) 𝒱₀ c none (grid1.coords t) _ _ _ _ _ _ _ _ _ _ _ _ _ _ _ _ _ _ _ _ _ _ _ _ _ _ _)

/-! ## The regions -/

abbrev L : GSem nD τ sig → Finset Unit := fun _ => ∅
abbrev lv : GSem nD τ sig → Unit → ℕ := fun _ _ => 0

/-- What rides beside the buffers: the core owes nothing. -/
abbrev R (c : Dev nD) : sProp 𝕄G := iprop(∃ W, owes (c : Thread nD τ) (0 : CellTallies nD τ sig Unit) W)

/-- Between the items core `c` holds every unscoped buffer whole at a valuation. -/
abbrev St (V : Dev nD → Valuation τ sig (Elt F)) (c : Dev nD) : sProp 𝕄G :=
  iprop(StableHlo.held (c : Thread nD τ) (Pipeline.ucRefs τ sig) (V c) ∗ R c)

theorem W1_self (c : Dev nD) : W1 m c (Proc.devRef .tc main_v0) = (dat0 m c).arrAt 3 cfg0.N := by
  unfold W1; exact Function.update_self _ _ _

theorem W1_arr (c : Dev nD) (w : Fin cfg0.W) :
    (dat0 m c).arrAt w cfg0.N = W1 m c (Pipeline.arrRef spec0 w) := by
  match w with
  | ⟨0, _⟩ =>
    exact ((dat0 m c).arrAt_in 0 rfl _).trans
      ((A0_eq m c 0).trans (Function.update_of_ne (StableHlo.devRef_ne_of_ne (by decide)) _ _).symm)
  | ⟨1, _⟩ =>
    exact ((dat0 m c).arrAt_in 1 rfl _).trans
      ((A0_eq m c 1).trans (Function.update_of_ne (StableHlo.devRef_ne_of_ne (by decide)) _ _).symm)
  | ⟨2, _⟩ =>
    exact ((dat0 m c).arrAt_in 2 rfl _).trans
      ((A0_eq m c 2).trans (Function.update_of_ne (StableHlo.devRef_ne_of_ne (by decide)) _ _).symm)
  | ⟨3, _⟩ => exact (W1_self m c).symm

set_option backward.isDefEq.respectTransparency.types false in
/-- Region 0: entered with the buffers as they are, left with the output array at its final contents. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body0 m c).loose
  hwaits := Pipeline.hwaits_of_owed_zero _ _ _ _ L lv 0 fun _ _ => rfl
  pre := St (V0 m)
  post := St (W1 m)
  X _ := iprop(emp)
  Y _ := iprop(emp)
  Z c := Pipeline.unscopedRest spec0 c (fun b => V0 m c b)
  hentry c := by
    have hsplit := Pipeline.arrays_of_unscopedBufs_shared (pcfgs (F := F)) adm (pdats m) (p := 0) winFacts₀0 sharedIn0 arr_whole0 c
      (fun _ _ => rfl) (fun b => V0 m c b) (A0_eq m c)
    unfold St
    rw [← Pipeline.unscopedBufs_held c (V0 m c)]
    iintro ⟨⟨Hub, HO⟩, -, -⟩
    ihave H := hsplit $$ Hub
    icases H with ⟨Ha, Hr⟩
    imodintro
    isplitl [Ha]; · iexact Ha
    isplitr; · rw [Pipeline.prefHeld_of_none _ rfl]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (pdats m 0 c).Φ 0 = Pipeline.scopedRest spec0 c from rfl]
    iintro ⟨-, -, Hr⟩
    iexact Hr
  hout c := by
    rw [show (pdats m 0 c).Φ (Fin.last _) = Pipeline.scopedRest spec0 c from rfl]
    iintro Hr
    isplitr; · iempintro
    isplitr; · unfold Pipeline.ownSems0; rw [Finset.univ_eq_empty, BI.bigSep_empty]; iempintro
    iexact Hr
  hexit c := by
    have hjoin := Pipeline.unscopedBufs_of_arrays_shared (pcfgs (F := F)) adm (p := 0) winFacts₀0 sharedIn0 arr_whole0 c (pdats m)
      (fun _ _ => rfl) (fun b => V0 m c b) (fun b => W1 m c b) (fun w => (dat0 m c).arrAt w cfg0.N) (W1_arr m c)
      (fun b hb => Function.update_of_ne (StableHlo.devRef_ne_of_ne fun h : b = main_v0 => hb (by
        rw [h]; exact Finset.mem_image.mpr ⟨3, Finset.mem_univ _, rfl⟩)) _ _)
    unfold St
    rw [← Pipeline.unscopedBufs_held c (W1 m c)]
    iintro ⟨Ha, HO, -, Hr⟩
    imodintro
    isplitr [HO]
    · iapply hjoin
      isplitl [Ha]; · iexact Ha
      iexact Hr
    · unfold Pipeline.Dat.owesAt Pipeline.owesWithin
      icases HO with ⟨%W, -, HO⟩; iexists W; iexact HO

theorem W2_self (c : Dev nD) : W2 m c (Proc.devRef .tc main_v1) = (dat1 m c).arrAt 5 cfg1.N := by
  unfold W2; exact Function.update_self _ _ _

theorem W2_arr (c : Dev nD) (w : Fin cfg1.W) :
    (dat1 m c).arrAt w cfg1.N = W2 m c (Pipeline.arrRef spec1 w) := by
  match w with
  | ⟨0, _⟩ =>
    exact ((dat1 m c).arrAt_in 0 rfl _).trans
      ((A1_eq m c 0).trans (Function.update_of_ne (StableHlo.devRef_ne_of_ne (by decide)) _ _).symm)
  | ⟨1, _⟩ =>
    exact ((dat1 m c).arrAt_in 1 rfl _).trans
      ((A1_eq m c 1).trans (Function.update_of_ne (StableHlo.devRef_ne_of_ne (by decide)) _ _).symm)
  | ⟨2, _⟩ =>
    exact ((dat1 m c).arrAt_in 2 rfl _).trans
      ((A1_eq m c 2).trans (Function.update_of_ne (StableHlo.devRef_ne_of_ne (by decide)) _ _).symm)
  | ⟨3, _⟩ =>
    exact ((dat1 m c).arrAt_in 3 rfl _).trans
      ((A1_eq m c 3).trans (Function.update_of_ne (StableHlo.devRef_ne_of_ne (by decide)) _ _).symm)
  | ⟨4, _⟩ =>
    exact ((dat1 m c).arrAt_in 4 rfl _).trans
      ((A1_eq m c 4).trans (Function.update_of_ne (StableHlo.devRef_ne_of_ne (by decide)) _ _).symm)
  | ⟨5, _⟩ => exact (W2_self m c).symm

set_option backward.isDefEq.respectTransparency.types false in
/-- Region 1: entered with the buffers as they are, left with the output array at its final contents. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body1 m c).loose
  hwaits := Pipeline.hwaits_of_owed_zero _ _ _ _ L lv 1 fun _ _ => rfl
  pre := St (W1 m)
  post := St (W2 m)
  X _ := iprop(emp)
  Y _ := iprop(emp)
  Z c := Pipeline.unscopedRest spec1 c (fun b => W1 m c b)
  hentry c := by
    have hsplit := Pipeline.arrays_of_unscopedBufs_shared (pcfgs (F := F)) adm (pdats m) (p := 1) winFacts₀1 sharedIn1 arr_whole1 c
      (fun _ _ => rfl) (fun b => W1 m c b) (A1_eq m c)
    unfold St
    rw [← Pipeline.unscopedBufs_held c (W1 m c)]
    iintro ⟨⟨Hub, HO⟩, -, -⟩
    ihave H := hsplit $$ Hub
    icases H with ⟨Ha, Hr⟩
    imodintro
    isplitl [Ha]; · iexact Ha
    isplitr; · rw [Pipeline.prefHeld_of_none _ rfl]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (pdats m 1 c).Φ 0 = Pipeline.scopedRest spec1 c from rfl]
    iintro ⟨-, -, Hr⟩
    iexact Hr
  hout c := by
    rw [show (pdats m 1 c).Φ (Fin.last _) = Pipeline.scopedRest spec1 c from rfl]
    iintro Hr
    isplitr; · iempintro
    isplitr; · unfold Pipeline.ownSems0; rw [Finset.univ_eq_empty, BI.bigSep_empty]; iempintro
    iexact Hr
  hexit c := by
    have hjoin := Pipeline.unscopedBufs_of_arrays_shared (pcfgs (F := F)) adm (p := 1) winFacts₀1 sharedIn1 arr_whole1 c (pdats m)
      (fun _ _ => rfl) (fun b => W1 m c b) (fun b => W2 m c b) (fun w => (dat1 m c).arrAt w cfg1.N) (W2_arr m c)
      (fun b hb => Function.update_of_ne (StableHlo.devRef_ne_of_ne fun h : b = main_v1 => hb (by
        rw [h]; exact Finset.mem_image.mpr ⟨5, Finset.mem_univ _, rfl⟩)) _ _)
    unfold St
    rw [← Pipeline.unscopedBufs_held c (W2 m c)]
    iintro ⟨Ha, HO, -, Hr⟩
    imodintro
    isplitr [HO]
    · iapply hjoin
      isplitl [Ha]; · iexact Ha
      iexact Hr
    · unfold Pipeline.Dat.owesAt Pipeline.owesWithin
      icases HO with ⟨%W, -, HO⟩; iexists W; iexact HO

/-! ## The launch -/

abbrev segs (c : Dev nD) : List (Seg (pcfgs (F := F)) adm (pdats m) () defs₀ 𝒱₀ L lv) := [.region (reg0 m), .region (reg1 m)]

theorem W2_arg0 (c : Dev nD) : W2 m c (Proc.devRef .tc main_arg0) = m ((c : Thread nD τ).loc main_arg0) :=
  (Function.update_of_ne (StableHlo.devRef_ne_of_ne (by decide)) _ _).trans (Function.update_of_ne (StableHlo.devRef_ne_of_ne (by decide)) _ _)
theorem W2_arg1 (c : Dev nD) : W2 m c (Proc.devRef .tc main_arg1) = m ((c : Thread nD τ).loc main_arg1) :=
  (Function.update_of_ne (StableHlo.devRef_ne_of_ne (by decide)) _ _).trans (Function.update_of_ne (StableHlo.devRef_ne_of_ne (by decide)) _ _)
theorem W2_res (c : Dev nD) : W2 m c (Proc.devRef .tc main_v1) = (dat1 m c).arrAt 5 cfg1.N :=
  W2_self m c

/-- What a final state holds: the result at the second pipeline's final array, the arguments as launched. -/
def QC (c : Dev nD) (s : MemSt nD τ sig (Elt F)) : Prop :=
  s.mem ((c : Thread nD τ).loc main_v1) = (dat1 m c).arrAt 5 cfg1.N
    ∧ s.mem ((c : Thread nD τ).loc main_arg0) = m ((c : Thread nD τ).loc main_arg0)
    ∧ s.mem ((c : Thread nD τ).loc main_arg1) = m ((c : Thread nD τ).loc main_arg1)

set_option backward.isDefEq.respectTransparency.types false in
/-- From any memory with zero counters every weakly fair execution of the two calls terminates, the
    arguments as launched, the counters at zero, the result at the second pipeline's final array. -/
theorem run_main : θ_run defs (onTc (τ := τ) (main (F := F))) ⟨m, fun _ => 0, ρ⟩
    (fun r => (∀ c : Dev nD, QC m c r.2) ∧ r.2.sem = fun _ => 0) := by
  refine Pipeline.θ_run_regions_kit_dev_sems (pcfgs (F := F)) adm (pdats m) () cellOf_inj emb₁ defs₀ 𝒱₀ L lv m ρ main (segs m)
    (fun c Q => by
      rewrite [main_chain c, Seg.run_eq_chain,
        show (segs m c).map Seg.prog = [
          Prog.lift (.customCall (Pipeline.entry 0) ()),
          Prog.lift (.customCall (Pipeline.entry 1) ()) ] from rfl]
      exact .rfl)
    (fun c => by simp only [segs, Seg.pipes_region, Seg.pipes_nil]; decide) (fun _ => 0) (fun _ _ => rfl) (fun _ => iprop(emp))
    (initOf (Pipeline.cells cfgs cellOf_inj) (Pipeline.launchToks cfgs cellOf_inj)) ?_
    (T₀ := St (V0 m)) (Tₙ := fun c => StableHlo.held (c : Thread nD τ) (Pipeline.ucRefs τ sig) (W2 m c))
    (hch := fun c => ⟨.rfl, .rfl, .rfl⟩) (hinit := ?_) (QY := QC m) (hfin := fun c s' => ?_)
    (hQ := fun _ h hz => ⟨h, funext fun g => hz g (.inr (regions_no_unscoped g.2))⟩)
  · iintro Hu
    imodintro
    isplitl [Hu]
    · iapply (show (ownU _ : sProp 𝕄G) ⊢ BI.own (emb₁ (initOf (Pipeline.cells cfgs cellOf_inj) (Pipeline.launchToks cfgs cellOf_inj))) from .rfl)
      iexact Hu
    iapply (show (BI.emp : sProp 𝕄G) ⊢ bigSep Finset.univ (fun _ : Dev nD => (BI.emp : sProp 𝕄G)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W2 m c) s') $$ [Hh HSI]
    · isplitl [Hh] <;> iassumption
    icases Hr with ⟨%h, HSI⟩
    imodintro
    isplitr
    · ipureintro
      exact ⟨(h (Proc.devRef .tc main_v1) (Finset.mem_filter.mpr ⟨StableHlo.devRef_mem_tcRefs main_v1, by decide⟩)).trans (W2_res m c),
        (h (Proc.devRef .tc main_arg0) (Finset.mem_filter.mpr ⟨StableHlo.devRef_mem_tcRefs main_arg0, by decide⟩)).trans (W2_arg0 m c),
        (h (Proc.devRef .tc main_arg1) (Finset.mem_filter.mpr ⟨StableHlo.devRef_mem_tcRefs main_arg1, by decide⟩)).trans (W2_arg1 m c)⟩
    · iexact HSI

end Cert.KernelIdeal.Sba

end
-- ==== Proof.Tile.lean ====
/- Tiles of extended reals that hold real numbers, and what each operation of the two kernels makes of
   them. -/
module

public import proofs.«01_k».proof.Proof.Gen.KernelIdeal.Skeleton
public import Idealize.ShloMosaic.Lib.Pointwise
public import Idealize.ShloMosaic.Lib.ValueLayout
public import Mathlib.Analysis.SpecialFunctions.Log.Basic

@[expose] public section

set_option maxRecDepth 16384

noncomputable section

namespace Cert.KernelIdeal.Sba

open Cert.KernelIdeal.Gen
open Idealize.ShloMosaic Idealize.ShloMosaic.ValueIdx
open scoped BigOperators

/-- The tile whose entry in row `a` and column `b` is the real number `f a b`. -/
def T {m n : ℕ} {φ : FTy} (f : ℕ → ℕ → ℝ) : FVec Ideal ⟨2, ![m, n]⟩ φ :=
  fun i => ((f (i 0).val (i 1).val : ℝ) : EReal)

/-- The column whose entry in row `a` is the real number `f a`. -/
def T1 {m : ℕ} {φ : FTy} (f : ℕ → ℝ) : FVec Ideal ⟨1, ![m]⟩ φ :=
  fun i => ((f (i 0).val : ℝ) : EReal)

/-- The mask that is set where `p` holds. -/
def M {m n : ℕ} (p : ℕ → ℕ → Prop) [∀ a b, Decidable (p a b)] : IVec ⟨2, ![m, n]⟩ 1 :=
  fun i => if p (i 0).val (i 1).val then 1#1 else 0#1

theorem coe_max' (x y : ℝ) : ((max x y : ℝ) : EReal) = max (x : EReal) (y : EReal) :=
  (EReal.coe_strictMono.monotone).map_max

variable {m n : ℕ} {φ : FTy} (f g : ℕ → ℕ → ℝ)

theorem T_congr {f g : ℕ → ℕ → ℝ} (h : ∀ a < m, ∀ b < n, f a b = g a b) :
    (T f : FVec Ideal ⟨2, ![m, n]⟩ φ) = T g := by
  funext i
  exact congrArg (fun r : ℝ => (r : EReal)) (h _ (i 0).isLt _ (i 1).isLt)

theorem T_addf : addf (T f : FVec Ideal ⟨2, ![m, n]⟩ φ) (T g) = T (fun a b => f a b + g a b) := by
  funext i; exact (EReal.coe_add _ _).symm
theorem T_subf : subf (T f : FVec Ideal ⟨2, ![m, n]⟩ φ) (T g) = T (fun a b => f a b - g a b) := by
  funext i; exact (EReal.coe_sub _ _).symm
theorem T_mulf : mulf (T f : FVec Ideal ⟨2, ![m, n]⟩ φ) (T g) = T (fun a b => f a b * g a b) := by
  funext i; exact (EReal.coe_mul _ _).symm
theorem T_maximumf : maximumf (T f : FVec Ideal ⟨2, ![m, n]⟩ φ) (T g) = T (fun a b => max (f a b) (g a b)) := by
  funext i; exact (coe_max' _ _).symm
theorem T_exp : exp (T f : FVec Ideal ⟨2, ![m, n]⟩ φ) = T (fun a b => Real.exp (f a b)) := by
  funext i; rfl
theorem T_absf : absf (T f : FVec Ideal ⟨2, ![m, n]⟩ φ) = T (fun a b => |f a b|) := by
  funext i
  show max _ (- _) = _
  rw [T, T, ← EReal.coe_neg, ← coe_max']; rfl
theorem T_log1p (h : ∀ a b, 0 < 1 + f a b) :
    log1p (T f : FVec Ideal ⟨2, ![m, n]⟩ φ) = T (fun a b => Real.log (1 + f a b)) := by
  funext i
  show Ideal.log1p ((f (i 0).val (i 1).val : ℝ) : EReal) = _
  rw [Ideal.log1p, ← EReal.coe_one, ← EReal.coe_add, Ideal.log_coe, if_neg (not_le.mpr (h _ _))]; rfl
theorem T_truncf {ψ : FTy} (h : ψ.bits < φ.bits) : truncf ψ (T f : FVec Ideal ⟨2, ![m, n]⟩ φ) h = T f := by
  funext i; rfl
theorem T_extf {ψ : FTy} (h : φ.bits < ψ.bits) : extf ψ (T f : FVec Ideal ⟨2, ![m, n]⟩ φ) h = T f := by
  funext i; rfl

theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee]
  rw [← EReal.coe_mul, ← EReal.coe_one]
  norm_num

theorem T_zero : broadcast ⟨2, ![m, n]⟩ (Scalar.ofBits (F := Ideal) .f32 0x00000000#32) = T (fun _ _ => 0) := by
  funext i; exact ofBits_zero
theorem T_one : broadcast ⟨2, ![m, n]⟩ (Scalar.ofBits (F := Ideal) .f32 0x3F800000#32) = T (fun _ _ => 1) := by
  funext i; exact ofBits_one
theorem T_const_zero : constant (F := Ideal) ⟨2, ![m, n]⟩ .f32 0x00000000#32 = T (fun _ _ => 0) := by
  funext i; exact ofBits_zero

theorem T_select (p : ℕ → ℕ → Prop) [∀ a b, Decidable (p a b)] :
    select (M p) (T f : FVec Ideal ⟨2, ![m, n]⟩ φ) (T g) = T (fun a b => if p a b then f a b else g a b) := by
  funext i
  show (if (if p _ _ then 1#1 else 0#1) = 1#1 then _ else _) = _
  by_cases h : p (i 0).val (i 1).val
  · rw [if_pos h, if_pos rfl]; simp only [T, if_pos h]
  · rw [if_neg h, if_neg (by decide)]; simp only [T, if_neg h]

theorem coe_sum {ι : Type*} (s : Finset ι) (F : ι → ℝ) : ((∑ i ∈ s, F i : ℝ) : EReal) = ∑ i ∈ s, ((F i : ℝ) : EReal) := by
  classical
  induction s using Finset.induction_on with
  | empty => simp
  | insert a s ha ih => rw [Finset.sum_insert ha, Finset.sum_insert ha, EReal.coe_add, ih]

theorem coe_sum_fin (N : ℕ) (F : ℕ → ℝ) : ∑ k : Fin N, ((F k.val : ℝ) : EReal) = ((∑ k ∈ Finset.range N, F k : ℝ) : EReal) := by
  rw [← coe_sum, Finset.sum_range]

theorem coe_sum_fin' (N : ℕ) (F G : ℕ → ℝ) :
    ∑ k : Fin N, ((F k.val : ℝ) : EReal) * ((G k.val : ℝ) : EReal) = ((∑ k ∈ Finset.range N, F k * G k : ℝ) : EReal) := by
  rw [← coe_sum_fin]; exact Finset.sum_congr rfl fun k _ => (EReal.coe_mul _ _).symm

/-- `x · yᵀ` on tiles. -/
theorem T_nt {φ₁ φ₂ : FTy} (a : ℕ → ℕ → ℝ) :
    matmul dot_S256x128_S256x128_S256x256_1_1_0_0_n_n none (T f : FVec Ideal S256x128 φ₁) (T g : FVec Ideal S256x128 φ₂) (T a)
      = T (fun r c => a r c + ∑ d ∈ Finset.range 128, f r d * g c d) := by
  funext j
  simp only [pointwise]
  exact (congrArg (fun x : EReal => ((a (j 0).val (j 1).val : ℝ) : EReal) + x)
    (coe_sum_fin' 128 (fun k => f (j 0).val k) (fun k => g (j 1).val k))).trans (EReal.coe_add _ _).symm

/-- `x · y` on tiles of 256 by 256. -/
theorem T_nn {φ₁ φ₂ : FTy} (a : ℕ → ℕ → ℝ) :
    matmul dot_S256x256_S256x256_S256x256_1_0_0_1_n_n none (T f : FVec Ideal S256x256 φ₁) (T g : FVec Ideal S256x256 φ₂) (T a)
      = T (fun r c => a r c + ∑ k ∈ Finset.range 256, f r k * g k c) := by
  funext j
  simp only [pointwise]
  exact (congrArg (fun x : EReal => ((a (j 0).val (j 1).val : ℝ) : EReal) + x)
    (coe_sum_fin' 256 (fun k => f (j 0).val k) (fun k => g k (j 1).val))).trans (EReal.coe_add _ _).symm

/-- `x · y` with a right-hand side of 128 columns. -/
theorem T_nn' {φ₁ φ₂ : FTy} (a : ℕ → ℕ → ℝ) :
    matmul dot_S256x256_S256x128_S256x128_1_0_0_1_n_n none (T f : FVec Ideal S256x256 φ₁) (T g : FVec Ideal S256x128 φ₂) (T a)
      = T (fun r c => a r c + ∑ k ∈ Finset.range 256, f r k * g k c) := by
  funext j
  simp only [pointwise]
  exact (congrArg (fun x : EReal => ((a (j 0).val (j 1).val : ℝ) : EReal) + x)
    (coe_sum_fin' 256 (fun k => f (j 0).val k) (fun k => g k (j 1).val))).trans (EReal.coe_add _ _).symm

/-- `xᵀ · y` with a right-hand side of 128 columns. -/
theorem T_tn {φ₁ φ₂ : FTy} (a : ℕ → ℕ → ℝ) :
    matmul dot_S256x256_S256x128_S256x128_0_0_1_1_n_n none (T f : FVec Ideal S256x256 φ₁) (T g : FVec Ideal S256x128 φ₂) (T a)
      = T (fun r c => a r c + ∑ k ∈ Finset.range 256, f k r * g k c) := by
  funext j
  simp only [pointwise]
  exact (congrArg (fun x : EReal => ((a (j 0).val (j 1).val : ℝ) : EReal) + x)
    (coe_sum_fin' 256 (fun k => f k (j 0).val) (fun k => g k (j 1).val))).trans (EReal.coe_add _ _).symm

/-- A row sum of a tile of 256 columns, as a column. -/
theorem T_rowSum (b : BitVec FTy.f32.bits) (h₁) (h₂) :
    shapeCast S256x1 (multiReduction .add [1] S256 (T f : FVec Ideal S256x256 .f32) b reduces_S256x256_S256 h₁ h₂)
        shapeCasts_S256_S256x1
      = T (fun r _ => ∑ k ∈ Finset.range 256, f r k) := by
  funext j
  simp only [pointwise]
  exact coe_sum_fin 256 (fun k => f (j 0).val k)

/-- A row sum of a tile of 128 columns, as a column. -/
theorem T_rowSum' (b : BitVec FTy.f32.bits) (h₁) (h₂) :
    shapeCast S256x1 (multiReduction .add [1] S256 (T f : FVec Ideal S256x128 .f32) b reduces_S256x128_S256 h₁ h₂)
        shapeCasts_S256_S256x1
      = T (fun r _ => ∑ k ∈ Finset.range 128, f r k) := by
  funext j
  simp only [pointwise]
  exact coe_sum_fin 128 (fun k => f (j 0).val k)

/-- A column spread over 256 columns. -/
theorem T_spread :
    broadcastTo S256x256 (T f : FVec Ideal S256x1 .f32) broadcasts_S256x1_S256x256 = T (fun r _ => f r 0) := by
  funext j
  simp only [pointwise]
  rfl

theorem toInt_small {a : ℕ} (h : a < 2 ^ 31) : (BitVec.ofNat 32 a).toInt = a := by
  rw [BitVec.toInt_ofNat']
  unfold Int.bmod
  norm_num
  omega

theorem coe_bit (b : Bool) : (((BitVec.setWidth 32 (BitVec.ofBool b)).toInt : ℝ) : EReal) = ((if b then 1 else 0 : ℝ) : EReal) := by
  cases b <;> simp

/-- The strict lower triangle of ones. -/
theorem pay1_eq : k0_pay1 (F := Ideal) = T (fun r c => if c < r then 1 else 0) := by
  funext j
  have h0 : (j 0).val < 256 := (j 0).isLt
  have h1 : (j 1).val < 256 := (j 1).isLt
  unfold k0_pay1
  simp only [pointwise]
  show (((BitVec.setWidth 32 (BitVec.ofBool ((BitVec.ofNat 32 (0 * 256 + (j 1).val)).slt (BitVec.ofNat 32 (0 * 256 + (j 0).val))))).toInt : ℝ) : EReal) = _
  rw [coe_bit, BitVec.slt, toInt_small (by omega), toInt_small (by omega)]
  simp [T]

/-- The lower triangle of ones, the diagonal with it. -/
theorem pay53_eq : k1_pay53 (F := Ideal) = T (fun r c => if c ≤ r then 1 else 0) := by
  funext j
  have h0 : (j 0).val < 256 := (j 0).isLt
  have h1 : (j 1).val < 256 := (j 1).isLt
  unfold k1_pay53
  simp only [pointwise]
  show (((BitVec.setWidth 32 (BitVec.ofBool ((BitVec.ofNat 32 (0 * 256 + (j 1).val)).sle (BitVec.ofNat 32 (0 * 256 + (j 0).val))))).toInt : ℝ) : EReal) = _
  rw [coe_bit, BitVec.sle, toInt_small (by omega), toInt_small (by omega)]
  simp [T]

theorem pay52_eq : k1_pay52 (F := Ideal) = T (fun r c => if c < r then 1 else 0) := pay1_eq

theorem iv_eq (k : ℕ) : Scf.iv 0#32 1#32 k = BitVec.ofNat 32 k := by
  simp [Scf.iv]

/-- Column `c` of block `k` before row `r` of block `k`, compared as words. -/
theorem block_lt {a b k : ℕ} (ha : a < 256) (hb : b < 256) (hk : k < 8) :
    IntOp.cmpi CmpIPredicate.slt
      (IntOp.addi (BitVec.ofNat 32 a)
        (Scalar.muli (Scalar.subi (Scalar.subi (Scalar.muli (Scalar.addi (Scf.iv 0#32 1#32 k) 1#32) 1#32) 1#32) 0#32)
          256#32))
      (IntOp.addi (BitVec.ofNat 32 b) (Scalar.muli (Scf.iv 0#32 1#32 k) 256#32))
      = if a < b then 1#1 else 0#1 := by
  rw [iv_eq]
  have h1 : Scalar.subi (Scalar.subi (Scalar.muli (Scalar.addi (BitVec.ofNat 32 k) 1#32) 1#32) 1#32) 0#32 = BitVec.ofNat 32 k := by
    show (BitVec.ofNat 32 k + 1#32) * 1#32 - 1#32 - 0#32 = _
    rw [BitVec.mul_one, BitVec.add_sub_cancel, BitVec.sub_zero]
  have h2 : ∀ x : ℕ, IntOp.addi (BitVec.ofNat 32 x) (Scalar.muli (BitVec.ofNat 32 k) 256#32) = BitVec.ofNat 32 (x + k * 256) := by
    intro x
    show BitVec.ofNat 32 x + BitVec.ofNat 32 k * BitVec.ofNat 32 256 = _
    rw [← BitVec.ofNat_mul, ← BitVec.ofNat_add]
  rw [h1, h2, h2]
  show BitVec.ofBool ((BitVec.ofNat 32 (a + k * 256)).slt (BitVec.ofNat 32 (b + k * 256))) = _
  rw [BitVec.slt, toInt_small (by omega), toInt_small (by omega)]
  by_cases h : a < b
  · rw [if_pos h, decide_eq_true (by omega)]; rfl
  · rw [if_neg h, decide_eq_false (by omega)]; rfl

/-- The diagonal block's mask: key `c` before query `r`. -/
theorem pay19_eq (k : Fin k0_t1_loop.trips) :
    k0_pay19 (iota .tc S256x256 32 [0] iota_S256x256_d0_w32) (iota .tc S256x256 32 [1] iota_S256x256_d1_w32) 0#32 1#32 k
      = M (fun r c => c < r) := by
  funext j
  have h0 : (j 0).val < 256 := (j 0).isLt
  have h1 : (j 1).val < 256 := (j 1).isLt
  have hk : k.val < 8 := k.isLt
  unfold k0_pay19
  simp only [pointwise]
  have := block_lt h1 h0 hk
  rw [← Nat.zero_add (j 0).val, ← Nat.zero_add (j 1).val] at this
  exact this.trans (by simp [M])

theorem pay42_eq (k : Fin k1_t1_loop.trips) :
    k1_pay42 (iota .tc S256x256 32 [0] iota_S256x256_d0_w32) (iota .tc S256x256 32 [1] iota_S256x256_d1_w32) 0#32 1#32 k
      = M (fun r c => c < r) := pay19_eq k

end Cert.KernelIdeal.Sba

end
-- ==== Proof.Attn.lean ====
/- The stick-breaking attention of one head over the real numbers, its gradient, and how both are built up
   block by block, the key blocks taken from the last to the first. Nothing here is about a program. -/
module

public import Mathlib.Analysis.SpecialFunctions.Log.Basic
public import Mathlib.Algebra.BigOperators.Intervals

@[expose] public section

noncomputable section

namespace Cert.Sba

open scoped BigOperators
open Finset (range Ico)

/-- The softplus `log (1 + exp x)`. -/
def sp (x : ℝ) : ℝ := Real.log (1 + Real.exp x)

/-- The logistic function, as the exponential of `x - sp x`. -/
def sg (x : ℝ) : ℝ := Real.exp (x - sp x)

theorem exp_sp (x : ℝ) : Real.exp (sp x) = 1 + Real.exp x := Real.exp_log (by positivity)

theorem sp_neg (x : ℝ) : sp (-x) = sp x - x := by
  apply Real.exp_injective
  rw [Real.exp_sub, exp_sp, exp_sp, Real.exp_neg]
  have := Real.exp_pos x
  field_simp
  ring

theorem max_log (x : ℝ) : max x 0 + Real.log (1 + Real.exp (0 - |x|)) = sp x := by
  rw [zero_sub]
  rcases le_total 0 x with h | h
  · rw [max_eq_left h, abs_of_nonneg h]
    have := sp_neg x
    unfold sp at *
    linarith
  · rw [max_eq_right h, abs_of_nonpos h, neg_neg, zero_add]; rfl

theorem one_sub_sg (x : ℝ) : 1 - sg x = sg (-x) := by
  unfold sg
  rw [sp_neg, show -x - (sp x - x) = - sp x by ring, Real.exp_sub, Real.exp_neg, exp_sp]
  have := Real.exp_pos x
  field_simp
  ring

theorem sg_mul (x y : ℝ) : sg x * Real.exp (0 - y) = Real.exp (x - sp x - y) := by
  unfold sg
  rw [← Real.exp_add]; congr 1; ring

/-! ## The attention and its gradient -/

variable (q k v g : ℕ → ℕ → ℝ)

/-- The product of row `t` of `q` and row `s` of `k`. -/
def zz (t s : ℕ) : ℝ := ∑ d ∈ range 128, q t d * k s d

/-- The softplus of the score of an earlier key, nothing for another. -/
def Sm (t s : ℕ) : ℝ := if s < t then sp (zz q k t s) else 0

/-- What the keys after `s` have taken. -/
def RR (t s : ℕ) : ℝ := ∑ x ∈ Ico (s + 1) 2048, Sm q k t x

/-- The weight of key `s` for query `t`. -/
def AA (t s : ℕ) : ℝ := if s < t then sg (zz q k t s) * Real.exp (0 - RR q k t s) else 0

/-- The output. -/
def OO (t d : ℕ) : ℝ := ∑ s ∈ range 2048, AA q k t s * v s d

/-- The weight times its gradient. -/
def EE (t s : ℕ) : ℝ := AA q k t s * zz g v t s

/-- The sum of these over the keys. -/
def DS (t : ℕ) : ℝ := ∑ s ∈ range 2048, EE q k v g t s

/-- The gradient of the score. -/
def DZ (t s : ℕ) : ℝ :=
  if s < t then
    EE q k v g t s * (1 - sg (zz q k t s)) - sg (zz q k t s) * (DS q k v g t - ∑ x ∈ Ico s 2048, EE q k v g t x)
  else 0

/-- The gradients of the queries, of the keys and of the values. -/
def DQ (t d : ℕ) : ℝ := ∑ s ∈ range 2048, DZ q k v g t s * k s d
def DK (s d : ℕ) : ℝ := ∑ t ∈ range 2048, DZ q k v g t s * q t d
def DV (s d : ℕ) : ℝ := ∑ t ∈ range 2048, AA q k t s * g t d

/-- The output's product with its gradient is the sum of the weights times theirs. -/
theorem dsum_eq (t : ℕ) : ∑ d ∈ range 128, g t d * OO q k v t d = DS q k v g t := by
  unfold OO DS EE zz
  simp only [Finset.mul_sum]
  rw [Finset.sum_comm]
  refine Finset.sum_congr rfl fun s _ => Finset.sum_congr rfl fun d _ => ?_
  ring

theorem Sm_eq_zero {t s : ℕ} (h : t ≤ s) : Sm q k t s = 0 := if_neg (by omega)
theorem AA_eq_zero {t s : ℕ} (h : t ≤ s) : AA q k t s = 0 := if_neg (by omega)
theorem EE_eq_zero {t s : ℕ} (h : t ≤ s) : EE q k v g t s = 0 := by rw [EE, AA_eq_zero q k h, zero_mul]
theorem DZ_eq_zero {t s : ℕ} (h : t ≤ s) : DZ q k v g t s = 0 := if_neg (by omega)

/-! ## One block -/

/-- Rows `256 i` and on. -/
def blk (f : ℕ → ℕ → ℝ) (i : ℕ) : ℕ → ℕ → ℝ := fun r d => f (256 * i + r) d

section Block
variable (p : ℕ → ℕ → Prop) [∀ a b, Decidable (p a b)] (Q K V G : ℕ → ℕ → ℝ) (rem e ds : ℕ → ℝ)

def bS (r c : ℕ) : ℝ := if p r c then sp (zz Q K r c) else 0
def bR (r c : ℕ) : ℝ := rem r + ∑ j ∈ range 256, bS p Q K r j * (if c < j then 1 else 0)
def bA (r c : ℕ) : ℝ := if p r c then sg (zz Q K r c) * Real.exp (0 - bR p Q K rem r c) else 0
def bE (r c : ℕ) : ℝ := bA p Q K rem r c * zz G V r c
def bZ (r c : ℕ) : ℝ :=
  if p r c then
    bE p Q K V G rem r c * (1 - sg (zz Q K r c))
      - sg (zz Q K r c) * (ds r - (e r + ∑ j ∈ range 256, bE p Q K V G rem r j * (if c ≤ j then 1 else 0)))
  else 0
end Block

/-- Key `c` of block `j` is before query `r` of block `i`. -/
def before (i j : ℕ) (r c : ℕ) : Prop := 256 * j + c < 256 * i + r
instance (i j a b : ℕ) : Decidable (before i j a b) := inferInstanceAs (Decidable (_ < _))

theorem sum_after (F : ℕ → ℝ) (c : ℕ) :
    ∑ j ∈ range 256, F j * (if c < j then 1 else 0) = ∑ j ∈ Ico (c + 1) 256, F j := by
  simp only [mul_ite, mul_one, mul_zero]
  rw [← Finset.sum_filter]
  refine Finset.sum_congr ?_ fun _ _ => rfl
  ext x; simp only [Finset.mem_filter, Finset.mem_range, Finset.mem_Ico]; omega

theorem sum_from (F : ℕ → ℝ) (c : ℕ) :
    ∑ j ∈ range 256, F j * (if c ≤ j then 1 else 0) = ∑ j ∈ Ico c 256, F j := by
  simp only [mul_ite, mul_one, mul_zero]
  rw [← Finset.sum_filter]
  refine Finset.sum_congr ?_ fun _ _ => rfl
  ext x; simp only [Finset.mem_filter, Finset.mem_range, Finset.mem_Ico]; omega

/-- A tail is what its first block holds of it and the tail after that block. -/
theorem tail_split (F : ℕ → ℝ) {j c : ℕ} (hj : j < 8) (hc : c ≤ 256) :
    ∑ x ∈ Ico (256 * j + c) 2048, F x
      = ∑ x ∈ Ico (256 * (j + 1)) 2048, F x + ∑ x ∈ Ico c 256, F (256 * j + x) := by
  rw [← Finset.sum_Ico_consecutive F (m := 256 * j + c) (n := 256 * (j + 1)) (k := 2048) (by omega) (by omega), add_comm]
  congr 1
  rw [Finset.sum_Ico_add F c 256 (256 * j)]
  congr 1
  rw [show c + 256 * j = 256 * j + c by ring, show 256 + 256 * j = 256 * (j + 1) by ring]

theorem tail_block (F : ℕ → ℝ) {j : ℕ} (hj : j < 8) :
    ∑ x ∈ Ico (256 * j) 2048, F x
      = ∑ x ∈ Ico (256 * (j + 1)) 2048, F x + ∑ c ∈ range 256, F (256 * j + c) := by
  rw [Finset.range_eq_Ico]; exact tail_split F hj (Nat.zero_le _)

section Global
variable {q k v g} {i j : ℕ} (hj : j < 8) {rem e ds : ℕ → ℝ}
  (hrem : ∀ r < 256, rem r = ∑ x ∈ Ico (256 * (j + 1)) 2048, Sm q k (256 * i + r) x)
  (he : ∀ r < 256, e r = ∑ x ∈ Ico (256 * (j + 1)) 2048, EE q k v g (256 * i + r) x)
  (hds : ∀ r < 256, ds r = DS q k v g (256 * i + r))

theorem bS_eq (r c : ℕ) : bS (before i j) (blk q i) (blk k j) r c = Sm q k (256 * i + r) (256 * j + c) := rfl

include hj hrem

theorem rem_next (r : ℕ) (hr : r < 256) :
    rem r + ∑ c ∈ range 256, bS (before i j) (blk q i) (blk k j) r c
      = ∑ x ∈ Ico (256 * j) 2048, Sm q k (256 * i + r) x := by
  rw [hrem r hr, tail_block _ hj]; rfl

theorem bR_eq {r c : ℕ} (hr : r < 256) (hc : c < 256) :
    bR (before i j) (blk q i) (blk k j) rem r c = RR q k (256 * i + r) (256 * j + c) := by
  rw [bR, sum_after, RR, hrem r hr, show 256 * j + c + 1 = 256 * j + (c + 1) by ring, tail_split _ hj (by omega)]; rfl

theorem bA_eq {r c : ℕ} (hr : r < 256) (hc : c < 256) :
    bA (before i j) (blk q i) (blk k j) rem r c = AA q k (256 * i + r) (256 * j + c) := by
  rw [bA, bR_eq hj hrem hr hc]; rfl

theorem bE_eq {r c : ℕ} (hr : r < 256) (hc : c < 256) :
    bE (before i j) (blk q i) (blk k j) (blk v j) (blk g i) rem r c = EE q k v g (256 * i + r) (256 * j + c) := by
  rw [bE, bA_eq hj hrem hr hc]; rfl

include he

theorem e_next (r : ℕ) (hr : r < 256) :
    e r + ∑ c ∈ range 256, bE (before i j) (blk q i) (blk k j) (blk v j) (blk g i) rem r c
      = ∑ x ∈ Ico (256 * j) 2048, EE q k v g (256 * i + r) x := by
  rw [he r hr, tail_block _ hj]
  congr 1
  exact Finset.sum_congr rfl fun c hc => bE_eq hj hrem hr (Finset.mem_range.mp hc)

include hds

theorem bZ_eq {r c : ℕ} (hr : r < 256) (hc : c < 256) :
    bZ (before i j) (blk q i) (blk k j) (blk v j) (blk g i) rem e ds r c = DZ q k v g (256 * i + r) (256 * j + c) := by
  rw [bZ, sum_from, bE_eq hj hrem hr hc, he r hr, hds r hr,
    Finset.sum_congr rfl (fun x hx => bE_eq hj hrem hr (Finset.mem_Ico.mp hx).2), DZ, tail_split _ hj (by omega)]
  rfl

end Global

/-- Past the last block that holds an earlier key, nothing is left over. -/
theorem tail_zero {F : ℕ → ℝ} {t a : ℕ} (h : ∀ x, t ≤ x → F x = 0) (ha : t ≤ a) : ∑ x ∈ Ico a 2048, F x = 0 :=
  Finset.sum_eq_zero fun x hx => h x (le_trans ha (Finset.mem_Ico.mp hx).1)

/-- The score's gradient with the sum over the earlier keys in place of the total less the later ones. -/
theorem DZ_eq (t s : ℕ) (hs : s < 2048) :
    DZ q k v g t s = if s < t then
      EE q k v g t s * sg (-zz q k t s) - sg (zz q k t s) * ∑ x ∈ range s, EE q k v g t x else 0 := by
  unfold DZ
  rw [one_sub_sg, DS, Finset.range_eq_Ico, ← Finset.sum_Ico_consecutive _ (Nat.zero_le s) hs.le, add_sub_cancel_right, ← Finset.range_eq_Ico]

end Cert.Sba

end
-- ==== Proof.PayVal.lean ====
/- What the two kernels compute from one block of queries and one block of keys, where the blocks hold real
   numbers. -/
module

public import proofs.«01_k».proof.Proof.Tile
public import proofs.«01_k».proof.Proof.Attn

@[expose] public section

set_option maxRecDepth 16384

noncomputable section

namespace Cert.KernelIdeal.Sba

open Cert.KernelIdeal.Gen Cert.Sba
open Idealize.ShloMosaic
open scoped BigOperators
open Finset (range Ico)

variable (q k v g acc : ℕ → ℕ → ℝ) (rem e ds : ℕ → ℝ)

/-- Every key of the block. -/
def all (r c : ℕ) : Prop := True
instance (a b : ℕ) : Decidable (all a b) := inferInstanceAs (Decidable True)

/-- The diagonal block's keys before the query. -/
def tri (r c : ℕ) : Prop := c < r
instance (a b : ℕ) : Decidable (tri a b) := inferInstanceAs (Decidable (_ < _))

/-- A tile of either format. -/
abbrev TB {m n : ℕ} (f : ℕ → ℕ → ℝ) : FVec Ideal ⟨2, ![m, n]⟩ .bf16 := T f
abbrev TF {m n : ℕ} (f : ℕ → ℕ → ℝ) : FVec Ideal ⟨2, ![m, n]⟩ .f32 := T f

theorem ite_all {α : Type*} (r c : ℕ) (x y : α) : (if all r c then x else y) = x := if_pos trivial

theorem T_log1p_exp {m n : ℕ} {φ : FTy} (f : ℕ → ℕ → ℝ) :
    log1p (T (fun a b => Real.exp (f a b)) : FVec Ideal ⟨2, ![m, n]⟩ φ) = T (fun a b => Real.log (1 + Real.exp (f a b))) :=
  T_log1p _ fun a b => by have := Real.exp_pos (f a b); linarith

/-- The operations of the bodies on tiles of real numbers. -/
theorem shape256 {φ : FTy} (f : ℕ → ℕ → ℝ) (h) : shapeCast S256x128 (T f : FVec Ideal S256x128 φ) h = T f := by
  funext j
  simp only [pointwise]

/-! ### The forward body -/

theorem f_z : k0_pay7 (F := Ideal) (TB q) (TB k) = T (zz q k) := by
  unfold k0_pay7
  simp only [T_const_zero, T_nt, zero_add]
  rfl

theorem f_sp : k0_pay8 (F := Ideal) (TB q) (TB k) = T (fun r c => sp (zz q k r c)) := by
  unfold k0_pay8
  simp only [f_z, T_zero, T_maximumf, T_absf, T_subf, T_exp, T_log1p_exp, T_addf, max_log]

theorem f_acc : k0_pay9 (F := Ideal) (TB q) (T acc) (T fun r _ => rem r) (TB k) (TB v)
    = T (fun r d => acc r d + ∑ c ∈ range 256, bA all q k rem r c * v c d) := by
  unfold k0_pay9
  simp only [f_z, f_sp, pay1_eq, T_const_zero, T_truncf, T_extf, T_subf, T_nn, T_nn', T_addf, T_spread, T_exp,
    zero_add, sub_self, zero_mul, Finset.sum_const_zero, add_zero]
  refine T_congr fun r _ d _ => ?_
  congr 1
  refine Finset.sum_congr rfl fun c _ => ?_
  simp only [bA, bR, bS, ite_all, sg_mul]

theorem f_rem : k0_pay10 (F := Ideal) (TB q) (T fun r _ => rem r) (TB k)
    = T (fun r _ => rem r + ∑ c ∈ range 256, bS all q k r c) := by
  unfold k0_pay10
  simp only [f_sp, bS, ite_all]
  exact (congrArg (addf _) (T_rowSum _ _ _ _)).trans (T_addf _ _)

theorem f_z' : k0_pay17 (F := Ideal) (TB q) (TB k) = T (zz q k) := f_z q k
theorem f_sp' : k0_pay18 (F := Ideal) (TB q) (TB k) = T (fun r c => sp (zz q k r c)) := f_sp q k
theorem f_zero : k0_pay15 (F := Ideal) = T (fun _ _ => 0) := T_zero
theorem f_zero' : k0_pay16 (F := Ideal) = T (fun _ _ => 0) := T_zero

theorem f_S (n : Fin k0_t1_loop.trips) :
    k0_pay20 (F := Ideal) (iota .tc S256x256 32 [0] iota_S256x256_d0_w32) (iota .tc S256x256 32 [1] iota_S256x256_d1_w32)
      0#32 1#32 n (TB q) (TB k) = T (bS tri q k) := by
  unfold k0_pay20
  rw [f_sp', pay19_eq]
  simp only [T_const_zero, T_zero, T_select]
  rfl

theorem f_R (n : Fin k0_t1_loop.trips) :
    k0_pay21 (F := Ideal) (iota .tc S256x256 32 [0] iota_S256x256_d0_w32) (iota .tc S256x256 32 [1] iota_S256x256_d1_w32)
      k0_pay1 0#32 1#32 n (TB q) (TB k) = T (bR tri q k fun _ => 0) := by
  unfold k0_pay21
  rw [f_S]
  simp only [f_zero', pay1_eq, T_const_zero, T_truncf, T_extf, T_subf, T_nn, T_addf, T_spread,
    zero_add, sub_self, zero_mul, Finset.sum_const_zero, add_zero]
  exact T_congr fun r _ c _ => by simp only [bR, zero_add]

theorem f_acc' : k0_pay5 (F := Ideal) (T acc) (T (zz q k)) (T fun r c => sp (zz q k r c)) (M fun r c => c < r)
      (T (bR tri q k rem)) (TB v)
    = T (fun r d => acc r d + ∑ c ∈ range 256, bA tri q k rem r c * v c d) := by
  unfold k0_pay5
  simp only [T_const_zero, T_zero, T_truncf, T_subf, T_nn', T_addf, T_exp, T_select, zero_add]
  refine T_congr fun r _ d _ => ?_
  congr 1
  refine Finset.sum_congr rfl fun c _ => ?_
  simp only [bA, tri, sg_mul]

theorem f_rem' : k0_pay6 (F := Ideal) (T fun r _ => rem r) (T (bS tri q k))
    = T (fun r _ => rem r + ∑ c ∈ range 256, bS tri q k r c) := by
  unfold k0_pay6
  exact (congrArg (addf _) (T_rowSum _ _ _ _)).trans (T_addf _ _)

/-! ### The backward body, a block of earlier keys -/

theorem b_z : k1_pay21 (F := Ideal) (TB q) (TB k) = T (zz q k) := f_z q k
theorem b_sp : k1_pay22 (F := Ideal) (TB q) (TB k) = T (fun r c => sp (zz q k r c)) := f_sp q k
theorem b_sg : k1_pay23 (F := Ideal) (TB q) (TB k) = T (fun r c => sg (zz q k r c)) := by
  unfold k1_pay23
  simp only [b_z, b_sp, T_subf, T_exp]
  rfl

/-- The two triangles of ones. -/
def triGt : ℕ → ℕ → ℝ := fun r c => if c < r then 1 else 0
def triGe : ℕ → ℕ → ℝ := fun r c => if c ≤ r then 1 else 0

theorem b_A : k1_pay24 (F := Ideal) (T triGt) (TB q) (T fun r _ => rem r) (TB k) = T (bA all q k rem) := by
  unfold k1_pay24
  simp only [b_sp, b_sg, T_const_zero, T_zero, T_truncf, T_extf, T_subf, T_nn, T_addf, T_spread, T_exp, T_mulf,
    zero_add, sub_self, zero_mul, Finset.sum_const_zero, add_zero]
  exact T_congr fun r _ c _ => by simp only [bA, bR, bS, ite_all, triGt]

theorem b_E : k1_pay25 (F := Ideal) (T triGt) (TB q) (T g) (T fun r _ => rem r) (TB k) (TB v) = T (bE all q k v g rem) := by
  unfold k1_pay25
  simp only [b_A, T_const_zero, T_extf, T_nt, T_mulf, zero_add]
  rfl

theorem b_E1 : k1_pay27 (F := Ideal) (T triGt) (T triGe) (TB q) (T g) (T fun r _ => rem r) (TB k) (TB v)
    = T (fun r c => ∑ j ∈ range 256, bE all q k v g rem r j * triGe j c) := by
  unfold k1_pay27 k1_pay26
  simp only [b_E, T_const_zero, T_truncf, T_nn, zero_add]

theorem b_E2 : k1_pay28 (F := Ideal) (T triGt) (TB q) (T g) (T fun r _ => rem r) (TB k) (TB v) = T (fun _ _ => 0) := by
  unfold k1_pay28 k1_pay26
  simp only [b_E, T_truncf, T_extf, T_subf, sub_self]

theorem b_Z : k1_pay6 (F := Ideal) (T triGe) (T fun r _ => ds r) (T fun r _ => e r) (T fun r c => sg (zz q k r c))
      (T (bE all q k v g rem)) (T fun r c => ∑ j ∈ range 256, bE all q k v g rem r j * triGe j c) (T fun _ _ => 0)
    = T (bZ all q k v g rem e ds) := by
  unfold k1_pay6
  simp only [T_one, T_const_zero, T_truncf, T_subf, T_nn, T_addf, T_mulf, T_spread,
    zero_mul, Finset.sum_const_zero, add_zero]
  exact T_congr fun r _ c _ => by simp only [bZ, ite_all, triGe]

theorem b_dq : k1_pay7 (F := Ideal) (T triGe) (T fun r _ => ds r) (T acc) (T fun r _ => e r) (TB k)
      (T fun r c => sg (zz q k r c))
      (T (bE all q k v g rem)) (T fun r c => ∑ j ∈ range 256, bE all q k v g rem r j * triGe j c) (T fun _ _ => 0)
    = T (fun r d => acc r d + ∑ c ∈ range 256, bZ all q k v g rem e ds r c * k c d) := by
  unfold k1_pay7
  simp only [b_Z, T_const_zero, T_nn', T_addf, zero_add]

theorem b_dk : k1_pay8 (F := Ideal) (T triGe) (TB q) (T fun r _ => ds r) (T fun r _ => e r)
      (T fun r c => sg (zz q k r c))
      (T (bE all q k v g rem)) (T fun r c => ∑ j ∈ range 256, bE all q k v g rem r j * triGe j c) (T fun _ _ => 0) (TF acc)
    = T (fun c d => acc c d + ∑ r ∈ range 256, bZ all q k v g rem e ds r c * q r d) := by
  unfold k1_pay8
  simp only [b_Z, T_const_zero, T_tn, T_addf, zero_add, shape256]

theorem b_dv : k1_pay9 (F := Ideal) (T g) (T (bA all q k rem)) (TF acc)
    = T (fun c d => acc c d + ∑ r ∈ range 256, bA all q k rem r c * g r d) := by
  unfold k1_pay9
  simp only [T_const_zero, T_tn, T_addf, zero_add, shape256]

theorem b_rem : k1_pay10 (F := Ideal) (T fun r _ => rem r) (T fun r c => sp (zz q k r c))
    = T (fun r _ => rem r + ∑ c ∈ range 256, bS all q k r c) := by
  unfold k1_pay10
  simp only [bS, ite_all]
  exact (congrArg (addf _) (T_rowSum _ _ _ _)).trans (T_addf _ _)

theorem b_e : k1_pay11 (F := Ideal) (T fun r _ => e r) (T (bE all q k v g rem))
    = T (fun r _ => e r + ∑ c ∈ range 256, bE all q k v g rem r c) := by
  unfold k1_pay11
  exact (congrArg (addf _) (T_rowSum _ _ _ _)).trans (T_addf _ _)

/-! ### The backward body, the diagonal block -/

theorem d_g : k1_pay37 (F := Ideal) (TF g) = TB g := rfl

theorem d_ds (o : ℕ → ℕ → ℝ) : k1_pay38 (F := Ideal) (TF g) (TF o) = T (fun r _ => ∑ d ∈ range 128, g r d * o r d) := by
  unfold k1_pay38
  simp only [d_g, T_extf, shape256, T_mulf]
  exact T_rowSum' _ _ _ _

theorem d_zero : k1_pay39 (F := Ideal) = T (fun _ _ => 0) := T_zero
theorem d_zero' : k1_pay40 (F := Ideal) = T (fun _ _ => 0) := T_zero
theorem d_z : k1_pay41 (F := Ideal) (TB q) (TB k) = T (zz q k) := f_z q k
theorem d_max : k1_pay43 (F := Ideal) (TB q) (TB k) = T (fun r c => max (zz q k r c) 0) := by
  unfold k1_pay43
  simp only [d_z, T_zero, T_maximumf]
theorem d_exp : k1_pay44 (F := Ideal) (TB q) (TB k) = T (fun r c => Real.exp (0 - |zz q k r c|)) := by
  unfold k1_pay44
  simp only [d_z, T_zero, T_absf, T_subf, T_exp]
theorem d_sp : k1_pay45 (F := Ideal) (T fun r c => max (zz q k r c) 0) (T fun r c => Real.exp (0 - |zz q k r c|))
    = T (fun r c => sp (zz q k r c)) := by
  unfold k1_pay45
  simp only [T_log1p_exp, T_addf, max_log]

theorem d_S : k1_pay46 (F := Ideal) (M fun r c => c < r) (T fun r c => max (zz q k r c) 0) (T fun r c => Real.exp (0 - |zz q k r c|))
    = T (bS tri q k) := by
  unfold k1_pay46
  simp only [d_sp, T_zero, T_select]
  rfl

theorem d_sg : k1_pay47 (F := Ideal) (T (zz q k)) (T fun r c => max (zz q k r c) 0) (T fun r c => Real.exp (0 - |zz q k r c|))
    = T (fun r c => sg (zz q k r c)) := by
  unfold k1_pay47
  simp only [d_sp, T_subf, T_exp]
  rfl

theorem d_A : k1_pay48 (F := Ideal) (T triGt) (T fun _ _ => 0) (T (zz q k)) (M fun r c => c < r)
      (T fun r c => max (zz q k r c) 0) (T fun r c => Real.exp (0 - |zz q k r c|))
    = T (bA tri q k fun _ => 0) := by
  unfold k1_pay48
  simp only [d_S, d_sg, T_const_zero, T_zero, T_truncf, T_extf, T_subf, T_nn, T_addf, T_spread, T_exp, T_mulf, T_select,
    zero_add, sub_self, zero_mul, Finset.sum_const_zero, add_zero]
  exact T_congr fun r _ c _ => by simp only [bA, bR, tri, triGt, zero_add]

theorem d_E : k1_pay49 (F := Ideal) (T triGt) (T g) (T fun _ _ => 0) (TB v) (T (zz q k)) (M fun r c => c < r)
      (T fun r c => max (zz q k r c) 0) (T fun r c => Real.exp (0 - |zz q k r c|))
    = T (bE tri q k v g fun _ => 0) := by
  unfold k1_pay49
  simp only [d_A, T_const_zero, T_extf, T_nt, T_mulf, zero_add]
  rfl

theorem d_Z : k1_pay50 (F := Ideal) (T triGt) (T triGe) (T g) (T fun r _ => ds r) (T fun _ _ => 0) (TB v) (T (zz q k)) (M fun r c => c < r)
      (T fun r c => max (zz q k r c) 0) (T fun r c => Real.exp (0 - |zz q k r c|))
    = T (bZ tri q k v g (fun _ => 0) (fun _ => 0) ds) := by
  unfold k1_pay50
  simp only [d_E, d_sg, T_one, T_zero, T_const_zero, T_truncf, T_extf, T_subf, T_nn, T_addf, T_mulf, T_spread, T_select,
    zero_add, sub_self, zero_mul, Finset.sum_const_zero, add_zero]
  exact T_congr fun r _ c _ => by simp only [bZ, tri, triGe, zero_add]

theorem d_dq : k1_pay51 (F := Ideal) (T triGt) (T triGe) (T g) (T fun r _ => ds r) (T fun _ _ => 0) (T acc) (TB k) (TB v) (T (zz q k)) (M fun r c => c < r)
      (T fun r c => max (zz q k r c) 0) (T fun r c => Real.exp (0 - |zz q k r c|))
    = T (fun r d => acc r d + ∑ c ∈ range 256, bZ tri q k v g (fun _ => 0) (fun _ => 0) ds r c * k c d) := by
  unfold k1_pay51
  simp only [d_Z, T_const_zero, T_nn', T_addf, zero_add]

theorem d_dk : k1_pay2 (F := Ideal) (TB q) (T (bZ tri q k v g (fun _ => 0) (fun _ => 0) ds)) (TF acc)
    = T (fun c d => acc c d + ∑ r ∈ range 256, bZ tri q k v g (fun _ => 0) (fun _ => 0) ds r c * q r d) := by
  unfold k1_pay2
  simp only [T_const_zero, T_tn, T_addf, zero_add, shape256]

theorem d_dv : k1_pay3 (F := Ideal) (T g) (T (bA tri q k fun _ => 0)) (TF acc)
    = T (fun c d => acc c d + ∑ r ∈ range 256, bA tri q k (fun _ => 0) r c * g r d) := by
  unfold k1_pay3
  simp only [T_const_zero, T_tn, T_addf, zero_add, shape256]

theorem d_rem : k1_pay4 (F := Ideal) (T fun _ _ => 0) (T (bS tri q k))
    = T (fun r _ => ∑ c ∈ range 256, bS tri q k r c) := by
  unfold k1_pay4
  refine ((congrArg (addf _) (T_rowSum _ _ _ _)).trans (T_addf _ _)).trans ?_
  simp only [zero_add]

theorem d_e : k1_pay5 (F := Ideal) (T fun _ _ => 0) (T (bE tri q k v g fun _ => 0))
    = T (fun r _ => ∑ c ∈ range 256, bE tri q k v g (fun _ => 0) r c) := by
  unfold k1_pay5
  refine ((congrArg (addf _) (T_rowSum _ _ _ _)).trans (T_addf _ _)).trans ?_
  simp only [zero_add]

end Cert.KernelIdeal.Sba

end
-- ==== Proof.Block.lean ====
/- One block's functions at any mask that agrees with "the key comes before the query", and the tails
   they carry from block to block. -/
module

public import proofs.«01_k».proof.Proof.Attn

@[expose] public section

noncomputable section

namespace Cert.Sba

open Finset

variable {p : ℕ → ℕ → Prop} [∀ a b, Decidable (p a b)] {i j : ℕ}
  (hp : ∀ r < 256, ∀ c < 256, (p r c ↔ before i j r c)) {q k v g : ℕ → ℕ → ℝ} {rem e ds : ℕ → ℝ}

section Mask
variable (Q K V G : ℕ → ℕ → ℝ) (rem e ds : ℕ → ℝ) {r c : ℕ} (hr : r < 256) (hc : c < 256)
include hp hr hc

theorem bS_mask : bS p Q K r c = bS (before i j) Q K r c := by simp only [bS, hp r hr c hc]

omit hc in
theorem bR_mask (c : ℕ) : bR p Q K rem r c = bR (before i j) Q K rem r c := by
  unfold bR
  congr 1
  exact sum_congr rfl fun x hx => by rw [bS_mask hp Q K hr (mem_range.mp hx)]

theorem bA_mask : bA p Q K rem r c = bA (before i j) Q K rem r c := by
  simp only [bA, hp r hr c hc, bR_mask hp Q K rem hr]

theorem bE_mask : bE p Q K V G rem r c = bE (before i j) Q K V G rem r c := by
  simp only [bE, bA_mask hp Q K rem hr hc]

theorem bZ_mask : bZ p Q K V G rem e ds r c = bZ (before i j) Q K V G rem e ds r c := by
  have h : ∀ x ∈ range 256, bE p Q K V G rem r x * (if c ≤ x then (1 : ℝ) else 0)
      = bE (before i j) Q K V G rem r x * (if c ≤ x then 1 else 0) :=
    fun x hx => by rw [bE_mask hp Q K V G rem hr (mem_range.mp hx)]
  simp only [bZ, hp r hr c hc, bE_mask hp Q K V G rem hr hc, sum_congr rfl h]

end Mask

variable (hj : j < 8)
  (hrem : ∀ r < 256, rem r = ∑ x ∈ Ico (256 * (j + 1)) 2048, Sm q k (256 * i + r) x)
  (he : ∀ r < 256, e r = ∑ x ∈ Ico (256 * (j + 1)) 2048, EE q k v g (256 * i + r) x)
  (hds : ∀ r < 256, ds r = DS q k v g (256 * i + r))
include hp hj hrem

theorem S_next {r : ℕ} (hr : r < 256) :
    rem r + ∑ c ∈ range 256, bS p (blk q i) (blk k j) r c = ∑ x ∈ Ico (256 * j) 2048, Sm q k (256 * i + r) x := by
  rw [sum_congr rfl fun x hx => bS_mask hp _ _ hr (mem_range.mp hx)]
  exact rem_next hj hrem r hr

theorem A_is {r c : ℕ} (hr : r < 256) (hc : c < 256) :
    bA p (blk q i) (blk k j) rem r c = AA q k (256 * i + r) (256 * j + c) :=
  (bA_mask hp _ _ _ hr hc).trans (bA_eq hj hrem hr hc)

theorem E_is {r c : ℕ} (hr : r < 256) (hc : c < 256) :
    bE p (blk q i) (blk k j) (blk v j) (blk g i) rem r c = EE q k v g (256 * i + r) (256 * j + c) :=
  (bE_mask hp _ _ _ _ _ hr hc).trans (bE_eq hj hrem hr hc)

/-- The output's row with the block's keys added. -/
theorem O_next {r d : ℕ} (hr : r < 256) {a : ℝ} (ha : a = ∑ x ∈ Ico (256 * (j + 1)) 2048, AA q k (256 * i + r) x * v x d) :
    a + ∑ c ∈ range 256, bA p (blk q i) (blk k j) rem r c * blk v j c d
      = ∑ x ∈ Ico (256 * j) 2048, AA q k (256 * i + r) x * v x d := by
  rw [ha, tail_block _ hj]
  congr 1
  exact sum_congr rfl fun x hx => by rw [A_is hp hj hrem hr (mem_range.mp hx)]; rfl

include he

theorem E_next {r : ℕ} (hr : r < 256) :
    e r + ∑ c ∈ range 256, bE p (blk q i) (blk k j) (blk v j) (blk g i) rem r c
      = ∑ x ∈ Ico (256 * j) 2048, EE q k v g (256 * i + r) x := by
  rw [he r hr, tail_block _ hj]
  congr 1
  exact sum_congr rfl fun x hx => E_is hp hj hrem hr (mem_range.mp hx)

include hds

theorem Z_is {r c : ℕ} (hr : r < 256) (hc : c < 256) :
    bZ p (blk q i) (blk k j) (blk v j) (blk g i) rem e ds r c = DZ q k v g (256 * i + r) (256 * j + c) :=
  (bZ_mask hp _ _ _ _ _ _ _ hr hc).trans (bZ_eq hj hrem he hds hr hc)

/-- The query gradient's row with the block's keys added. -/
theorem Q_next {r d : ℕ} (hr : r < 256) {a : ℝ} (ha : a = ∑ x ∈ Ico (256 * (j + 1)) 2048, DZ q k v g (256 * i + r) x * k x d) :
    a + ∑ c ∈ range 256, bZ p (blk q i) (blk k j) (blk v j) (blk g i) rem e ds r c * blk k j c d
      = ∑ x ∈ Ico (256 * j) 2048, DZ q k v g (256 * i + r) x * k x d := by
  rw [ha, tail_block _ hj]
  congr 1
  exact sum_congr rfl fun x hx => by rw [Z_is hp hj hrem he hds hr (mem_range.mp hx)]; rfl

/-- The key gradient's row with the block's queries added. -/
theorem K_next {c d : ℕ} (hc : c < 256) :
    ∑ t ∈ range (256 * i), DZ q k v g t (256 * j + c) * q t d
        + ∑ r ∈ range 256, bZ p (blk q i) (blk k j) (blk v j) (blk g i) rem e ds r c * blk q i r d
      = ∑ t ∈ range (256 * (i + 1)), DZ q k v g t (256 * j + c) * q t d := by
  rw [show 256 * (i + 1) = 256 * i + 256 by ring, sum_range_add]
  congr 1
  exact sum_congr rfl fun x hx => by rw [Z_is hp hj hrem he hds (mem_range.mp hx) hc]; rfl

omit he hds in
/-- The value gradient's row with the block's queries added. -/
theorem V_next {c d : ℕ} (hc : c < 256) :
    ∑ t ∈ range (256 * i), AA q k t (256 * j + c) * g t d
        + ∑ r ∈ range 256, bA p (blk q i) (blk k j) rem r c * blk g i r d
      = ∑ t ∈ range (256 * (i + 1)), AA q k t (256 * j + c) * g t d := by
  rw [show 256 * (i + 1) = 256 * i + 256 by ring, sum_range_add]
  congr 1
  exact sum_congr rfl fun x hx => by rw [A_is hp hj hrem (mem_range.mp hx) hc]; rfl

omit hp hj hrem he hds

/-! ## An accumulation while a query block is under way -/

/-- Block `j`'s rows replaced. -/
def upd (D : ℕ → ℕ → ℝ) (j : ℕ) (W : ℕ → ℕ → ℝ) : ℕ → ℕ → ℝ :=
  fun s d => if 256 * j ≤ s ∧ s < 256 * j + 256 then W (s - 256 * j) d else D s d

/-- The sum over the queries before block `n` in the rows before key block `j`, and over block `n`'s
   too in the rows from there on. -/
def part (H : ℕ → ℕ → ℕ → ℝ) (n j : ℕ) : ℕ → ℕ → ℝ :=
  fun s d => ∑ t ∈ range (if 256 * j ≤ s then 256 * (n + 1) else 256 * n), H t s d

section Part
variable (H : ℕ → ℕ → ℕ → ℝ) (n : ℕ)

theorem part_blk {r d : ℕ} (hr : r < 256) : blk (part H n (j + 1)) j r d = ∑ t ∈ range (256 * n), H t (256 * j + r) d := by
  rw [blk, part, if_neg (by omega)]

theorem part_step (W : ℕ → ℕ → ℝ) (hW : ∀ c < 256, ∀ d, W c d = ∑ t ∈ range (256 * (n + 1)), H t (256 * j + c) d) (s d : ℕ) :
    upd (part H n (j + 1)) j W s d = part H n j s d := by
  unfold upd
  split_ifs with h
  · rw [hW _ (by omega), part, if_pos h.1, show 256 * j + (s - 256 * j) = s by omega]
  · unfold part
    by_cases h1 : 256 * j ≤ s
    · rw [if_pos (by omega), if_pos h1]
    · rw [if_neg (by omega), if_neg h1]

theorem part_first (hH : ∀ t s d, t ≤ s → H t s d = 0) (W : ℕ → ℕ → ℝ)
    (hW : ∀ c < 256, ∀ d, W c d = ∑ t ∈ range (256 * (n + 1)), H t (256 * n + c) d) (s d : ℕ) :
    upd (fun s d => ∑ t ∈ range (256 * n), H t s d) n W s d = part H n n s d := by
  unfold upd
  split_ifs with h
  · rw [hW _ (by omega), part, if_pos h.1, show 256 * n + (s - 256 * n) = s by omega]
  · unfold part
    by_cases h1 : 256 * n ≤ s
    · rw [if_pos h1]
      exact (sum_eq_zero fun t ht => hH t s d (by have := mem_range.mp ht; omega)).trans
        (sum_eq_zero fun t ht => hH t s d (by have := mem_range.mp ht; omega)).symm
    · rw [if_neg h1]

theorem part_last (s d : ℕ) : part H n 0 s d = ∑ t ∈ range (256 * (n + 1)), H t s d := by
  rw [part, if_pos (by omega)]

end Part

end Cert.Sba

end
-- ==== Proof.FwdVal.lean ====
/- The forward body over the extended reals at real inputs: each query block's rows of the attention,
   and from them the whole output block. -/
module

public import proofs.«01_k».proof.Proof.Cover
public import proofs.«01_k».proof.Proof.PayVal
public import proofs.«01_k».proof.Proof.Block
public import Idealize.ShloMosaic.Lib.Pipeline.ValueKit.Tiles
public import Idealize.ShloMosaic.Lib.VecWindow

@[expose] public section

set_option maxRecDepth 16384
set_option maxHeartbeats 400000

noncomputable section

namespace Cert.KernelIdeal.Sba

open Cert.KernelIdeal.Gen
open Idealize.ShloMosaic Idealize.ShloMosaic.TcCoe Idealize.ShloMosaic.Tactic
open Finset Cert.Sba

theorem t2F_trips : ∀ n : Fin k0_t1_loop.trips, (k0_t2_loop n).trips = n.val := by decide +kernel
theorem t3F_trips : ∀ n : Fin k0_t1_loop.trips, (k0_t3_loop n).trips = 0 := by decide +kernel
theorem off3F_all : ∀ (n : Fin k0_t1_loop.trips) (τ : Fin (k0_t2_loop n).trips), k0_off3 n τ = ![256 * (n.val - 1 - τ.val), 0] := by
  decide +kernel

section Mem
variable {f : ℕ → ℕ → ℝ} {off : Fin 2 → ℕ} {j : ℕ}

/-- Block `j`'s rows, read where the array is `f`. -/
theorem read_blk {arg : Memref sig .tc .vmem S2048x128 .bf16} {X : BufTy.Contents (Elt Ideal) arg.view.ty}
    (h : arg.view.read (Elt Ideal) X = TB f) (ho : off = ![256 * j, 0]) (inb) :
    arg.view.readAt (Elt Ideal) (Rect.unit (s := S2048x128) off S256x128.size inb).toLoadRect X = TB (blk f j) := by
  subst ho
  funext y
  rw [View.readAt_apply, h]
  show ((f (256 * j + 1 * (y 0).val) (0 + 1 * (y 1).val) : ℝ) : EReal) = ((f (256 * j + (y 0).val) (y 1).val : ℝ) : EReal)
  rw [one_mul, one_mul, zero_add]

theorem read_blk' {arg : Memref sig .tc .vmem S2048x128 .f32} {X : BufTy.Contents (Elt Ideal) arg.view.ty}
    (h : arg.view.read (Elt Ideal) X = TF f) (ho : off = ![256 * j, 0]) (inb) :
    arg.view.readAt (Elt Ideal) (Rect.unit (s := S2048x128) off S256x128.size inb).toLoadRect X = TF (blk f j) := by
  subst ho
  funext y
  rw [View.readAt_apply, h]
  show ((f (256 * j + 1 * (y 0).val) (0 + 1 * (y 1).val) : ℝ) : EReal) = ((f (256 * j + (y 0).val) (y 1).val : ℝ) : EReal)
  rw [one_mul, one_mul, zero_add]

end Mem

section Fwd

variable (𝒱 : Variants) (c : Dev nD) (bd : Option 𝒱.V) (i : grid0.Coords)
  (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2048x128 .bf16) (harg5 : arg5.IsWhole)
  (arg6 : Memref sig .tc .vmem S2048x128 .bf16) (harg6 : arg6.IsWhole)
  (arg7 : Memref sig .tc .vmem S2048x128 .bf16) (harg7 : arg7.IsWhole)
  (X5 : BufTy.Contents (Elt Ideal) arg5.view.ty) (X6 : BufTy.Contents (Elt Ideal) arg6.view.ty)
  (X7 : BufTy.Contents (Elt Ideal) arg7.view.ty)

/-- The output rows of block `n` with the keys from `a` on. -/
def accF (q k v : ℕ → ℕ → ℝ) (n a : ℕ) : FVec Ideal S256x128 .f32 :=
  T fun r d => ∑ x ∈ Ico a 2048, AA q k (256 * n + r) x * v x d
def remF (q k : ℕ → ℕ → ℝ) (n a : ℕ) : FVec Ideal S256x1 .f32 :=
  T fun r _ => ∑ x ∈ Ico a 2048, Sm q k (256 * n + r) x

theorem all_before {n j : ℕ} (h : j < n) : ∀ r < 256, ∀ c < 256, (all r c ↔ before n j r c) := by
  intro r hr c hc
  unfold all before
  simp only [true_iff]; omega
theorem tri_before {n : ℕ} : ∀ r < 256, ∀ c < 256, (tri r c ↔ before n n r c) := by
  intro r hr c hc
  unfold tri before; omega

theorem tripR_F (n : Fin k0_t1_loop.trips) (Q : Vec Ideal S256x128 .bf16) (τ : Fin (k0_t2_loop n).trips)
    (a : FVec Ideal S256x128 .f32 × FVec Ideal S256x1 .f32) :
    tripR_k0_t2 (F := Ideal) 𝒱 c bd i arg1 harg1 arg2 harg2 arg3 harg3 arg4 harg4 arg5 harg5 arg6 harg6 arg7 harg7 n Q X6 X7 τ a
      = (k0_pay9 Q a.1 a.2 (arg6.view.readAt (Elt Ideal) (Rect.unit (s := S2048x128) (k0_off3 n τ) S256x128.size (k0_off3_inb n τ)).toLoadRect X6)
            (arg7.view.readAt (Elt Ideal) (Rect.unit (s := S2048x128) (k0_off3 n τ) S256x128.size (k0_off3_inb n τ)).toLoadRect X7),
          k0_pay10 Q a.2 (arg6.view.readAt (Elt Ideal) (Rect.unit (s := S2048x128) (k0_off3 n τ) S256x128.size (k0_off3_inb n τ)).toLoadRect X6)) := by
  unfold tripR_k0_t2 trip_k0_t2
  rfl

theorem st_F {q k v : ℕ → ℕ → ℝ} (h6 : arg6.view.read (Elt Ideal) X6 = TB k) (h7 : arg7.view.read (Elt Ideal) X7 = TB v)
    (n : Fin k0_t1_loop.trips) (τ : ℕ) (hτ : τ ≤ (k0_t2_loop n).trips) :
    st_k0_t2 (F := Ideal) 𝒱 c bd i arg1 harg1 arg2 harg2 arg3 harg3 arg4 harg4 arg5 harg5 arg6 harg6 arg7 harg7 n (TB (blk q n)) X6 X7
      (accF q k v n (256 * n), remF q k n (256 * n)) τ
      = (accF q k v n (256 * (n - τ)), remF q k n (256 * (n - τ))) := by
  induction τ with
  | zero => rfl
  | succ τ ih =>
    have hn := t2F_trips n
    have hn8 : n.val < 8 := n.isLt
    rw [st_k0_t2_succ (F := Ideal) 𝒱 c bd i arg1 harg1 arg2 harg2 arg3 harg3 arg4 harg4 arg5 harg5 arg6 harg6 arg7 harg7 n _ X6 X7 _ ⟨τ, hτ⟩, ih (by omega)]
    have ho := off3F_all n ⟨τ, hτ⟩
    have e : (n : ℕ) - τ = (n - 1 - τ) + 1 := by omega
    have e' : (n : ℕ) - (τ + 1) = n - 1 - τ := by omega
    have hj : (n : ℕ) - 1 - τ < 8 := by omega
    have hb : ∀ r < 256, ∀ c < 256, (all r c ↔ before n (n - 1 - τ) r c) := all_before (by omega)
    rw [tripR_F, read_blk h6 ho, read_blk h7 ho, e', e]
    unfold accF remF
    rw [f_acc, f_rem]
    refine congrArg₂ Prod.mk (T_congr ?_) (T_congr ?_)
    · intro r hr d _
      exact O_next (rem := fun r => ∑ x ∈ Ico (256 * (n - 1 - τ + 1)) 2048, Sm q k (256 * n + r) x) hb hj (fun _ _ => rfl) hr rfl
    · intro r hr d _
      exact S_next (rem := fun r => ∑ x ∈ Ico (256 * (n - 1 - τ + 1)) 2048, Sm q k (256 * n + r) x) hb hj (fun _ _ => rfl) hr

theorem tripF_val {q k v : ℕ → ℕ → ℝ} (h5 : arg5.view.read (Elt Ideal) X5 = TB q) (h6 : arg6.view.read (Elt Ideal) X6 = TB k)
    (h7 : arg7.view.read (Elt Ideal) X7 = TB v) (n : Fin k0_t1_loop.trips) :
    (tripF (F := Ideal) 𝒱 c bd i arg1 harg1 arg2 harg2 arg3 harg3 arg4 harg4 arg5 harg5 arg6 harg6 arg7 harg7
        (iota .tc S256x256 32 [0] iota_S256x256_d0_w32) (iota .tc S256x256 32 [1] iota_S256x256_d1_w32) X5 X6 X7 n).1
      = [(⟨Rect.unit (s := S2048x128) (k0_off1 n) S256x128.size (k0_off1_inb n), TF (blk (OO q k v) n)⟩ : View.Piece (Elt Ideal) S2048x128 .f32)] := by
  have hn8 : n.val < 8 := n.isLt
  have hq := read_blk h5 (k0_off1_eq n) (k0_off1_inb n)
  have hk := read_blk h6 (k0_off2_eq n) (k0_off2_inb n)
  have hv := read_blk h7 (k0_off2_eq n) (k0_off2_inb n)
  unfold tripF
  refine congrArg (fun w => [(⟨_, w⟩ : View.Piece (Elt Ideal) S2048x128 .f32)]) ?_
  unfold tripF.sl.r_5 tripF.sl.r_4 tripF.sl.r_3 tripF.sl.r_2 tripF.sl.r_1 tripF.sl.r
  rw [hq, hk, hv, f_zero, f_zero', f_z', f_sp', pay19_eq, f_R, f_S, f_acc', f_rem']
  have hz : ∀ r < 256, (0 : ℝ) = ∑ x ∈ Ico (256 * (n.val + 1)) 2048, Sm q k (256 * n.val + r) x := fun r hr =>
    (tail_zero (t := 256 * n.val + r) (fun x hx => Sm_eq_zero q k hx) (by omega)).symm
  have hz' : ∀ r < 256, ∀ d, (0 : ℝ) = ∑ x ∈ Ico (256 * (n.val + 1)) 2048, AA q k (256 * n.val + r) x * v x d := fun r hr d =>
    (tail_zero (t := 256 * n.val + r) (fun x hx => by rw [AA_eq_zero q k hx, zero_mul]) (by omega)).symm
  have hi : ((T fun r d => 0 + ∑ c ∈ range 256, bA tri (blk q n) (blk k n) (fun _ => 0) r c * blk v n c d : FVec Ideal S256x128 .f32),
        (T fun r _ => 0 + ∑ c ∈ range 256, bS tri (blk q n) (blk k n) r c : FVec Ideal S256x1 .f32))
      = (accF q k v n (256 * n), remF q k n (256 * n)) := by
    refine congrArg₂ Prod.mk (T_congr ?_) (T_congr ?_)
    · intro r hr d _
      exact O_next tri_before hn8 hz hr (hz' r hr d)
    · intro r hr d _
      exact S_next (rem := fun _ => 0) tri_before hn8 hz hr
  rw [show (Scf.trips (k0_t3_loop n).lb (k0_t3_loop n).ub (k0_t3_loop n).st) = 0 from t3F_trips n,
    show (Scf.trips (k0_t2_loop n).lb (k0_t2_loop n).ub (k0_t2_loop n).st) = (k0_t2_loop n).trips from rfl, hi,
    st_F 𝒱 c bd i arg1 harg1 arg2 harg2 arg3 harg3 arg4 harg4 arg5 harg5 arg6 harg6 arg7 harg7 X6 X7 h6 h7 n _ le_rfl, t2F_trips n, Nat.sub_self, Nat.mul_zero]
  rw [st_k0_t3_zero]
  show accF q k v n 0 = _
  unfold accF
  refine T_congr ?_
  intro r _ d _
  show _ = OO q k v (256 * n + r) d
  rw [OO, Finset.range_eq_Ico]

theorem pbF_at {q k v : ℕ → ℕ → ℝ} (h5 : arg5.view.read (Elt Ideal) X5 = TB q) (h6 : arg6.view.read (Elt Ideal) X6 = TB k)
    (h7 : arg7.view.read (Elt Ideal) X7 = TB v) (y : S2048x128.Idx) (n : ℕ) (hn : n ≤ k0_t1_loop.trips) :
    View.AllAt (pbF (F := Ideal) 𝒱 c bd i arg1 harg1 arg2 harg2 arg3 harg3 arg4 harg4 arg5 harg5 arg6 harg6 arg7 harg7
        (iota .tc S256x256 32 [0] iota_S256x256_d0_w32) (iota .tc S256x256 32 [1] iota_S256x256_d1_w32) X5 X6 X7 n)
      y ((TF (OO q k v) : FVec Ideal S2048x128 .f32) y) := by
  induction n with
  | zero => exact View.allAt_nil _ _
  | succ n ih =>
    rw [pbF_succ (F := Ideal) 𝒱 c bd i arg1 harg1 arg2 harg2 arg3 harg3 arg4 harg4 arg5 harg5 arg6 harg6 arg7 harg7 _ _ X5 X6 X7 ⟨n, hn⟩,
      tripF_val 𝒱 c bd i arg1 harg1 arg2 harg2 arg3 harg3 arg4 harg4 arg5 harg5 arg6 harg6 arg7 harg7 X5 X6 X7 h5 h6 h7]
    refine View.allAt_cons_unit _ _ _ _ _ ?_ (ih (by omega))
    intro x hx
    rw [k0_off1_eq] at hx
    have h0 : (y 0).val = 256 * n + (x 0).val := hx 0
    have h1 : (y 1).val = 0 + (x 1).val := hx 1
    show ((OO q k v (256 * n + (x 0).val) (x 1).val : ℝ) : EReal) = ((OO q k v (y 0).val (y 1).val : ℝ) : EReal)
    rw [h0, h1, zero_add]

end Fwd

/-- The score's scale, one over the square root of 128 as the program writes it. -/
def scl : ℝ := 11863283 / 134217728

theorem ofBits_scl : (FloatOps.ofBits (F := Ideal) .f32 0x3DB504F3#32 : Ideal .f32) = ((scl : ℝ) : EReal) := by
  simp [FloatOps.ofBits, Ideal.ofBits, Ideal.ieee]
  rw [← EReal.coe_mul]
  unfold scl
  norm_num

theorem cast_f (f : ℕ → ℕ → ℝ) : shapeCast S2048x128 (TB f : FVec Ideal S2048x128 .bf16) shapeCasts_S2048x128_S2048x128 = TB f := by
  funext j
  simp only [pointwise]

theorem f_q (q : ℕ → ℕ → ℝ) : k0_pay2 (F := Ideal) (TF q) = TB (fun t d => q t d * scl) := by
  unfold k0_pay2
  simp only [ofBits_scl]
  refine Eq.trans ?_ (cast_f _)
  rfl
theorem f_k (k : ℕ → ℕ → ℝ) : k0_pay3 (F := Ideal) (TF k) = TB k := by
  unfold k0_pay3
  exact Eq.trans rfl (cast_f _)
theorem f_v (v : ℕ → ℕ → ℝ) : k0_pay4 (F := Ideal) (TF v) = TB v := by
  unfold k0_pay4
  exact Eq.trans rfl (cast_f _)

/-- The whole forward body: its output block is the attention of its query, key and value blocks. -/
theorem runF_val (𝒱 : Variants) (c : Dev nD) (bd : Option 𝒱.V) (i : grid0.Coords)
    (arg1 : Memref sig .tc .vmem S2048x128 .f32) (harg1 : arg1.IsWhole)
    (arg2 : Memref sig .tc .vmem S2048x128 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S2048x128 .bf16) (harg5 : arg5.IsWhole)
    (arg6 : Memref sig .tc .vmem S2048x128 .bf16) (harg6 : arg6.IsWhole)
    (arg7 : Memref sig .tc .vmem S2048x128 .bf16) (harg7 : arg7.IsWhole)
    (x1 : BufTy.Contents (Elt Ideal) arg1.view.ty) (x2 : BufTy.Contents (Elt Ideal) arg2.view.ty) (x3 : BufTy.Contents (Elt Ideal) arg3.view.ty)
    {q k v : ℕ → ℕ → ℝ} (h1 : arg1.view.read (Elt Ideal) x1 = TF q) (h2 : arg2.view.read (Elt Ideal) x2 = TF k)
    (h3 : arg3.view.read (Elt Ideal) x3 = TF v) :
    View.canon (runF (F := Ideal) 𝒱 c bd i arg1 harg1 arg2 harg2 arg3 harg3 arg4 harg4 arg5 harg5 arg6 harg6 arg7 harg7 x1 x2 x3).1
      = TF (OO (fun t d => q t d * scl) k v) := by
  funext y
  refine View.canon_eq_of_allAt _ y _ (runF_covers 𝒱 c bd i arg1 harg1 arg2 harg2 arg3 harg3 arg4 harg4 arg5 harg5 arg6 harg6 arg7 harg7 x1 x2 x3 y) ?_
  unfold runF
  refine pbF_at 𝒱 c bd i arg1 harg1 arg2 harg2 arg3 harg3 arg4 harg4 arg5 harg5 arg6 harg6 arg7 harg7 _ _ _ ?_ ?_ ?_ y _ le_rfl
  · unfold runF.sl.H5_1
    rw [View.read_writes_full, View.readAt_full, h1, f_q]
  · unfold runF.sl.H6_1
    rw [View.read_writes_full, View.readAt_full, h2, f_k]
  · unfold runF.sl.H7_1
    rw [View.read_writes_full, View.readAt_full, h3, f_v]

end Cert.KernelIdeal.Sba

end
-- ==== Proof.BwdIn.lean ====
/- The backward body's inner loop over the extended reals at real inputs: the query block's gradient
   and the two accumulations after each earlier key block. -/
module

public import proofs.«01_k».proof.Proof.FwdVal

@[expose] public section

set_option maxRecDepth 16384
set_option maxHeartbeats 400000

noncomputable section

namespace Cert.KernelIdeal.Sba

open Cert.KernelIdeal.Gen
open Idealize.ShloMosaic Idealize.ShloMosaic.TcCoe Idealize.ShloMosaic.Tactic
open Finset Cert.Sba

theorem t2B_trips : ∀ n : Fin k1_t1_loop.trips, (k1_t2_loop n).trips = n.val := by decide +kernel
theorem t3B_trips : ∀ n : Fin k1_t1_loop.trips, (k1_t3_loop n).trips = 0 := by decide +kernel
theorem off3B_all : ∀ (n : Fin k1_t1_loop.trips) (τ : Fin (k1_t2_loop n).trips), k1_off3 n τ = ![256 * (n.val - 1 - τ.val), 0] := by
  decide +kernel

/-- Block `j`'s rows written over contents `D`. -/
theorem write_blk {arg : Memref sig .tc .vmem S2048x128 .f32} {X : BufTy.Contents (Elt Ideal) arg.view.ty} {D W : ℕ → ℕ → ℝ}
    {L : List (View.Piece (Elt Ideal) S2048x128 .f32)} {off : Fin 2 → ℕ} {j : ℕ}
    (h : arg.view.read (Elt Ideal) (arg.view.writes (Elt Ideal) X L) = TF D) (ho : off = ![256 * j, 0]) (inb) :
    arg.view.read (Elt Ideal) (arg.view.writes (Elt Ideal) X
        ((⟨Rect.unit (s := S2048x128) off S256x128.size inb, (TF W : FVec Ideal S256x128 .f32)⟩ : View.Piece (Elt Ideal) S2048x128 .f32) :: L))
      = TF (upd D j W) := by
  funext y
  have y1 : (y 1).val < 128 := (y 1).isLt
  by_cases hy : 256 * j ≤ (y 0).val ∧ (y 0).val < 256 * j + 256
  · have hb : (y 0).val - 256 * j < 256 := by omega
    rw [View.read_writes_cons_rows_of_mem arg.view X inb _ L y (fun a => match a with | ⟨0, _⟩ => ⟨(y 0).val - 256 * j, hb⟩ | ⟨1, _⟩ => ⟨(y 1).val, y1⟩) ho
      (by show (y 0).val = 256 * j + ((y 0).val - 256 * j); omega) rfl]
    show ((W ((y 0).val - 256 * j) (y 1).val : ℝ) : EReal) = ((upd D j W (y 0).val (y 1).val : ℝ) : EReal)
    rw [upd, if_pos hy]
  · rw [View.read_writes_cons_rows_of_not_mem arg.view X inb _ L y ho (W := 256) rfl (by omega), h]
    show ((D (y 0).val (y 1).val : ℝ) : EReal) = ((upd D j W (y 0).val (y 1).val : ℝ) : EReal)
    rw [upd, if_neg hy]

/-- What each query gives the key gradient and the value gradient. -/
def HK (q k v g : ℕ → ℕ → ℝ) : ℕ → ℕ → ℕ → ℝ := fun t s d => DZ q k v g t s * q t d
def HV (q k g : ℕ → ℕ → ℝ) : ℕ → ℕ → ℕ → ℝ := fun t s d => AA q k t s * g t d

/-- The query block's carried values once the keys from `a` on are in. -/
def accB (q k v g : ℕ → ℕ → ℝ) (n a : ℕ) : FVec Ideal S256x128 .f32 × FVec Ideal S256x1 .f32 × FVec Ideal S256x1 .f32 :=
  (T fun r d => ∑ x ∈ Ico a 2048, DZ q k v g (256 * n + r) x * k x d,
    T fun r _ => ∑ x ∈ Ico a 2048, Sm q k (256 * n + r) x,
    T fun r _ => ∑ x ∈ Ico a 2048, EE q k v g (256 * n + r) x)

section Bwd

variable (𝒱 : Variants) (c : Dev nD) (bd : Option 𝒱.V) (i : grid1.Coords)
  (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2048x128 .f32) (harg5 : arg5.IsWhole)
  (arg6 : Memref sig .tc .vmem S3x2048x128 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (v0 : IVec S256x256 32) (v1 : IVec S256x256 32)
  (X10 : BufTy.Contents (Elt Ideal) arg10.view.ty) (X11 : BufTy.Contents (Elt Ideal) arg11.view.ty)

theorem trip_B (n : Fin k1_t1_loop.trips) (a12 v64 : BitVec 32) (v7 v11 : FVec Ideal S256x256 .bf16)
    (Q : Vec Ideal S256x128 .bf16) (G : FVec Ideal S256x128 .bf16) (ds : FVec Ideal S256x1 .f32) (τ : Fin (k1_t2_loop n).trips)
    (a : FVec Ideal S256x128 .f32 × FVec Ideal S256x1 .f32 × FVec Ideal S256x1 .f32)
    (f7 : BufTy.Contents (Elt Ideal) arg7.view.ty) (f8 : BufTy.Contents (Elt Ideal) arg8.view.ty)
    (K V : Vec Ideal S256x128 .bf16)
    (hK : arg10.view.readAt (Elt Ideal) (Rect.unit (s := S2048x128) (k1_off3 n τ) S256x128.size (k1_off3_inb n τ)).toLoadRect X10 = K)
    (hV : arg11.view.readAt (Elt Ideal) (Rect.unit (s := S2048x128) (k1_off3 n τ) S256x128.size (k1_off3_inb n τ)).toLoadRect X11 = V) :
    (tripR_k1_t2 (F := Ideal) 𝒱 c bd i arg1 harg1 arg2 harg2 arg3 harg3 arg4 harg4 arg5 harg5 arg6 harg6 arg7 harg7 arg8 harg8 arg9 harg9 arg10 harg10 arg11 harg11 v0 v1 v7 v11 n a12 Q G ds v64 X10 X11 τ a f7 f8
        = (k1_pay7 v11 ds a.1 a.2.2 K (k1_pay23 Q K) (k1_pay25 v7 Q G a.2.1 K V) (k1_pay27 v7 v11 Q G a.2.1 K V) (k1_pay28 v7 Q G a.2.1 K V),
            k1_pay10 a.2.1 (k1_pay22 Q K), k1_pay11 a.2.2 (k1_pay25 v7 Q G a.2.1 K V)))
      ∧ (tripL_k1_t2 (F := Ideal) 𝒱 c bd i arg1 harg1 arg2 harg2 arg3 harg3 arg4 harg4 arg5 harg5 arg6 harg6 arg7 harg7 arg8 harg8 arg9 harg9 arg10 harg10 arg11 harg11 v0 v1 v7 v11 n a12 Q G ds v64 X10 X11 τ a f7 f8
        = ([⟨Rect.unit (s := S2048x128) (k1_off3 n τ) S256x128.size (k1_off3_inb n τ),
              k1_pay8 v11 Q ds a.2.2 (k1_pay23 Q K) (k1_pay25 v7 Q G a.2.1 K V) (k1_pay27 v7 v11 Q G a.2.1 K V) (k1_pay28 v7 Q G a.2.1 K V)
                (arg7.view.readAt (Elt Ideal) (Rect.unit (s := S2048x128) (k1_off3 n τ) S256x128.size (k1_off3_inb n τ)).toLoadRect f7)⟩],
            [⟨Rect.unit (s := S2048x128) (k1_off3 n τ) S256x128.size (k1_off3_inb n τ),
              k1_pay9 G (k1_pay24 v7 Q a.2.1 K)
                (arg8.view.readAt (Elt Ideal) (Rect.unit (s := S2048x128) (k1_off3 n τ) S256x128.size (k1_off3_inb n τ)).toLoadRect f8)⟩])) := by
  subst hK hV
  unfold tripR_k1_t2 tripL_k1_t2 trip_k1_t2
  exact ⟨rfl, rfl⟩

theorem st_B {q k v g : ℕ → ℕ → ℝ} (h10 : arg10.view.read (Elt Ideal) X10 = TB k) (h11 : arg11.view.read (Elt Ideal) X11 = TB v)
    (n : Fin k1_t1_loop.trips) (a12 v64 : BitVec 32) (G7 : BufTy.Contents (Elt Ideal) arg7.view.ty) (G8 : BufTy.Contents (Elt Ideal) arg8.view.ty)
    (ds : ℕ → ℝ) (hds : ∀ r < 256, ds r = DS q k v g (256 * n + r))
    (h7 : arg7.view.read (Elt Ideal) G7 = TF (part (HK q k v g) n n)) (h8 : arg8.view.read (Elt Ideal) G8 = TF (part (HV q k g) n n))
    (τ : ℕ) (hτ : τ ≤ (k1_t2_loop n).trips) :
    ∃ s, st_k1_t2 (F := Ideal) 𝒱 c bd i arg1 harg1 arg2 harg2 arg3 harg3 arg4 harg4 arg5 harg5 arg6 harg6 arg7 harg7 arg8 harg8 arg9 harg9 arg10 harg10 arg11 harg11 v0 v1 (TB triGt) (TB triGe) n a12
        (TB (blk q n)) (TB (blk g n)) (T fun r _ => ds r) v64 X10 X11 G7 G8 (accB q k v g n (256 * n)) τ = s
      ∧ s.1 = accB q k v g n (256 * (n - τ))
      ∧ arg7.view.read (Elt Ideal) (arg7.view.writes (Elt Ideal) G7 s.2.1) = TF (part (HK q k v g) n (n - τ))
      ∧ arg8.view.read (Elt Ideal) (arg8.view.writes (Elt Ideal) G8 s.2.2) = TF (part (HV q k g) n (n - τ)) := by
  induction τ with
  | zero => exact ⟨_, rfl, rfl, h7, h8⟩
  | succ τ ih =>
    obtain ⟨s, hs, s1, s7, s8⟩ := ih (by omega)
    have hn := t2B_trips n
    have hn8 : n.val < 8 := n.isLt
    have ho := off3B_all n ⟨τ, hτ⟩
    have e : (n : ℕ) - τ = (n - 1 - τ) + 1 := by omega
    have e' : (n : ℕ) - (τ + 1) = n - 1 - τ := by omega
    have hj : (n : ℕ) - 1 - τ < 8 := by omega
    have hb : ∀ r < 256, ∀ c < 256, (all r c ↔ before n (n - 1 - τ) r c) := all_before (by omega)
    generalize hjj : (n : ℕ) - 1 - τ = j at *
    rw [e] at s1 s7 s8
    rw [e']
    rw [st_k1_t2_succ (F := Ideal) 𝒱 c bd i arg1 harg1 arg2 harg2 arg3 harg3 arg4 harg4 arg5 harg5 arg6 harg6 arg7 harg7 arg8 harg8 arg9 harg9 arg10 harg10 arg11 harg11 v0 v1 _ _ n a12 _ _ _ v64 X10 X11 G7 G8 _ ⟨τ, hτ⟩, hs]
    have hT := trip_B 𝒱 c bd i arg1 harg1 arg2 harg2 arg3 harg3 arg4 harg4 arg5 harg5 arg6 harg6 arg7 harg7 arg8 harg8 arg9 harg9 arg10 harg10 arg11 harg11 v0 v1 X10 X11 n a12 v64 (TB triGt) (TB triGe)
      (TB (blk q n)) (TB (blk g n)) (T fun r _ => ds r) ⟨τ, hτ⟩ s.1 (arg7.view.writes (Elt Ideal) G7 s.2.1) (arg8.view.writes (Elt Ideal) G8 s.2.2) _ _
      (read_blk h10 ho (k1_off3_inb n ⟨τ, hτ⟩)) (read_blk h11 ho (k1_off3_inb n ⟨τ, hτ⟩))
    rw [hT.1, hT.2, read_blk' s7 ho, read_blk' s8 ho, s1]
    refine ⟨_, rfl, ?_, ?_, ?_⟩
    all_goals unfold accB
    · rw [b_sg, b_E, b_E1, b_E2, b_sp, b_dq, b_rem, b_e]
      refine congrArg₂ Prod.mk (T_congr ?_) (congrArg₂ Prod.mk (T_congr ?_) (T_congr ?_))
      · intro r hr d _
        exact Q_next (rem := fun r => ∑ x ∈ Ico (256 * (j + 1)) 2048, Sm q k (256 * n + r) x)
          (e := fun r => ∑ x ∈ Ico (256 * (j + 1)) 2048, EE q k v g (256 * n + r) x) hb hj (fun _ _ => rfl) (fun _ _ => rfl) hds hr rfl
      · intro r hr d _
        exact S_next (rem := fun r => ∑ x ∈ Ico (256 * (j + 1)) 2048, Sm q k (256 * n + r) x) hb hj (fun _ _ => rfl) hr
      · intro r hr d _
        exact E_next (rem := fun r => ∑ x ∈ Ico (256 * (j + 1)) 2048, Sm q k (256 * n + r) x)
          (e := fun r => ∑ x ∈ Ico (256 * (j + 1)) 2048, EE q k v g (256 * n + r) x) hb hj (fun _ _ => rfl) (fun _ _ => rfl) hr
    · rw [b_sg, b_E, b_E1, b_E2, b_dk]
      refine (write_blk (W := _) s7 ho _).trans (T_congr ?_)
      intro s _ d _
      refine part_step _ _ _ ?_ s d
      intro c hc d
      rw [part_blk _ _ hc]
      exact K_next (rem := fun r => ∑ x ∈ Ico (256 * (j + 1)) 2048, Sm q k (256 * n + r) x)
          (e := fun r => ∑ x ∈ Ico (256 * (j + 1)) 2048, EE q k v g (256 * n + r) x) hb hj (fun _ _ => rfl) (fun _ _ => rfl) hds hc
    · rw [b_A, b_dv]
      refine (write_blk (W := _) s8 ho _).trans (T_congr ?_)
      intro s _ d _
      refine part_step _ _ _ ?_ s d
      intro c hc d
      rw [part_blk _ _ hc]
      exact V_next (rem := fun r => ∑ x ∈ Ico (256 * (j + 1)) 2048, Sm q k (256 * n + r) x) hb hj (fun _ _ => rfl) hc

end Bwd

end Cert.KernelIdeal.Sba

end
-- ==== Proof.BwdTrip.lean ====
/- One query block of the backward body over the extended reals at real inputs. -/
module

public import proofs.«01_k».proof.Proof.BwdIn

@[expose] public section

set_option maxRecDepth 16384
set_option maxHeartbeats 400000

noncomputable section

namespace Cert.KernelIdeal.Sba

open Cert.KernelIdeal.Gen
open Idealize.ShloMosaic Idealize.ShloMosaic.TcCoe Idealize.ShloMosaic.Tactic
open Finset Cert.Sba

section Bwd

variable (𝒱 : Variants) (c : Dev nD) (bd : Option 𝒱.V) (i : grid1.Coords)
  (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2048x128 .f32) (harg5 : arg5.IsWhole)
  (arg6 : Memref sig .tc .vmem S3x2048x128 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (X4 : BufTy.Contents (Elt Ideal) arg4.view.ty) (X5 : BufTy.Contents (Elt Ideal) arg5.view.ty)
  (X9 : BufTy.Contents (Elt Ideal) arg9.view.ty) (X10 : BufTy.Contents (Elt Ideal) arg10.view.ty)
  (X11 : BufTy.Contents (Elt Ideal) arg11.view.ty)

/-- The query block's piece of the result: its gradient, scaled. -/
def dqB (q k v g : ℕ → ℕ → ℝ) (n : ℕ) : FVec Ideal S1x256x128 .bf16 :=
  fun y => ((DQ q k v g (256 * n + (y 1).val) (y 2).val * scl : ℝ) : EReal)

theorem dq_out (q k v g : ℕ → ℕ → ℝ) (n : ℕ) : k1_pay18 (F := Ideal) (accB q k v g n (256 * 0)).1 = dqB q k v g n := by
  unfold k1_pay18 accB
  simp only [ofBits_scl]
  funext y
  refine (shapeCast_addUnit_apply ![256, 128] _ _ y).trans ?_
  show ((∑ x ∈ Ico (256 * 0) 2048, DZ q k v g (256 * n + (y 1).val) x * k x (y 2).val : ℝ) : EReal) * ((scl : ℝ) : EReal)
    = ((DQ q k v g (256 * n + (y 1).val) (y 2).val * scl : ℝ) : EReal)
  rw [← EReal.coe_mul, DQ, Finset.range_eq_Ico]

/-- The sums over the queries before block `n`. -/
def upto (H : ℕ → ℕ → ℕ → ℝ) (n : ℕ) : ℕ → ℕ → ℝ := fun s d => ∑ t ∈ range (256 * n), H t s d

theorem tripB_val {q k v g : ℕ → ℕ → ℝ}
    (h4 : arg4.view.read (Elt Ideal) X4 = TF (OO q k v)) (h5 : arg5.view.read (Elt Ideal) X5 = TF g)
    (h9 : arg9.view.read (Elt Ideal) X9 = TB q) (h10 : arg10.view.read (Elt Ideal) X10 = TB k) (h11 : arg11.view.read (Elt Ideal) X11 = TB v)
    (n : Fin k1_t1_loop.trips) (f7 : BufTy.Contents (Elt Ideal) arg7.view.ty) (f8 : BufTy.Contents (Elt Ideal) arg8.view.ty)
    (h7 : arg7.view.read (Elt Ideal) f7 = TF (upto (HK q k v g) n)) (h8 : arg8.view.read (Elt Ideal) f8 = TF (upto (HV q k g) n)) :
    (tripB (F := Ideal) 𝒱 c bd i arg1 harg1 arg2 harg2 arg3 harg3 arg4 harg4 arg5 harg5 arg6 harg6 arg7 harg7 arg8 harg8 arg9 harg9 arg10 harg10 arg11 harg11
        (iota .tc S256x256 32 [0] iota_S256x256_d0_w32) (iota .tc S256x256 32 [1] iota_S256x256_d1_w32) (TB triGt) (TB triGe) X4 X5 X9 X10 X11 n).1 f7 f8
      = [(⟨Rect.unit (s := S3x2048x128) (k1_off5 n) S1x256x128.size (k1_off5_inb n), dqB q k v g n⟩ : View.Piece (Elt Ideal) S3x2048x128 .bf16)]
    ∧ arg7.view.read (Elt Ideal) (arg7.view.writes (Elt Ideal) f7 ((tripB (F := Ideal) 𝒱 c bd i arg1 harg1 arg2 harg2 arg3 harg3 arg4 harg4 arg5 harg5 arg6 harg6 arg7 harg7 arg8 harg8 arg9 harg9 arg10 harg10 arg11 harg11
        (iota .tc S256x256 32 [0] iota_S256x256_d0_w32) (iota .tc S256x256 32 [1] iota_S256x256_d1_w32) (TB triGt) (TB triGe) X4 X5 X9 X10 X11 n).2.1 f7 f8))
      = TF (upto (HK q k v g) (n + 1))
    ∧ arg8.view.read (Elt Ideal) (arg8.view.writes (Elt Ideal) f8 ((tripB (F := Ideal) 𝒱 c bd i arg1 harg1 arg2 harg2 arg3 harg3 arg4 harg4 arg5 harg5 arg6 harg6 arg7 harg7 arg8 harg8 arg9 harg9 arg10 harg10 arg11 harg11
        (iota .tc S256x256 32 [0] iota_S256x256_d0_w32) (iota .tc S256x256 32 [1] iota_S256x256_d1_w32) (TB triGt) (TB triGe) X4 X5 X9 X10 X11 n).2.2.1 f7 f8))
      = TF (upto (HV q k g) (n + 1)) := by
  have hn8 : n.val < 8 := n.isLt
  have o1 : k1_off1 n = ![256 * n.val, 0] := k1_off1_eq n
  have o2 : k1_off2 n = ![256 * n.val, 0] := k1_off2_eq n
  have r4 := read_blk' h4 o1 (k1_off1_inb n)
  have r5 := read_blk' h5 o1 (k1_off1_inb n)
  have r9 := read_blk h9 o1 (k1_off1_inb n)
  have r10 := read_blk h10 o2 (k1_off2_inb n)
  have r11 := read_blk h11 o2 (k1_off2_inb n)
  have r7 := read_blk' h7 o2 (k1_off2_inb n)
  have r8 := read_blk' h8 o2 (k1_off2_inb n)
  have hr : ∀ r < 256, (0 : ℝ) = ∑ x ∈ Ico (256 * (n.val + 1)) 2048, Sm q k (256 * n.val + r) x := fun r hr =>
    (tail_zero (t := 256 * n.val + r) (fun x hx => Sm_eq_zero q k hx) (by omega)).symm
  have he : ∀ r < 256, (0 : ℝ) = ∑ x ∈ Ico (256 * (n.val + 1)) 2048, EE q k v g (256 * n.val + r) x := fun r hr =>
    (tail_zero (t := 256 * n.val + r) (fun x hx => EE_eq_zero q k v g hx) (by omega)).symm
  have hz : ∀ r < 256, ∀ d, (0 : ℝ) = ∑ x ∈ Ico (256 * (n.val + 1)) 2048, DZ q k v g (256 * n.val + r) x * k x d := fun r hr d =>
    (tail_zero (t := 256 * n.val + r) (fun x hx => by rw [DZ_eq_zero q k v g hx, zero_mul]) (by omega)).symm
  have hds : ∀ r < 256, (fun r => ∑ d ∈ range 128, blk g n r d * blk (OO q k v) n r d) r = DS q k v g (256 * n.val + r) := fun r _ =>
    dsum_eq q k v g _
  have hd : k1_pay38 (F := Ideal) (TF (blk g n)) (TF (blk (OO q k v) n)) = T (fun r _ => (fun r => ∑ d ∈ range 128, blk g n r d * blk (OO q k v) n r d) r) :=
    d_ds _ _
  generalize hdd : (fun r => ∑ d ∈ range 128, blk g n r d * blk (OO q k v) n r d) = ds at hds hd
  have hi : ((T fun r d => 0 + ∑ c ∈ range 256, bZ tri (blk q n) (blk k n) (blk v n) (blk g n) (fun _ => 0) (fun _ => 0) ds r c * blk k n c d : FVec Ideal S256x128 .f32),
        (T fun r _ => ∑ c ∈ range 256, bS tri (blk q n) (blk k n) r c : FVec Ideal S256x1 .f32),
        (T fun r _ => ∑ c ∈ range 256, bE tri (blk q n) (blk k n) (blk v n) (blk g n) (fun _ => 0) r c : FVec Ideal S256x1 .f32))
      = accB q k v g n (256 * n) := by
    refine congrArg₂ Prod.mk (T_congr ?_) (congrArg₂ Prod.mk (T_congr ?_) (T_congr ?_))
    · intro r hr' d _
      exact Q_next tri_before hn8 hr he hds hr' (hz r hr' d)
    · intro r hr' d _
      exact (zero_add _).symm.trans (S_next (rem := fun _ => 0) tri_before hn8 hr hr')
    · intro r hr' d _
      exact (zero_add _).symm.trans (E_next (rem := fun _ => 0) (e := fun _ => 0) tri_before hn8 hr he hr')
  unfold tripB
  unfold tripB.sl.r_14 tripB.sl.r_13 tripB.sl.r_12 tripB.sl.r_11 tripB.sl.r_10 tripB.sl.r_9 tripB.sl.r_8 tripB.sl.r_7 tripB.sl.r_6 tripB.sl.r_5 tripB.sl.r_4 tripB.sl.r_3 tripB.sl.r_2 tripB.sl.r_1 tripB.sl.r
  simp only [r4, r5, r9, r10, r11, r7, r8]
  rw [d_g, hd, d_zero, d_zero', d_z, pay42_eq, d_max, d_exp, d_Z, d_A, d_E, d_dk, d_dv, d_dq, d_S, d_rem, d_e, hi]
  have g7 : arg7.view.read (Elt Ideal) (arg7.view.writes (Elt Ideal) f7 [⟨Rect.unit (s := S2048x128) (k1_off2 n) S256x128.size (k1_off2_inb n),
      (TF fun c d => blk (upto (HK q k v g) n) n c d + ∑ r ∈ range 256, bZ tri (blk q n) (blk k n) (blk v n) (blk g n) (fun _ => 0) (fun _ => 0) ds r c * blk q n r d)⟩])
      = TF (part (HK q k v g) n n) := by
    refine (write_blk (W := _) (L := []) h7 o2 (k1_off2_inb n)).trans (T_congr fun s _ d _ => ?_)
    exact part_first _ _ (fun t s d h => by simp only [HK, DZ_eq_zero q k v g h, zero_mul]) _
      (fun c hc d => K_next (rem := fun _ => 0) (e := fun _ => 0) tri_before hn8 hr he hds hc) s d
  have g8 : arg8.view.read (Elt Ideal) (arg8.view.writes (Elt Ideal) f8 [⟨Rect.unit (s := S2048x128) (k1_off2 n) S256x128.size (k1_off2_inb n),
      (TF fun c d => blk (upto (HV q k g) n) n c d + ∑ r ∈ range 256, bA tri (blk q n) (blk k n) (fun _ => 0) r c * blk g n r d)⟩])
      = TF (part (HV q k g) n n) := by
    refine (write_blk (W := _) (L := []) h8 o2 (k1_off2_inb n)).trans (T_congr fun s _ d _ => ?_)
    exact part_first _ _ (fun t s d h => by simp only [HV, AA_eq_zero q k h, zero_mul]) _
      (fun c hc d => V_next (rem := fun _ => 0) tri_before hn8 hr hc) s d
  obtain ⟨s, hs, s1, s7, s8⟩ := st_B 𝒱 c bd i arg1 harg1 arg2 harg2 arg3 harg3 arg4 harg4 arg5 harg5 arg6 harg6 arg7 harg7 arg8 harg8 arg9 harg9 arg10 harg10 arg11 harg11
    (iota .tc S256x256 32 [0] iota_S256x256_d0_w32) (iota .tc S256x256 32 [1] iota_S256x256_d1_w32) X10 X11 h10 h11 n (tripB.sl.arg12 n) (tripB.sl.v64 n) _ _ ds hds g7 g8 _ le_rfl
  rw [t2B_trips n, Nat.sub_self] at s1 s7 s8
  rw [show (Scf.trips (k1_t3_loop n).lb (k1_t3_loop n).ub (k1_t3_loop n).st) = 0 from t3B_trips n,
    show (Scf.trips (k1_t2_loop n).lb (k1_t2_loop n).ub (k1_t2_loop n).st) = (k1_t2_loop n).trips from rfl, hs]
  refine ⟨?_, ?_, ?_⟩
  · refine congrArg (fun w => [(⟨_, w⟩ : View.Piece (Elt Ideal) S3x2048x128 .bf16)]) ?_
    show k1_pay18 s.1.1 = _
    rw [s1]
    exact dq_out q k v g n
  · show arg7.view.read (Elt Ideal) (arg7.view.writes (Elt Ideal) f7 (s.2.1 ++ [_])) = _
    rw [View.writes_append]
    exact s7.trans (T_congr fun s _ d _ => part_last _ _ s d)
  · show arg8.view.read (Elt Ideal) (arg8.view.writes (Elt Ideal) f8 (s.2.2 ++ [_])) = _
    rw [View.writes_append]
    exact s8.trans (T_congr fun s _ d _ => part_last _ _ s d)

theorem pbB_val {q k v g : ℕ → ℕ → ℝ}
    (h4 : arg4.view.read (Elt Ideal) X4 = TF (OO q k v)) (h5 : arg5.view.read (Elt Ideal) X5 = TF g)
    (h9 : arg9.view.read (Elt Ideal) X9 = TB q) (h10 : arg10.view.read (Elt Ideal) X10 = TB k) (h11 : arg11.view.read (Elt Ideal) X11 = TB v)
    (G7 : BufTy.Contents (Elt Ideal) arg7.view.ty) (G8 : BufTy.Contents (Elt Ideal) arg8.view.ty)
    (h7 : arg7.view.read (Elt Ideal) G7 = TF fun _ _ => 0) (h8 : arg8.view.read (Elt Ideal) G8 = TF fun _ _ => 0)
    (n : ℕ) (hn : n ≤ k1_t1_loop.trips) :
    (∀ (y : S3x2048x128.Idx) (w : EReal), ((y 0).val = 0 → w = ((DQ q k v g (y 1).val (y 2).val * scl : ℝ) : EReal)) → View.AllAt (pbB (F := Ideal) 𝒱 c bd i arg1 harg1 arg2 harg2 arg3 harg3 arg4 harg4 arg5 harg5 arg6 harg6 arg7 harg7 arg8 harg8 arg9 harg9 arg10 harg10 arg11 harg11 (iota .tc S256x256 32 [0] iota_S256x256_d0_w32) (iota .tc S256x256 32 [1] iota_S256x256_d1_w32) (TB triGt) (TB triGe) X4 X5 X9 X10 X11 G7 G8 n).1 y w)
    ∧ arg7.view.read (Elt Ideal) (arg7.view.writes (Elt Ideal) G7 (pbB (F := Ideal) 𝒱 c bd i arg1 harg1 arg2 harg2 arg3 harg3 arg4 harg4 arg5 harg5 arg6 harg6 arg7 harg7 arg8 harg8 arg9 harg9 arg10 harg10 arg11 harg11 (iota .tc S256x256 32 [0] iota_S256x256_d0_w32) (iota .tc S256x256 32 [1] iota_S256x256_d1_w32) (TB triGt) (TB triGe) X4 X5 X9 X10 X11 G7 G8 n).2.1) = TF (upto (HK q k v g) n)
    ∧ arg8.view.read (Elt Ideal) (arg8.view.writes (Elt Ideal) G8 (pbB (F := Ideal) 𝒱 c bd i arg1 harg1 arg2 harg2 arg3 harg3 arg4 harg4 arg5 harg5 arg6 harg6 arg7 harg7 arg8 harg8 arg9 harg9 arg10 harg10 arg11 harg11 (iota .tc S256x256 32 [0] iota_S256x256_d0_w32) (iota .tc S256x256 32 [1] iota_S256x256_d1_w32) (TB triGt) (TB triGe) X4 X5 X9 X10 X11 G7 G8 n).2.2) = TF (upto (HV q k g) n) := by
  induction n with
  | zero =>
    refine ⟨fun y w _ => View.allAt_nil _ _, h7.trans (T_congr fun s _ d _ => ?_), h8.trans (T_congr fun s _ d _ => ?_)⟩
    · exact (Finset.sum_range_zero _).symm
    · exact (Finset.sum_range_zero _).symm
  | succ n ih =>
    obtain ⟨i6, i7, i8⟩ := ih (by omega)
    obtain ⟨t6, t7, t8⟩ := tripB_val 𝒱 c bd i arg1 harg1 arg2 harg2 arg3 harg3 arg4 harg4 arg5 harg5 arg6 harg6 arg7 harg7 arg8 harg8 arg9 harg9 arg10 harg10 arg11 harg11 X4 X5 X9 X10 X11 h4 h5 h9 h10 h11 ⟨n, hn⟩ _ _ i7 i8
    rw [pbB_succ (F := Ideal) 𝒱 c bd i arg1 harg1 arg2 harg2 arg3 harg3 arg4 harg4 arg5 harg5 arg6 harg6 arg7 harg7 arg8 harg8 arg9 harg9 arg10 harg10 arg11 harg11 _ _ _ _ X4 X5 X9 X10 X11 G7 G8 ⟨n, hn⟩]
    refine ⟨fun y w hw => ?_, ?_, ?_⟩
    · rw [t6]
      refine View.allAt_cons_unit _ _ _ _ _ ?_ (i6 y w hw)
      intro x hx
      rw [k1_off5_eq] at hx
      have e1 : (y 1).val = 256 * n + (x 1).val := hx 1
      have e2 : (y 2).val = 0 + (x 2).val := hx 2
      have x0 : (x 0).val < 1 := (x 0).isLt
      have e0 : (y 0).val = 0 + (x 0).val := hx 0
      show ((DQ q k v g (256 * n + (x 1).val) (x 2).val * scl : ℝ) : EReal) = w
      rw [hw (by omega), e1, e2, zero_add]
    · rw [View.writes_append]; exact t7
    · rw [View.writes_append]; exact t8

end Bwd

end Cert.KernelIdeal.Sba

end
-- ==== Proof.BwdVal.lean ====
/- The whole backward body over the extended reals at real inputs. -/
module

public import proofs.«01_k».proof.Proof.BwdTrip

@[expose] public section

set_option maxRecDepth 16384
set_option maxHeartbeats 400000

noncomputable section

namespace Cert.KernelIdeal.Sba

open Cert.KernelIdeal.Gen
open Idealize.ShloMosaic Idealize.ShloMosaic.TcCoe Idealize.ShloMosaic.Tactic
open Finset Cert.Sba

/-- The three gradients, by part: the queries', the keys', the values'. -/
def gOut (q k v g : ℕ → ℕ → ℝ) (p s d : ℕ) : ℝ :=
  if p = 0 then DQ (fun t d => q t d * scl) k v g s d * scl
  else if p = 1 then upto (HK (fun t d => q t d * scl) k v g) 8 s d
  else upto (HV (fun t d => q t d * scl) k g) 8 s d

theorem b_q (q : ℕ → ℕ → ℝ) : k1_pay56 (F := Ideal) (TF q) = TB (fun t d => q t d * scl) := f_q q
theorem b_k (k : ℕ → ℕ → ℝ) : k1_pay57 (F := Ideal) (TF k) = TB k := f_k k
theorem b_v (v : ℕ → ℕ → ℝ) : k1_pay1 (F := Ideal) (k1_pay58 (TF v)) = TB v := Eq.trans rfl (cast_f _)

theorem b_clear : (k1_pay54 (F := Ideal)) = TF fun _ _ => 0 := by
  funext y
  unfold k1_pay54
  simp only [pointwise]
  exact EReal.coe_zero.symm

theorem b_clear' : (k1_pay55 (F := Ideal)) = TF fun _ _ => 0 := b_clear

theorem b_out (f : ℕ → ℕ → ℝ) (y : S1x2048x128.Idx) : k1_pay19 (F := Ideal) (TF f) y = ((f (y 1).val (y 2).val : ℝ) : EReal) := by
  unfold k1_pay19
  exact shapeCast_addUnit_apply ![2048, 128] _ _ y

theorem b_out' (f : ℕ → ℕ → ℝ) (y : S1x2048x128.Idx) : k1_pay20 (F := Ideal) (TF f) y = ((f (y 1).val (y 2).val : ℝ) : EReal) := b_out f y

set_option warn.classDefReducibility false in
theorem readCov_after {arg : Memref sig .tc .vmem S2048x128 .f32} (L L' : List (View.Piece (Elt Ideal) S2048x128 .f32)) :
    arg.view.readCov (Val := Elt Ideal) (L ++ L') (Rect.unit (s := S2048x128) ![0, 0] S2048x128.size inb_S2048x128_S2048x128_0_0).toLoadRect
      = arg.view.read (Elt Ideal) (arg.view.writes (Elt Ideal) (arg.view.writes (Elt Ideal) arg.view.junk L') L) := by
  unfold View.readCov
  rw [View.writes_append]
  exact View.readAt_full ..

/-- The whole backward body: its output block is the three gradients of its blocks. -/
theorem runB_val (𝒱 : Variants) (c : Dev nD) (bd : Option 𝒱.V) (i : grid1.Coords)
  (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2048x128 .f32) (harg5 : arg5.IsWhole)
  (arg6 : Memref sig .tc .vmem S3x2048x128 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (x1 : BufTy.Contents (Elt Ideal) arg1.view.ty) (x2 : BufTy.Contents (Elt Ideal) arg2.view.ty) (x3 : BufTy.Contents (Elt Ideal) arg3.view.ty)
  (x4 : BufTy.Contents (Elt Ideal) arg4.view.ty) (x5 : BufTy.Contents (Elt Ideal) arg5.view.ty)
    {q k v g : ℕ → ℕ → ℝ} (h1 : arg1.view.read (Elt Ideal) x1 = TF q) (h2 : arg2.view.read (Elt Ideal) x2 = TF k)
    (h3 : arg3.view.read (Elt Ideal) x3 = TF v) (h4 : arg4.view.read (Elt Ideal) x4 = TF (OO (fun t d => q t d * scl) k v))
    (h5 : arg5.view.read (Elt Ideal) x5 = TF g) :
    View.canon (runB (F := Ideal) 𝒱 c bd i arg1 harg1 arg2 harg2 arg3 harg3 arg4 harg4 arg5 harg5 arg6 harg6 arg7 harg7 arg8 harg8 arg9 harg9 arg10 harg10 arg11 harg11 x1 x2 x3 x4 x5).1 = (fun y => ((gOut q k v g (y 0).val (y 1).val (y 2).val : ℝ) : EReal) : FVec Ideal S3x2048x128 .bf16) := by
  have h9 : arg9.view.read (Elt Ideal) (arg9.view.writes (Elt Ideal) arg9.view.junk (runB.sl.H9_1 arg1 x1)) = TB (fun t d => q t d * scl) := by
    unfold runB.sl.H9_1
    rw [View.read_writes_full, View.readAt_full, h1, b_q]
  have h10 : arg10.view.read (Elt Ideal) (arg10.view.writes (Elt Ideal) arg10.view.junk (runB.sl.H10_1 arg2 x2)) = TB k := by
    unfold runB.sl.H10_1
    rw [View.read_writes_full, View.readAt_full, h2, b_k]
  have h11 : arg11.view.read (Elt Ideal) (arg11.view.writes (Elt Ideal) arg11.view.junk (runB.sl.H11_1 arg3 x3)) = TB v := by
    unfold runB.sl.H11_1 runB.sl.r
    rw [View.read_writes_full, View.readAt_full, h3, b_v]
  have h7 : arg7.view.read (Elt Ideal) (arg7.view.writes (Elt Ideal) arg7.view.junk runB.sl.H7_1) = TF fun _ _ => 0 := by
    unfold runB.sl.H7_1
    rw [View.read_writes_full, b_clear]
  have h8 : arg8.view.read (Elt Ideal) (arg8.view.writes (Elt Ideal) arg8.view.junk runB.sl.H8_1) = TF fun _ _ => 0 := by
    unfold runB.sl.H8_1
    rw [View.read_writes_full, b_clear']
  obtain ⟨p6, p7, p8⟩ := pbB_val 𝒱 c bd i arg1 harg1 arg2 harg2 arg3 harg3 arg4 harg4 arg5 harg5 arg6 harg6 arg7 harg7 arg8 harg8 arg9 harg9 arg10 harg10 arg11 harg11 x4 x5 _ _ _ h4 h5 h9 h10 h11 _ _ h7 h8 k1_t1_loop.trips le_rfl
  have e38 : runB.sl.v38 (F := Ideal) 𝒱 c bd i arg1 harg1 arg2 harg2 arg3 harg3 arg4 harg4 arg5 harg5 arg6 harg6 arg7 harg7 arg8 harg8 arg9 harg9 arg10 harg10 arg11 harg11 x1 x2 x3 x4 x5 = TF (upto (HK (fun t d => q t d * scl) k v g) 8) := by
    unfold runB.sl.v38 runB.sl.v0 runB.sl.v1
    rw [readCov_after, pay52_eq, pay53_eq]
    exact p7
  have e43 : runB.sl.v43 (F := Ideal) 𝒱 c bd i arg1 harg1 arg2 harg2 arg3 harg3 arg4 harg4 arg5 harg5 arg6 harg6 arg7 harg7 arg8 harg8 arg9 harg9 arg10 harg10 arg11 harg11 x1 x2 x3 x4 x5 = TF (upto (HV (fun t d => q t d * scl) k g) 8) := by
    unfold runB.sl.v43 runB.sl.v0 runB.sl.v1
    rw [readCov_after, pay52_eq, pay53_eq]
    exact p8
  funext y
  refine View.canon_eq_of_allAt _ y _ (runB_covers 𝒱 c bd i arg1 harg1 arg2 harg2 arg3 harg3 arg4 harg4 arg5 harg5 arg6 harg6 arg7 harg7 arg8 harg8 arg9 harg9 arg10 harg10 arg11 harg11 x1 x2 x3 x4 x5 y) ?_
  unfold runB
  refine View.allAt_cons_unit _ _ _ _ _ ?_ (View.allAt_cons_unit _ _ _ _ _ ?_ ?_)
  · intro x hx
    have x0 : (x 0).val < 1 := (x 0).isLt
    have e0 : (y 0).val = 2 + (x 0).val := hx 0
    have e1 : (y 1).val = 0 + (x 1).val := hx 1
    have e2 : (y 2).val = 0 + (x 2).val := hx 2
    rw [e43]
    refine (b_out' _ x).trans ?_
    rw [gOut, if_neg (by omega), if_neg (by omega), e1, e2, zero_add, zero_add]
  · intro x hx
    have x0 : (x 0).val < 1 := (x 0).isLt
    have e0 : (y 0).val = 1 + (x 0).val := hx 0
    have e1 : (y 1).val = 0 + (x 1).val := hx 1
    have e2 : (y 2).val = 0 + (x 2).val := hx 2
    rw [e38]
    refine (b_out _ x).trans ?_
    rw [gOut, if_neg (by omega), if_pos (by omega), e1, e2, zero_add, zero_add]
  · unfold runB.sl.v0 runB.sl.v1
    rw [pay52_eq, pay53_eq]
    refine p6 y _ fun h0 => ?_
    rw [gOut, if_pos h0]

end Cert.KernelIdeal.Sba

end
-- ==== Proof.Arrays.lean ====
/- The two calls' arrays over the extended reals at real arguments: each head's blocks are columns of the
   arguments, and the array each call leaves is the attention, and its three gradients, head by head. -/
module

public import proofs.«01_k».proof.Proof.Run
public import proofs.«01_k».proof.Proof.FwdVal
public import proofs.«01_k».proof.Proof.BwdVal
public import Idealize.ShloMosaic.Lib.Pipeline.ValueKit

@[expose] public section

set_option maxRecDepth 16384
set_option maxHeartbeats 400000

noncomputable section

namespace Cert.KernelIdeal.Sba

open Cert.KernelIdeal.Gen
open Idealize.ShloMosaic Idealize.ShloMosaic.TcCoe Idealize.ShloMosaic.Tactic
open Idealize.ShloMosaic.Pipeline (Dat)
open Finset Cert.Sba

variable (m : (ℓ : Loc nD τ sig) → Buf (Elt Ideal) ℓ) (c : Dev nD)

theorem e00 : ∀ t : Fin cfg0.N, win0_0.index t = ![0, t.val] := (by decide +kernel : ∀ t : Fin grid0.N, _)
theorem e01 : ∀ t : Fin cfg0.N, win0_1.index t = ![0, 16 + t.val] := (by decide +kernel : ∀ t : Fin grid0.N, _)
theorem e02 : ∀ t : Fin cfg0.N, win0_2.index t = ![0, 32 + t.val] := (by decide +kernel : ∀ t : Fin grid0.N, _)
theorem e03 : ∀ t : Fin cfg0.N, win0_3.index t = ![0, t.val] := (by decide +kernel : ∀ t : Fin grid0.N, _)
theorem e10 : ∀ t : Fin cfg1.N, win1_0.index t = ![0, t.val] := (by decide +kernel : ∀ t : Fin grid1.N, _)
theorem e11 : ∀ t : Fin cfg1.N, win1_1.index t = ![0, 16 + t.val] := (by decide +kernel : ∀ t : Fin grid1.N, _)
theorem e12 : ∀ t : Fin cfg1.N, win1_2.index t = ![0, 32 + t.val] := (by decide +kernel : ∀ t : Fin grid1.N, _)
theorem e13 : ∀ t : Fin cfg1.N, win1_3.index t = ![0, t.val] := (by decide +kernel : ∀ t : Fin grid1.N, _)
theorem e14 : ∀ t : Fin cfg1.N, win1_4.index t = ![0, t.val] := (by decide +kernel : ∀ t : Fin grid1.N, _)
theorem e15 : ∀ t : Fin cfg1.N, win1_5.index t = ![0, 0, t.val] := (by decide +kernel : ∀ t : Fin grid1.N, _)

/-- Head `h`'s columns of part `p` of an array of rows. -/
def colsOf (X : ℕ → ℕ → ℝ) (p h : ℕ) : ℕ → ℕ → ℝ := fun t d => X t (p * 2048 + h * 128 + d)

theorem b00 {X : ℕ → ℕ → ℝ} (V : Valuation τ sig (Elt Ideal)) (hX : V (Proc.devRef .tc main_arg0) = (TF X : FVec Ideal S2048x6144 .f32)) (t : Fin cfg0.N) :
    blk0 c V 0 t = (TF (colsOf X 0 t) : FVec Ideal S2048x128 .f32) := by
  funext y
  refine (congrFun hX ((win0_0.blk t).view.emb y)).trans ?_
  have a0 : ((win0_0.blk t).view.emb y 0).val = (y 0).val := by blk_simp [e00]
  have a1 : ((win0_0.blk t).view.emb y 1).val = 0 * 2048 + t.val * 128 + (y 1).val := by blk_simp [e00]; try omega
  show ((X ((win0_0.blk t).view.emb y 0).val ((win0_0.blk t).view.emb y 1).val : ℝ) : EReal) = ((X (y 0).val (0 * 2048 + t.val * 128 + (y 1).val) : ℝ) : EReal)
  rw [a0, a1]

theorem b01 {X : ℕ → ℕ → ℝ} (V : Valuation τ sig (Elt Ideal)) (hX : V (Proc.devRef .tc main_arg0) = (TF X : FVec Ideal S2048x6144 .f32)) (t : Fin cfg0.N) :
    blk0 c V 1 t = (TF (colsOf X 1 t) : FVec Ideal S2048x128 .f32) := by
  funext y
  refine (congrFun hX ((win0_1.blk t).view.emb y)).trans ?_
  have a0 : ((win0_1.blk t).view.emb y 0).val = (y 0).val := by blk_simp [e01]
  have a1 : ((win0_1.blk t).view.emb y 1).val = 1 * 2048 + t.val * 128 + (y 1).val := by blk_simp [e01]; try omega
  show ((X ((win0_1.blk t).view.emb y 0).val ((win0_1.blk t).view.emb y 1).val : ℝ) : EReal) = ((X (y 0).val (1 * 2048 + t.val * 128 + (y 1).val) : ℝ) : EReal)
  rw [a0, a1]

theorem b02 {X : ℕ → ℕ → ℝ} (V : Valuation τ sig (Elt Ideal)) (hX : V (Proc.devRef .tc main_arg0) = (TF X : FVec Ideal S2048x6144 .f32)) (t : Fin cfg0.N) :
    blk0 c V 2 t = (TF (colsOf X 2 t) : FVec Ideal S2048x128 .f32) := by
  funext y
  refine (congrFun hX ((win0_2.blk t).view.emb y)).trans ?_
  have a0 : ((win0_2.blk t).view.emb y 0).val = (y 0).val := by blk_simp [e02]
  have a1 : ((win0_2.blk t).view.emb y 1).val = 2 * 2048 + t.val * 128 + (y 1).val := by blk_simp [e02]; try omega
  show ((X ((win0_2.blk t).view.emb y 0).val ((win0_2.blk t).view.emb y 1).val : ℝ) : EReal) = ((X (y 0).val (2 * 2048 + t.val * 128 + (y 1).val) : ℝ) : EReal)
  rw [a0, a1]

theorem b10 {X : ℕ → ℕ → ℝ} (V : Valuation τ sig (Elt Ideal)) (hX : V (Proc.devRef .tc main_arg0) = (TF X : FVec Ideal S2048x6144 .f32)) (t : Fin cfg1.N) :
    blk1 c V 0 t = (TF (colsOf X 0 t) : FVec Ideal S2048x128 .f32) := by
  funext y
  refine (congrFun hX ((win1_0.blk t).view.emb y)).trans ?_
  have a0 : ((win1_0.blk t).view.emb y 0).val = (y 0).val := by blk_simp [e10]
  have a1 : ((win1_0.blk t).view.emb y 1).val = 0 * 2048 + t.val * 128 + (y 1).val := by blk_simp [e10]; try omega
  show ((X ((win1_0.blk t).view.emb y 0).val ((win1_0.blk t).view.emb y 1).val : ℝ) : EReal) = ((X (y 0).val (0 * 2048 + t.val * 128 + (y 1).val) : ℝ) : EReal)
  rw [a0, a1]

theorem b11 {X : ℕ → ℕ → ℝ} (V : Valuation τ sig (Elt Ideal)) (hX : V (Proc.devRef .tc main_arg0) = (TF X : FVec Ideal S2048x6144 .f32)) (t : Fin cfg1.N) :
    blk1 c V 1 t = (TF (colsOf X 1 t) : FVec Ideal S2048x128 .f32) := by
  funext y
  refine (congrFun hX ((win1_1.blk t).view.emb y)).trans ?_
  have a0 : ((win1_1.blk t).view.emb y 0).val = (y 0).val := by blk_simp [e11]
  have a1 : ((win1_1.blk t).view.emb y 1).val = 1 * 2048 + t.val * 128 + (y 1).val := by blk_simp [e11]; try omega
  show ((X ((win1_1.blk t).view.emb y 0).val ((win1_1.blk t).view.emb y 1).val : ℝ) : EReal) = ((X (y 0).val (1 * 2048 + t.val * 128 + (y 1).val) : ℝ) : EReal)
  rw [a0, a1]

theorem b12 {X : ℕ → ℕ → ℝ} (V : Valuation τ sig (Elt Ideal)) (hX : V (Proc.devRef .tc main_arg0) = (TF X : FVec Ideal S2048x6144 .f32)) (t : Fin cfg1.N) :
    blk1 c V 2 t = (TF (colsOf X 2 t) : FVec Ideal S2048x128 .f32) := by
  funext y
  refine (congrFun hX ((win1_2.blk t).view.emb y)).trans ?_
  have a0 : ((win1_2.blk t).view.emb y 0).val = (y 0).val := by blk_simp [e12]
  have a1 : ((win1_2.blk t).view.emb y 1).val = 2 * 2048 + t.val * 128 + (y 1).val := by blk_simp [e12]; try omega
  show ((X ((win1_2.blk t).view.emb y 0).val ((win1_2.blk t).view.emb y 1).val : ℝ) : EReal) = ((X (y 0).val (2 * 2048 + t.val * 128 + (y 1).val) : ℝ) : EReal)
  rw [a0, a1]

theorem b13 {X : ℕ → ℕ → ℝ} (V : Valuation τ sig (Elt Ideal)) (hX : V (Proc.devRef .tc main_v0) = (TF X : FVec Ideal S2048x2048 .f32)) (t : Fin cfg1.N) :
    blk1 c V 3 t = (TF (colsOf X 0 t) : FVec Ideal S2048x128 .f32) := by
  funext y
  refine (congrFun hX ((win1_3.blk t).view.emb y)).trans ?_
  have a0 : ((win1_3.blk t).view.emb y 0).val = (y 0).val := by blk_simp [e13]
  have a1 : ((win1_3.blk t).view.emb y 1).val = 0 * 2048 + t.val * 128 + (y 1).val := by blk_simp [e13]; try omega
  show ((X ((win1_3.blk t).view.emb y 0).val ((win1_3.blk t).view.emb y 1).val : ℝ) : EReal) = ((X (y 0).val (0 * 2048 + t.val * 128 + (y 1).val) : ℝ) : EReal)
  rw [a0, a1]

theorem b14 {X : ℕ → ℕ → ℝ} (V : Valuation τ sig (Elt Ideal)) (hX : V (Proc.devRef .tc main_arg1) = (TF X : FVec Ideal S2048x2048 .f32)) (t : Fin cfg1.N) :
    blk1 c V 4 t = (TF (colsOf X 0 t) : FVec Ideal S2048x128 .f32) := by
  funext y
  refine (congrFun hX ((win1_4.blk t).view.emb y)).trans ?_
  have a0 : ((win1_4.blk t).view.emb y 0).val = (y 0).val := by blk_simp [e14]
  have a1 : ((win1_4.blk t).view.emb y 1).val = 0 * 2048 + t.val * 128 + (y 1).val := by blk_simp [e14]; try omega
  show ((X ((win1_4.blk t).view.emb y 0).val ((win1_4.blk t).view.emb y 1).val : ℝ) : EReal) = ((X (y 0).val (0 * 2048 + t.val * 128 + (y 1).val) : ℝ) : EReal)
  rw [a0, a1]

/-- Head `h`'s attention at the real arguments. -/
def headO (X : ℕ → ℕ → ℝ) (h : ℕ) : ℕ → ℕ → ℝ := OO (fun t d => colsOf X 0 h t d * scl) (colsOf X 1 h) (colsOf X 2 h)

/-- The attention of every head, side by side. -/
def attnO (X : ℕ → ℕ → ℝ) (t n : ℕ) : ℝ := headO X (n / 128) t (n % 128)

/-- The gradients of every head, side by side, by part. -/
def attnG (X Y : ℕ → ℕ → ℝ) (p t n : ℕ) : ℝ :=
  gOut (colsOf X 0 (n / 128)) (colsOf X 1 (n / 128)) (colsOf X 2 (n / 128)) (colsOf Y 0 (n / 128)) p t (n % 128)

theorem cols_attnO (X : ℕ → ℕ → ℝ) (h : ℕ) {d : ℕ} (hd : d < 128) (t : ℕ) : colsOf (attnO X) 0 h t d = headO X h t d := by
  unfold colsOf attnO
  rw [show (0 * 2048 + h * 128 + d) / 128 = h by omega, show (0 * 2048 + h * 128 + d) % 128 = d by omega]

theorem arr0 {X : ℕ → ℕ → ℝ} (hX : V0 m c (Proc.devRef .tc main_arg0) = (TF X : FVec Ideal S2048x6144 .f32)) :
    (dat0 m c).arrAt 3 cfg0.N = (TF (attnO X) : FVec Ideal S2048x2048 .f32) := by
  refine (dat0 m c).arrAt_eq_of_covers 3 _ (by decide +kernel) fun t hf y => ?_
  have a0 : ((win0_3.blk t).view.emb y 0).val = (y 0).val := by blk_simp [e03]
  have a1 : ((win0_3.blk t).view.emb y 1).val = t.val * 128 + (y 1).val := by blk_simp [e03]; try omega
  have y1 : (y 1).val < 128 := (y 1).isLt
  have ho : outF (F := Ideal) c t (blk0 c (V0 m c) 0 t) (blk0 c (V0 m c) 1 t) (blk0 c (V0 m c) 2 t) = (TF (headO X t) : FVec Ideal S2048x128 .f32) := by
    rw [b00 c _ hX, b01 c _ hX, b02 c _ hX]
    unfold outF
    exact runF_val 𝒱₀ c none (grid0.coords t) _ _ _ _ _ _ _ _ _ _ _ _ _ _ _ _ _ (View.read_rep ..) (View.read_rep ..) (View.read_rep ..)
  refine (congrFun ho y).trans ?_
  show ((headO X t (y 0).val (y 1).val : ℝ) : EReal) = ((attnO X ((win0_3.blk t).view.emb y 0).val ((win0_3.blk t).view.emb y 1).val : ℝ) : EReal)
  rw [a0, a1, attnO, show (t.val * 128 + (y 1).val) / 128 = t.val by omega, show (t.val * 128 + (y 1).val) % 128 = (y 1).val by omega]

theorem arr1 {X Y : ℕ → ℕ → ℝ} (hX : V0 m c (Proc.devRef .tc main_arg0) = (TF X : FVec Ideal S2048x6144 .f32))
    (hY : V0 m c (Proc.devRef .tc main_arg1) = (TF Y : FVec Ideal S2048x2048 .f32)) :
    (dat1 m c).arrAt 5 cfg1.N = (fun j => ((attnG X Y (j 0).val (j 1).val (j 2).val : ℝ) : EReal) : FVec Ideal S3x2048x2048 .bf16) := by
  have h0 : W1 m c (Proc.devRef .tc main_arg0) = (TF X : FVec Ideal S2048x6144 .f32) := (Function.update_of_ne (by decide) _ _).trans hX
  have h1 : W1 m c (Proc.devRef .tc main_arg1) = (TF Y : FVec Ideal S2048x2048 .f32) := (Function.update_of_ne (by decide) _ _).trans hY
  have h2 : W1 m c (Proc.devRef .tc main_v0) = (TF (attnO X) : FVec Ideal S2048x2048 .f32) := (W1_self m c).trans (arr0 m c hX)
  refine (dat1 m c).arrAt_eq_of_covers 5 _ (by decide +kernel) fun t hf y => ?_
  have a0 : ((win1_5.blk t).view.emb y 0).val = (y 0).val := by blk_simp [e15]
  have a1 : ((win1_5.blk t).view.emb y 1).val = (y 1).val := by blk_simp [e15]
  have a2 : ((win1_5.blk t).view.emb y 2).val = t.val * 128 + (y 2).val := by blk_simp [e15]; try omega
  have y2 : (y 2).val < 128 := (y 2).isLt
  have ho : outB (F := Ideal) c t (blk1 c (W1 m c) 0 t) (blk1 c (W1 m c) 1 t) (blk1 c (W1 m c) 2 t) (blk1 c (W1 m c) 3 t) (blk1 c (W1 m c) 4 t)
      = (fun y => ((gOut (colsOf X 0 t) (colsOf X 1 t) (colsOf X 2 t) (colsOf Y 0 t) (y 0).val (y 1).val (y 2).val : ℝ) : EReal) : FVec Ideal S3x2048x128 .bf16) := by
    rw [b10 c _ h0, b11 c _ h0, b12 c _ h0, b13 c _ h2, b14 c _ h1]
    have hc : (TF (colsOf (attnO X) 0 t) : FVec Ideal S2048x128 .f32) = TF (headO X t) := T_congr fun s _ d hd => cols_attnO X t hd s
    rw [hc]
    unfold outB
    exact runB_val 𝒱₀ c none (grid1.coords t) _ _ _ _ _ _ _ _ _ _ _ _ _ _ _ _ _ _ _ _ _ _ _ _ _ _ _
      (View.read_rep ..) (View.read_rep ..) (View.read_rep ..) (View.read_rep ..) (View.read_rep ..)
  refine (congrFun ho y).trans ?_
  show ((gOut (colsOf X 0 t) (colsOf X 1 t) (colsOf X 2 t) (colsOf Y 0 t) (y 0).val (y 1).val (y 2).val : ℝ) : EReal)
    = ((attnG X Y ((win1_5.blk t).view.emb y 0).val ((win1_5.blk t).view.emb y 1).val ((win1_5.blk t).view.emb y 2).val : ℝ) : EReal)
  rw [a0, a1, a2, attnG, show (t.val * 128 + (y 2).val) / 128 = t.val by omega, show (t.val * 128 + (y 2).val) % 128 = (y 2).val by omega]

end Cert.KernelIdeal.Sba

end
-- ==== Proof.RefOps.lean ====
/- What the reference's host operations are at real numbers: the stable softplus and its derivative, the
   mask, and the sums over a window that runs to one end of the axis. -/
module

public import proofs.«01_k».proof.Proof.Gen.ReferenceIdeal.Read
public import proofs.«01_k».proof.Proof.Arrays

@[expose] public section

set_option maxRecDepth 16384
set_option maxHeartbeats 400000

noncomputable section

namespace Cert.ReferenceIdeal.Sba

open Cert.ReferenceIdeal Cert.ReferenceIdeal.Gen Cert.Sba
open Cert.KernelIdeal.Sba (ofBits_zero coe_max' coe_sum)
open Idealize.ShloMosaic Finset

abbrev zeroE : Ideal .f32 := FloatOps.ofBits .f32 0x00000000#32
abbrev topE : Ideal .f32 := FloatOps.ofBits .f32 0x7F800000#32

theorem zeroE_eq : zeroE = ((0 : ℝ) : EReal) := ofBits_zero
theorem topE_eq : topE = (⊤ : EReal) := by
  show Ideal.ofBits .f32 0x7F800000#32 = ⊤
  simp [Ideal.ofBits, Ideal.ieee]

theorem une_self (x a b : Ideal .f32) : Scalar.select (FloatOps.cmpf .une x x) a b = b := by
  show (if BitVec.ofBool (decide (x ≠ x)) = 1#1 then a else b) = b
  simp

theorem oeq_top (z : ℝ) (a b : Ideal .f32) : Scalar.select (FloatOps.cmpf .oeq ((z : EReal) : Ideal .f32) topE) a b = b := by
  rw [topE_eq]
  show (if BitVec.ofBool (decide ((z : EReal) = ⊤)) = 1#1 then a else b) = b
  rw [decide_eq_false (EReal.coe_ne_top z), if_neg (by decide)]

/-- The reference's softplus at a real score. -/
theorem soft (z : ℝ) :
    (FloatOps.addf (FloatOps.maximumf ((z : EReal) : Ideal .f32) zeroE)
      (FloatOps.hostUnary .log1p (FloatOps.hostUnary .exp (FloatOps.hostNegf (FloatOps.hostAbsf
        (FloatOps.subf ((z : EReal) : Ideal .f32) zeroE))))) : Ideal .f32) = ((sp z : ℝ) : EReal) := by
  rw [zeroE_eq, ← max_log z, EReal.coe_add, coe_max']
  refine congrArg₂ (fun a b : EReal => a + b) rfl ?_
  have e : (FloatOps.hostNegf (FloatOps.hostAbsf (FloatOps.subf ((z : EReal) : Ideal .f32) ((0 : ℝ) : EReal))) : Ideal .f32)
      = ((0 - |z| : ℝ) : EReal) := by
    show - max ((z : EReal) - ((0 : ℝ) : EReal)) (- ((z : EReal) - ((0 : ℝ) : EReal))) = _
    rw [← EReal.coe_sub, sub_zero, ← EReal.coe_neg, ← coe_max', ← EReal.coe_neg, zero_sub]
    rfl
  rw [e]
  show Ideal.log1p ((Real.exp (0 - |z|) : ℝ) : EReal) = _
  rw [Ideal.log1p, ← EReal.coe_one, ← EReal.coe_add, Ideal.log_coe,
    if_neg (not_le.mpr (by have := Real.exp_pos (0 - |z|); linarith))]

/-- The reference's derivative of the softplus at a real score. -/
theorem soft' (z w : ℝ) : (FloatOps.hostUnary .exp (FloatOps.subf ((z : EReal) : Ideal .f32) ((w : EReal) : Ideal .f32)) : Ideal .f32)
    = ((Real.exp (z - w) : ℝ) : EReal) := by
  show Ideal.exp ((z : EReal) - (w : EReal)) = _
  rw [← EReal.coe_sub]; rfl

theorem slt_iff {a b : ℕ} (ha : a < 2048) (hb : b < 2048) (x y : EReal) :
    Scalar.select (IntOp.cmpi .slt (BitVec.ofNat 32 a) (BitVec.ofNat 32 b)) x y = if a < b then x else y := by
  have h : IntOp.cmpi .slt (BitVec.ofNat 32 a) (BitVec.ofNat 32 b) = BitVec.ofBool (decide (a < b)) := by
    show BitVec.ofBool ((BitVec.ofNat 32 a).slt (BitVec.ofNat 32 b)) = _
    congr 1
    rw [BitVec.slt_eq_decide, BitVec.toInt_ofNat', BitVec.toInt_ofNat']
    refine decide_eq_decide.mpr ?_
    rw [Int.bmod_def, Int.bmod_def]
    omega
  rw [h]
  show (if BitVec.ofBool (decide (a < b)) = 1#1 then x else y) = _
  by_cases hab : a < b <;> simp [hab]

/-! ### Sums over a window along the last axis -/

/-- A sum over a window, as a sum over its places. -/
theorem window_sum {s t : Shape} (window strides lo hi : Fin s.rank → ℕ) (h : s.ReduceWindows window strides lo hi t)
    (x : s.Idx → EReal) (j : t.Idx) :
    Ideal.hostReduceWindowAdd window strides lo hi h x 0 j
      = ∑ w : (⟨s.rank, window⟩ : Shape).Idx,
          if hin : ∀ a, lo a ≤ (j (a.cast h.1.symm)).val * strides a + (w a).val
              ∧ (j (a.cast h.1.symm)).val * strides a + (w a).val - lo a < s.size a
          then x (fun a => ⟨(j (a.cast h.1.symm)).val * strides a + (w a).val - lo a, (hin a).2⟩) else 0 := by
  rw [← Equiv.sum_comp (⟨s.rank, window⟩ : Shape).rowMajor.symm, ← List.sum_ofFn, List.ofFn_eq_map, List.sum_eq_foldl, List.foldl_map]
  unfold Ideal.hostReduceWindowAdd Host.reduceWindow
  dsimp only
  refine congrArg (fun F => List.foldl F 0 _) (funext fun r => funext fun y => congrArg (fun u => r + u) ?_)
  split_ifs <;> rfl

/-- The places of a window along the last of three axes. -/
theorem sum_last (g : (⟨3, ![1, 1, 2048]⟩ : Shape).Idx → EReal) :
    ∑ w, g w = ∑ w : Fin 2048, g (fun a => match a with | ⟨0, _⟩ => (0 : Fin 1) | ⟨1, _⟩ => (0 : Fin 1) | ⟨2, _⟩ => w) := by
  refine Fintype.sum_equiv ⟨fun i => (i 2 : Fin 2048), fun w a => match a with | ⟨0, _⟩ => (0 : Fin 1) | ⟨1, _⟩ => (0 : Fin 1) | ⟨2, _⟩ => w,
    fun i => ?_, fun w => rfl⟩ _ _ fun i => congrArg g ?_
  all_goals
    funext a
    match a with
    | ⟨0, _⟩ => exact Subsingleton.elim (α := Fin 1) _ _
    | ⟨1, _⟩ => exact Subsingleton.elim (α := Fin 1) _ _
    | ⟨2, _⟩ => rfl

theorem tail_sum (f : ℕ → ℝ) {s : ℕ} (hs : s < 2048) :
    ∑ w ∈ range 2048, (if s + w < 2048 then f (s + w) else 0) = ∑ x ∈ Ico s 2048, f x := by
  rw [sum_Ico_eq_sum_range, ← sum_filter]
  congr 1
  ext w; simp only [mem_filter, mem_range]; omega

theorem head_sum (f : ℕ → ℝ) {s : ℕ} (hs : s < 2048) :
    ∑ w ∈ range 2048, (if 2047 ≤ s + w ∧ s + w - 2047 < 2048 then f (s + w - 2047) else 0) = ∑ x ∈ range (s + 1), f x := by
  rw [← sum_filter, show (range 2048).filter (fun w => 2047 ≤ s + w ∧ s + w - 2047 < 2048) = Ico (2047 - s) 2048 by
    ext w; simp only [mem_filter, mem_range, mem_Ico]; omega, sum_Ico_eq_sum_range, show 2048 - (2047 - s) = s + 1 by omega]
  exact sum_congr rfl fun w _ => by congr 1; omega

abbrev S3d : Shape := ⟨3, ![16, 2048, 2048]⟩

theorem window_tail (x : FVec Ideal S3d .f32) (init : FVec Ideal ⟨0, ![]⟩ .f32) (h) (hu) (hi : init (Shape.Idx.first hu) = ((0 : ℝ) : EReal))
    (f : ℕ → ℕ → ℕ → ℝ) (hx : ∀ i, x i = ((f (i 0).val (i 1).val (i 2).val : ℝ) : EReal)) (j : S3d.Idx) :
    Host.reduceWindowAdd (s := S3d) (t := S3d) ![1, 1, 2048] ![1, 1, 1] ![0, 0, 0] ![0, 0, 2047] x init h hu j
      = ((∑ y ∈ Ico (j 2).val 2048, f (j 0).val (j 1).val y : ℝ) : EReal) := by
  have h0 : (j 0).val < 16 := (j 0).isLt
  have h1 : (j 1).val < 2048 := (j 1).isLt
  have h2 : (j 2).val < 2048 := (j 2).isLt
  unfold Host.reduceWindowAdd
  rw [hi, Ideal.hostReduceWindowAdd_def]
  refine ((congrArg (fun v => Ideal.hostReduceWindowAdd _ _ _ _ h x v j) EReal.coe_zero).trans (window_sum _ _ _ _ h x j)).trans
    ((sum_last _).trans ?_)
  rw [← tail_sum _ h2, coe_sum, sum_range]
  refine sum_congr rfl fun w _ => ?_
  split_ifs with hin hw hw
  · rw [hx]
    show ((f ((j 0).val * 1 + 0 - 0) ((j 1).val * 1 + 0 - 0) ((j 2).val * 1 + w.val - 0) : ℝ) : EReal) = _
    simp only [mul_one, add_zero, Nat.sub_zero]
  · refine absurd (hin 2).2 ?_
    show ¬ ((j 2).val * 1 + w.val - 0 < 2048)
    omega
  · refine absurd (fun a => ?_) hin
    match a with
    | ⟨0, _⟩ => exact ⟨Nat.zero_le _, show (j 0).val * 1 + 0 - 0 < 16 by omega⟩
    | ⟨1, _⟩ => exact ⟨Nat.zero_le _, show (j 1).val * 1 + 0 - 0 < 2048 by omega⟩
    | ⟨2, _⟩ => exact ⟨Nat.zero_le _, show (j 2).val * 1 + w.val - 0 < 2048 by omega⟩
  · rfl

theorem window_head (x : FVec Ideal S3d .f32) (init : FVec Ideal ⟨0, ![]⟩ .f32) (h) (hu) (hi : init (Shape.Idx.first hu) = ((0 : ℝ) : EReal))
    (f : ℕ → ℕ → ℕ → ℝ) (hx : ∀ i, x i = ((f (i 0).val (i 1).val (i 2).val : ℝ) : EReal)) (j : S3d.Idx) :
    Host.reduceWindowAdd (s := S3d) (t := S3d) ![1, 1, 2048] ![1, 1, 1] ![0, 0, 2047] ![0, 0, 0] x init h hu j
      = ((∑ y ∈ range ((j 2).val + 1), f (j 0).val (j 1).val y : ℝ) : EReal) := by
  have h0 : (j 0).val < 16 := (j 0).isLt
  have h1 : (j 1).val < 2048 := (j 1).isLt
  have h2 : (j 2).val < 2048 := (j 2).isLt
  unfold Host.reduceWindowAdd
  rw [hi, Ideal.hostReduceWindowAdd_def]
  refine ((congrArg (fun v => Ideal.hostReduceWindowAdd _ _ _ _ h x v j) EReal.coe_zero).trans (window_sum _ _ _ _ h x j)).trans
    ((sum_last _).trans ?_)
  rw [← head_sum _ h2, coe_sum, sum_range]
  refine sum_congr rfl fun w _ => ?_
  split_ifs with hin hw hw
  · rw [hx]
    show ((f ((j 0).val * 1 + 0 - 0) ((j 1).val * 1 + 0 - 0) ((j 2).val * 1 + w.val - 2047) : ℝ) : EReal) = _
    simp only [mul_one, add_zero, Nat.sub_zero]
  · refine absurd (hin 2) ?_
    show ¬ (2047 ≤ (j 2).val * 1 + w.val ∧ (j 2).val * 1 + w.val - 2047 < 2048)
    omega
  · refine absurd (fun a => ?_) hin
    match a with
    | ⟨0, _⟩ => exact ⟨Nat.zero_le _, show (j 0).val * 1 + 0 - 0 < 16 by omega⟩
    | ⟨1, _⟩ => exact ⟨Nat.zero_le _, show (j 1).val * 1 + 0 - 0 < 2048 by omega⟩
    | ⟨2, _⟩ => exact ⟨show 2047 ≤ (j 2).val * 1 + w.val by omega, show (j 2).val * 1 + w.val - 2047 < 2048 by omega⟩
  · rfl

end Cert.ReferenceIdeal.Sba
-- ==== Proof.Finite.lean ====
/- Finite arguments are arrays of real numbers. -/
module

public import proofs.«01_k».proof.Pre_finite
public import proofs.«01_k».proof.Proof.RefOps
public import Idealize.ShloMosaic.Lib.Pipeline.Value

@[expose] public section

set_option maxRecDepth 16384
set_option maxHeartbeats 400000

noncomputable section

namespace Cert.Pre_finite

open Idealize.ShloMosaic
open Cert.KernelIdeal.Sba (T TF)

theorem facts : Facts := ⟨by decide, by decide⟩

/-- A value whose magnitude is below infinity is a real number. -/
theorem real_of_abs (x : Ideal .f32)
    (h : FloatOps.cmpf .olt (FloatOps.hostAbsf x) (FloatOps.ofBits (F := Ideal) .f32 0x7F800000#32) = 1#1) :
    ((EReal.toReal x : ℝ) : EReal) = x := by
  have h' : BitVec.ofBool (decide (max (x : EReal) (-(x : EReal)) < Ideal.ofBits .f32 0x7F800000#32)) = 1#1 := h
  rw [show Ideal.ofBits .f32 0x7F800000#32 = ⊤ from Cert.ReferenceIdeal.Sba.topE_eq] at h'
  have hx : max (x : EReal) (-(x : EReal)) < ⊤ := by
    by_contra hn
    rw [decide_eq_false hn] at h'
    exact absurd h' (by decide)
  rw [max_lt_iff] at hx
  refine EReal.coe_toReal hx.1.ne fun hb => ?_
  have := hx.2
  rw [hb] at this
  simp at this

/-- The real numbers of an array with `m` rows and `n` columns, nothing outside it. -/
def reals {m n : ℕ} (x : FVec Ideal ⟨2, ![m, n]⟩ .f32) : ℕ → ℕ → ℝ := fun a b =>
  if h : a < m ∧ b < n then EReal.toReal (x fun i => match i with | ⟨0, _⟩ => ⟨a, h.1⟩ | ⟨1, _⟩ => ⟨b, h.2⟩) else 0

theorem eq_reals {m n : ℕ} (x : FVec Ideal ⟨2, ![m, n]⟩ .f32)
    (h : ∀ i, FloatOps.cmpf .olt (FloatOps.hostAbsf (x i)) (FloatOps.ofBits (F := Ideal) .f32 0x7F800000#32) = 1#1) :
    x = TF (reals x) := by
  funext i
  refine (real_of_abs _ (h i)).symm.trans (congrArg (fun r : ℝ => (r : EReal)) ?_)
  have hi : (i 0).val < m ∧ (i 1).val < n := ⟨(i 0).isLt, (i 1).isLt⟩
  rw [reals, dif_pos hi]
  refine congrArg (fun j => EReal.toReal (x j)) (funext fun a => ?_)
  match a with
  | ⟨0, _⟩ => rfl
  | ⟨1, _⟩ => rfl

theorem fst_real [Facts] (x : FVec Ideal S2048x6144 .f32) (y : FVec Ideal S2048x2048 .f32)
    (h : (fn (F := Ideal) x y).1 = fun _ => 1#1) : x = TF (reals x) :=
  eq_reals x fun i => congrFun h i

theorem snd_real [Facts] (x : FVec Ideal S2048x6144 .f32) (y : FVec Ideal S2048x2048 .f32)
    (h : (fn (F := Ideal) x y).2 = fun _ => 1#1) : y = TF (reals y) :=
  eq_reals y fun i => congrFun h i

end Cert.Pre_finite
-- ==== Proof.Bounds.lean ====
/- The backward step of the running sums of a softmax: with finite logits the kernel, which multiplies a share by a
   difference, leaves what the reference's quotient rule leaves. -/
module

public import proofs.«01_k».proof.Defs
public import proofs.«01_k».proof.Proof.Adam
public import proofs.«01_k».proof.Proof.Prod
public import proofs.«01_k».proof.Proof.Finite
public import Idealize.ShloMosaic.Lib.KernelVsHost
public import proofs.«01_k».proof.Proof.Gen.Bounds
public import proofs.«01_k».proof.Proof.Gen.BoundsIdeal
public import proofs.«01_k».proof.Proof.Gen.BoundsIdeal.Value
public import proofs.«01_k».proof.Proof.Gen.BoundsReferenceIdeal
public import proofs.«01_k».proof.Proof.Gen.BoundsReferenceIdeal.Run
public import proofs.«01_k».proof.Proof.Gen.BoundsReferenceIdeal.Read

@[expose] public section

set_option maxHeartbeats 400000

noncomputable section

namespace Cert.Pre_finite_logits

open Idealize.ShloMosaic

theorem facts : Facts := ⟨by decide⟩

/-- Logits of finite magnitude are real numbers. -/
theorem real [Facts] (x y : FVec Ideal S4x2048 .f32) (h : fn (F := Ideal) x y = fun _ => 1#1) (i : S4x2048.Idx) :
    ((EReal.toReal (x i) : ℝ) : EReal) = x i := Cert.Pre_finite.real_of_abs (x i) (congrFun h i)

end Cert.Pre_finite_logits

namespace Cert.BoundsIdeal.Tiles

open Cert.BoundsIdeal.Gen
open Idealize.ShloMosaic Idealize.ShloMosaic.TcCoe Idealize.ShloMosaic.StableHlo
open Cert.BoundsIdeal (S4x2048 S1x2048)
open Cert.Prod
open Finset

/-- The zero of both programs. -/
abbrev z : EReal := FloatOps.ofBits (F := Ideal) .f32 0x00000000#32

theorem one : FloatOps.ofBits (F := Ideal) .f32 0x3F800000#32 = (1 : EReal) := by
  simp [FloatOps.ofBits, Ideal.ofBits, Ideal.ieee]
  rw [← EReal.coe_mul]
  norm_num

theorem bot : FloatOps.ofBits (F := Ideal) .f32 0xFF800000#32 = (⊥ : EReal) := by
  simp [FloatOps.ofBits, Ideal.ofBits, Ideal.ieee]

/-- The exponential of logit `k` of a column, less the column's largest. -/
def shift (a : ℕ → EReal) (k : ℕ) : EReal := Ideal.exp (a k - max (max (max (a 0) (a 1)) (a 2)) (a 3))

def total (a : ℕ → EReal) : EReal := shift a 0 + shift a 1 + shift a 2 + shift a 3

def share (a : ℕ → EReal) (k : ℕ) : EReal := Ideal.div (shift a k) (total a)

/-- The gradient of share `k`: the bounds from `k` on, none for the first. -/
def tails (d : ℕ → EReal) : ℕ → EReal
  | 0 => z
  | 1 => z + d 3 + d 2 + d 1
  | 2 => z + d 3 + d 2
  | _ => z + d 3

def mean (a d : ℕ → EReal) : EReal :=
  share a 0 * tails d 0 + share a 1 * tails d 1 + share a 2 * tails d 2 + share a 3 * tails d 3

/-- What the kernel leaves in row `k`. -/
def grad (a d : ℕ → EReal) (k : ℕ) : EReal := share a k * (tails d k - mean a d)

/-- What the quotient rule leaves in row `k`. -/
def quot (a d : ℕ → EReal) (k : ℕ) : EReal :=
  (Ideal.div (tails d k) (total a)
    + (z + -(z + ∑ i : Fin 4, tails d i.val * Ideal.div (FloatOps.ofBits (F := Ideal) .f32 0x3F800000#32) (total a * total a) * shift a i.val))) * shift a k

/-! ### The two agree on real logits -/

theorem spread (q : ℝ) (hq : 0 ≤ q) (x y : EReal) : (q : EReal) * (x + y) = q * x + q * y :=
  EReal.left_distrib_of_nonneg_of_ne_top (by exact_mod_cast hq) (EReal.coe_ne_top q) x y

/-- The quotient rule over positive real exponentials, whatever the gradient. -/
theorem rule (e : ℕ → ℝ) (he : ∀ k, 0 < e k) (t : ℕ → EReal) (S : EReal) (hS : S = (e 0 : EReal) + e 1 + e 2 + e 3) (k : ℕ) :
    (Ideal.div (t k) S + -(∑ i : Fin 4, t i.val * Ideal.div 1 (S * S) * (e i.val : EReal))) * (e k : EReal)
      = Ideal.div (e k : EReal) S * (t k - (Ideal.div (e 0 : EReal) S * t 0 + Ideal.div (e 1 : EReal) S * t 1
          + Ideal.div (e 2 : EReal) S * t 2 + Ideal.div (e 3 : EReal) S * t 3)) := by
  obtain ⟨s, hs⟩ : ∃ s : ℝ, s = e 0 + e 1 + e 2 + e 3 := ⟨_, rfl⟩
  have hp : 0 < s := by have := he 0; have := he 1; have := he 2; have := he 3; linarith
  have hS' : S = (s : EReal) := by rw [hS, hs]; push_cast; rfl
  have hq : 0 ≤ 1 / s := by positivity
  have hss : Ideal.div 1 (S * S) = ((1 / s : ℝ) : EReal) * ((1 / s : ℝ) : EReal) := by
    rw [hS', ← EReal.coe_mul, Ideal.div_coe (mul_pos hp hp).ne', one_mul, ← EReal.coe_mul]
    congr 1; field_simp
  have hd : ∀ x : EReal, Ideal.div x S = x * ((1 / s : ℝ) : EReal) := fun x => by rw [hS', Ideal.div_coe hp.ne']
  rw [hss]
  simp only [hd]
  generalize 1 / s = q at hq
  have hsum : (∑ i : Fin 4, t i.val * ((q : EReal) * q) * (e i.val : EReal))
      = (q : EReal) * ((e 0 : EReal) * q * t 0 + (e 1 : EReal) * q * t 1 + (e 2 : EReal) * q * t 2 + (e 3 : EReal) * q * t 3) := by
    rw [spread q hq, spread q hq, spread q hq, Fin.sum_univ_four]
    refine congrArg₂ _ (congrArg₂ _ (congrArg₂ _ ?_ ?_) ?_) ?_
    · show t 0 * _ * (e 0 : EReal) = _; ac_rfl
    · show t 1 * _ * (e 1 : EReal) = _; ac_rfl
    · show t 2 * _ * (e 2 : EReal) = _; ac_rfl
    · show t 3 * _ * (e 3 : EReal) = _; ac_rfl
  rw [hsum]
  generalize (e 0 : EReal) * q * t 0 + (e 1 : EReal) * q * t 1 + (e 2 : EReal) * q * t 2 + (e 3 : EReal) * q * t 3 = D
  rw [← mul_neg, mul_comm (t k), ← spread q hq, ← sub_eq_add_neg]
  ac_rfl

theorem agree (a d : ℕ → EReal) (ha : ∀ k, ((EReal.toReal (a k) : ℝ) : EReal) = a k) (k : ℕ) : quot a d k = grad a d k := by
  obtain ⟨x, hx⟩ : ∃ x : ℕ → ℝ, ∀ k, a k = (x k : EReal) := ⟨fun k => (a k).toReal, fun k => (ha k).symm⟩
  have he : ∀ k, shift a k = ((Real.exp (x k - max (max (max (x 0) (x 1)) (x 2)) (x 3)) : ℝ) : EReal) := fun k => by
    unfold shift
    rw [hx, hx 0, hx 1, hx 2, hx 3, ← Cert.KernelIdeal.Sba.coe_max', ← Cert.KernelIdeal.Sba.coe_max', ← Cert.KernelIdeal.Sba.coe_max',
      ← EReal.coe_sub]
    rfl
  have hz : z = 0 := ofBits_zero
  unfold quot grad mean share
  rw [one, hz, zero_add, zero_add]
  have ht : total a = shift a 0 + shift a 1 + shift a 2 + shift a 3 := rfl
  simp only [he] at ht ⊢
  exact rule (fun k => Real.exp (x k - max (max (max (x 0) (x 1)) (x 2)) (x 3))) (fun _ => Real.exp_pos _) (tails d) _ ht k

/-! ### The kernel -/

/-- Row `k` of an array. -/
def row (f : ℕ → ℕ → EReal) (k : ℕ) : Vec Ideal S1x2048 .f32 := fun x => f k (x 1).val

theorem row_eq (f : ℕ → ℕ → EReal) (k : ℕ) (inb) :
    View.ld (Val := Elt Ideal) (e' := .f32) (E f : FVec Ideal S4x2048 .f32) (Rect.unit (s := S4x2048) ![k, 0] S1x2048.size inb) = row f k := by
  funext x
  have h : (x 0).val < 1 := (x 0).isLt
  show f (k + 1 * (x 0).val) (0 + 1 * (x 1).val) = f k (x 1).val
  rw [show k + 1 * (x 0).val = k by omega, show 0 + 1 * (x 1).val = (x 1).val by omega]

theorem pay0 (f g : ℕ → ℕ → EReal) (x : S1x2048.Idx) :
    k0_pay19 (F := Ideal) (row f 0) (row f 1) (row f 2) (row f 3) (row g 3) (row g 2) (row g 1) x
      = grad (fun k => f k (x 1).val) (fun k => g k (x 1).val) 0 := rfl

theorem pay1 (f g : ℕ → ℕ → EReal) (x : S1x2048.Idx) :
    k0_pay1 (F := Ideal) (k0_pay11 (row f 0) (row f 1) (row f 2) (row f 3))
      (k0_pay20 (row f 0) (row f 1) (row f 2) (row f 3) (row g 3) (row g 2) (row g 1)) x
      = grad (fun k => f k (x 1).val) (fun k => g k (x 1).val) 1 := rfl

theorem pay2 (f g : ℕ → ℕ → EReal) (x : S1x2048.Idx) :
    k0_pay2 (F := Ideal) (k0_pay12 (row f 0) (row f 1) (row f 2) (row f 3)) (k0_pay16 (row g 3) (row g 2))
      (k0_pay18 (row f 0) (row f 1) (row f 2) (row f 3) (row g 3) (row g 2) (row g 1)) x
      = grad (fun k => f k (x 1).val) (fun k => g k (x 1).val) 2 := rfl

theorem pay3 (f g : ℕ → ℕ → EReal) (x : S1x2048.Idx) :
    k0_pay3 (F := Ideal) (k0_pay13 (row f 0) (row f 1) (row f 2) (row f 3)) (k0_pay15 (row g 3))
      (k0_pay18 (row f 0) (row f 1) (row f 2) (row f 3) (row g 3) (row g 2) (row g 1)) x
      = grad (fun k => f k (x 1).val) (fun k => g k (x 1).val) 3 := rfl

/-- A row stored where it belongs. -/
theorem stored (F : ℕ → ℕ → EReal) (k : ℕ) (y : S4x2048.Idx) (w : S1x2048.Idx → EReal) (hw : ∀ x, w x = F k (x 1).val) :
    View.TileAt (Val := Elt Ideal) (S := S4x2048) (e := .f32) y ![k, 0] S1x2048.size w ((E F : FVec Ideal S4x2048 .f32) y) := fun x hx => by
  have h : (x 0).val < 1 := (x 0).isLt
  have h0 : (y 0).val = k + (x 0).val := hx 0
  have h1 : (y 1).val = 0 + (x 1).val := hx 1
  refine (hw x).trans ?_
  show F k (x 1).val = F (y 0).val (y 1).val
  rw [h0, h1, show k + (x 0).val = k by omega, Nat.zero_add]

theorem kernel (f g : ℕ → ℕ → EReal) :
    Cert.BoundsIdeal.Value.G2 (F := Ideal) (E f : FVec Ideal S4x2048 .f32) (E g : FVec Ideal S4x2048 .f32)
      = (E (fun r c => grad (fun k => f k c) (fun k => g k c) r) : FVec Ideal S4x2048 .f32) := by
  funext y
  refine View.canon_eq_of_allAt _ y _ (cover0_2 _ _ _ _ y) ?_
  refine View.allAt_cons_unit _ _ _ _ _ (stored _ 3 y _ fun x => ?_)
    (View.allAt_cons_unit _ _ _ _ _ (stored _ 2 y _ fun x => ?_)
      (View.allAt_cons_unit _ _ _ _ _ (stored _ 1 y _ fun x => ?_)
        (View.allAt_cons_unit _ _ _ _ _ (stored _ 0 y _ fun x => ?_) (View.allAt_nil _ _))))
  · unfold k0_pay21; simp only [row_eq]; exact pay3 f g x
  · unfold k0_pay21; simp only [row_eq]; exact pay2 f g x
  · simp only [row_eq]; exact pay1 f g x
  · simp only [row_eq]; exact pay0 f g x

/-! ### The reference -/

open Cert.BoundsReferenceIdeal.Read

theorem fold4 (h : Fin 4 → EReal) : max ⊥ (Finset.univ.fold max ⊥ h) = max (max (max (h 0) (h 1)) (h 2)) (h 3) := by
  rw [show (Finset.univ : Finset (Fin 4)) = {0, 1, 2, 3} from rfl]
  simp [Finset.fold_insert, max_assoc]

theorem ref_top (f : ℕ → ℕ → EReal) (j : Cert.BoundsReferenceIdeal.S2048.Idx) :
    val_main_v7 (F := Ideal) (E f : FVec Ideal S4x2048 .f32) j
      = max (max (max (f 0 (j 0).val) (f 1 (j 0).val)) (f 2 (j 0).val)) (f 3 (j 0).val) := by
  rw [val_main_v7_apply, val_main_v6_apply, val_main_cst_1_apply]
  unfold val_main_v0
  simp only [pointwise]
  rw [val_main_cst_apply, bot]
  exact fold4 (fun k => f k.val (j 0).val)

theorem ref_shift (f : ℕ → ℕ → EReal) (i : S4x2048.Idx) :
    val_main_v20 (F := Ideal) (E f : FVec Ideal S4x2048 .f32) i = shift (fun k => f k (i 1).val) (i 0).val := by
  rw [val_main_v20_apply, val_main_v19_apply, val_main_v18_apply, val_main_v17_apply, ref_top]
  rfl

theorem ref_total (f : ℕ → ℕ → EReal) (i : S1x2048.Idx) :
    val_main_v22 (F := Ideal) (E f : FVec Ideal S4x2048 .f32) i = total (fun k => f k (i 1).val) := by
  rw [val_main_v22_apply, val_main_v21_apply, val_main_cst_7_apply, Fin.sum_univ_four, ref_shift, ref_shift, ref_shift, ref_shift]
  exact (congrArg (· + _) ofBits_zero).trans (zero_add _)

/-- The reference's running sums from the end, as a sum over three places. -/
theorem ref_window (g : ℕ → ℕ → EReal) (j : Cert.BoundsReferenceIdeal.S3x2048.Idx) :
    val_main_v36 (F := Ideal) (E g : FVec Ideal S4x2048 .f32) j
      = ∑ w : Fin 3, if (j 0).val + w.val < 3 then g (1 + ((j 0).val + w.val)) (j 1).val else 0 := by
  have h1 : (j 1).val < 2048 := (j 1).isLt
  unfold val_main_v36 Host.reduceWindowAdd
  rw [val_main_call1_v0_apply, val_main_call1_cst_apply, ofBits_zero, Ideal.hostReduceWindowAdd_def]
  refine (Cert.ReferenceIdeal.Sba.window_sum _ _ _ _ _ _ j).trans ((sum_idx2 _).trans (sum_congr rfl fun w _ => ?_))
  rw [Fin.sum_univ_one]
  split_ifs with hin hw hw
  · rw [val_main_v35_apply]
    show g (1 + ((j 0).val * 1 + w.val - 0)) ((j 1).val * 1 + 0 - 0) = _
    simp only [mul_one, add_zero, Nat.sub_zero]
  · refine absurd (hin 0).2 ?_
    show ¬ ((j 0).val * 1 + w.val - 0 < 3)
    omega
  · refine absurd (fun a => ?_) hin
    match a with
    | ⟨0, _⟩ => exact ⟨Nat.zero_le _, show (j 0).val * 1 + w.val - 0 < 3 by omega⟩
    | ⟨1, _⟩ => exact ⟨Nat.zero_le _, show (j 1).val * 1 + 0 - 0 < 2048 by omega⟩
  · rfl

/-- The window that starts at row `n - 1` of the last three bounds holds the bounds from `n` on. -/
theorem tail_sum (d : ℕ → EReal) (n : ℕ) (hz : ¬n = 0) (h4 : n < 4) :
    (if n - 1 + 0 < 3 then d (1 + (n - 1 + 0)) else 0) + (if n - 1 + 1 < 3 then d (1 + (n - 1 + 1)) else 0)
      + (if n - 1 + 2 < 3 then d (1 + (n - 1 + 2)) else 0) = tails d n := by
  have e : z = 0 := ofBits_zero
  obtain rfl | rfl | rfl : n = 1 ∨ n = 2 ∨ n = 3 := by omega
  · show d 1 + d 2 + d 3 = z + d 3 + d 2 + d 1
    rw [e]; abel
  · show d 2 + d 3 + 0 = z + d 3 + d 2
    rw [e]; abel
  · show d 3 + 0 + 0 = z + d 3
    rw [e]; abel

theorem ref_tails (g : ℕ → ℕ → EReal) (i : S4x2048.Idx) :
    val_main_v37 (F := Ideal) (E g : FVec Ideal S4x2048 .f32) i = tails (fun k => g k (i 1).val) (i 0).val := by
  have h0 : (i 0).val < 4 := (i 0).isLt
  unfold val_main_v37
  by_cases hz : (i 0).val = 0
  · refine (pad_apply_of_not_inside _ _ _ _ _ _ _ i 0 ?_).trans ?_
    · intro h
      have : 1 ≤ (i 0).val := h.1
      omega
    · rw [hz]; rfl
  · refine (pad_apply_of_inside _ _ _ _ _ _ _ i (fun a : Fin Cert.BoundsReferenceIdeal.S3x2048.rank => match a with
      | ⟨0, _⟩ => (⟨(i 0).val - 1, show (i 0).val - 1 < 3 by omega⟩ : Fin 3)
      | ⟨1, _⟩ => (⟨(i 1).val, (i 1).isLt⟩ : Fin 2048)) (fun a => ?_)).trans ?_
    · match a with
      | ⟨0, _⟩ => show (i 0).val = 1 + ((i 0).val - 1) * (0 + 1); omega
      | ⟨1, _⟩ => show (i 1).val = 0 + (i 1).val * (0 + 1); omega
    · rw [ref_window, Fin.sum_univ_three]
      exact tail_sum (fun k => g k (i 1).val) (i 0).val hz h0

theorem ref_part (f g : ℕ → ℕ → EReal) (i : S4x2048.Idx) :
    val_main_v40 (F := Ideal) (E f : FVec Ideal S4x2048 .f32) (E g : FVec Ideal S4x2048 .f32) i
      = tails (fun k => g k (i 1).val) (i 0).val
        * Ideal.div (FloatOps.ofBits (F := Ideal) .f32 0x3F800000#32) (total (fun k => f k (i 1).val) * total (fun k => f k (i 1).val))
        * shift (fun k => f k (i 1).val) (i 0).val := by
  rw [val_main_v40_apply, val_main_v39_apply, val_main_v38_apply, val_main_v27_apply, val_main_v26_apply, val_main_cst_8_apply,
    val_main_v25_apply, ref_total, ref_shift, ref_tails]
  rfl

theorem reference (f g : ℕ → ℕ → EReal) :
    val_main_v49 (F := Ideal) (E f : FVec Ideal S4x2048 .f32) (E g : FVec Ideal S4x2048 .f32)
      = (E (fun r c => quot (fun k => f k c) (fun k => g k c) r) : FVec Ideal S4x2048 .f32) := by
  funext i
  rw [val_main_v49_apply, val_main_v48_apply, val_main_v45_apply, val_main_v44_apply, val_main_v47_apply, val_main_v46_apply,
    Fin.sum_univ_one, val_main_v43_apply, val_main_v42_apply, val_main_v41_apply, val_main_cst_12_apply, val_main_cst_13_apply, ref_total,
    ref_shift, ref_tails, sum_congr rfl fun k _ => ref_part f g _]
  have e : 0 * 2048 + (i 1).val = (i 1).val := by omega
  show (_ + (z + -(z + ∑ k : Fin 4, tails (fun n => g n (0 * 2048 + (i 1).val)) k.val
      * Ideal.div (FloatOps.ofBits (F := Ideal) .f32 0x3F800000#32)
        (total (fun n => f n (0 * 2048 + (i 1).val)) * total (fun n => f n (0 * 2048 + (i 1).val)))
      * shift (fun n => f n (0 * 2048 + (i 1).val)) k.val))) * _ = _
  rw [e]
  rfl

/-- Both leave the same array, when the logits are real. -/
theorem same (x y : FVec Ideal S4x2048 .f32) (hx : ∀ i, ((EReal.toReal (x i) : ℝ) : EReal) = x i) :
    val_main_v49 (F := Ideal) x y = Cert.BoundsIdeal.Value.G2 x y := by
  have hr : ∀ r c, ((EReal.toReal (entries x r c) : ℝ) : EReal) = entries x r c := fun r c => by
    unfold entries
    split_ifs
    · exact hx _
    · simp
  rw [eq_E x, eq_E y, kernel, reference]
  exact E_congr fun r _ c _ => agree _ _ (fun k => hr k c) r

/-! ### The claims -/

theorem values : Cert.algebraic_BoundsIdeal_BoundsReferenceIdeal_pre_finite_logits (hPre_finite_logits := Cert.Pre_finite_logits.facts) :=
    fun m ρ m' ρ' hp ha => by
  have : Cert.Pre_finite_logits.Facts := Cert.Pre_finite_logits.facts
  refine ⟨_, Cert.BoundsIdeal.Value.run m ρ, ?_⟩
  refine (θ_run Cert.BoundsReferenceIdeal.defs _ _).mono (fun _ h c => ?_) (Cert.BoundsReferenceIdeal.Value.run (F := Ideal) m' ρ')
  obtain ⟨ha0, ha1⟩ := ha c
  obtain ⟨h0, h⟩ := h c
  refine ⟨(h0.trans (val_main_v49_eq _ _)).trans ?_, h⟩
  rw [ha0, ha1]
  exact same _ _ (Cert.Pre_finite_logits.real _ _ (hp c))

theorem frame_ideal : Cert.quiescent_BoundsIdeal := fun m ρ _ => Cert.BoundsIdeal.Gen.frame m ρ

theorem frame_reference : Cert.quiescent_BoundsReferenceIdeal := fun m ρ _ =>
  (θ_run Cert.BoundsReferenceIdeal.defs _ _).mono (fun r h => ⟨fun c => (h c).2, sem_eq_zero_of_no_sems (by decide) r.2⟩)
    (Cert.BoundsReferenceIdeal.Value.run (F := Ideal) m ρ)

theorem frame_ideal_finite : Cert.quiescent_BoundsIdeal_pre_finite_logits (hPre_finite_logits := Cert.Pre_finite_logits.facts) :=
  fun m ρ _ => Cert.BoundsIdeal.Gen.frame m ρ

theorem frame_reference_finite :
    Cert.quiescent_BoundsReferenceIdeal_pre_finite_logits (hPre_finite_logits := Cert.Pre_finite_logits.facts) :=
  fun m ρ _ => frame_reference m ρ trivial

theorem body_same {F : FTy → Type} [FloatOps F] : Cert.BoundsIdeal.cc0_lb_bwd (F := F) = Cert.Bounds.cc0_lb_bwd (F := F) := rfl

theorem bodies_same {F : FTy → Type} [FloatOps F] : Cert.BoundsIdeal.defs₀ (F := F) = Cert.Bounds.defs₀ (F := F) := by
  refine congrArg (Defs.onTc (nD := Cert.Bounds.nD) (τ := Cert.Bounds.τ)) (funext fun l => funext fun a => ?_)
  match l, a with
  | 0, (t, s) => dsimp only; rw [body_same]

theorem defs_same {F : FTy → Type} [FloatOps F] : Cert.BoundsIdeal.defs (F := F) = Cert.Bounds.defs (F := F) :=
  congrArg (Pipeline.defs (Cert.Bounds.pcfgs (F := F))) bodies_same

theorem frame_kernel : Cert.quiescent_Bounds := fun m ρ _ => by
  rw [← defs_same]
  exact Cert.BoundsIdeal.Gen.frame (F := Bits) m ρ

end Cert.BoundsIdeal.Tiles

end
-- ==== Proof.Same.lean ====
/- The kernel as printed and the kernel printed for reading at exact values are one program: their body
   tables agree label by label. So what is proved of the second at any float values is proved of the first. -/
module

public import proofs.«01_k».proof.Proof.Gen.Kernel
public import proofs.«01_k».proof.Proof.Gen.KernelIdeal

@[expose] public section

set_option maxRecDepth 100000
set_option maxHeartbeats 1000000

noncomputable section

namespace Cert.Proof

open Idealize.ShloMosaic Idealize.ShloMosaic.TcCoe Idealize.SL.Sem

variable {F : FTy → Type} [FloatOps F]

theorem fwd_same : Cert.KernelIdeal.cc0_sba_fwd (F := F) = Cert.Kernel.cc0_sba_fwd (F := F) := rfl

theorem bwd_same : Cert.KernelIdeal.cc1_sba_bwd (F := F) = Cert.Kernel.cc1_sba_bwd (F := F) := rfl

theorem bodies_same : Cert.KernelIdeal.defs₀ (F := F) = Cert.Kernel.defs₀ (F := F) := by
  refine congrArg (Defs.onTc (nD := Cert.Kernel.nD) (τ := Cert.Kernel.τ)) (funext fun l => funext fun a => ?_)
  match l, a with
  | 0, (t, s) => dsimp only; rw [fwd_same]; rfl
  | 1, (t, s) => dsimp only; rw [bwd_same]; rfl

theorem defs_same : Cert.KernelIdeal.defs (F := F) = Cert.Kernel.defs (F := F) :=
  congrArg (Pipeline.defs (Cert.Kernel.pcfgs (F := F))) bodies_same

end Cert.Proof

end
-- ==== Proof.RefVal.lean ====
/- The reference's value at real arguments, one operation after another: the gradients of the attention of
   every head. -/
module

public import proofs.«01_k».proof.Proof.RefOps
public import Idealize.ShloMosaic.Lib.KernelVsHost

@[expose] public section

set_option maxRecDepth 16384
set_option maxHeartbeats 400000

noncomputable section

namespace Cert.ReferenceIdeal.Sba

open Cert.ReferenceIdeal Cert.ReferenceIdeal.Gen Cert.ReferenceIdeal.Read Cert.Sba
open Cert.KernelIdeal.Sba (ofBits_zero coe_max' coe_sum coe_sum_fin coe_sum_fin' colsOf scl ofBits_scl TF T gOut attnG HK HV upto)
open Idealize.ShloMosaic Finset

variable (X Y : ℕ → ℕ → ℝ)

/-- One head's scaled queries, keys, values and output gradients. -/
def qr (h : ℕ) : ℕ → ℕ → ℝ := fun t d => colsOf X 0 h t d * scl
abbrev kr (h : ℕ) : ℕ → ℕ → ℝ := colsOf X 1 h
abbrev vr (h : ℕ) : ℕ → ℕ → ℝ := colsOf X 2 h
abbrev gr (h : ℕ) : ℕ → ℕ → ℝ := colsOf Y 0 h

/-- The arguments. -/
abbrev x0 : (⟨S2048x6144, .f32⟩ : BufTy).Contents (Elt Ideal) := (TF X : FVec Ideal S2048x6144 .f32)
abbrev x1 : (⟨S2048x2048, .f32⟩ : BufTy).Contents (Elt Ideal) := (TF Y : FVec Ideal S2048x2048 .f32)

theorem r0 (i : S2048x3x16x128.Idx) : val_main_v0 (x0 X) i = ((colsOf X (i 1).val (i 2).val (i 0).val (i 3).val : ℝ) : EReal) := by
  have h0 : (i 0).val < 2048 := (i 0).isLt
  have h1 : (i 1).val < 3 := (i 1).isLt
  have h2 : (i 2).val < 16 := (i 2).isLt
  have h3 : (i 3).val < 128 := (i 3).isLt
  rw [val_main_v0_apply]
  show ((X (((((i 0).val * 3 + (i 1).val) * 16 + (i 2).val) * 128 + (i 3).val) / 6144)
    (((((i 0).val * 3 + (i 1).val) * 16 + (i 2).val) * 128 + (i 3).val) % 6144) : ℝ) : EReal) = ((X (i 0).val ((i 1).val * 2048 + (i 2).val * 128 + (i 3).val) : ℝ) : EReal)
  rw [show ((((i 0).val * 3 + (i 1).val) * 16 + (i 2).val) * 128 + (i 3).val) / 6144 = (i 0).val by omega,
    show ((((i 0).val * 3 + (i 1).val) * 16 + (i 2).val) * 128 + (i 3).val) % 6144 = (i 1).val * 2048 + (i 2).val * 128 + (i 3).val by omega]

theorem cmul (a b : ℝ) : (FloatOps.mulf ((a : EReal) : Ideal .f32) ((b : EReal) : Ideal .f32) : Ideal .f32) = ((a * b : ℝ) : EReal) :=
  (EReal.coe_mul _ _).symm
theorem cadd (a b : ℝ) : (FloatOps.addf ((a : EReal) : Ideal .f32) ((b : EReal) : Ideal .f32) : Ideal .f32) = ((a + b : ℝ) : EReal) :=
  (EReal.coe_add _ _).symm
theorem csub (a b : ℝ) : (FloatOps.subf ((a : EReal) : Ideal .f32) ((b : EReal) : Ideal .f32) : Ideal .f32) = ((a - b : ℝ) : EReal) :=
  (EReal.coe_sub _ _).symm
theorem cneg (a : ℝ) : (FloatOps.hostNegf ((a : EReal) : Ideal .f32) : Ideal .f32) = ((-a : ℝ) : EReal) :=
  (EReal.coe_neg _).symm
theorem cexp (a : ℝ) : (FloatOps.hostUnary .exp ((a : EReal) : Ideal .f32) : Ideal .f32) = ((Real.exp a : ℝ) : EReal) := rfl

/-- The row, the head and the column of an element of a part. -/
theorem cols_idx {p a b c : ℕ} (hb : b < 16) (hc : c < 128) :
    colsOf X p (((a * 16 + b) * 128 + c) / 128 % 16) (((a * 16 + b) * 128 + c) / 2048) (((a * 16 + b) * 128 + c) % 128) = colsOf X p b a c := by
  rw [show ((a * 16 + b) * 128 + c) / 2048 = a by omega, show ((a * 16 + b) * 128 + c) / 128 % 16 = b by omega,
    show ((a * 16 + b) * 128 + c) % 128 = c by omega]

theorem r2 (i : S2048x16x128.Idx) : val_main_v2 (x0 X) i = ((colsOf X 0 (i 1).val (i 0).val (i 2).val : ℝ) : EReal) := by
  rw [val_main_v2_apply, val_main_v1_apply, r0]
  exact congrArg (fun z : ℝ => (z : EReal)) (cols_idx X (p := 0) (i 1).isLt (i 2).isLt)

theorem r6 (i : S2048x16x128.Idx) : val_main_v6 (x0 X) i = ((kr X (i 1).val (i 0).val (i 2).val : ℝ) : EReal) := by
  rw [val_main_v6_apply, val_main_v5_apply, r0]
  exact congrArg (fun z : ℝ => (z : EReal)) (cols_idx X (p := 1) (i 1).isLt (i 2).isLt)

theorem r8 (i : S2048x16x128.Idx) : val_main_v8 (x0 X) i = ((vr X (i 1).val (i 0).val (i 2).val : ℝ) : EReal) := by
  rw [val_main_v8_apply, val_main_v7_apply, r0]
  exact congrArg (fun z : ℝ => (z : EReal)) (cols_idx X (p := 2) (i 1).isLt (i 2).isLt)

theorem r29 (i : S16x128x2048.Idx) : val_main_v29 (x1 Y) i = ((gr Y (i 0).val (i 2).val (i 1).val : ℝ) : EReal) := by
  have h0 : (i 0).val < 16 := (i 0).isLt
  have h1 : (i 1).val < 128 := (i 1).isLt
  rw [val_main_v29_apply, val_main_v28_apply]
  show ((Y ((((i 2).val * 16 + (i 0).val) * 128 + (i 1).val) / 2048) ((((i 2).val * 16 + (i 0).val) * 128 + (i 1).val) % 2048) : ℝ) : EReal)
    = ((Y (i 2).val (0 * 2048 + (i 0).val * 128 + (i 1).val) : ℝ) : EReal)
  rw [show (((i 2).val * 16 + (i 0).val) * 128 + (i 1).val) / 2048 = (i 2).val by omega,
    show (((i 2).val * 16 + (i 0).val) * 128 + (i 1).val) % 2048 = 0 * 2048 + (i 0).val * 128 + (i 1).val by omega]

theorem r4 (i : S2048x16x128.Idx) : val_main_v4 (x0 X) i = ((qr X (i 1).val (i 0).val (i 2).val : ℝ) : EReal) := by
  rw [val_main_v4_apply, r2, val_main_v3_apply, val_main_cst_apply]
  exact (congrArg (fun z : EReal => _ * z) ofBits_scl).trans (EReal.coe_mul _ _).symm

theorem r9 (i : S16x2048x2048.Idx) : val_main_v9 (x0 X) i = ((zz (qr X (i 0).val) (kr X (i 0).val) (i 1).val (i 2).val : ℝ) : EReal) := by
  rw [val_main_v9_apply]
  refine (Finset.sum_congr rfl fun d _ => congrArg₂ (fun a b : EReal => a * b) (r4 X _) (r6 X _)).trans ?_
  exact coe_sum_fin' 128 (fun d => qr X (i 0).val (i 1).val d) (fun d => kr X (i 0).val (i 2).val d)

theorem r17_0 (i : S16x2048x2048.Idx) : val_main_v17_0 (x0 X) i = ((sp (zz (qr X (i 0).val) (kr X (i 0).val) (i 1).val (i 2).val) : ℝ) : EReal) := by
  rw [val_main_v17_0_apply, val_main_call0_v4_apply, une_self, val_main_call0_v11_apply, val_main_call0_v1_apply,
    val_main_call0_v10_apply, val_main_call0_v9_apply, val_main_call0_v8_apply, val_main_call0_v7_apply, val_main_call0_v3_apply, r9]
  exact soft _

theorem r17_1 (i : S16x2048x2048.Idx) : val_main_v17_1 (x0 X) i = ((sg (zz (qr X (i 0).val) (kr X (i 0).val) (i 1).val (i 2).val) : ℝ) : EReal) := by
  rw [val_main_v17_1_apply, val_main_call0_v21_apply, val_main_call0_v16_apply, val_main_call0_v14_apply, val_main_call0_v20_apply,
    val_main_call0_v18_apply, r17_0, r9]
  refine (congrArg₂ (fun a b => FloatOps.hostUnary .exp (FloatOps.subf a b)) (oeq_top _ _ _) (oeq_top _ _ _)).trans ?_
  exact soft' _ _

/-- The mask of the earlier keys. -/
theorem mask1 (i : S16x2048x2048.Idx) (x y : EReal) :
    Scalar.select (val_main_v18_1 (F := Ideal) i) x y = if (i 2).val < (i 1).val then x else y := by
  rw [val_main_v18_1_apply, val_main_v16_apply, val_main_v14_apply, val_main_v15_apply, val_main_v11_apply, val_main_v13_apply,
    val_main_v10_apply, val_main_v12_apply]
  exact slt_iff (i 2).isLt (i 1).isLt x y

theorem mask2 (i : S16x2048x2048.Idx) (x y : EReal) :
    Scalar.select (val_main_v24_1 (F := Ideal) i) x y = if (i 2).val < (i 1).val then x else y := mask1 i x y

theorem ite_coe (p : Prop) [Decidable p] (a b : ℝ) : (if p then (a : EReal) else (b : EReal)) = ((if p then a else b : ℝ) : EReal) := by
  split_ifs <;> rfl

theorem r18_0 (i : S16x2048x2048.Idx) : val_main_v18_0 (x0 X) i = ((Sm (qr X (i 0).val) (kr X (i 0).val) (i 1).val (i 2).val : ℝ) : EReal) := by
  rw [val_main_v18_0_apply, r17_0, val_main_call1_v2_apply, mask1]
  exact (congrArg (fun z : EReal => ite _ _ z) zeroE_eq).trans (ite_coe _ _ _)

theorem r19 (i : S16x2048x2048.Idx) :
    val_main_v19 (x0 X) i = ((∑ y ∈ Ico (i 2).val 2048, Sm (qr X (i 0).val) (kr X (i 0).val) (i 1).val y : ℝ) : EReal) := by
  have hi : ∀ j, val_main_call2_v0 (F := Ideal) j = ((0 : ℝ) : EReal) := fun j => by
    rw [val_main_call2_v0_apply, val_main_call2_cst_apply]; exact zeroE_eq
  unfold val_main_v19
  exact window_tail _ _ _ _ (hi _) (fun h t s => Sm (qr X h) (kr X h) t s) (r18_0 X) i

theorem r20 (i : S16x2048x2048.Idx) : val_main_v20 (x0 X) i = ((RR (qr X (i 0).val) (kr X (i 0).val) (i 1).val (i 2).val : ℝ) : EReal) := by
  have h2 : (i 2).val < 2048 := (i 2).isLt
  rw [val_main_v20_apply, r18_0, r19, csub, sum_eq_sum_Ico_succ_bot h2, add_sub_cancel_left]
  rfl

theorem r21_0 (i : S16x2048x2048.Idx) : val_main_call3_v1_0 (x0 X) i = ((sp (- zz (qr X (i 0).val) (kr X (i 0).val) (i 1).val (i 2).val) : ℝ) : EReal) := by
  rw [val_main_call3_v1_0_apply, val_main_call3_call0_v4_apply, une_self, val_main_call3_call0_v11_apply, val_main_call3_call0_v1_apply,
    val_main_call3_call0_v10_apply, val_main_call3_call0_v9_apply, val_main_call3_call0_v8_apply, val_main_call3_call0_v7_apply,
    val_main_call3_call0_v3_apply, val_main_call3_v0_apply, r9, cneg]
  exact soft _

theorem r21_1 (i : S16x2048x2048.Idx) : val_main_v21_1 (x0 X) i = ((sg (- zz (qr X (i 0).val) (kr X (i 0).val) (i 1).val (i 2).val) : ℝ) : EReal) := by
  rw [val_main_v21_1_apply, val_main_call3_call0_v21_apply, val_main_call3_call0_v16_apply, val_main_call3_call0_v14_apply,
    val_main_call3_call0_v20_apply, val_main_call3_call0_v18_apply, r21_0, val_main_call3_v0_apply, r9, cneg]
  refine (congrArg₂ (fun a b => FloatOps.hostUnary .exp (FloatOps.subf a b)) (oeq_top _ _ _) (oeq_top _ _ _)).trans ?_
  exact soft' _ _

/-- The weight before the mask. -/
def WW (q k : ℕ → ℕ → ℝ) (t s : ℕ) : ℝ := sg (zz q k t s) * Real.exp (0 - RR q k t s)

theorem r23 (i : S16x2048x2048.Idx) : val_main_v23 (x0 X) i = ((WW (qr X (i 0).val) (kr X (i 0).val) (i 1).val (i 2).val : ℝ) : EReal) := by
  rw [val_main_v23_apply, val_main_v22_apply, val_main_v21_0_apply, r21_0, r20, cneg, csub, cexp, WW, sg, ← Real.exp_add, sp_neg]
  refine congrArg (fun z : ℝ => ((Real.exp z : ℝ) : EReal)) ?_
  ring

theorem r24 (i : S16x2048x2048.Idx) : val_main_v24_0 (x0 X) i = ((AA (qr X (i 0).val) (kr X (i 0).val) (i 1).val (i 2).val : ℝ) : EReal) := by
  rw [val_main_v24_0_apply, r23, val_main_call4_v2_apply, mask2]
  exact (congrArg (fun z : EReal => ite _ _ z) zeroE_eq).trans (ite_coe _ _ _)

theorem r30 (i : S16x2048x2048.Idx) : val_main_v30 (x0 X) (x1 Y) i = ((zz (gr Y (i 0).val) (vr X (i 0).val) (i 1).val (i 2).val : ℝ) : EReal) := by
  rw [val_main_v30_apply]
  refine (Finset.sum_congr rfl fun d _ => congrArg₂ (fun a b : EReal => a * b) (r29 Y _) (r8 X _)).trans ?_
  exact coe_sum_fin' 128 (fun d => gr Y (i 0).val (i 1).val d) (fun d => vr X (i 0).val (i 2).val d)

theorem r34 (i : S16x2048x2048.Idx) :
    val_main_v34 (x0 X) (x1 Y) i = ((EE (qr X (i 0).val) (kr X (i 0).val) (vr X (i 0).val) (gr Y (i 0).val) (i 1).val (i 2).val : ℝ) : EReal) := by
  rw [val_main_v34_apply, val_main_v33_apply, r30, r23, val_main_call5_v0_apply, mask2]
  refine (congrArg (fun z : Ideal .f32 => FloatOps.mulf z _) ((congrArg (fun z : EReal => ite _ _ z) zeroE_eq).trans (ite_coe _ _ _))).trans ?_
  rw [cmul]
  refine congrArg (fun z : ℝ => (z : EReal)) ?_
  rw [EE, AA, ← WW]
  split_ifs
  · exact mul_comm _ _
  · rw [zero_mul, zero_mul]

theorem r35 (i : S16x2048x2048.Idx) :
    val_main_v35 (x0 X) (x1 Y) i = ((-EE (qr X (i 0).val) (kr X (i 0).val) (vr X (i 0).val) (gr Y (i 0).val) (i 1).val (i 2).val : ℝ) : EReal) := by
  rw [val_main_v35_apply, r34, cneg]

theorem r38 (i : S16x2048x2048.Idx) :
    val_main_v38 (x0 X) (x1 Y) i
      = ((∑ x ∈ range ((i 2).val + 1), -EE (qr X (i 0).val) (kr X (i 0).val) (vr X (i 0).val) (gr Y (i 0).val) (i 1).val x : ℝ) : EReal) := by
  have hi : ∀ j, val_main_call7_v0 (F := Ideal) j = ((0 : ℝ) : EReal) := fun j => by
    rw [val_main_call7_v0_apply, val_main_call7_cst_apply]; exact zeroE_eq
  unfold val_main_v38
  exact window_head _ _ _ _ (hi _) (fun h t s => -EE (qr X h) (kr X h) (vr X h) (gr Y h) t s) (r35 X Y) i

theorem r39 (i : S16x2048x2048.Idx) :
    val_main_v39 (x0 X) (x1 Y) i
      = ((-∑ x ∈ range (i 2).val, EE (qr X (i 0).val) (kr X (i 0).val) (vr X (i 0).val) (gr Y (i 0).val) (i 1).val x : ℝ) : EReal) := by
  rw [val_main_v39_apply, val_main_v37_apply, r35, cneg, r38, cadd, sum_range_succ, sum_neg_distrib]
  refine congrArg (fun z : ℝ => (z : EReal)) ?_
  ring

theorem r42 (i : S16x2048x2048.Idx) :
    val_main_v42 (x0 X) (x1 Y) i = ((DZ (qr X (i 0).val) (kr X (i 0).val) (vr X (i 0).val) (gr Y (i 0).val) (i 1).val (i 2).val : ℝ) : EReal) := by
  rw [val_main_v42_apply, val_main_v36_apply, val_main_call6_v1_apply, val_main_call6_v0_apply, r34, r21_1, cneg, cmul, cneg,
    val_main_v41_apply, val_main_v40_apply, r39, val_main_call8_v0_apply, r17_1, mask1]
  refine (congrArg (fun z : Ideal .f32 => FloatOps.addf _ (FloatOps.mulf z _)) ((congrArg (fun z : EReal => ite _ _ z) zeroE_eq).trans (ite_coe _ _ _))).trans ?_
  rw [cmul, cadd, DZ_eq _ _ _ _ _ _ (i 2).isLt]
  refine congrArg (fun z : ℝ => (z : EReal)) ?_
  split_ifs with h
  · ring
  · rw [EE, AA, if_neg h]; ring

/-- The three gradients of every head. -/
theorem r32 (i : S2048x16x128.Idx) :
    val_main_v32 (x0 X) (x1 Y) i = ((DV (qr X (i 1).val) (kr X (i 1).val) (gr Y (i 1).val) (i 0).val (i 2).val : ℝ) : EReal) := by
  rw [val_main_v32_apply, val_main_v31_apply]
  refine (Finset.sum_congr rfl fun d _ => congrArg₂ (fun a b : EReal => a * b) (r29 Y _) (r24 X _)).trans ?_
  refine (coe_sum_fin' 2048 (fun t => gr Y (i 1).val t (i 2).val) (fun t => AA (qr X (i 1).val) (kr X (i 1).val) t (i 0).val)).trans ?_
  exact congrArg (fun z : ℝ => (z : EReal)) (sum_congr rfl fun t _ => mul_comm _ _)

theorem r44 (i : S2048x16x128.Idx) :
    val_main_v44 (x0 X) (x1 Y) i
      = ((DK (qr X (i 1).val) (kr X (i 1).val) (vr X (i 1).val) (gr Y (i 1).val) (i 0).val (i 2).val : ℝ) : EReal) := by
  rw [val_main_v44_apply, val_main_v43_apply]
  refine (Finset.sum_congr rfl fun d _ => congrArg₂ (fun a b : EReal => a * b) (r42 X Y _) (r4 X _)).trans ?_
  exact coe_sum_fin' 2048 (fun t => DZ (qr X (i 1).val) (kr X (i 1).val) (vr X (i 1).val) (gr Y (i 1).val) t (i 0).val)
    (fun t => qr X (i 1).val t (i 2).val)

theorem r53 (i : S2048x16x128.Idx) :
    val_main_v53 (x0 X) (x1 Y) i
      = ((DQ (qr X (i 1).val) (kr X (i 1).val) (vr X (i 1).val) (gr Y (i 1).val) (i 0).val (i 2).val * scl : ℝ) : EReal) := by
  have h : val_main_v46 (x0 X) (x1 Y) i
      = ((DQ (qr X (i 1).val) (kr X (i 1).val) (vr X (i 1).val) (gr Y (i 1).val) (i 0).val (i 2).val : ℝ) : EReal) := by
    rw [val_main_v46_apply, val_main_v45_apply]
    refine (Finset.sum_congr rfl fun d _ => congrArg₂ (fun a b : EReal => a * b) (r42 X Y _) (r6 X _)).trans ?_
    exact coe_sum_fin' 2048 (fun s => DZ (qr X (i 1).val) (kr X (i 1).val) (vr X (i 1).val) (gr Y (i 1).val) (i 0).val s)
      (fun s => kr X (i 1).val s (i 2).val)
  rw [val_main_v53_apply, h, val_main_v52_apply, val_main_cst_4_apply]
  exact (congrArg (fun z : EReal => _ * z) ofBits_scl).trans (EReal.coe_mul _ _).symm

/-- A part of the joint gradient, set among the three. -/
theorem pad_part (p : ℕ) (hi : Fin 4 → ℕ) (x : FVec Ideal S2048x1x16x128 .f32) (v : FVec Ideal S_ .f32) (h) (hu)
    (hv : v (Shape.Idx.first hu) = ((0 : ℝ) : EReal)) (f : ℕ → ℕ → ℕ → ℝ)
    (hx : ∀ i, x i = ((f (i 0).val (i 2).val (i 3).val : ℝ) : EReal)) (j : S2048x3x16x128.Idx) :
    pad (s := S2048x1x16x128) S2048x3x16x128 ![0, p, 0, 0] hi ![0, 0, 0, 0] x v h hu j
      = ((if (j 1).val = p then f (j 0).val (j 2).val (j 3).val else 0 : ℝ) : EReal) := by
  split_ifs with hp
  · refine (pad_apply_of_inside _ _ _ x v h hu j (fun a => match a with
      | ⟨0, _⟩ => ⟨(j 0).val, (j 0).isLt⟩ | ⟨1, _⟩ => ⟨0, Nat.one_pos⟩ | ⟨2, _⟩ => ⟨(j 2).val, (j 2).isLt⟩ | ⟨3, _⟩ => ⟨(j 3).val, (j 3).isLt⟩) fun a => ?_).trans (hx _)
    match a with
    | ⟨0, _⟩ => show (j 0).val = 0 + (j 0).val * (0 + 1); omega
    | ⟨1, _⟩ => show (j 1).val = p + 0 * (0 + 1); omega
    | ⟨2, _⟩ => show (j 2).val = 0 + (j 2).val * (0 + 1); omega
    | ⟨3, _⟩ => show (j 3).val = 0 + (j 3).val * (0 + 1); omega
  · refine (pad_apply_of_not_inside _ _ _ x v h hu j 1 ?_).trans hv
    show ¬ (p ≤ (j 1).val ∧ ((j 1).val - p) % (0 + 1) = 0 ∧ ((j 1).val - p) / (0 + 1) < 1)
    rw [zero_add, Nat.div_one]
    omega

/-- The gradient of part `p`, in row `t`, head `h` and column `d`. -/
def part (p t h d : ℕ) : ℝ :=
  gOut (colsOf X 0 h) (kr X h) (vr X h) (gr Y h) p t d

theorem r56 (i : S2048x3x16x128.Idx) :
    val_main_v56 (x0 X) (x1 Y) i = ((part X Y (i 1).val (i 0).val (i 2).val (i 3).val : ℝ) : EReal) := by
  have hc : ∀ j, constant (F := Ideal) S_ .f32 0x00000000#32 j = ((0 : ℝ) : EReal) := fun j => zeroE_eq
  have h48 : val_main_v48 (x0 X) (x1 Y) i = ((if (i 1).val = 2 then DV (qr X (i 2).val) (kr X (i 2).val) (gr Y (i 2).val) (i 0).val (i 3).val else 0 : ℝ) : EReal) := by
    unfold val_main_v48
    exact pad_part 2 _ _ _ _ _ (hc _) (fun t h d => DV (qr X h) (kr X h) (gr Y h) t d) (fun j => (val_main_v47_apply _ _ j).trans (r32 X Y _)) i
  have h50 : val_main_v50 (x0 X) (x1 Y) i
      = ((if (i 1).val = 1 then DK (qr X (i 2).val) (kr X (i 2).val) (vr X (i 2).val) (gr Y (i 2).val) (i 0).val (i 3).val else 0 : ℝ) : EReal) := by
    unfold val_main_v50
    exact pad_part 1 _ _ _ _ _ (hc _) (fun t h d => DK (qr X h) (kr X h) (vr X h) (gr Y h) t d) (fun j => (val_main_v49_apply _ _ j).trans (r44 X Y _)) i
  have h55 : val_main_v55 (x0 X) (x1 Y) i
      = ((if (i 1).val = 0 then DQ (qr X (i 2).val) (kr X (i 2).val) (vr X (i 2).val) (gr Y (i 2).val) (i 0).val (i 3).val * scl else 0 : ℝ) : EReal) := by
    unfold val_main_v55
    exact pad_part 0 _ _ _ _ _ (hc _) (fun t h d => DQ (qr X h) (kr X h) (vr X h) (gr Y h) t d * scl)
      (fun j => (val_main_v54_apply _ _ j).trans (r53 X Y _)) i
  have h1 : (i 1).val < 3 := (i 1).isLt
  rw [val_main_v56_apply, val_main_v51_apply, h48, h50, h55, cadd, cadd]
  refine congrArg (fun z : ℝ => (z : EReal)) ?_
  unfold part gOut
  rcases (by omega : (i 1).val = 0 ∨ (i 1).val = 1 ∨ (i 1).val = 2) with h | h | h <;> rw [h]
  · rw [if_neg (by decide), if_neg (by decide), if_pos rfl, if_pos rfl, add_zero, zero_add]; rfl
  · rw [if_neg (by decide), if_pos rfl, if_neg (by decide), if_neg (by decide), if_pos rfl, add_zero, zero_add]; rfl
  · rw [if_pos rfl, if_neg (by decide), if_neg (by decide), if_neg (by decide), if_neg (by decide), add_zero, add_zero]; rfl

/-- The reference's result is the gradients of the attention, head by head. -/
theorem ref_val : val_main_v60 (F := Ideal) (x0 X) (x1 Y)
    = (fun j => ((attnG X Y (j 0).val (j 1).val (j 2).val : ℝ) : EReal) : FVec Ideal S3x2048x2048 .bf16) := by
  funext j
  have h0 : (j 0).val < 3 := (j 0).isLt
  have h1 : (j 1).val < 2048 := (j 1).isLt
  have h2 : (j 2).val < 2048 := (j 2).isLt
  rw [val_main_v60_apply]
  refine (show _ = val_main_v59 (F := Ideal) (x0 X) (x1 Y) j from rfl).trans ?_
  rw [val_main_v59_apply, val_main_v58_apply, val_main_v57_apply, r56]
  refine congrArg (fun z : ℝ => (z : EReal)) ?_
  show part X Y _ _ _ _ = part X Y (j 0).val (j 1).val ((j 2).val / 128) ((j 2).val % 128)
  congr 1
  all_goals
    simp only []
    omega

end Cert.ReferenceIdeal.Sba
-- ==== Proof.lean ====
/-
  The gradient of the stick-breaking attention: every claim of the certificate from one run of the two calls
  (Proof/Run.lean) and the values of the kernel (Proof/Arrays.lean) and of the reference (Proof/RefVal.lean).
-/
module

public import proofs.«01_k».proof.Proof.Down
public import proofs.«01_k».proof.Proof.DAct
public import proofs.«01_k».proof.Proof.DwDown
public import proofs.«01_k».proof.Proof.Up
public import proofs.«01_k».proof.Proof.DUp
public import proofs.«01_k».proof.Proof.DwUp
public import proofs.«01_k».proof.Proof.DwHgIn
public import proofs.«01_k».proof.Proof.DHgIn
public import proofs.«01_k».proof.Proof.HgIn
public import proofs.«01_k».proof.Proof.NbIn
public import proofs.«01_k».proof.Proof.AdamQkv
public import proofs.«01_k».proof.Proof.AdamSmall
public import proofs.«01_k».proof.Proof.AdamSbOut
public import proofs.«01_k».proof.Proof.AdamPool
public import proofs.«01_k».proof.Proof.AdamIn
public import proofs.«01_k».proof.Proof.AdamOut
public import proofs.«01_k».proof.Proof.AdamUp
public import proofs.«01_k».proof.Proof.AdamDown
public import proofs.«01_k».proof.Proof.LossHead
public import proofs.«01_k».proof.Proof.Bounds
public import proofs.«01_k».proof.Defs
public import proofs.«01_k».proof.Proof.Gen.Kernel
public import proofs.«01_k».proof.Proof.Run
public import proofs.«01_k».proof.Proof.Same
public import proofs.«01_k».proof.Proof.Arrays
public import proofs.«01_k».proof.Proof.RefVal
public import proofs.«01_k».proof.Proof.Finite
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.Proof

open Idealize.ShloMosaic Idealize.ShloMosaic.TcCoe Idealize.SL.Sem

/-- The run of the two calls read at the arguments and the counters. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => (h.1 c).2, h.2⟩) (Cert.KernelIdeal.Sba.run_main (F := F) m ρ)

theorem frame_kernelIdeal : Cert.quiescent_KernelIdeal := fun m ρ _ => frame m ρ

theorem frame_kernel : Cert.quiescent_Kernel := fun m ρ _ => by
  rw [← defs_same]
  exact frame (F := Bits) m ρ

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_kernelIdeal_finite : Cert.quiescent_KernelIdeal_pre_finite (hPre_finite := Cert.Pre_finite.facts) :=
  fun m ρ _ => frame m ρ

theorem frame_referenceIdeal_finite : Cert.quiescent_ReferenceIdeal_pre_finite (hPre_finite := Cert.Pre_finite.facts) :=
  fun m ρ _ => frame_referenceIdeal m ρ trivial

/-- What both programs leave: the gradients of the attention at the arguments' real numbers. -/
def answer (m : (ℓ : Loc Cert.KernelIdeal.nD Cert.KernelIdeal.τ Cert.KernelIdeal.sig) → Buf (Elt Ideal) ℓ) (c : Dev Cert.KernelIdeal.nD) :
    FVec Ideal Cert.KernelIdeal.S3x2048x2048 .bf16 := fun j =>
  ((Cert.KernelIdeal.Sba.attnG
    (Cert.Pre_finite.reals (m := 2048) (n := 6144) (m ((c.tc : Thread Cert.KernelIdeal.nD Cert.KernelIdeal.τ).loc Cert.KernelIdeal.main_arg0)))
    (Cert.Pre_finite.reals (m := 2048) (n := 2048) (m ((c.tc : Thread Cert.KernelIdeal.nD Cert.KernelIdeal.τ).loc Cert.KernelIdeal.main_arg1)))
    (j 0).val (j 1).val (j 2).val : ℝ) : EReal)

theorem values : Cert.algebraic_KernelIdeal_ReferenceIdeal_pre_finite (hPre_finite := Cert.Pre_finite.facts) := fun m g m' g' hp ha => by
  have : Cert.Pre_finite.Facts := Cert.Pre_finite.facts
  have hX := fun c => Cert.Pre_finite.fst_real _ _ (hp c).1
  have hY := fun c => Cert.Pre_finite.snd_real _ _ (hp c).2
  refine ⟨answer m, ?_, ?_⟩
  · exact (θ_run Cert.KernelIdeal.defs _ _).mono
      (fun _ h c => ⟨(h.1 c).1.trans (Cert.KernelIdeal.Sba.arr1 m c (hX c) (hY c)), (h.1 c).2⟩)
      (Cert.KernelIdeal.Sba.run_main (F := Ideal) m g)
  · refine (θ_run Cert.ReferenceIdeal.defs _ _).mono (fun _ h c => ⟨((h c).1.trans (Cert.ReferenceIdeal.Read.val_main_v60_eq _)).trans ?_, (h c).2⟩)
      (Cert.ReferenceIdeal.Value.run (F := Ideal) m' g')
    exact (congrArg₂ (Cert.ReferenceIdeal.Read.val_main_v60 (F := Ideal)) ((ha c).1.trans (hX c)) ((ha c).2.trans (hY c))).trans
      (Cert.ReferenceIdeal.Sba.ref_val _ _)

theorem claim : Cert.Claim := ⟨Cert.Kernel.Gen.facts, Cert.KernelIdeal.Gen.facts, Cert.ReferenceIdeal.Gen.facts,
  Cert.DwUp.Gen.facts, Cert.DwUpIdeal.Gen.facts, Cert.DwUpReferenceIdeal.Gen.facts,
  Cert.DUp.Gen.facts, Cert.DUpIdeal.Gen.facts, Cert.DUpReferenceIdeal.Gen.facts,
  Cert.Up.Gen.facts, Cert.UpIdeal.Gen.facts, Cert.UpReferenceIdeal.Gen.facts,
  Cert.DwDown.Gen.facts, Cert.DwDownIdeal.Gen.facts, Cert.DwDownReferenceIdeal.Gen.facts,
  Cert.DAct.Gen.facts, Cert.DActIdeal.Gen.facts, Cert.DActReferenceIdeal.Gen.facts,
  Cert.Down.Gen.facts, Cert.DownIdeal.Gen.facts, Cert.DownReferenceIdeal.Gen.facts,
  Cert.DwHgIn.Gen.facts, Cert.DwHgInIdeal.Gen.facts, Cert.DwHgInReferenceIdeal.Gen.facts,
  Cert.DHgIn.Gen.facts, Cert.DHgInIdeal.Gen.facts, Cert.DHgInReferenceIdeal.Gen.facts,
  Cert.HgIn.Gen.facts, Cert.HgInIdeal.Gen.facts, Cert.HgInReferenceIdeal.Gen.facts,
  Cert.NbIn.Gen.facts, Cert.NbInIdeal.Gen.facts, Cert.NbInReferenceIdeal.Gen.facts,
  Cert.AdamQkv.Gen.facts, Cert.AdamQkvIdeal.Gen.facts, Cert.AdamQkvReferenceIdeal.Gen.facts,
  Cert.AdamSmall.Gen.facts, Cert.AdamSmallIdeal.Gen.facts, Cert.AdamSmallReferenceIdeal.Gen.facts,
  Cert.AdamSbOut.Gen.facts, Cert.AdamSbOutIdeal.Gen.facts, Cert.AdamSbOutReferenceIdeal.Gen.facts,
  Cert.AdamPool.Gen.facts, Cert.AdamPoolIdeal.Gen.facts, Cert.AdamPoolReferenceIdeal.Gen.facts,
  Cert.AdamIn.Gen.facts, Cert.AdamInIdeal.Gen.facts, Cert.AdamInReferenceIdeal.Gen.facts,
  Cert.AdamOut.Gen.facts, Cert.AdamOutIdeal.Gen.facts, Cert.AdamOutReferenceIdeal.Gen.facts,
  Cert.AdamUp.Gen.facts, Cert.AdamUpIdeal.Gen.facts, Cert.AdamUpReferenceIdeal.Gen.facts,
  Cert.AdamDown.Gen.facts, Cert.AdamDownIdeal.Gen.facts, Cert.AdamDownReferenceIdeal.Gen.facts,
  Cert.LossHead.Gen.facts, Cert.LossHeadIdeal.Gen.facts, Cert.LossHeadReferenceIdeal.Gen.facts,
  Cert.Bounds.Gen.facts, Cert.BoundsIdeal.Gen.facts, Cert.BoundsReferenceIdeal.Gen.facts,
  Cert.Pre_finite.facts, Cert.Pre_finite_logits.facts,
  frame_kernel, frame_kernelIdeal, frame_kernelIdeal_finite, frame_referenceIdeal, frame_referenceIdeal_finite,
  Cert.DwUpIdeal.Tiles.frame_kernel, Cert.DwUpIdeal.Tiles.frame_ideal, Cert.DwUpIdeal.Tiles.frame_reference,
  Cert.DUpIdeal.Tiles.frame_kernel, Cert.DUpIdeal.Tiles.frame_ideal, Cert.DUpIdeal.Tiles.frame_reference,
  Cert.UpIdeal.Tiles.frame_kernel, Cert.UpIdeal.Tiles.frame_ideal, Cert.UpIdeal.Tiles.frame_reference,
  Cert.DwDownIdeal.Tiles.frame_kernel, Cert.DwDownIdeal.Tiles.frame_ideal, Cert.DwDownIdeal.Tiles.frame_reference,
  Cert.DActIdeal.Tiles.frame_kernel, Cert.DActIdeal.Tiles.frame_ideal, Cert.DActIdeal.Tiles.frame_reference,
  Cert.DownIdeal.Tiles.frame_kernel, Cert.DownIdeal.Tiles.frame_ideal, Cert.DownIdeal.Tiles.frame_reference,
  Cert.DwHgInIdeal.Tiles.frame_kernel, Cert.DwHgInIdeal.Tiles.frame_ideal, Cert.DwHgInIdeal.Tiles.frame_reference,
  Cert.DHgInIdeal.Tiles.frame_kernel, Cert.DHgInIdeal.Tiles.frame_ideal, Cert.DHgInIdeal.Tiles.frame_reference,
  Cert.HgInIdeal.Tiles.frame_kernel, Cert.HgInIdeal.Tiles.frame_ideal, Cert.HgInIdeal.Tiles.frame_reference,
  Cert.NbInIdeal.Tiles.frame_kernel, Cert.NbInIdeal.Tiles.frame_ideal, Cert.NbInIdeal.Tiles.frame_reference,
  Cert.AdamQkvIdeal.Tiles.frame_kernel, Cert.AdamQkvIdeal.Tiles.frame_ideal, Cert.AdamQkvIdeal.Tiles.frame_reference,
  Cert.AdamSmallIdeal.Tiles.frame_kernel, Cert.AdamSmallIdeal.Tiles.frame_ideal, Cert.AdamSmallIdeal.Tiles.frame_reference,
  Cert.AdamSbOutIdeal.Tiles.frame_kernel, Cert.AdamSbOutIdeal.Tiles.frame_ideal, Cert.AdamSbOutIdeal.Tiles.frame_reference,
  Cert.AdamPoolIdeal.Tiles.frame_kernel, Cert.AdamPoolIdeal.Tiles.frame_ideal, Cert.AdamPoolIdeal.Tiles.frame_reference,
  Cert.AdamInIdeal.Tiles.frame_kernel, Cert.AdamInIdeal.Tiles.frame_ideal, Cert.AdamInIdeal.Tiles.frame_reference,
  Cert.AdamOutIdeal.Tiles.frame_kernel, Cert.AdamOutIdeal.Tiles.frame_ideal, Cert.AdamOutIdeal.Tiles.frame_reference,
  Cert.AdamUpIdeal.Tiles.frame_kernel, Cert.AdamUpIdeal.Tiles.frame_ideal, Cert.AdamUpIdeal.Tiles.frame_reference,
  Cert.AdamDownIdeal.Tiles.frame_kernel, Cert.AdamDownIdeal.Tiles.frame_ideal, Cert.AdamDownIdeal.Tiles.frame_reference,
  Cert.LossHeadIdeal.Tiles.frame_kernel, Cert.LossHeadIdeal.Tiles.frame_ideal, Cert.LossHeadIdeal.Tiles.frame_reference,
  Cert.BoundsIdeal.Tiles.frame_kernel, Cert.BoundsIdeal.Tiles.frame_ideal, Cert.BoundsIdeal.Tiles.frame_ideal_finite,
  Cert.BoundsIdeal.Tiles.frame_reference, Cert.BoundsIdeal.Tiles.frame_reference_finite,
  trivial, values,
  trivial, Cert.DwUpIdeal.Tiles.values,
  trivial, Cert.DUpIdeal.Tiles.values,
  trivial, Cert.UpIdeal.Tiles.values,
  trivial, Cert.DwDownIdeal.Tiles.values,
  trivial, Cert.DActIdeal.Tiles.values,
  trivial, Cert.DownIdeal.Tiles.values,
  trivial, Cert.DwHgInIdeal.Tiles.values,
  trivial, Cert.DHgInIdeal.Tiles.values,
  trivial, Cert.HgInIdeal.Tiles.values,
  trivial, Cert.NbInIdeal.Tiles.values,
  trivial, Cert.AdamQkvIdeal.Tiles.values,
  trivial, Cert.AdamSmallIdeal.Tiles.values,
  trivial, Cert.AdamSbOutIdeal.Tiles.values,
  trivial, Cert.AdamPoolIdeal.Tiles.values,
  trivial, Cert.AdamInIdeal.Tiles.values,
  trivial, Cert.AdamOutIdeal.Tiles.values,
  trivial, Cert.AdamUpIdeal.Tiles.values,
  trivial, Cert.AdamDownIdeal.Tiles.values,
  trivial, Cert.LossHeadIdeal.Tiles.values,
  trivial, Cert.BoundsIdeal.Tiles.values⟩

end Cert.Proof

end
